-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite_scores [hPre_finite_scores : Cert.Pre_finite_scores.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite_scores.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1))).1 = (fun _ => 1#1)
    ∧ (Cert.Pre_finite_scores.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1))).2 = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite_scores [hPre_finite_scores : Cert.Pre_finite_scores.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite_scores.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1))).1 = (fun _ => 1#1)
    ∧ (Cert.Pre_finite_scores.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1))).2 = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_finite_window [hPre_finite_window : Cert.Pre_finite_window.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite_window.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4))).1 = (fun _ => 1#1)
    ∧ (Cert.Pre_finite_window.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4))).2.1 = (fun _ => 1#1)
    ∧ (Cert.Pre_finite_window.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4))).2.2.1 = (fun _ => 1#1)
    ∧ (Cert.Pre_finite_window.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4))).2.2.2 = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_finite_window [hPre_finite_window : Cert.Pre_finite_window.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite_window.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4))).1 = (fun _ => 1#1)
    ∧ (Cert.Pre_finite_window.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4))).2.1 = (fun _ => 1#1)
    ∧ (Cert.Pre_finite_window.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4))).2.2.1 = (fun _ => 1#1)
    ∧ (Cert.Pre_finite_window.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4))).2.2.2 = (fun _ => 1#1)

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel10Ideal_finite_frames [hPre_finite_frames : Cert.Pre_finite_frames.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_finite_frames.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6)) (m ((c.tc : Thread Cert.Kernel10Ideal.nD Cert.Kernel10Ideal.τ).loc Cert.Kernel10Ideal.main_arg7)) (m ((c.tc : Thread Cert.Kernel10Ideal.nD Cert.Kernel10Ideal.τ).loc Cert.Kernel10Ideal.main_arg8)) (m ((c.tc : Thread Cert.Kernel10Ideal.nD Cert.Kernel10Ideal.τ).loc Cert.Kernel10Ideal.main_arg9)) (m ((c.tc : Thread Cert.Kernel10Ideal.nD Cert.Kernel10Ideal.τ).loc Cert.Kernel10Ideal.main_arg10)) (m ((c.tc : Thread Cert.Kernel10Ideal.nD Cert.Kernel10Ideal.τ).loc Cert.Kernel10Ideal.main_arg11)) (m ((c.tc : Thread Cert.Kernel10Ideal.nD Cert.Kernel10Ideal.τ).loc Cert.Kernel10Ideal.main_arg12)) (m ((c.tc : Thread Cert.Kernel10Ideal.nD Cert.Kernel10Ideal.τ).loc Cert.Kernel10Ideal.main_arg13))).1 = (fun _ => 1#1)
    ∧ (Cert.Pre_finite_frames.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6)) (m ((c.tc : Thread Cert.Kernel10Ideal.nD Cert.Kernel10Ideal.τ).loc Cert.Kernel10Ideal.main_arg7)) (m ((c.tc : Thread Cert.Kernel10Ideal.nD Cert.Kernel10Ideal.τ).loc Cert.Kernel10Ideal.main_arg8)) (m ((c.tc : Thread Cert.Kernel10Ideal.nD Cert.Kernel10Ideal.τ).loc Cert.Kernel10Ideal.main_arg9)) (m ((c.tc : Thread Cert.Kernel10Ideal.nD Cert.Kernel10Ideal.τ).loc Cert.Kernel10Ideal.main_arg10)) (m ((c.tc : Thread Cert.Kernel10Ideal.nD Cert.Kernel10Ideal.τ).loc Cert.Kernel10Ideal.main_arg11)) (m ((c.tc : Thread Cert.Kernel10Ideal.nD Cert.Kernel10Ideal.τ).loc Cert.Kernel10Ideal.main_arg12)) (m ((c.tc : Thread Cert.Kernel10Ideal.nD Cert.Kernel10Ideal.τ).loc Cert.Kernel10Ideal.main_arg13))).2.1 = (fun _ => 1#1)
    ∧ (Cert.Pre_finite_frames.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6)) (m ((c.tc : Thread Cert.Kernel10Ideal.nD Cert.Kernel10Ideal.τ).loc Cert.Kernel10Ideal.main_arg7)) (m ((c.tc : Thread Cert.Kernel10Ideal.nD Cert.Kernel10Ideal.τ).loc Cert.Kernel10Ideal.main_arg8)) (m ((c.tc : Thread Cert.Kernel10Ideal.nD Cert.Kernel10Ideal.τ).loc Cert.Kernel10Ideal.main_arg9)) (m ((c.tc : Thread Cert.Kernel10Ideal.nD Cert.Kernel10Ideal.τ).loc Cert.Kernel10Ideal.main_arg10)) (m ((c.tc : Thread Cert.Kernel10Ideal.nD Cert.Kernel10Ideal.τ).loc Cert.Kernel10Ideal.main_arg11)) (m ((c.tc : Thread Cert.Kernel10Ideal.nD Cert.Kernel10Ideal.τ).loc Cert.Kernel10Ideal.main_arg12)) (m ((c.tc : Thread Cert.Kernel10Ideal.nD Cert.Kernel10Ideal.τ).loc Cert.Kernel10Ideal.main_arg13))).2.2.1 = (fun _ => 1#1)
    ∧ (Cert.Pre_finite_frames.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6)) (m ((c.tc : Thread Cert.Kernel10Ideal.nD Cert.Kernel10Ideal.τ).loc Cert.Kernel10Ideal.main_arg7)) (m ((c.tc : Thread Cert.Kernel10Ideal.nD Cert.Kernel10Ideal.τ).loc Cert.Kernel10Ideal.main_arg8)) (m ((c.tc : Thread Cert.Kernel10Ideal.nD Cert.Kernel10Ideal.τ).loc Cert.Kernel10Ideal.main_arg9)) (m ((c.tc : Thread Cert.Kernel10Ideal.nD Cert.Kernel10Ideal.τ).loc Cert.Kernel10Ideal.main_arg10)) (m ((c.tc : Thread Cert.Kernel10Ideal.nD Cert.Kernel10Ideal.τ).loc Cert.Kernel10Ideal.main_arg11)) (m ((c.tc : Thread Cert.Kernel10Ideal.nD Cert.Kernel10Ideal.τ).loc Cert.Kernel10Ideal.main_arg12)) (m ((c.tc : Thread Cert.Kernel10Ideal.nD Cert.Kernel10Ideal.τ).loc Cert.Kernel10Ideal.main_arg13))).2.2.2.1 = (fun _ => 1#1)
    ∧ (Cert.Pre_finite_frames.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6)) (m ((c.tc : Thread Cert.Kernel10Ideal.nD Cert.Kernel10Ideal.τ).loc Cert.Kernel10Ideal.main_arg7)) (m ((c.tc : Thread Cert.Kernel10Ideal.nD Cert.Kernel10Ideal.τ).loc Cert.Kernel10Ideal.main_arg8)) (m ((c.tc : Thread Cert.Kernel10Ideal.nD Cert.Kernel10Ideal.τ).loc Cert.Kernel10Ideal.main_arg9)) (m ((c.tc : Thread Cert.Kernel10Ideal.nD Cert.Kernel10Ideal.τ).loc Cert.Kernel10Ideal.main_arg10)) (m ((c.tc : Thread Cert.Kernel10Ideal.nD Cert.Kernel10Ideal.τ).loc Cert.Kernel10Ideal.main_arg11)) (m ((c.tc : Thread Cert.Kernel10Ideal.nD Cert.Kernel10Ideal.τ).loc Cert.Kernel10Ideal.main_arg12)) (m ((c.tc : Thread Cert.Kernel10Ideal.nD Cert.Kernel10Ideal.τ).loc Cert.Kernel10Ideal.main_arg13))).2.2.2.2.1 = (fun _ => 1#1)
    ∧ (Cert.Pre_finite_frames.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6)) (m ((c.tc : Thread Cert.Kernel10Ideal.nD Cert.Kernel10Ideal.τ).loc Cert.Kernel10Ideal.main_arg7)) (m ((c.tc : Thread Cert.Kernel10Ideal.nD Cert.Kernel10Ideal.τ).loc Cert.Kernel10Ideal.main_arg8)) (m ((c.tc : Thread Cert.Kernel10Ideal.nD Cert.Kernel10Ideal.τ).loc Cert.Kernel10Ideal.main_arg9)) (m ((c.tc : Thread Cert.Kernel10Ideal.nD Cert.Kernel10Ideal.τ).loc Cert.Kernel10Ideal.main_arg10)) (m ((c.tc : Thread Cert.Kernel10Ideal.nD Cert.Kernel10Ideal.τ).loc Cert.Kernel10Ideal.main_arg11)) (m ((c.tc : Thread Cert.Kernel10Ideal.nD Cert.Kernel10Ideal.τ).loc Cert.Kernel10Ideal.main_arg12)) (m ((c.tc : Thread Cert.Kernel10Ideal.nD Cert.Kernel10Ideal.τ).loc Cert.Kernel10Ideal.main_arg13))).2.2.2.2.2.1 = (fun _ => 1#1)
    ∧ (Cert.Pre_finite_frames.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6)) (m ((c.tc : Thread Cert.Kernel10Ideal.nD Cert.Kernel10Ideal.τ).loc Cert.Kernel10Ideal.main_arg7)) (m ((c.tc : Thread Cert.Kernel10Ideal.nD Cert.Kernel10Ideal.τ).loc Cert.Kernel10Ideal.main_arg8)) (m ((c.tc : Thread Cert.Kernel10Ideal.nD Cert.Kernel10Ideal.τ).loc Cert.Kernel10Ideal.main_arg9)) (m ((c.tc : Thread Cert.Kernel10Ideal.nD Cert.Kernel10Ideal.τ).loc Cert.Kernel10Ideal.main_arg10)) (m ((c.tc : Thread Cert.Kernel10Ideal.nD Cert.Kernel10Ideal.τ).loc Cert.Kernel10Ideal.main_arg11)) (m ((c.tc : Thread Cert.Kernel10Ideal.nD Cert.Kernel10Ideal.τ).loc Cert.Kernel10Ideal.main_arg12)) (m ((c.tc : Thread Cert.Kernel10Ideal.nD Cert.Kernel10Ideal.τ).loc Cert.Kernel10Ideal.main_arg13))).2.2.2.2.2.2.1 = (fun _ => 1#1)
    ∧ (Cert.Pre_finite_frames.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6)) (m ((c.tc : Thread Cert.Kernel10Ideal.nD Cert.Kernel10Ideal.τ).loc Cert.Kernel10Ideal.main_arg7)) (m ((c.tc : Thread Cert.Kernel10Ideal.nD Cert.Kernel10Ideal.τ).loc Cert.Kernel10Ideal.main_arg8)) (m ((c.tc : Thread Cert.Kernel10Ideal.nD Cert.Kernel10Ideal.τ).loc Cert.Kernel10Ideal.main_arg9)) (m ((c.tc : Thread Cert.Kernel10Ideal.nD Cert.Kernel10Ideal.τ).loc Cert.Kernel10Ideal.main_arg10)) (m ((c.tc : Thread Cert.Kernel10Ideal.nD Cert.Kernel10Ideal.τ).loc Cert.Kernel10Ideal.main_arg11)) (m ((c.tc : Thread Cert.Kernel10Ideal.nD Cert.Kernel10Ideal.τ).loc Cert.Kernel10Ideal.main_arg12)) (m ((c.tc : Thread Cert.Kernel10Ideal.nD Cert.Kernel10Ideal.τ).loc Cert.Kernel10Ideal.main_arg13))).2.2.2.2.2.2.2.1 = (fun _ => 1#1)
    ∧ (Cert.Pre_finite_frames.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6)) (m ((c.tc : Thread Cert.Kernel10Ideal.nD Cert.Kernel10Ideal.τ).loc Cert.Kernel10Ideal.main_arg7)) (m ((c.tc : Thread Cert.Kernel10Ideal.nD Cert.Kernel10Ideal.τ).loc Cert.Kernel10Ideal.main_arg8)) (m ((c.tc : Thread Cert.Kernel10Ideal.nD Cert.Kernel10Ideal.τ).loc Cert.Kernel10Ideal.main_arg9)) (m ((c.tc : Thread Cert.Kernel10Ideal.nD Cert.Kernel10Ideal.τ).loc Cert.Kernel10Ideal.main_arg10)) (m ((c.tc : Thread Cert.Kernel10Ideal.nD Cert.Kernel10Ideal.τ).loc Cert.Kernel10Ideal.main_arg11)) (m ((c.tc : Thread Cert.Kernel10Ideal.nD Cert.Kernel10Ideal.τ).loc Cert.Kernel10Ideal.main_arg12)) (m ((c.tc : Thread Cert.Kernel10Ideal.nD Cert.Kernel10Ideal.τ).loc Cert.Kernel10Ideal.main_arg13))).2.2.2.2.2.2.2.2.1 = (fun _ => 1#1)
    ∧ (Cert.Pre_finite_frames.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6)) (m ((c.tc : Thread Cert.Kernel10Ideal.nD Cert.Kernel10Ideal.τ).loc Cert.Kernel10Ideal.main_arg7)) (m ((c.tc : Thread Cert.Kernel10Ideal.nD Cert.Kernel10Ideal.τ).loc Cert.Kernel10Ideal.main_arg8)) (m ((c.tc : Thread Cert.Kernel10Ideal.nD Cert.Kernel10Ideal.τ).loc Cert.Kernel10Ideal.main_arg9)) (m ((c.tc : Thread Cert.Kernel10Ideal.nD Cert.Kernel10Ideal.τ).loc Cert.Kernel10Ideal.main_arg10)) (m ((c.tc : Thread Cert.Kernel10Ideal.nD Cert.Kernel10Ideal.τ).loc Cert.Kernel10Ideal.main_arg11)) (m ((c.tc : Thread Cert.Kernel10Ideal.nD Cert.Kernel10Ideal.τ).loc Cert.Kernel10Ideal.main_arg12)) (m ((c.tc : Thread Cert.Kernel10Ideal.nD Cert.Kernel10Ideal.τ).loc Cert.Kernel10Ideal.main_arg13))).2.2.2.2.2.2.2.2.2 = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_finite_frames [hPre_finite_frames : Cert.Pre_finite_frames.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_finite_frames.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6)) (m ((c.tc : Thread Cert.Reference10Ideal.nD Cert.Reference10Ideal.τ).loc Cert.Reference10Ideal.main_arg7)) (m ((c.tc : Thread Cert.Reference10Ideal.nD Cert.Reference10Ideal.τ).loc Cert.Reference10Ideal.main_arg8)) (m ((c.tc : Thread Cert.Reference10Ideal.nD Cert.Reference10Ideal.τ).loc Cert.Reference10Ideal.main_arg9)) (m ((c.tc : Thread Cert.Reference10Ideal.nD Cert.Reference10Ideal.τ).loc Cert.Reference10Ideal.main_arg10)) (m ((c.tc : Thread Cert.Reference10Ideal.nD Cert.Reference10Ideal.τ).loc Cert.Reference10Ideal.main_arg11)) (m ((c.tc : Thread Cert.Reference10Ideal.nD Cert.Reference10Ideal.τ).loc Cert.Reference10Ideal.main_arg12)) (m ((c.tc : Thread Cert.Reference10Ideal.nD Cert.Reference10Ideal.τ).loc Cert.Reference10Ideal.main_arg13))).1 = (fun _ => 1#1)
    ∧ (Cert.Pre_finite_frames.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6)) (m ((c.tc : Thread Cert.Reference10Ideal.nD Cert.Reference10Ideal.τ).loc Cert.Reference10Ideal.main_arg7)) (m ((c.tc : Thread Cert.Reference10Ideal.nD Cert.Reference10Ideal.τ).loc Cert.Reference10Ideal.main_arg8)) (m ((c.tc : Thread Cert.Reference10Ideal.nD Cert.Reference10Ideal.τ).loc Cert.Reference10Ideal.main_arg9)) (m ((c.tc : Thread Cert.Reference10Ideal.nD Cert.Reference10Ideal.τ).loc Cert.Reference10Ideal.main_arg10)) (m ((c.tc : Thread Cert.Reference10Ideal.nD Cert.Reference10Ideal.τ).loc Cert.Reference10Ideal.main_arg11)) (m ((c.tc : Thread Cert.Reference10Ideal.nD Cert.Reference10Ideal.τ).loc Cert.Reference10Ideal.main_arg12)) (m ((c.tc : Thread Cert.Reference10Ideal.nD Cert.Reference10Ideal.τ).loc Cert.Reference10Ideal.main_arg13))).2.1 = (fun _ => 1#1)
    ∧ (Cert.Pre_finite_frames.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6)) (m ((c.tc : Thread Cert.Reference10Ideal.nD Cert.Reference10Ideal.τ).loc Cert.Reference10Ideal.main_arg7)) (m ((c.tc : Thread Cert.Reference10Ideal.nD Cert.Reference10Ideal.τ).loc Cert.Reference10Ideal.main_arg8)) (m ((c.tc : Thread Cert.Reference10Ideal.nD Cert.Reference10Ideal.τ).loc Cert.Reference10Ideal.main_arg9)) (m ((c.tc : Thread Cert.Reference10Ideal.nD Cert.Reference10Ideal.τ).loc Cert.Reference10Ideal.main_arg10)) (m ((c.tc : Thread Cert.Reference10Ideal.nD Cert.Reference10Ideal.τ).loc Cert.Reference10Ideal.main_arg11)) (m ((c.tc : Thread Cert.Reference10Ideal.nD Cert.Reference10Ideal.τ).loc Cert.Reference10Ideal.main_arg12)) (m ((c.tc : Thread Cert.Reference10Ideal.nD Cert.Reference10Ideal.τ).loc Cert.Reference10Ideal.main_arg13))).2.2.1 = (fun _ => 1#1)
    ∧ (Cert.Pre_finite_frames.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6)) (m ((c.tc : Thread Cert.Reference10Ideal.nD Cert.Reference10Ideal.τ).loc Cert.Reference10Ideal.main_arg7)) (m ((c.tc : Thread Cert.Reference10Ideal.nD Cert.Reference10Ideal.τ).loc Cert.Reference10Ideal.main_arg8)) (m ((c.tc : Thread Cert.Reference10Ideal.nD Cert.Reference10Ideal.τ).loc Cert.Reference10Ideal.main_arg9)) (m ((c.tc : Thread Cert.Reference10Ideal.nD Cert.Reference10Ideal.τ).loc Cert.Reference10Ideal.main_arg10)) (m ((c.tc : Thread Cert.Reference10Ideal.nD Cert.Reference10Ideal.τ).loc Cert.Reference10Ideal.main_arg11)) (m ((c.tc : Thread Cert.Reference10Ideal.nD Cert.Reference10Ideal.τ).loc Cert.Reference10Ideal.main_arg12)) (m ((c.tc : Thread Cert.Reference10Ideal.nD Cert.Reference10Ideal.τ).loc Cert.Reference10Ideal.main_arg13))).2.2.2.1 = (fun _ => 1#1)
    ∧ (Cert.Pre_finite_frames.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6)) (m ((c.tc : Thread Cert.Reference10Ideal.nD Cert.Reference10Ideal.τ).loc Cert.Reference10Ideal.main_arg7)) (m ((c.tc : Thread Cert.Reference10Ideal.nD Cert.Reference10Ideal.τ).loc Cert.Reference10Ideal.main_arg8)) (m ((c.tc : Thread Cert.Reference10Ideal.nD Cert.Reference10Ideal.τ).loc Cert.Reference10Ideal.main_arg9)) (m ((c.tc : Thread Cert.Reference10Ideal.nD Cert.Reference10Ideal.τ).loc Cert.Reference10Ideal.main_arg10)) (m ((c.tc : Thread Cert.Reference10Ideal.nD Cert.Reference10Ideal.τ).loc Cert.Reference10Ideal.main_arg11)) (m ((c.tc : Thread Cert.Reference10Ideal.nD Cert.Reference10Ideal.τ).loc Cert.Reference10Ideal.main_arg12)) (m ((c.tc : Thread Cert.Reference10Ideal.nD Cert.Reference10Ideal.τ).loc Cert.Reference10Ideal.main_arg13))).2.2.2.2.1 = (fun _ => 1#1)
    ∧ (Cert.Pre_finite_frames.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6)) (m ((c.tc : Thread Cert.Reference10Ideal.nD Cert.Reference10Ideal.τ).loc Cert.Reference10Ideal.main_arg7)) (m ((c.tc : Thread Cert.Reference10Ideal.nD Cert.Reference10Ideal.τ).loc Cert.Reference10Ideal.main_arg8)) (m ((c.tc : Thread Cert.Reference10Ideal.nD Cert.Reference10Ideal.τ).loc Cert.Reference10Ideal.main_arg9)) (m ((c.tc : Thread Cert.Reference10Ideal.nD Cert.Reference10Ideal.τ).loc Cert.Reference10Ideal.main_arg10)) (m ((c.tc : Thread Cert.Reference10Ideal.nD Cert.Reference10Ideal.τ).loc Cert.Reference10Ideal.main_arg11)) (m ((c.tc : Thread Cert.Reference10Ideal.nD Cert.Reference10Ideal.τ).loc Cert.Reference10Ideal.main_arg12)) (m ((c.tc : Thread Cert.Reference10Ideal.nD Cert.Reference10Ideal.τ).loc Cert.Reference10Ideal.main_arg13))).2.2.2.2.2.1 = (fun _ => 1#1)
    ∧ (Cert.Pre_finite_frames.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6)) (m ((c.tc : Thread Cert.Reference10Ideal.nD Cert.Reference10Ideal.τ).loc Cert.Reference10Ideal.main_arg7)) (m ((c.tc : Thread Cert.Reference10Ideal.nD Cert.Reference10Ideal.τ).loc Cert.Reference10Ideal.main_arg8)) (m ((c.tc : Thread Cert.Reference10Ideal.nD Cert.Reference10Ideal.τ).loc Cert.Reference10Ideal.main_arg9)) (m ((c.tc : Thread Cert.Reference10Ideal.nD Cert.Reference10Ideal.τ).loc Cert.Reference10Ideal.main_arg10)) (m ((c.tc : Thread Cert.Reference10Ideal.nD Cert.Reference10Ideal.τ).loc Cert.Reference10Ideal.main_arg11)) (m ((c.tc : Thread Cert.Reference10Ideal.nD Cert.Reference10Ideal.τ).loc Cert.Reference10Ideal.main_arg12)) (m ((c.tc : Thread Cert.Reference10Ideal.nD Cert.Reference10Ideal.τ).loc Cert.Reference10Ideal.main_arg13))).2.2.2.2.2.2.1 = (fun _ => 1#1)
    ∧ (Cert.Pre_finite_frames.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6)) (m ((c.tc : Thread Cert.Reference10Ideal.nD Cert.Reference10Ideal.τ).loc Cert.Reference10Ideal.main_arg7)) (m ((c.tc : Thread Cert.Reference10Ideal.nD Cert.Reference10Ideal.τ).loc Cert.Reference10Ideal.main_arg8)) (m ((c.tc : Thread Cert.Reference10Ideal.nD Cert.Reference10Ideal.τ).loc Cert.Reference10Ideal.main_arg9)) (m ((c.tc : Thread Cert.Reference10Ideal.nD Cert.Reference10Ideal.τ).loc Cert.Reference10Ideal.main_arg10)) (m ((c.tc : Thread Cert.Reference10Ideal.nD Cert.Reference10Ideal.τ).loc Cert.Reference10Ideal.main_arg11)) (m ((c.tc : Thread Cert.Reference10Ideal.nD Cert.Reference10Ideal.τ).loc Cert.Reference10Ideal.main_arg12)) (m ((c.tc : Thread Cert.Reference10Ideal.nD Cert.Reference10Ideal.τ).loc Cert.Reference10Ideal.main_arg13))).2.2.2.2.2.2.2.1 = (fun _ => 1#1)
    ∧ (Cert.Pre_finite_frames.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6)) (m ((c.tc : Thread Cert.Reference10Ideal.nD Cert.Reference10Ideal.τ).loc Cert.Reference10Ideal.main_arg7)) (m ((c.tc : Thread Cert.Reference10Ideal.nD Cert.Reference10Ideal.τ).loc Cert.Reference10Ideal.main_arg8)) (m ((c.tc : Thread Cert.Reference10Ideal.nD Cert.Reference10Ideal.τ).loc Cert.Reference10Ideal.main_arg9)) (m ((c.tc : Thread Cert.Reference10Ideal.nD Cert.Reference10Ideal.τ).loc Cert.Reference10Ideal.main_arg10)) (m ((c.tc : Thread Cert.Reference10Ideal.nD Cert.Reference10Ideal.τ).loc Cert.Reference10Ideal.main_arg11)) (m ((c.tc : Thread Cert.Reference10Ideal.nD Cert.Reference10Ideal.τ).loc Cert.Reference10Ideal.main_arg12)) (m ((c.tc : Thread Cert.Reference10Ideal.nD Cert.Reference10Ideal.τ).loc Cert.Reference10Ideal.main_arg13))).2.2.2.2.2.2.2.2.1 = (fun _ => 1#1)
    ∧ (Cert.Pre_finite_frames.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6)) (m ((c.tc : Thread Cert.Reference10Ideal.nD Cert.Reference10Ideal.τ).loc Cert.Reference10Ideal.main_arg7)) (m ((c.tc : Thread Cert.Reference10Ideal.nD Cert.Reference10Ideal.τ).loc Cert.Reference10Ideal.main_arg8)) (m ((c.tc : Thread Cert.Reference10Ideal.nD Cert.Reference10Ideal.τ).loc Cert.Reference10Ideal.main_arg9)) (m ((c.tc : Thread Cert.Reference10Ideal.nD Cert.Reference10Ideal.τ).loc Cert.Reference10Ideal.main_arg10)) (m ((c.tc : Thread Cert.Reference10Ideal.nD Cert.Reference10Ideal.τ).loc Cert.Reference10Ideal.main_arg11)) (m ((c.tc : Thread Cert.Reference10Ideal.nD Cert.Reference10Ideal.τ).loc Cert.Reference10Ideal.main_arg12)) (m ((c.tc : Thread Cert.Reference10Ideal.nD Cert.Reference10Ideal.τ).loc Cert.Reference10Ideal.main_arg13))).2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Kernel7Ideal_pre_finite_scores [hKernel7Ideal : Cert.Kernel7Ideal.Facts] [hPre_finite_scores : Cert.Pre_finite_scores.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite_scores m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Reference7Ideal_pre_finite_scores [hReference7Ideal : Cert.Reference7Ideal.Facts] [hPre_finite_scores : Cert.Pre_finite_scores.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite_scores m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Kernel9Ideal_pre_finite_window [hKernel9Ideal : Cert.Kernel9Ideal.Facts] [hPre_finite_window : Cert.Pre_finite_window.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_finite_window m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Reference9Ideal_pre_finite_window [hReference9Ideal : Cert.Reference9Ideal.Facts] [hPre_finite_window : Cert.Pre_finite_window.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_finite_window m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7)
      ∧ r.2.mem ((c.tc : Thread Cert.Kernel10.nD Cert.Kernel10.τ).loc Cert.Kernel10.main_arg8) = m ((c.tc : Thread Cert.Kernel10.nD Cert.Kernel10.τ).loc Cert.Kernel10.main_arg8)
      ∧ r.2.mem ((c.tc : Thread Cert.Kernel10.nD Cert.Kernel10.τ).loc Cert.Kernel10.main_arg9) = m ((c.tc : Thread Cert.Kernel10.nD Cert.Kernel10.τ).loc Cert.Kernel10.main_arg9)
      ∧ r.2.mem ((c.tc : Thread Cert.Kernel10.nD Cert.Kernel10.τ).loc Cert.Kernel10.main_arg10) = m ((c.tc : Thread Cert.Kernel10.nD Cert.Kernel10.τ).loc Cert.Kernel10.main_arg10)
      ∧ r.2.mem ((c.tc : Thread Cert.Kernel10.nD Cert.Kernel10.τ).loc Cert.Kernel10.main_arg11) = m ((c.tc : Thread Cert.Kernel10.nD Cert.Kernel10.τ).loc Cert.Kernel10.main_arg11)
      ∧ r.2.mem ((c.tc : Thread Cert.Kernel10.nD Cert.Kernel10.τ).loc Cert.Kernel10.main_arg12) = m ((c.tc : Thread Cert.Kernel10.nD Cert.Kernel10.τ).loc Cert.Kernel10.main_arg12)
      ∧ r.2.mem ((c.tc : Thread Cert.Kernel10.nD Cert.Kernel10.τ).loc Cert.Kernel10.main_arg13) = m ((c.tc : Thread Cert.Kernel10.nD Cert.Kernel10.τ).loc Cert.Kernel10.main_arg13))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
      ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
      ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9)
      ∧ r.2.mem ((c.tc : Thread Cert.Kernel10Ideal.nD Cert.Kernel10Ideal.τ).loc Cert.Kernel10Ideal.main_arg10) = m ((c.tc : Thread Cert.Kernel10Ideal.nD Cert.Kernel10Ideal.τ).loc Cert.Kernel10Ideal.main_arg10)
      ∧ r.2.mem ((c.tc : Thread Cert.Kernel10Ideal.nD Cert.Kernel10Ideal.τ).loc Cert.Kernel10Ideal.main_arg11) = m ((c.tc : Thread Cert.Kernel10Ideal.nD Cert.Kernel10Ideal.τ).loc Cert.Kernel10Ideal.main_arg11)
      ∧ r.2.mem ((c.tc : Thread Cert.Kernel10Ideal.nD Cert.Kernel10Ideal.τ).loc Cert.Kernel10Ideal.main_arg12) = m ((c.tc : Thread Cert.Kernel10Ideal.nD Cert.Kernel10Ideal.τ).loc Cert.Kernel10Ideal.main_arg12)
      ∧ r.2.mem ((c.tc : Thread Cert.Kernel10Ideal.nD Cert.Kernel10Ideal.τ).loc Cert.Kernel10Ideal.main_arg13) = m ((c.tc : Thread Cert.Kernel10Ideal.nD Cert.Kernel10Ideal.τ).loc Cert.Kernel10Ideal.main_arg13))
      ∧ r.2.sem = fun _ => 0)

def quiescent_Kernel10Ideal_pre_finite_frames [hKernel10Ideal : Cert.Kernel10Ideal.Facts] [hPre_finite_frames : Cert.Pre_finite_frames.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_finite_frames m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
      ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
      ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9)
      ∧ r.2.mem ((c.tc : Thread Cert.Kernel10Ideal.nD Cert.Kernel10Ideal.τ).loc Cert.Kernel10Ideal.main_arg10) = m ((c.tc : Thread Cert.Kernel10Ideal.nD Cert.Kernel10Ideal.τ).loc Cert.Kernel10Ideal.main_arg10)
      ∧ r.2.mem ((c.tc : Thread Cert.Kernel10Ideal.nD Cert.Kernel10Ideal.τ).loc Cert.Kernel10Ideal.main_arg11) = m ((c.tc : Thread Cert.Kernel10Ideal.nD Cert.Kernel10Ideal.τ).loc Cert.Kernel10Ideal.main_arg11)
      ∧ r.2.mem ((c.tc : Thread Cert.Kernel10Ideal.nD Cert.Kernel10Ideal.τ).loc Cert.Kernel10Ideal.main_arg12) = m ((c.tc : Thread Cert.Kernel10Ideal.nD Cert.Kernel10Ideal.τ).loc Cert.Kernel10Ideal.main_arg12)
      ∧ r.2.mem ((c.tc : Thread Cert.Kernel10Ideal.nD Cert.Kernel10Ideal.τ).loc Cert.Kernel10Ideal.main_arg13) = m ((c.tc : Thread Cert.Kernel10Ideal.nD Cert.Kernel10Ideal.τ).loc Cert.Kernel10Ideal.main_arg13))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7)
      ∧ r.2.mem ((c.tc : Thread Cert.Reference10Ideal.nD Cert.Reference10Ideal.τ).loc Cert.Reference10Ideal.main_arg8) = m ((c.tc : Thread Cert.Reference10Ideal.nD Cert.Reference10Ideal.τ).loc Cert.Reference10Ideal.main_arg8)
      ∧ r.2.mem ((c.tc : Thread Cert.Reference10Ideal.nD Cert.Reference10Ideal.τ).loc Cert.Reference10Ideal.main_arg9) = m ((c.tc : Thread Cert.Reference10Ideal.nD Cert.Reference10Ideal.τ).loc Cert.Reference10Ideal.main_arg9)
      ∧ r.2.mem ((c.tc : Thread Cert.Reference10Ideal.nD Cert.Reference10Ideal.τ).loc Cert.Reference10Ideal.main_arg10) = m ((c.tc : Thread Cert.Reference10Ideal.nD Cert.Reference10Ideal.τ).loc Cert.Reference10Ideal.main_arg10)
      ∧ r.2.mem ((c.tc : Thread Cert.Reference10Ideal.nD Cert.Reference10Ideal.τ).loc Cert.Reference10Ideal.main_arg11) = m ((c.tc : Thread Cert.Reference10Ideal.nD Cert.Reference10Ideal.τ).loc Cert.Reference10Ideal.main_arg11)
      ∧ r.2.mem ((c.tc : Thread Cert.Reference10Ideal.nD Cert.Reference10Ideal.τ).loc Cert.Reference10Ideal.main_arg12) = m ((c.tc : Thread Cert.Reference10Ideal.nD Cert.Reference10Ideal.τ).loc Cert.Reference10Ideal.main_arg12)
      ∧ r.2.mem ((c.tc : Thread Cert.Reference10Ideal.nD Cert.Reference10Ideal.τ).loc Cert.Reference10Ideal.main_arg13) = m ((c.tc : Thread Cert.Reference10Ideal.nD Cert.Reference10Ideal.τ).loc Cert.Reference10Ideal.main_arg13))
      ∧ r.2.sem = fun _ => 0)

def quiescent_Reference10Ideal_pre_finite_frames [hReference10Ideal : Cert.Reference10Ideal.Facts] [hPre_finite_frames : Cert.Pre_finite_frames.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_finite_frames m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7)
      ∧ r.2.mem ((c.tc : Thread Cert.Reference10Ideal.nD Cert.Reference10Ideal.τ).loc Cert.Reference10Ideal.main_arg8) = m ((c.tc : Thread Cert.Reference10Ideal.nD Cert.Reference10Ideal.τ).loc Cert.Reference10Ideal.main_arg8)
      ∧ r.2.mem ((c.tc : Thread Cert.Reference10Ideal.nD Cert.Reference10Ideal.τ).loc Cert.Reference10Ideal.main_arg9) = m ((c.tc : Thread Cert.Reference10Ideal.nD Cert.Reference10Ideal.τ).loc Cert.Reference10Ideal.main_arg9)
      ∧ r.2.mem ((c.tc : Thread Cert.Reference10Ideal.nD Cert.Reference10Ideal.τ).loc Cert.Reference10Ideal.main_arg10) = m ((c.tc : Thread Cert.Reference10Ideal.nD Cert.Reference10Ideal.τ).loc Cert.Reference10Ideal.main_arg10)
      ∧ r.2.mem ((c.tc : Thread Cert.Reference10Ideal.nD Cert.Reference10Ideal.τ).loc Cert.Reference10Ideal.main_arg11) = m ((c.tc : Thread Cert.Reference10Ideal.nD Cert.Reference10Ideal.τ).loc Cert.Reference10Ideal.main_arg11)
      ∧ r.2.mem ((c.tc : Thread Cert.Reference10Ideal.nD Cert.Reference10Ideal.τ).loc Cert.Reference10Ideal.main_arg12) = m ((c.tc : Thread Cert.Reference10Ideal.nD Cert.Reference10Ideal.τ).loc Cert.Reference10Ideal.main_arg12)
      ∧ r.2.mem ((c.tc : Thread Cert.Reference10Ideal.nD Cert.Reference10Ideal.τ).loc Cert.Reference10Ideal.main_arg13) = m ((c.tc : Thread Cert.Reference10Ideal.nD Cert.Reference10Ideal.τ).loc Cert.Reference10Ideal.main_arg13))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v31) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v6)) (v1 : (c : Dev Cert.Kernel3Ideal.nD) → Buf (Elt Ideal) ((c.tc : Thread Cert.Kernel3Ideal.nD Cert.Kernel3Ideal.τ).loc Cert.Kernel3Ideal.main_v8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_v8) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v17) = v0 c
          ∧ r.2.mem ((c.tc : Thread Cert.Reference3Ideal.nD Cert.Reference3Ideal.τ).loc Cert.Reference3Ideal.main_v19) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v11)) (v1 : (c : Dev Cert.Kernel4Ideal.nD) → Buf (Elt Ideal) ((c.tc : Thread Cert.Kernel4Ideal.nD Cert.Kernel4Ideal.τ).loc Cert.Kernel4Ideal.main_v12)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v11) = v0 c
          ∧ r.2.mem ((c.tc : Thread Cert.Kernel4Ideal.nD Cert.Kernel4Ideal.τ).loc Cert.Kernel4Ideal.main_v12) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v14) = v0 c
          ∧ r.2.mem ((c.tc : Thread Cert.Reference4Ideal.nD Cert.Reference4Ideal.τ).loc Cert.Reference4Ideal.main_v15) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v16) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v14) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal_pre_finite_scores [hKernel7Ideal : Cert.Kernel7Ideal.Facts] [hReference7Ideal : Cert.Reference7Ideal.Facts] [hPre_finite_scores : Cert.Pre_finite_scores.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite_scores m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v24) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v18)) (v1 : (c : Dev Cert.Kernel8Ideal.nD) → Buf (Elt Ideal) ((c.tc : Thread Cert.Kernel8Ideal.nD Cert.Kernel8Ideal.τ).loc Cert.Kernel8Ideal.main_v22)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v18) = v0 c
          ∧ r.2.mem ((c.tc : Thread Cert.Kernel8Ideal.nD Cert.Kernel8Ideal.τ).loc Cert.Kernel8Ideal.main_v22) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v15) = v0 c
          ∧ r.2.mem ((c.tc : Thread Cert.Reference8Ideal.nD Cert.Reference8Ideal.τ).loc Cert.Reference8Ideal.main_v17) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal_pre_finite_window [hKernel9Ideal : Cert.Kernel9Ideal.Facts] [hReference9Ideal : Cert.Reference9Ideal.Facts] [hPre_finite_window : Cert.Pre_finite_window.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_finite_window m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v22)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v22) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v32) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal_pre_finite_frames [hKernel10Ideal : Cert.Kernel10Ideal.Facts] [hReference10Ideal : Cert.Reference10Ideal.Facts] [hPre_finite_frames : Cert.Pre_finite_frames.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_finite_frames m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)
      ∧ m' ((c.tc : Thread Cert.Reference10Ideal.nD Cert.Reference10Ideal.τ).loc Cert.Reference10Ideal.main_arg7) = m ((c.tc : Thread Cert.Kernel10Ideal.nD Cert.Kernel10Ideal.τ).loc Cert.Kernel10Ideal.main_arg7)
      ∧ m' ((c.tc : Thread Cert.Reference10Ideal.nD Cert.Reference10Ideal.τ).loc Cert.Reference10Ideal.main_arg8) = m ((c.tc : Thread Cert.Kernel10Ideal.nD Cert.Kernel10Ideal.τ).loc Cert.Kernel10Ideal.main_arg8)
      ∧ m' ((c.tc : Thread Cert.Reference10Ideal.nD Cert.Reference10Ideal.τ).loc Cert.Reference10Ideal.main_arg9) = m ((c.tc : Thread Cert.Kernel10Ideal.nD Cert.Kernel10Ideal.τ).loc Cert.Kernel10Ideal.main_arg9)
      ∧ m' ((c.tc : Thread Cert.Reference10Ideal.nD Cert.Reference10Ideal.τ).loc Cert.Reference10Ideal.main_arg10) = m ((c.tc : Thread Cert.Kernel10Ideal.nD Cert.Kernel10Ideal.τ).loc Cert.Kernel10Ideal.main_arg10)
      ∧ m' ((c.tc : Thread Cert.Reference10Ideal.nD Cert.Reference10Ideal.τ).loc Cert.Reference10Ideal.main_arg11) = m ((c.tc : Thread Cert.Kernel10Ideal.nD Cert.Kernel10Ideal.τ).loc Cert.Kernel10Ideal.main_arg11)
      ∧ m' ((c.tc : Thread Cert.Reference10Ideal.nD Cert.Reference10Ideal.τ).loc Cert.Reference10Ideal.main_arg12) = m ((c.tc : Thread Cert.Kernel10Ideal.nD Cert.Kernel10Ideal.τ).loc Cert.Kernel10Ideal.main_arg12)
      ∧ m' ((c.tc : Thread Cert.Reference10Ideal.nD Cert.Reference10Ideal.τ).loc Cert.Reference10Ideal.main_arg13) = m ((c.tc : Thread Cert.Kernel10Ideal.nD Cert.Kernel10Ideal.τ).loc Cert.Kernel10Ideal.main_arg13)) →
    ∃ (v0 : (c : Dev Cert.Kernel10Ideal.nD) → Buf (Elt Ideal) ((c.tc : Thread Cert.Kernel10Ideal.nD Cert.Kernel10Ideal.τ).loc Cert.Kernel10Ideal.main_v22_0)) (v1 : (c : Dev Cert.Kernel10Ideal.nD) → Buf (Elt Ideal) ((c.tc : Thread Cert.Kernel10Ideal.nD Cert.Kernel10Ideal.τ).loc Cert.Kernel10Ideal.main_v22_1)) (v2 : (c : Dev Cert.Kernel10Ideal.nD) → Buf (Elt Ideal) ((c.tc : Thread Cert.Kernel10Ideal.nD Cert.Kernel10Ideal.τ).loc Cert.Kernel10Ideal.main_v22_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v22_0) = v0 c
          ∧ r.2.mem ((c.tc : Thread Cert.Kernel10Ideal.nD Cert.Kernel10Ideal.τ).loc Cert.Kernel10Ideal.main_v22_1) = v1 c
          ∧ r.2.mem ((c.tc : Thread Cert.Kernel10Ideal.nD Cert.Kernel10Ideal.τ).loc Cert.Kernel10Ideal.main_v22_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
          ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
          ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
          ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9)
          ∧ r.2.mem ((c.tc : Thread Cert.Kernel10Ideal.nD Cert.Kernel10Ideal.τ).loc Cert.Kernel10Ideal.main_arg10) = m ((c.tc : Thread Cert.Kernel10Ideal.nD Cert.Kernel10Ideal.τ).loc Cert.Kernel10Ideal.main_arg10)
          ∧ r.2.mem ((c.tc : Thread Cert.Kernel10Ideal.nD Cert.Kernel10Ideal.τ).loc Cert.Kernel10Ideal.main_arg11) = m ((c.tc : Thread Cert.Kernel10Ideal.nD Cert.Kernel10Ideal.τ).loc Cert.Kernel10Ideal.main_arg11)
          ∧ r.2.mem ((c.tc : Thread Cert.Kernel10Ideal.nD Cert.Kernel10Ideal.τ).loc Cert.Kernel10Ideal.main_arg12) = m ((c.tc : Thread Cert.Kernel10Ideal.nD Cert.Kernel10Ideal.τ).loc Cert.Kernel10Ideal.main_arg12)
          ∧ r.2.mem ((c.tc : Thread Cert.Kernel10Ideal.nD Cert.Kernel10Ideal.τ).loc Cert.Kernel10Ideal.main_arg13) = m ((c.tc : Thread Cert.Kernel10Ideal.nD Cert.Kernel10Ideal.τ).loc Cert.Kernel10Ideal.main_arg13))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v1071) = v0 c
          ∧ r.2.mem ((c.tc : Thread Cert.Reference10Ideal.nD Cert.Reference10Ideal.τ).loc Cert.Reference10Ideal.main_v1072) = v1 c
          ∧ r.2.mem ((c.tc : Thread Cert.Reference10Ideal.nD Cert.Reference10Ideal.τ).loc Cert.Reference10Ideal.main_v1002) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6)
          ∧ r.2.mem ((c.tc : Thread Cert.Reference10Ideal.nD Cert.Reference10Ideal.τ).loc Cert.Reference10Ideal.main_arg7) = m' ((c.tc : Thread Cert.Reference10Ideal.nD Cert.Reference10Ideal.τ).loc Cert.Reference10Ideal.main_arg7)
          ∧ r.2.mem ((c.tc : Thread Cert.Reference10Ideal.nD Cert.Reference10Ideal.τ).loc Cert.Reference10Ideal.main_arg8) = m' ((c.tc : Thread Cert.Reference10Ideal.nD Cert.Reference10Ideal.τ).loc Cert.Reference10Ideal.main_arg8)
          ∧ r.2.mem ((c.tc : Thread Cert.Reference10Ideal.nD Cert.Reference10Ideal.τ).loc Cert.Reference10Ideal.main_arg9) = m' ((c.tc : Thread Cert.Reference10Ideal.nD Cert.Reference10Ideal.τ).loc Cert.Reference10Ideal.main_arg9)
          ∧ r.2.mem ((c.tc : Thread Cert.Reference10Ideal.nD Cert.Reference10Ideal.τ).loc Cert.Reference10Ideal.main_arg10) = m' ((c.tc : Thread Cert.Reference10Ideal.nD Cert.Reference10Ideal.τ).loc Cert.Reference10Ideal.main_arg10)
          ∧ r.2.mem ((c.tc : Thread Cert.Reference10Ideal.nD Cert.Reference10Ideal.τ).loc Cert.Reference10Ideal.main_arg11) = m' ((c.tc : Thread Cert.Reference10Ideal.nD Cert.Reference10Ideal.τ).loc Cert.Reference10Ideal.main_arg11)
          ∧ r.2.mem ((c.tc : Thread Cert.Reference10Ideal.nD Cert.Reference10Ideal.τ).loc Cert.Reference10Ideal.main_arg12) = m' ((c.tc : Thread Cert.Reference10Ideal.nD Cert.Reference10Ideal.τ).loc Cert.Reference10Ideal.main_arg12)
          ∧ r.2.mem ((c.tc : Thread Cert.Reference10Ideal.nD Cert.Reference10Ideal.τ).loc Cert.Reference10Ideal.main_arg13) = m' ((c.tc : Thread Cert.Reference10Ideal.nD Cert.Reference10Ideal.τ).loc Cert.Reference10Ideal.main_arg13))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite_inputs : Cert.Pre_finite_inputs.Facts) (hPre_finite_scores : Cert.Pre_finite_scores.Facts) (hPre_finite_window : Cert.Pre_finite_window.Facts) (hPre_finite_frames : Cert.Pre_finite_frames.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite_scores (hKernel7Ideal := hKernel7Ideal) (hPre_finite_scores := hPre_finite_scores)
    ∧ quiescent_Reference7Ideal (hReference7Ideal := hReference7Ideal)
    ∧ quiescent_Reference7Ideal_pre_finite_scores (hReference7Ideal := hReference7Ideal) (hPre_finite_scores := hPre_finite_scores)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Kernel9Ideal_pre_finite_window (hKernel9Ideal := hKernel9Ideal) (hPre_finite_window := hPre_finite_window)
    ∧ quiescent_Reference9Ideal (hReference9Ideal := hReference9Ideal)
    ∧ quiescent_Reference9Ideal_pre_finite_window (hReference9Ideal := hReference9Ideal) (hPre_finite_window := hPre_finite_window)
    ∧ quiescent_Kernel10 (hKernel10 := hKernel10)
    ∧ quiescent_Kernel10Ideal (hKernel10Ideal := hKernel10Ideal)
    ∧ quiescent_Kernel10Ideal_pre_finite_frames (hKernel10Ideal := hKernel10Ideal) (hPre_finite_frames := hPre_finite_frames)
    ∧ quiescent_Reference10Ideal (hReference10Ideal := hReference10Ideal)
    ∧ quiescent_Reference10Ideal_pre_finite_frames (hReference10Ideal := hReference10Ideal) (hPre_finite_frames := hPre_finite_frames)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite_scores (hKernel7Ideal := hKernel7Ideal) (hReference7Ideal := hReference7Ideal) (hPre_finite_scores := hPre_finite_scores)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal_pre_finite_window (hKernel9Ideal := hKernel9Ideal) (hReference9Ideal := hReference9Ideal) (hPre_finite_window := hPre_finite_window)
    ∧ preserves_Kernel10_Kernel10Ideal
    ∧ algebraic_Kernel10Ideal_Reference10Ideal_pre_finite_frames (hKernel10Ideal := hKernel10Ideal) (hReference10Ideal := hReference10Ideal) (hPre_finite_frames := hPre_finite_frames)
-- ==== Pre_finite_frames.lean ====
abbrev S32x32x4960 : Shape := ⟨3, ![32, 32, 4960]⟩
abbrev S32x1x4960 : Shape := ⟨3, ![32, 1, 4960]⟩
abbrev S32x24x64x64 : Shape := ⟨4, ![32, 24, 64, 64]⟩
abbrev S4960 : Shape := ⟨1, ![4960]⟩
abbrev S1536 : Shape := ⟨1, ![1536]⟩
abbrev S64x1536 : Shape := ⟨2, ![64, 1536]⟩
abbrev S224x1536 : Shape := ⟨2, ![224, 1536]⟩
abbrev S24x64 : Shape := ⟨2, ![24, 64]⟩
abbrev S_ : Shape := ⟨0, ![]⟩

class Facts : Prop where
  bcast_S_S32x32x4960 : S_.BroadcastsInDim S32x32x4960 (![] : Fin 0 → Fin S32x32x4960.rank)
  bcast_S_S32x1x4960 : S_.BroadcastsInDim S32x1x4960 (![] : Fin 0 → Fin S32x1x4960.rank)
  bcast_S_S32x24x64x64 : S_.BroadcastsInDim S32x24x64x64 (![] : Fin 0 → Fin S32x24x64x64.rank)
  bcast_S_S4960 : S_.BroadcastsInDim S4960 (![] : Fin 0 → Fin S4960.rank)
  bcast_S_S1536 : S_.BroadcastsInDim S1536 (![] : Fin 0 → Fin S1536.rank)
  bcast_S_S64x1536 : S_.BroadcastsInDim S64x1536 (![] : Fin 0 → Fin S64x1536.rank)

variable [Facts]

def fn_part1 {F : FTy → Type} [FloatOps F] (main_arg6 : FVec F S1536 .f32) (main_arg7 : FVec F S64x1536 .f32) (main_arg9 : FVec F S1536 .f32) (main_arg10 : FVec F S1536 .f32) (main_v2 : IVec S32x32x4960 1) (main_v5 : IVec S32x1x4960 1) (main_v8 : IVec S32x24x64x64 1) (main_v11 : IVec S4960 1) (main_v14 : IVec S1536 1) (main_v17 : IVec S64x1536 1) : IVec S32x32x4960 1 × IVec S32x1x4960 1 × IVec S32x24x64x64 1 × IVec S4960 1 × IVec S1536 1 × IVec S64x1536 1 × IVec S1536 1 × IVec S64x1536 1 × IVec S1536 1 × IVec S1536 1 :=
  let main_v18 : FVec F S1536 .f32 := Host.absf main_arg6
  let main_cst_5 : FVec F S_ .f32 := constant S_ .f32 0x7F800000#32
  let main_v19 : FVec F S1536 .f32 := broadcastInDim S1536 ![] bcast_S_S1536 main_cst_5
  let main_v20 : IVec S1536 1 := cmpf .olt main_v18 main_v19
  let main_v21 : FVec F S64x1536 .f32 := Host.absf main_arg7
  let main_cst_6 : FVec F S_ .f32 := constant S_ .f32 0x7F800000#32
  let main_v22 : FVec F S64x1536 .f32 := broadcastInDim S64x1536 ![] bcast_S_S64x1536 main_cst_6
  let main_v23 : IVec S64x1536 1 := cmpf .olt main_v21 main_v22
  let main_v24 : FVec F S1536 .f32 := Host.absf main_arg9
  let main_cst_7 : FVec F S_ .f32 := constant S_ .f32 0x7F800000#32
  let main_v25 : FVec F S1536 .f32 := broadcastInDim S1536 ![] bcast_S_S1536 main_cst_7
  let main_v26 : IVec S1536 1 := cmpf .olt main_v24 main_v25
  let main_v27 : FVec F S1536 .f32 := Host.absf main_arg10
  let main_cst_8 : FVec F S_ .f32 := constant S_ .f32 0x7F800000#32
  let main_v28 : FVec F S1536 .f32 := broadcastInDim S1536 ![] bcast_S_S1536 main_cst_8
  let main_v29 : IVec S1536 1 := cmpf .olt main_v27 main_v28
  (main_v2, main_v5, main_v8, main_v11, main_v14, main_v17, main_v20, main_v23, main_v26, main_v29)

def fn {F : FTy → Type} [FloatOps F] (main_arg0 : FVec F S32x32x4960 .f32) (main_arg1 : FVec F S32x1x4960 .f32) (main_arg2 : FVec F S32x24x64x64 .f32) (main_arg3 : FVec F S4960 .f32) (main_arg4 : FVec F S1536 .f32) (main_arg5 : FVec F S64x1536 .f32) (main_arg6 : FVec F S1536 .f32) (main_arg7 : FVec F S64x1536 .f32) (main_arg8 : FVec F S224x1536 .f32) (main_arg9 : FVec F S1536 .f32) (main_arg10 : FVec F S1536 .f32) (main_arg11 : FVec F S24x64 .f32) (main_arg12 : FVec F S1536 .f32) (main_arg13 : FVec F S1536 .f32) : IVec S32x32x4960 1 × IVec S32x1x4960 1 × IVec S32x24x64x64 1 × IVec S4960 1 × IVec S1536 1 × IVec S64x1536 1 × IVec S1536 1 × IVec S64x1536 1 × IVec S1536 1 × IVec S1536 1 :=
  let main_v0 : FVec F S32x32x4960 .f32 := Host.absf main_arg0
  let main_cst : FVec F S_ .f32 := constant S_ .f32 0x7F800000#32
  let main_v1 : FVec F S32x32x4960 .f32 := broadcastInDim S32x32x4960 ![] bcast_S_S32x32x4960 main_cst
  let main_v2 : IVec S32x32x4960 1 := cmpf .olt main_v0 main_v1
  let main_v3 : FVec F S32x1x4960 .f32 := Host.absf main_arg1
  let main_cst_0 : FVec F S_ .f32 := constant S_ .f32 0x7F800000#32
  let main_v4 : FVec F S32x1x4960 .f32 := broadcastInDim S32x1x4960 ![] bcast_S_S32x1x4960 main_cst_0
  let main_v5 : IVec S32x1x4960 1 := cmpf .olt main_v3 main_v4
  let main_v6 : FVec F S32x24x64x64 .f32 := Host.absf main_arg2
  let main_cst_1 : FVec F S_ .f32 := constant S_ .f32 0x7F800000#32
  let main_v7 : FVec F S32x24x64x64 .f32 := broadcastInDim S32x24x64x64 ![] bcast_S_S32x24x64x64 main_cst_1
  let main_v8 : IVec S32x24x64x64 1 := cmpf .olt main_v6 main_v7
  let main_v9 : FVec F S4960 .f32 := Host.absf main_arg3
  let main_cst_2 : FVec F S_ .f32 := constant S_ .f32 0x7F800000#32
  let main_v10 : FVec F S4960 .f32 := broadcastInDim S4960 ![] bcast_S_S4960 main_cst_2
  let main_v11 : IVec S4960 1 := cmpf .olt main_v9 main_v10
  let main_v12 : FVec F S1536 .f32 := Host.absf main_arg4
  let main_cst_3 : FVec F S_ .f32 := constant S_ .f32 0x7F800000#32
  let main_v13 : FVec F S1536 .f32 := broadcastInDim S1536 ![] bcast_S_S1536 main_cst_3
  let main_v14 : IVec S1536 1 := cmpf .olt main_v12 main_v13
  let main_v15 : FVec F S64x1536 .f32 := Host.absf main_arg5
  let main_cst_4 : FVec F S_ .f32 := constant S_ .f32 0x7F800000#32
  let main_v16 : FVec F S64x1536 .f32 := broadcastInDim S64x1536 ![] bcast_S_S64x1536 main_cst_4
  let main_v17 : IVec S64x1536 1 := cmpf .olt main_v15 main_v16
  fn_part1 (F := F) main_arg6 main_arg7 main_arg9 main_arg10 main_v2 main_v5 main_v8 main_v11 main_v14 main_v17
-- ==== Pre_finite_inputs.lean ====
abbrev S2x4096x2048 : Shape := ⟨3, ![2, 4096, 2048]⟩
abbrev S2x4096x512 : Shape := ⟨3, ![2, 4096, 512]⟩
abbrev S24 : Shape := ⟨1, ![24]⟩
abbrev S2x4096x1536 : Shape := ⟨3, ![2, 4096, 1536]⟩
abbrev S_ : Shape := ⟨0, ![]⟩
abbrev S2x4096x256 : Shape := ⟨3, ![2, 4096, 256]⟩

class Facts : Prop where
  slices_S2x4096x2048_S2x4096x1536_0_0_0 : S2x4096x2048.Slices ![0, 0, 0] S2x4096x1536
  bcast_S_S2x4096x1536 : S_.BroadcastsInDim S2x4096x1536 (![] : Fin 0 → Fin S2x4096x1536.rank)
  slices_S2x4096x512_S2x4096x256_0_0_0 : S2x4096x512.Slices ![0, 0, 0] S2x4096x256
  bcast_S_S2x4096x256 : S_.BroadcastsInDim S2x4096x256 (![] : Fin 0 → Fin S2x4096x256.rank)
  bcast_S_S24 : S_.BroadcastsInDim S24 (![] : Fin 0 → Fin S24.rank)

variable [Facts]

def fn {F : FTy → Type} [FloatOps F] (main_arg0 : FVec F S2x4096x2048 .f32) (main_arg1 : FVec F S2x4096x512 .f32) (main_arg2 : FVec F S24 .f32) : IVec S2x4096x1536 1 × IVec S2x4096x256 1 × IVec S24 1 :=
  let main_v0 : FVec F S2x4096x1536 .f32 := (extractStridedSlice S2x4096x1536 ![0, 0, 0] · slices_S2x4096x2048_S2x4096x1536_0_0_0) main_arg0
  let main_v1 : FVec F S2x4096x1536 .f32 := Host.absf main_v0
  let main_cst : FVec F S_ .f32 := constant S_ .f32 0x7F800000#32
  let main_v2 : FVec F S2x4096x1536 .f32 := broadcastInDim S2x4096x1536 ![] bcast_S_S2x4096x1536 main_cst
  let main_v3 : IVec S2x4096x1536 1 := cmpf .olt main_v1 main_v2
  let main_v4 : FVec F S2x4096x256 .f32 := (extractStridedSlice S2x4096x256 ![0, 0, 0] · slices_S2x4096x512_S2x4096x256_0_0_0) main_arg1
  let main_v5 : FVec F S2x4096x256 .f32 := Host.absf main_v4
  let main_cst_0 : FVec F S_ .f32 := constant S_ .f32 0x7F800000#32
  let main_v6 : FVec F S2x4096x256 .f32 := broadcastInDim S2x4096x256 ![] bcast_S_S2x4096x256 main_cst_0
  let main_v7 : IVec S2x4096x256 1 := cmpf .olt main_v5 main_v6
  let main_v8 : FVec F S24 .f32 := Host.absf main_arg2
  let main_cst_1 : FVec F S_ .f32 := constant S_ .f32 0x7F800000#32
  let main_v9 : FVec F S24 .f32 := broadcastInDim S24 ![] bcast_S_S24 main_cst_1
  let main_v10 : IVec S24 1 := cmpf .olt main_v8 main_v9
  (main_v3, main_v7, main_v10)
-- ==== Pre_finite_scores.lean ====
abbrev S2x4096x2048 : Shape := ⟨3, ![2, 4096, 2048]⟩
abbrev S2x256x1024 : Shape := ⟨3, ![2, 256, 1024]⟩
abbrev S2x4096x512 : Shape := ⟨3, ![2, 4096, 512]⟩
abbrev S_ : Shape := ⟨0, ![]⟩
abbrev S2x256x512 : Shape := ⟨3, ![2, 256, 512]⟩

class Facts : Prop where
  slices_S2x4096x2048_S2x4096x512_0_0_1536 : S2x4096x2048.Slices ![0, 0, 1536] S2x4096x512
  bcast_S_S2x4096x512 : S_.BroadcastsInDim S2x4096x512 (![] : Fin 0 → Fin S2x4096x512.rank)
  slices_S2x256x1024_S2x256x512_0_0_0 : S2x256x1024.Slices ![0, 0, 0] S2x256x512
  bcast_S_S2x256x512 : S_.BroadcastsInDim S2x256x512 (![] : Fin 0 → Fin S2x256x512.rank)

variable [Facts]

def fn {F : FTy → Type} [FloatOps F] (main_arg0 : FVec F S2x4096x2048 .f32) (main_arg1 : FVec F S2x256x1024 .f32) : IVec S2x4096x512 1 × IVec S2x256x512 1 :=
  let main_v0 : FVec F S2x4096x512 .f32 := (extractStridedSlice S2x4096x512 ![0, 0, 1536] · slices_S2x4096x2048_S2x4096x512_0_0_1536) main_arg0
  let main_v1 : FVec F S2x4096x512 .f32 := Host.absf main_v0
  let main_cst : FVec F S_ .f32 := constant S_ .f32 0x7F800000#32
  let main_v2 : FVec F S2x4096x512 .f32 := broadcastInDim S2x4096x512 ![] bcast_S_S2x4096x512 main_cst
  let main_v3 : IVec S2x4096x512 1 := cmpf .olt main_v1 main_v2
  let main_v4 : FVec F S2x256x512 .f32 := (extractStridedSlice S2x256x512 ![0, 0, 0] · slices_S2x256x1024_S2x256x512_0_0_0) main_arg1
  let main_v5 : FVec F S2x256x512 .f32 := Host.absf main_v4
  let main_cst_0 : FVec F S_ .f32 := constant S_ .f32 0x7F800000#32
  let main_v6 : FVec F S2x256x512 .f32 := broadcastInDim S2x256x512 ![] bcast_S_S2x256x512 main_cst_0
  let main_v7 : IVec S2x256x512 1 := cmpf .olt main_v5 main_v6
  (main_v3, main_v7)
-- ==== Pre_finite_window.lean ====
abbrev S32x32x2048 : Shape := ⟨3, ![32, 32, 2048]⟩
abbrev S32x128x4x64 : Shape := ⟨4, ![32, 128, 4, 64]⟩
abbrev S32x32x512 : Shape := ⟨3, ![32, 32, 512]⟩
abbrev S24 : Shape := ⟨1, ![24]⟩
abbrev S32x32x1536 : Shape := ⟨3, ![32, 32, 1536]⟩
abbrev S_ : Shape := ⟨0, ![]⟩
abbrev S32x32x256 : Shape := ⟨3, ![32, 32, 256]⟩

class Facts : Prop where
  slices_S32x32x2048_S32x32x1536_0_0_0 : S32x32x2048.Slices ![0, 0, 0] S32x32x1536
  bcast_S_S32x32x1536 : S_.BroadcastsInDim S32x32x1536 (![] : Fin 0 → Fin S32x32x1536.rank)
  bcast_S_S32x128x4x64 : S_.BroadcastsInDim S32x128x4x64 (![] : Fin 0 → Fin S32x128x4x64.rank)
  slices_S32x32x512_S32x32x256_0_0_0 : S32x32x512.Slices ![0, 0, 0] S32x32x256
  bcast_S_S32x32x256 : S_.BroadcastsInDim S32x32x256 (![] : Fin 0 → Fin S32x32x256.rank)
  bcast_S_S24 : S_.BroadcastsInDim S24 (![] : Fin 0 → Fin S24.rank)

variable [Facts]

def fn {F : FTy → Type} [FloatOps F] (main_arg0 : FVec F S32x32x2048 .f32) (main_arg1 : FVec F S32x128x4x64 .f32) (main_arg2 : FVec F S32x128x4x64 .f32) (main_arg3 : FVec F S32x32x512 .f32) (main_arg4 : FVec F S24 .f32) : IVec S32x32x1536 1 × IVec S32x128x4x64 1 × IVec S32x32x256 1 × IVec S24 1 :=
  let main_v0 : FVec F S32x32x1536 .f32 := (extractStridedSlice S32x32x1536 ![0, 0, 0] · slices_S32x32x2048_S32x32x1536_0_0_0) main_arg0
  let main_v1 : FVec F S32x32x1536 .f32 := Host.absf main_v0
  let main_cst : FVec F S_ .f32 := constant S_ .f32 0x7F800000#32
  let main_v2 : FVec F S32x32x1536 .f32 := broadcastInDim S32x32x1536 ![] bcast_S_S32x32x1536 main_cst
  let main_v3 : IVec S32x32x1536 1 := cmpf .olt main_v1 main_v2
  let main_v4 : FVec F S32x128x4x64 .f32 := Host.absf main_arg1
  let main_cst_0 : FVec F S_ .f32 := constant S_ .f32 0x7F800000#32
  let main_v5 : FVec F S32x128x4x64 .f32 := broadcastInDim S32x128x4x64 ![] bcast_S_S32x128x4x64 main_cst_0
  let main_v6 : IVec S32x128x4x64 1 := cmpf .olt main_v4 main_v5
  let main_v7 : FVec F S32x32x256 .f32 := (extractStridedSlice S32x32x256 ![0, 0, 0] · slices_S32x32x512_S32x32x256_0_0_0) main_arg3
  let main_v8 : FVec F S32x32x256 .f32 := Host.absf main_v7
  let main_cst_1 : FVec F S_ .f32 := constant S_ .f32 0x7F800000#32
  let main_v9 : FVec F S32x32x256 .f32 := broadcastInDim S32x32x256 ![] bcast_S_S32x32x256 main_cst_1
  let main_v10 : IVec S32x32x256 1 := cmpf .olt main_v8 main_v9
  let main_v11 : FVec F S24 .f32 := Host.absf main_arg4
  let main_cst_2 : FVec F S_ .f32 := constant S_ .f32 0x7F800000#32
  let main_v12 : FVec F S24 .f32 := broadcastInDim S24 ![] bcast_S_S24 main_cst_2
  let main_v13 : IVec S24 1 := cmpf .olt main_v11 main_v12
  (main_v3, main_v6, main_v10, main_v13)
-- ==== Kernel.lean ====
abbrev S2x4096x2048 : Shape := ⟨3, ![2, 4096, 2048]⟩
abbrev S2x4096x512 : Shape := ⟨3, ![2, 4096, 512]⟩
abbrev S24 : Shape := ⟨1, ![24]⟩
abbrev S2x4096x256 : Shape := ⟨3, ![2, 4096, 256]⟩
abbrev S2x4096x4x1x64 : Shape := ⟨5, ![2, 4096, 4, 1, 64]⟩
abbrev S2x4096x4x2x64 : Shape := ⟨5, ![2, 4096, 4, 2, 64]⟩
abbrev S2x4096x1024 : Shape := ⟨3, ![2, 4096, 1024]⟩
abbrev S4x6 : Shape := ⟨2, ![4, 6]⟩
abbrev S4x6x64 : Shape := ⟨3, ![4, 6, 64]⟩
abbrev S4x384 : Shape := ⟨2, ![4, 384]⟩
abbrev S4x384x1 : Shape := ⟨3, ![4, 384, 1]⟩
abbrev S2x4096x1536 : Shape := ⟨3, ![2, 4096, 1536]⟩
abbrev S2x128x1536 : Shape := ⟨3, ![2, 128, 1536]⟩
abbrev S2x128x512 : Shape := ⟨3, ![2, 128, 512]⟩
abbrev S384x192 : Shape := ⟨2, ![384, 192]⟩
abbrev S64x128 : Shape := ⟨2, ![64, 128]⟩
abbrev S1x64x128 : Shape := ⟨3, ![1, 64, 128]⟩
abbrev S384x128 : Shape := ⟨2, ![384, 128]⟩
abbrev S192x128 : Shape := ⟨2, ![192, 128]⟩
abbrev S1x384x1 : Shape := ⟨3, ![1, 384, 1]⟩
abbrev S384x1 : Shape := ⟨2, ![384, 1]⟩
abbrev S384 : Shape := ⟨1, ![384]⟩

abbrev nBuf : Space → Nat
  | .hbm => 17
  | .vmem => 13
  | .smem => 0
  | _ => 0

abbrev bufTy : (tb : Table) → Fin (tcTables nBuf tb) → BufTy
  | .hbm, ⟨0, _⟩ => ⟨S2x4096x2048, .f32⟩
  | .hbm, ⟨1, _⟩ => ⟨S2x4096x512, .f32⟩
  | .hbm, ⟨2, _⟩ => ⟨S24, .f32⟩
  | .hbm, ⟨3, _⟩ => ⟨S2x4096x256, .f32⟩
  | .hbm, ⟨4, _⟩ => ⟨S2x4096x4x1x64, .f32⟩
  | .hbm, ⟨5, _⟩ => ⟨S2x4096x4x2x64, .f32⟩
  | .hbm, ⟨6, _⟩ => ⟨S2x4096x512, .f32⟩
  | .hbm, ⟨7, _⟩ => ⟨S2x4096x256, .f32⟩
  | .hbm, ⟨8, _⟩ => ⟨S2x4096x4x1x64, .f32⟩
  | .hbm, ⟨9, _⟩ => ⟨S2x4096x4x2x64, .f32⟩
  | .hbm, ⟨10, _⟩ => ⟨S2x4096x512, .f32⟩
  | .hbm, ⟨11, _⟩ => ⟨S2x4096x1024, .f32⟩
  | .hbm, ⟨12, _⟩ => ⟨S4x6, .f32⟩
  | .hbm, ⟨13, _⟩ => ⟨S4x6x64, .f32⟩
  | .hbm, ⟨14, _⟩ => ⟨S4x384, .f32⟩
  | .hbm, ⟨15, _⟩ => ⟨S4x384x1, .f32⟩
  | .hbm, ⟨16, _⟩ => ⟨S2x4096x1536, .bf16⟩
  | .local _ .vmem, ⟨0, _⟩ => ⟨S2x128x1536, .f32⟩
  | .local _ .vmem, ⟨1, _⟩ => ⟨S2x128x1536, .f32⟩
  | .local _ .vmem, ⟨2, _⟩ => ⟨S2x128x512, .f32⟩
  | .local _ .vmem, ⟨3, _⟩ => ⟨S2x128x512, .f32⟩
  | .local _ .vmem, ⟨4, _⟩ => ⟨S2x128x512, .f32⟩
  | .local _ .vmem, ⟨5, _⟩ => ⟨S2x128x512, .f32⟩
  | .local _ .vmem, ⟨6, _⟩ => ⟨S2x128x512, .f32⟩
  | .local _ .vmem, ⟨7, _⟩ => ⟨S2x128x512, .f32⟩
  | .local _ .vmem, ⟨8, _⟩ => ⟨S2x128x512, .f32⟩
  | .local _ .vmem, ⟨9, _⟩ => ⟨S2x128x512, .f32⟩
  | .local _ .vmem, ⟨10, _⟩ => ⟨S4x384x1, .f32⟩
  | .local _ .vmem, ⟨11, _⟩ => ⟨S2x128x1536, .bf16⟩
  | .local _ .vmem, ⟨12, _⟩ => ⟨S2x128x1536, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![1, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c1_i32_0 : BitVec 32 := 1#32
  let c0_i32_1 : BitVec 32 := 0#32
  ![arg0.toNat, v1.toNat, c1_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2x128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S4x384x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S2x128x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S2x4096x2048 : Shape := ⟨3, ![2, 4096, 2048]⟩
abbrev S2x4096x512 : Shape := ⟨3, ![2, 4096, 512]⟩
abbrev S24 : Shape := ⟨1, ![24]⟩
abbrev S2x4096x256 : Shape := ⟨3, ![2, 4096, 256]⟩
abbrev S2x4096x4x64 : Shape := ⟨4, ![2, 4096, 4, 64]⟩
abbrev S2x4096x1536 : Shape := ⟨3, ![2, 4096, 1536]⟩
abbrev S2x64x64x4x6x64 : Shape := ⟨6, ![2, 64, 64, 4, 6, 64]⟩
abbrev S_ : Shape := ⟨0, ![]⟩
abbrev S2x4224x4x64 : Shape := ⟨4, ![2, 4224, 4, 64]⟩
abbrev S2x66x64x4x64 : Shape := ⟨5, ![2, 66, 64, 4, 64]⟩
abbrev S2x64x64x4x64 : Shape := ⟨5, ![2, 64, 64, 4, 64]⟩
abbrev S2x64x192x4x64 : Shape := ⟨5, ![2, 64, 192, 4, 64]⟩
abbrev S2x64x4x192x64x6 : Shape := ⟨6, ![2, 64, 4, 192, 64, 6]⟩
abbrev S2x64x4x6x64x192 : Shape := ⟨6, ![2, 64, 4, 6, 64, 192]⟩
abbrev S64 : Shape := ⟨1, ![64]⟩
abbrev S64x1 : Shape := ⟨2, ![64, 1]⟩
abbrev S192 : Shape := ⟨1, ![192]⟩
abbrev S1x192 : Shape := ⟨2, ![1, 192]⟩
abbrev S64x192 : Shape := ⟨2, ![64, 192]⟩
abbrev S1x64x1x1x1x192 : Shape := ⟨6, ![1, 64, 1, 1, 1, 192]⟩
abbrev S4x6 : Shape := ⟨2, ![4, 6]⟩
abbrev S1x1x4x6x1x1 : Shape := ⟨6, ![1, 1, 4, 6, 1, 1]⟩
abbrev S2x64x4x6x64 : Shape := ⟨5, ![2, 64, 4, 6, 64]⟩
abbrev S2x64x4x6x64x1 : Shape := ⟨6, ![2, 64, 4, 6, 64, 1]⟩
abbrev S2x64x4x64x6x64 : Shape := ⟨6, ![2, 64, 4, 64, 6, 64]⟩

abbrev nBuf : Space → Nat
  | .hbm => 90
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2x4096x512, .f32⟩
  | .hbm, ⟨2, _⟩ => ⟨S24, .f32⟩
  | .hbm, ⟨3, _⟩ => ⟨S2x4096x256, .f32⟩
  | .hbm, ⟨4, _⟩ => ⟨S2x4096x4x64, .f32⟩
  | .hbm, ⟨5, _⟩ => ⟨S2x4096x256, .f32⟩
  | .hbm, ⟨6, _⟩ => ⟨S2x4096x4x64, .f32⟩
  | .hbm, ⟨7, _⟩ => ⟨S2x4096x1536, .f32⟩
  | .hbm, ⟨8, _⟩ => ⟨S2x64x64x4x6x64, .f32⟩
  | .hbm, ⟨9, _⟩ => ⟨S_, .i32⟩
  | .hbm, ⟨10, _⟩ => ⟨S_, .f32⟩
  | .hbm, ⟨11, _⟩ => ⟨S2x4224x4x64, .f32⟩
  | .hbm, ⟨12, _⟩ => ⟨S2x66x64x4x64, .f32⟩
  | .hbm, ⟨13, _⟩ => ⟨S2x64x64x4x64, .f32⟩
  | .hbm, ⟨14, _⟩ => ⟨S2x64x64x4x64, .f32⟩
  | .hbm, ⟨15, _⟩ => ⟨S2x64x64x4x64, .f32⟩
  | .hbm, ⟨16, _⟩ => ⟨S2x64x192x4x64, .f32⟩
  | .hbm, ⟨17, _⟩ => ⟨S_, .i32⟩
  | .hbm, ⟨18, _⟩ => ⟨S_, .f32⟩
  | .hbm, ⟨19, _⟩ => ⟨S2x4224x4x64, .f32⟩
  | .hbm, ⟨20, _⟩ => ⟨S2x66x64x4x64, .f32⟩
  | .hbm, ⟨21, _⟩ => ⟨S2x64x64x4x64, .f32⟩
  | .hbm, ⟨22, _⟩ => ⟨S2x64x64x4x64, .f32⟩
  | .hbm, ⟨23, _⟩ => ⟨S2x64x64x4x64, .f32⟩
  | .hbm, ⟨24, _⟩ => ⟨S2x64x192x4x64, .f32⟩
  | .hbm, ⟨25, _⟩ => ⟨S2x64x4x192x64x6, .f32⟩
  | .hbm, ⟨26, _⟩ => ⟨S2x64x4x6x64x192, .f32⟩
  | .hbm, ⟨27, _⟩ => ⟨S_, .f32⟩
  | .hbm, ⟨28, _⟩ => ⟨S2x64x4x6x64x192, .f32⟩
  | .hbm, ⟨29, _⟩ => ⟨S2x64x4x6x64x192, .f32⟩
  | .hbm, ⟨30, _⟩ => ⟨S64, .i32⟩
  | .hbm, ⟨31, _⟩ => ⟨S64x1, .i32⟩
  | .hbm, ⟨32, _⟩ => ⟨S_, .i32⟩
  | .hbm, ⟨33, _⟩ => ⟨S64x1, .i32⟩
  | .hbm, ⟨34, _⟩ => ⟨S64x1, .i32⟩
  | .hbm, ⟨35, _⟩ => ⟨S192, .i32⟩
  | .hbm, ⟨36, _⟩ => ⟨S1x192, .i32⟩
  | .hbm, ⟨37, _⟩ => ⟨S_, .i32⟩
  | .hbm, ⟨38, _⟩ => ⟨S_, .i32⟩
  | .hbm, ⟨39, _⟩ => ⟨S1x192, .i32⟩
  | .hbm, ⟨40, _⟩ => ⟨S1x192, .i32⟩
  | .hbm, ⟨41, _⟩ => ⟨S1x192, .i32⟩
  | .hbm, ⟨42, _⟩ => ⟨S_, .i32⟩
  | .hbm, ⟨43, _⟩ => ⟨S1x192, .i32⟩
  | .hbm, ⟨44, _⟩ => ⟨S1x192, .i1⟩
  | .hbm, ⟨45, _⟩ => ⟨S1x192, .i32⟩
  | .hbm, ⟨46, _⟩ => ⟨S1x192, .i32⟩
  | .hbm, ⟨47, _⟩ => ⟨S_, .i32⟩
  | .hbm, ⟨48, _⟩ => ⟨S1x192, .i32⟩
  | .hbm, ⟨49, _⟩ => ⟨S1x192, .i1⟩
  | .hbm, ⟨50, _⟩ => ⟨S1x192, .i1⟩
  | .hbm, ⟨51, _⟩ => ⟨S_, .i32⟩
  | .hbm, ⟨52, _⟩ => ⟨S1x192, .i32⟩
  | .hbm, ⟨53, _⟩ => ⟨S1x192, .i32⟩
  | .hbm, ⟨54, _⟩ => ⟨S1x192, .i32⟩
  | .hbm, ⟨55, _⟩ => ⟨S64x192, .i32⟩
  | .hbm, ⟨56, _⟩ => ⟨S64x192, .i32⟩
  | .hbm, ⟨57, _⟩ => ⟨S64x192, .i32⟩
  | .hbm, ⟨58, _⟩ => ⟨S_, .i32⟩
  | .hbm, ⟨59, _⟩ => ⟨S64x192, .i32⟩
  | .hbm, ⟨60, _⟩ => ⟨S64x192, .i1⟩
  | .hbm, ⟨61, _⟩ => ⟨S1x64x1x1x1x192, .i1⟩
  | .hbm, ⟨62, _⟩ => ⟨S_, .f32⟩
  | .hbm, ⟨63, _⟩ => ⟨S_, .f32⟩
  | .hbm, ⟨64, _⟩ => ⟨S2x64x4x6x64x192, .i1⟩
  | .hbm, ⟨65, _⟩ => ⟨S2x64x4x6x64x192, .f32⟩
  | .hbm, ⟨66, _⟩ => ⟨S2x64x4x6x64x192, .f32⟩
  | .hbm, ⟨67, _⟩ => ⟨S4x6, .f32⟩
  | .hbm, ⟨68, _⟩ => ⟨S1x1x4x6x1x1, .f32⟩
  | .hbm, ⟨69, _⟩ => ⟨S_, .f32⟩
  | .hbm, ⟨70, _⟩ => ⟨S2x64x4x6x64, .f32⟩
  | .hbm, ⟨71, _⟩ => ⟨S2x64x4x6x64x1, .f32⟩
  | .hbm, ⟨72, _⟩ => ⟨S2x64x4x6x64x1, .f32⟩
  | .hbm, ⟨73, _⟩ => ⟨S2x64x4x6x64x1, .f32⟩
  | .hbm, ⟨74, _⟩ => ⟨S2x64x4x6x64x192, .f32⟩
  | .hbm, ⟨75, _⟩ => ⟨S2x64x4x6x64x192, .f32⟩
  | .hbm, ⟨76, _⟩ => ⟨S2x64x4x6x64x192, .f32⟩
  | .hbm, ⟨77, _⟩ => ⟨S_, .f32⟩
  | .hbm, ⟨78, _⟩ => ⟨S2x64x4x6x64, .f32⟩
  | .hbm, ⟨79, _⟩ => ⟨S2x64x4x6x64x1, .f32⟩
  | .hbm, ⟨80, _⟩ => ⟨S2x64x4x6x64x1, .f32⟩
  | .hbm, ⟨81, _⟩ => ⟨S2x64x4x6x64x1, .f32⟩
  | .hbm, ⟨82, _⟩ => ⟨S2x64x4x6x64x1, .f32⟩
  | .hbm, ⟨83, _⟩ => ⟨S2x64x4x6x64x1, .f32⟩
  | .hbm, ⟨84, _⟩ => ⟨S2x64x4x6x64x192, .f32⟩
  | .hbm, ⟨85, _⟩ => ⟨S2x64x4x6x64x192, .f32⟩
  | .hbm, ⟨86, _⟩ => ⟨S2x64x4x64x6x64, .f32⟩
  | .hbm, ⟨87, _⟩ => ⟨S2x64x64x4x6x64, .f32⟩
  | .hbm, ⟨88, _⟩ => ⟨S2x4096x1536, .f32⟩
  | .hbm, ⟨89, _⟩ => ⟨S2x4096x1536, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c_0 : Ref sig .tc := ⟨.hbm, 17, rfl⟩
abbrev main_call1_v0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_c_1 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_c_2 : Ref sig .tc := ⟨.hbm, 37, rfl⟩
abbrev main_call2_v0 : Ref sig .tc := ⟨.hbm, 38, rfl⟩
abbrev main_call2_v1 : Ref sig .tc := ⟨.hbm, 39, rfl⟩
abbrev main_call2_v2 : Ref sig .tc := ⟨.hbm, 40, rfl⟩
abbrev main_call2_v3 : Ref sig .tc := ⟨.hbm, 41, rfl⟩
abbrev main_call2_v4 : Ref sig .tc := ⟨.hbm, 42, rfl⟩
abbrev main_call2_v5 : Ref sig .tc := ⟨.hbm, 43, rfl⟩
abbrev main_call2_v6 : Ref sig .tc := ⟨.hbm, 44, rfl⟩
abbrev main_call2_v7 : Ref sig .tc := ⟨.hbm, 45, rfl⟩
abbrev main_call2_v8 : Ref sig .tc := ⟨.hbm, 46, rfl⟩
abbrev main_call2_c : Ref sig .tc := ⟨.hbm, 47, rfl⟩
abbrev main_call2_v9 : Ref sig .tc := ⟨.hbm, 48, rfl⟩
abbrev main_call2_v10 : Ref sig .tc := ⟨.hbm, 49, rfl⟩
abbrev main_call2_v11 : Ref sig .tc := ⟨.hbm, 50, rfl⟩
abbrev main_call2_c_0 : Ref sig .tc := ⟨.hbm, 51, rfl⟩
abbrev main_call2_v12 : Ref sig .tc := ⟨.hbm, 52, rfl⟩
abbrev main_call2_v13 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_c_3 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_4 : Ref sig .tc := ⟨.hbm, 62, rfl⟩
abbrev main_call3_v0 : Ref sig .tc := ⟨.hbm, 63, rfl⟩
abbrev main_call3_v1 : Ref sig .tc := ⟨.hbm, 64, rfl⟩
abbrev main_call3_v2 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_cst_5 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_cst_6 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩

abbrev nD : Nat := 1
abbrev τ : Topo := Topo.v7x

variable {F : FTy → Type} [FloatOps F]
-- ==== Kernel2.lean ====
abbrev S2x4096x2048 : Shape := ⟨3, ![2, 4096, 2048]⟩
abbrev S2048 : Shape := ⟨1, ![2048]⟩
abbrev S2048x8192 : Shape := ⟨2, ![2048, 8192]⟩
abbrev S8192x2048 : Shape := ⟨2, ![8192, 2048]⟩
abbrev S1x1x2048 : Shape := ⟨3, ![1, 1, 2048]⟩
abbrev S1x2048x8192 : Shape := ⟨3, ![1, 2048, 8192]⟩
abbrev S1x8192x2048 : Shape := ⟨3, ![1, 8192, 2048]⟩
abbrev S512x2048 : Shape := ⟨2, ![512, 2048]⟩
abbrev S1x2048x1024 : Shape := ⟨3, ![1, 2048, 1024]⟩
abbrev S1x1024x2048 : Shape := ⟨3, ![1, 1024, 2048]⟩
abbrev S1x2048 : Shape := ⟨2, ![1, 2048]⟩
abbrev S512 : Shape := ⟨1, ![512]⟩
abbrev S512x1 : Shape := ⟨2, ![512, 1]⟩
abbrev S2048x1024 : Shape := ⟨2, ![2048, 1024]⟩
abbrev S1024x2048 : Shape := ⟨2, ![1024, 2048]⟩
abbrev S512x1024 : Shape := ⟨2, ![512, 1024]⟩

abbrev nBuf : Space → Nat
  | .hbm => 13
  | .vmem => 11
  | .smem => 0
  | _ => 0

abbrev bufTy : (tb : Table) → Fin (tcTables nBuf tb) → BufTy
  | .hbm, ⟨0, _⟩ => ⟨S2x4096x2048, .f32⟩
  | .hbm, ⟨1, _⟩ => ⟨S2048, .f32⟩
  | .hbm, ⟨2, _⟩ => ⟨S2048x8192, .f32⟩
  | .hbm, ⟨3, _⟩ => ⟨S8192x2048, .f32⟩
  | .hbm, ⟨4, _⟩ => ⟨S2048, .f32⟩
  | .hbm, ⟨5, _⟩ => ⟨S8192x2048, .f32⟩
  | .hbm, ⟨6, _⟩ => ⟨S1x1x2048, .f32⟩
  | .hbm, ⟨7, _⟩ => ⟨S2048x8192, .bf16⟩
  | .hbm, ⟨8, _⟩ => ⟨S1x2048x8192, .bf16⟩
  | .hbm, ⟨9, _⟩ => ⟨S8192x2048, .bf16⟩
  | .hbm, ⟨10, _⟩ => ⟨S1x8192x2048, .bf16⟩
  | .hbm, ⟨11, _⟩ => ⟨S1x1x2048, .f32⟩
  | .hbm, ⟨12, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x1x2048, .f32⟩
  | .local _ .vmem, ⟨3, _⟩ => ⟨S1x2048x1024, .bf16⟩
  | .local _ .vmem, ⟨4, _⟩ => ⟨S1x2048x1024, .bf16⟩
  | .local _ .vmem, ⟨5, _⟩ => ⟨S1x1024x2048, .bf16⟩
  | .local _ .vmem, ⟨6, _⟩ => ⟨S1x1024x2048, .bf16⟩
  | .local _ .vmem, ⟨7, _⟩ => ⟨S1x1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S2x4096x2048 : Shape := ⟨3, ![2, 4096, 2048]⟩
abbrev S2048 : Shape := ⟨1, ![2048]⟩
abbrev S2048x8192 : Shape := ⟨2, ![2048, 8192]⟩
abbrev S8192x2048 : Shape := ⟨2, ![8192, 2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2x4096x8192 : Shape := ⟨3, ![2, 4096, 8192]⟩

abbrev nBuf : Space → Nat
  | .hbm => 45
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2048, .f32⟩
  | .hbm, ⟨2, _⟩ => ⟨S2048x8192, .f32⟩
  | .hbm, ⟨3, _⟩ => ⟨S8192x2048, .f32⟩
  | .hbm, ⟨4, _⟩ => ⟨S2048, .f32⟩
  | .hbm, ⟨5, _⟩ => ⟨S2x4096x2048, .f32⟩
  | .hbm, ⟨6, _⟩ => ⟨S_, .f32⟩
  | .hbm, ⟨7, _⟩ => ⟨S2x4096, .f32⟩
  | .hbm, ⟨8, _⟩ => ⟨S2x4096x1, .f32⟩
  | .hbm, ⟨9, _⟩ => ⟨S_, .f32⟩
  | .hbm, ⟨10, _⟩ => ⟨S2x4096x1, .f32⟩
  | .hbm, ⟨11, _⟩ => ⟨S2x4096x1, .f32⟩
  | .hbm, ⟨12, _⟩ => ⟨S_, .f32⟩
  | .hbm, ⟨13, _⟩ => ⟨S2x4096x1, .f32⟩
  | .hbm, ⟨14, _⟩ => ⟨S2x4096x1, .f32⟩
  | .hbm, ⟨15, _⟩ => ⟨S2x4096x1, .f32⟩
  | .hbm, ⟨16, _⟩ => ⟨S2x4096x2048, .f32⟩
  | .hbm, ⟨17, _⟩ => ⟨S2x4096x2048, .f32⟩
  | .hbm, ⟨18, _⟩ => ⟨S1x1x2048, .f32⟩
  | .hbm, ⟨19, _⟩ => ⟨S2x4096x2048, .f32⟩
  | .hbm, ⟨20, _⟩ => ⟨S2x4096x2048, .f32⟩
  | .hbm, ⟨21, _⟩ => ⟨S2x4096x8192, .f32⟩
  | .hbm, ⟨22, _⟩ => ⟨S_, .f32⟩
  | .hbm, ⟨23, _⟩ => ⟨S2x4096x8192, .f32⟩
  | .hbm, ⟨24, _⟩ => ⟨S2x4096x8192, .f32⟩
  | .hbm, ⟨25, _⟩ => ⟨S2x4096x8192, .f32⟩
  | .hbm, ⟨26, _⟩ => ⟨S2x4096x2048, .f32⟩
  | .hbm, ⟨27, _⟩ => ⟨S2x4096x2048, .f32⟩
  | .hbm, ⟨28, _⟩ => ⟨S_, .f32⟩
  | .hbm, ⟨29, _⟩ => ⟨S2x4096, .f32⟩
  | .hbm, ⟨30, _⟩ => ⟨S2x4096x1, .f32⟩
  | .hbm, ⟨31, _⟩ => ⟨S_, .f32⟩
  | .hbm, ⟨32, _⟩ => ⟨S2x4096x1, .f32⟩
  | .hbm, ⟨33, _⟩ => ⟨S2x4096x1, .f32⟩
  | .hbm, ⟨34, _⟩ => ⟨S_, .f32⟩
  | .hbm, ⟨35, _⟩ => ⟨S2x4096x1, .f32⟩
  | .hbm, ⟨36, _⟩ => ⟨S2x4096x1, .f32⟩
  | .hbm, ⟨37, _⟩ => ⟨S2x4096x1, .f32⟩
  | .hbm, ⟨38, _⟩ => ⟨S2x4096x2048, .f32⟩
  | .hbm, ⟨39, _⟩ => ⟨S2x4096x2048, .f32⟩
  | .hbm, ⟨40, _⟩ => ⟨S1x1x2048, .f32⟩
  | .hbm, ⟨41, _⟩ => ⟨S2x4096x2048, .f32⟩
  | .hbm, ⟨42, _⟩ => ⟨S2x4096x2048, .f32⟩
  | .hbm, ⟨43, _⟩ => ⟨S2x4096x2048, .f32⟩
  | .hbm, ⟨44, _⟩ => ⟨S8192x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩

abbrev nD : Nat := 1
abbrev τ : Topo := Topo.v7x

variable {F : FTy → Type} [FloatOps F]
-- ==== Kernel3.lean ====
abbrev S2x256x2048 : Shape := ⟨3, ![2, 256, 2048]⟩
abbrev S4x2048 : Shape := ⟨2, ![4, 2048]⟩
abbrev S4x2048x1024 : Shape := ⟨3, ![4, 2048, 1024]⟩
abbrev S512x2048 : Shape := ⟨2, ![512, 2048]⟩
abbrev S4x1x2048 : Shape := ⟨3, ![4, 1, 2048]⟩
abbrev S4x512x1024 : Shape := ⟨3, ![4, 512, 1024]⟩
abbrev S1x1x2048 : Shape := ⟨3, ![1, 1, 2048]⟩
abbrev S1x2048x1024 : Shape := ⟨3, ![1, 2048, 1024]⟩
abbrev S1x512x1024 : Shape := ⟨3, ![1, 512, 1024]⟩
abbrev S1x2048 : Shape := ⟨2, ![1, 2048]⟩
abbrev S512 : Shape := ⟨1, ![512]⟩
abbrev S512x1 : Shape := ⟨2, ![512, 1]⟩
abbrev S2048x1024 : Shape := ⟨2, ![2048, 1024]⟩
abbrev S512x1024 : Shape := ⟨2, ![512, 1024]⟩
abbrev S4x2x256x1024 : Shape := ⟨4, ![4, 2, 256, 1024]⟩
abbrev S4x2x256x512 : Shape := ⟨4, ![4, 2, 256, 512]⟩
abbrev S4x2x256x4x128 : Shape := ⟨5, ![4, 2, 256, 4, 128]⟩

abbrev nBuf : Space → Nat
  | .hbm => 12
  | .vmem => 8
  | .smem => 0
  | _ => 0

abbrev bufTy : (tb : Table) → Fin (tcTables nBuf tb) → BufTy
  | .hbm, ⟨0, _⟩ => ⟨S2x256x2048, .f32⟩
  | .hbm, ⟨1, _⟩ => ⟨S4x2048, .f32⟩
  | .hbm, ⟨2, _⟩ => ⟨S4x2048x1024, .f32⟩
  | .hbm, ⟨3, _⟩ => ⟨S512x2048, .f32⟩
  | .hbm, ⟨4, _⟩ => ⟨S4x1x2048, .f32⟩
  | .hbm, ⟨5, _⟩ => ⟨S4x2048x1024, .bf16⟩
  | .hbm, ⟨6, _⟩ => ⟨S4x512x1024, .f32⟩
  | .hbm, ⟨7, _⟩ => ⟨S4x2x256x1024, .f32⟩
  | .hbm, ⟨8, _⟩ => ⟨S4x2x256x512, .f32⟩
  | .hbm, ⟨9, _⟩ => ⟨S4x2x256x4x128, .f32⟩
  | .hbm, ⟨10, _⟩ => ⟨S4x2x256x512, .f32⟩
  | .hbm, ⟨11, _⟩ => ⟨S4x2x256x4x128, .f32⟩
  | .local _ .vmem, ⟨0, _⟩ => ⟨S512x2048, .f32⟩
  | .local _ .vmem, ⟨1, _⟩ => ⟨S1x1x2048, .f32⟩
  | .local _ .vmem, ⟨2, _⟩ => ⟨S1x1x2048, .f32⟩
  | .local _ .vmem, ⟨3, _⟩ => ⟨S1x2048x1024, .bf16⟩
  | .local _ .vmem, ⟨4, _⟩ => ⟨S1x2048x1024, .bf16⟩
  | .local _ .vmem, ⟨5, _⟩ => ⟨S1x512x1024, .f32⟩
  | .local _ .vmem, ⟨6, _⟩ => ⟨S1x512x1024, .f32⟩
  | .local _ .vmem, ⟨7, _⟩ => ⟨S512x2048, .bf16⟩
  | _, _ => ⟨S2x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S2x256x2048 : Shape := ⟨3, ![2, 256, 2048]⟩
abbrev S4x2048 : Shape := ⟨2, ![4, 2048]⟩
abbrev S4x2048x1024 : Shape := ⟨3, ![4, 2048, 1024]⟩
abbrev S1x2x256x2048 : Shape := ⟨4, ![1, 2, 256, 2048]⟩
abbrev S4x1x1x2048 : Shape := ⟨4, ![4, 1, 1, 2048]⟩
abbrev S_ : Shape := ⟨0, ![]⟩
abbrev S1x2x256 : Shape := ⟨3, ![1, 2, 256]⟩
abbrev S1x2x256x1 : Shape := ⟨4, ![1, 2, 256, 1]⟩
abbrev S4x2x256x2048 : Shape := ⟨4, ![4, 2, 256, 2048]⟩
abbrev S4x2x256x1024 : Shape := ⟨4, ![4, 2, 256, 1024]⟩
abbrev S4x2x256x512 : Shape := ⟨4, ![4, 2, 256, 512]⟩
abbrev S4x2x256x4x128 : Shape := ⟨5, ![4, 2, 256, 4, 128]⟩

abbrev nBuf : Space → Nat
  | .hbm => 26
  | .vmem => 0
  | .smem => 0
  | _ => 0

abbrev bufTy : (tb : Table) → Fin (tcTables nBuf tb) → BufTy
  | .hbm, ⟨0, _⟩ => ⟨S2x256x2048, .f32⟩
  | .hbm, ⟨1, _⟩ => ⟨S4x2048, .f32⟩
  | .hbm, ⟨2, _⟩ => ⟨S4x2048x1024, .f32⟩
  | .hbm, ⟨3, _⟩ => ⟨S1x2x256x2048, .f32⟩
  | .hbm, ⟨4, _⟩ => ⟨S4x1x1x2048, .f32⟩
  | .hbm, ⟨5, _⟩ => ⟨S1x2x256x2048, .f32⟩
  | .hbm, ⟨6, _⟩ => ⟨S_, .f32⟩
  | .hbm, ⟨7, _⟩ => ⟨S1x2x256, .f32⟩
  | .hbm, ⟨8, _⟩ => ⟨S1x2x256x1, .f32⟩
  | .hbm, ⟨9, _⟩ => ⟨S_, .f32⟩
  | .hbm, ⟨10, _⟩ => ⟨S1x2x256x1, .f32⟩
  | .hbm, ⟨11, _⟩ => ⟨S1x2x256x1, .f32⟩
  | .hbm, ⟨12, _⟩ => ⟨S_, .f32⟩
  | .hbm, ⟨13, _⟩ => ⟨S1x2x256x1, .f32⟩
  | .hbm, ⟨14, _⟩ => ⟨S1x2x256x1, .f32⟩
  | .hbm, ⟨15, _⟩ => ⟨S1x2x256x1, .f32⟩
  | .hbm, ⟨16, _⟩ => ⟨S1x2x256x2048, .f32⟩
  | .hbm, ⟨17, _⟩ => ⟨S1x2x256x2048, .f32⟩
  | .hbm, ⟨18, _⟩ => ⟨S4x2x256x2048, .f32⟩
  | .hbm, ⟨19, _⟩ => ⟨S4x2x256x2048, .f32⟩
  | .hbm, ⟨20, _⟩ => ⟨S4x2x256x2048, .f32⟩
  | .hbm, ⟨21, _⟩ => ⟨S4x2x256x1024, .f32⟩
  | .hbm, ⟨22, _⟩ => ⟨S4x2x256x512, .f32⟩
  | .hbm, ⟨23, _⟩ => ⟨S4x2x256x4x128, .f32⟩
  | .hbm, ⟨24, _⟩ => ⟨S4x2x256x512, .f32⟩
  | .hbm, ⟨25, _⟩ => ⟨S4x2x256x4x128, .f32⟩
  | _, _ => ⟨S2x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== Kernel4.lean ====
abbrev S2x4096x2048 : Shape := ⟨3, ![2, 4096, 2048]⟩
abbrev S2048 : Shape := ⟨1, ![2048]⟩
abbrev S2048x5472 : Shape := ⟨2, ![2048, 5472]⟩
abbrev S8192x2048 : Shape := ⟨2, ![8192, 2048]⟩
abbrev S1x1x2048 : Shape := ⟨3, ![1, 1, 2048]⟩
abbrev S_ : Shape := ⟨0, ![]⟩
abbrev S2048x5632 : Shape := ⟨2, ![2048, 5632]⟩
abbrev S2048x4960 : Shape := ⟨2, ![2048, 4960]⟩
abbrev S2048x512 : Shape := ⟨2, ![2048, 512]⟩
abbrev S1x2048x5632 : Shape := ⟨3, ![1, 2048, 5632]⟩
abbrev S8192x5632 : Shape := ⟨2, ![8192, 5632]⟩
abbrev S1024x2048 : Shape := ⟨2, ![1024, 2048]⟩
abbrev S1x2048x1408 : Shape := ⟨3, ![1, 2048, 1408]⟩
abbrev S1024x1408 : Shape := ⟨2, ![1024, 1408]⟩
abbrev S1x2048 : Shape := ⟨2, ![1, 2048]⟩
abbrev S1024 : Shape := ⟨1, ![1024]⟩
abbrev S1024x1 : Shape := ⟨2, ![1024, 1]⟩
abbrev S2048x1408 : Shape := ⟨2, ![2048, 1408]⟩
abbrev S2x4096x5632 : Shape := ⟨3, ![2, 4096, 5632]⟩
abbrev S2x4096x4960 : Shape := ⟨3, ![2, 4096, 4960]⟩
abbrev S2x4096x512 : Shape := ⟨3, ![2, 4096, 512]⟩

abbrev nBuf : Space → Nat
  | .hbm => 21
  | .vmem => 8
  | .smem => 0
  | _ => 0

abbrev bufTy : (tb : Table) → Fin (tcTables nBuf tb) → BufTy
  | .hbm, ⟨0, _⟩ => ⟨S2x4096x2048, .f32⟩
  | .hbm, ⟨1, _⟩ => ⟨S2048, .f32⟩
  | .hbm, ⟨2, _⟩ => ⟨S2048x5472, .f32⟩
  | .hbm, ⟨3, _⟩ => ⟨S8192x2048, .f32⟩
  | .hbm, ⟨4, _⟩ => ⟨S1x1x2048, .f32⟩
  | .hbm, ⟨5, _⟩ => ⟨S2048x5472, .bf16⟩
  | .hbm, ⟨6, _⟩ => ⟨S_, .bf16⟩
  | .hbm, ⟨7, _⟩ => ⟨S2048x5632, .bf16⟩
  | .hbm, ⟨8, _⟩ => ⟨S2048x4960, .bf16⟩
  | .hbm, ⟨9, _⟩ => ⟨S_, .i32⟩
  | .hbm, ⟨10, _⟩ => ⟨S_, .i32⟩
  | .hbm, ⟨11, _⟩ => ⟨S2048x5632, .bf16⟩
  | .hbm, ⟨12, _⟩ => ⟨S2048x512, .bf16⟩
  | .hbm, ⟨13, _⟩ => ⟨S_, .i32⟩
  | .hbm, ⟨14, _⟩ => ⟨S_, .i32⟩
  | .hbm, ⟨15, _⟩ => ⟨S2048x5632, .bf16⟩
  | .hbm, ⟨16, _⟩ => ⟨S1x2048x5632, .bf16⟩
  | .hbm, ⟨17, _⟩ => ⟨S8192x5632, .f32⟩
  | .hbm, ⟨18, _⟩ => ⟨S2x4096x5632, .f32⟩
  | .hbm, ⟨19, _⟩ => ⟨S2x4096x4960, .f32⟩
  | .hbm, ⟨20, _⟩ => ⟨S2x4096x512, .f32⟩
  | .local _ .vmem, ⟨0, _⟩ => ⟨S1024x2048, .f32⟩
  | .local _ .vmem, ⟨1, _⟩ => ⟨S1024x2048, .f32⟩
  | .local _ .vmem, ⟨2, _⟩ => ⟨S1x1x2048, .f32⟩
  | .local _ .vmem, ⟨3, _⟩ => ⟨S1x2048x1408, .bf16⟩
  | .local _ .vmem, ⟨4, _⟩ => ⟨S1x2048x1408, .bf16⟩
  | .local _ .vmem, ⟨5, _⟩ => ⟨S1024x1408, .f32⟩
  | .local _ .vmem, ⟨6, _⟩ => ⟨S1024x1408, .f32⟩
  | .local _ .vmem, ⟨7, _⟩ => ⟨S1024x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_c_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S2x4096x2048 : Shape := ⟨3, ![2, 4096, 2048]⟩
abbrev S2048 : Shape := ⟨1, ![2048]⟩
abbrev S2048x5472 : Shape := ⟨2, ![2048, 5472]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2x4096x5472 : Shape := ⟨3, ![2, 4096, 5472]⟩
abbrev S2x4096x4960 : Shape := ⟨3, ![2, 4096, 4960]⟩
abbrev S2x4096x512 : Shape := ⟨3, ![2, 4096, 512]⟩

abbrev nBuf : Space → Nat
  | .hbm => 22
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2048, .f32⟩
  | .hbm, ⟨2, _⟩ => ⟨S2048x5472, .f32⟩
  | .hbm, ⟨3, _⟩ => ⟨S2x4096x2048, .f32⟩
  | .hbm, ⟨4, _⟩ => ⟨S_, .f32⟩
  | .hbm, ⟨5, _⟩ => ⟨S2x4096, .f32⟩
  | .hbm, ⟨6, _⟩ => ⟨S2x4096x1, .f32⟩
  | .hbm, ⟨7, _⟩ => ⟨S_, .f32⟩
  | .hbm, ⟨8, _⟩ => ⟨S2x4096x1, .f32⟩
  | .hbm, ⟨9, _⟩ => ⟨S2x4096x1, .f32⟩
  | .hbm, ⟨10, _⟩ => ⟨S_, .f32⟩
  | .hbm, ⟨11, _⟩ => ⟨S2x4096x1, .f32⟩
  | .hbm, ⟨12, _⟩ => ⟨S2x4096x1, .f32⟩
  | .hbm, ⟨13, _⟩ => ⟨S2x4096x1, .f32⟩
  | .hbm, ⟨14, _⟩ => ⟨S2x4096x2048, .f32⟩
  | .hbm, ⟨15, _⟩ => ⟨S2x4096x2048, .f32⟩
  | .hbm, ⟨16, _⟩ => ⟨S1x1x2048, .f32⟩
  | .hbm, ⟨17, _⟩ => ⟨S2x4096x2048, .f32⟩
  | .hbm, ⟨18, _⟩ => ⟨S2x4096x2048, .f32⟩
  | .hbm, ⟨19, _⟩ => ⟨S2x4096x5472, .f32⟩
  | .hbm, ⟨20, _⟩ => ⟨S2x4096x4960, .f32⟩
  | .hbm, ⟨21, _⟩ => ⟨S2x4096x512, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel5.lean ====
abbrev S8192x1536 : Shape := ⟨2, ![8192, 1536]⟩
abbrev S8192x512 : Shape := ⟨2, ![8192, 512]⟩
abbrev S2048x2048 : Shape := ⟨2, ![2048, 2048]⟩
abbrev S2048 : Shape := ⟨1, ![2048]⟩
abbrev S2x4096x2048 : Shape := ⟨3, ![2, 4096, 2048]⟩
abbrev S1x2048x2048 : Shape := ⟨3, ![1, 2048, 2048]⟩
abbrev S1x1x2048 : Shape := ⟨3, ![1, 1, 2048]⟩
abbrev S8192x2048 : Shape := ⟨2, ![8192, 2048]⟩
abbrev S512x1536 : Shape := ⟨2, ![512, 1536]⟩
abbrev S512x512 : Shape := ⟨2, ![512, 512]⟩
abbrev S1x1536x2048 : Shape := ⟨3, ![1, 1536, 2048]⟩
abbrev S1x512x2048 : Shape := ⟨3, ![1, 512, 2048]⟩
abbrev S512x2048 : Shape := ⟨2, ![512, 2048]⟩
abbrev S1536x2048 : Shape := ⟨2, ![1536, 2048]⟩
abbrev S1x2048 : Shape := ⟨2, ![1, 2048]⟩
abbrev S512 : Shape := ⟨1, ![512]⟩
abbrev S512x1 : Shape := ⟨2, ![512, 1]⟩

abbrev nBuf : Space → Nat
  | .hbm => 10
  | .vmem => 11
  | .smem => 0
  | _ => 0

abbrev bufTy : (tb : Table) → Fin (tcTables nBuf tb) → BufTy
  | .hbm, ⟨0, _⟩ => ⟨S8192x1536, .bf16⟩
  | .hbm, ⟨1, _⟩ => ⟨S8192x512, .bf16⟩
  | .hbm, ⟨2, _⟩ => ⟨S2048x2048, .f32⟩
  | .hbm, ⟨3, _⟩ => ⟨S2048, .f32⟩
  | .hbm, ⟨4, _⟩ => ⟨S2x4096x2048, .f32⟩
  | .hbm, ⟨5, _⟩ => ⟨S2048x2048, .bf16⟩
  | .hbm, ⟨6, _⟩ => ⟨S1x2048x2048, .bf16⟩
  | .hbm, ⟨7, _⟩ => ⟨S1x1x2048, .f32⟩
  | .hbm, ⟨8, _⟩ => ⟨S8192x2048, .f32⟩
  | .hbm, ⟨9, _⟩ => ⟨S8192x2048, .f32⟩
  | .local _ .vmem, ⟨0, _⟩ => ⟨S512x1536, .bf16⟩
  | .local _ .vmem, ⟨1, _⟩ => ⟨S512x1536, .bf16⟩
  | .local _ .vmem, ⟨2, _⟩ => ⟨S512x512, .bf16⟩
  | .local _ .vmem, ⟨3, _⟩ => ⟨S512x512, .bf16⟩
  | .local _ .vmem, ⟨4, _⟩ => ⟨S1x1536x2048, .bf16⟩
  | .local _ .vmem, ⟨5, _⟩ => ⟨S1x512x2048, .bf16⟩
  | .local _ .vmem, ⟨6, _⟩ => ⟨S1x1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | _, _ => ⟨S8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c3_i32 : BitVec 32 := 3#32
  let c0_i32_0 : BitVec 32 := 0#32
  let c0_i32_1 : BitVec 32 := 0#32
  ![c0_i32.toNat, c3_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1536x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference5Ideal.lean ====
abbrev S8192x1536 : Shape := ⟨2, ![8192, 1536]⟩
abbrev S8192x512 : Shape := ⟨2, ![8192, 512]⟩
abbrev S2048x2048 : Shape := ⟨2, ![2048, 2048]⟩
abbrev S2048 : Shape := ⟨1, ![2048]⟩
abbrev S2x4096x2048 : Shape := ⟨3, ![2, 4096, 2048]⟩
abbrev S8192x2048 : Shape := ⟨2, ![8192, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 25
  | .vmem => 0
  | .smem => 0
  | _ => 0

abbrev bufTy : (tb : Table) → Fin (tcTables nBuf tb) → BufTy
  | .hbm, ⟨0, _⟩ => ⟨S8192x1536, .bf16⟩
  | .hbm, ⟨1, _⟩ => ⟨S8192x512, .bf16⟩
  | .hbm, ⟨2, _⟩ => ⟨S2048x2048, .f32⟩
  | .hbm, ⟨3, _⟩ => ⟨S2048, .f32⟩
  | .hbm, ⟨4, _⟩ => ⟨S2x4096x2048, .f32⟩
  | .hbm, ⟨5, _⟩ => ⟨S8192x2048, .bf16⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S1x2048, .f32⟩
  | .hbm, ⟨22, _⟩ => ⟨S8192x2048, .f32⟩
  | .hbm, ⟨23, _⟩ => ⟨S8192x2048, .f32⟩
  | .hbm, ⟨24, _⟩ => ⟨S8192x2048, .f32⟩
  | _, _ => ⟨S8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]
-- ==== Kernel6.lean ====
abbrev S2x4096x2048 : Shape := ⟨3, ![2, 4096, 2048]⟩
abbrev S2048 : Shape := ⟨1, ![2048]⟩
abbrev S2048x2048 : Shape := ⟨2, ![2048, 2048]⟩
abbrev S8192x2048 : Shape := ⟨2, ![8192, 2048]⟩
abbrev S1x1x2048 : Shape := ⟨3, ![1, 1, 2048]⟩
abbrev S1x2048x2048 : Shape := ⟨3, ![1, 2048, 2048]⟩
abbrev S1024x2048 : Shape := ⟨2, ![1024, 2048]⟩
abbrev S1x2048x1024 : Shape := ⟨3, ![1, 2048, 1024]⟩
abbrev S1024x1024 : Shape := ⟨2, ![1024, 1024]⟩
abbrev S1x2048 : Shape := ⟨2, ![1, 2048]⟩
abbrev S1024 : Shape := ⟨1, ![1024]⟩
abbrev S1024x1 : Shape := ⟨2, ![1024, 1]⟩
abbrev S2048x1024 : Shape := ⟨2, ![2048, 1024]⟩

abbrev nBuf : Space → Nat
  | .hbm => 8
  | .vmem => 8
  | .smem => 0
  | _ => 0

abbrev bufTy : (tb : Table) → Fin (tcTables nBuf tb) → BufTy
  | .hbm, ⟨0, _⟩ => ⟨S2x4096x2048, .f32⟩
  | .hbm, ⟨1, _⟩ => ⟨S2048, .f32⟩
  | .hbm, ⟨2, _⟩ => ⟨S2048x2048, .f32⟩
  | .hbm, ⟨3, _⟩ => ⟨S8192x2048, .f32⟩
  | .hbm, ⟨4, _⟩ => ⟨S1x1x2048, .f32⟩
  | .hbm, ⟨5, _⟩ => ⟨S2048x2048, .bf16⟩
  | .hbm, ⟨6, _⟩ => ⟨S1x2048x2048, .bf16⟩
  | .hbm, ⟨7, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1x1x2048, .f32⟩
  | .local _ .vmem, ⟨3, _⟩ => ⟨S1x2048x1024, .bf16⟩
  | .local _ .vmem, ⟨4, _⟩ => ⟨S1x2048x1024, .bf16⟩
  | .local _ .vmem, ⟨5, _⟩ => ⟨S1024x1024, .f32⟩
  | .local _ .vmem, ⟨6, _⟩ => ⟨S1024x1024, .f32⟩
  | .local _ .vmem, ⟨7, _⟩ => ⟨S1024x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S2x4096x2048 : Shape := ⟨3, ![2, 4096, 2048]⟩
abbrev S2048 : Shape := ⟨1, ![2048]⟩
abbrev S2048x2048 : Shape := ⟨2, ![2048, 2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S8192x2048 : Shape := ⟨2, ![8192, 2048]⟩

abbrev nBuf : Space → Nat
  | .hbm => 21
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2048, .f32⟩
  | .hbm, ⟨2, _⟩ => ⟨S2048x2048, .f32⟩
  | .hbm, ⟨3, _⟩ => ⟨S2x4096x2048, .f32⟩
  | .hbm, ⟨4, _⟩ => ⟨S_, .f32⟩
  | .hbm, ⟨5, _⟩ => ⟨S2x4096, .f32⟩
  | .hbm, ⟨6, _⟩ => ⟨S2x4096x1, .f32⟩
  | .hbm, ⟨7, _⟩ => ⟨S_, .f32⟩
  | .hbm, ⟨8, _⟩ => ⟨S2x4096x1, .f32⟩
  | .hbm, ⟨9, _⟩ => ⟨S2x4096x1, .f32⟩
  | .hbm, ⟨10, _⟩ => ⟨S_, .f32⟩
  | .hbm, ⟨11, _⟩ => ⟨S2x4096x1, .f32⟩
  | .hbm, ⟨12, _⟩ => ⟨S2x4096x1, .f32⟩
  | .hbm, ⟨13, _⟩ => ⟨S2x4096x1, .f32⟩
  | .hbm, ⟨14, _⟩ => ⟨S2x4096x2048, .f32⟩
  | .hbm, ⟨15, _⟩ => ⟨S2x4096x2048, .f32⟩
  | .hbm, ⟨16, _⟩ => ⟨S1x1x2048, .f32⟩
  | .hbm, ⟨17, _⟩ => ⟨S2x4096x2048, .f32⟩
  | .hbm, ⟨18, _⟩ => ⟨S2x4096x2048, .f32⟩
  | .hbm, ⟨19, _⟩ => ⟨S2x4096x2048, .f32⟩
  | .hbm, ⟨20, _⟩ => ⟨S8192x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel7.lean ====
abbrev S2x4096x2048 : Shape := ⟨3, ![2, 4096, 2048]⟩
abbrev S2x256x1024 : Shape := ⟨3, ![2, 256, 1024]⟩
abbrev S8192x2048 : Shape := ⟨2, ![8192, 2048]⟩
abbrev S1x2x256x1024 : Shape := ⟨4, ![1, 2, 256, 1024]⟩
abbrev S8192x512 : Shape := ⟨2, ![8192, 512]⟩
abbrev S512x512 : Shape := ⟨2, ![512, 512]⟩
abbrev S1x1x256x512 : Shape := ⟨4, ![1, 1, 256, 512]⟩
abbrev S512x128 : Shape := ⟨2, ![512, 128]⟩
abbrev S1x1x256x128 : Shape := ⟨4, ![1, 1, 256, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 6
  | .vmem => 8
  | .smem => 0
  | _ => 0

abbrev bufTy : (tb : Table) → Fin (tcTables nBuf tb) → BufTy
  | .hbm, ⟨0, _⟩ => ⟨S2x4096x2048, .f32⟩
  | .hbm, ⟨1, _⟩ => ⟨S2x256x1024, .f32⟩
  | .hbm, ⟨2, _⟩ => ⟨S8192x2048, .f32⟩
  | .hbm, ⟨3, _⟩ => ⟨S1x2x256x1024, .f32⟩
  | .hbm, ⟨4, _⟩ => ⟨S1x2x256x1024, .f32⟩
  | .hbm, ⟨5, _⟩ => ⟨S8192x512, .bf16⟩
  | .local _ .vmem, ⟨0, _⟩ => ⟨S512x512, .f32⟩
  | .local _ .vmem, ⟨1, _⟩ => ⟨S512x512, .f32⟩
  | .local _ .vmem, ⟨2, _⟩ => ⟨S1x1x256x512, .f32⟩
  | .local _ .vmem, ⟨3, _⟩ => ⟨S1x1x256x512, .f32⟩
  | .local _ .vmem, ⟨4, _⟩ => ⟨S1x1x256x512, .f32⟩
  | .local _ .vmem, ⟨5, _⟩ => ⟨S1x1x256x512, .f32⟩
  | .local _ .vmem, ⟨6, _⟩ => ⟨S512x512, .bf16⟩
  | .local _ .vmem, ⟨7, _⟩ => ⟨S512x512, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![c0_i32_4.toNat, v16.toNat, c0_i32_5.toNat, c0_i32_6.toNat]

def cc0_transform_2 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c1_i32_6 : BitVec 32 := 1#32
  let c0_i32_7 : BitVec 32 := 0#32
  ![c0_i32_4.toNat, v16.toNat, c0_i32_5.toNat, c1_i32_6.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference7Ideal.lean ====
abbrev S2x4096x2048 : Shape := ⟨3, ![2, 4096, 2048]⟩
abbrev S2x256x1024 : Shape := ⟨3, ![2, 256, 1024]⟩
abbrev S2x256x512 : Shape := ⟨3, ![2, 256, 512]⟩
abbrev S2x256x4x128 : Shape := ⟨4, ![2, 256, 4, 128]⟩
abbrev S2x4096x512 : Shape := ⟨3, ![2, 4096, 512]⟩
abbrev S2x4096x4x128 : Shape := ⟨4, ![2, 4096, 4, 128]⟩
abbrev S2x4x4096x256 : Shape := ⟨4, ![2, 4, 4096, 256]⟩
abbrev S_ : Shape := ⟨0, ![]⟩
abbrev S2x4x4096 : Shape := ⟨3, ![2, 4, 4096]⟩
abbrev S2x4x4096x1 : Shape := ⟨4, ![2, 4, 4096, 1]⟩
abbrev S2x4x128x4096 : Shape := ⟨4, ![2, 4, 128, 4096]⟩
abbrev S8192x512 : Shape := ⟨2, ![8192, 512]⟩

abbrev nBuf : Space → Nat
  | .hbm => 31
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2x256x1024, .f32⟩
  | .hbm, ⟨2, _⟩ => ⟨S2x256x512, .f32⟩
  | .hbm, ⟨3, _⟩ => ⟨S2x256x4x128, .f32⟩
  | .hbm, ⟨4, _⟩ => ⟨S2x256x512, .f32⟩
  | .hbm, ⟨5, _⟩ => ⟨S2x256x4x128, .f32⟩
  | .hbm, ⟨6, _⟩ => ⟨S2x4096x512, .f32⟩
  | .hbm, ⟨7, _⟩ => ⟨S2x4096x4x128, .f32⟩
  | .hbm, ⟨8, _⟩ => ⟨S2x4x4096x256, .f32⟩
  | .hbm, ⟨9, _⟩ => ⟨S_, .f32⟩
  | .hbm, ⟨10, _⟩ => ⟨S2x4x4096x256, .f32⟩
  | .hbm, ⟨11, _⟩ => ⟨S2x4x4096x256, .f32⟩
  | .hbm, ⟨12, _⟩ => ⟨S_, .f32⟩
  | .hbm, ⟨13, _⟩ => ⟨S2x4x4096, .f32⟩
  | .hbm, ⟨14, _⟩ => ⟨S_, .f32⟩
  | .hbm, ⟨15, _⟩ => ⟨S2x4x4096, .f32⟩
  | .hbm, ⟨16, _⟩ => ⟨S2x4x4096, .f32⟩
  | .hbm, ⟨17, _⟩ => ⟨S2x4x4096x1, .f32⟩
  | .hbm, ⟨18, _⟩ => ⟨S2x4x4096x256, .f32⟩
  | .hbm, ⟨19, _⟩ => ⟨S2x4x4096x256, .f32⟩
  | .hbm, ⟨20, _⟩ => ⟨S2x4x4096x256, .f32⟩
  | .hbm, ⟨21, _⟩ => ⟨S_, .f32⟩
  | .hbm, ⟨22, _⟩ => ⟨S2x4x4096, .f32⟩
  | .hbm, ⟨23, _⟩ => ⟨S2x4x4096x1, .f32⟩
  | .hbm, ⟨24, _⟩ => ⟨S2x4x4096x256, .f32⟩
  | .hbm, ⟨25, _⟩ => ⟨S2x4x4096x256, .f32⟩
  | .hbm, ⟨26, _⟩ => ⟨S2x4x128x4096, .f32⟩
  | .hbm, ⟨27, _⟩ => ⟨S2x4096x4x128, .f32⟩
  | .hbm, ⟨28, _⟩ => ⟨S2x4096x512, .f32⟩
  | .hbm, ⟨29, _⟩ => ⟨S2x4096x512, .bf16⟩
  | .hbm, ⟨30, _⟩ => ⟨S8192x512, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩

abbrev nD : Nat := 1
abbrev τ : Topo := Topo.v7x

variable {F : FTy → Type} [FloatOps F]
-- ==== Kernel8.lean ====
abbrev S2x4096x2048 : Shape := ⟨3, ![2, 4096, 2048]⟩
abbrev S2048 : Shape := ⟨1, ![2048]⟩
abbrev S2048x512 : Shape := ⟨2, ![2048, 512]⟩
abbrev S2048x256 : Shape := ⟨2, ![2048, 256]⟩
abbrev S2048x4x1x64 : Shape := ⟨4, ![2048, 4, 1, 64]⟩
abbrev S2048x4x2x64 : Shape := ⟨4, ![2048, 4, 2, 64]⟩
abbrev S2048x1024 : Shape := ⟨2, ![2048, 1024]⟩
abbrev S1x2048x1024 : Shape := ⟨3, ![1, 2048, 1024]⟩
abbrev S8192x2048 : Shape := ⟨2, ![8192, 2048]⟩
abbrev S1x1x2048 : Shape := ⟨3, ![1, 1, 2048]⟩
abbrev S8192x1024 : Shape := ⟨2, ![8192, 1024]⟩
abbrev S1024x2048 : Shape := ⟨2, ![1024, 2048]⟩
abbrev S1024x1024 : Shape := ⟨2, ![1024, 1024]⟩
abbrev S1x2048 : Shape := ⟨2, ![1, 2048]⟩
abbrev S1024 : Shape := ⟨1, ![1024]⟩
abbrev S1024x1 : Shape := ⟨2, ![1024, 1]⟩
abbrev S2x4096x1024 : Shape := ⟨3, ![2, 4096, 1024]⟩
abbrev S2x4096x512 : Shape := ⟨3, ![2, 4096, 512]⟩
abbrev S2x4096x4x2x64 : Shape := ⟨5, ![2, 4096, 4, 2, 64]⟩
abbrev S2x4096x4x1x64 : Shape := ⟨5, ![2, 4096, 4, 1, 64]⟩
abbrev S2x4096x4x64 : Shape := ⟨4, ![2, 4096, 4, 64]⟩

abbrev nBuf : Space → Nat
  | .hbm => 26
  | .vmem => 7
  | .smem => 0
  | _ => 0

abbrev bufTy : (tb : Table) → Fin (tcTables nBuf tb) → BufTy
  | .hbm, ⟨0, _⟩ => ⟨S2x4096x2048, .f32⟩
  | .hbm, ⟨1, _⟩ => ⟨S2048, .f32⟩
  | .hbm, ⟨2, _⟩ => ⟨S2048x512, .f32⟩
  | .hbm, ⟨3, _⟩ => ⟨S2048x256, .f32⟩
  | .hbm, ⟨4, _⟩ => ⟨S2048x4x1x64, .f32⟩
  | .hbm, ⟨5, _⟩ => ⟨S2048x4x2x64, .f32⟩
  | .hbm, ⟨6, _⟩ => ⟨S2048x512, .f32⟩
  | .hbm, ⟨7, _⟩ => ⟨S2048x256, .f32⟩
  | .hbm, ⟨8, _⟩ => ⟨S2048x4x1x64, .f32⟩
  | .hbm, ⟨9, _⟩ => ⟨S2048x4x2x64, .f32⟩
  | .hbm, ⟨10, _⟩ => ⟨S2048x512, .f32⟩
  | .hbm, ⟨11, _⟩ => ⟨S2048x1024, .f32⟩
  | .hbm, ⟨12, _⟩ => ⟨S2048x1024, .bf16⟩
  | .hbm, ⟨13, _⟩ => ⟨S1x2048x1024, .bf16⟩
  | .hbm, ⟨14, _⟩ => ⟨S8192x2048, .f32⟩
  | .hbm, ⟨15, _⟩ => ⟨S1x1x2048, .f32⟩
  | .hbm, ⟨16, _⟩ => ⟨S8192x1024, .f32⟩
  | .hbm, ⟨17, _⟩ => ⟨S2x4096x1024, .f32⟩
  | .hbm, ⟨18, _⟩ => ⟨S2x4096x512, .f32⟩
  | .hbm, ⟨19, _⟩ => ⟨S2x4096x4x2x64, .f32⟩
  | .hbm, ⟨20, _⟩ => ⟨S2x4096x4x1x64, .f32⟩
  | .hbm, ⟨21, _⟩ => ⟨S2x4096x4x64, .f32⟩
  | .hbm, ⟨22, _⟩ => ⟨S2x4096x512, .f32⟩
  | .hbm, ⟨23, _⟩ => ⟨S2x4096x4x2x64, .f32⟩
  | .hbm, ⟨24, _⟩ => ⟨S2x4096x4x1x64, .f32⟩
  | .hbm, ⟨25, _⟩ => ⟨S2x4096x4x64, .f32⟩
  | .local _ .vmem, ⟨0, _⟩ => ⟨S1024x2048, .f32⟩
  | .local _ .vmem, ⟨1, _⟩ => ⟨S1024x2048, .f32⟩
  | .local _ .vmem, ⟨2, _⟩ => ⟨S1x1x2048, .f32⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference8Ideal.lean ====
abbrev S2x4096x2048 : Shape := ⟨3, ![2, 4096, 2048]⟩
abbrev S2048 : Shape := ⟨1, ![2048]⟩
abbrev S2048x512 : Shape := ⟨2, ![2048, 512]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2x4096x512 : Shape := ⟨3, ![2, 4096, 512]⟩
abbrev S2x4096x256 : Shape := ⟨3, ![2, 4096, 256]⟩
abbrev S2x4096x4x64 : Shape := ⟨4, ![2, 4096, 4, 64]⟩

abbrev nBuf : Space → Nat
  | .hbm => 24
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2048, .f32⟩
  | .hbm, ⟨2, _⟩ => ⟨S2048x512, .f32⟩
  | .hbm, ⟨3, _⟩ => ⟨S2x4096x2048, .f32⟩
  | .hbm, ⟨4, _⟩ => ⟨S_, .f32⟩
  | .hbm, ⟨5, _⟩ => ⟨S2x4096, .f32⟩
  | .hbm, ⟨6, _⟩ => ⟨S2x4096x1, .f32⟩
  | .hbm, ⟨7, _⟩ => ⟨S_, .f32⟩
  | .hbm, ⟨8, _⟩ => ⟨S2x4096x1, .f32⟩
  | .hbm, ⟨9, _⟩ => ⟨S2x4096x1, .f32⟩
  | .hbm, ⟨10, _⟩ => ⟨S_, .f32⟩
  | .hbm, ⟨11, _⟩ => ⟨S2x4096x1, .f32⟩
  | .hbm, ⟨12, _⟩ => ⟨S2x4096x1, .f32⟩
  | .hbm, ⟨13, _⟩ => ⟨S2x4096x1, .f32⟩
  | .hbm, ⟨14, _⟩ => ⟨S2x4096x2048, .f32⟩
  | .hbm, ⟨15, _⟩ => ⟨S2x4096x2048, .f32⟩
  | .hbm, ⟨16, _⟩ => ⟨S1x1x2048, .f32⟩
  | .hbm, ⟨17, _⟩ => ⟨S2x4096x2048, .f32⟩
  | .hbm, ⟨18, _⟩ => ⟨S2x4096x2048, .f32⟩
  | .hbm, ⟨19, _⟩ => ⟨S2x4096x512, .f32⟩
  | .hbm, ⟨20, _⟩ => ⟨S2x4096x256, .f32⟩
  | .hbm, ⟨21, _⟩ => ⟨S2x4096x4x64, .f32⟩
  | .hbm, ⟨22, _⟩ => ⟨S2x4096x256, .f32⟩
  | .hbm, ⟨23, _⟩ => ⟨S2x4096x4x64, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Kernel9.lean ====
abbrev S32x32x2048 : Shape := ⟨3, ![32, 32, 2048]⟩
abbrev S32x128x4x64 : Shape := ⟨4, ![32, 128, 4, 64]⟩
abbrev S32x32x512 : Shape := ⟨3, ![32, 32, 512]⟩
abbrev S24 : Shape := ⟨1, ![24]⟩
abbrev S32x128x256 : Shape := ⟨3, ![32, 128, 256]⟩
abbrev S32x128x4x1x64 : Shape := ⟨5, ![32, 128, 4, 1, 64]⟩
abbrev S32x128x4x2x64 : Shape := ⟨5, ![32, 128, 4, 2, 64]⟩
abbrev S32x128x512 : Shape := ⟨3, ![32, 128, 512]⟩
abbrev S32x32x256 : Shape := ⟨3, ![32, 32, 256]⟩
abbrev S32x32x4x1x64 : Shape := ⟨5, ![32, 32, 4, 1, 64]⟩
abbrev S32x32x4x2x64 : Shape := ⟨5, ![32, 32, 4, 2, 64]⟩
abbrev S32x160x512 : Shape := ⟨3, ![32, 160, 512]⟩
abbrev S4x6 : Shape := ⟨2, ![4, 6]⟩
abbrev S4x6x32 : Shape := ⟨3, ![4, 6, 32]⟩
abbrev S4x192 : Shape := ⟨2, ![4, 192]⟩
abbrev S4x192x1 : Shape := ⟨3, ![4, 192, 1]⟩
abbrev S32x32x1536 : Shape := ⟨3, ![32, 32, 1536]⟩
abbrev S4x32x1536 : Shape := ⟨3, ![4, 32, 1536]⟩
abbrev S4x160x512 : Shape := ⟨3, ![4, 160, 512]⟩
abbrev S32x128 : Shape := ⟨2, ![32, 128]⟩
abbrev S1x32x128 : Shape := ⟨3, ![1, 32, 128]⟩
abbrev S192x128 : Shape := ⟨2, ![192, 128]⟩
abbrev S1x160x128 : Shape := ⟨3, ![1, 160, 128]⟩
abbrev S160x128 : Shape := ⟨2, ![160, 128]⟩
abbrev S192x160 : Shape := ⟨2, ![192, 160]⟩
abbrev S1x192x1 : Shape := ⟨3, ![1, 192, 1]⟩
abbrev S192x1 : Shape := ⟨2, ![192, 1]⟩
abbrev S192 : Shape := ⟨1, ![192]⟩

abbrev nBuf : Space → Nat
  | .hbm => 28
  | .vmem => 9
  | .smem => 0
  | _ => 0

abbrev bufTy : (tb : Table) → Fin (tcTables nBuf tb) → BufTy
  | .hbm, ⟨0, _⟩ => ⟨S32x32x2048, .f32⟩
  | .hbm, ⟨1, _⟩ => ⟨S32x128x4x64, .f32⟩
  | .hbm, ⟨2, _⟩ => ⟨S32x128x4x64, .f32⟩
  | .hbm, ⟨3, _⟩ => ⟨S32x32x512, .f32⟩
  | .hbm, ⟨4, _⟩ => ⟨S24, .f32⟩
  | .hbm, ⟨5, _⟩ => ⟨S32x128x256, .f32⟩
  | .hbm, ⟨6, _⟩ => ⟨S32x128x4x1x64, .f32⟩
  | .hbm, ⟨7, _⟩ => ⟨S32x128x4x2x64, .f32⟩
  | .hbm, ⟨8, _⟩ => ⟨S32x128x512, .f32⟩
  | .hbm, ⟨9, _⟩ => ⟨S32x32x256, .f32⟩
  | .hbm, ⟨10, _⟩ => ⟨S32x32x4x1x64, .f32⟩
  | .hbm, ⟨11, _⟩ => ⟨S32x32x4x2x64, .f32⟩
  | .hbm, ⟨12, _⟩ => ⟨S32x32x512, .f32⟩
  | .hbm, ⟨13, _⟩ => ⟨S32x160x512, .f32⟩
  | .hbm, ⟨14, _⟩ => ⟨S32x128x256, .f32⟩
  | .hbm, ⟨15, _⟩ => ⟨S32x128x4x1x64, .f32⟩
  | .hbm, ⟨16, _⟩ => ⟨S32x128x4x2x64, .f32⟩
  | .hbm, ⟨17, _⟩ => ⟨S32x128x512, .f32⟩
  | .hbm, ⟨18, _⟩ => ⟨S32x32x256, .f32⟩
  | .hbm, ⟨19, _⟩ => ⟨S32x32x4x1x64, .f32⟩
  | .hbm, ⟨20, _⟩ => ⟨S32x32x4x2x64, .f32⟩
  | .hbm, ⟨21, _⟩ => ⟨S32x32x512, .f32⟩
  | .hbm, ⟨22, _⟩ => ⟨S32x160x512, .f32⟩
  | .hbm, ⟨23, _⟩ => ⟨S4x6, .f32⟩
  | .hbm, ⟨24, _⟩ => ⟨S4x6x32, .f32⟩
  | .hbm, ⟨25, _⟩ => ⟨S4x192, .f32⟩
  | .hbm, ⟨26, _⟩ => ⟨S4x192x1, .f32⟩
  | .hbm, ⟨27, _⟩ => ⟨S32x32x1536, .bf16⟩
  | .local _ .vmem, ⟨0, _⟩ => ⟨S4x32x1536, .f32⟩
  | .local _ .vmem, ⟨1, _⟩ => ⟨S4x32x1536, .f32⟩
  | .local _ .vmem, ⟨2, _⟩ => ⟨S4x160x512, .f32⟩
  | .local _ .vmem, ⟨3, _⟩ => ⟨S4x160x512, .f32⟩
  | .local _ .vmem, ⟨4, _⟩ => ⟨S4x160x512, .f32⟩
  | .local _ .vmem, ⟨5, _⟩ => ⟨S4x160x512, .f32⟩
  | .local _ .vmem, ⟨6, _⟩ => ⟨S4x192x1, .f32⟩
  | .local _ .vmem, ⟨7, _⟩ => ⟨S4x32x1536, .bf16⟩
  | .local _ .vmem, ⟨8, _⟩ => ⟨S4x32x1536, .bf16⟩
  | _, _ => ⟨S32x32x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x32x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x160x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x160x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x192x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4x32x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference9Ideal.lean ====
abbrev S32x32x2048 : Shape := ⟨3, ![32, 32, 2048]⟩
abbrev S32x128x4x64 : Shape := ⟨4, ![32, 128, 4, 64]⟩
abbrev S32x32x512 : Shape := ⟨3, ![32, 32, 512]⟩
abbrev S24 : Shape := ⟨1, ![24]⟩
abbrev S32x32x256 : Shape := ⟨3, ![32, 32, 256]⟩
abbrev S32x32x4x64 : Shape := ⟨4, ![32, 32, 4, 64]⟩
abbrev S32x160x4x64 : Shape := ⟨4, ![32, 160, 4, 64]⟩
abbrev S32x32x1536 : Shape := ⟨3, ![32, 32, 1536]⟩
abbrev S32x32x4x6x64 : Shape := ⟨5, ![32, 32, 4, 6, 64]⟩
abbrev S32x4x160x32x6 : Shape := ⟨5, ![32, 4, 160, 32, 6]⟩
abbrev S32x4x6x32x160 : Shape := ⟨5, ![32, 4, 6, 32, 160]⟩
abbrev S_ : Shape := ⟨0, ![]⟩
abbrev S4x6 : Shape := ⟨2, ![4, 6]⟩
abbrev S1x4x6x1x1 : Shape := ⟨5, ![1, 4, 6, 1, 1]⟩
abbrev S32x4x6x32 : Shape := ⟨4, ![32, 4, 6, 32]⟩
abbrev S32x4x6x32x1 : Shape := ⟨5, ![32, 4, 6, 32, 1]⟩
abbrev S32x4x64x6x32 : Shape := ⟨5, ![32, 4, 64, 6, 32]⟩

abbrev nBuf : Space → Nat
  | .hbm => 41
  | .vmem => 0
  | .smem => 0
  | _ => 0

abbrev bufTy : (tb : Table) → Fin (tcTables nBuf tb) → BufTy
  | .hbm, ⟨0, _⟩ => ⟨S32x32x2048, .f32⟩
  | .hbm, ⟨1, _⟩ => ⟨S32x128x4x64, .f32⟩
  | .hbm, ⟨2, _⟩ => ⟨S32x128x4x64, .f32⟩
  | .hbm, ⟨3, _⟩ => ⟨S32x32x512, .f32⟩
  | .hbm, ⟨4, _⟩ => ⟨S24, .f32⟩
  | .hbm, ⟨5, _⟩ => ⟨S32x32x256, .f32⟩
  | .hbm, ⟨6, _⟩ => ⟨S32x32x4x64, .f32⟩
  | .hbm, ⟨7, _⟩ => ⟨S32x32x256, .f32⟩
  | .hbm, ⟨8, _⟩ => ⟨S32x32x4x64, .f32⟩
  | .hbm, ⟨9, _⟩ => ⟨S32x160x4x64, .f32⟩
  | .hbm, ⟨10, _⟩ => ⟨S32x160x4x64, .f32⟩
  | .hbm, ⟨11, _⟩ => ⟨S32x32x1536, .f32⟩
  | .hbm, ⟨12, _⟩ => ⟨S32x32x4x6x64, .f32⟩
  | .hbm, ⟨13, _⟩ => ⟨S32x4x160x32x6, .f32⟩
  | .hbm, ⟨14, _⟩ => ⟨S32x4x6x32x160, .f32⟩
  | .hbm, ⟨15, _⟩ => ⟨S_, .f32⟩
  | .hbm, ⟨16, _⟩ => ⟨S32x4x6x32x160, .f32⟩
  | .hbm, ⟨17, _⟩ => ⟨S32x4x6x32x160, .f32⟩
  | .hbm, ⟨18, _⟩ => ⟨S4x6, .f32⟩
  | .hbm, ⟨19, _⟩ => ⟨S1x4x6x1x1, .f32⟩
  | .hbm, ⟨20, _⟩ => ⟨S_, .f32⟩
  | .hbm, ⟨21, _⟩ => ⟨S32x4x6x32, .f32⟩
  | .hbm, ⟨22, _⟩ => ⟨S32x4x6x32x1, .f32⟩
  | .hbm, ⟨23, _⟩ => ⟨S32x4x6x32x1, .f32⟩
  | .hbm, ⟨24, _⟩ => ⟨S32x4x6x32x1, .f32⟩
  | .hbm, ⟨25, _⟩ => ⟨S32x4x6x32x160, .f32⟩
  | .hbm, ⟨26, _⟩ => ⟨S32x4x6x32x160, .f32⟩
  | .hbm, ⟨27, _⟩ => ⟨S32x4x6x32x160, .f32⟩
  | .hbm, ⟨28, _⟩ => ⟨S_, .f32⟩
  | .hbm, ⟨29, _⟩ => ⟨S32x4x6x32, .f32⟩
  | .hbm, ⟨30, _⟩ => ⟨S32x4x6x32x1, .f32⟩
  | .hbm, ⟨31, _⟩ => ⟨S32x4x6x32x1, .f32⟩
  | .hbm, ⟨32, _⟩ => ⟨S32x4x6x32x1, .f32⟩
  | .hbm, ⟨33, _⟩ => ⟨S32x4x6x32x1, .f32⟩
  | .hbm, ⟨34, _⟩ => ⟨S32x4x6x32x1, .f32⟩
  | .hbm, ⟨35, _⟩ => ⟨S32x4x6x32x160, .f32⟩
  | .hbm, ⟨36, _⟩ => ⟨S32x4x6x32x160, .f32⟩
  | .hbm, ⟨37, _⟩ => ⟨S32x4x64x6x32, .f32⟩
  | .hbm, ⟨38, _⟩ => ⟨S32x32x4x6x64, .f32⟩
  | .hbm, ⟨39, _⟩ => ⟨S32x32x1536, .f32⟩
  | .hbm, ⟨40, _⟩ => ⟨S32x32x1536, .bf16⟩
  | _, _ => ⟨S32x32x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_1 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩

abbrev nD : Nat := 1
abbrev τ : Topo := Topo.v7x

variable {F : FTy → Type} [FloatOps F]
-- ==== Kernel10.lean ====
abbrev S32x32x4960 : Shape := ⟨3, ![32, 32, 4960]⟩
abbrev S32x1x4960 : Shape := ⟨3, ![32, 1, 4960]⟩
abbrev S32x24x64x64 : Shape := ⟨4, ![32, 24, 64, 64]⟩
abbrev S4960 : Shape := ⟨1, ![4960]⟩
abbrev S1536 : Shape := ⟨1, ![1536]⟩
abbrev S64x1536 : Shape := ⟨2, ![64, 1536]⟩
abbrev S224x1536 : Shape := ⟨2, ![224, 1536]⟩
abbrev S24x64 : Shape := ⟨2, ![24, 64]⟩
abbrev S1x4960 : Shape := ⟨2, ![1, 4960]⟩
abbrev S_ : Shape := ⟨0, ![]⟩
abbrev S1x4992 : Shape := ⟨2, ![1, 4992]⟩
abbrev S1x1536 : Shape := ⟨2, ![1, 1536]⟩
abbrev S128x1536 : Shape := ⟨2, ![128, 1536]⟩
abbrev S32x1536 : Shape := ⟨2, ![32, 1536]⟩
abbrev S256x1536 : Shape := ⟨2, ![256, 1536]⟩
abbrev S1024x4960 : Shape := ⟨2, ![1024, 4960]⟩
abbrev S1024x5632 : Shape := ⟨2, ![1024, 5632]⟩
abbrev S32x1x4992 : Shape := ⟨3, ![32, 1, 4992]⟩
abbrev S1x32x24x64x64 : Shape := ⟨5, ![1, 32, 24, 64, 64]⟩
abbrev S1024x1536 : Shape := ⟨2, ![1024, 1536]⟩
abbrev S32x4992 : Shape := ⟨2, ![32, 4992]⟩
abbrev S1x1x4992 : Shape := ⟨3, ![1, 1, 4992]⟩
abbrev S1x1x24x64x64 : Shape := ⟨5, ![1, 1, 24, 64, 64]⟩
abbrev S1x24x64x64 : Shape := ⟨4, ![1, 24, 64, 64]⟩
abbrev S12x128x128 : Shape := ⟨3, ![12, 128, 128]⟩
abbrev S64x64 : Shape := ⟨2, ![64, 64]⟩
abbrev S1x1x1x64x64 : Shape := ⟨5, ![1, 1, 1, 64, 64]⟩
abbrev S64x128 : Shape := ⟨2, ![64, 128]⟩
abbrev S128x128 : Shape := ⟨2, ![128, 128]⟩
abbrev S1x128x128 : Shape := ⟨3, ![1, 128, 128]⟩
abbrev S32x128 : Shape := ⟨2, ![32, 128]⟩
abbrev S1x128 : Shape := ⟨2, ![1, 128]⟩
abbrev S32x256 : Shape := ⟨2, ![32, 256]⟩
abbrev S32x64 : Shape := ⟨2, ![32, 64]⟩
abbrev S32x32 : Shape := ⟨2, ![32, 32]⟩
abbrev S64x256 : Shape := ⟨2, ![64, 256]⟩
abbrev S256x128 : Shape := ⟨2, ![256, 128]⟩
abbrev S1x1x64x64 : Shape := ⟨4, ![1, 1, 64, 64]⟩

abbrev nBuf : Space → Nat
  | .hbm => 48
  | .vmem => 33
  | .smem => 0
  | _ => 0

abbrev bufTy : (tb : Table) → Fin (tcTables nBuf tb) → BufTy
  | .hbm, ⟨0, _⟩ => ⟨S32x32x4960, .f32⟩
  | .hbm, ⟨1, _⟩ => ⟨S32x1x4960, .f32⟩
  | .hbm, ⟨2, _⟩ => ⟨S32x24x64x64, .f32⟩
  | .hbm, ⟨3, _⟩ => ⟨S4960, .f32⟩
  | .hbm, ⟨4, _⟩ => ⟨S1536, .f32⟩
  | .hbm, ⟨5, _⟩ => ⟨S64x1536, .f32⟩
  | .hbm, ⟨6, _⟩ => ⟨S1536, .f32⟩
  | .hbm, ⟨7, _⟩ => ⟨S64x1536, .f32⟩
  | .hbm, ⟨8, _⟩ => ⟨S224x1536, .f32⟩
  | .hbm, ⟨9, _⟩ => ⟨S1536, .f32⟩
  | .hbm, ⟨10, _⟩ => ⟨S1536, .f32⟩
  | .hbm, ⟨11, _⟩ => ⟨S24x64, .f32⟩
  | .hbm, ⟨12, _⟩ => ⟨S1536, .f32⟩
  | .hbm, ⟨13, _⟩ => ⟨S1536, .f32⟩
  | .hbm, ⟨14, _⟩ => ⟨S1x4960, .f32⟩
  | .hbm, ⟨15, _⟩ => ⟨S_, .i32⟩
  | .hbm, ⟨16, _⟩ => ⟨S_, .f32⟩
  | .hbm, ⟨17, _⟩ => ⟨S1x4992, .f32⟩
  | .hbm, ⟨18, _⟩ => ⟨S1x1536, .f32⟩
  | .hbm, ⟨19, _⟩ => ⟨S1x1536, .f32⟩
  | .hbm, ⟨20, _⟩ => ⟨S_, .f32⟩
  | .hbm, ⟨21, _⟩ => ⟨S64x1536, .f32⟩
  | .hbm, ⟨22, _⟩ => ⟨S128x1536, .f32⟩
  | .hbm, ⟨23, _⟩ => ⟨S128x1536, .bf16⟩
  | .hbm, ⟨24, _⟩ => ⟨S_, .f32⟩
  | .hbm, ⟨25, _⟩ => ⟨S64x1536, .f32⟩
  | .hbm, ⟨26, _⟩ => ⟨S128x1536, .f32⟩
  | .hbm, ⟨27, _⟩ => ⟨S128x1536, .bf16⟩
  | .hbm, ⟨28, _⟩ => ⟨S_, .f32⟩
  | .hbm, ⟨29, _⟩ => ⟨S32x1536, .f32⟩
  | .hbm, ⟨30, _⟩ => ⟨S256x1536, .f32⟩
  | .hbm, ⟨31, _⟩ => ⟨S256x1536, .bf16⟩
  | .hbm, ⟨32, _⟩ => ⟨S1x1536, .f32⟩
  | .hbm, ⟨33, _⟩ => ⟨S1x1536, .f32⟩
  | .hbm, ⟨34, _⟩ => ⟨S1x1536, .f32⟩
  | .hbm, ⟨35, _⟩ => ⟨S1x1536, .f32⟩
  | .hbm, ⟨36, _⟩ => ⟨S1x1536, .f32⟩
  | .hbm, ⟨37, _⟩ => ⟨S1024x4960, .f32⟩
  | .hbm, ⟨38, _⟩ => ⟨S_, .i32⟩
  | .hbm, ⟨39, _⟩ => ⟨S_, .f32⟩
  | .hbm, ⟨40, _⟩ => ⟨S1024x5632, .f32⟩
  | .hbm, ⟨41, _⟩ => ⟨S_, .i32⟩
  | .hbm, ⟨42, _⟩ => ⟨S_, .f32⟩
  | .hbm, ⟨43, _⟩ => ⟨S32x1x4992, .f32⟩
  | .hbm, ⟨44, _⟩ => ⟨S1x32x24x64x64, .f32⟩
  | .hbm, ⟨45, _⟩ => ⟨S1024x1536, .bf16⟩
  | .hbm, ⟨46, _⟩ => ⟨S1024x1536, .f32⟩
  | .hbm, ⟨47, _⟩ => ⟨S32x24x64x64, .f32⟩
  | .local _ .vmem, ⟨0, _⟩ => ⟨S32x4992, .f32⟩
  | .local _ .vmem, ⟨1, _⟩ => ⟨S32x4992, .f32⟩
  | .local _ .vmem, ⟨2, _⟩ => ⟨S1x1x4992, .f32⟩
  | .local _ .vmem, ⟨3, _⟩ => ⟨S1x1x4992, .f32⟩
  | .local _ .vmem, ⟨4, _⟩ => ⟨S1x4992, .f32⟩
  | .local _ .vmem, ⟨5, _⟩ => ⟨S1x1536, .f32⟩
  | .local _ .vmem, ⟨6, _⟩ => ⟨S128x1536, .bf16⟩
  | .local _ .vmem, ⟨7, _⟩ => ⟨S1x1536, .f32⟩
  | .local _ .vmem, ⟨8, _⟩ => ⟨S128x1536, .bf16⟩
  | .local _ .vmem, ⟨9, _⟩ => ⟨S256x1536, .bf16⟩
  | .local _ .vmem, ⟨10, _⟩ => ⟨S1x1536, .f32⟩
  | .local _ .vmem, ⟨11, _⟩ => ⟨S1x1536, .f32⟩
  | .local _ .vmem, ⟨12, _⟩ => ⟨S1x1536, .f32⟩
  | .local _ .vmem, ⟨13, _⟩ => ⟨S1x1x24x64x64, .f32⟩
  | .local _ .vmem, ⟨14, _⟩ => ⟨S1x1x24x64x64, .f32⟩
  | .local _ .vmem, ⟨15, _⟩ => ⟨S1x1536, .f32⟩
  | .local _ .vmem, ⟨16, _⟩ => ⟨S1x1536, .f32⟩
  | .local _ .vmem, ⟨17, _⟩ => ⟨S32x1536, .bf16⟩
  | .local _ .vmem, ⟨18, _⟩ => ⟨S32x1536, .bf16⟩
  | .local _ .vmem, ⟨19, _⟩ => ⟨S32x1536, .f32⟩
  | .local _ .vmem, ⟨20, _⟩ => ⟨S32x1536, .f32⟩
  | .local _ .vmem, ⟨21, _⟩ => ⟨S1x24x64x64, .f32⟩
  | .local _ .vmem, ⟨22, _⟩ => ⟨S1x24x64x64, .f32⟩
  | .local _ .vmem, ⟨23, _⟩ => ⟨S12x128x128, .f32⟩
  | .local _ .vmem, ⟨24, _⟩ => ⟨S1x4992, .f32⟩
  | .local _ .vmem, ⟨25, _⟩ => ⟨S32x1536, .f32⟩
  | .local _ .vmem, ⟨26, _⟩ => ⟨S32x1536, .f32⟩
  | .local _ .vmem, ⟨27, _⟩ => ⟨S32x1536, .f32⟩
  | .local _ .vmem, ⟨28, _⟩ => ⟨S32x1536, .f32⟩
  | .local _ .vmem, ⟨29, _⟩ => ⟨S32x1536, .f32⟩
  | .local _ .vmem, ⟨30, _⟩ => ⟨S32x1536, .f32⟩
  | .local _ .vmem, ⟨31, _⟩ => ⟨S32x1536, .f32⟩
  | .local _ .vmem, ⟨32, _⟩ => ⟨S32x1536, .f32⟩
  | _, _ => ⟨S32x32x4960, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_c : Ref sig .tc := ⟨.hbm, 15, rfl⟩
abbrev main_call0_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst_0 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_cst_1 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_c_2 : Ref sig .tc := ⟨.hbm, 38, rfl⟩
abbrev main_call1_v0 : Ref sig .tc := ⟨.hbm, 39, rfl⟩
abbrev main_v19 : Ref sig .tc := ⟨.hbm, 40, rfl⟩
abbrev main_c_3 : Ref sig .tc := ⟨.hbm, 41, rfl⟩
abbrev main_call2_v0 : Ref sig .tc := ⟨.hbm, 42, rfl⟩
abbrev main_v20 : Ref sig .tc := ⟨.hbm, 43, rfl⟩
abbrev main_v21 : Ref sig .tc := ⟨.hbm, 44, rfl⟩
abbrev main_v22_0 : Ref sig .tc := ⟨.hbm, 45, rfl⟩
abbrev main_v22_1 : Ref sig .tc := ⟨.hbm, 46, rfl⟩
abbrev main_v22_2 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_scratch3 : Ref sig .tc := ⟨.vmem, 26, rfl⟩
abbrev cc0_scratch4 : Ref sig .tc := ⟨.vmem, 27, rfl⟩
abbrev cc0_scratch5 : Ref sig .tc := ⟨.vmem, 28, rfl⟩
abbrev cc0_scratch6 : Ref sig .tc := ⟨.vmem, 29, rfl⟩
abbrev cc0_scratch7 : Ref sig .tc := ⟨.vmem, 30, rfl⟩
abbrev cc0_scratch8 : Ref sig .tc := ⟨.vmem, 31, rfl⟩
abbrev cc0_scratch9 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14
abbrev cc0_sem12_0 : DmaSem sig := 15
abbrev cc0_sem13_0 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem16_1 : DmaSem sig := 22

abbrev nD : Nat := 1
abbrev τ : Topo := Topo.v7x

variable {F : FTy → Type} [FloatOps F]

abbrev grid0 : Pipeline.Grid := ⟨2, ![32, 1], ![false, false]⟩

def k0_cond2 (i : grid0.Coords) : BitVec 1 :=
  let arg1 : BitVec 32 := BitVec.ofNat 32 (i 1).val
  let c0_i32_1726 : BitVec 32 := 0#32
  let v4162 : BitVec 1 := Scalar.cmpi .eq arg1 c0_i32_1726
  let v4163 : BitVec 32 := Scalar.extui v4162
  let c0_i32_1727 : BitVec 32 := 0#32
  let v4164 : BitVec 1 := Scalar.cmpi .ne v4163 c0_i32_1727
  v4164

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_15 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_16 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S32x4992 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x4992 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x4992 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x1536 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x1536 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1536 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1536 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1536 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x1x24x64x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 1 → Memref sig .tc .vmem S1x1536 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1536 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S32x1536 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S32x1536 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x24x64x64 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]
-- ==== Reference10Ideal.lean ====
abbrev S32x32x4960 : Shape := ⟨3, ![32, 32, 4960]⟩
abbrev S32x1x4960 : Shape := ⟨3, ![32, 1, 4960]⟩
abbrev S32x24x64x64 : Shape := ⟨4, ![32, 24, 64, 64]⟩
abbrev S4960 : Shape := ⟨1, ![4960]⟩
abbrev S1536 : Shape := ⟨1, ![1536]⟩
abbrev S64x1536 : Shape := ⟨2, ![64, 1536]⟩
abbrev S224x1536 : Shape := ⟨2, ![224, 1536]⟩
abbrev S24x64 : Shape := ⟨2, ![24, 64]⟩
abbrev S32x31x4960 : Shape := ⟨3, ![32, 31, 4960]⟩
abbrev S1x1x4960 : Shape := ⟨3, ![1, 1, 4960]⟩
abbrev S32x32x1536 : Shape := ⟨3, ![32, 32, 1536]⟩
abbrev S32x32x64 : Shape := ⟨3, ![32, 32, 64]⟩
abbrev S32x32x224 : Shape := ⟨3, ![32, 32, 224]⟩
abbrev S1x1x1536 : Shape := ⟨3, ![1, 1, 1536]⟩
abbrev S_ : Shape := ⟨0, ![]⟩
abbrev S32x32x24x64 : Shape := ⟨4, ![32, 32, 24, 64]⟩
abbrev S32x32x24 : Shape := ⟨3, ![32, 32, 24]⟩
abbrev S32x32x24x1 : Shape := ⟨4, ![32, 32, 24, 1]⟩
abbrev S1x32x24x64 : Shape := ⟨4, ![1, 32, 24, 64]⟩
abbrev S32x24x64 : Shape := ⟨3, ![32, 24, 64]⟩
abbrev S32x24x1x64 : Shape := ⟨4, ![32, 24, 1, 64]⟩
abbrev S32x24x64x1 : Shape := ⟨4, ![32, 24, 64, 1]⟩
abbrev S16x32x24x64 : Shape := ⟨4, ![16, 32, 24, 64]⟩
abbrev S1x1x24x64 : Shape := ⟨4, ![1, 1, 24, 64]⟩
abbrev S1024x1536 : Shape := ⟨2, ![1024, 1536]⟩

abbrev nBuf : Space → Nat
  | .hbm => 1136
  | .vmem => 0
  | .smem => 0
  | _ => 0

abbrev hbmTy0_0 (i : Nat) : BufTy := match i % 128 with
  | 0 => ⟨S32x32x4960, .f32⟩
  | 1 => ⟨S32x1x4960, .f32⟩
  | 2 => ⟨S32x24x64x64, .f32⟩
  | 3 => ⟨S4960, .f32⟩
  | 4 => ⟨S1536, .f32⟩
  | 5 => ⟨S64x1536, .f32⟩
  | 6 => ⟨S1536, .f32⟩
  | 7 => ⟨S64x1536, .f32⟩
  | 8 => ⟨S224x1536, .f32⟩
  | 9 => ⟨S1536, .f32⟩
  | 10 => ⟨S1536, .f32⟩
  | 11 => ⟨S24x64, .f32⟩
  | 12 => ⟨S1536, .f32⟩
  | 13 => ⟨S1536, .f32⟩
  | 14 => ⟨S32x31x4960, .f32⟩
  | 15 => ⟨S32x32x4960, .f32⟩
  | 16 => ⟨S32x32x4960, .f32⟩
  | 17 => ⟨S1x1x4960, .f32⟩
  | 18 => ⟨S32x32x4960, .f32⟩
  | 19 => ⟨S32x32x4960, .f32⟩
  | 20 => ⟨S32x32x4960, .f32⟩
  | 21 => ⟨S32x32x1536, .f32⟩
  | 22 => ⟨S32x32x1536, .f32⟩
  | 23 => ⟨S32x32x1536, .f32⟩
  | 24 => ⟨S32x32x64, .f32⟩
  | 25 => ⟨S32x32x64, .f32⟩
  | 26 => ⟨S32x32x224, .f32⟩
  | 27 => ⟨S32x32x64, .f32⟩
  | 28 => ⟨S32x32x1536, .f32⟩
  | 29 => ⟨S1x1x1536, .f32⟩
  | 30 => ⟨S32x32x1536, .f32⟩
  | 31 => ⟨S32x32x1536, .f32⟩
  | 32 => ⟨S32x32x1536, .f32⟩
  | 33 => ⟨S_, .f32⟩
  | 34 => ⟨S32x32x1536, .f32⟩
  | 35 => ⟨S32x32x1536, .f32⟩
  | 36 => ⟨S32x32x1536, .f32⟩
  | 37 => ⟨S32x32x1536, .f32⟩
  | 38 => ⟨S32x32x1536, .i1⟩
  | 39 => ⟨S32x32x1536, .f32⟩
  | 40 => ⟨S32x32x1536, .f32⟩
  | 41 => ⟨S32x32x1536, .f32⟩
  | 42 => ⟨S32x32x1536, .f32⟩
  | 43 => ⟨S32x32x1536, .f32⟩
  | 44 => ⟨S32x32x1536, .f32⟩
  | 45 => ⟨S32x32x1536, .f32⟩
  | 46 => ⟨S32x32x1536, .f32⟩
  | 47 => ⟨S32x32x1536, .f32⟩
  | 48 => ⟨S_, .f32⟩
  | 49 => ⟨S32x32x1536, .f32⟩
  | 50 => ⟨S32x32x1536, .f32⟩
  | 51 => ⟨S32x32x1536, .f32⟩
  | 52 => ⟨S1x1x1536, .f32⟩
  | 53 => ⟨S32x32x1536, .f32⟩
  | 54 => ⟨S32x32x1536, .f32⟩
  | 55 => ⟨S32x32x1536, .f32⟩
  | 56 => ⟨S32x32x1536, .f32⟩
  | 57 => ⟨S_, .f32⟩
  | 58 => ⟨S32x32x1536, .f32⟩
  | 59 => ⟨S32x32x1536, .f32⟩
  | 60 => ⟨S_, .f32⟩
  | 61 => ⟨S32x32x1536, .f32⟩
  | 62 => ⟨S32x32x1536, .f32⟩
  | 63 => ⟨S32x32x224, .f32⟩
  | 64 => ⟨S32x32x224, .f32⟩
  | 65 => ⟨S_, .f32⟩
  | 66 => ⟨S32x32x224, .f32⟩
  | 67 => ⟨S32x32x224, .f32⟩
  | 68 => ⟨S_, .f32⟩
  | 69 => ⟨S32x32x224, .f32⟩
  | 70 => ⟨S32x32x224, .f32⟩
  | 71 => ⟨S32x32x1536, .f32⟩
  | 72 => ⟨S1x1x1536, .f32⟩
  | 73 => ⟨S32x32x1536, .f32⟩
  | 74 => ⟨S32x32x1536, .f32⟩
  | 75 => ⟨S32x32x24x64, .f32⟩
  | 76 => ⟨S32x32x24x64, .f32⟩
  | 77 => ⟨S_, .f32⟩
  | 78 => ⟨S32x32x24, .f32⟩
  | 79 => ⟨S32x32x24x1, .f32⟩
  | 80 => ⟨S32x32x24x1, .f32⟩
  | 81 => ⟨S_, .f32⟩
  | 82 => ⟨S32x32x24x1, .f32⟩
  | 83 => ⟨S32x32x24x1, .f32⟩
  | 84 => ⟨S32x32x24x64, .f32⟩
  | 85 => ⟨S32x32x24x64, .f32⟩
  | 86 => ⟨S_, .f32⟩
  | 87 => ⟨S32x32x1536, .f32⟩
  | 88 => ⟨S32x32x1536, .f32⟩
  | 89 => ⟨S1x1x1536, .f32⟩
  | 90 => ⟨S32x32x1536, .f32⟩
  | 91 => ⟨S32x32x1536, .f32⟩
  | 92 => ⟨S_, .f32⟩
  | 93 => ⟨S32x32x1536, .f32⟩
  | 94 => ⟨S32x32x1536, .f32⟩
  | 95 => ⟨S32x32x1536, .f32⟩
  | 96 => ⟨S32x32x24x64, .f32⟩
  | 97 => ⟨S32x32x24x64, .f32⟩
  | 98 => ⟨S32x32x24x64, .f32⟩
  | 99 => ⟨S32x32x24x64, .f32⟩
  | 100 => ⟨S32x32x24x64, .f32⟩
  | 101 => ⟨S32x32x24x64, .f32⟩
  | 102 => ⟨S32x32x24x64, .f32⟩
  | 103 => ⟨S32x32x24x64, .f32⟩
  | 104 => ⟨S32x32x24x64, .f32⟩
  | 105 => ⟨S32x32x24x64, .f32⟩
  | 106 => ⟨S32x32x24x64, .f32⟩
  | 107 => ⟨S32x32x24x64, .f32⟩
  | 108 => ⟨S32x32x24x64, .f32⟩
  | 109 => ⟨S32x32x24x64, .f32⟩
  | 110 => ⟨S32x32x24x64, .f32⟩
  | 111 => ⟨S32x32x24x64, .f32⟩
  | 112 => ⟨S1x32x24x64, .f32⟩
  | 113 => ⟨S32x24x64, .f32⟩
  | 114 => ⟨S1x32x24x64, .f32⟩
  | 115 => ⟨S32x24x64, .f32⟩
  | 116 => ⟨S1x32x24x64, .f32⟩
  | 117 => ⟨S32x24x64, .f32⟩
  | 118 => ⟨S1x32x24x64, .f32⟩
  | 119 => ⟨S32x24x64, .f32⟩
  | 120 => ⟨S1x32x24x64, .f32⟩
  | 121 => ⟨S32x24x64, .f32⟩
  | 122 => ⟨S1x32x24x64, .f32⟩
  | 123 => ⟨S32x24x64, .f32⟩
  | 124 => ⟨S32x24x64, .f32⟩
  | 125 => ⟨S32x24x1x64, .f32⟩
  | 126 => ⟨S32x24x64x64, .f32⟩
  | 127 => ⟨S32x24x64x64, .f32⟩
  | _ => ⟨S32x32x4960, .f32⟩

abbrev hbmTy0_1 (i : Nat) : BufTy := match i % 128 with
  | 0 => ⟨S32x24x64x1, .f32⟩
  | 1 => ⟨S32x24x1x64, .f32⟩
  | 2 => ⟨S32x24x64x64, .f32⟩
  | 3 => ⟨S32x24x64x64, .f32⟩
  | 4 => ⟨S32x24x64x64, .f32⟩
  | 5 => ⟨S32x24x64x64, .f32⟩
  | 6 => ⟨S32x24x64x1, .f32⟩
  | 7 => ⟨S32x24x1x64, .f32⟩
  | 8 => ⟨S32x24x64x64, .f32⟩
  | 9 => ⟨S32x24x64x64, .f32⟩
  | 10 => ⟨S32x24x64x64, .f32⟩
  | 11 => ⟨S32x24x64x64, .f32⟩
  | 12 => ⟨S32x24x64, .f32⟩
  | 13 => ⟨S1x32x24x64, .f32⟩
  | 14 => ⟨S32x24x64, .f32⟩
  | 15 => ⟨S1x32x24x64, .f32⟩
  | 16 => ⟨S32x24x64, .f32⟩
  | 17 => ⟨S1x32x24x64, .f32⟩
  | 18 => ⟨S32x24x64, .f32⟩
  | 19 => ⟨S1x32x24x64, .f32⟩
  | 20 => ⟨S32x24x64, .f32⟩
  | 21 => ⟨S1x32x24x64, .f32⟩
  | 22 => ⟨S32x24x64, .f32⟩
  | 23 => ⟨S1x32x24x64, .f32⟩
  | 24 => ⟨S32x24x64, .f32⟩
  | 25 => ⟨S32x24x64, .f32⟩
  | 26 => ⟨S32x24x1x64, .f32⟩
  | 27 => ⟨S32x24x64x64, .f32⟩
  | 28 => ⟨S32x24x64x64, .f32⟩
  | 29 => ⟨S32x24x64x1, .f32⟩
  | 30 => ⟨S32x24x1x64, .f32⟩
  | 31 => ⟨S32x24x64x64, .f32⟩
  | 32 => ⟨S32x24x64x64, .f32⟩
  | 33 => ⟨S32x24x64x64, .f32⟩
  | 34 => ⟨S32x24x64x64, .f32⟩
  | 35 => ⟨S32x24x64x1, .f32⟩
  | 36 => ⟨S32x24x1x64, .f32⟩
  | 37 => ⟨S32x24x64x64, .f32⟩
  | 38 => ⟨S32x24x64x64, .f32⟩
  | 39 => ⟨S32x24x64x64, .f32⟩
  | 40 => ⟨S32x24x64x64, .f32⟩
  | 41 => ⟨S32x24x64, .f32⟩
  | 42 => ⟨S1x32x24x64, .f32⟩
  | 43 => ⟨S32x24x64, .f32⟩
  | 44 => ⟨S1x32x24x64, .f32⟩
  | 45 => ⟨S32x24x64, .f32⟩
  | 46 => ⟨S1x32x24x64, .f32⟩
  | 47 => ⟨S32x24x64, .f32⟩
  | 48 => ⟨S1x32x24x64, .f32⟩
  | 49 => ⟨S32x24x64, .f32⟩
  | 50 => ⟨S1x32x24x64, .f32⟩
  | 51 => ⟨S32x24x64, .f32⟩
  | 52 => ⟨S1x32x24x64, .f32⟩
  | 53 => ⟨S32x24x64, .f32⟩
  | 54 => ⟨S32x24x64, .f32⟩
  | 55 => ⟨S32x24x1x64, .f32⟩
  | 56 => ⟨S32x24x64x64, .f32⟩
  | 57 => ⟨S32x24x64x64, .f32⟩
  | 58 => ⟨S32x24x64x1, .f32⟩
  | 59 => ⟨S32x24x1x64, .f32⟩
  | 60 => ⟨S32x24x64x64, .f32⟩
  | 61 => ⟨S32x24x64x64, .f32⟩
  | 62 => ⟨S32x24x64x64, .f32⟩
  | 63 => ⟨S32x24x64x64, .f32⟩
  | 64 => ⟨S32x24x64x1, .f32⟩
  | 65 => ⟨S32x24x1x64, .f32⟩
  | 66 => ⟨S32x24x64x64, .f32⟩
  | 67 => ⟨S32x24x64x64, .f32⟩
  | 68 => ⟨S32x24x64x64, .f32⟩
  | 69 => ⟨S32x24x64x64, .f32⟩
  | 70 => ⟨S32x24x64, .f32⟩
  | 71 => ⟨S1x32x24x64, .f32⟩
  | 72 => ⟨S32x24x64, .f32⟩
  | 73 => ⟨S1x32x24x64, .f32⟩
  | 74 => ⟨S32x24x64, .f32⟩
  | 75 => ⟨S1x32x24x64, .f32⟩
  | 76 => ⟨S32x24x64, .f32⟩
  | 77 => ⟨S1x32x24x64, .f32⟩
  | 78 => ⟨S32x24x64, .f32⟩
  | 79 => ⟨S1x32x24x64, .f32⟩
  | 80 => ⟨S32x24x64, .f32⟩
  | 81 => ⟨S1x32x24x64, .f32⟩
  | 82 => ⟨S32x24x64, .f32⟩
  | 83 => ⟨S32x24x64, .f32⟩
  | 84 => ⟨S32x24x1x64, .f32⟩
  | 85 => ⟨S32x24x64x64, .f32⟩
  | 86 => ⟨S32x24x64x64, .f32⟩
  | 87 => ⟨S32x24x64x1, .f32⟩
  | 88 => ⟨S32x24x1x64, .f32⟩
  | 89 => ⟨S32x24x64x64, .f32⟩
  | 90 => ⟨S32x24x64x64, .f32⟩
  | 91 => ⟨S32x24x64x64, .f32⟩
  | 92 => ⟨S32x24x64x64, .f32⟩
  | 93 => ⟨S32x24x64x1, .f32⟩
  | 94 => ⟨S32x24x1x64, .f32⟩
  | 95 => ⟨S32x24x64x64, .f32⟩
  | 96 => ⟨S32x24x64x64, .f32⟩
  | 97 => ⟨S32x24x64x64, .f32⟩
  | 98 => ⟨S32x24x64x64, .f32⟩
  | 99 => ⟨S32x24x64, .f32⟩
  | 100 => ⟨S1x32x24x64, .f32⟩
  | 101 => ⟨S32x24x64, .f32⟩
  | 102 => ⟨S1x32x24x64, .f32⟩
  | 103 => ⟨S32x24x64, .f32⟩
  | 104 => ⟨S1x32x24x64, .f32⟩
  | 105 => ⟨S32x24x64, .f32⟩
  | 106 => ⟨S1x32x24x64, .f32⟩
  | 107 => ⟨S32x24x64, .f32⟩
  | 108 => ⟨S1x32x24x64, .f32⟩
  | 109 => ⟨S32x24x64, .f32⟩
  | 110 => ⟨S1x32x24x64, .f32⟩
  | 111 => ⟨S32x24x64, .f32⟩
  | 112 => ⟨S32x24x64, .f32⟩
  | 113 => ⟨S32x24x1x64, .f32⟩
  | 114 => ⟨S32x24x64x64, .f32⟩
  | 115 => ⟨S32x24x64x64, .f32⟩
  | 116 => ⟨S32x24x64x1, .f32⟩
  | 117 => ⟨S32x24x1x64, .f32⟩
  | 118 => ⟨S32x24x64x64, .f32⟩
  | 119 => ⟨S32x24x64x64, .f32⟩
  | 120 => ⟨S32x24x64x64, .f32⟩
  | 121 => ⟨S32x24x64x64, .f32⟩
  | 122 => ⟨S32x24x64x1, .f32⟩
  | 123 => ⟨S32x24x1x64, .f32⟩
  | 124 => ⟨S32x24x64x64, .f32⟩
  | 125 => ⟨S32x24x64x64, .f32⟩
  | 126 => ⟨S32x24x64x64, .f32⟩
  | 127 => ⟨S32x24x64x64, .f32⟩
  | _ => ⟨S32x32x4960, .f32⟩

abbrev hbmTy0_2 (i : Nat) : BufTy := match i % 128 with
  | 0 => ⟨S32x24x64, .f32⟩
  | 1 => ⟨S1x32x24x64, .f32⟩
  | 2 => ⟨S32x24x64, .f32⟩
  | 3 => ⟨S1x32x24x64, .f32⟩
  | 4 => ⟨S32x24x64, .f32⟩
  | 5 => ⟨S1x32x24x64, .f32⟩
  | 6 => ⟨S32x24x64, .f32⟩
  | 7 => ⟨S1x32x24x64, .f32⟩
  | 8 => ⟨S32x24x64, .f32⟩
  | 9 => ⟨S1x32x24x64, .f32⟩
  | 10 => ⟨S32x24x64, .f32⟩
  | 11 => ⟨S1x32x24x64, .f32⟩
  | 12 => ⟨S32x24x64, .f32⟩
  | 13 => ⟨S32x24x64, .f32⟩
  | 14 => ⟨S32x24x1x64, .f32⟩
  | 15 => ⟨S32x24x64x64, .f32⟩
  | 16 => ⟨S32x24x64x64, .f32⟩
  | 17 => ⟨S32x24x64x1, .f32⟩
  | 18 => ⟨S32x24x1x64, .f32⟩
  | 19 => ⟨S32x24x64x64, .f32⟩
  | 20 => ⟨S32x24x64x64, .f32⟩
  | 21 => ⟨S32x24x64x64, .f32⟩
  | 22 => ⟨S32x24x64x64, .f32⟩
  | 23 => ⟨S32x24x64x1, .f32⟩
  | 24 => ⟨S32x24x1x64, .f32⟩
  | 25 => ⟨S32x24x64x64, .f32⟩
  | 26 => ⟨S32x24x64x64, .f32⟩
  | 27 => ⟨S32x24x64x64, .f32⟩
  | 28 => ⟨S32x24x64x64, .f32⟩
  | 29 => ⟨S32x24x64, .f32⟩
  | 30 => ⟨S1x32x24x64, .f32⟩
  | 31 => ⟨S32x24x64, .f32⟩
  | 32 => ⟨S1x32x24x64, .f32⟩
  | 33 => ⟨S32x24x64, .f32⟩
  | 34 => ⟨S1x32x24x64, .f32⟩
  | 35 => ⟨S32x24x64, .f32⟩
  | 36 => ⟨S1x32x24x64, .f32⟩
  | 37 => ⟨S32x24x64, .f32⟩
  | 38 => ⟨S1x32x24x64, .f32⟩
  | 39 => ⟨S32x24x64, .f32⟩
  | 40 => ⟨S1x32x24x64, .f32⟩
  | 41 => ⟨S32x24x64, .f32⟩
  | 42 => ⟨S32x24x64, .f32⟩
  | 43 => ⟨S32x24x1x64, .f32⟩
  | 44 => ⟨S32x24x64x64, .f32⟩
  | 45 => ⟨S32x24x64x64, .f32⟩
  | 46 => ⟨S32x24x64x1, .f32⟩
  | 47 => ⟨S32x24x1x64, .f32⟩
  | 48 => ⟨S32x24x64x64, .f32⟩
  | 49 => ⟨S32x24x64x64, .f32⟩
  | 50 => ⟨S32x24x64x64, .f32⟩
  | 51 => ⟨S32x24x64x64, .f32⟩
  | 52 => ⟨S32x24x64x1, .f32⟩
  | 53 => ⟨S32x24x1x64, .f32⟩
  | 54 => ⟨S32x24x64x64, .f32⟩
  | 55 => ⟨S32x24x64x64, .f32⟩
  | 56 => ⟨S32x24x64x64, .f32⟩
  | 57 => ⟨S32x24x64x64, .f32⟩
  | 58 => ⟨S32x24x64, .f32⟩
  | 59 => ⟨S1x32x24x64, .f32⟩
  | 60 => ⟨S32x24x64, .f32⟩
  | 61 => ⟨S1x32x24x64, .f32⟩
  | 62 => ⟨S32x24x64, .f32⟩
  | 63 => ⟨S1x32x24x64, .f32⟩
  | 64 => ⟨S32x24x64, .f32⟩
  | 65 => ⟨S1x32x24x64, .f32⟩
  | 66 => ⟨S32x24x64, .f32⟩
  | 67 => ⟨S1x32x24x64, .f32⟩
  | 68 => ⟨S32x24x64, .f32⟩
  | 69 => ⟨S1x32x24x64, .f32⟩
  | 70 => ⟨S32x24x64, .f32⟩
  | 71 => ⟨S32x24x64, .f32⟩
  | 72 => ⟨S32x24x1x64, .f32⟩
  | 73 => ⟨S32x24x64x64, .f32⟩
  | 74 => ⟨S32x24x64x64, .f32⟩
  | 75 => ⟨S32x24x64x1, .f32⟩
  | 76 => ⟨S32x24x1x64, .f32⟩
  | 77 => ⟨S32x24x64x64, .f32⟩
  | 78 => ⟨S32x24x64x64, .f32⟩
  | 79 => ⟨S32x24x64x64, .f32⟩
  | 80 => ⟨S32x24x64x64, .f32⟩
  | 81 => ⟨S32x24x64x1, .f32⟩
  | 82 => ⟨S32x24x1x64, .f32⟩
  | 83 => ⟨S32x24x64x64, .f32⟩
  | 84 => ⟨S32x24x64x64, .f32⟩
  | 85 => ⟨S32x24x64x64, .f32⟩
  | 86 => ⟨S32x24x64x64, .f32⟩
  | 87 => ⟨S32x24x64, .f32⟩
  | 88 => ⟨S1x32x24x64, .f32⟩
  | 89 => ⟨S32x24x64, .f32⟩
  | 90 => ⟨S1x32x24x64, .f32⟩
  | 91 => ⟨S32x24x64, .f32⟩
  | 92 => ⟨S1x32x24x64, .f32⟩
  | 93 => ⟨S32x24x64, .f32⟩
  | 94 => ⟨S1x32x24x64, .f32⟩
  | 95 => ⟨S32x24x64, .f32⟩
  | 96 => ⟨S1x32x24x64, .f32⟩
  | 97 => ⟨S32x24x64, .f32⟩
  | 98 => ⟨S1x32x24x64, .f32⟩
  | 99 => ⟨S32x24x64, .f32⟩
  | 100 => ⟨S32x24x64, .f32⟩
  | 101 => ⟨S32x24x1x64, .f32⟩
  | 102 => ⟨S32x24x64x64, .f32⟩
  | 103 => ⟨S32x24x64x64, .f32⟩
  | 104 => ⟨S32x24x64x1, .f32⟩
  | 105 => ⟨S32x24x1x64, .f32⟩
  | 106 => ⟨S32x24x64x64, .f32⟩
  | 107 => ⟨S32x24x64x64, .f32⟩
  | 108 => ⟨S32x24x64x64, .f32⟩
  | 109 => ⟨S32x24x64x64, .f32⟩
  | 110 => ⟨S32x24x64x1, .f32⟩
  | 111 => ⟨S32x24x1x64, .f32⟩
  | 112 => ⟨S32x24x64x64, .f32⟩
  | 113 => ⟨S32x24x64x64, .f32⟩
  | 114 => ⟨S32x24x64x64, .f32⟩
  | 115 => ⟨S32x24x64x64, .f32⟩
  | 116 => ⟨S32x24x64, .f32⟩
  | 117 => ⟨S1x32x24x64, .f32⟩
  | 118 => ⟨S32x24x64, .f32⟩
  | 119 => ⟨S1x32x24x64, .f32⟩
  | 120 => ⟨S32x24x64, .f32⟩
  | 121 => ⟨S1x32x24x64, .f32⟩
  | 122 => ⟨S32x24x64, .f32⟩
  | 123 => ⟨S1x32x24x64, .f32⟩
  | 124 => ⟨S32x24x64, .f32⟩
  | 125 => ⟨S1x32x24x64, .f32⟩
  | 126 => ⟨S32x24x64, .f32⟩
  | 127 => ⟨S1x32x24x64, .f32⟩
  | _ => ⟨S32x32x4960, .f32⟩

abbrev hbmTy0_3 (i : Nat) : BufTy := match i % 128 with
  | 0 => ⟨S32x24x64, .f32⟩
  | 1 => ⟨S32x24x64, .f32⟩
  | 2 => ⟨S32x24x1x64, .f32⟩
  | 3 => ⟨S32x24x64x64, .f32⟩
  | 4 => ⟨S32x24x64x64, .f32⟩
  | 5 => ⟨S32x24x64x1, .f32⟩
  | 6 => ⟨S32x24x1x64, .f32⟩
  | 7 => ⟨S32x24x64x64, .f32⟩
  | 8 => ⟨S32x24x64x64, .f32⟩
  | 9 => ⟨S32x24x64x64, .f32⟩
  | 10 => ⟨S32x24x64x64, .f32⟩
  | 11 => ⟨S32x24x64x1, .f32⟩
  | 12 => ⟨S32x24x1x64, .f32⟩
  | 13 => ⟨S32x24x64x64, .f32⟩
  | 14 => ⟨S32x24x64x64, .f32⟩
  | 15 => ⟨S32x24x64x64, .f32⟩
  | 16 => ⟨S32x24x64x64, .f32⟩
  | 17 => ⟨S32x24x64, .f32⟩
  | 18 => ⟨S1x32x24x64, .f32⟩
  | 19 => ⟨S32x24x64, .f32⟩
  | 20 => ⟨S1x32x24x64, .f32⟩
  | 21 => ⟨S32x24x64, .f32⟩
  | 22 => ⟨S1x32x24x64, .f32⟩
  | 23 => ⟨S32x24x64, .f32⟩
  | 24 => ⟨S1x32x24x64, .f32⟩
  | 25 => ⟨S32x24x64, .f32⟩
  | 26 => ⟨S1x32x24x64, .f32⟩
  | 27 => ⟨S32x24x64, .f32⟩
  | 28 => ⟨S1x32x24x64, .f32⟩
  | 29 => ⟨S32x24x64, .f32⟩
  | 30 => ⟨S32x24x64, .f32⟩
  | 31 => ⟨S32x24x1x64, .f32⟩
  | 32 => ⟨S32x24x64x64, .f32⟩
  | 33 => ⟨S32x24x64x64, .f32⟩
  | 34 => ⟨S32x24x64x1, .f32⟩
  | 35 => ⟨S32x24x1x64, .f32⟩
  | 36 => ⟨S32x24x64x64, .f32⟩
  | 37 => ⟨S32x24x64x64, .f32⟩
  | 38 => ⟨S32x24x64x64, .f32⟩
  | 39 => ⟨S32x24x64x64, .f32⟩
  | 40 => ⟨S32x24x64x1, .f32⟩
  | 41 => ⟨S32x24x1x64, .f32⟩
  | 42 => ⟨S32x24x64x64, .f32⟩
  | 43 => ⟨S32x24x64x64, .f32⟩
  | 44 => ⟨S32x24x64x64, .f32⟩
  | 45 => ⟨S32x24x64x64, .f32⟩
  | 46 => ⟨S32x24x64, .f32⟩
  | 47 => ⟨S1x32x24x64, .f32⟩
  | 48 => ⟨S32x24x64, .f32⟩
  | 49 => ⟨S1x32x24x64, .f32⟩
  | 50 => ⟨S32x24x64, .f32⟩
  | 51 => ⟨S1x32x24x64, .f32⟩
  | 52 => ⟨S32x24x64, .f32⟩
  | 53 => ⟨S1x32x24x64, .f32⟩
  | 54 => ⟨S32x24x64, .f32⟩
  | 55 => ⟨S1x32x24x64, .f32⟩
  | 56 => ⟨S32x24x64, .f32⟩
  | 57 => ⟨S1x32x24x64, .f32⟩
  | 58 => ⟨S32x24x64, .f32⟩
  | 59 => ⟨S32x24x64, .f32⟩
  | 60 => ⟨S32x24x1x64, .f32⟩
  | 61 => ⟨S32x24x64x64, .f32⟩
  | 62 => ⟨S32x24x64x64, .f32⟩
  | 63 => ⟨S32x24x64x1, .f32⟩
  | 64 => ⟨S32x24x1x64, .f32⟩
  | 65 => ⟨S32x24x64x64, .f32⟩
  | 66 => ⟨S32x24x64x64, .f32⟩
  | 67 => ⟨S32x24x64x64, .f32⟩
  | 68 => ⟨S32x24x64x64, .f32⟩
  | 69 => ⟨S32x24x64x1, .f32⟩
  | 70 => ⟨S32x24x1x64, .f32⟩
  | 71 => ⟨S32x24x64x64, .f32⟩
  | 72 => ⟨S32x24x64x64, .f32⟩
  | 73 => ⟨S32x24x64x64, .f32⟩
  | 74 => ⟨S32x24x64x64, .f32⟩
  | 75 => ⟨S32x24x64, .f32⟩
  | 76 => ⟨S1x32x24x64, .f32⟩
  | 77 => ⟨S32x24x64, .f32⟩
  | 78 => ⟨S1x32x24x64, .f32⟩
  | 79 => ⟨S32x24x64, .f32⟩
  | 80 => ⟨S1x32x24x64, .f32⟩
  | 81 => ⟨S32x24x64, .f32⟩
  | 82 => ⟨S1x32x24x64, .f32⟩
  | 83 => ⟨S32x24x64, .f32⟩
  | 84 => ⟨S1x32x24x64, .f32⟩
  | 85 => ⟨S32x24x64, .f32⟩
  | 86 => ⟨S1x32x24x64, .f32⟩
  | 87 => ⟨S32x24x64, .f32⟩
  | 88 => ⟨S32x24x64, .f32⟩
  | 89 => ⟨S32x24x1x64, .f32⟩
  | 90 => ⟨S32x24x64x64, .f32⟩
  | 91 => ⟨S32x24x64x64, .f32⟩
  | 92 => ⟨S32x24x64x1, .f32⟩
  | 93 => ⟨S32x24x1x64, .f32⟩
  | 94 => ⟨S32x24x64x64, .f32⟩
  | 95 => ⟨S32x24x64x64, .f32⟩
  | 96 => ⟨S32x24x64x64, .f32⟩
  | 97 => ⟨S32x24x64x64, .f32⟩
  | 98 => ⟨S32x24x64x1, .f32⟩
  | 99 => ⟨S32x24x1x64, .f32⟩
  | 100 => ⟨S32x24x64x64, .f32⟩
  | 101 => ⟨S32x24x64x64, .f32⟩
  | 102 => ⟨S32x24x64x64, .f32⟩
  | 103 => ⟨S32x24x64x64, .f32⟩
  | 104 => ⟨S32x24x64, .f32⟩
  | 105 => ⟨S1x32x24x64, .f32⟩
  | 106 => ⟨S32x24x64, .f32⟩
  | 107 => ⟨S1x32x24x64, .f32⟩
  | 108 => ⟨S32x24x64, .f32⟩
  | 109 => ⟨S1x32x24x64, .f32⟩
  | 110 => ⟨S32x24x64, .f32⟩
  | 111 => ⟨S1x32x24x64, .f32⟩
  | 112 => ⟨S32x24x64, .f32⟩
  | 113 => ⟨S1x32x24x64, .f32⟩
  | 114 => ⟨S32x24x64, .f32⟩
  | 115 => ⟨S1x32x24x64, .f32⟩
  | 116 => ⟨S32x24x64, .f32⟩
  | 117 => ⟨S32x24x64, .f32⟩
  | 118 => ⟨S32x24x1x64, .f32⟩
  | 119 => ⟨S32x24x64x64, .f32⟩
  | 120 => ⟨S32x24x64x64, .f32⟩
  | 121 => ⟨S32x24x64x1, .f32⟩
  | 122 => ⟨S32x24x1x64, .f32⟩
  | 123 => ⟨S32x24x64x64, .f32⟩
  | 124 => ⟨S32x24x64x64, .f32⟩
  | 125 => ⟨S32x24x64x64, .f32⟩
  | 126 => ⟨S32x24x64x64, .f32⟩
  | 127 => ⟨S32x24x64x1, .f32⟩
  | _ => ⟨S32x32x4960, .f32⟩

abbrev hbmTy0_4 (i : Nat) : BufTy := match i % 128 with
  | 0 => ⟨S32x24x1x64, .f32⟩
  | 1 => ⟨S32x24x64x64, .f32⟩
  | 2 => ⟨S32x24x64x64, .f32⟩
  | 3 => ⟨S32x24x64x64, .f32⟩
  | 4 => ⟨S32x24x64x64, .f32⟩
  | 5 => ⟨S32x24x64, .f32⟩
  | 6 => ⟨S1x32x24x64, .f32⟩
  | 7 => ⟨S32x24x64, .f32⟩
  | 8 => ⟨S1x32x24x64, .f32⟩
  | 9 => ⟨S32x24x64, .f32⟩
  | 10 => ⟨S1x32x24x64, .f32⟩
  | 11 => ⟨S32x24x64, .f32⟩
  | 12 => ⟨S1x32x24x64, .f32⟩
  | 13 => ⟨S32x24x64, .f32⟩
  | 14 => ⟨S1x32x24x64, .f32⟩
  | 15 => ⟨S32x24x64, .f32⟩
  | 16 => ⟨S1x32x24x64, .f32⟩
  | 17 => ⟨S32x24x64, .f32⟩
  | 18 => ⟨S32x24x64, .f32⟩
  | 19 => ⟨S32x24x1x64, .f32⟩
  | 20 => ⟨S32x24x64x64, .f32⟩
  | 21 => ⟨S32x24x64x64, .f32⟩
  | 22 => ⟨S32x24x64x1, .f32⟩
  | 23 => ⟨S32x24x1x64, .f32⟩
  | 24 => ⟨S32x24x64x64, .f32⟩
  | 25 => ⟨S32x24x64x64, .f32⟩
  | 26 => ⟨S32x24x64x64, .f32⟩
  | 27 => ⟨S32x24x64x64, .f32⟩
  | 28 => ⟨S32x24x64x1, .f32⟩
  | 29 => ⟨S32x24x1x64, .f32⟩
  | 30 => ⟨S32x24x64x64, .f32⟩
  | 31 => ⟨S32x24x64x64, .f32⟩
  | 32 => ⟨S32x24x64x64, .f32⟩
  | 33 => ⟨S32x24x64x64, .f32⟩
  | 34 => ⟨S32x24x64, .f32⟩
  | 35 => ⟨S1x32x24x64, .f32⟩
  | 36 => ⟨S32x24x64, .f32⟩
  | 37 => ⟨S1x32x24x64, .f32⟩
  | 38 => ⟨S32x24x64, .f32⟩
  | 39 => ⟨S1x32x24x64, .f32⟩
  | 40 => ⟨S32x24x64, .f32⟩
  | 41 => ⟨S1x32x24x64, .f32⟩
  | 42 => ⟨S32x24x64, .f32⟩
  | 43 => ⟨S1x32x24x64, .f32⟩
  | 44 => ⟨S32x24x64, .f32⟩
  | 45 => ⟨S1x32x24x64, .f32⟩
  | 46 => ⟨S32x24x64, .f32⟩
  | 47 => ⟨S32x24x64, .f32⟩
  | 48 => ⟨S32x24x1x64, .f32⟩
  | 49 => ⟨S32x24x64x64, .f32⟩
  | 50 => ⟨S32x24x64x64, .f32⟩
  | 51 => ⟨S32x24x64x1, .f32⟩
  | 52 => ⟨S32x24x1x64, .f32⟩
  | 53 => ⟨S32x24x64x64, .f32⟩
  | 54 => ⟨S32x24x64x64, .f32⟩
  | 55 => ⟨S32x24x64x64, .f32⟩
  | 56 => ⟨S32x24x64x64, .f32⟩
  | 57 => ⟨S32x24x64x1, .f32⟩
  | 58 => ⟨S32x24x1x64, .f32⟩
  | 59 => ⟨S32x24x64x64, .f32⟩
  | 60 => ⟨S32x24x64x64, .f32⟩
  | 61 => ⟨S32x24x64x64, .f32⟩
  | 62 => ⟨S32x24x64x64, .f32⟩
  | 63 => ⟨S32x24x64, .f32⟩
  | 64 => ⟨S1x32x24x64, .f32⟩
  | 65 => ⟨S32x24x64, .f32⟩
  | 66 => ⟨S1x32x24x64, .f32⟩
  | 67 => ⟨S32x24x64, .f32⟩
  | 68 => ⟨S1x32x24x64, .f32⟩
  | 69 => ⟨S32x24x64, .f32⟩
  | 70 => ⟨S1x32x24x64, .f32⟩
  | 71 => ⟨S32x24x64, .f32⟩
  | 72 => ⟨S1x32x24x64, .f32⟩
  | 73 => ⟨S32x24x64, .f32⟩
  | 74 => ⟨S1x32x24x64, .f32⟩
  | 75 => ⟨S32x24x64, .f32⟩
  | 76 => ⟨S32x24x64, .f32⟩
  | 77 => ⟨S32x24x1x64, .f32⟩
  | 78 => ⟨S32x24x64x64, .f32⟩
  | 79 => ⟨S32x24x64x64, .f32⟩
  | 80 => ⟨S32x24x64x1, .f32⟩
  | 81 => ⟨S32x24x1x64, .f32⟩
  | 82 => ⟨S32x24x64x64, .f32⟩
  | 83 => ⟨S32x24x64x64, .f32⟩
  | 84 => ⟨S32x24x64x64, .f32⟩
  | 85 => ⟨S32x24x64x64, .f32⟩
  | 86 => ⟨S32x24x64x1, .f32⟩
  | 87 => ⟨S32x24x1x64, .f32⟩
  | 88 => ⟨S32x24x64x64, .f32⟩
  | 89 => ⟨S32x24x64x64, .f32⟩
  | 90 => ⟨S32x24x64x64, .f32⟩
  | 91 => ⟨S32x24x64x64, .f32⟩
  | 92 => ⟨S32x24x64, .f32⟩
  | 93 => ⟨S1x32x24x64, .f32⟩
  | 94 => ⟨S32x24x64, .f32⟩
  | 95 => ⟨S1x32x24x64, .f32⟩
  | 96 => ⟨S32x24x64, .f32⟩
  | 97 => ⟨S1x32x24x64, .f32⟩
  | 98 => ⟨S32x24x64, .f32⟩
  | 99 => ⟨S1x32x24x64, .f32⟩
  | 100 => ⟨S32x24x64, .f32⟩
  | 101 => ⟨S1x32x24x64, .f32⟩
  | 102 => ⟨S32x24x64, .f32⟩
  | 103 => ⟨S1x32x24x64, .f32⟩
  | 104 => ⟨S32x24x64, .f32⟩
  | 105 => ⟨S32x24x64, .f32⟩
  | 106 => ⟨S32x24x1x64, .f32⟩
  | 107 => ⟨S32x24x64x64, .f32⟩
  | 108 => ⟨S32x24x64x64, .f32⟩
  | 109 => ⟨S32x24x64x1, .f32⟩
  | 110 => ⟨S32x24x1x64, .f32⟩
  | 111 => ⟨S32x24x64x64, .f32⟩
  | 112 => ⟨S32x24x64x64, .f32⟩
  | 113 => ⟨S32x24x64x64, .f32⟩
  | 114 => ⟨S32x24x64x64, .f32⟩
  | 115 => ⟨S32x24x64x1, .f32⟩
  | 116 => ⟨S32x24x1x64, .f32⟩
  | 117 => ⟨S32x24x64x64, .f32⟩
  | 118 => ⟨S32x24x64x64, .f32⟩
  | 119 => ⟨S32x24x64x64, .f32⟩
  | 120 => ⟨S32x24x64x64, .f32⟩
  | 121 => ⟨S32x24x64, .f32⟩
  | 122 => ⟨S1x32x24x64, .f32⟩
  | 123 => ⟨S32x24x64, .f32⟩
  | 124 => ⟨S1x32x24x64, .f32⟩
  | 125 => ⟨S32x24x64, .f32⟩
  | 126 => ⟨S1x32x24x64, .f32⟩
  | 127 => ⟨S32x24x64, .f32⟩
  | _ => ⟨S32x32x4960, .f32⟩

abbrev hbmTy0_5 (i : Nat) : BufTy := match i % 128 with
  | 0 => ⟨S1x32x24x64, .f32⟩
  | 1 => ⟨S32x24x64, .f32⟩
  | 2 => ⟨S1x32x24x64, .f32⟩
  | 3 => ⟨S32x24x64, .f32⟩
  | 4 => ⟨S1x32x24x64, .f32⟩
  | 5 => ⟨S32x24x64, .f32⟩
  | 6 => ⟨S32x24x64, .f32⟩
  | 7 => ⟨S32x24x1x64, .f32⟩
  | 8 => ⟨S32x24x64x64, .f32⟩
  | 9 => ⟨S32x24x64x64, .f32⟩
  | 10 => ⟨S32x24x64x1, .f32⟩
  | 11 => ⟨S32x24x1x64, .f32⟩
  | 12 => ⟨S32x24x64x64, .f32⟩
  | 13 => ⟨S32x24x64x64, .f32⟩
  | 14 => ⟨S32x24x64x64, .f32⟩
  | 15 => ⟨S32x24x64x64, .f32⟩
  | 16 => ⟨S32x24x64x1, .f32⟩
  | 17 => ⟨S32x24x1x64, .f32⟩
  | 18 => ⟨S32x24x64x64, .f32⟩
  | 19 => ⟨S32x24x64x64, .f32⟩
  | 20 => ⟨S32x24x64x64, .f32⟩
  | 21 => ⟨S32x24x64x64, .f32⟩
  | 22 => ⟨S32x24x64, .f32⟩
  | 23 => ⟨S1x32x24x64, .f32⟩
  | 24 => ⟨S32x24x64, .f32⟩
  | 25 => ⟨S1x32x24x64, .f32⟩
  | 26 => ⟨S32x24x64, .f32⟩
  | 27 => ⟨S1x32x24x64, .f32⟩
  | 28 => ⟨S32x24x64, .f32⟩
  | 29 => ⟨S1x32x24x64, .f32⟩
  | 30 => ⟨S32x24x64, .f32⟩
  | 31 => ⟨S1x32x24x64, .f32⟩
  | 32 => ⟨S32x24x64, .f32⟩
  | 33 => ⟨S1x32x24x64, .f32⟩
  | 34 => ⟨S32x24x64, .f32⟩
  | 35 => ⟨S32x24x64, .f32⟩
  | 36 => ⟨S32x24x1x64, .f32⟩
  | 37 => ⟨S32x24x64x64, .f32⟩
  | 38 => ⟨S32x24x64x64, .f32⟩
  | 39 => ⟨S32x24x64x1, .f32⟩
  | 40 => ⟨S32x24x1x64, .f32⟩
  | 41 => ⟨S32x24x64x64, .f32⟩
  | 42 => ⟨S32x24x64x64, .f32⟩
  | 43 => ⟨S32x24x64x64, .f32⟩
  | 44 => ⟨S32x24x64x64, .f32⟩
  | 45 => ⟨S32x24x64x1, .f32⟩
  | 46 => ⟨S32x24x1x64, .f32⟩
  | 47 => ⟨S32x24x64x64, .f32⟩
  | 48 => ⟨S32x24x64x64, .f32⟩
  | 49 => ⟨S32x24x64x64, .f32⟩
  | 50 => ⟨S32x24x64x64, .f32⟩
  | 51 => ⟨S32x24x64, .f32⟩
  | 52 => ⟨S1x32x24x64, .f32⟩
  | 53 => ⟨S32x24x64, .f32⟩
  | 54 => ⟨S1x32x24x64, .f32⟩
  | 55 => ⟨S32x24x64, .f32⟩
  | 56 => ⟨S1x32x24x64, .f32⟩
  | 57 => ⟨S32x24x64, .f32⟩
  | 58 => ⟨S1x32x24x64, .f32⟩
  | 59 => ⟨S32x24x64, .f32⟩
  | 60 => ⟨S1x32x24x64, .f32⟩
  | 61 => ⟨S32x24x64, .f32⟩
  | 62 => ⟨S1x32x24x64, .f32⟩
  | 63 => ⟨S32x24x64, .f32⟩
  | 64 => ⟨S32x24x64, .f32⟩
  | 65 => ⟨S32x24x1x64, .f32⟩
  | 66 => ⟨S32x24x64x64, .f32⟩
  | 67 => ⟨S32x24x64x64, .f32⟩
  | 68 => ⟨S32x24x64x1, .f32⟩
  | 69 => ⟨S32x24x1x64, .f32⟩
  | 70 => ⟨S32x24x64x64, .f32⟩
  | 71 => ⟨S32x24x64x64, .f32⟩
  | 72 => ⟨S32x24x64x64, .f32⟩
  | 73 => ⟨S32x24x64x64, .f32⟩
  | 74 => ⟨S32x24x64x1, .f32⟩
  | 75 => ⟨S32x24x1x64, .f32⟩
  | 76 => ⟨S32x24x64x64, .f32⟩
  | 77 => ⟨S32x24x64x64, .f32⟩
  | 78 => ⟨S32x24x64x64, .f32⟩
  | 79 => ⟨S32x24x64x64, .f32⟩
  | 80 => ⟨S32x24x64, .f32⟩
  | 81 => ⟨S1x32x24x64, .f32⟩
  | 82 => ⟨S32x24x64, .f32⟩
  | 83 => ⟨S1x32x24x64, .f32⟩
  | 84 => ⟨S32x24x64, .f32⟩
  | 85 => ⟨S1x32x24x64, .f32⟩
  | 86 => ⟨S32x24x64, .f32⟩
  | 87 => ⟨S1x32x24x64, .f32⟩
  | 88 => ⟨S32x24x64, .f32⟩
  | 89 => ⟨S1x32x24x64, .f32⟩
  | 90 => ⟨S32x24x64, .f32⟩
  | 91 => ⟨S1x32x24x64, .f32⟩
  | 92 => ⟨S32x24x64, .f32⟩
  | 93 => ⟨S32x24x64, .f32⟩
  | 94 => ⟨S32x24x1x64, .f32⟩
  | 95 => ⟨S32x24x64x64, .f32⟩
  | 96 => ⟨S32x24x64x64, .f32⟩
  | 97 => ⟨S32x24x64x1, .f32⟩
  | 98 => ⟨S32x24x1x64, .f32⟩
  | 99 => ⟨S32x24x64x64, .f32⟩
  | 100 => ⟨S32x24x64x64, .f32⟩
  | 101 => ⟨S32x24x64x64, .f32⟩
  | 102 => ⟨S32x24x64x64, .f32⟩
  | 103 => ⟨S32x24x64x1, .f32⟩
  | 104 => ⟨S32x24x1x64, .f32⟩
  | 105 => ⟨S32x24x64x64, .f32⟩
  | 106 => ⟨S32x24x64x64, .f32⟩
  | 107 => ⟨S32x24x64x64, .f32⟩
  | 108 => ⟨S32x24x64x64, .f32⟩
  | 109 => ⟨S32x24x64, .f32⟩
  | 110 => ⟨S1x32x24x64, .f32⟩
  | 111 => ⟨S32x24x64, .f32⟩
  | 112 => ⟨S1x32x24x64, .f32⟩
  | 113 => ⟨S32x24x64, .f32⟩
  | 114 => ⟨S1x32x24x64, .f32⟩
  | 115 => ⟨S32x24x64, .f32⟩
  | 116 => ⟨S1x32x24x64, .f32⟩
  | 117 => ⟨S32x24x64, .f32⟩
  | 118 => ⟨S1x32x24x64, .f32⟩
  | 119 => ⟨S32x24x64, .f32⟩
  | 120 => ⟨S1x32x24x64, .f32⟩
  | 121 => ⟨S32x24x64, .f32⟩
  | 122 => ⟨S32x24x64, .f32⟩
  | 123 => ⟨S32x24x1x64, .f32⟩
  | 124 => ⟨S32x24x64x64, .f32⟩
  | 125 => ⟨S32x24x64x64, .f32⟩
  | 126 => ⟨S32x24x64x1, .f32⟩
  | 127 => ⟨S32x24x1x64, .f32⟩
  | _ => ⟨S32x32x4960, .f32⟩

abbrev hbmTy0_6 (i : Nat) : BufTy := match i % 128 with
  | 0 => ⟨S32x24x64x64, .f32⟩
  | 1 => ⟨S32x24x64x64, .f32⟩
  | 2 => ⟨S32x24x64x64, .f32⟩
  | 3 => ⟨S32x24x64x64, .f32⟩
  | 4 => ⟨S32x24x64x1, .f32⟩
  | 5 => ⟨S32x24x1x64, .f32⟩
  | 6 => ⟨S32x24x64x64, .f32⟩
  | 7 => ⟨S32x24x64x64, .f32⟩
  | 8 => ⟨S32x24x64x64, .f32⟩
  | 9 => ⟨S32x24x64x64, .f32⟩
  | 10 => ⟨S32x24x64, .f32⟩
  | 11 => ⟨S1x32x24x64, .f32⟩
  | 12 => ⟨S32x24x64, .f32⟩
  | 13 => ⟨S1x32x24x64, .f32⟩
  | 14 => ⟨S32x24x64, .f32⟩
  | 15 => ⟨S1x32x24x64, .f32⟩
  | 16 => ⟨S32x24x64, .f32⟩
  | 17 => ⟨S1x32x24x64, .f32⟩
  | 18 => ⟨S32x24x64, .f32⟩
  | 19 => ⟨S1x32x24x64, .f32⟩
  | 20 => ⟨S32x24x64, .f32⟩
  | 21 => ⟨S1x32x24x64, .f32⟩
  | 22 => ⟨S32x24x64, .f32⟩
  | 23 => ⟨S32x24x64, .f32⟩
  | 24 => ⟨S32x24x1x64, .f32⟩
  | 25 => ⟨S32x24x64x64, .f32⟩
  | 26 => ⟨S32x24x64x64, .f32⟩
  | 27 => ⟨S32x24x64x1, .f32⟩
  | 28 => ⟨S32x24x1x64, .f32⟩
  | 29 => ⟨S32x24x64x64, .f32⟩
  | 30 => ⟨S32x24x64x64, .f32⟩
  | 31 => ⟨S32x24x64x64, .f32⟩
  | 32 => ⟨S32x24x64x64, .f32⟩
  | 33 => ⟨S32x24x64x1, .f32⟩
  | 34 => ⟨S32x24x1x64, .f32⟩
  | 35 => ⟨S32x24x64x64, .f32⟩
  | 36 => ⟨S32x24x64x64, .f32⟩
  | 37 => ⟨S32x24x64x64, .f32⟩
  | 38 => ⟨S32x24x64x64, .f32⟩
  | 39 => ⟨S32x24x64, .f32⟩
  | 40 => ⟨S1x32x24x64, .f32⟩
  | 41 => ⟨S32x24x64, .f32⟩
  | 42 => ⟨S1x32x24x64, .f32⟩
  | 43 => ⟨S32x24x64, .f32⟩
  | 44 => ⟨S1x32x24x64, .f32⟩
  | 45 => ⟨S32x24x64, .f32⟩
  | 46 => ⟨S1x32x24x64, .f32⟩
  | 47 => ⟨S32x24x64, .f32⟩
  | 48 => ⟨S1x32x24x64, .f32⟩
  | 49 => ⟨S32x24x64, .f32⟩
  | 50 => ⟨S1x32x24x64, .f32⟩
  | 51 => ⟨S32x24x64, .f32⟩
  | 52 => ⟨S32x24x64, .f32⟩
  | 53 => ⟨S32x24x1x64, .f32⟩
  | 54 => ⟨S32x24x64x64, .f32⟩
  | 55 => ⟨S32x24x64x64, .f32⟩
  | 56 => ⟨S32x24x64x1, .f32⟩
  | 57 => ⟨S32x24x1x64, .f32⟩
  | 58 => ⟨S32x24x64x64, .f32⟩
  | 59 => ⟨S32x24x64x64, .f32⟩
  | 60 => ⟨S32x24x64x64, .f32⟩
  | 61 => ⟨S32x24x64x64, .f32⟩
  | 62 => ⟨S32x24x64x1, .f32⟩
  | 63 => ⟨S32x24x1x64, .f32⟩
  | 64 => ⟨S32x24x64x64, .f32⟩
  | 65 => ⟨S32x24x64x64, .f32⟩
  | 66 => ⟨S32x24x64x64, .f32⟩
  | 67 => ⟨S32x24x64x64, .f32⟩
  | 68 => ⟨S32x24x64, .f32⟩
  | 69 => ⟨S1x32x24x64, .f32⟩
  | 70 => ⟨S32x24x64, .f32⟩
  | 71 => ⟨S1x32x24x64, .f32⟩
  | 72 => ⟨S32x24x64, .f32⟩
  | 73 => ⟨S1x32x24x64, .f32⟩
  | 74 => ⟨S32x24x64, .f32⟩
  | 75 => ⟨S1x32x24x64, .f32⟩
  | 76 => ⟨S32x24x64, .f32⟩
  | 77 => ⟨S1x32x24x64, .f32⟩
  | 78 => ⟨S32x24x64, .f32⟩
  | 79 => ⟨S1x32x24x64, .f32⟩
  | 80 => ⟨S32x24x64, .f32⟩
  | 81 => ⟨S32x24x64, .f32⟩
  | 82 => ⟨S32x24x1x64, .f32⟩
  | 83 => ⟨S32x24x64x64, .f32⟩
  | 84 => ⟨S32x24x64x64, .f32⟩
  | 85 => ⟨S32x24x64x1, .f32⟩
  | 86 => ⟨S32x24x1x64, .f32⟩
  | 87 => ⟨S32x24x64x64, .f32⟩
  | 88 => ⟨S32x24x64x64, .f32⟩
  | 89 => ⟨S32x24x64x64, .f32⟩
  | 90 => ⟨S32x24x64x64, .f32⟩
  | 91 => ⟨S32x24x64x1, .f32⟩
  | 92 => ⟨S32x24x1x64, .f32⟩
  | 93 => ⟨S32x24x64x64, .f32⟩
  | 94 => ⟨S32x24x64x64, .f32⟩
  | 95 => ⟨S32x24x64x64, .f32⟩
  | 96 => ⟨S32x24x64x64, .f32⟩
  | 97 => ⟨S32x24x64, .f32⟩
  | 98 => ⟨S1x32x24x64, .f32⟩
  | 99 => ⟨S32x24x64, .f32⟩
  | 100 => ⟨S1x32x24x64, .f32⟩
  | 101 => ⟨S32x24x64, .f32⟩
  | 102 => ⟨S1x32x24x64, .f32⟩
  | 103 => ⟨S32x24x64, .f32⟩
  | 104 => ⟨S1x32x24x64, .f32⟩
  | 105 => ⟨S32x24x64, .f32⟩
  | 106 => ⟨S1x32x24x64, .f32⟩
  | 107 => ⟨S32x24x64, .f32⟩
  | 108 => ⟨S1x32x24x64, .f32⟩
  | 109 => ⟨S32x24x64, .f32⟩
  | 110 => ⟨S32x24x64, .f32⟩
  | 111 => ⟨S32x24x1x64, .f32⟩
  | 112 => ⟨S32x24x64x64, .f32⟩
  | 113 => ⟨S32x24x64x64, .f32⟩
  | 114 => ⟨S32x24x64x1, .f32⟩
  | 115 => ⟨S32x24x1x64, .f32⟩
  | 116 => ⟨S32x24x64x64, .f32⟩
  | 117 => ⟨S32x24x64x64, .f32⟩
  | 118 => ⟨S32x24x64x64, .f32⟩
  | 119 => ⟨S32x24x64x64, .f32⟩
  | 120 => ⟨S32x24x64x1, .f32⟩
  | 121 => ⟨S32x24x1x64, .f32⟩
  | 122 => ⟨S32x24x64x64, .f32⟩
  | 123 => ⟨S32x24x64x64, .f32⟩
  | 124 => ⟨S32x24x64x64, .f32⟩
  | 125 => ⟨S32x24x64x64, .f32⟩
  | 126 => ⟨S32x24x64, .f32⟩
  | 127 => ⟨S1x32x24x64, .f32⟩
  | _ => ⟨S32x32x4960, .f32⟩

abbrev hbmTy0_7 (i : Nat) : BufTy := match i % 128 with
  | 0 => ⟨S32x24x64, .f32⟩
  | 1 => ⟨S1x32x24x64, .f32⟩
  | 2 => ⟨S32x24x64, .f32⟩
  | 3 => ⟨S1x32x24x64, .f32⟩
  | 4 => ⟨S32x24x64, .f32⟩
  | 5 => ⟨S1x32x24x64, .f32⟩
  | 6 => ⟨S32x24x64, .f32⟩
  | 7 => ⟨S1x32x24x64, .f32⟩
  | 8 => ⟨S32x24x64, .f32⟩
  | 9 => ⟨S1x32x24x64, .f32⟩
  | 10 => ⟨S32x24x64, .f32⟩
  | 11 => ⟨S32x24x64, .f32⟩
  | 12 => ⟨S32x24x1x64, .f32⟩
  | 13 => ⟨S32x24x64x64, .f32⟩
  | 14 => ⟨S32x24x64x64, .f32⟩
  | 15 => ⟨S32x24x64x1, .f32⟩
  | 16 => ⟨S32x24x1x64, .f32⟩
  | 17 => ⟨S32x24x64x64, .f32⟩
  | 18 => ⟨S32x24x64x64, .f32⟩
  | 19 => ⟨S32x24x64x64, .f32⟩
  | 20 => ⟨S32x24x64x64, .f32⟩
  | 21 => ⟨S32x24x64x1, .f32⟩
  | 22 => ⟨S32x24x1x64, .f32⟩
  | 23 => ⟨S32x24x64x64, .f32⟩
  | 24 => ⟨S32x24x64x64, .f32⟩
  | 25 => ⟨S32x24x64x64, .f32⟩
  | 26 => ⟨S32x24x64x64, .f32⟩
  | 27 => ⟨S32x24x64, .f32⟩
  | 28 => ⟨S1x32x24x64, .f32⟩
  | 29 => ⟨S32x24x64, .f32⟩
  | 30 => ⟨S1x32x24x64, .f32⟩
  | 31 => ⟨S32x24x64, .f32⟩
  | 32 => ⟨S1x32x24x64, .f32⟩
  | 33 => ⟨S32x24x64, .f32⟩
  | 34 => ⟨S1x32x24x64, .f32⟩
  | 35 => ⟨S32x24x64, .f32⟩
  | 36 => ⟨S1x32x24x64, .f32⟩
  | 37 => ⟨S32x24x64, .f32⟩
  | 38 => ⟨S1x32x24x64, .f32⟩
  | 39 => ⟨S32x24x64, .f32⟩
  | 40 => ⟨S32x24x64, .f32⟩
  | 41 => ⟨S32x24x1x64, .f32⟩
  | 42 => ⟨S32x24x64x64, .f32⟩
  | 43 => ⟨S32x24x64x64, .f32⟩
  | 44 => ⟨S32x24x64x1, .f32⟩
  | 45 => ⟨S32x24x1x64, .f32⟩
  | 46 => ⟨S32x24x64x64, .f32⟩
  | 47 => ⟨S32x24x64x64, .f32⟩
  | 48 => ⟨S32x24x64x64, .f32⟩
  | 49 => ⟨S32x24x64x64, .f32⟩
  | 50 => ⟨S32x24x64x1, .f32⟩
  | 51 => ⟨S32x24x1x64, .f32⟩
  | 52 => ⟨S32x24x64x64, .f32⟩
  | 53 => ⟨S32x24x64x64, .f32⟩
  | 54 => ⟨S32x24x64x64, .f32⟩
  | 55 => ⟨S32x24x64x64, .f32⟩
  | 56 => ⟨S32x24x64, .f32⟩
  | 57 => ⟨S1x32x24x64, .f32⟩
  | 58 => ⟨S32x24x64, .f32⟩
  | 59 => ⟨S1x32x24x64, .f32⟩
  | 60 => ⟨S32x24x64, .f32⟩
  | 61 => ⟨S1x32x24x64, .f32⟩
  | 62 => ⟨S32x24x64, .f32⟩
  | 63 => ⟨S1x32x24x64, .f32⟩
  | 64 => ⟨S32x24x64, .f32⟩
  | 65 => ⟨S1x32x24x64, .f32⟩
  | 66 => ⟨S32x24x64, .f32⟩
  | 67 => ⟨S1x32x24x64, .f32⟩
  | 68 => ⟨S32x24x64, .f32⟩
  | 69 => ⟨S32x24x64, .f32⟩
  | 70 => ⟨S32x24x1x64, .f32⟩
  | 71 => ⟨S32x24x64x64, .f32⟩
  | 72 => ⟨S32x24x64x64, .f32⟩
  | 73 => ⟨S32x24x64x1, .f32⟩
  | 74 => ⟨S32x24x1x64, .f32⟩
  | 75 => ⟨S32x24x64x64, .f32⟩
  | 76 => ⟨S32x24x64x64, .f32⟩
  | 77 => ⟨S32x24x64x64, .f32⟩
  | 78 => ⟨S32x24x64x64, .f32⟩
  | 79 => ⟨S32x24x64x1, .f32⟩
  | 80 => ⟨S32x24x1x64, .f32⟩
  | 81 => ⟨S32x24x64x64, .f32⟩
  | 82 => ⟨S32x24x64x64, .f32⟩
  | 83 => ⟨S32x24x64x64, .f32⟩
  | 84 => ⟨S32x24x64x64, .f32⟩
  | 85 => ⟨S32x24x64, .f32⟩
  | 86 => ⟨S1x32x24x64, .f32⟩
  | 87 => ⟨S32x24x64, .f32⟩
  | 88 => ⟨S1x32x24x64, .f32⟩
  | 89 => ⟨S32x24x64, .f32⟩
  | 90 => ⟨S1x32x24x64, .f32⟩
  | 91 => ⟨S32x24x64, .f32⟩
  | 92 => ⟨S1x32x24x64, .f32⟩
  | 93 => ⟨S32x24x64, .f32⟩
  | 94 => ⟨S1x32x24x64, .f32⟩
  | 95 => ⟨S32x24x64, .f32⟩
  | 96 => ⟨S1x32x24x64, .f32⟩
  | 97 => ⟨S32x24x64, .f32⟩
  | 98 => ⟨S32x24x64, .f32⟩
  | 99 => ⟨S32x24x1x64, .f32⟩
  | 100 => ⟨S32x24x64x64, .f32⟩
  | 101 => ⟨S32x24x64x64, .f32⟩
  | 102 => ⟨S32x24x64x1, .f32⟩
  | 103 => ⟨S32x24x1x64, .f32⟩
  | 104 => ⟨S32x24x64x64, .f32⟩
  | 105 => ⟨S32x24x64x64, .f32⟩
  | 106 => ⟨S32x24x64x64, .f32⟩
  | 107 => ⟨S32x24x64x64, .f32⟩
  | 108 => ⟨S32x24x64x1, .f32⟩
  | 109 => ⟨S32x24x1x64, .f32⟩
  | 110 => ⟨S32x24x64x64, .f32⟩
  | 111 => ⟨S32x24x64x64, .f32⟩
  | 112 => ⟨S32x24x64x64, .f32⟩
  | 113 => ⟨S32x24x64x64, .f32⟩
  | 114 => ⟨S32x24x64, .f32⟩
  | 115 => ⟨S1x32x24x64, .f32⟩
  | 116 => ⟨S32x24x64, .f32⟩
  | 117 => ⟨S1x32x24x64, .f32⟩
  | 118 => ⟨S32x24x64, .f32⟩
  | 119 => ⟨S1x32x24x64, .f32⟩
  | 120 => ⟨S32x24x64, .f32⟩
  | 121 => ⟨S1x32x24x64, .f32⟩
  | 122 => ⟨S32x24x64, .f32⟩
  | 123 => ⟨S1x32x24x64, .f32⟩
  | 124 => ⟨S32x24x64, .f32⟩
  | 125 => ⟨S1x32x24x64, .f32⟩
  | 126 => ⟨S32x24x64, .f32⟩
  | 127 => ⟨S32x24x64, .f32⟩
  | _ => ⟨S32x32x4960, .f32⟩

abbrev hbmTy0_8 (i : Nat) : BufTy := match i % 128 with
  | 0 => ⟨S32x24x1x64, .f32⟩
  | 1 => ⟨S32x24x64x64, .f32⟩
  | 2 => ⟨S32x24x64x64, .f32⟩
  | 3 => ⟨S32x24x64x1, .f32⟩
  | 4 => ⟨S32x24x1x64, .f32⟩
  | 5 => ⟨S32x24x64x64, .f32⟩
  | 6 => ⟨S32x24x64x64, .f32⟩
  | 7 => ⟨S32x24x64x64, .f32⟩
  | 8 => ⟨S32x24x64x64, .f32⟩
  | 9 => ⟨S32x24x64x1, .f32⟩
  | 10 => ⟨S32x24x1x64, .f32⟩
  | 11 => ⟨S32x24x64x64, .f32⟩
  | 12 => ⟨S32x24x64x64, .f32⟩
  | 13 => ⟨S32x24x64x64, .f32⟩
  | 14 => ⟨S32x24x64x64, .f32⟩
  | 15 => ⟨S32x24x64, .f32⟩
  | 16 => ⟨S1x32x24x64, .f32⟩
  | 17 => ⟨S1x32x24x64, .f32⟩
  | 18 => ⟨S1x32x24x64, .f32⟩
  | 19 => ⟨S1x32x24x64, .f32⟩
  | 20 => ⟨S1x32x24x64, .f32⟩
  | 21 => ⟨S1x32x24x64, .f32⟩
  | 22 => ⟨S1x32x24x64, .f32⟩
  | 23 => ⟨S1x32x24x64, .f32⟩
  | 24 => ⟨S1x32x24x64, .f32⟩
  | 25 => ⟨S1x32x24x64, .f32⟩
  | 26 => ⟨S1x32x24x64, .f32⟩
  | 27 => ⟨S1x32x24x64, .f32⟩
  | 28 => ⟨S1x32x24x64, .f32⟩
  | 29 => ⟨S1x32x24x64, .f32⟩
  | 30 => ⟨S1x32x24x64, .f32⟩
  | 31 => ⟨S1x32x24x64, .f32⟩
  | 32 => ⟨S1x32x24x64, .f32⟩
  | 33 => ⟨S1x32x24x64, .f32⟩
  | 34 => ⟨S1x32x24x64, .f32⟩
  | 35 => ⟨S1x32x24x64, .f32⟩
  | 36 => ⟨S1x32x24x64, .f32⟩
  | 37 => ⟨S1x32x24x64, .f32⟩
  | 38 => ⟨S1x32x24x64, .f32⟩
  | 39 => ⟨S1x32x24x64, .f32⟩
  | 40 => ⟨S1x32x24x64, .f32⟩
  | 41 => ⟨S1x32x24x64, .f32⟩
  | 42 => ⟨S1x32x24x64, .f32⟩
  | 43 => ⟨S1x32x24x64, .f32⟩
  | 44 => ⟨S1x32x24x64, .f32⟩
  | 45 => ⟨S1x32x24x64, .f32⟩
  | 46 => ⟨S1x32x24x64, .f32⟩
  | 47 => ⟨S1x32x24x64, .f32⟩
  | 48 => ⟨S16x32x24x64, .f32⟩
  | 49 => ⟨S16x32x24x64, .f32⟩
  | 50 => ⟨S32x32x24x64, .f32⟩
  | 51 => ⟨S32x32x24x64, .f32⟩
  | 52 => ⟨S_, .f32⟩
  | 53 => ⟨S32x32x24, .f32⟩
  | 54 => ⟨S32x32x24x1, .f32⟩
  | 55 => ⟨S_, .f32⟩
  | 56 => ⟨S32x32x24x1, .f32⟩
  | 57 => ⟨S32x32x24x1, .f32⟩
  | 58 => ⟨S_, .i32⟩
  | 59 => ⟨S_, .f32⟩
  | 60 => ⟨S32x32x24, .f32⟩
  | 61 => ⟨S32x32x24x1, .f32⟩
  | 62 => ⟨S_, .f32⟩
  | 63 => ⟨S32x32x24x1, .f32⟩
  | 64 => ⟨S32x32x24x1, .f32⟩
  | 65 => ⟨S32x32x24x64, .f32⟩
  | 66 => ⟨S32x32x24x64, .f32⟩
  | 67 => ⟨S32x32x24x64, .f32⟩
  | 68 => ⟨S_, .f32⟩
  | 69 => ⟨S_, .f32⟩
  | 70 => ⟨S_, .f32⟩
  | 71 => ⟨S_, .f32⟩
  | 72 => ⟨S32x32x24, .f32⟩
  | 73 => ⟨S32x32x24x1, .f32⟩
  | 74 => ⟨S32x32x24x1, .f32⟩
  | 75 => ⟨S32x32x24x1, .f32⟩
  | 76 => ⟨S_, .f32⟩
  | 77 => ⟨S_, .i1⟩
  | 78 => ⟨S_, .f32⟩
  | 79 => ⟨S_, .f32⟩
  | 80 => ⟨S32x32x24x1, .f32⟩
  | 81 => ⟨S32x32x24x1, .f32⟩
  | 82 => ⟨S32x32x24x64, .f32⟩
  | 83 => ⟨S32x32x24x64, .f32⟩
  | 84 => ⟨S_, .f32⟩
  | 85 => ⟨S32x32x24x1, .f32⟩
  | 86 => ⟨S32x32x24x1, .f32⟩
  | 87 => ⟨S32x32x24x1, .f32⟩
  | 88 => ⟨S32x32x24x64, .f32⟩
  | 89 => ⟨S32x32x24x64, .f32⟩
  | 90 => ⟨S32x32x1536, .f32⟩
  | 91 => ⟨S1x1x1536, .f32⟩
  | 92 => ⟨S32x32x1536, .f32⟩
  | 93 => ⟨S32x32x1536, .f32⟩
  | 94 => ⟨S1x1x1536, .f32⟩
  | 95 => ⟨S32x32x1536, .f32⟩
  | 96 => ⟨S32x32x1536, .f32⟩
  | 97 => ⟨S32x32x24x64, .f32⟩
  | 98 => ⟨S1x1x24x64, .f32⟩
  | 99 => ⟨S32x32x24x64, .f32⟩
  | 100 => ⟨S32x32x24x64, .f32⟩
  | 101 => ⟨S_, .f32⟩
  | 102 => ⟨S32x32x24, .f32⟩
  | 103 => ⟨S32x32x24x1, .f32⟩
  | 104 => ⟨S32x32x24x64, .f32⟩
  | 105 => ⟨S32x32x24x64, .f32⟩
  | 106 => ⟨S32x32x1536, .f32⟩
  | 107 => ⟨S32x32x1536, .f32⟩
  | 108 => ⟨S32x32x1536, .f32⟩
  | 109 => ⟨S1024x1536, .f32⟩
  | 110 => ⟨S1024x1536, .bf16⟩
  | 111 => ⟨S1024x1536, .f32⟩
  | _ => ⟨S32x32x4960, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | _ => ⟨S32x32x4960, .f32⟩

abbrev bufTy : (tb : Table) → Fin (tcTables nBuf tb) → BufTy
  | .hbm, ⟨i, _⟩ => hbmTy i
  | _, _ => ⟨S32x32x4960, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_call0_cst : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_call0_v5 : Ref sig .tc := ⟨.hbm, 39, rfl⟩
abbrev main_call0_v6 : Ref sig .tc := ⟨.hbm, 40, rfl⟩
abbrev main_call0_v7 : Ref sig .tc := ⟨.hbm, 41, rfl⟩
abbrev main_call0_v8 : Ref sig .tc := ⟨.hbm, 42, rfl⟩
abbrev main_call0_v9 : Ref sig .tc := ⟨.hbm, 43, rfl⟩
abbrev main_call0_v10 : Ref sig .tc := ⟨.hbm, 44, rfl⟩
abbrev main_call0_v11 : Ref sig .tc := ⟨.hbm, 45, rfl⟩
abbrev main_v19 : Ref sig .tc := ⟨.hbm, 46, rfl⟩
abbrev main_v20 : Ref sig .tc := ⟨.hbm, 47, rfl⟩
abbrev main_cst : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_cst_0 : Ref sig .tc := ⟨.hbm, 57, rfl⟩
abbrev main_v29 : Ref sig .tc := ⟨.hbm, 58, rfl⟩
abbrev main_v30 : Ref sig .tc := ⟨.hbm, 59, rfl⟩
abbrev main_cst_1 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_cst_2 : Ref sig .tc := ⟨.hbm, 65, rfl⟩
abbrev main_v35 : Ref sig .tc := ⟨.hbm, 66, rfl⟩
abbrev main_v36 : Ref sig .tc := ⟨.hbm, 67, rfl⟩
abbrev main_cst_3 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_cst_4 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_cst_5 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_cst_6 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_cst_7 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_v152 : Ref sig .tc := ⟨.hbm, 188, rfl⟩
abbrev main_v153 : Ref sig .tc := ⟨.hbm, 189, rfl⟩
abbrev main_v154 : Ref sig .tc := ⟨.hbm, 190, rfl⟩
abbrev main_v155 : Ref sig .tc := ⟨.hbm, 191, rfl⟩
abbrev main_v156 : Ref sig .tc := ⟨.hbm, 192, rfl⟩
abbrev main_v157 : Ref sig .tc := ⟨.hbm, 193, rfl⟩
abbrev main_v158 : Ref sig .tc := ⟨.hbm, 194, rfl⟩
abbrev main_v159 : Ref sig .tc := ⟨.hbm, 195, rfl⟩
abbrev main_v160 : Ref sig .tc := ⟨.hbm, 196, rfl⟩
abbrev main_v161 : Ref sig .tc := ⟨.hbm, 197, rfl⟩
abbrev main_v162 : Ref sig .tc := ⟨.hbm, 198, rfl⟩
abbrev main_v163 : Ref sig .tc := ⟨.hbm, 199, rfl⟩
abbrev main_v164 : Ref sig .tc := ⟨.hbm, 200, rfl⟩
abbrev main_v165 : Ref sig .tc := ⟨.hbm, 201, rfl⟩
abbrev main_v166 : Ref sig .tc := ⟨.hbm, 202, rfl⟩
abbrev main_v167 : Ref sig .tc := ⟨.hbm, 203, rfl⟩
abbrev main_v168 : Ref sig .tc := ⟨.hbm, 204, rfl⟩
abbrev main_v169 : Ref sig .tc := ⟨.hbm, 205, rfl⟩
abbrev main_v170 : Ref sig .tc := ⟨.hbm, 206, rfl⟩
abbrev main_v171 : Ref sig .tc := ⟨.hbm, 207, rfl⟩
abbrev main_v172 : Ref sig .tc := ⟨.hbm, 208, rfl⟩
abbrev main_v173 : Ref sig .tc := ⟨.hbm, 209, rfl⟩
abbrev main_v174 : Ref sig .tc := ⟨.hbm, 210, rfl⟩
abbrev main_v175 : Ref sig .tc := ⟨.hbm, 211, rfl⟩
abbrev main_v176 : Ref sig .tc := ⟨.hbm, 212, rfl⟩
abbrev main_v177 : Ref sig .tc := ⟨.hbm, 213, rfl⟩
abbrev main_v178 : Ref sig .tc := ⟨.hbm, 214, rfl⟩
abbrev main_v179 : Ref sig .tc := ⟨.hbm, 215, rfl⟩
abbrev main_v180 : Ref sig .tc := ⟨.hbm, 216, rfl⟩
abbrev main_v181 : Ref sig .tc := ⟨.hbm, 217, rfl⟩
abbrev main_v182 : Ref sig .tc := ⟨.hbm, 218, rfl⟩
abbrev main_v183 : Ref sig .tc := ⟨.hbm, 219, rfl⟩
abbrev main_v184 : Ref sig .tc := ⟨.hbm, 220, rfl⟩
abbrev main_v185 : Ref sig .tc := ⟨.hbm, 221, rfl⟩
abbrev main_v186 : Ref sig .tc := ⟨.hbm, 222, rfl⟩
abbrev main_v187 : Ref sig .tc := ⟨.hbm, 223, rfl⟩
abbrev main_v188 : Ref sig .tc := ⟨.hbm, 224, rfl⟩
abbrev main_v189 : Ref sig .tc := ⟨.hbm, 225, rfl⟩
abbrev main_v190 : Ref sig .tc := ⟨.hbm, 226, rfl⟩
abbrev main_v191 : Ref sig .tc := ⟨.hbm, 227, rfl⟩
abbrev main_v192 : Ref sig .tc := ⟨.hbm, 228, rfl⟩
abbrev main_v193 : Ref sig .tc := ⟨.hbm, 229, rfl⟩
abbrev main_v194 : Ref sig .tc := ⟨.hbm, 230, rfl⟩
abbrev main_v195 : Ref sig .tc := ⟨.hbm, 231, rfl⟩
abbrev main_v196 : Ref sig .tc := ⟨.hbm, 232, rfl⟩
abbrev main_v197 : Ref sig .tc := ⟨.hbm, 233, rfl⟩
abbrev main_v198 : Ref sig .tc := ⟨.hbm, 234, rfl⟩
abbrev main_v199 : Ref sig .tc := ⟨.hbm, 235, rfl⟩
abbrev main_v200 : Ref sig .tc := ⟨.hbm, 236, rfl⟩
abbrev main_v201 : Ref sig .tc := ⟨.hbm, 237, rfl⟩
abbrev main_v202 : Ref sig .tc := ⟨.hbm, 238, rfl⟩
abbrev main_v203 : Ref sig .tc := ⟨.hbm, 239, rfl⟩
abbrev main_v204 : Ref sig .tc := ⟨.hbm, 240, rfl⟩
abbrev main_v205 : Ref sig .tc := ⟨.hbm, 241, rfl⟩
abbrev main_v206 : Ref sig .tc := ⟨.hbm, 242, rfl⟩
abbrev main_v207 : Ref sig .tc := ⟨.hbm, 243, rfl⟩
abbrev main_v208 : Ref sig .tc := ⟨.hbm, 244, rfl⟩
abbrev main_v209 : Ref sig .tc := ⟨.hbm, 245, rfl⟩
abbrev main_v210 : Ref sig .tc := ⟨.hbm, 246, rfl⟩
abbrev main_v211 : Ref sig .tc := ⟨.hbm, 247, rfl⟩
abbrev main_v212 : Ref sig .tc := ⟨.hbm, 248, rfl⟩
abbrev main_v213 : Ref sig .tc := ⟨.hbm, 249, rfl⟩
abbrev main_v214 : Ref sig .tc := ⟨.hbm, 250, rfl⟩
abbrev main_v215 : Ref sig .tc := ⟨.hbm, 251, rfl⟩
abbrev main_v216 : Ref sig .tc := ⟨.hbm, 252, rfl⟩
abbrev main_v217 : Ref sig .tc := ⟨.hbm, 253, rfl⟩
abbrev main_v218 : Ref sig .tc := ⟨.hbm, 254, rfl⟩
abbrev main_v219 : Ref sig .tc := ⟨.hbm, 255, rfl⟩
abbrev main_v220 : Ref sig .tc := ⟨.hbm, 256, rfl⟩
abbrev main_v221 : Ref sig .tc := ⟨.hbm, 257, rfl⟩
abbrev main_v222 : Ref sig .tc := ⟨.hbm, 258, rfl⟩
abbrev main_v223 : Ref sig .tc := ⟨.hbm, 259, rfl⟩
abbrev main_v224 : Ref sig .tc := ⟨.hbm, 260, rfl⟩
abbrev main_v225 : Ref sig .tc := ⟨.hbm, 261, rfl⟩
abbrev main_v226 : Ref sig .tc := ⟨.hbm, 262, rfl⟩
abbrev main_v227 : Ref sig .tc := ⟨.hbm, 263, rfl⟩
abbrev main_v228 : Ref sig .tc := ⟨.hbm, 264, rfl⟩
abbrev main_v229 : Ref sig .tc := ⟨.hbm, 265, rfl⟩
abbrev main_v230 : Ref sig .tc := ⟨.hbm, 266, rfl⟩
abbrev main_v231 : Ref sig .tc := ⟨.hbm, 267, rfl⟩
abbrev main_v232 : Ref sig .tc := ⟨.hbm, 268, rfl⟩
abbrev main_v233 : Ref sig .tc := ⟨.hbm, 269, rfl⟩
abbrev main_v234 : Ref sig .tc := ⟨.hbm, 270, rfl⟩
abbrev main_v235 : Ref sig .tc := ⟨.hbm, 271, rfl⟩
abbrev main_v236 : Ref sig .tc := ⟨.hbm, 272, rfl⟩
abbrev main_v237 : Ref sig .tc := ⟨.hbm, 273, rfl⟩
abbrev main_v238 : Ref sig .tc := ⟨.hbm, 274, rfl⟩
abbrev main_v239 : Ref sig .tc := ⟨.hbm, 275, rfl⟩
abbrev main_v240 : Ref sig .tc := ⟨.hbm, 276, rfl⟩
abbrev main_v241 : Ref sig .tc := ⟨.hbm, 277, rfl⟩
abbrev main_v242 : Ref sig .tc := ⟨.hbm, 278, rfl⟩
abbrev main_v243 : Ref sig .tc := ⟨.hbm, 279, rfl⟩
abbrev main_v244 : Ref sig .tc := ⟨.hbm, 280, rfl⟩
abbrev main_v245 : Ref sig .tc := ⟨.hbm, 281, rfl⟩
abbrev main_v246 : Ref sig .tc := ⟨.hbm, 282, rfl⟩
abbrev main_v247 : Ref sig .tc := ⟨.hbm, 283, rfl⟩
abbrev main_v248 : Ref sig .tc := ⟨.hbm, 284, rfl⟩
abbrev main_v249 : Ref sig .tc := ⟨.hbm, 285, rfl⟩
abbrev main_v250 : Ref sig .tc := ⟨.hbm, 286, rfl⟩
abbrev main_v251 : Ref sig .tc := ⟨.hbm, 287, rfl⟩
abbrev main_v252 : Ref sig .tc := ⟨.hbm, 288, rfl⟩
abbrev main_v253 : Ref sig .tc := ⟨.hbm, 289, rfl⟩
abbrev main_v254 : Ref sig .tc := ⟨.hbm, 290, rfl⟩
abbrev main_v255 : Ref sig .tc := ⟨.hbm, 291, rfl⟩
abbrev main_v256 : Ref sig .tc := ⟨.hbm, 292, rfl⟩
abbrev main_v257 : Ref sig .tc := ⟨.hbm, 293, rfl⟩
abbrev main_v258 : Ref sig .tc := ⟨.hbm, 294, rfl⟩
abbrev main_v259 : Ref sig .tc := ⟨.hbm, 295, rfl⟩
abbrev main_v260 : Ref sig .tc := ⟨.hbm, 296, rfl⟩
abbrev main_v261 : Ref sig .tc := ⟨.hbm, 297, rfl⟩
abbrev main_v262 : Ref sig .tc := ⟨.hbm, 298, rfl⟩
abbrev main_v263 : Ref sig .tc := ⟨.hbm, 299, rfl⟩
abbrev main_v264 : Ref sig .tc := ⟨.hbm, 300, rfl⟩
abbrev main_v265 : Ref sig .tc := ⟨.hbm, 301, rfl⟩
abbrev main_v266 : Ref sig .tc := ⟨.hbm, 302, rfl⟩
abbrev main_v267 : Ref sig .tc := ⟨.hbm, 303, rfl⟩
abbrev main_v268 : Ref sig .tc := ⟨.hbm, 304, rfl⟩
abbrev main_v269 : Ref sig .tc := ⟨.hbm, 305, rfl⟩
abbrev main_v270 : Ref sig .tc := ⟨.hbm, 306, rfl⟩
abbrev main_v271 : Ref sig .tc := ⟨.hbm, 307, rfl⟩
abbrev main_v272 : Ref sig .tc := ⟨.hbm, 308, rfl⟩
abbrev main_v273 : Ref sig .tc := ⟨.hbm, 309, rfl⟩
abbrev main_v274 : Ref sig .tc := ⟨.hbm, 310, rfl⟩
abbrev main_v275 : Ref sig .tc := ⟨.hbm, 311, rfl⟩
abbrev main_v276 : Ref sig .tc := ⟨.hbm, 312, rfl⟩
abbrev main_v277 : Ref sig .tc := ⟨.hbm, 313, rfl⟩
abbrev main_v278 : Ref sig .tc := ⟨.hbm, 314, rfl⟩
abbrev main_v279 : Ref sig .tc := ⟨.hbm, 315, rfl⟩
abbrev main_v280 : Ref sig .tc := ⟨.hbm, 316, rfl⟩
abbrev main_v281 : Ref sig .tc := ⟨.hbm, 317, rfl⟩
abbrev main_v282 : Ref sig .tc := ⟨.hbm, 318, rfl⟩
abbrev main_v283 : Ref sig .tc := ⟨.hbm, 319, rfl⟩
abbrev main_v284 : Ref sig .tc := ⟨.hbm, 320, rfl⟩
abbrev main_v285 : Ref sig .tc := ⟨.hbm, 321, rfl⟩
abbrev main_v286 : Ref sig .tc := ⟨.hbm, 322, rfl⟩
abbrev main_v287 : Ref sig .tc := ⟨.hbm, 323, rfl⟩
abbrev main_v288 : Ref sig .tc := ⟨.hbm, 324, rfl⟩
abbrev main_v289 : Ref sig .tc := ⟨.hbm, 325, rfl⟩
abbrev main_v290 : Ref sig .tc := ⟨.hbm, 326, rfl⟩
abbrev main_v291 : Ref sig .tc := ⟨.hbm, 327, rfl⟩
abbrev main_v292 : Ref sig .tc := ⟨.hbm, 328, rfl⟩
abbrev main_v293 : Ref sig .tc := ⟨.hbm, 329, rfl⟩
abbrev main_v294 : Ref sig .tc := ⟨.hbm, 330, rfl⟩
abbrev main_v295 : Ref sig .tc := ⟨.hbm, 331, rfl⟩
abbrev main_v296 : Ref sig .tc := ⟨.hbm, 332, rfl⟩
abbrev main_v297 : Ref sig .tc := ⟨.hbm, 333, rfl⟩
abbrev main_v298 : Ref sig .tc := ⟨.hbm, 334, rfl⟩
abbrev main_v299 : Ref sig .tc := ⟨.hbm, 335, rfl⟩
abbrev main_v300 : Ref sig .tc := ⟨.hbm, 336, rfl⟩
abbrev main_v301 : Ref sig .tc := ⟨.hbm, 337, rfl⟩
abbrev main_v302 : Ref sig .tc := ⟨.hbm, 338, rfl⟩
abbrev main_v303 : Ref sig .tc := ⟨.hbm, 339, rfl⟩
abbrev main_v304 : Ref sig .tc := ⟨.hbm, 340, rfl⟩
abbrev main_v305 : Ref sig .tc := ⟨.hbm, 341, rfl⟩
abbrev main_v306 : Ref sig .tc := ⟨.hbm, 342, rfl⟩
abbrev main_v307 : Ref sig .tc := ⟨.hbm, 343, rfl⟩
abbrev main_v308 : Ref sig .tc := ⟨.hbm, 344, rfl⟩
abbrev main_v309 : Ref sig .tc := ⟨.hbm, 345, rfl⟩
abbrev main_v310 : Ref sig .tc := ⟨.hbm, 346, rfl⟩
abbrev main_v311 : Ref sig .tc := ⟨.hbm, 347, rfl⟩
abbrev main_v312 : Ref sig .tc := ⟨.hbm, 348, rfl⟩
abbrev main_v313 : Ref sig .tc := ⟨.hbm, 349, rfl⟩
abbrev main_v314 : Ref sig .tc := ⟨.hbm, 350, rfl⟩
abbrev main_v315 : Ref sig .tc := ⟨.hbm, 351, rfl⟩
abbrev main_v316 : Ref sig .tc := ⟨.hbm, 352, rfl⟩
abbrev main_v317 : Ref sig .tc := ⟨.hbm, 353, rfl⟩
abbrev main_v318 : Ref sig .tc := ⟨.hbm, 354, rfl⟩
abbrev main_v319 : Ref sig .tc := ⟨.hbm, 355, rfl⟩
abbrev main_v320 : Ref sig .tc := ⟨.hbm, 356, rfl⟩
abbrev main_v321 : Ref sig .tc := ⟨.hbm, 357, rfl⟩
abbrev main_v322 : Ref sig .tc := ⟨.hbm, 358, rfl⟩
abbrev main_v323 : Ref sig .tc := ⟨.hbm, 359, rfl⟩
abbrev main_v324 : Ref sig .tc := ⟨.hbm, 360, rfl⟩
abbrev main_v325 : Ref sig .tc := ⟨.hbm, 361, rfl⟩
abbrev main_v326 : Ref sig .tc := ⟨.hbm, 362, rfl⟩
abbrev main_v327 : Ref sig .tc := ⟨.hbm, 363, rfl⟩
abbrev main_v328 : Ref sig .tc := ⟨.hbm, 364, rfl⟩
abbrev main_v329 : Ref sig .tc := ⟨.hbm, 365, rfl⟩
abbrev main_v330 : Ref sig .tc := ⟨.hbm, 366, rfl⟩
abbrev main_v331 : Ref sig .tc := ⟨.hbm, 367, rfl⟩
abbrev main_v332 : Ref sig .tc := ⟨.hbm, 368, rfl⟩
abbrev main_v333 : Ref sig .tc := ⟨.hbm, 369, rfl⟩
abbrev main_v334 : Ref sig .tc := ⟨.hbm, 370, rfl⟩
abbrev main_v335 : Ref sig .tc := ⟨.hbm, 371, rfl⟩
abbrev main_v336 : Ref sig .tc := ⟨.hbm, 372, rfl⟩
abbrev main_v337 : Ref sig .tc := ⟨.hbm, 373, rfl⟩
abbrev main_v338 : Ref sig .tc := ⟨.hbm, 374, rfl⟩
abbrev main_v339 : Ref sig .tc := ⟨.hbm, 375, rfl⟩
abbrev main_v340 : Ref sig .tc := ⟨.hbm, 376, rfl⟩
abbrev main_v341 : Ref sig .tc := ⟨.hbm, 377, rfl⟩
abbrev main_v342 : Ref sig .tc := ⟨.hbm, 378, rfl⟩
abbrev main_v343 : Ref sig .tc := ⟨.hbm, 379, rfl⟩
abbrev main_v344 : Ref sig .tc := ⟨.hbm, 380, rfl⟩
abbrev main_v345 : Ref sig .tc := ⟨.hbm, 381, rfl⟩
abbrev main_v346 : Ref sig .tc := ⟨.hbm, 382, rfl⟩
abbrev main_v347 : Ref sig .tc := ⟨.hbm, 383, rfl⟩
abbrev main_v348 : Ref sig .tc := ⟨.hbm, 384, rfl⟩
abbrev main_v349 : Ref sig .tc := ⟨.hbm, 385, rfl⟩
abbrev main_v350 : Ref sig .tc := ⟨.hbm, 386, rfl⟩
abbrev main_v351 : Ref sig .tc := ⟨.hbm, 387, rfl⟩
abbrev main_v352 : Ref sig .tc := ⟨.hbm, 388, rfl⟩
abbrev main_v353 : Ref sig .tc := ⟨.hbm, 389, rfl⟩
abbrev main_v354 : Ref sig .tc := ⟨.hbm, 390, rfl⟩
abbrev main_v355 : Ref sig .tc := ⟨.hbm, 391, rfl⟩
abbrev main_v356 : Ref sig .tc := ⟨.hbm, 392, rfl⟩
abbrev main_v357 : Ref sig .tc := ⟨.hbm, 393, rfl⟩
abbrev main_v358 : Ref sig .tc := ⟨.hbm, 394, rfl⟩
abbrev main_v359 : Ref sig .tc := ⟨.hbm, 395, rfl⟩
abbrev main_v360 : Ref sig .tc := ⟨.hbm, 396, rfl⟩
abbrev main_v361 : Ref sig .tc := ⟨.hbm, 397, rfl⟩
abbrev main_v362 : Ref sig .tc := ⟨.hbm, 398, rfl⟩
abbrev main_v363 : Ref sig .tc := ⟨.hbm, 399, rfl⟩
abbrev main_v364 : Ref sig .tc := ⟨.hbm, 400, rfl⟩
abbrev main_v365 : Ref sig .tc := ⟨.hbm, 401, rfl⟩
abbrev main_v366 : Ref sig .tc := ⟨.hbm, 402, rfl⟩
abbrev main_v367 : Ref sig .tc := ⟨.hbm, 403, rfl⟩
abbrev main_v368 : Ref sig .tc := ⟨.hbm, 404, rfl⟩
abbrev main_v369 : Ref sig .tc := ⟨.hbm, 405, rfl⟩
abbrev main_v370 : Ref sig .tc := ⟨.hbm, 406, rfl⟩
abbrev main_v371 : Ref sig .tc := ⟨.hbm, 407, rfl⟩
abbrev main_v372 : Ref sig .tc := ⟨.hbm, 408, rfl⟩
abbrev main_v373 : Ref sig .tc := ⟨.hbm, 409, rfl⟩
abbrev main_v374 : Ref sig .tc := ⟨.hbm, 410, rfl⟩
abbrev main_v375 : Ref sig .tc := ⟨.hbm, 411, rfl⟩
abbrev main_v376 : Ref sig .tc := ⟨.hbm, 412, rfl⟩
abbrev main_v377 : Ref sig .tc := ⟨.hbm, 413, rfl⟩
abbrev main_v378 : Ref sig .tc := ⟨.hbm, 414, rfl⟩
abbrev main_v379 : Ref sig .tc := ⟨.hbm, 415, rfl⟩
abbrev main_v380 : Ref sig .tc := ⟨.hbm, 416, rfl⟩
abbrev main_v381 : Ref sig .tc := ⟨.hbm, 417, rfl⟩
abbrev main_v382 : Ref sig .tc := ⟨.hbm, 418, rfl⟩
abbrev main_v383 : Ref sig .tc := ⟨.hbm, 419, rfl⟩
abbrev main_v384 : Ref sig .tc := ⟨.hbm, 420, rfl⟩
abbrev main_v385 : Ref sig .tc := ⟨.hbm, 421, rfl⟩
abbrev main_v386 : Ref sig .tc := ⟨.hbm, 422, rfl⟩
abbrev main_v387 : Ref sig .tc := ⟨.hbm, 423, rfl⟩
abbrev main_v388 : Ref sig .tc := ⟨.hbm, 424, rfl⟩
abbrev main_v389 : Ref sig .tc := ⟨.hbm, 425, rfl⟩
abbrev main_v390 : Ref sig .tc := ⟨.hbm, 426, rfl⟩
abbrev main_v391 : Ref sig .tc := ⟨.hbm, 427, rfl⟩
abbrev main_v392 : Ref sig .tc := ⟨.hbm, 428, rfl⟩
abbrev main_v393 : Ref sig .tc := ⟨.hbm, 429, rfl⟩
abbrev main_v394 : Ref sig .tc := ⟨.hbm, 430, rfl⟩
abbrev main_v395 : Ref sig .tc := ⟨.hbm, 431, rfl⟩
abbrev main_v396 : Ref sig .tc := ⟨.hbm, 432, rfl⟩
abbrev main_v397 : Ref sig .tc := ⟨.hbm, 433, rfl⟩
abbrev main_v398 : Ref sig .tc := ⟨.hbm, 434, rfl⟩
abbrev main_v399 : Ref sig .tc := ⟨.hbm, 435, rfl⟩
abbrev main_v400 : Ref sig .tc := ⟨.hbm, 436, rfl⟩
abbrev main_v401 : Ref sig .tc := ⟨.hbm, 437, rfl⟩
abbrev main_v402 : Ref sig .tc := ⟨.hbm, 438, rfl⟩
abbrev main_v403 : Ref sig .tc := ⟨.hbm, 439, rfl⟩
abbrev main_v404 : Ref sig .tc := ⟨.hbm, 440, rfl⟩
abbrev main_v405 : Ref sig .tc := ⟨.hbm, 441, rfl⟩
abbrev main_v406 : Ref sig .tc := ⟨.hbm, 442, rfl⟩
abbrev main_v407 : Ref sig .tc := ⟨.hbm, 443, rfl⟩
abbrev main_v408 : Ref sig .tc := ⟨.hbm, 444, rfl⟩
abbrev main_v409 : Ref sig .tc := ⟨.hbm, 445, rfl⟩
abbrev main_v410 : Ref sig .tc := ⟨.hbm, 446, rfl⟩
abbrev main_v411 : Ref sig .tc := ⟨.hbm, 447, rfl⟩
abbrev main_v412 : Ref sig .tc := ⟨.hbm, 448, rfl⟩
abbrev main_v413 : Ref sig .tc := ⟨.hbm, 449, rfl⟩
abbrev main_v414 : Ref sig .tc := ⟨.hbm, 450, rfl⟩
abbrev main_v415 : Ref sig .tc := ⟨.hbm, 451, rfl⟩
abbrev main_v416 : Ref sig .tc := ⟨.hbm, 452, rfl⟩
abbrev main_v417 : Ref sig .tc := ⟨.hbm, 453, rfl⟩
abbrev main_v418 : Ref sig .tc := ⟨.hbm, 454, rfl⟩
abbrev main_v419 : Ref sig .tc := ⟨.hbm, 455, rfl⟩
abbrev main_v420 : Ref sig .tc := ⟨.hbm, 456, rfl⟩
abbrev main_v421 : Ref sig .tc := ⟨.hbm, 457, rfl⟩
abbrev main_v422 : Ref sig .tc := ⟨.hbm, 458, rfl⟩
abbrev main_v423 : Ref sig .tc := ⟨.hbm, 459, rfl⟩
abbrev main_v424 : Ref sig .tc := ⟨.hbm, 460, rfl⟩
abbrev main_v425 : Ref sig .tc := ⟨.hbm, 461, rfl⟩
abbrev main_v426 : Ref sig .tc := ⟨.hbm, 462, rfl⟩
abbrev main_v427 : Ref sig .tc := ⟨.hbm, 463, rfl⟩
abbrev main_v428 : Ref sig .tc := ⟨.hbm, 464, rfl⟩
abbrev main_v429 : Ref sig .tc := ⟨.hbm, 465, rfl⟩
abbrev main_v430 : Ref sig .tc := ⟨.hbm, 466, rfl⟩
abbrev main_v431 : Ref sig .tc := ⟨.hbm, 467, rfl⟩
abbrev main_v432 : Ref sig .tc := ⟨.hbm, 468, rfl⟩
abbrev main_v433 : Ref sig .tc := ⟨.hbm, 469, rfl⟩
abbrev main_v434 : Ref sig .tc := ⟨.hbm, 470, rfl⟩
abbrev main_v435 : Ref sig .tc := ⟨.hbm, 471, rfl⟩
abbrev main_v436 : Ref sig .tc := ⟨.hbm, 472, rfl⟩
abbrev main_v437 : Ref sig .tc := ⟨.hbm, 473, rfl⟩
abbrev main_v438 : Ref sig .tc := ⟨.hbm, 474, rfl⟩
abbrev main_v439 : Ref sig .tc := ⟨.hbm, 475, rfl⟩
abbrev main_v440 : Ref sig .tc := ⟨.hbm, 476, rfl⟩
abbrev main_v441 : Ref sig .tc := ⟨.hbm, 477, rfl⟩
abbrev main_v442 : Ref sig .tc := ⟨.hbm, 478, rfl⟩
abbrev main_v443 : Ref sig .tc := ⟨.hbm, 479, rfl⟩
abbrev main_v444 : Ref sig .tc := ⟨.hbm, 480, rfl⟩
abbrev main_v445 : Ref sig .tc := ⟨.hbm, 481, rfl⟩
abbrev main_v446 : Ref sig .tc := ⟨.hbm, 482, rfl⟩
abbrev main_v447 : Ref sig .tc := ⟨.hbm, 483, rfl⟩
abbrev main_v448 : Ref sig .tc := ⟨.hbm, 484, rfl⟩
abbrev main_v449 : Ref sig .tc := ⟨.hbm, 485, rfl⟩
abbrev main_v450 : Ref sig .tc := ⟨.hbm, 486, rfl⟩
abbrev main_v451 : Ref sig .tc := ⟨.hbm, 487, rfl⟩
abbrev main_v452 : Ref sig .tc := ⟨.hbm, 488, rfl⟩
abbrev main_v453 : Ref sig .tc := ⟨.hbm, 489, rfl⟩
abbrev main_v454 : Ref sig .tc := ⟨.hbm, 490, rfl⟩
abbrev main_v455 : Ref sig .tc := ⟨.hbm, 491, rfl⟩
abbrev main_v456 : Ref sig .tc := ⟨.hbm, 492, rfl⟩
abbrev main_v457 : Ref sig .tc := ⟨.hbm, 493, rfl⟩
abbrev main_v458 : Ref sig .tc := ⟨.hbm, 494, rfl⟩
abbrev main_v459 : Ref sig .tc := ⟨.hbm, 495, rfl⟩
abbrev main_v460 : Ref sig .tc := ⟨.hbm, 496, rfl⟩
abbrev main_v461 : Ref sig .tc := ⟨.hbm, 497, rfl⟩
abbrev main_v462 : Ref sig .tc := ⟨.hbm, 498, rfl⟩
abbrev main_v463 : Ref sig .tc := ⟨.hbm, 499, rfl⟩
abbrev main_v464 : Ref sig .tc := ⟨.hbm, 500, rfl⟩
abbrev main_v465 : Ref sig .tc := ⟨.hbm, 501, rfl⟩
abbrev main_v466 : Ref sig .tc := ⟨.hbm, 502, rfl⟩
abbrev main_v467 : Ref sig .tc := ⟨.hbm, 503, rfl⟩
abbrev main_v468 : Ref sig .tc := ⟨.hbm, 504, rfl⟩
abbrev main_v469 : Ref sig .tc := ⟨.hbm, 505, rfl⟩
abbrev main_v470 : Ref sig .tc := ⟨.hbm, 506, rfl⟩
abbrev main_v471 : Ref sig .tc := ⟨.hbm, 507, rfl⟩
abbrev main_v472 : Ref sig .tc := ⟨.hbm, 508, rfl⟩
abbrev main_v473 : Ref sig .tc := ⟨.hbm, 509, rfl⟩
abbrev main_v474 : Ref sig .tc := ⟨.hbm, 510, rfl⟩
abbrev main_v475 : Ref sig .tc := ⟨.hbm, 511, rfl⟩
abbrev main_v476 : Ref sig .tc := ⟨.hbm, 512, rfl⟩
abbrev main_v477 : Ref sig .tc := ⟨.hbm, 513, rfl⟩
abbrev main_v478 : Ref sig .tc := ⟨.hbm, 514, rfl⟩
abbrev main_v479 : Ref sig .tc := ⟨.hbm, 515, rfl⟩
abbrev main_v480 : Ref sig .tc := ⟨.hbm, 516, rfl⟩
abbrev main_v481 : Ref sig .tc := ⟨.hbm, 517, rfl⟩
abbrev main_v482 : Ref sig .tc := ⟨.hbm, 518, rfl⟩
abbrev main_v483 : Ref sig .tc := ⟨.hbm, 519, rfl⟩
abbrev main_v484 : Ref sig .tc := ⟨.hbm, 520, rfl⟩
abbrev main_v485 : Ref sig .tc := ⟨.hbm, 521, rfl⟩
abbrev main_v486 : Ref sig .tc := ⟨.hbm, 522, rfl⟩
abbrev main_v487 : Ref sig .tc := ⟨.hbm, 523, rfl⟩
abbrev main_v488 : Ref sig .tc := ⟨.hbm, 524, rfl⟩
abbrev main_v489 : Ref sig .tc := ⟨.hbm, 525, rfl⟩
abbrev main_v490 : Ref sig .tc := ⟨.hbm, 526, rfl⟩
abbrev main_v491 : Ref sig .tc := ⟨.hbm, 527, rfl⟩
abbrev main_v492 : Ref sig .tc := ⟨.hbm, 528, rfl⟩
abbrev main_v493 : Ref sig .tc := ⟨.hbm, 529, rfl⟩
abbrev main_v494 : Ref sig .tc := ⟨.hbm, 530, rfl⟩
abbrev main_v495 : Ref sig .tc := ⟨.hbm, 531, rfl⟩
abbrev main_v496 : Ref sig .tc := ⟨.hbm, 532, rfl⟩
abbrev main_v497 : Ref sig .tc := ⟨.hbm, 533, rfl⟩
abbrev main_v498 : Ref sig .tc := ⟨.hbm, 534, rfl⟩
abbrev main_v499 : Ref sig .tc := ⟨.hbm, 535, rfl⟩
abbrev main_v500 : Ref sig .tc := ⟨.hbm, 536, rfl⟩
abbrev main_v501 : Ref sig .tc := ⟨.hbm, 537, rfl⟩
abbrev main_v502 : Ref sig .tc := ⟨.hbm, 538, rfl⟩
abbrev main_v503 : Ref sig .tc := ⟨.hbm, 539, rfl⟩
abbrev main_v504 : Ref sig .tc := ⟨.hbm, 540, rfl⟩
abbrev main_v505 : Ref sig .tc := ⟨.hbm, 541, rfl⟩
abbrev main_v506 : Ref sig .tc := ⟨.hbm, 542, rfl⟩
abbrev main_v507 : Ref sig .tc := ⟨.hbm, 543, rfl⟩
abbrev main_v508 : Ref sig .tc := ⟨.hbm, 544, rfl⟩
abbrev main_v509 : Ref sig .tc := ⟨.hbm, 545, rfl⟩
abbrev main_v510 : Ref sig .tc := ⟨.hbm, 546, rfl⟩
abbrev main_v511 : Ref sig .tc := ⟨.hbm, 547, rfl⟩
abbrev main_v512 : Ref sig .tc := ⟨.hbm, 548, rfl⟩
abbrev main_v513 : Ref sig .tc := ⟨.hbm, 549, rfl⟩
abbrev main_v514 : Ref sig .tc := ⟨.hbm, 550, rfl⟩
abbrev main_v515 : Ref sig .tc := ⟨.hbm, 551, rfl⟩
abbrev main_v516 : Ref sig .tc := ⟨.hbm, 552, rfl⟩
abbrev main_v517 : Ref sig .tc := ⟨.hbm, 553, rfl⟩
abbrev main_v518 : Ref sig .tc := ⟨.hbm, 554, rfl⟩
abbrev main_v519 : Ref sig .tc := ⟨.hbm, 555, rfl⟩
abbrev main_v520 : Ref sig .tc := ⟨.hbm, 556, rfl⟩
abbrev main_v521 : Ref sig .tc := ⟨.hbm, 557, rfl⟩
abbrev main_v522 : Ref sig .tc := ⟨.hbm, 558, rfl⟩
abbrev main_v523 : Ref sig .tc := ⟨.hbm, 559, rfl⟩
abbrev main_v524 : Ref sig .tc := ⟨.hbm, 560, rfl⟩
abbrev main_v525 : Ref sig .tc := ⟨.hbm, 561, rfl⟩
abbrev main_v526 : Ref sig .tc := ⟨.hbm, 562, rfl⟩
abbrev main_v527 : Ref sig .tc := ⟨.hbm, 563, rfl⟩
abbrev main_v528 : Ref sig .tc := ⟨.hbm, 564, rfl⟩
abbrev main_v529 : Ref sig .tc := ⟨.hbm, 565, rfl⟩
abbrev main_v530 : Ref sig .tc := ⟨.hbm, 566, rfl⟩
abbrev main_v531 : Ref sig .tc := ⟨.hbm, 567, rfl⟩
abbrev main_v532 : Ref sig .tc := ⟨.hbm, 568, rfl⟩
abbrev main_v533 : Ref sig .tc := ⟨.hbm, 569, rfl⟩
abbrev main_v534 : Ref sig .tc := ⟨.hbm, 570, rfl⟩
abbrev main_v535 : Ref sig .tc := ⟨.hbm, 571, rfl⟩
abbrev main_v536 : Ref sig .tc := ⟨.hbm, 572, rfl⟩
abbrev main_v537 : Ref sig .tc := ⟨.hbm, 573, rfl⟩
abbrev main_v538 : Ref sig .tc := ⟨.hbm, 574, rfl⟩
abbrev main_v539 : Ref sig .tc := ⟨.hbm, 575, rfl⟩
abbrev main_v540 : Ref sig .tc := ⟨.hbm, 576, rfl⟩
abbrev main_v541 : Ref sig .tc := ⟨.hbm, 577, rfl⟩
abbrev main_v542 : Ref sig .tc := ⟨.hbm, 578, rfl⟩
abbrev main_v543 : Ref sig .tc := ⟨.hbm, 579, rfl⟩
abbrev main_v544 : Ref sig .tc := ⟨.hbm, 580, rfl⟩
abbrev main_v545 : Ref sig .tc := ⟨.hbm, 581, rfl⟩
abbrev main_v546 : Ref sig .tc := ⟨.hbm, 582, rfl⟩
abbrev main_v547 : Ref sig .tc := ⟨.hbm, 583, rfl⟩
abbrev main_v548 : Ref sig .tc := ⟨.hbm, 584, rfl⟩
abbrev main_v549 : Ref sig .tc := ⟨.hbm, 585, rfl⟩
abbrev main_v550 : Ref sig .tc := ⟨.hbm, 586, rfl⟩
abbrev main_v551 : Ref sig .tc := ⟨.hbm, 587, rfl⟩
abbrev main_v552 : Ref sig .tc := ⟨.hbm, 588, rfl⟩
abbrev main_v553 : Ref sig .tc := ⟨.hbm, 589, rfl⟩
abbrev main_v554 : Ref sig .tc := ⟨.hbm, 590, rfl⟩
abbrev main_v555 : Ref sig .tc := ⟨.hbm, 591, rfl⟩
abbrev main_v556 : Ref sig .tc := ⟨.hbm, 592, rfl⟩
abbrev main_v557 : Ref sig .tc := ⟨.hbm, 593, rfl⟩
abbrev main_v558 : Ref sig .tc := ⟨.hbm, 594, rfl⟩
abbrev main_v559 : Ref sig .tc := ⟨.hbm, 595, rfl⟩
abbrev main_v560 : Ref sig .tc := ⟨.hbm, 596, rfl⟩
abbrev main_v561 : Ref sig .tc := ⟨.hbm, 597, rfl⟩
abbrev main_v562 : Ref sig .tc := ⟨.hbm, 598, rfl⟩
abbrev main_v563 : Ref sig .tc := ⟨.hbm, 599, rfl⟩
abbrev main_v564 : Ref sig .tc := ⟨.hbm, 600, rfl⟩
abbrev main_v565 : Ref sig .tc := ⟨.hbm, 601, rfl⟩
abbrev main_v566 : Ref sig .tc := ⟨.hbm, 602, rfl⟩
abbrev main_v567 : Ref sig .tc := ⟨.hbm, 603, rfl⟩
abbrev main_v568 : Ref sig .tc := ⟨.hbm, 604, rfl⟩
abbrev main_v569 : Ref sig .tc := ⟨.hbm, 605, rfl⟩
abbrev main_v570 : Ref sig .tc := ⟨.hbm, 606, rfl⟩
abbrev main_v571 : Ref sig .tc := ⟨.hbm, 607, rfl⟩
abbrev main_v572 : Ref sig .tc := ⟨.hbm, 608, rfl⟩
abbrev main_v573 : Ref sig .tc := ⟨.hbm, 609, rfl⟩
abbrev main_v574 : Ref sig .tc := ⟨.hbm, 610, rfl⟩
abbrev main_v575 : Ref sig .tc := ⟨.hbm, 611, rfl⟩
abbrev main_v576 : Ref sig .tc := ⟨.hbm, 612, rfl⟩
abbrev main_v577 : Ref sig .tc := ⟨.hbm, 613, rfl⟩
abbrev main_v578 : Ref sig .tc := ⟨.hbm, 614, rfl⟩
abbrev main_v579 : Ref sig .tc := ⟨.hbm, 615, rfl⟩
abbrev main_v580 : Ref sig .tc := ⟨.hbm, 616, rfl⟩
abbrev main_v581 : Ref sig .tc := ⟨.hbm, 617, rfl⟩
abbrev main_v582 : Ref sig .tc := ⟨.hbm, 618, rfl⟩
abbrev main_v583 : Ref sig .tc := ⟨.hbm, 619, rfl⟩
abbrev main_v584 : Ref sig .tc := ⟨.hbm, 620, rfl⟩
abbrev main_v585 : Ref sig .tc := ⟨.hbm, 621, rfl⟩
abbrev main_v586 : Ref sig .tc := ⟨.hbm, 622, rfl⟩
abbrev main_v587 : Ref sig .tc := ⟨.hbm, 623, rfl⟩
abbrev main_v588 : Ref sig .tc := ⟨.hbm, 624, rfl⟩
abbrev main_v589 : Ref sig .tc := ⟨.hbm, 625, rfl⟩
abbrev main_v590 : Ref sig .tc := ⟨.hbm, 626, rfl⟩
abbrev main_v591 : Ref sig .tc := ⟨.hbm, 627, rfl⟩
abbrev main_v592 : Ref sig .tc := ⟨.hbm, 628, rfl⟩
abbrev main_v593 : Ref sig .tc := ⟨.hbm, 629, rfl⟩
abbrev main_v594 : Ref sig .tc := ⟨.hbm, 630, rfl⟩
abbrev main_v595 : Ref sig .tc := ⟨.hbm, 631, rfl⟩
abbrev main_v596 : Ref sig .tc := ⟨.hbm, 632, rfl⟩
abbrev main_v597 : Ref sig .tc := ⟨.hbm, 633, rfl⟩
abbrev main_v598 : Ref sig .tc := ⟨.hbm, 634, rfl⟩
abbrev main_v599 : Ref sig .tc := ⟨.hbm, 635, rfl⟩
abbrev main_v600 : Ref sig .tc := ⟨.hbm, 636, rfl⟩
abbrev main_v601 : Ref sig .tc := ⟨.hbm, 637, rfl⟩
abbrev main_v602 : Ref sig .tc := ⟨.hbm, 638, rfl⟩
abbrev main_v603 : Ref sig .tc := ⟨.hbm, 639, rfl⟩
abbrev main_v604 : Ref sig .tc := ⟨.hbm, 640, rfl⟩
abbrev main_v605 : Ref sig .tc := ⟨.hbm, 641, rfl⟩
abbrev main_v606 : Ref sig .tc := ⟨.hbm, 642, rfl⟩
abbrev main_v607 : Ref sig .tc := ⟨.hbm, 643, rfl⟩
abbrev main_v608 : Ref sig .tc := ⟨.hbm, 644, rfl⟩
abbrev main_v609 : Ref sig .tc := ⟨.hbm, 645, rfl⟩
abbrev main_v610 : Ref sig .tc := ⟨.hbm, 646, rfl⟩
abbrev main_v611 : Ref sig .tc := ⟨.hbm, 647, rfl⟩
abbrev main_v612 : Ref sig .tc := ⟨.hbm, 648, rfl⟩
abbrev main_v613 : Ref sig .tc := ⟨.hbm, 649, rfl⟩
abbrev main_v614 : Ref sig .tc := ⟨.hbm, 650, rfl⟩
abbrev main_v615 : Ref sig .tc := ⟨.hbm, 651, rfl⟩
abbrev main_v616 : Ref sig .tc := ⟨.hbm, 652, rfl⟩
abbrev main_v617 : Ref sig .tc := ⟨.hbm, 653, rfl⟩
abbrev main_v618 : Ref sig .tc := ⟨.hbm, 654, rfl⟩
abbrev main_v619 : Ref sig .tc := ⟨.hbm, 655, rfl⟩
abbrev main_v620 : Ref sig .tc := ⟨.hbm, 656, rfl⟩
abbrev main_v621 : Ref sig .tc := ⟨.hbm, 657, rfl⟩
abbrev main_v622 : Ref sig .tc := ⟨.hbm, 658, rfl⟩
abbrev main_v623 : Ref sig .tc := ⟨.hbm, 659, rfl⟩
abbrev main_v624 : Ref sig .tc := ⟨.hbm, 660, rfl⟩
abbrev main_v625 : Ref sig .tc := ⟨.hbm, 661, rfl⟩
abbrev main_v626 : Ref sig .tc := ⟨.hbm, 662, rfl⟩
abbrev main_v627 : Ref sig .tc := ⟨.hbm, 663, rfl⟩
abbrev main_v628 : Ref sig .tc := ⟨.hbm, 664, rfl⟩
abbrev main_v629 : Ref sig .tc := ⟨.hbm, 665, rfl⟩
abbrev main_v630 : Ref sig .tc := ⟨.hbm, 666, rfl⟩
abbrev main_v631 : Ref sig .tc := ⟨.hbm, 667, rfl⟩
abbrev main_v632 : Ref sig .tc := ⟨.hbm, 668, rfl⟩
abbrev main_v633 : Ref sig .tc := ⟨.hbm, 669, rfl⟩
abbrev main_v634 : Ref sig .tc := ⟨.hbm, 670, rfl⟩
abbrev main_v635 : Ref sig .tc := ⟨.hbm, 671, rfl⟩
abbrev main_v636 : Ref sig .tc := ⟨.hbm, 672, rfl⟩
abbrev main_v637 : Ref sig .tc := ⟨.hbm, 673, rfl⟩
abbrev main_v638 : Ref sig .tc := ⟨.hbm, 674, rfl⟩
abbrev main_v639 : Ref sig .tc := ⟨.hbm, 675, rfl⟩
abbrev main_v640 : Ref sig .tc := ⟨.hbm, 676, rfl⟩
abbrev main_v641 : Ref sig .tc := ⟨.hbm, 677, rfl⟩
abbrev main_v642 : Ref sig .tc := ⟨.hbm, 678, rfl⟩
abbrev main_v643 : Ref sig .tc := ⟨.hbm, 679, rfl⟩
abbrev main_v644 : Ref sig .tc := ⟨.hbm, 680, rfl⟩
abbrev main_v645 : Ref sig .tc := ⟨.hbm, 681, rfl⟩
abbrev main_v646 : Ref sig .tc := ⟨.hbm, 682, rfl⟩
abbrev main_v647 : Ref sig .tc := ⟨.hbm, 683, rfl⟩
abbrev main_v648 : Ref sig .tc := ⟨.hbm, 684, rfl⟩
abbrev main_v649 : Ref sig .tc := ⟨.hbm, 685, rfl⟩
abbrev main_v650 : Ref sig .tc := ⟨.hbm, 686, rfl⟩
abbrev main_v651 : Ref sig .tc := ⟨.hbm, 687, rfl⟩
abbrev main_v652 : Ref sig .tc := ⟨.hbm, 688, rfl⟩
abbrev main_v653 : Ref sig .tc := ⟨.hbm, 689, rfl⟩
abbrev main_v654 : Ref sig .tc := ⟨.hbm, 690, rfl⟩
abbrev main_v655 : Ref sig .tc := ⟨.hbm, 691, rfl⟩
abbrev main_v656 : Ref sig .tc := ⟨.hbm, 692, rfl⟩
abbrev main_v657 : Ref sig .tc := ⟨.hbm, 693, rfl⟩
abbrev main_v658 : Ref sig .tc := ⟨.hbm, 694, rfl⟩
abbrev main_v659 : Ref sig .tc := ⟨.hbm, 695, rfl⟩
abbrev main_v660 : Ref sig .tc := ⟨.hbm, 696, rfl⟩
abbrev main_v661 : Ref sig .tc := ⟨.hbm, 697, rfl⟩
abbrev main_v662 : Ref sig .tc := ⟨.hbm, 698, rfl⟩
abbrev main_v663 : Ref sig .tc := ⟨.hbm, 699, rfl⟩
abbrev main_v664 : Ref sig .tc := ⟨.hbm, 700, rfl⟩
abbrev main_v665 : Ref sig .tc := ⟨.hbm, 701, rfl⟩
abbrev main_v666 : Ref sig .tc := ⟨.hbm, 702, rfl⟩
abbrev main_v667 : Ref sig .tc := ⟨.hbm, 703, rfl⟩
abbrev main_v668 : Ref sig .tc := ⟨.hbm, 704, rfl⟩
abbrev main_v669 : Ref sig .tc := ⟨.hbm, 705, rfl⟩
abbrev main_v670 : Ref sig .tc := ⟨.hbm, 706, rfl⟩
abbrev main_v671 : Ref sig .tc := ⟨.hbm, 707, rfl⟩
abbrev main_v672 : Ref sig .tc := ⟨.hbm, 708, rfl⟩
abbrev main_v673 : Ref sig .tc := ⟨.hbm, 709, rfl⟩
abbrev main_v674 : Ref sig .tc := ⟨.hbm, 710, rfl⟩
abbrev main_v675 : Ref sig .tc := ⟨.hbm, 711, rfl⟩
abbrev main_v676 : Ref sig .tc := ⟨.hbm, 712, rfl⟩
abbrev main_v677 : Ref sig .tc := ⟨.hbm, 713, rfl⟩
abbrev main_v678 : Ref sig .tc := ⟨.hbm, 714, rfl⟩
abbrev main_v679 : Ref sig .tc := ⟨.hbm, 715, rfl⟩
abbrev main_v680 : Ref sig .tc := ⟨.hbm, 716, rfl⟩
abbrev main_v681 : Ref sig .tc := ⟨.hbm, 717, rfl⟩
abbrev main_v682 : Ref sig .tc := ⟨.hbm, 718, rfl⟩
abbrev main_v683 : Ref sig .tc := ⟨.hbm, 719, rfl⟩
abbrev main_v684 : Ref sig .tc := ⟨.hbm, 720, rfl⟩
abbrev main_v685 : Ref sig .tc := ⟨.hbm, 721, rfl⟩
abbrev main_v686 : Ref sig .tc := ⟨.hbm, 722, rfl⟩
abbrev main_v687 : Ref sig .tc := ⟨.hbm, 723, rfl⟩
abbrev main_v688 : Ref sig .tc := ⟨.hbm, 724, rfl⟩
abbrev main_v689 : Ref sig .tc := ⟨.hbm, 725, rfl⟩
abbrev main_v690 : Ref sig .tc := ⟨.hbm, 726, rfl⟩
abbrev main_v691 : Ref sig .tc := ⟨.hbm, 727, rfl⟩
abbrev main_v692 : Ref sig .tc := ⟨.hbm, 728, rfl⟩
abbrev main_v693 : Ref sig .tc := ⟨.hbm, 729, rfl⟩
abbrev main_v694 : Ref sig .tc := ⟨.hbm, 730, rfl⟩
abbrev main_v695 : Ref sig .tc := ⟨.hbm, 731, rfl⟩
abbrev main_v696 : Ref sig .tc := ⟨.hbm, 732, rfl⟩
abbrev main_v697 : Ref sig .tc := ⟨.hbm, 733, rfl⟩
abbrev main_v698 : Ref sig .tc := ⟨.hbm, 734, rfl⟩
abbrev main_v699 : Ref sig .tc := ⟨.hbm, 735, rfl⟩
abbrev main_v700 : Ref sig .tc := ⟨.hbm, 736, rfl⟩
abbrev main_v701 : Ref sig .tc := ⟨.hbm, 737, rfl⟩
abbrev main_v702 : Ref sig .tc := ⟨.hbm, 738, rfl⟩
abbrev main_v703 : Ref sig .tc := ⟨.hbm, 739, rfl⟩
abbrev main_v704 : Ref sig .tc := ⟨.hbm, 740, rfl⟩
abbrev main_v705 : Ref sig .tc := ⟨.hbm, 741, rfl⟩
abbrev main_v706 : Ref sig .tc := ⟨.hbm, 742, rfl⟩
abbrev main_v707 : Ref sig .tc := ⟨.hbm, 743, rfl⟩
abbrev main_v708 : Ref sig .tc := ⟨.hbm, 744, rfl⟩
abbrev main_v709 : Ref sig .tc := ⟨.hbm, 745, rfl⟩
abbrev main_v710 : Ref sig .tc := ⟨.hbm, 746, rfl⟩
abbrev main_v711 : Ref sig .tc := ⟨.hbm, 747, rfl⟩
abbrev main_v712 : Ref sig .tc := ⟨.hbm, 748, rfl⟩
abbrev main_v713 : Ref sig .tc := ⟨.hbm, 749, rfl⟩
abbrev main_v714 : Ref sig .tc := ⟨.hbm, 750, rfl⟩
abbrev main_v715 : Ref sig .tc := ⟨.hbm, 751, rfl⟩
abbrev main_v716 : Ref sig .tc := ⟨.hbm, 752, rfl⟩
abbrev main_v717 : Ref sig .tc := ⟨.hbm, 753, rfl⟩
abbrev main_v718 : Ref sig .tc := ⟨.hbm, 754, rfl⟩
abbrev main_v719 : Ref sig .tc := ⟨.hbm, 755, rfl⟩
abbrev main_v720 : Ref sig .tc := ⟨.hbm, 756, rfl⟩
abbrev main_v721 : Ref sig .tc := ⟨.hbm, 757, rfl⟩
abbrev main_v722 : Ref sig .tc := ⟨.hbm, 758, rfl⟩
abbrev main_v723 : Ref sig .tc := ⟨.hbm, 759, rfl⟩
abbrev main_v724 : Ref sig .tc := ⟨.hbm, 760, rfl⟩
abbrev main_v725 : Ref sig .tc := ⟨.hbm, 761, rfl⟩
abbrev main_v726 : Ref sig .tc := ⟨.hbm, 762, rfl⟩
abbrev main_v727 : Ref sig .tc := ⟨.hbm, 763, rfl⟩
abbrev main_v728 : Ref sig .tc := ⟨.hbm, 764, rfl⟩
abbrev main_v729 : Ref sig .tc := ⟨.hbm, 765, rfl⟩
abbrev main_v730 : Ref sig .tc := ⟨.hbm, 766, rfl⟩
abbrev main_v731 : Ref sig .tc := ⟨.hbm, 767, rfl⟩
abbrev main_v732 : Ref sig .tc := ⟨.hbm, 768, rfl⟩
abbrev main_v733 : Ref sig .tc := ⟨.hbm, 769, rfl⟩
abbrev main_v734 : Ref sig .tc := ⟨.hbm, 770, rfl⟩
abbrev main_v735 : Ref sig .tc := ⟨.hbm, 771, rfl⟩
abbrev main_v736 : Ref sig .tc := ⟨.hbm, 772, rfl⟩
abbrev main_v737 : Ref sig .tc := ⟨.hbm, 773, rfl⟩
abbrev main_v738 : Ref sig .tc := ⟨.hbm, 774, rfl⟩
abbrev main_v739 : Ref sig .tc := ⟨.hbm, 775, rfl⟩
abbrev main_v740 : Ref sig .tc := ⟨.hbm, 776, rfl⟩
abbrev main_v741 : Ref sig .tc := ⟨.hbm, 777, rfl⟩
abbrev main_v742 : Ref sig .tc := ⟨.hbm, 778, rfl⟩
abbrev main_v743 : Ref sig .tc := ⟨.hbm, 779, rfl⟩
abbrev main_v744 : Ref sig .tc := ⟨.hbm, 780, rfl⟩
abbrev main_v745 : Ref sig .tc := ⟨.hbm, 781, rfl⟩
abbrev main_v746 : Ref sig .tc := ⟨.hbm, 782, rfl⟩
abbrev main_v747 : Ref sig .tc := ⟨.hbm, 783, rfl⟩
abbrev main_v748 : Ref sig .tc := ⟨.hbm, 784, rfl⟩
abbrev main_v749 : Ref sig .tc := ⟨.hbm, 785, rfl⟩
abbrev main_v750 : Ref sig .tc := ⟨.hbm, 786, rfl⟩
abbrev main_v751 : Ref sig .tc := ⟨.hbm, 787, rfl⟩
abbrev main_v752 : Ref sig .tc := ⟨.hbm, 788, rfl⟩
abbrev main_v753 : Ref sig .tc := ⟨.hbm, 789, rfl⟩
abbrev main_v754 : Ref sig .tc := ⟨.hbm, 790, rfl⟩
abbrev main_v755 : Ref sig .tc := ⟨.hbm, 791, rfl⟩
abbrev main_v756 : Ref sig .tc := ⟨.hbm, 792, rfl⟩
abbrev main_v757 : Ref sig .tc := ⟨.hbm, 793, rfl⟩
abbrev main_v758 : Ref sig .tc := ⟨.hbm, 794, rfl⟩
abbrev main_v759 : Ref sig .tc := ⟨.hbm, 795, rfl⟩
abbrev main_v760 : Ref sig .tc := ⟨.hbm, 796, rfl⟩
abbrev main_v761 : Ref sig .tc := ⟨.hbm, 797, rfl⟩
abbrev main_v762 : Ref sig .tc := ⟨.hbm, 798, rfl⟩
abbrev main_v763 : Ref sig .tc := ⟨.hbm, 799, rfl⟩
abbrev main_v764 : Ref sig .tc := ⟨.hbm, 800, rfl⟩
abbrev main_v765 : Ref sig .tc := ⟨.hbm, 801, rfl⟩
abbrev main_v766 : Ref sig .tc := ⟨.hbm, 802, rfl⟩
abbrev main_v767 : Ref sig .tc := ⟨.hbm, 803, rfl⟩
abbrev main_v768 : Ref sig .tc := ⟨.hbm, 804, rfl⟩
abbrev main_v769 : Ref sig .tc := ⟨.hbm, 805, rfl⟩
abbrev main_v770 : Ref sig .tc := ⟨.hbm, 806, rfl⟩
abbrev main_v771 : Ref sig .tc := ⟨.hbm, 807, rfl⟩
abbrev main_v772 : Ref sig .tc := ⟨.hbm, 808, rfl⟩
abbrev main_v773 : Ref sig .tc := ⟨.hbm, 809, rfl⟩
abbrev main_v774 : Ref sig .tc := ⟨.hbm, 810, rfl⟩
abbrev main_v775 : Ref sig .tc := ⟨.hbm, 811, rfl⟩
abbrev main_v776 : Ref sig .tc := ⟨.hbm, 812, rfl⟩
abbrev main_v777 : Ref sig .tc := ⟨.hbm, 813, rfl⟩
abbrev main_v778 : Ref sig .tc := ⟨.hbm, 814, rfl⟩
abbrev main_v779 : Ref sig .tc := ⟨.hbm, 815, rfl⟩
abbrev main_v780 : Ref sig .tc := ⟨.hbm, 816, rfl⟩
abbrev main_v781 : Ref sig .tc := ⟨.hbm, 817, rfl⟩
abbrev main_v782 : Ref sig .tc := ⟨.hbm, 818, rfl⟩
abbrev main_v783 : Ref sig .tc := ⟨.hbm, 819, rfl⟩
abbrev main_v784 : Ref sig .tc := ⟨.hbm, 820, rfl⟩
abbrev main_v785 : Ref sig .tc := ⟨.hbm, 821, rfl⟩
abbrev main_v786 : Ref sig .tc := ⟨.hbm, 822, rfl⟩
abbrev main_v787 : Ref sig .tc := ⟨.hbm, 823, rfl⟩
abbrev main_v788 : Ref sig .tc := ⟨.hbm, 824, rfl⟩
abbrev main_v789 : Ref sig .tc := ⟨.hbm, 825, rfl⟩
abbrev main_v790 : Ref sig .tc := ⟨.hbm, 826, rfl⟩
abbrev main_v791 : Ref sig .tc := ⟨.hbm, 827, rfl⟩
abbrev main_v792 : Ref sig .tc := ⟨.hbm, 828, rfl⟩
abbrev main_v793 : Ref sig .tc := ⟨.hbm, 829, rfl⟩
abbrev main_v794 : Ref sig .tc := ⟨.hbm, 830, rfl⟩
abbrev main_v795 : Ref sig .tc := ⟨.hbm, 831, rfl⟩
abbrev main_v796 : Ref sig .tc := ⟨.hbm, 832, rfl⟩
abbrev main_v797 : Ref sig .tc := ⟨.hbm, 833, rfl⟩
abbrev main_v798 : Ref sig .tc := ⟨.hbm, 834, rfl⟩
abbrev main_v799 : Ref sig .tc := ⟨.hbm, 835, rfl⟩
abbrev main_v800 : Ref sig .tc := ⟨.hbm, 836, rfl⟩
abbrev main_v801 : Ref sig .tc := ⟨.hbm, 837, rfl⟩
abbrev main_v802 : Ref sig .tc := ⟨.hbm, 838, rfl⟩
abbrev main_v803 : Ref sig .tc := ⟨.hbm, 839, rfl⟩
abbrev main_v804 : Ref sig .tc := ⟨.hbm, 840, rfl⟩
abbrev main_v805 : Ref sig .tc := ⟨.hbm, 841, rfl⟩
abbrev main_v806 : Ref sig .tc := ⟨.hbm, 842, rfl⟩
abbrev main_v807 : Ref sig .tc := ⟨.hbm, 843, rfl⟩
abbrev main_v808 : Ref sig .tc := ⟨.hbm, 844, rfl⟩
abbrev main_v809 : Ref sig .tc := ⟨.hbm, 845, rfl⟩
abbrev main_v810 : Ref sig .tc := ⟨.hbm, 846, rfl⟩
abbrev main_v811 : Ref sig .tc := ⟨.hbm, 847, rfl⟩
abbrev main_v812 : Ref sig .tc := ⟨.hbm, 848, rfl⟩
abbrev main_v813 : Ref sig .tc := ⟨.hbm, 849, rfl⟩
abbrev main_v814 : Ref sig .tc := ⟨.hbm, 850, rfl⟩
abbrev main_v815 : Ref sig .tc := ⟨.hbm, 851, rfl⟩
abbrev main_v816 : Ref sig .tc := ⟨.hbm, 852, rfl⟩
abbrev main_v817 : Ref sig .tc := ⟨.hbm, 853, rfl⟩
abbrev main_v818 : Ref sig .tc := ⟨.hbm, 854, rfl⟩
abbrev main_v819 : Ref sig .tc := ⟨.hbm, 855, rfl⟩
abbrev main_v820 : Ref sig .tc := ⟨.hbm, 856, rfl⟩
abbrev main_v821 : Ref sig .tc := ⟨.hbm, 857, rfl⟩
abbrev main_v822 : Ref sig .tc := ⟨.hbm, 858, rfl⟩
abbrev main_v823 : Ref sig .tc := ⟨.hbm, 859, rfl⟩
abbrev main_v824 : Ref sig .tc := ⟨.hbm, 860, rfl⟩
abbrev main_v825 : Ref sig .tc := ⟨.hbm, 861, rfl⟩
abbrev main_v826 : Ref sig .tc := ⟨.hbm, 862, rfl⟩
abbrev main_v827 : Ref sig .tc := ⟨.hbm, 863, rfl⟩
abbrev main_v828 : Ref sig .tc := ⟨.hbm, 864, rfl⟩
abbrev main_v829 : Ref sig .tc := ⟨.hbm, 865, rfl⟩
abbrev main_v830 : Ref sig .tc := ⟨.hbm, 866, rfl⟩
abbrev main_v831 : Ref sig .tc := ⟨.hbm, 867, rfl⟩
abbrev main_v832 : Ref sig .tc := ⟨.hbm, 868, rfl⟩
abbrev main_v833 : Ref sig .tc := ⟨.hbm, 869, rfl⟩
abbrev main_v834 : Ref sig .tc := ⟨.hbm, 870, rfl⟩
abbrev main_v835 : Ref sig .tc := ⟨.hbm, 871, rfl⟩
abbrev main_v836 : Ref sig .tc := ⟨.hbm, 872, rfl⟩
abbrev main_v837 : Ref sig .tc := ⟨.hbm, 873, rfl⟩
abbrev main_v838 : Ref sig .tc := ⟨.hbm, 874, rfl⟩
abbrev main_v839 : Ref sig .tc := ⟨.hbm, 875, rfl⟩
abbrev main_v840 : Ref sig .tc := ⟨.hbm, 876, rfl⟩
abbrev main_v841 : Ref sig .tc := ⟨.hbm, 877, rfl⟩
abbrev main_v842 : Ref sig .tc := ⟨.hbm, 878, rfl⟩
abbrev main_v843 : Ref sig .tc := ⟨.hbm, 879, rfl⟩
abbrev main_v844 : Ref sig .tc := ⟨.hbm, 880, rfl⟩
abbrev main_v845 : Ref sig .tc := ⟨.hbm, 881, rfl⟩
abbrev main_v846 : Ref sig .tc := ⟨.hbm, 882, rfl⟩
abbrev main_v847 : Ref sig .tc := ⟨.hbm, 883, rfl⟩
abbrev main_v848 : Ref sig .tc := ⟨.hbm, 884, rfl⟩
abbrev main_v849 : Ref sig .tc := ⟨.hbm, 885, rfl⟩
abbrev main_v850 : Ref sig .tc := ⟨.hbm, 886, rfl⟩
abbrev main_v851 : Ref sig .tc := ⟨.hbm, 887, rfl⟩
abbrev main_v852 : Ref sig .tc := ⟨.hbm, 888, rfl⟩
abbrev main_v853 : Ref sig .tc := ⟨.hbm, 889, rfl⟩
abbrev main_v854 : Ref sig .tc := ⟨.hbm, 890, rfl⟩
abbrev main_v855 : Ref sig .tc := ⟨.hbm, 891, rfl⟩
abbrev main_v856 : Ref sig .tc := ⟨.hbm, 892, rfl⟩
abbrev main_v857 : Ref sig .tc := ⟨.hbm, 893, rfl⟩
abbrev main_v858 : Ref sig .tc := ⟨.hbm, 894, rfl⟩
abbrev main_v859 : Ref sig .tc := ⟨.hbm, 895, rfl⟩
abbrev main_v860 : Ref sig .tc := ⟨.hbm, 896, rfl⟩
abbrev main_v861 : Ref sig .tc := ⟨.hbm, 897, rfl⟩
abbrev main_v862 : Ref sig .tc := ⟨.hbm, 898, rfl⟩
abbrev main_v863 : Ref sig .tc := ⟨.hbm, 899, rfl⟩
abbrev main_v864 : Ref sig .tc := ⟨.hbm, 900, rfl⟩
abbrev main_v865 : Ref sig .tc := ⟨.hbm, 901, rfl⟩
abbrev main_v866 : Ref sig .tc := ⟨.hbm, 902, rfl⟩
abbrev main_v867 : Ref sig .tc := ⟨.hbm, 903, rfl⟩
abbrev main_v868 : Ref sig .tc := ⟨.hbm, 904, rfl⟩
abbrev main_v869 : Ref sig .tc := ⟨.hbm, 905, rfl⟩
abbrev main_v870 : Ref sig .tc := ⟨.hbm, 906, rfl⟩
abbrev main_v871 : Ref sig .tc := ⟨.hbm, 907, rfl⟩
abbrev main_v872 : Ref sig .tc := ⟨.hbm, 908, rfl⟩
abbrev main_v873 : Ref sig .tc := ⟨.hbm, 909, rfl⟩
abbrev main_v874 : Ref sig .tc := ⟨.hbm, 910, rfl⟩
abbrev main_v875 : Ref sig .tc := ⟨.hbm, 911, rfl⟩
abbrev main_v876 : Ref sig .tc := ⟨.hbm, 912, rfl⟩
abbrev main_v877 : Ref sig .tc := ⟨.hbm, 913, rfl⟩
abbrev main_v878 : Ref sig .tc := ⟨.hbm, 914, rfl⟩
abbrev main_v879 : Ref sig .tc := ⟨.hbm, 915, rfl⟩
abbrev main_v880 : Ref sig .tc := ⟨.hbm, 916, rfl⟩
abbrev main_v881 : Ref sig .tc := ⟨.hbm, 917, rfl⟩
abbrev main_v882 : Ref sig .tc := ⟨.hbm, 918, rfl⟩
abbrev main_v883 : Ref sig .tc := ⟨.hbm, 919, rfl⟩
abbrev main_v884 : Ref sig .tc := ⟨.hbm, 920, rfl⟩
abbrev main_v885 : Ref sig .tc := ⟨.hbm, 921, rfl⟩
abbrev main_v886 : Ref sig .tc := ⟨.hbm, 922, rfl⟩
abbrev main_v887 : Ref sig .tc := ⟨.hbm, 923, rfl⟩
abbrev main_v888 : Ref sig .tc := ⟨.hbm, 924, rfl⟩
abbrev main_v889 : Ref sig .tc := ⟨.hbm, 925, rfl⟩
abbrev main_v890 : Ref sig .tc := ⟨.hbm, 926, rfl⟩
abbrev main_v891 : Ref sig .tc := ⟨.hbm, 927, rfl⟩
abbrev main_v892 : Ref sig .tc := ⟨.hbm, 928, rfl⟩
abbrev main_v893 : Ref sig .tc := ⟨.hbm, 929, rfl⟩
abbrev main_v894 : Ref sig .tc := ⟨.hbm, 930, rfl⟩
abbrev main_v895 : Ref sig .tc := ⟨.hbm, 931, rfl⟩
abbrev main_v896 : Ref sig .tc := ⟨.hbm, 932, rfl⟩
abbrev main_v897 : Ref sig .tc := ⟨.hbm, 933, rfl⟩
abbrev main_v898 : Ref sig .tc := ⟨.hbm, 934, rfl⟩
abbrev main_v899 : Ref sig .tc := ⟨.hbm, 935, rfl⟩
abbrev main_v900 : Ref sig .tc := ⟨.hbm, 936, rfl⟩
abbrev main_v901 : Ref sig .tc := ⟨.hbm, 937, rfl⟩
abbrev main_v902 : Ref sig .tc := ⟨.hbm, 938, rfl⟩
abbrev main_v903 : Ref sig .tc := ⟨.hbm, 939, rfl⟩
abbrev main_v904 : Ref sig .tc := ⟨.hbm, 940, rfl⟩
abbrev main_v905 : Ref sig .tc := ⟨.hbm, 941, rfl⟩
abbrev main_v906 : Ref sig .tc := ⟨.hbm, 942, rfl⟩
abbrev main_v907 : Ref sig .tc := ⟨.hbm, 943, rfl⟩
abbrev main_v908 : Ref sig .tc := ⟨.hbm, 944, rfl⟩
abbrev main_v909 : Ref sig .tc := ⟨.hbm, 945, rfl⟩
abbrev main_v910 : Ref sig .tc := ⟨.hbm, 946, rfl⟩
abbrev main_v911 : Ref sig .tc := ⟨.hbm, 947, rfl⟩
abbrev main_v912 : Ref sig .tc := ⟨.hbm, 948, rfl⟩
abbrev main_v913 : Ref sig .tc := ⟨.hbm, 949, rfl⟩
abbrev main_v914 : Ref sig .tc := ⟨.hbm, 950, rfl⟩
abbrev main_v915 : Ref sig .tc := ⟨.hbm, 951, rfl⟩
abbrev main_v916 : Ref sig .tc := ⟨.hbm, 952, rfl⟩
abbrev main_v917 : Ref sig .tc := ⟨.hbm, 953, rfl⟩
abbrev main_v918 : Ref sig .tc := ⟨.hbm, 954, rfl⟩
abbrev main_v919 : Ref sig .tc := ⟨.hbm, 955, rfl⟩
abbrev main_v920 : Ref sig .tc := ⟨.hbm, 956, rfl⟩
abbrev main_v921 : Ref sig .tc := ⟨.hbm, 957, rfl⟩
abbrev main_v922 : Ref sig .tc := ⟨.hbm, 958, rfl⟩
abbrev main_v923 : Ref sig .tc := ⟨.hbm, 959, rfl⟩
abbrev main_v924 : Ref sig .tc := ⟨.hbm, 960, rfl⟩
abbrev main_v925 : Ref sig .tc := ⟨.hbm, 961, rfl⟩
abbrev main_v926 : Ref sig .tc := ⟨.hbm, 962, rfl⟩
abbrev main_v927 : Ref sig .tc := ⟨.hbm, 963, rfl⟩
abbrev main_v928 : Ref sig .tc := ⟨.hbm, 964, rfl⟩
abbrev main_v929 : Ref sig .tc := ⟨.hbm, 965, rfl⟩
abbrev main_v930 : Ref sig .tc := ⟨.hbm, 966, rfl⟩
abbrev main_v931 : Ref sig .tc := ⟨.hbm, 967, rfl⟩
abbrev main_v932 : Ref sig .tc := ⟨.hbm, 968, rfl⟩
abbrev main_v933 : Ref sig .tc := ⟨.hbm, 969, rfl⟩
abbrev main_v934 : Ref sig .tc := ⟨.hbm, 970, rfl⟩
abbrev main_v935 : Ref sig .tc := ⟨.hbm, 971, rfl⟩
abbrev main_v936 : Ref sig .tc := ⟨.hbm, 972, rfl⟩
abbrev main_v937 : Ref sig .tc := ⟨.hbm, 973, rfl⟩
abbrev main_v938 : Ref sig .tc := ⟨.hbm, 974, rfl⟩
abbrev main_v939 : Ref sig .tc := ⟨.hbm, 975, rfl⟩
abbrev main_v940 : Ref sig .tc := ⟨.hbm, 976, rfl⟩
abbrev main_v941 : Ref sig .tc := ⟨.hbm, 977, rfl⟩
abbrev main_v942 : Ref sig .tc := ⟨.hbm, 978, rfl⟩
abbrev main_v943 : Ref sig .tc := ⟨.hbm, 979, rfl⟩
abbrev main_v944 : Ref sig .tc := ⟨.hbm, 980, rfl⟩
abbrev main_v945 : Ref sig .tc := ⟨.hbm, 981, rfl⟩
abbrev main_v946 : Ref sig .tc := ⟨.hbm, 982, rfl⟩
abbrev main_v947 : Ref sig .tc := ⟨.hbm, 983, rfl⟩
abbrev main_v948 : Ref sig .tc := ⟨.hbm, 984, rfl⟩
abbrev main_v949 : Ref sig .tc := ⟨.hbm, 985, rfl⟩
abbrev main_v950 : Ref sig .tc := ⟨.hbm, 986, rfl⟩
abbrev main_v951 : Ref sig .tc := ⟨.hbm, 987, rfl⟩
abbrev main_v952 : Ref sig .tc := ⟨.hbm, 988, rfl⟩
abbrev main_v953 : Ref sig .tc := ⟨.hbm, 989, rfl⟩
abbrev main_v954 : Ref sig .tc := ⟨.hbm, 990, rfl⟩
abbrev main_v955 : Ref sig .tc := ⟨.hbm, 991, rfl⟩
abbrev main_v956 : Ref sig .tc := ⟨.hbm, 992, rfl⟩
abbrev main_v957 : Ref sig .tc := ⟨.hbm, 993, rfl⟩
abbrev main_v958 : Ref sig .tc := ⟨.hbm, 994, rfl⟩
abbrev main_v959 : Ref sig .tc := ⟨.hbm, 995, rfl⟩
abbrev main_v960 : Ref sig .tc := ⟨.hbm, 996, rfl⟩
abbrev main_v961 : Ref sig .tc := ⟨.hbm, 997, rfl⟩
abbrev main_v962 : Ref sig .tc := ⟨.hbm, 998, rfl⟩
abbrev main_v963 : Ref sig .tc := ⟨.hbm, 999, rfl⟩
abbrev main_v964 : Ref sig .tc := ⟨.hbm, 1000, rfl⟩
abbrev main_v965 : Ref sig .tc := ⟨.hbm, 1001, rfl⟩
abbrev main_v966 : Ref sig .tc := ⟨.hbm, 1002, rfl⟩
abbrev main_v967 : Ref sig .tc := ⟨.hbm, 1003, rfl⟩
abbrev main_v968 : Ref sig .tc := ⟨.hbm, 1004, rfl⟩
abbrev main_v969 : Ref sig .tc := ⟨.hbm, 1005, rfl⟩
abbrev main_v970 : Ref sig .tc := ⟨.hbm, 1006, rfl⟩
abbrev main_v971 : Ref sig .tc := ⟨.hbm, 1007, rfl⟩
abbrev main_v972 : Ref sig .tc := ⟨.hbm, 1008, rfl⟩
abbrev main_v973 : Ref sig .tc := ⟨.hbm, 1009, rfl⟩
abbrev main_v974 : Ref sig .tc := ⟨.hbm, 1010, rfl⟩
abbrev main_v975 : Ref sig .tc := ⟨.hbm, 1011, rfl⟩
abbrev main_v976 : Ref sig .tc := ⟨.hbm, 1012, rfl⟩
abbrev main_v977 : Ref sig .tc := ⟨.hbm, 1013, rfl⟩
abbrev main_v978 : Ref sig .tc := ⟨.hbm, 1014, rfl⟩
abbrev main_v979 : Ref sig .tc := ⟨.hbm, 1015, rfl⟩
abbrev main_v980 : Ref sig .tc := ⟨.hbm, 1016, rfl⟩
abbrev main_v981 : Ref sig .tc := ⟨.hbm, 1017, rfl⟩
abbrev main_v982 : Ref sig .tc := ⟨.hbm, 1018, rfl⟩
abbrev main_v983 : Ref sig .tc := ⟨.hbm, 1019, rfl⟩
abbrev main_v984 : Ref sig .tc := ⟨.hbm, 1020, rfl⟩
abbrev main_v985 : Ref sig .tc := ⟨.hbm, 1021, rfl⟩
abbrev main_v986 : Ref sig .tc := ⟨.hbm, 1022, rfl⟩
abbrev main_v987 : Ref sig .tc := ⟨.hbm, 1023, rfl⟩
abbrev main_v988 : Ref sig .tc := ⟨.hbm, 1024, rfl⟩
abbrev main_v989 : Ref sig .tc := ⟨.hbm, 1025, rfl⟩
abbrev main_v990 : Ref sig .tc := ⟨.hbm, 1026, rfl⟩
abbrev main_v991 : Ref sig .tc := ⟨.hbm, 1027, rfl⟩
abbrev main_v992 : Ref sig .tc := ⟨.hbm, 1028, rfl⟩
abbrev main_v993 : Ref sig .tc := ⟨.hbm, 1029, rfl⟩
abbrev main_v994 : Ref sig .tc := ⟨.hbm, 1030, rfl⟩
abbrev main_v995 : Ref sig .tc := ⟨.hbm, 1031, rfl⟩
abbrev main_v996 : Ref sig .tc := ⟨.hbm, 1032, rfl⟩
abbrev main_v997 : Ref sig .tc := ⟨.hbm, 1033, rfl⟩
abbrev main_v998 : Ref sig .tc := ⟨.hbm, 1034, rfl⟩
abbrev main_v999 : Ref sig .tc := ⟨.hbm, 1035, rfl⟩
abbrev main_v1000 : Ref sig .tc := ⟨.hbm, 1036, rfl⟩
abbrev main_v1001 : Ref sig .tc := ⟨.hbm, 1037, rfl⟩
abbrev main_v1002 : Ref sig .tc := ⟨.hbm, 1038, rfl⟩
abbrev main_v1003 : Ref sig .tc := ⟨.hbm, 1039, rfl⟩
abbrev main_v1004 : Ref sig .tc := ⟨.hbm, 1040, rfl⟩
abbrev main_v1005 : Ref sig .tc := ⟨.hbm, 1041, rfl⟩
abbrev main_v1006 : Ref sig .tc := ⟨.hbm, 1042, rfl⟩
abbrev main_v1007 : Ref sig .tc := ⟨.hbm, 1043, rfl⟩
abbrev main_v1008 : Ref sig .tc := ⟨.hbm, 1044, rfl⟩
abbrev main_v1009 : Ref sig .tc := ⟨.hbm, 1045, rfl⟩
abbrev main_v1010 : Ref sig .tc := ⟨.hbm, 1046, rfl⟩
abbrev main_v1011 : Ref sig .tc := ⟨.hbm, 1047, rfl⟩
abbrev main_v1012 : Ref sig .tc := ⟨.hbm, 1048, rfl⟩
abbrev main_v1013 : Ref sig .tc := ⟨.hbm, 1049, rfl⟩
abbrev main_v1014 : Ref sig .tc := ⟨.hbm, 1050, rfl⟩
abbrev main_v1015 : Ref sig .tc := ⟨.hbm, 1051, rfl⟩
abbrev main_v1016 : Ref sig .tc := ⟨.hbm, 1052, rfl⟩
abbrev main_v1017 : Ref sig .tc := ⟨.hbm, 1053, rfl⟩
abbrev main_v1018 : Ref sig .tc := ⟨.hbm, 1054, rfl⟩
abbrev main_v1019 : Ref sig .tc := ⟨.hbm, 1055, rfl⟩
abbrev main_v1020 : Ref sig .tc := ⟨.hbm, 1056, rfl⟩
abbrev main_v1021 : Ref sig .tc := ⟨.hbm, 1057, rfl⟩
abbrev main_v1022 : Ref sig .tc := ⟨.hbm, 1058, rfl⟩
abbrev main_v1023 : Ref sig .tc := ⟨.hbm, 1059, rfl⟩
abbrev main_v1024 : Ref sig .tc := ⟨.hbm, 1060, rfl⟩
abbrev main_v1025 : Ref sig .tc := ⟨.hbm, 1061, rfl⟩
abbrev main_v1026 : Ref sig .tc := ⟨.hbm, 1062, rfl⟩
abbrev main_v1027 : Ref sig .tc := ⟨.hbm, 1063, rfl⟩
abbrev main_v1028 : Ref sig .tc := ⟨.hbm, 1064, rfl⟩
abbrev main_v1029 : Ref sig .tc := ⟨.hbm, 1065, rfl⟩
abbrev main_v1030 : Ref sig .tc := ⟨.hbm, 1066, rfl⟩
abbrev main_v1031 : Ref sig .tc := ⟨.hbm, 1067, rfl⟩
abbrev main_v1032 : Ref sig .tc := ⟨.hbm, 1068, rfl⟩
abbrev main_v1033 : Ref sig .tc := ⟨.hbm, 1069, rfl⟩
abbrev main_v1034 : Ref sig .tc := ⟨.hbm, 1070, rfl⟩
abbrev main_v1035 : Ref sig .tc := ⟨.hbm, 1071, rfl⟩
abbrev main_v1036 : Ref sig .tc := ⟨.hbm, 1072, rfl⟩
abbrev main_v1037 : Ref sig .tc := ⟨.hbm, 1073, rfl⟩
abbrev main_v1038 : Ref sig .tc := ⟨.hbm, 1074, rfl⟩
abbrev main_v1039 : Ref sig .tc := ⟨.hbm, 1075, rfl⟩
abbrev main_cst_8 : Ref sig .tc := ⟨.hbm, 1076, rfl⟩
abbrev main_v1040 : Ref sig .tc := ⟨.hbm, 1077, rfl⟩
abbrev main_v1041 : Ref sig .tc := ⟨.hbm, 1078, rfl⟩
abbrev main_cst_9 : Ref sig .tc := ⟨.hbm, 1079, rfl⟩
abbrev main_v1042 : Ref sig .tc := ⟨.hbm, 1080, rfl⟩
abbrev main_v1043 : Ref sig .tc := ⟨.hbm, 1081, rfl⟩
abbrev main_c : Ref sig .tc := ⟨.hbm, 1082, rfl⟩
abbrev main_call1_cst : Ref sig .tc := ⟨.hbm, 1083, rfl⟩
abbrev main_call1_v0 : Ref sig .tc := ⟨.hbm, 1084, rfl⟩
abbrev main_call1_v1 : Ref sig .tc := ⟨.hbm, 1085, rfl⟩
abbrev main_call1_cst_0 : Ref sig .tc := ⟨.hbm, 1086, rfl⟩
abbrev main_call1_v2 : Ref sig .tc := ⟨.hbm, 1087, rfl⟩
abbrev main_call1_v3 : Ref sig .tc := ⟨.hbm, 1088, rfl⟩
abbrev main_call1_v4 : Ref sig .tc := ⟨.hbm, 1089, rfl⟩
abbrev main_call1_v5 : Ref sig .tc := ⟨.hbm, 1090, rfl⟩
abbrev main_call1_v6 : Ref sig .tc := ⟨.hbm, 1091, rfl⟩
abbrev main_call1_v7 : Ref sig .tc := ⟨.hbm, 1092, rfl⟩
abbrev main_call1_cst_1 : Ref sig .tc := ⟨.hbm, 1093, rfl⟩
abbrev main_call1_v8 : Ref sig .tc := ⟨.hbm, 1094, rfl⟩
abbrev main_call1_cst_2 : Ref sig .tc := ⟨.hbm, 1095, rfl⟩
abbrev main_call1_v9 : Ref sig .tc := ⟨.hbm, 1096, rfl⟩
abbrev main_call1_v10 : Ref sig .tc := ⟨.hbm, 1097, rfl⟩
abbrev main_call1_v11 : Ref sig .tc := ⟨.hbm, 1098, rfl⟩
abbrev main_call1_v12 : Ref sig .tc := ⟨.hbm, 1099, rfl⟩
abbrev main_call1_cst_3 : Ref sig .tc := ⟨.hbm, 1100, rfl⟩
abbrev main_call1_v13 : Ref sig .tc := ⟨.hbm, 1101, rfl⟩
abbrev main_call1_cst_4 : Ref sig .tc := ⟨.hbm, 1102, rfl⟩
abbrev main_call1_call0_v0 : Ref sig .tc := ⟨.hbm, 1103, rfl⟩
abbrev main_call1_call0_v1 : Ref sig .tc := ⟨.hbm, 1104, rfl⟩
abbrev main_v1044 : Ref sig .tc := ⟨.hbm, 1105, rfl⟩
abbrev main_v1045 : Ref sig .tc := ⟨.hbm, 1106, rfl⟩
abbrev main_v1046 : Ref sig .tc := ⟨.hbm, 1107, rfl⟩
abbrev main_cst_10 : Ref sig .tc := ⟨.hbm, 1108, rfl⟩
abbrev main_v1047 : Ref sig .tc := ⟨.hbm, 1109, rfl⟩
abbrev main_v1048 : Ref sig .tc := ⟨.hbm, 1110, rfl⟩
abbrev main_v1049 : Ref sig .tc := ⟨.hbm, 1111, rfl⟩
abbrev main_v1050 : Ref sig .tc := ⟨.hbm, 1112, rfl⟩
abbrev main_v1051 : Ref sig .tc := ⟨.hbm, 1113, rfl⟩
abbrev main_v1052 : Ref sig .tc := ⟨.hbm, 1114, rfl⟩
abbrev main_v1053 : Ref sig .tc := ⟨.hbm, 1115, rfl⟩
abbrev main_v1054 : Ref sig .tc := ⟨.hbm, 1116, rfl⟩
abbrev main_v1055 : Ref sig .tc := ⟨.hbm, 1117, rfl⟩
abbrev main_v1056 : Ref sig .tc := ⟨.hbm, 1118, rfl⟩
abbrev main_v1057 : Ref sig .tc := ⟨.hbm, 1119, rfl⟩
abbrev main_v1058 : Ref sig .tc := ⟨.hbm, 1120, rfl⟩
abbrev main_v1059 : Ref sig .tc := ⟨.hbm, 1121, rfl⟩
abbrev main_v1060 : Ref sig .tc := ⟨.hbm, 1122, rfl⟩
abbrev main_v1061 : Ref sig .tc := ⟨.hbm, 1123, rfl⟩
abbrev main_v1062 : Ref sig .tc := ⟨.hbm, 1124, rfl⟩
abbrev main_cst_11 : Ref sig .tc := ⟨.hbm, 1125, rfl⟩
abbrev main_v1063 : Ref sig .tc := ⟨.hbm, 1126, rfl⟩
abbrev main_v1064 : Ref sig .tc := ⟨.hbm, 1127, rfl⟩
abbrev main_v1065 : Ref sig .tc := ⟨.hbm, 1128, rfl⟩
abbrev main_v1066 : Ref sig .tc := ⟨.hbm, 1129, rfl⟩
abbrev main_v1067 : Ref sig .tc := ⟨.hbm, 1130, rfl⟩
abbrev main_v1068 : Ref sig .tc := ⟨.hbm, 1131, rfl⟩
abbrev main_v1069 : Ref sig .tc := ⟨.hbm, 1132, rfl⟩
abbrev main_v1070 : Ref sig .tc := ⟨.hbm, 1133, rfl⟩
abbrev main_v1071 : Ref sig .tc := ⟨.hbm, 1134, rfl⟩
abbrev main_v1072 : Ref sig .tc := ⟨.hbm, 1135, rfl⟩

abbrev nD : Nat := 1
abbrev τ : Topo := Topo.v7x

variable {F : FTy → Type} [FloatOps F]
-- ==== Proof.MlpRun.lean ====
/-
  The squared-ReLU block's kernel, case by case: what each grid point leaves in the output block and in the carried
  scratch, as the stores' own terms of what the point read.
-/
module

public import proofs.«01_k».proof.Proof.Gen.Kernel2Ideal.Value
public import Idealize.ShloMosaic.Lib.Pipeline.ValueKit
public import Idealize.ShloMosaic.Lib.Pointwise

@[expose] public section

set_option maxRecDepth 16384

noncomputable section

namespace Cert.Kernel2Ideal.Mlp

open Cert.Kernel2Ideal Cert.Kernel2Ideal.Gen Idealize.ShloMosaic Idealize.ShloMosaic.TcCoe Idealize.SL.Sem

variable {F : FTy → Type} [FloatOps F]

theorem zero2 : (![0, 0] : Fin 2 → Nat) = fun _ => 0 := funext fun a => by fin_cases a <;> rfl
theorem zero3 : (![0, 0, 0] : Fin 3 → Nat) = fun _ => 0 := funext fun a => by fin_cases a <;> rfl

variable (c : Dev nD) (i : grid0.Coords) (arg2 : Memref sig .tc .vmem S512x2048 .f32) (harg2 : arg2.IsWhole)
  (arg3 : Memref sig .tc .vmem S1x1x2048 .f32) (harg3 : arg3.IsWhole) (arg4 : Memref sig .tc .vmem S1x2048x1024 .bf16) (harg4 : arg4.IsWhole)
  (arg5 : Memref sig .tc .vmem S1x1024x2048 .bf16) (harg5 : arg5.IsWhole) (arg6 : Memref sig .tc .vmem S1x1x2048 .f32) (harg6 : arg6.IsWhole)
  (arg7 : Memref sig .tc .vmem S512x2048 .f32) (harg7 : arg7.IsWhole) (arg8 : Memref sig .tc .vmem S512x2048 .bf16) (harg8 : arg8.IsWhole)
  (x0 : Vec F S512x2048 .f32) (x1 : Vec F S1x1x2048 .f32) (x2 : Vec F S1x2048x1024 .bf16) (x3 : Vec F S1x1024x2048 .bf16)
  (x4 : Vec F S1x1x2048 .f32) (xo : Vec F S512x2048 .f32) (xs : Vec F S512x2048 .bf16)

/-- The first point of a row block leaves the normalized rows in the scratch. -/
theorem scratch_first (hc0 : cond0_0 i) (hc1 : ¬cond0_1 i) :
    sout0_A_0 c i arg2 harg2 arg3 harg3 arg4 harg4 arg5 harg5 arg6 harg6 arg7 harg7 arg8 harg8 hc0 hc1 x0 x1 x2 x3 x4 = k0_pay1 x0 x1 := by
  unfold sout0_A_0
  rw [View.read_writes_eq_canon _ _ _ (scover0_A_0 c i arg2 harg2 arg3 harg3 arg4 harg4 arg5 harg5 arg6 harg6 arg7 harg7 arg8 harg8 hc0 hc1 x0 x1 x2 x3 x4)]
  unfold kernelRun0_A
  dsimp only
  sl_unfold_words
  rw [View.canon_unit_zero zero2]
  simp only [View.readAt_eq_ld, harg2.read_unread, harg3.read_unread, View.ld_unit_zero (S := S512x2048) zero2,
    View.ld_unit_zero (S := S1x1x2048) zero3]

/-- The first point of a row block leaves the first partial product in the output block. -/
theorem out_first (hc0 : cond0_0 i) (hc1 : ¬cond0_1 i) :
    out0_A_5 c i arg2 harg2 arg3 harg3 arg4 harg4 arg5 harg5 arg6 harg6 arg7 harg7 arg8 harg8 hc0 hc1 x0 x1 x2 x3 x4
      = k0_pay3 x2 x3 (k0_pay1 x0 x1) k0_pay2 := by
  unfold out0_A_5
  rw [View.read_writes_eq_canon _ _ _ (cover0_A_5 c i arg2 harg2 arg3 harg3 arg4 harg4 arg5 harg5 arg6 harg6 arg7 harg7 arg8 harg8 hc0 hc1 x0 x1 x2 x3 x4)]
  unfold kernelRun0_A
  dsimp only
  sl_unfold_words
  rw [View.canon_cons_unit_zero (S := S512x2048) zero2, View.readCov_unit_zero (S := S512x2048) _ zero2,
    View.readCov_unit_zero (S := S512x2048) _ zero2]
  simp only [View.readAt_eq_ld, harg2.read_unread, harg3.read_unread, harg4.read_unread, harg5.read_unread,
    View.ld_unit_zero (S := S512x2048) zero2, View.ld_unit_zero (S := S1x1x2048) zero3,
    View.ld_unit_zero (S := S1x2048x1024) zero3, View.ld_unit_zero (S := S1x1024x2048) zero3]

/-- A middle point adds its partial product to what the point before left. -/
theorem out_mid (hc0 : ¬cond0_0 i) (hc1 : ¬cond0_1 i) :
    out0_B_5 c i arg2 harg2 arg3 harg3 arg4 harg4 arg5 harg5 arg6 harg6 arg7 harg7 arg8 harg8 hc0 hc1 x0 x1 x2 x3 x4 xo xs
      = k0_pay3 x2 x3 xs xo := by
  unfold out0_B_5
  rw [View.read_writes_eq_canon _ _ _ (cover0_B_5 c i arg2 harg2 arg3 harg3 arg4 harg4 arg5 harg5 arg6 harg6 arg7 harg7 arg8 harg8 hc0 hc1 x0 x1 x2 x3 x4 xo xs)]
  unfold kernelRun0_B
  dsimp only
  sl_unfold_words
  rw [View.canon_unit_zero zero2]
  simp only [View.readAt_eq_ld, harg4.read_unread, harg5.read_unread, harg7.read_unread, harg8.read_unread,
    View.ld_unit_zero (S := S512x2048) zero2,
    View.ld_unit_zero (S := S1x2048x1024) zero3, View.ld_unit_zero (S := S1x1024x2048) zero3]

/-- The last point adds its partial product, then normalizes the sum and adds the residual. -/
theorem out_last (hc0 : ¬cond0_0 i) (hc1 : cond0_1 i) :
    out0_C_5 c i arg2 harg2 arg3 harg3 arg4 harg4 arg5 harg5 arg6 harg6 arg7 harg7 arg8 harg8 hc0 hc1 x0 x1 x2 x3 x4 xo xs
      = k0_pay4 x0 (k0_pay3 x2 x3 xs xo) x4 := by
  unfold out0_C_5
  rw [View.read_writes_eq_canon _ _ _ (cover0_C_5 c i arg2 harg2 arg3 harg3 arg4 harg4 arg5 harg5 arg6 harg6 arg7 harg7 arg8 harg8 hc0 hc1 x0 x1 x2 x3 x4 xo xs)]
  unfold kernelRun0_C
  dsimp only
  sl_unfold_words
  rw [View.canon_cons_unit_zero (S := S512x2048) zero2, View.readCov_unit_zero (S := S512x2048) _ zero2]
  simp only [View.readAt_eq_ld, harg2.read_unread, harg4.read_unread, harg5.read_unread, harg6.read_unread, harg7.read_unread, harg8.read_unread,
    View.ld_unit_zero (S := S512x2048) zero2, View.ld_unit_zero (S := S1x1x2048) zero3,
    View.ld_unit_zero (S := S1x2048x1024) zero3, View.ld_unit_zero (S := S1x1024x2048) zero3]

end Cert.Kernel2Ideal.Mlp
-- ==== Proof.Rows.lean ====
/-
  Rows: the root-mean-square norm of a row with its gain, and a normalized row against a column.
-/
module

public import Idealize.ShloMosaic.Lib.Pointwise

@[expose] public section

noncomputable section

namespace Cert.Rows

open Idealize.ShloMosaic

/-- The root-mean-square norm of a row with its gain. -/
def rms (x g : Fin 2048 → EReal) (d : Fin 2048) : EReal :=
  x d * Ideal.rsqrt (Ideal.div (∑ k, x k * x k) (Ideal.ofBits FTy.f32 1157627904#32) + Ideal.ofBits FTy.f32 897988541#32) * g d

/-- A normalized row against a column. -/
def project (x g w : Fin 2048 → EReal) : EReal := ∑ d, rms x g d * w d

end Cert.Rows
-- ==== Proof.MlpValue.lean ====
/-
  The squared-ReLU block at an index. The kernel's stores read down to sums over the hidden width, the windows read as
  entries of the arguments, the eight partial products of a row block added up, and the array the run leaves: the input
  plus the normalized block, `block`.
-/
module

public import proofs.«01_k».proof.Proof.MlpRun
public import proofs.«01_k».proof.Proof.Rows
public import Idealize.ShloMosaic.Lib.Claim
public import Idealize.ShloMosaic.Lib.StableHlo.ReadAt

@[expose] public section

set_option maxRecDepth 16384

noncomputable section

namespace Cert.Kernel2Ideal.Mlp

open Cert.Rows Cert.Kernel2Ideal Cert.Kernel2Ideal.Gen Idealize.ShloMosaic Idealize.ShloMosaic.TcCoe Idealize.SL.Sem

/-! ## The block as a function of rows -/

/-- One hidden unit: the squared positive part of a product of a row and a column. -/
def hidden (h w : Fin 2048 → EReal) : EReal := max (∑ d, h d * w d) 0 * max (∑ d, h d * w d) 0

variable (x : Fin 8192 → Fin 2048 → EReal) (g₁ g₂ : Fin 2048 → EReal) (wu : Fin 2048 → Fin 8192 → EReal) (wd : Fin 8192 → Fin 2048 → EReal)

/-- The block's output before its norm: the hidden units of row `r` against column `j` of the second matrix. -/
def inner (r : Fin 8192) (j : Fin 2048) : EReal := ∑ k, hidden (rms (x r) g₁) (fun d => wu d k) * wd k j

/-- The whole block: the residual and the normalized inner output. -/
def block (r : Fin 8192) (j : Fin 2048) : EReal := x r j + rms (inner x g₁ wu wd r) g₂ j

/-- One hidden unit's share of the inner output, by its number. -/
def share (r : Fin 8192) (j : Fin 2048) (k : ℕ) : EReal :=
  if h : k < 8192 then hidden (rms (x r) g₁) (fun d => wu d ⟨k, h⟩) * wd ⟨k, h⟩ j else 0

/-- The shares of the hidden units of tile `f`. -/
def part (r : Fin 8192) (j : Fin 2048) (f : ℕ) : EReal := ∑ k : Fin 1024, share x g₁ wu wd r j (1024 * f + k.val)

/-- A sum over `a` runs of `b` numbers is the sum over all of them. -/
theorem sum_runs {M : Type} [AddCommMonoid M] (G : ℕ → M) (b a : ℕ) :
    ∑ f ∈ Finset.range a, ∑ k : Fin b, G (b * f + k.val) = ∑ n ∈ Finset.range (b * a), G n := by
  induction a with
  | zero => simp
  | succ a ih => rw [Finset.sum_range_succ, ih, Nat.mul_succ, Finset.sum_range_add, Finset.sum_range (fun k => G (b * a + k))]

/-- The eight tiles make the inner output. -/
theorem sum_part (r : Fin 8192) (j : Fin 2048) :
    ∑ f ∈ Finset.range 8, part x g₁ wu wd r j f = inner x g₁ wu wd r j := by
  unfold part inner
  rw [sum_runs (share x g₁ wu wd r j) 1024 8, Finset.sum_range]
  exact Finset.sum_congr rfl fun k _ => dif_pos k.isLt

/-! ## The kernel's stores at an index -/

theorem norm_apply (x : Vec Ideal S512x2048 .f32) (g : Vec Ideal S1x1x2048 .f32) (r : Fin 512) (d : Fin 2048) :
    k0_pay1 x g (ix2 r d) = rms (fun d => x (ix2 r d)) (fun d => g (ix3 0 0 d)) d := by
  unfold rms
  pointwise [k0_pay1]

theorem reset_apply (j : S512x2048.Idx) : k0_pay2 (F := Ideal) j = 0 := by
  idx_vars j
  pointwise [k0_pay2]

theorem add_apply (wu : Vec Ideal S1x2048x1024 .bf16) (wd : Vec Ideal S1x1024x2048 .bf16) (h : Vec Ideal S512x2048 .bf16)
    (a : Vec Ideal S512x2048 .f32) (r : Fin 512) (j : Fin 2048) :
    k0_pay3 wu wd h a (ix2 r j) = a (ix2 r j)
      + ∑ k : Fin 1024, hidden (fun d => h (ix2 r d)) (fun d => wu (ix3 0 d k)) * wd (ix3 0 k j) := by
  unfold hidden
  pointwise [k0_pay3]

theorem finish_apply (x o : Vec Ideal S512x2048 .f32) (g : Vec Ideal S1x1x2048 .f32) (r : Fin 512) (j : Fin 2048) :
    k0_pay4 x o g (ix2 r j) = x (ix2 r j) + rms (fun d => o (ix2 r d)) (fun d => g (ix3 0 0 d)) j := by
  unfold rms
  pointwise [k0_pay4]

/-! ## The windows -/

variable (m : (ℓ : Loc nD τ sig) → Buf (Elt Ideal) ℓ) (c : Dev nD)

/-- Row `r` of the frames, both batch entries one after the other. -/
def argX (r : Fin 8192) (d : Fin 2048) : EReal :=
  (m ((c : Thread nD τ).loc main_arg0) : FVec Ideal S2x4096x2048 .f32) (ix3 ⟨r.val / 4096, by omega⟩ ⟨r.val % 4096, by omega⟩ d)
def argG1 (d : Fin 2048) : EReal := (m ((c : Thread nD τ).loc main_arg1) : FVec Ideal S2048 .f32) (ix1 d)
def argU (d : Fin 2048) (k : Fin 8192) : EReal := (m ((c : Thread nD τ).loc main_arg2) : FVec Ideal S2048x8192 .f32) (ix2 d k)
def argD (k : Fin 8192) (j : Fin 2048) : EReal := (m ((c : Thread nD τ).loc main_arg3) : FVec Ideal S8192x2048 .f32) (ix2 k j)
def argG2 (d : Fin 2048) : EReal := (m ((c : Thread nD τ).loc main_arg4) : FVec Ideal S2048 .f32) (ix1 d)

theorem entryX (r : Fin 8192) (d : Fin 2048) : (V m c main_v0 : FVec Ideal S8192x2048 .f32) (ix2 r d) = argX m c r d := by
  unfold V argX
  after_reads_at
theorem entryG1 (d : Fin 2048) : (V m c main_v1 : FVec Ideal S1x1x2048 .f32) (ix3 0 0 d) = argG1 m c d := by
  unfold V argG1
  after_reads_at
theorem entryU (d : Fin 2048) (k : Fin 8192) : (V m c main_v3 : FVec Ideal S1x2048x8192 .bf16) (ix3 0 d k) = argU m c d k := by
  unfold V argU
  after_reads_at
theorem entryD (k : Fin 8192) (j : Fin 2048) : (V m c main_v5 : FVec Ideal S1x8192x2048 .bf16) (ix3 0 k j) = argD m c k j := by
  unfold V argD
  after_reads_at
theorem entryG2 (d : Fin 2048) : (V m c main_v6 : FVec Ideal S1x1x2048 .f32) (ix3 0 0 d) = argG2 m c d := by
  unfold V argG2
  after_reads_at

/-- The index maps over the grid. -/
theorem index_maps : ∀ t : Fin grid0.N, win0_0.index t = ![t.val / 8, 0] ∧ win0_1.index t = ![0, 0, 0] ∧ win0_2.index t = ![0, 0, t.val % 8]
    ∧ win0_3.index t = ![0, t.val % 8, 0] ∧ win0_4.index t = ![0, 0, 0] ∧ win0_5.index t = ![t.val / 8, 0] := by
  decide +kernel

theorem row_lt (t : Fin cfg0.N) (r : Fin 512) : 512 * (t.val / 8) + r.val < 8192 := by
  have h : t.val < 128 := lt_of_lt_of_eq t.isLt N_0
  omega
theorem unit_lt (n : ℕ) (k : Fin 1024) : 1024 * (n % 8) + k.val < 8192 := by omega

theorem winX (t : Fin cfg0.N) (r : Fin 512) (d : Fin 2048) :
    (iblk m c 0 t : FVec Ideal S512x2048 .f32) (ix2 r d) = argX m c ⟨512 * (t.val / 8) + r.val, row_lt t r⟩ d := by
  rw [← entryX]
  blk_ext [iblk, (index_maps t).1]
theorem winG1 (t : Fin cfg0.N) (d : Fin 2048) : (iblk m c 1 t : FVec Ideal S1x1x2048 .f32) (ix3 0 0 d) = argG1 m c d := by
  rw [← entryG1]
  blk_ext [iblk, (index_maps t).2.1]
theorem winU (t : Fin cfg0.N) (d : Fin 2048) (k : Fin 1024) :
    (iblk m c 2 t : FVec Ideal S1x2048x1024 .bf16) (ix3 0 d k) = argU m c d ⟨1024 * (t.val % 8) + k.val, unit_lt _ k⟩ := by
  rw [← entryU]
  blk_ext [iblk, (index_maps t).2.2.1]
theorem winD (t : Fin cfg0.N) (k : Fin 1024) (j : Fin 2048) :
    (iblk m c 3 t : FVec Ideal S1x1024x2048 .bf16) (ix3 0 k j) = argD m c ⟨1024 * (t.val % 8) + k.val, unit_lt _ k⟩ j := by
  rw [← entryD]
  blk_ext [iblk, (index_maps t).2.2.2.1]
theorem winG2 (t : Fin cfg0.N) (d : Fin 2048) : (iblk m c 4 t : FVec Ideal S1x1x2048 .f32) (ix3 0 0 d) = argG2 m c d := by
  rw [← entryG2]
  blk_ext [iblk, (index_maps t).2.2.2.2.1]

/-! ## The accumulation over the hidden tiles -/

/-- The partial product of a point over its windows is its tile's part. -/
theorem part_eq (t : Fin cfg0.N) (r : Fin 512) (j : Fin 2048) (h : Fin 2048 → EReal)
    (hh : h = rms (argX m c ⟨512 * (t.val / 8) + r.val, row_lt t r⟩) (argG1 m c)) :
    ∑ k : Fin 1024, hidden h (fun d => (iblk m c 2 t : FVec Ideal S1x2048x1024 .bf16) (ix3 0 d k))
        * (iblk m c 3 t : FVec Ideal S1x1024x2048 .bf16) (ix3 0 k j)
      = part (argX m c) (argG1 m c) (argU m c) (argD m c) ⟨512 * (t.val / 8) + r.val, row_lt t r⟩ j (t.val % 8) := by
  unfold part share
  refine Finset.sum_congr rfl fun k _ => ?_
  rw [dif_pos (unit_lt _ k), winD, hh]
  exact congrArg₂ (· * ·) (congrArg (hidden _) (funext fun d => winU m c t d k)) rfl

/-- The normalized rows a block's first point puts in the scratch. -/
theorem norm_eq (t : Fin cfg0.N) (r : Fin 512) (d : Fin 2048) :
    k0_pay1 (iblk m c 0 t : FVec Ideal S512x2048 .f32) (iblk m c 1 t : FVec Ideal S1x1x2048 .f32) (ix2 r d)
      = rms (argX m c ⟨512 * (t.val / 8) + r.val, row_lt t r⟩) (argG1 m c) d := by
  rw [norm_apply]
  exact congrFun (congrArg₂ rms (funext fun d => winX m c t r d) (funext fun d => winG1 m c t d)) d

/-- After every point the scratch holds the block's normalized rows, and before the block's last point the output holds
    the parts of the tiles met so far. -/
theorem sweep (n : ℕ) : ∀ hn : n < cfg0.N,
    (∀ r d, (outsAt0 m c n hn).2 (ix2 r d) = rms (argX m c ⟨512 * (n / 8) + r.val, row_lt ⟨n, hn⟩ r⟩) (argG1 m c) d)
    ∧ (n % 8 ≠ 7 → ∀ r j, (outsAt0 m c n hn).1 (ix2 r j)
        = ∑ f ∈ Finset.range (n % 8 + 1), part (argX m c) (argG1 m c) (argU m c) (argD m c) ⟨512 * (n / 8) + r.val, row_lt ⟨n, hn⟩ r⟩ j f) := by
  have first : ∀ t : Fin cfg0.N, t.val % 8 = 0 →
      (∀ r d, (outsAt0 m c t.val t.isLt).2 (ix2 r d) = rms (argX m c ⟨512 * (t.val / 8) + r.val, row_lt t r⟩) (argG1 m c) d)
      ∧ (t.val % 8 ≠ 7 → ∀ r j, (outsAt0 m c t.val t.isLt).1 (ix2 r j)
        = ∑ f ∈ Finset.range (t.val % 8 + 1), part (argX m c) (argG1 m c) (argU m c) (argD m c) ⟨512 * (t.val / 8) + r.val, row_lt t r⟩ j f) := by
    intro t h0
    have h1 : ¬ t.val % 8 = 7 := by omega
    rw [outsAt0_A m c t h0 h1]
    refine ⟨fun r d => ?_, fun _ r j => ?_⟩
    · dsimp only
      rw [scratch_first, norm_eq]
    · dsimp only
      rw [out_first, add_apply, reset_apply, zero_add, part_eq m c t r j _ (funext fun d => norm_eq m c t r d), h0, zero_add, Finset.sum_range_one]
  induction n with
  | zero => exact fun hn => first ⟨0, hn⟩ rfl
  | succ n ih =>
    intro hn
    by_cases h0 : (n + 1) % 8 = 0
    · exact first ⟨n + 1, hn⟩ h0
    · obtain ⟨ihs, iho⟩ := ih (Nat.lt_of_succ_lt hn)
      have hd : (n + 1) / 8 = n / 8 := by omega
      by_cases h1 : (n + 1) % 8 = 7
      · rw [outsAt0_C m c ⟨n + 1, hn⟩ h0 h1]
        refine ⟨fun r d => ?_, fun h => absurd h1 h⟩
        dsimp only [sout0_C_0]
        simp only [Nat.add_sub_cancel, ihs, hd]
      · rw [outsAt0_B m c ⟨n + 1, hn⟩ h0 h1]
        refine ⟨fun r d => ?_, fun _ r j => ?_⟩
        · dsimp only [sout0_B_0]
          simp only [Nat.add_sub_cancel, ihs, hd]
        · dsimp only
          rw [out_mid, add_apply, part_eq m c ⟨n + 1, hn⟩ r j _ (funext fun d => by simp only [Nat.add_sub_cancel, ihs, hd])]
          simp only [Nat.add_sub_cancel]
          rw [iho (by omega)]
          simp only [hd]
          rw [show (n + 1) % 8 = n % 8 + 1 by omega, Finset.sum_range_succ _ (n % 8 + 1)]

/-- What a block's last point leaves in the output. -/
theorem last (t : Fin cfg0.N) (h1 : t.val % 8 = 7) (r : Fin 512) (j : Fin 2048) :
    (outsAt0 m c t.val t.isLt).1 (ix2 r j)
      = block (argX m c) (argG1 m c) (argG2 m c) (argU m c) (argD m c) ⟨512 * (t.val / 8) + r.val, row_lt t r⟩ j := by
  obtain ⟨n, hn⟩ := t
  obtain ⟨n, rfl⟩ : ∃ k, n = k + 1 := ⟨n - 1, by dsimp only at h1; omega⟩
  obtain ⟨hs, ho⟩ := sweep m c n (Nat.lt_of_succ_lt hn)
  have h0 : ¬ (n + 1) % 8 = 0 := by dsimp only at h1; omega
  have h1 : (n + 1) % 8 = 7 := h1
  have hd : (n + 1) / 8 = n / 8 := by omega
  rw [outsAt0_C m c ⟨n + 1, hn⟩ h0 h1]
  dsimp only
  rw [out_last, finish_apply, winX]
  unfold block
  refine congrArg₂ (· + ·) rfl (congrFun (congrArg₂ rms (funext fun d => ?_) (funext fun d => winG2 m c _ d)) j)
  rw [add_apply, part_eq m c ⟨n + 1, hn⟩ r d _ (funext fun d => by simp only [Nat.add_sub_cancel, hs, hd])]
  simp only [Nat.add_sub_cancel]
  rw [ho (by omega), ← sum_part]
  simp only [hd]
  rw [h1, show n % 8 + 1 = 7 by omega, Finset.sum_range_succ _ 7]

/-- The array the run leaves. -/
def result : FVec Ideal S8192x2048 .f32 := fun i => block (argX m c) (argG1 m c) (argG2 m c) (argU m c) (argD m c) (i 0) (i 1)

theorem final : (dats m 0 c).arrAt 5 cfg0.N = result m c := by
  refine (dats m 0 c).arrAt_eq_of_covers 5 _ (by decide +kernel) fun t hf y => ?_
  have h1 : t.val % 8 = 7 := (flush0_5 t).mp hf
  blk_simp
  rw [after0_5]
  obtain ⟨r, j, rfl⟩ : ∃ (r : Fin 512) (j : Fin 2048), y = ix2 r j := ⟨y 0, y 1, funext fun a => by fin_cases a <;> rfl⟩
  rw [last m c t h1]
  unfold result
  refine congrArg₂ (block (argX m c) (argG1 m c) (argG2 m c) (argU m c) (argD m c)) (Fin.ext ?_) (Fin.ext ?_)
  · show 512 * (t.val / 8) + r.val = _
    blk_simp [(index_maps t).2.2.2.2.2]
    omega
  · blk_simp [(index_maps t).2.2.2.2.2]

end Cert.Kernel2Ideal.Mlp
-- ==== Proof.MlpClaim.lean ====
/-
  The squared-ReLU block's claim: the reference at an index is the same `block` of the arguments, so the two runs end with
  equal results.
-/
module

public import proofs.«01_k».proof.Proof.MlpValue
public import proofs.«01_k».proof.Proof.Gen.Reference2Ideal.Read
public import proofs.«01_k».proof.Defs

@[expose] public section

set_option maxRecDepth 16384

noncomputable section

namespace Cert.Kernel2Ideal.Mlp

open Idealize.ShloMosaic Idealize.ShloMosaic.TcCoe Idealize.SL.Sem
open Cert.Rows Cert.Reference2Ideal Cert.Reference2Ideal.Read

/-- The reference's last array at an index. -/
theorem reference_apply (x0 : FVec Ideal S2x4096x2048 .f32) (x1 : FVec Ideal S2048 .f32) (x2 : FVec Ideal S2048x8192 .f32)
    (x3 : FVec Ideal S8192x2048 .f32) (x4 : FVec Ideal S2048 .f32) (r : Fin 8192) (j : Fin 2048) :
    val_main_v31 (F := Ideal) x0 x1 x2 x3 x4 (ix2 r j)
      = block (fun r d => x0 (ix3 ⟨r.val / 4096, by omega⟩ ⟨r.val % 4096, by omega⟩ d)) (fun d => x1 (ix1 d)) (fun d => x4 (ix1 d))
          (fun d k => x2 (ix2 d k)) (fun k j => x3 (ix2 k j)) r j := by
  unfold block inner rms hidden
  pointwise [val_main_v31, val_main_v30, val_main_v29, val_main_v28, val_main_v27, val_main_v26, val_main_v25, val_main_v24,
    val_main_v23, val_main_v22, val_main_cst_4, val_main_v21, val_main_v20, val_main_cst_3, val_main_v19, val_main_v18,
    val_main_cst_2, val_main_v17, val_main_v16, val_main_v15, val_main_v14, val_main_call0_v0, val_main_call0_cst, val_main_v13,
    val_main_v12, val_main_v11, val_main_v10, val_main_v9, val_main_v8, val_main_v7, val_main_v6, val_main_v5, val_main_cst_1,
    val_main_v4, val_main_v3, val_main_cst_0, val_main_v2, val_main_v1, val_main_cst, val_main_v0]

/-- The two programs, over the extended reals, from memories with equal arguments, end with equal results. -/
theorem equal_results [Cert.Kernel2Ideal.Facts] [Cert.Reference2Ideal.Facts] :
    Cert.algebraic_Kernel2Ideal_Reference2Ideal := by
  intro m g m' g' _ hargs
  refine ⟨fun c => result m c, ?_, ?_⟩
  · refine (θ_run _ _ _).mono (fun r h c => ?_) (Cert.Kernel2Ideal.Value.run_blocks m g)
    obtain ⟨h0, h1⟩ := h c
    exact ⟨h0.trans (final m c), h1⟩
  · refine (θ_run _ _ _).mono (fun r h c => ?_) (Cert.Reference2Ideal.Value.run m' g')
    obtain ⟨h0, h1⟩ := h c
    obtain ⟨a0, a1, a2, a3, a4⟩ := hargs c
    refine ⟨h0.trans ?_, h1⟩
    rw [val_main_v31_eq, a0, a1, a2, a3, a4]
    funext i
    obtain ⟨r, j, rfl⟩ : ∃ (r : Fin 8192) (j : Fin 2048), i = ix2 r j := ⟨i 0, i 1, funext fun a => by fin_cases a <;> rfl⟩
    exact reference_apply _ _ _ _ _ r j

end Cert.Kernel2Ideal.Mlp
-- ==== Proof.SwaTile.lean ====
/-
  The windowed attention's block, as one uniform term per head tile. Each of the 48 stores of the kernel's body is one
  and the same function of its coordinates: the batch entry `b`, the half `h` of the two-chunk block, the key/value head `j`
  and the pair `i` of query heads. Here that function is written once, and what a grid point leaves in its output block is
  shown to be it.
-/
module

public import proofs.«01_k».proof.Proof.Gen.KernelIdeal.Value
public import Idealize.ShloMosaic.Lib.Pipeline.ValueKit

@[expose] public section

set_option maxRecDepth 16384

noncomputable section

namespace Cert.KernelIdeal.Swa

open Cert.KernelIdeal Cert.KernelIdeal.Gen Idealize.ShloMosaic Idealize.ShloMosaic.TcCoe Idealize.SL.Sem

variable {F : FTy → Type} [FloatOps F] [Named F]

/-- The lanes below 64: the first head of a pair. -/
def low : IVec S64x128 1 :=
  cmpi .slt (iota .tc S64x128 32 [1] iota_S64x128_d1_w32) (broadcast S64x128 64#32)

/-- A pair of query heads, scaled by one eighth. -/
def scaled (q : Vec F S1x64x128 .f32) : FVec F S64x128 .f32 :=
  mulf (shapeCast S64x128 q shapeCasts_S1x64x128_S64x128) (broadcast S64x128 (Scalar.ofBits .f32 0x3E000000#32))

/-- The pair with its second head replaced by zeros. -/
def first (q : Vec F S1x64x128 .f32) : FVec F S64x128 .bf16 :=
  truncf .bf16 (select low (scaled q) (broadcast S64x128 (Scalar.ofBits .f32 0x00000000#32))) bitsLt_bf16_f32

/-- The pair with its first head replaced by zeros. -/
def second (q : Vec F S1x64x128 .f32) : FVec F S64x128 .bf16 :=
  truncf .bf16 (select low (broadcast S64x128 (Scalar.ofBits .f32 0x00000000#32)) (scaled q)) bitsLt_bf16_f32

/-- The six query heads of a group, stacked. -/
def heads (q0 q1 q2 : Vec F S1x64x128 .f32) : FVec F S384x128 .bf16 :=
  concatenate S384x128 0 [⟨S64x128, first q0⟩, ⟨S64x128, second q0⟩, ⟨S64x128, first q1⟩, ⟨S64x128, second q1⟩,
    ⟨S64x128, first q2⟩, ⟨S64x128, second q2⟩]
    concatenates_S64x128_S64x128_S64x128_S64x128_S64x128_S64x128_S384x128_d0

/-- One chunk of keys or values, as the matrix unit takes it. -/
def chunk (k : Vec F S1x64x128 .f32) : FVec F S64x128 .bf16 :=
  truncf .bf16 (shapeCast S64x128 k shapeCasts_S1x64x128_S64x128) bitsLt_bf16_f32

/-- Three chunks stacked: the band of keys or values a chunk of queries sees. -/
def band (k0 k1 k2 : Vec F S1x64x128 .f32) : FVec F S192x128 .bf16 :=
  concatenate S192x128 0 [⟨S64x128, chunk k0⟩, ⟨S64x128, chunk k1⟩, ⟨S64x128, chunk k2⟩]
    concatenates_S64x128_S64x128_S64x128_S192x128_d0

/-- The first band position that lies inside the sequence, for half `h` of the block at grid column `w`. -/
def start (w h : BitVec 32) : BitVec 32 :=
  Scalar.muli (Scalar.maxsi (Scalar.subi 2#32 (Scalar.addi (Scalar.muli 2#32 w) h)) 0#32) 64#32

/-- The masked scores. -/
def scores (w : BitVec 32) (x : FVec F S384x128 .bf16) (k : FVec F S192x128 .bf16) : FVec F S384x192 .f32 :=
  select (cmpi .sge (iota .tc S384x192 32 [1] iota_S384x192_d1_w32) (broadcast S384x192 w))
    (matmul dot_S384x128_S192x128_S384x192_1_1_0_0_n_n none x k (constant S384x192 .f32 0x00000000#32))
    (broadcast S384x192 (Named.named κ "mask" 0xF149F2CA#32))

/-- The row's sink logit, from its block. -/
def sinkOf (z : Vec F S1x384x1 .f32) : FVec F S384x1 .f32 := shapeCast S384x1 z shapeCasts_S1x384x1_S384x1

/-- The largest of a row's scores and its sink. -/
def rowMax (s : FVec F S384x192 .f32) (z : FVec F S384x1 .f32) : FVec F S384x1 .f32 :=
  maximumf (shapeCast S384x1 (multiReduction .maximumf [1] S384 s 0xFF800000#32 reduces_S384x192_S384 (.inl rfl) rfl)
    shapeCasts_S384_S384x1) z

/-- The exponentials of the shifted scores. -/
def weights (s : FVec F S384x192 .f32) (z : FVec F S384x1 .f32) : FVec F S384x192 .f32 :=
  exp (subf s (broadcastTo S384x192 (rowMax s z) broadcasts_S384x1_S384x192))

/-- One over the row's sum of weights with the sink's. -/
def inverse (s : FVec F S384x192 .f32) (z : FVec F S384x1 .f32) : FVec F S384x1 .f32 :=
  divf (broadcast S384x1 (Scalar.ofBits .f32 0x3F800000#32))
    (addf (shapeCast S384x1 (multiReduction .add [1] S384 (weights s z) 0x00000000#32 reduces_S384x192_S384 (.inl rfl) rfl)
      shapeCasts_S384_S384x1) (exp (subf z (rowMax s z))))

/-- The weighted values, normalized. -/
def attend (s : FVec F S384x192 .f32) (z : FVec F S384x1 .f32) (v : FVec F S192x128 .bf16) : FVec F S384x128 .f32 :=
  mulf (matmul dot_S384x192_S192x128_S384x128_1_0_0_1_n_n none (truncf .bf16 (weights s z) bitsLt_bf16_f32) v
    (constant S384x128 .f32 0x00000000#32)) (broadcastTo S384x128 (inverse s z) broadcasts_S384x1_S384x128)

theorem slices_first (i : Fin 3) : S384x128.Slices ![128 * i.val, 0] S64x128 := by
  revert i; decide
theorem slices_second (i : Fin 3) : S384x128.Slices ![128 * i.val + 64, 0] S64x128 := by
  revert i; decide

/-- Pair `i` of the group's six heads, put side by side again. -/
def pair (i : Fin 3) (o : FVec F S384x128 .f32) : FVec F S1x64x128 .bf16 :=
  shapeCast S1x64x128 (truncf .bf16 (select low (extractStridedSlice S64x128 ![128 * i.val, 0] o (slices_first i))
    (extractStridedSlice S64x128 ![128 * i.val + 64, 0] o (slices_second i))) bitsLt_bf16_f32) shapeCasts_S64x128_S1x64x128

theorem inb_q (b h : Fin 2) (n : Fin 12) :
    ∀ a, (![b.val, 64 * h.val, 128 * n.val] : Fin 3 → Nat) a + (![1, 64, 128] : Fin 3 → Nat) a ≤ S2x128x1536.size a := by
  revert b h n; decide
theorem inb_k (b h : Fin 2) (j : Fin 4) :
    ∀ a, (![b.val, 64 * h.val, 128 * j.val] : Fin 3 → Nat) a + (![1, 64, 128] : Fin 3 → Nat) a ≤ S2x128x512.size a := by
  revert b h j; decide
theorem inb_z (j : Fin 4) :
    ∀ a, (![j.val, 0, 0] : Fin 3 → Nat) a + (![1, 384, 1] : Fin 3 → Nat) a ≤ S4x384x1.size a := by
  revert j; decide

/-- The tile `(b, h, n)` of a query or output block. -/
def qRect (b h : Fin 2) (n : Fin 12) : Rect S2x128x1536 := Rect.unit ![b.val, 64 * h.val, 128 * n.val] ![1, 64, 128] (inb_q b h n)
/-- The tile `(b, h, j)` of a key or value block. -/
def kRect (b h : Fin 2) (j : Fin 4) : Rect S2x128x512 := Rect.unit ![b.val, 64 * h.val, 128 * j.val] ![1, 64, 128] (inb_k b h j)

/-- The query pair `n` of unit `(b, h)`. -/
def qTile (x : Vec F S2x128x1536 .f32) (b h : Fin 2) (n : Fin 12) : Vec F S1x64x128 .f32 := View.ld x (qRect b h n)
/-- The key (or value) tile of head `j` in row half `h`. -/
def kTile (x : Vec F S2x128x512 .f32) (b h : Fin 2) (j : Fin 4) : Vec F S1x64x128 .f32 := View.ld x (kRect b h j)
/-- The sinks of head `j`'s group. -/
def zTile (x : Vec F S4x384x1 .f32) (j : Fin 4) : Vec F S1x384x1 .f32 :=
  View.ld x (Rect.unit ![j.val, 0, 0] ![1, 384, 1] (inb_z j))

/-- The band of unit `(b, h)` at head `j`: half 0 sees the previous block and its own first chunk, half 1 the previous
    block's second chunk and both of its own. -/
def bandOf (prev same : Vec F S2x128x512 .f32) (b h : Fin 2) (j : Fin 4) : FVec F S192x128 .bf16 :=
  match h with
  | 0 => band (kTile prev b 0 j) (kTile prev b 1 j) (kTile same b 0 j)
  | 1 => band (kTile prev b 1 j) (kTile same b 0 j) (kTile same b 1 j)

/-- The number of pair `i` of group `j` among the twelve. -/
def pairNo (j : Fin 4) (i : Fin 3) : Fin 12 := ⟨3 * j.val + i.val, by omega⟩

/-- What the kernel stores at tile `(b, h, j, i)`. -/
def tile (w : BitVec 32) (x0 : Vec F S2x128x1536 .f32) (x1 x2 x3 x4 : Vec F S2x128x512 .f32) (x5 : Vec F S4x384x1 .f32)
    (b h : Fin 2) (j : Fin 4) (i : Fin 3) : FVec F S1x64x128 .bf16 :=
  pair i (attend (scores (start w (BitVec.ofNat 32 h.val))
      (heads (qTile x0 b h (pairNo j 0)) (qTile x0 b h (pairNo j 1)) (qTile x0 b h (pairNo j 2))) (bandOf x1 x2 b h j))
    (sinkOf (zTile x5 j)) (bandOf x3 x4 b h j))

/-- Store number `k`, counted from the last: its unit, head and pair. -/
def piece (w : BitVec 32) (x0 : Vec F S2x128x1536 .f32) (x1 x2 x3 x4 : Vec F S2x128x512 .f32) (x5 : Vec F S4x384x1 .f32)
    (k : Fin 48) : View.Piece (Elt F) S2x128x1536 .bf16 :=
  ⟨qRect ⟨(47 - k.val) / 24, by omega⟩ ⟨(47 - k.val) / 12 % 2, by omega⟩ ⟨(47 - k.val) % 12, by omega⟩,
    tile w x0 x1 x2 x3 x4 x5 ⟨(47 - k.val) / 24, by omega⟩ ⟨(47 - k.val) / 12 % 2, by omega⟩
      ⟨(47 - k.val) % 12 / 3, by omega⟩ ⟨(47 - k.val) % 3, by omega⟩⟩

/-- A grid point leaves in its output block the 48 tiles, one store each. -/
theorem out_eq (c : Dev nD) (i : grid0.Coords) (arg2 : Memref sig .tc .vmem S2x128x1536 .f32) (harg2 : arg2.IsWhole) (arg3 : Memref sig .tc .vmem S2x128x512 .f32) (harg3 : arg3.IsWhole) (arg4 : Memref sig .tc .vmem S2x128x512 .f32) (harg4 : arg4.IsWhole) (arg5 : Memref sig .tc .vmem S2x128x512 .f32) (harg5 : arg5.IsWhole) (arg6 : Memref sig .tc .vmem S2x128x512 .f32) (harg6 : arg6.IsWhole) (arg7 : Memref sig .tc .vmem S4x384x1 .f32) (harg7 : arg7.IsWhole) (arg8 : Memref sig .tc .vmem S2x128x1536 .bf16) (harg8 : arg8.IsWhole)
    (x0 : Vec Ideal S2x128x1536 .f32) (x1 : Vec Ideal S2x128x512 .f32) (x2 : Vec Ideal S2x128x512 .f32) (x3 : Vec Ideal S2x128x512 .f32) (x4 : Vec Ideal S2x128x512 .f32) (x5 : Vec Ideal S4x384x1 .f32) :
   out0_A_6 c i arg2 harg2 arg3 harg3 arg4 harg4 arg5 harg5 arg6 harg6 arg7 harg7 arg8 harg8 x0 x1 x2 x3 x4 x5 = View.canon (List.ofFn (piece (BitVec.ofNat 32 ↑(i 1)) x0 x1 x2 x3 x4 x5)) := by
  have e : (kernelRun0_A c i arg2 harg2 arg3 harg3 arg4 harg4 arg5 harg5 arg6 harg6 arg7 harg7 arg8 harg8 x0 x1 x2 x3 x4 x5).1
      = List.ofFn (piece (BitVec.ofNat 32 ↑(i 1)) (arg2.view.read (Elt Ideal) (harg2.unread x0)) (arg3.view.read (Elt Ideal) (harg3.unread x1))
        (arg4.view.read (Elt Ideal) (harg4.unread x2)) (arg5.view.read (Elt Ideal) (harg5.unread x3))
        (arg6.view.read (Elt Ideal) (harg6.unread x4)) (arg7.view.read (Elt Ideal) (harg7.unread x5))) := by
    sl_kernel_rfl
  rw [harg2.read_unread, harg3.read_unread, harg4.read_unread, harg5.read_unread, harg6.read_unread, harg7.read_unread] at e
  exact (View.read_writes_eq_canon _ _ _ (cover0_A_6 c i arg2 harg2 arg3 harg3 arg4 harg4 arg5 harg5 arg6 harg6 arg7 harg7 arg8 harg8 x0 x1 x2 x3 x4 x5)).trans (congrArg View.canon e)

end Cert.KernelIdeal.Swa
-- ==== Proof.SwaSoftmax.lean ====
/-
  The softmax with a sink on the extended reals: normalizing the weighted sum is weighting with the normalized weights,
  where the shift is real and no score is plus infinity.
-/
module

public import Idealize.ShloMosaic.Lib.Pointwise

@[expose] public section

noncomputable section

namespace Cert.Swa

open Idealize.ShloMosaic

/-- A nonnegative real factor moves into a finite sum. -/
theorem sum_mul_real {ι : Type} (s : Finset ι) (f : ι → EReal) (c : EReal) (h0 : 0 ≤ c) (ht : c ≠ ⊤) :
    (∑ i ∈ s, f i) * c = ∑ i ∈ s, f i * c := by
  classical
  induction s using Finset.induction_on with
  | empty => simp
  | insert a s ha ih => rw [Finset.sum_insert ha, Finset.sum_insert ha, EReal.right_distrib_of_nonneg_of_ne_top h0 ht, ih]

/-- A finite sum of reals is a real. -/
theorem sum_real {ι : Type} (s : Finset ι) (f : ι → EReal) (h : ∀ i ∈ s, ∃ r : ℝ, f i = r) : ∃ r : ℝ, ∑ i ∈ s, f i = r := by
  classical
  induction s using Finset.induction_on with
  | empty => exact ⟨0, by simp⟩
  | insert a s ha ih =>
    obtain ⟨p, hp⟩ := h a (Finset.mem_insert_self a s)
    obtain ⟨q, hq⟩ := ih fun i hi => h i (Finset.mem_insert_of_mem hi)
    exact ⟨p + q, by rw [Finset.sum_insert ha, hp, hq, EReal.coe_add]⟩

/-- The exponential of a score below plus infinity, shifted by a real, is a nonnegative real. -/
theorem exp_real (s : EReal) (hs : s ≠ ⊤) (m : ℝ) : ∃ r : ℝ, 0 ≤ r ∧ Ideal.exp (s - (m : EReal)) = r := by
  induction s with
  | bot => exact ⟨0, le_refl _, by rw [EReal.bot_sub]; simp⟩
  | top => exact absurd rfl hs
  | coe a => exact ⟨Real.exp (a - m), (Real.exp_pos _).le, by rw [← EReal.coe_sub]; rfl⟩

/-- A finite sum of nonnegative reals is one. -/
theorem sum_nonneg_real {ι : Type} (s : Finset ι) (f : ι → EReal) (h : ∀ i, ∃ r : ℝ, 0 ≤ r ∧ f i = r) :
    ∃ r : ℝ, 0 ≤ r ∧ ∑ i ∈ s, f i = r := by
  classical
  induction s using Finset.induction_on with
  | empty => exact ⟨0, le_refl _, by simp⟩
  | insert a s ha ih =>
    obtain ⟨p, hp0, hp⟩ := h a
    obtain ⟨q, hq0, hq⟩ := ih
    exact ⟨p + q, add_nonneg hp0 hq0, by rw [Finset.sum_insert ha, hp, hq, EReal.coe_add]⟩

/-- The sum weighted by exponentials and then divided equals the sum weighted by the divided exponentials; where a score is
    minus infinity the values may differ. -/
theorem softmax_eq {n : ℕ} (s v v' : Fin n → EReal) (z : ℝ) (m : ℝ) (hs : ∀ i, s i ≠ ⊤) (hv : ∀ i, s i = ⊥ ∨ v i = v' i) :
    (∑ i, Ideal.exp (s i - (m : EReal)) * v i) *
        Ideal.div 1 ((∑ i, Ideal.exp (s i - (m : EReal))) + Ideal.exp ((z : EReal) - (m : EReal)))
      = ∑ i, v' i * Ideal.div (Ideal.exp (s i - (m : EReal)))
          ((∑ i, Ideal.exp (s i - (m : EReal))) + Ideal.exp ((z : EReal) - (m : EReal))) := by
  obtain ⟨d, hd0, hd⟩ := sum_nonneg_real Finset.univ (fun i => Ideal.exp (s i - (m : EReal))) fun i => exp_real (s i) (hs i) m
  have he : Ideal.exp ((z : EReal) - (m : EReal)) = ((Real.exp (z - m) : ℝ) : EReal) := by rw [← EReal.coe_sub]; rfl
  rw [hd, he, ← EReal.coe_add]
  have hp : 0 < d + Real.exp (z - m) := add_pos_of_nonneg_of_pos hd0 (Real.exp_pos _)
  rw [Ideal.div_coe hp.ne', one_mul, sum_mul_real _ _ _ (by exact_mod_cast (one_div_pos.mpr hp).le) (EReal.coe_ne_top _)]
  refine Finset.sum_congr rfl fun i _ => ?_
  rw [Ideal.div_coe hp.ne']
  rcases hv i with h | h
  · rw [h, EReal.bot_sub, Ideal.exp_bot]; simp
  · rw [h, mul_comm (Ideal.exp _) (v' i), mul_assoc]

/-- The largest of finitely many scores below plus infinity and a real is a real. -/
theorem max_real {n : ℕ} (s : Fin n → EReal) (hs : ∀ i, s i ≠ ⊤) (z : ℝ) :
    ∃ m : ℝ, max (Finset.univ.fold max ⊥ s) (z : EReal) = m := by
  have h : Finset.univ.fold max ⊥ s < ⊤ := by
    rw [Finset.fold_max_lt]; exact ⟨bot_lt_top, fun i _ => lt_top_iff_ne_top.mpr (hs i)⟩
  induction hm : max (Finset.univ.fold max ⊥ s) (z : EReal) with
  | bot => exact absurd (hm ▸ le_max_right _ _ : (z : EReal) ≤ ⊥) (not_le.mpr (EReal.bot_lt_coe z))
  | top => exact absurd hm (max_lt h (EReal.coe_lt_top z)).ne
  | coe a => exact ⟨a, rfl⟩

/-- A number whose absolute value is below plus infinity is a real. -/
theorem real_of_abs_lt (x : EReal) (h : max x (-x) < ⊤) : ∃ r : ℝ, x = r := by
  induction x with
  | bot => simp at h
  | top => simp at h
  | coe a => exact ⟨a, rfl⟩

/-- The largest of the scores and the sink. -/
def largest {n : ℕ} (s : Fin n → EReal) (z : EReal) : EReal := max (Finset.univ.fold max ⊥ s) z

/-- The sum of the shifted scores' exponentials with the sink's. -/
def mass {n : ℕ} (s : Fin n → EReal) (z : EReal) : EReal :=
  (∑ i, Ideal.exp (s i - largest s z)) + Ideal.exp (z - largest s z)

/-- The weighted sum of the values, divided at the end. -/
def dividedAfter {n : ℕ} (s v : Fin n → EReal) (z : EReal) : EReal :=
  (∑ i, Ideal.exp (s i - largest s z) * v i) * Ideal.div 1 (mass s z)

/-- The sum of the values weighted by the divided exponentials. -/
def dividedBefore {n : ℕ} (s v : Fin n → EReal) (z : EReal) : EReal :=
  ∑ i, v i * Ideal.div (Ideal.exp (s i - largest s z)) (mass s z)

/-- The two agree where no score is plus infinity and the sink is real; values at masked positions play no part. -/
theorem divided_eq {n : ℕ} (s v v' : Fin n → EReal) (z : EReal) (hz : ∃ r : ℝ, z = r) (hs : ∀ i, s i ≠ ⊤)
    (hv : ∀ i, s i = ⊥ ∨ v i = v' i) : dividedAfter s v z = dividedBefore s v' z := by
  obtain ⟨r, rfl⟩ := hz
  obtain ⟨m, hm⟩ := max_real s hs r
  unfold dividedAfter dividedBefore mass largest
  rw [hm]
  exact softmax_eq s v v' r m hs hv

end Cert.Swa
-- ==== Proof.SwaValue.lean ====
/-
  The attention block at an index: each stored tile is the softmax with a sink over the band of its chunk. Then the whole
  output array: what the run leaves is `attention` of the arguments, where queries, keys and sinks are real numbers.
-/
module

public import proofs.«01_k».proof.Proof.SwaTile
public import proofs.«01_k».proof.Proof.SwaSoftmax
public import Idealize.ShloMosaic.Lib.Pointwise
public import Idealize.ShloMosaic.Lib.StableHlo.ReadAt

@[expose] public section

set_option maxRecDepth 16384

noncomputable section

namespace Cert.KernelIdeal.Swa

open Cert.KernelIdeal Cert.KernelIdeal.Gen Idealize.ShloMosaic Idealize.ShloMosaic.TcCoe Idealize.SL.Sem

/-- A query tile at an index. -/
theorem qTile_apply (x : Vec Ideal S2x128x1536 .f32) (b h : Fin 2) (n : Fin 12) (a : Fin 1) (p : Fin 64) (l : Fin 128) :
    qTile x b h n (ix3 a p l) = x (ix3 b ⟨64 * h.val + p.val, by omega⟩ ⟨128 * n.val + l.val, by omega⟩) := by
  pointwise [qTile, qRect]

/-- A key tile at an index. -/
theorem kTile_apply (x : Vec Ideal S2x128x512 .f32) (b h : Fin 2) (j : Fin 4) (a : Fin 1) (p : Fin 64) (l : Fin 128) :
    kTile x b h j (ix3 a p l) = x (ix3 b ⟨64 * h.val + p.val, by omega⟩ ⟨128 * j.val + l.val, by omega⟩) := by
  pointwise [kTile, kRect]

/-- A group's sink column at an index. -/
theorem sink_apply (x : Vec Ideal S4x384x1 .f32) (j : Fin 4) (r : Fin 384) (a : Fin 1) :
    sinkOf (zTile x j) (ix2 r a) = x (ix3 j r 0) := by
  pointwise [sinkOf, zTile]

/-- The lane test. -/
theorem low_lane : ∀ l : Fin 128, IntOp.cmpi CmpIPredicate.slt (BitVec.ofNat 32 l.val) 64#32 = if l.val < 64 then 1#1 else 0#1 := by
  decide +kernel

/-- The first head of a pair at an index. -/
theorem first_apply (q : Vec Ideal S1x64x128 .f32) (p : Fin 64) (l : Fin 128) :
    first q (ix2 p l) = if l.val < 64 then q (ix3 0 p l) * Ideal.ofBits FTy.f32 0x3E000000#32 else 0 := by
  pointwise [first, scaled, low]
  rw [low_lane]
  split <;> rfl

/-- The second head of a pair at an index. -/
theorem second_apply (q : Vec Ideal S1x64x128 .f32) (p : Fin 64) (l : Fin 128) :
    second q (ix2 p l) = if l.val < 64 then 0 else q (ix3 0 p l) * Ideal.ofBits FTy.f32 0x3E000000#32 := by
  pointwise [second, scaled, low]
  rw [low_lane]
  split <;> rfl

/-- The stacked heads at an index: head `g` is half of pair `g / 2`. -/
theorem heads_apply (x : Vec Ideal S2x128x1536 .f32) (b h : Fin 2) (j : Fin 4) (g : Fin 6) (p : Fin 64) (l : Fin 128) :
    heads (qTile x b h (pairNo j 0)) (qTile x b h (pairNo j 1)) (qTile x b h (pairNo j 2)) (ix2 ⟨64 * g.val + p.val, by omega⟩ l)
      = if l.val / 64 = g.val % 2 then
          x (ix3 b ⟨64 * h.val + p.val, by omega⟩ ⟨128 * (3 * j.val + g.val / 2) + l.val, by omega⟩) * Ideal.ofBits FTy.f32 0x3E000000#32
        else 0 := by
  have hl : l.val / 64 = if l.val < 64 then 0 else 1 := by split <;> omega
  pointwise [heads]
  simp only [first_apply, second_apply, qTile_apply, pairNo, Fin.val_zero, Fin.val_one, Fin.val_two]
  split_ifs <;> first
    | (exfalso; omega)
    | rfl
    | exact (if_neg (by omega)).symm
    | (refine Eq.trans ?_ (if_pos (by omega)).symm
       exact congrArg (fun i => x i * Ideal.ofBits FTy.f32 0x3E000000#32)
         (congrArg₂ (fun a e => ix3 b a e) (Fin.ext (by dsimp only; omega)) (Fin.ext (by dsimp only; omega))))

/-- A band at a position that lies inside the sequence: the row of the array that the two blocks are cut from. -/
theorem band_apply (prev same : Vec Ideal S2x128x512 .f32) (a : Fin 2 → Fin 4096 → Fin 512 → EReal) (w : Fin 32)
    (hp : ∀ (b : Fin 2) (r : Fin 128) (k : Fin 512), prev (ix3 b r k) = a b ⟨128 * (w.val - 1) + r.val, by omega⟩ k)
    (hs : ∀ (b : Fin 2) (r : Fin 128) (k : Fin 512), same (ix3 b r k) = a b ⟨128 * w.val + r.val, by omega⟩ k)
    (b h : Fin 2) (j : Fin 4) (s : Fin 192) (l : Fin 128) (hin : 128 ≤ 64 * (2 * w.val + h.val) + s.val) :
    bandOf prev same b h j (ix2 s l) = a b ⟨64 * (2 * w.val + h.val) + s.val - 128, by omega⟩ ⟨128 * j.val + l.val, by omega⟩ := by
  fin_cases h <;> pointwise [bandOf, band, chunk] <;> simp only [kTile_apply, hp, hs] <;>
  split_ifs <;> first | (exfalso; dsimp at hin; omega) | rfl | (exact congrArg (fun t => a b t ⟨128 * j.val + l.val, by omega⟩) (Fin.ext (by dsimp at hin ⊢; omega)))

/-- Where the band begins to lie inside the sequence. -/
theorem start_word : ∀ (w : Fin 32) (h : Fin 2), start (BitVec.ofNat 32 w.val) (BitVec.ofNat 32 h.val) = BitVec.ofNat 32 ((2 - (2 * w.val + h.val)) * 64) := by
  decide +kernel

/-- The mask's comparison. -/
theorem past_start : ∀ (n : Fin 3) (s : Fin 192), IntOp.cmpi CmpIPredicate.sge (BitVec.ofNat 32 s.val) (BitVec.ofNat 32 (n.val * 64))
    = if n.val * 64 ≤ s.val then 1#1 else 0#1 := by
  decide +kernel

/-- A sum over the 128 lanes that is zero off half `e` is the sum over that half. -/
theorem sum_half (f : Fin 128 → EReal) (e : ℕ) (he : e < 2) :
    (∑ l : Fin 128, if l.val / 64 = e then f l else 0) = ∑ d : Fin 64, f ⟨64 * e + d.val, by omega⟩ := by
  rw [show (∑ l : Fin 128, if l.val / 64 = e then f l else 0)
    = ∑ l : Fin (64 + 64), if l.val / 64 = e then f l else 0 from rfl, Fin.sum_univ_add]
  have h0 : ∀ d : Fin 64, (Fin.castAdd 64 d).val / 64 = 0 := fun d => by simp [Nat.div_eq_of_lt d.isLt]
  have h1 : ∀ d : Fin 64, (Fin.natAdd 64 d).val / 64 = 1 := fun d => by simp only [Fin.val_natAdd]; omega
  simp only [h0, h1]
  rcases (show e = 0 ∨ e = 1 by omega) with rfl | rfl
  · simp only [if_true, one_ne_zero, if_false, Finset.sum_const_zero, add_zero]
    exact Finset.sum_congr rfl fun d _ => congrArg f (Fin.ext (by simp))
  · simp only [if_true, zero_ne_one, if_false, Finset.sum_const_zero, zero_add]
    exact Finset.sum_congr rfl fun d _ => congrArg f (Fin.ext (by simp only [Fin.val_natAdd, mul_one]))

/-- The score of query `q` of chunk `c`, head `g` of group `j`, at band position `s`: minus infinity before the sequence begins. -/
def score (a : FVec Ideal S2x4096x2048 .f32) (kv : FVec Ideal S2x4096x512 .f32) (b : Fin 2) (c : Fin 64) (j : Fin 4) (g : Fin 6)
    (q : Fin 64) (s : Fin 192) : EReal :=
  if 128 ≤ c.val * 64 + s.val then
    (∑ d : Fin 64, kv (ix3 b ⟨c.val * 64 + s.val - 128, by omega⟩ ⟨j.val * 64 + d.val, by omega⟩)
      * a (ix3 b ⟨c.val * 64 + q.val, by omega⟩ ⟨j.val * 384 + g.val * 64 + d.val, by omega⟩)) * Ideal.ofBits FTy.f32 0x3E000000#32
  else ⊥

/-- The scale's constant is the real one eighth. -/
theorem eighth : Ideal.ofBits .f32 0x3E000000#32 = (((1 : ℝ) / 8 : ℝ) : EReal) := by
  simp [Ideal.ofBits, Ideal.ieee, -EReal.coe_mul]; norm_num
theorem eighth_nonneg : 0 ≤ Ideal.ofBits .f32 0x3E000000#32 := by
  rw [eighth]; exact EReal.coe_nonneg.mpr (by norm_num)
theorem eighth_ne_top : Ideal.ofBits .f32 0x3E000000#32 ≠ ⊤ := by
  rw [eighth]; exact EReal.coe_ne_top _
/-- The maximum's initial constant is minus infinity. -/
theorem neg_inf : Ideal.ofBits .f32 0xFF800000#32 = ⊥ := by
  simp [Ideal.ofBits, Ideal.ieee]

theorem select_word_one {α : Type} (x y : α) : Scalar.select 1#1 x y = x := rfl

/-- Chunk `h` of block `w`. -/
def chunkNo (w : Fin 32) (h : Fin 2) : Fin 64 := ⟨2 * w.val + h.val, by omega⟩

/-- The keys as the kernel's array holds them: each head's columns twice. -/
def keys (kv : FVec Ideal S2x4096x512 .f32) (b : Fin 2) (t : Fin 4096) (k : Fin 512) : EReal :=
  kv (ix3 b t ⟨k.val / 128 * 64 + k.val % 64, by omega⟩)

/-- The values as the kernel's array holds them. -/
def vals (kv : FVec Ideal S2x4096x512 .f32) (b : Fin 2) (t : Fin 4096) (k : Fin 512) : EReal :=
  kv (ix3 b t ⟨256 + (k.val / 128 * 64 + k.val % 64), by omega⟩)

section tile

variable (a : FVec Ideal S2x4096x2048 .f32) (kv : FVec Ideal S2x4096x512 .f32) (sk : FVec Ideal S24 .f32) (w : Fin 32)
  (x0 : Vec Ideal S2x128x1536 .f32) (x1 x2 x3 x4 : Vec Ideal S2x128x512 .f32) (x5 : Vec Ideal S4x384x1 .f32)
  (h0 : ∀ (b : Fin 2) (r : Fin 128) (n : Fin 1536), x0 (ix3 b r n) = a (ix3 b ⟨128 * w.val + r.val, by omega⟩ ⟨n.val, by omega⟩))
  (h1 : ∀ (b : Fin 2) (r : Fin 128) (k : Fin 512), x1 (ix3 b r k) = keys kv b ⟨128 * (w.val - 1) + r.val, by omega⟩ k)
  (h2 : ∀ (b : Fin 2) (r : Fin 128) (k : Fin 512), x2 (ix3 b r k) = keys kv b ⟨128 * w.val + r.val, by omega⟩ k)
  (h3 : ∀ (b : Fin 2) (r : Fin 128) (k : Fin 512), x3 (ix3 b r k) = vals kv b ⟨128 * (w.val - 1) + r.val, by omega⟩ k)
  (h4 : ∀ (b : Fin 2) (r : Fin 128) (k : Fin 512), x4 (ix3 b r k) = vals kv b ⟨128 * w.val + r.val, by omega⟩ k)
  (h5 : ∀ (j : Fin 4) (r : Fin 384), x5 (ix3 j r 0) = sk (ix1 ⟨j.val * 6 + r.val / 64, by omega⟩))

include h0 h1 h2 in
/-- The kernel's masked score is `score`. -/
theorem scores_apply (b h : Fin 2) (j : Fin 4) (g : Fin 6) (p : Fin 64) (s : Fin 192) :
    scores (start (BitVec.ofNat 32 w.val) (BitVec.ofNat 32 h.val))
        (heads (qTile x0 b h (pairNo j 0)) (qTile x0 b h (pairNo j 1)) (qTile x0 b h (pairNo j 2))) (bandOf x1 x2 b h j)
        (ix2 ⟨64 * g.val + p.val, by omega⟩ s)
      = score a kv b (chunkNo w h) j g p s := by
  pointwise [scores]
  rw [start_word, past_start ⟨2 - (2 * w.val + h.val), by omega⟩ s]
  unfold score
  by_cases hin : 128 ≤ (chunkNo w h).val * 64 + s.val
  · rw [if_pos hin, if_pos (by dsimp only [chunkNo] at hin ⊢; omega)]
    simp only [heads_apply, ite_mul, zero_mul]
    rw [select_word_one]
    refine Eq.trans (sum_half _ _ (Nat.mod_lt _ (by decide))) ?_
    refine Eq.trans (Finset.sum_congr rfl fun d _ => ?_) (Cert.Swa.sum_mul_real _ _ _ eighth_nonneg eighth_ne_top).symm
    rw [band_apply x1 x2 (keys kv) w h1 h2 b h j s _ (by dsimp only [chunkNo] at hin; omega), h0, mul_right_comm, mul_comm (a _) _]
    unfold keys
    refine congrArg₂ (fun u v => kv u * a v * Ideal.ofBits .f32 0x3E000000#32)
      (congrArg₂ (fun u v => ix3 b u v) (Fin.ext ?_) (Fin.ext ?_)) (congrArg₂ (fun u v => ix3 b u v) (Fin.ext ?_) (Fin.ext ?_)) <;>
      dsimp only [chunkNo] <;> omega
  · rw [if_neg hin, if_neg (by dsimp only [chunkNo] at hin ⊢; omega)]
    exact IdealRules.named_const.ideal_named_scalar _ _ _ _ rfl

/-- The attended values at an index. -/
theorem attend_apply (s : FVec Ideal S384x192 .f32) (z : FVec Ideal S384x1 .f32) (v : FVec Ideal S192x128 .bf16) (r : Fin 384) (l : Fin 128) :
    attend s z v (ix2 r l) = Cert.Swa.dividedAfter (fun k => s (ix2 r k)) (fun k => v (ix2 k l)) (z (ix2 r 0)) := by
  unfold Cert.Swa.dividedAfter Cert.Swa.mass Cert.Swa.largest
  rw [← neg_inf]
  pointwise [attend, inverse, weights, rowMax]

/-- The head of lane `l` of pair `i`. -/
def headNo (i : Fin 3) (l : Fin 128) : Fin 6 := ⟨2 * i.val + l.val / 64, by omega⟩

/-- A pair of heads at an index. -/
theorem pair_apply (i : Fin 3) (o : FVec Ideal S384x128 .f32) (e : Fin 1) (p : Fin 64) (l : Fin 128) :
    pair i o (ix3 e p l) = o (ix2 ⟨64 * (headNo i l).val + p.val, by omega⟩ l) := by
  pointwise [pair, low]
  rw [low_lane]
  by_cases hl : l.val < 64
  · rw [if_pos hl]
    refine Eq.trans rfl (congrArg o (congrArg (fun a => ix2 a l) (Fin.ext ?_)))
    dsimp only [headNo]; omega
  · rw [if_neg hl]
    refine Eq.trans rfl (congrArg o (congrArg (fun a => ix2 a l) (Fin.ext ?_)))
    dsimp only [headNo]; omega

include h0 h1 h2 h3 h4 h5 in
/-- A stored tile at an index: the softmax with a sink over the band, whatever stands at the masked positions. -/
theorem tile_apply (b h : Fin 2) (j : Fin 4) (i : Fin 3) (e : Fin 1) (p : Fin 64) (l : Fin 128) :
    ∃ v : Fin 192 → EReal,
      (∀ (s : Fin 192) (hin : 128 ≤ (chunkNo w h).val * 64 + s.val),
        v s = kv (ix3 b ⟨(chunkNo w h).val * 64 + s.val - 128, by omega⟩ ⟨256 + (j.val * 64 + l.val % 64), by omega⟩))
      ∧ tile (BitVec.ofNat 32 w.val) x0 x1 x2 x3 x4 x5 b h j i (ix3 e p l)
        = Cert.Swa.dividedAfter (score a kv b (chunkNo w h) j (headNo i l) p) v (sk (ix1 ⟨j.val * 6 + (headNo i l).val, by omega⟩)) := by
  refine ⟨fun s => bandOf x3 x4 b h j (ix2 s l), fun s hin => ?_, ?_⟩
  · show bandOf x3 x4 b h j (ix2 s l) = _
    rw [band_apply x3 x4 (vals kv) w h3 h4 b h j s _ (by dsimp only [chunkNo] at hin; omega)]
    unfold vals
    refine congrArg kv (congrArg₂ (fun a e => ix3 b a e) (Fin.ext ?_) (Fin.ext ?_)) <;> dsimp only [chunkNo] <;> omega
  · unfold tile
    rw [pair_apply, attend_apply, sink_apply, h5]
    simp only [scores_apply a kv w x0 x1 x2 h0 h1 h2]
    refine congrArg _ (congrArg (fun a => sk (ix1 a)) (Fin.ext ?_))
    dsimp only; omega

end tile

/-- Query `q` of chunk `c`, head `g` of group `j`, lane `d`: the values of the chunk's band weighted by the softmax with a sink. -/
def attention (a : FVec Ideal S2x4096x2048 .f32) (kv : FVec Ideal S2x4096x512 .f32) (sk : FVec Ideal S24 .f32) (b : Fin 2) (c : Fin 64)
    (j : Fin 4) (g : Fin 6) (q : Fin 64) (d : Fin 64) : EReal :=
  Cert.Swa.dividedBefore (score a kv b c j g q)
    (fun s => kv (ix3 b ⟨c.val * 64 + s.val - 128, by omega⟩ ⟨256 + (j.val * 64 + d.val), by omega⟩))
    (sk (ix1 ⟨j.val * 6 + g.val, by omega⟩))

/-- Every query, key and sink is a real number. -/
structure Finite (a : FVec Ideal S2x4096x2048 .f32) (kv : FVec Ideal S2x4096x512 .f32) (sk : FVec Ideal S24 .f32) : Prop where
  query : ∀ (b : Fin 2) (t : Fin 4096) (n : Fin 2048), n.val < 1536 → ∃ r : ℝ, a (ix3 b t n) = r
  key : ∀ (b : Fin 2) (t : Fin 4096) (n : Fin 512), n.val < 256 → ∃ r : ℝ, kv (ix3 b t n) = r
  sink : ∀ n : Fin 24, ∃ r : ℝ, sk (ix1 n) = r

/-- No score is plus infinity. -/
theorem score_ne_top {a : FVec Ideal S2x4096x2048 .f32} {kv : FVec Ideal S2x4096x512 .f32} {sk : FVec Ideal S24 .f32}
    (hf : Finite a kv sk) (b : Fin 2) (c : Fin 64) (j : Fin 4) (g : Fin 6) (q : Fin 64) (s : Fin 192) : score a kv b c j g q s ≠ ⊤ := by
  unfold score
  split
  · obtain ⟨r, hr⟩ := Cert.Swa.sum_real Finset.univ
      (fun d : Fin 64 => kv (ix3 b ⟨c.val * 64 + s.val - 128, by omega⟩ ⟨j.val * 64 + d.val, by omega⟩)
        * a (ix3 b ⟨c.val * 64 + q.val, by omega⟩ ⟨j.val * 384 + g.val * 64 + d.val, by omega⟩)) fun d _ => by
        obtain ⟨x, hx⟩ := hf.key b ⟨c.val * 64 + s.val - 128, by omega⟩ ⟨j.val * 64 + d.val, by omega⟩ (by dsimp only; omega)
        obtain ⟨y, hy⟩ := hf.query b ⟨c.val * 64 + q.val, by omega⟩ ⟨j.val * 384 + g.val * 64 + d.val, by omega⟩ (by dsimp only; omega)
        exact ⟨x * y, by rw [hx, hy, EReal.coe_mul]⟩
    rw [hr, eighth, ← EReal.coe_mul]
    exact EReal.coe_ne_top _
  · exact bot_ne_top

/-- Values that agree with the sequence's inside the band give `attention`, divided after the sum or before it. -/
theorem attention_eq {a : FVec Ideal S2x4096x2048 .f32} {kv : FVec Ideal S2x4096x512 .f32} {sk : FVec Ideal S24 .f32}
    (hf : Finite a kv sk) (b : Fin 2) (c : Fin 64) (j : Fin 4) (g : Fin 6) (q : Fin 64) (d : Fin 64) (v : Fin 192 → EReal)
    (hv : ∀ (s : Fin 192) (_ : 128 ≤ c.val * 64 + s.val),
      v s = kv (ix3 b ⟨c.val * 64 + s.val - 128, by omega⟩ ⟨256 + (j.val * 64 + d.val), by omega⟩)) :
    Cert.Swa.dividedAfter (score a kv b c j g q) v (sk (ix1 ⟨j.val * 6 + g.val, by omega⟩)) = attention a kv sk b c j g q d
    ∧ Cert.Swa.dividedBefore (score a kv b c j g q) v (sk (ix1 ⟨j.val * 6 + g.val, by omega⟩)) = attention a kv sk b c j g q d := by
  have h : Cert.Swa.dividedAfter (score a kv b c j g q) v (sk (ix1 ⟨j.val * 6 + g.val, by omega⟩)) = attention a kv sk b c j g q d :=
    Cert.Swa.divided_eq _ _ _ _ (hf.sink _) (score_ne_top hf b c j g q) fun s => by
      by_cases hin : 128 ≤ c.val * 64 + s.val
      · exact .inr (hv s hin)
      · exact .inl (if_neg hin)
  exact ⟨h, (Cert.Swa.divided_eq _ v v _ (hf.sink _) (score_ne_top hf b c j g q) fun s => .inr rfl).symm.trans h⟩

variable (m : (ℓ : Loc nD τ sig) → Buf (Elt Ideal) ℓ) (c : Dev nD)

/-- The projected rows, the keys and values, the sinks. -/
def argA : FVec Ideal S2x4096x2048 .f32 := m ((c : Thread nD τ).loc main_arg0)
def argKV : FVec Ideal S2x4096x512 .f32 := m ((c : Thread nD τ).loc main_arg1)
def argS : FVec Ideal S24 .f32 := m ((c : Thread nD τ).loc main_arg2)

theorem entryA (b : Fin 2) (t : Fin 4096) (n : Fin 2048) : (V m c main_arg0 : FVec Ideal S2x4096x2048 .f32) (ix3 b t n) = argA m c (ix3 b t n) := by
  unfold V argA
  after_reads_at
theorem entryKV (b : Fin 2) (t : Fin 4096) (k : Fin 1024) :
    (V m c main_v8 : FVec Ideal S2x4096x1024 .f32) (ix3 b t k)
      = if h : k.val < 512 then keys (argKV m c) b t ⟨k.val, h⟩ else vals (argKV m c) b t ⟨k.val - 512, by omega⟩ := by
  unfold V argKV keys vals
  after_reads_at
theorem entryS (j : Fin 4) (r : Fin 384) : (V m c main_v12 : FVec Ideal S4x384x1 .f32) (ix3 j r 0) = argS m c (ix1 ⟨j.val * 6 + r.val / 64, by omega⟩) := by
  unfold V argS
  after_reads_at

theorem index_maps : ∀ t : Fin grid0.N, win0_0.index t = ![0, t.val, 0] ∧ win0_1.index t = ![0, t.val - 1, 0]
    ∧ win0_2.index t = ![0, t.val, 0] ∧ win0_3.index t = ![0, t.val - 1, 1] ∧ win0_4.index t = ![0, t.val, 1]
    ∧ win0_5.index t = ![0, 0, 0] ∧ win0_6.index t = ![0, t.val, 0] := by
  decide +kernel

theorem point_lt (t : Fin cfg0.N) : t.val < 32 := lt_of_lt_of_eq t.isLt N_0

/-- The grid point as a block number. -/
def blockNo (t : Fin cfg0.N) : Fin 32 := ⟨t.val, point_lt t⟩

theorem winA (t : Fin cfg0.N) (b : Fin 2) (r : Fin 128) (n : Fin 1536) :
    (X0_0 m c t : FVec Ideal S2x128x1536 .f32) (ix3 b r n)
      = argA m c (ix3 b ⟨128 * (blockNo t).val + r.val, by omega⟩ ⟨n.val, by omega⟩) := by
  rw [← entryA]
  unfold X0_0 Pipeline.Window.fill
  rw [dif_pos (moved0_0 t _)]
  blk_ext [iblk, (index_maps t).1]
  show _ = 128 * t.val + r.val; omega
theorem win1 (t : Fin cfg0.N) (b : Fin 2) (r : Fin 128) (k : Fin 512) :
    (iblk m c 1 t : FVec Ideal S2x128x512 .f32) (ix3 b r k) = keys (argKV m c) b ⟨128 * ((blockNo t).val - 1) + r.val, by omega⟩ k := by
  refine Eq.trans ?_ ((entryKV m c b ⟨128 * ((blockNo t).val - 1) + r.val, by omega⟩ ⟨k.val, by omega⟩).trans (dif_pos k.isLt))
  blk_ext [iblk, (index_maps t).2.1]
  show _ = 128 * (t.val - 1) + r.val; omega
theorem win2 (t : Fin cfg0.N) (b : Fin 2) (r : Fin 128) (k : Fin 512) :
    (iblk m c 2 t : FVec Ideal S2x128x512 .f32) (ix3 b r k) = keys (argKV m c) b ⟨128 * (blockNo t).val + r.val, by omega⟩ k := by
  refine Eq.trans ?_ ((entryKV m c b ⟨128 * (blockNo t).val + r.val, by omega⟩ ⟨k.val, by omega⟩).trans (dif_pos k.isLt))
  blk_ext [iblk, (index_maps t).2.2.1]
  show _ = 128 * t.val + r.val; omega
theorem win3 (t : Fin cfg0.N) (b : Fin 2) (r : Fin 128) (k : Fin 512) :
    (iblk m c 3 t : FVec Ideal S2x128x512 .f32) (ix3 b r k) = vals (argKV m c) b ⟨128 * ((blockNo t).val - 1) + r.val, by omega⟩ k := by
  refine Eq.trans ?_ ((entryKV m c b ⟨128 * ((blockNo t).val - 1) + r.val, by omega⟩ ⟨512 + k.val, by omega⟩).trans
    ((dif_neg (by dsimp only; omega)).trans (congrArg (vals _ b _) (Fin.ext (Nat.add_sub_cancel_left 512 k.val)))))
  blk_ext [iblk, (index_maps t).2.2.2.1]
  show _ = 128 * (t.val - 1) + r.val; omega
theorem win4 (t : Fin cfg0.N) (b : Fin 2) (r : Fin 128) (k : Fin 512) :
    (iblk m c 4 t : FVec Ideal S2x128x512 .f32) (ix3 b r k) = vals (argKV m c) b ⟨128 * (blockNo t).val + r.val, by omega⟩ k := by
  refine Eq.trans ?_ ((entryKV m c b ⟨128 * (blockNo t).val + r.val, by omega⟩ ⟨512 + k.val, by omega⟩).trans
    ((dif_neg (by dsimp only; omega)).trans (congrArg (vals _ b _) (Fin.ext (Nat.add_sub_cancel_left 512 k.val)))))
  blk_ext [iblk, (index_maps t).2.2.2.2.1]
  show _ = 128 * t.val + r.val; omega
theorem winS (t : Fin cfg0.N) (j : Fin 4) (r : Fin 384) :
    (iblk m c 5 t : FVec Ideal S4x384x1 .f32) (ix3 j r 0) = argS m c (ix1 ⟨j.val * 6 + r.val / 64, by omega⟩) := by
  rw [← entryS]
  blk_ext [iblk, (index_maps t).2.2.2.2.2.1]

/-- The array the run leaves. -/
def result : FVec Ideal S2x4096x1536 .bf16 := fun i =>
  attention (argA m c) (argKV m c) (argS m c) (i 0) ⟨(i 1).val / 64, by have h : (i 1).val < 4096 := (i 1).isLt; omega⟩
    ⟨(i 2).val / 384, by have h : (i 2).val < 1536 := (i 2).isLt; omega⟩ ⟨(i 2).val / 64 % 6, by omega⟩
    ⟨(i 1).val % 64, by omega⟩ ⟨(i 2).val % 64, by omega⟩

variable (hf : Finite (argA m c) (argKV m c) (argS m c))

omit hf in
/-- The indices of a tile. -/
theorem mem_qRect (b' h' : Fin 2) (n' : Fin 12) (b : Fin 2) (r : Fin 128) (n : Fin 1536) (h0 : b.val = b'.val) (h1 : r.val / 64 = h'.val)
    (h2 : n.val / 128 = n'.val) : (ix3 b r n : S2x128x1536.Idx) ∈ (qRect b' h' n').set := by
  unfold qRect
  refine Rect.mem_set_unit.mpr fun a => ?_
  fin_cases a
  · show b'.val ≤ b.val ∧ b.val < b'.val + 1
    omega
  · show 64 * h'.val ≤ r.val ∧ r.val < 64 * h'.val + 64
    omega
  · show 128 * n'.val ≤ n.val ∧ n.val < 128 * n'.val + 128
    omega

omit hf in
/-- An index of the block has the value that the tile holding it has there. -/
theorem tiles_value (w : BitVec 32) (x0 : Vec Ideal S2x128x1536 .f32) (x1 x2 x3 x4 : Vec Ideal S2x128x512 .f32) (x5 : Vec Ideal S4x384x1 .f32)
    (b : Fin 2) (r : Fin 128) (n : Fin 1536) (v : EReal)
    (h : ∀ (b' h' : Fin 2) (j : Fin 4) (i : Fin 3) (e : Fin 1) (p : Fin 64) (l : Fin 128), b.val = b'.val → r.val = 64 * h'.val + p.val →
      n.val = 128 * (3 * j.val + i.val) + l.val → tile w x0 x1 x2 x3 x4 x5 b' h' j i (ix3 e p l) = v) :
    View.canon (List.ofFn (piece w x0 x1 x2 x3 x4 x5)) (ix3 b r n) = v := by
  refine View.canon_eq_of_allAt (Val := Elt Ideal) (e := .bf16) _ (ix3 b r n) v ?_ ?_
  · refine ⟨_, (List.mem_ofFn).mpr ⟨⟨47 - (24 * b.val + 12 * (r.val / 64) + n.val / 128), by omega⟩, rfl⟩, ?_⟩
    refine mem_qRect _ _ _ _ _ _ ?_ ?_ ?_ <;> dsimp only <;> omega
  · intro p hp
    obtain ⟨k, rfl⟩ := (List.mem_ofFn).mp hp
    intro x hx
    obtain ⟨e, q, l, rfl⟩ : ∃ (e : Fin 1) (q : Fin 64) (l : Fin 128), x = ix3 e q l := ⟨x 0, x 1, x 2, funext fun a => by fin_cases a <;> rfl⟩
    have e0 : (47 - k.val) / 24 + 1 * e.val = b.val := congrArg (fun i => (i 0).val) hx
    have e1 : 64 * ((47 - k.val) / 12 % 2) + 1 * q.val = r.val := congrArg (fun i => (i 1).val) hx
    have e2 : 128 * ((47 - k.val) % 12) + 1 * l.val = n.val := congrArg (fun i => (i 2).val) hx
    exact h ⟨(47 - k.val) / 24, by omega⟩ ⟨(47 - k.val) / 12 % 2, by omega⟩ ⟨(47 - k.val) % 12 / 3, by omega⟩ ⟨(47 - k.val) % 3, by omega⟩ e q l
      (by dsimp only; omega) (by dsimp only; omega) (by dsimp only; omega)

include hf in
/-- What a grid point leaves in its output block. -/
theorem block_value (t : Fin cfg0.N) (b : Fin 2) (r : Fin 128) (n : Fin 1536) :
    (outsAt0 m c t : FVec Ideal S2x128x1536 .bf16) (ix3 b r n)
      = attention (argA m c) (argKV m c) (argS m c) b ⟨2 * t.val + r.val / 64, by have := point_lt t; omega⟩
          ⟨n.val / 384, by omega⟩ ⟨n.val / 64 % 6, by omega⟩ ⟨r.val % 64, by omega⟩ ⟨n.val % 64, by omega⟩ := by
  unfold outsAt0
  rw [out_eq]
  have hw : (grid0.coords t 1 : Nat) = (blockNo t).val := (by decide +kernel : ∀ t : Fin grid0.N, (grid0.coords t 1 : Nat) = t.val) t
  rw [hw]
  refine tiles_value _ _ _ _ _ _ _ b r n _ fun b' h j i e p l hb hr hn => ?_
  obtain ⟨v, hv, ht⟩ := tile_apply (argA m c) (argKV m c) (argS m c) (blockNo t) _ _ _ _ _ _ (winA m c t) (win1 m c t) (win2 m c t) (win3 m c t)
    (win4 m c t) (winS m c t) b' h j i e p l
  refine ht.trans ((attention_eq hf _ _ _ _ _ ⟨l.val % 64, by omega⟩ v hv).1.trans ?_)
  congr 1 <;> refine Fin.ext ?_ <;> try dsimp only [chunkNo, headNo, blockNo]
  all_goals omega

include hf in
theorem final : (dats m 0 c).arrAt 6 cfg0.N = result m c := by
  refine (dats m 0 c).arrAt_eq_of_covers 6 _ (by decide +kernel) fun t hf' y => ?_
  blk_simp
  rw [after0_6]
  obtain ⟨b, r, n, rfl⟩ : ∃ (b : Fin 2) (r : Fin 128) (n : Fin 1536), y = ix3 b r n :=
    ⟨y 0, y 1, y 2, funext fun a => by fin_cases a <;> rfl⟩
  rw [block_value m c hf t]
  unfold result
  blk_simp [(index_maps t).2.2.2.2.2.2]
  congr 1 <;> refine Fin.ext ?_
  · blk_simp [(index_maps t).2.2.2.2.2.2]
  all_goals (dsimp only; omega)

end Cert.KernelIdeal.Swa
-- ==== Proof.SwaRef.lean ====
/-
  The attention's reference at an index is `attention` of its arguments.
-/
module

public import proofs.«01_k».proof.Proof.SwaValue
public import proofs.«01_k».proof.Proof.Gen.ReferenceIdeal.Read

@[expose] public section

set_option maxRecDepth 16384

noncomputable section

namespace Cert.KernelIdeal.SwaRef

open Idealize.ShloMosaic Idealize.ShloMosaic.TcCoe Idealize.SL.Sem
open Cert.ReferenceIdeal Cert.ReferenceIdeal.Read Cert.KernelIdeal.Swa

variable (x0 : FVec Ideal S2x4096x2048 .f32) (x1 : FVec Ideal S2x4096x512 .f32) (x2 : FVec Ideal S24 .f32)

/-- A band of keys, inside the sequence. -/
theorem band_k (b : Fin 2) (c : Fin 64) (s : Fin 192) (j : Fin 4) (d : Fin 64) (hin : 128 ≤ c.val * 64 + s.val) :
    val_main_v11 (F := Ideal) x1 (ix5 b c s j d) = x1 (ix3 b ⟨c.val * 64 + s.val - 128, by omega⟩ ⟨j.val * 64 + d.val, by omega⟩) := by
  pointwise [val_main_v11, Cert.ReferenceIdeal.Value.fn_main_v11, val_main_v10, val_main_v9, val_main_v8, val_main_v7, val_main_v6, val_main_call0_v0, val_main_c, val_main_v1, val_main_v0]
  split_ifs <;> first
    | (exfalso; omega)
    | rfl
    | exact congrArg (fun t => x1 (ix3 b t ⟨j.val * 64 + d.val, by omega⟩)) (Fin.ext (by dsimp only; omega))

/-- A band of values, inside the sequence. -/
theorem band_v (b : Fin 2) (c : Fin 64) (s : Fin 192) (j : Fin 4) (d : Fin 64) (hin : 128 ≤ c.val * 64 + s.val) :
    val_main_v17 (F := Ideal) x1 (ix5 b c s j d) = x1 (ix3 b ⟨c.val * 64 + s.val - 128, by omega⟩ ⟨256 + (j.val * 64 + d.val), by omega⟩) := by
  pointwise [val_main_v17, Cert.ReferenceIdeal.Value.fn_main_v17, val_main_v16, val_main_v15, val_main_v14, val_main_v13, val_main_v12, val_main_call1_v0, val_main_c_0, val_main_v3, val_main_v2]
  split_ifs <;> first
    | (exfalso; omega)
    | rfl
    | exact congrArg (fun t => x1 (ix3 b t ⟨256 + (j.val * 64 + d.val), by omega⟩)) (Fin.ext (by dsimp only; omega))

/-- The chunk number of a band position. -/
theorem floor_word : ∀ s : Fin 192, Scalar.select
          (IntOp.andi
            (IntOp.cmpi CmpIPredicate.ne
              (if BitVec.ofNat 32 s.val = 0 then 0 else if (BitVec.ofNat 32 s.val).msb = true then -1 else 1)
              (if (64#32 : BitVec 32) = 0 then (0 : BitVec 32) else if BitVec.msb 64#32 = true then -1 else 1))
            (IntOp.cmpi CmpIPredicate.ne (IntOp.remsi ArithUnit.host (BitVec.ofNat 32 s.val) 64#32) 0#32))
          (IntOp.subi (IntOp.divsi ArithUnit.host (BitVec.ofNat 32 s.val) 64#32) 1#32)
          (IntOp.divsi ArithUnit.host (BitVec.ofNat 32 s.val) 64#32) = BitVec.ofNat 32 (s.val / 64) := by
  decide +kernel

/-- The mask's comparison. -/
theorem mask_word : ∀ (c : Fin 64) (n : Fin 3), IntOp.cmpi CmpIPredicate.sge
    (IntOp.addi (IntOp.subi (BitVec.ofNat 32 c.val) 2#32) (BitVec.ofNat 32 n.val)) 0#32 = if 2 ≤ c.val + n.val then 1#1 else 0#1 := by
  decide +kernel

/-- The mask: a band position counts where it lies inside the sequence. -/
theorem mask (c : Fin 64) (s : Fin 192) : val_main_v33 (F := Ideal) (ix2 c s) = if 128 ≤ c.val * 64 + s.val then 1#1 else 0#1 := by
  pointwise [val_main_v33, val_main_v32, val_main_c_3, val_main_v31, val_main_v30, val_main_v29, val_main_v28, val_main_call2_v13, val_main_call2_v12, val_main_call2_c_0, val_main_call2_v11, val_main_call2_v10, val_main_call2_v9, val_main_call2_c, val_main_call2_v8, val_main_call2_v7, val_main_call2_v6, val_main_call2_v5, val_main_call2_v4, val_main_call2_v3, val_main_call2_v2, val_main_call2_v1, val_main_call2_v0, val_main_c_2, val_main_v27, val_main_v26, val_main_v25, val_main_v24, val_main_c_1, val_main_v23, val_main_v22]
  have h64 : id (constantI S_ 32 64#32) ix0 = (64#32 : BitVec 32) := rfl
  simp only [h64]
  refine Eq.trans (congrArg (fun u => IntOp.cmpi CmpIPredicate.sge (IntOp.addi (IntOp.subi (BitVec.ofNat 32 c.val) 2#32) u) 0#32) (floor_word s)) ?_
  refine (mask_word c ⟨s.val / 64, by omega⟩).trans ?_
  by_cases h : 128 ≤ c.val * 64 + s.val
  · rw [if_pos h, if_pos (by dsimp only; omega)]
  · rw [if_neg h, if_neg (by dsimp only; omega)]

/-- The reference's masked score is `score`. -/
theorem score_apply (b : Fin 2) (c : Fin 64) (j : Fin 4) (g : Fin 6) (q : Fin 64) (s : Fin 192) :
    val_main_v35 (F := Ideal) x0 x1 (ix6 b c j g q s) = score x0 x1 b c j g q s := by
  pointwise [val_main_v35, val_main_call3_v2, val_main_call3_v1, val_main_call3_v0, val_main_cst_4, val_main_v34, val_main_v21, val_main_v20, val_main_cst, val_main_v19, val_main_v18, val_main_v5, val_main_v4]
  rw [mask]
  unfold score
  by_cases h : 128 ≤ c.val * 64 + s.val
  · rw [if_pos h, if_pos h, select_word_one]
    exact congrArg (· * _) (Finset.sum_congr rfl fun d _ => by rw [band_k x1 b c s j d h])
  · rw [if_neg h, if_neg h]
    exact neg_inf

/-- A maximum over the last of the six axes is the fold over its positions. -/
theorem max_fold (y : FVec Ideal S2x64x4x6x64x192 .f32) (z : FVec Ideal S_ .f32) (b : Fin 2) (c : Fin 64) (j : Fin 4) (g : Fin 6)
    (q : Fin 64) :
    Host.reduce FloatOps.maximumf y z Gen.reducesTo_S2x64x4x6x64x192_S2x64x4x6x64_d5 Gen.h_S_ (ix5 b c j g q)
      = Finset.univ.fold max (z ix0) (fun s : Fin 192 => y (ix6 b c j g q s)) := by
  rw [Host.reduce_eq_fold_single _ _ _ _ (by decide)]
  have hz : Shape.Idx.first Gen.h_S_ = ix0 := funext fun a => a.elim0
  rw [hz]
  refine congrArg (Finset.fold max (z ix0) · Finset.univ) (funext fun s => congrArg y ?_)
  exact funext fun a => Fin.ext (match a with | ⟨0, _⟩ => rfl | ⟨1, _⟩ => rfl | ⟨2, _⟩ => rfl | ⟨3, _⟩ => rfl | ⟨4, _⟩ => rfl | ⟨5, _⟩ => rfl)

/-- The row's maximum over the band. -/
theorem max_apply (b : Fin 2) (c : Fin 64) (j : Fin 4) (g : Fin 6) (q : Fin 64) :
    val_main_v38 (F := Ideal) x0 x1 (ix5 b c j g q) = Finset.univ.fold max ⊥ (score x0 x1 b c j g q) := by
  refine (max_fold _ _ b c j g q).trans ?_
  have h0 : val_main_cst_5 (F := Ideal) ix0 = ⊥ := by
    pointwise [val_main_cst_5]
    exact neg_inf
  rw [h0]
  exact congrArg (Finset.fold max ⊥ · Finset.univ) (funext fun s => score_apply x0 x1 b c j g q s)

/-- A row's sink. -/
theorem sinks_apply (b : Fin 2) (c : Fin 64) (j : Fin 4) (g : Fin 6) (q : Fin 64) (u : Fin 1) :
    val_main_v40 (F := Ideal) x2 (ix6 b c j g q u) = x2 (ix1 ⟨j.val * 6 + g.val, by omega⟩) := by
  pointwise [val_main_v40, val_main_v37, val_main_v36]

/-- A row's maximum, with its unit axis. -/
theorem maxes_apply (b : Fin 2) (c : Fin 64) (j : Fin 4) (g : Fin 6) (q : Fin 64) (u : Fin 1) :
    val_main_v39 (F := Ideal) x0 x1 (ix6 b c j g q u) = val_main_v38 (F := Ideal) x0 x1 (ix5 b c j g q) := by
  unfold val_main_v39
  generalize val_main_v38 (F := Ideal) x0 x1 = y
  pointwise []

/-- The largest of a row's scores and its sink. -/
theorem largest_apply (b : Fin 2) (c : Fin 64) (j : Fin 4) (g : Fin 6) (q : Fin 64) (u : Fin 1) :
    val_main_v41 (F := Ideal) x0 x1 x2 (ix6 b c j g q u)
      = Cert.Swa.largest (score x0 x1 b c j g q) (x2 (ix1 ⟨j.val * 6 + g.val, by omega⟩)) := by
  unfold Cert.Swa.largest
  rw [val_main_v41_apply, maxes_apply, sinks_apply, max_apply]
  rfl

/-- A row's exponentials. -/
theorem exp_apply (b : Fin 2) (c : Fin 64) (j : Fin 4) (g : Fin 6) (q : Fin 64) (s : Fin 192) :
    val_main_v44 (F := Ideal) x0 x1 x2 (ix6 b c j g q s)
      = Ideal.exp (score x0 x1 b c j g q s - Cert.Swa.largest (score x0 x1 b c j g q) (x2 (ix1 ⟨j.val * 6 + g.val, by omega⟩))) := by
  pointwise [val_main_v44, val_main_v43, val_main_v42]
  rw [largest_apply, score_apply]

/-- A row's mass. -/
theorem mass_apply (b : Fin 2) (c : Fin 64) (j : Fin 4) (g : Fin 6) (q : Fin 64) (u : Fin 1) :
    val_main_v50 (F := Ideal) x0 x1 x2 (ix6 b c j g q u)
      = Cert.Swa.mass (score x0 x1 b c j g q) (x2 (ix1 ⟨j.val * 6 + g.val, by omega⟩)) := by
  pointwise [val_main_v50, val_main_v49, val_main_v48, val_main_v47, val_main_v46, val_main_v37, val_main_v36]
  rw [largest_apply, val_main_v45_apply]
  have h0 : val_main_cst_6 (F := Ideal) (Shape.Idx.first Gen.h_S_) = 0 := by
    show Ideal.ofBits .f32 0x00000000#32 = 0
    simp [Ideal.ofBits, Ideal.ieee]
  rw [h0, zero_add]
  unfold Cert.Swa.mass
  refine congrArg (· + _) (Finset.sum_congr rfl fun s _ => ?_)
  refine Eq.trans (congrArg (val_main_v44 (F := Ideal) x0 x1 x2) ?_) (exp_apply x0 x1 x2 b c j g q s)
  exact funext fun a => Fin.ext (match a with | ⟨0, _⟩ => rfl | ⟨1, _⟩ => rfl | ⟨2, _⟩ => rfl | ⟨3, _⟩ => rfl | ⟨4, _⟩ => rfl | ⟨5, _⟩ => rfl)

/-- A row's probabilities. -/
theorem prob_apply (b : Fin 2) (c : Fin 64) (j : Fin 4) (g : Fin 6) (q : Fin 64) (s : Fin 192) :
    val_main_v52 (F := Ideal) x0 x1 x2 (ix6 b c j g q s)
      = Ideal.div (Ideal.exp (score x0 x1 b c j g q s - Cert.Swa.largest (score x0 x1 b c j g q) (x2 (ix1 ⟨j.val * 6 + g.val, by omega⟩))))
          (Cert.Swa.mass (score x0 x1 b c j g q) (x2 (ix1 ⟨j.val * 6 + g.val, by omega⟩))) := by
  pointwise [val_main_v52, val_main_v51]
  rw [mass_apply, exp_apply]

/-- The reference's output is the weighted sum, its weights divided beforehand. -/
theorem out_apply (b : Fin 2) (t : Fin 4096) (n : Fin 1536) :
    val_main_v56 (F := Ideal) x0 x1 x2 (ix3 b t n)
      = ∑ s : Fin 192, val_main_v17 (F := Ideal) x1 (ix5 b ⟨t.val / 64, by omega⟩ s ⟨n.val / 384, by omega⟩ ⟨n.val % 64, by omega⟩)
          * val_main_v52 (F := Ideal) x0 x1 x2 (ix6 b ⟨t.val / 64, by omega⟩ ⟨n.val / 384, by omega⟩ ⟨n.val / 64 % 6, by omega⟩
              ⟨t.val % 64, by omega⟩ s) := by
  pointwise [val_main_v56, val_main_v55, val_main_v54, val_main_v53]

/-- The reference's output, of finite queries, keys and sinks, is `attention`. -/
theorem reference_apply (hf : Finite x0 x1 x2) (b : Fin 2) (t : Fin 4096) (n : Fin 1536) :
    val_main_v56 (F := Ideal) x0 x1 x2 (ix3 b t n)
      = attention x0 x1 x2 b ⟨t.val / 64, by omega⟩ ⟨n.val / 384, by omega⟩ ⟨n.val / 64 % 6, by omega⟩ ⟨t.val % 64, by omega⟩
          ⟨n.val % 64, by omega⟩ := by
  rw [out_apply]
  refine Eq.trans ?_ (attention_eq hf b ⟨t.val / 64, by omega⟩ ⟨n.val / 384, by omega⟩ ⟨n.val / 64 % 6, by omega⟩ ⟨t.val % 64, by omega⟩
    ⟨n.val % 64, by omega⟩ (fun s => val_main_v17 (F := Ideal) x1 (ix5 b ⟨t.val / 64, by omega⟩ s ⟨n.val / 384, by omega⟩ ⟨n.val % 64, by omega⟩))
    fun s hin => band_v x1 b _ s _ _ hin).2
  exact Finset.sum_congr rfl fun s _ => by rw [prob_apply]

end Cert.KernelIdeal.SwaRef
-- ==== Proof.SwaClaim.lean ====
/-
  The attention's claim: from finite queries, keys and sinks the kernel's result and the reference's are the same `attention` of the
  arguments.
-/
module

public import proofs.«01_k».proof.Proof.SwaRef
public import proofs.«01_k».proof.Proof.Gen.Pre_finite_inputs
public import proofs.«01_k».proof.Defs

@[expose] public section

set_option maxRecDepth 16384

noncomputable section

namespace Cert.KernelIdeal.SwaRef

open Idealize.ShloMosaic Idealize.ShloMosaic.TcCoe Idealize.SL.Sem
open Cert.ReferenceIdeal Cert.ReferenceIdeal.Read Cert.KernelIdeal.Swa

/-- Plus infinity's word reads as plus infinity. -/
theorem pos_inf : Ideal.ofBits .f32 0x7F800000#32 = ⊤ := by
  simp [Ideal.ofBits, Ideal.ieee]

/-- A number whose absolute value compares below plus infinity's word is a real. -/
theorem real_of_word (x : EReal)
    (h : BitVec.ofBool (decide (max x (-x) < Ideal.ofBits FTy.f32 0x7F800000#32)) = 1#1) : ∃ r : ℝ, x = r := by
  rw [pos_inf] at h
  refine Cert.Swa.real_of_abs_lt x ?_
  by_contra hn
  rw [decide_eq_false hn] at h
  exact absurd h (by decide)

/-- The precondition says that the queries, the keys and the sinks are real numbers. -/
theorem finite_of_pre (x0 : FVec Ideal S2x4096x2048 .f32) (x1 : FVec Ideal S2x4096x512 .f32) (x2 : FVec Ideal S24 .f32)
    (h : (Cert.Pre_finite_inputs.fn (F := Ideal) x0 x1 x2).1 = (fun _ => 1#1)
      ∧ (Cert.Pre_finite_inputs.fn (F := Ideal) x0 x1 x2).2.1 = (fun _ => 1#1)
      ∧ (Cert.Pre_finite_inputs.fn (F := Ideal) x0 x1 x2).2.2 = (fun _ => 1#1)) : Finite x0 x1 x2 := by
  obtain ⟨h0, h1, h2⟩ := h
  refine ⟨fun b t n hn => ?_, fun b t n hn => ?_, fun n => ?_⟩
  · have hb := congrFun h0 (ix3 b t ⟨n.val, hn⟩)
    pointwise [Cert.Pre_finite_inputs.fn] at hb
    exact real_of_word _ hb
  · have hb := congrFun h1 (ix3 b t ⟨n.val, hn⟩)
    pointwise [Cert.Pre_finite_inputs.fn] at hb
    exact real_of_word _ hb
  · have hb := congrFun h2 (ix1 n)
    pointwise [Cert.Pre_finite_inputs.fn] at hb
    exact real_of_word _ hb

/-- The two programs, over the extended reals, from memories with equal arguments, their queries, keys and sinks finite, end with
equal results. -/
theorem equal_results [Cert.KernelIdeal.Facts] [Cert.ReferenceIdeal.Facts] [Cert.Pre_finite_inputs.Facts] :
    Cert.algebraic_KernelIdeal_ReferenceIdeal_pre_finite_inputs := by
  intro m g m' g' hpre hargs
  have hf : ∀ c, Finite (argA m c) (argKV m c) (argS m c) := fun c => finite_of_pre _ _ _ (hpre c)
  refine ⟨fun c => result m c, ?_, ?_⟩
  · refine (θ_run _ _ _).mono (fun r h c => ?_) (Cert.KernelIdeal.Value.run_blocks m g)
    obtain ⟨h0, h1⟩ := h c
    exact ⟨h0.trans (final m c (hf c)), h1⟩
  · refine (θ_run _ _ _).mono (fun r h c => ?_) (Cert.ReferenceIdeal.Value.run m' g')
    obtain ⟨h0, h1⟩ := h c
    obtain ⟨a0, a1, a2⟩ := hargs c
    refine ⟨h0.trans ?_, h1⟩
    rw [val_main_v56_eq, a0, a1, a2]
    funext i
    obtain ⟨b, t, n, rfl⟩ : ∃ (b : Fin 2) (t : Fin 4096) (n : Fin 1536), i = ix3 b t n :=
      ⟨i 0, i 1, i 2, funext fun a => by fin_cases a <;> rfl⟩
    exact reference_apply _ _ _ (hf c) b t n

end Cert.KernelIdeal.SwaRef
-- ==== Proof.KvValue.lean ====
/-
  The memory's keys and values: the kernel's points, the windows, the array the run leaves, the parts the host cuts out of it,
  and the reference, all read down to normalized rows against columns.
-/
module

public import proofs.«01_k».proof.Proof.Rows
public import proofs.«01_k».proof.Proof.Gen.Kernel3Ideal.Frame
public import Idealize.ShloMosaic.Lib.Pipeline.Value
public import Idealize.ShloMosaic.Lib.Pipeline.FrameSuffix
public import proofs.«01_k».proof.Proof.Gen.Reference3Ideal.Read
public import proofs.«01_k».proof.Proof.Gen.Reference3Ideal.Run
public import proofs.«01_k».proof.Defs
public import Idealize.ShloMosaic.Lib.Pipeline.ValueKit
public import Idealize.ShloMosaic.Lib.Claim
public import Idealize.ShloMosaic.Lib.StableHlo.ReadAt

@[expose] public section

set_option maxRecDepth 16384

noncomputable section

namespace Cert.Kernel3Ideal.Kv

open Cert.Rows Cert.Kernel3Ideal Cert.Kernel3Ideal.Gen Idealize.ShloMosaic Idealize.ShloMosaic.TcCoe Idealize.SL.Sem

theorem zero2 : (![0, 0] : Fin 2 → Nat) = fun _ => 0 := funext fun a => by fin_cases a <;> rfl
theorem zero3 : (![0, 0, 0] : Fin 3 → Nat) = fun _ => 0 := funext fun a => by fin_cases a <;> rfl

section run

variable {F : FTy → Type} [FloatOps F]

/-- What a point leaves in the output block. -/
theorem out_point (c : Dev nD) (i : grid0.Coords) (arg2 : Memref sig .tc .vmem S512x2048 .f32) (harg2 : arg2.IsWhole)
    (arg3 : Memref sig .tc .vmem S1x1x2048 .f32) (harg3 : arg3.IsWhole) (arg4 : Memref sig .tc .vmem S1x2048x1024 .bf16) (harg4 : arg4.IsWhole)
    (arg5 : Memref sig .tc .vmem S1x512x1024 .f32) (harg5 : arg5.IsWhole) (arg6 : Memref sig .tc .vmem S512x2048 .bf16) (harg6 : arg6.IsWhole)
    (hc0 : cond0_0 i) (x0 : Vec F S512x2048 .f32) (x1 : Vec F S1x1x2048 .f32) (x2 : Vec F S1x2048x1024 .bf16) :
    out0_A_3 c i arg2 harg2 arg3 harg3 arg4 harg4 arg5 harg5 arg6 harg6 hc0 x0 x1 x2 = k0_pay2 (k0_pay1 x0 x1) x2 := by
  unfold out0_A_3
  rw [View.read_writes_eq_canon _ _ _ (cover0_A_3 c i arg2 harg2 arg3 harg3 arg4 harg4 arg5 harg5 arg6 harg6 hc0 x0 x1 x2)]
  unfold kernelRun0_A
  dsimp only
  sl_unfold_words
  rw [View.canon_unit_zero (S := S1x512x1024) zero3, View.readCov_unit_zero (S := S512x2048) _ zero2]
  simp only [View.readAt_eq_ld, harg2.read_unread, harg3.read_unread, harg4.read_unread, View.ld_unit_zero (S := S512x2048) zero2,
    View.ld_unit_zero (S := S1x1x2048) zero3, View.ld_unit_zero (S := S1x2048x1024) zero3]

end run

theorem norm_apply (x : Vec Ideal S512x2048 .f32) (g : Vec Ideal S1x1x2048 .f32) (r : Fin 512) (d : Fin 2048) :
    k0_pay1 x g (ix2 r d) = rms (fun d => x (ix2 r d)) (fun d => g (ix3 0 0 d)) d := by
  unfold rms
  pointwise [k0_pay1]

theorem product_apply (h : Vec Ideal S512x2048 .bf16) (w : Vec Ideal S1x2048x1024 .bf16) (r : Fin 512) (j : Fin 1024) :
    k0_pay2 h w (ix3 0 r j) = ∑ d : Fin 2048, h (ix2 r d) * w (ix3 0 d j) := by
  pointwise [k0_pay2]

/-! ## The windows -/

variable (m : (ℓ : Loc nD τ sig) → Buf (Elt Ideal) ℓ) (c : Dev nD)

/-- Row `r` of the memory, both batch entries one after the other. -/
def argX (r : Fin 512) (d : Fin 2048) : EReal :=
  (m ((c : Thread nD τ).loc main_arg0) : FVec Ideal S2x256x2048 .f32) (ix3 ⟨r.val / 256, by omega⟩ ⟨r.val % 256, by omega⟩ d)
def argG (l : Fin 4) (d : Fin 2048) : EReal := (m ((c : Thread nD τ).loc main_arg1) : FVec Ideal S4x2048 .f32) (ix2 l d)
def argW (l : Fin 4) (d : Fin 2048) (j : Fin 1024) : EReal := (m ((c : Thread nD τ).loc main_arg2) : FVec Ideal S4x2048x1024 .f32) (ix3 l d j)

theorem entryX (r : Fin 512) (d : Fin 2048) : (V m c main_v0 : FVec Ideal S512x2048 .f32) (ix2 r d) = argX m c r d := by
  unfold V argX
  after_reads_at
theorem entryG (l : Fin 4) (d : Fin 2048) : (V m c main_v1 : FVec Ideal S4x1x2048 .f32) (ix3 l 0 d) = argG m c l d := by
  unfold V argG
  after_reads_at
theorem entryW (l : Fin 4) (d : Fin 2048) (j : Fin 1024) : (V m c main_v2 : FVec Ideal S4x2048x1024 .bf16) (ix3 l d j) = argW m c l d j := by
  unfold V argW
  after_reads_at

/-- The index maps over the grid. -/
theorem index_maps : ∀ t : Fin grid0.N, win0_0.index t = ![0, 0] ∧ win0_1.index t = ![t.val, 0, 0] ∧ win0_2.index t = ![t.val, 0, 0]
    ∧ win0_3.index t = ![t.val, 0, 0] := by
  decide +kernel

/-- The layer a point works on. -/
def layer (t : Fin cfg0.N) : Fin 4 := ⟨t.val, lt_of_lt_of_eq t.isLt N_0⟩

theorem winX (t : Fin cfg0.N) (r : Fin 512) (d : Fin 2048) : (iblk m c 0 t : FVec Ideal S512x2048 .f32) (ix2 r d) = argX m c r d := by
  rw [← entryX]
  blk_ext [iblk, (index_maps t).1]
theorem winG (t : Fin cfg0.N) (d : Fin 2048) : (iblk m c 1 t : FVec Ideal S1x1x2048 .f32) (ix3 0 0 d) = argG m c (layer t) d := by
  rw [← entryG]
  unfold layer
  blk_ext [iblk, (index_maps t).2.1]
theorem winW (t : Fin cfg0.N) (d : Fin 2048) (j : Fin 1024) :
    (iblk m c 2 t : FVec Ideal S1x2048x1024 .bf16) (ix3 0 d j) = argW m c (layer t) d j := by
  rw [← entryW]
  unfold layer
  blk_ext [iblk, (index_maps t).2.2.1]

/-- The array the run leaves. -/
def result : FVec Ideal S4x512x1024 .f32 := fun i => project (argX m c (i 1)) (argG m c (i 0)) (fun d => argW m c (i 0) d (i 2))

/-- What a point leaves in the output block. -/
theorem out_eq (t : Fin cfg0.N) (r : Fin 512) (j : Fin 1024) : outsAt0 m c t (ix3 0 r j) = result m c (ix3 (layer t) r j) := by
  unfold outsAt0
  rw [out_point, product_apply]
  refine Finset.sum_congr rfl fun d _ => congrArg₂ (· * ·) ?_ (winW m c t d j)
  rw [norm_apply]
  exact congrFun (congrArg₂ rms (funext fun d => winX m c t r d) (funext fun d => winG m c t d)) d

theorem final : (dats m 0 c).arrAt 3 cfg0.N = result m c := by
  refine (dats m 0 c).arrAt_eq_of_covers 3 _ (by decide +kernel) fun t hf y => ?_
  blk_simp
  rw [after0_3]
  obtain ⟨r, j, rfl⟩ : ∃ (r : Fin 512) (j : Fin 1024), y = ix3 0 r j :=
    ⟨y 1, y 2, funext fun a => by
      match a with
      | ⟨0, _⟩ => exact Fin.ext (Nat.lt_one_iff.mp (y 0).isLt)
      | ⟨1, _⟩ => rfl
      | ⟨2, _⟩ => rfl⟩
  rw [out_eq m c t]
  refine congrArg (result m c) (funext fun a => Fin.ext ?_)
  match a with
  | ⟨0, _⟩ =>
    show t.val = _
    blk_simp [(index_maps t).2.2.2]
    exact (Nat.add_zero _).symm
  | ⟨1, _⟩ =>
    show r.val = _
    blk_simp [(index_maps t).2.2.2]
  | ⟨2, _⟩ =>
    show j.val = _
    blk_simp [(index_maps t).2.2.2]

/-! ## The parts the host cuts out -/

theorem cut_keys (W : Valuation τ sig (Elt Ideal)) (l : Fin 4) (b : Fin 2) (p : Fin 256) (h : Fin 4) (e : Fin 128) :
    (StableHlo.after hostOps1 W (Proc.devRef .tc main_v6) : FVec Ideal S4x2x256x4x128 .f32) (ix5 l b p h e)
      = (W (Proc.devRef .tc main_v3) : FVec Ideal S4x512x1024 .f32) (ix3 l ⟨b.val * 256 + p.val, by omega⟩ ⟨h.val * 128 + e.val, by omega⟩) := by
  after_reads_at
theorem cut_values (W : Valuation τ sig (Elt Ideal)) (l : Fin 4) (b : Fin 2) (p : Fin 256) (h : Fin 4) (e : Fin 128) :
    (StableHlo.after hostOps1 W (Proc.devRef .tc main_v8) : FVec Ideal S4x2x256x4x128 .f32) (ix5 l b p h e)
      = (W (Proc.devRef .tc main_v3) : FVec Ideal S4x512x1024 .f32) (ix3 l ⟨b.val * 256 + p.val, by omega⟩ ⟨512 + (h.val * 128 + e.val), by omega⟩) := by
  after_reads_at

/-- The array the run leaves at a row of one batch entry. -/
theorem result_apply (l : Fin 4) (b : Fin 2) (p : Fin 256) (j : Fin 1024) :
    result m c (ix3 l ⟨b.val * 256 + p.val, by omega⟩ j)
      = project (fun d => (m ((c : Thread nD τ).loc main_arg0) : FVec Ideal S2x256x2048 .f32) (ix3 b p d)) (argG m c l) (fun d => argW m c l d j) := by
  refine congrArg (fun x => project x (argG m c l) fun d => argW m c l d j) (funext fun d => ?_)
  unfold argX
  refine congrArg _ (funext fun a => Fin.ext ?_)
  match a with
  | ⟨0, _⟩ => show (b.val * 256 + p.val) / 256 = b.val; omega
  | ⟨1, _⟩ => show (b.val * 256 + p.val) % 256 = p.val; omega
  | ⟨2, _⟩ => rfl

theorem distinct_arrays : Function.Injective (Pipeline.arrRef spec0) := by decide

/-- The region's array as the host's lines find it. -/
theorem left_array (A : (w : Fin cfg0.W) → Buf (Elt Ideal) ((cfg0.win w).arr.view.loc (c.tc : Thread nD τ))) (W : Valuation τ sig (Elt Ideal)) :
    Pipeline.withArrays spec0 c W A (Proc.devRef .tc main_v3) = A 3 :=
  Pipeline.withArrays_arr spec0 distinct_arrays c W A 3

/-- What the host's lines leave in the two results. -/
theorem tail_keys (l : Fin 4) (b : Fin 2) (p : Fin 256) (h : Fin 4) (e : Fin 128) :
    (Pipeline.afterTail₀ cfgs (dats m) 0 (V0 m) [hostOps1] c main_v6 : FVec Ideal S4x2x256x4x128 .f32) (ix5 l b p h e)
      = project (fun d => (m ((c : Thread nD τ).loc main_arg0) : FVec Ideal S2x256x2048 .f32) (ix3 b p d)) (argG m c l)
          (fun d => argW m c l d ⟨h.val * 128 + e.val, by omega⟩) := by
  unfold Pipeline.afterTail₀
  refine (cut_keys _ l b p h e).trans ?_
  exact ((congrFun (left_array c _ _) _).trans (congrFun (final m c) _)).trans (result_apply m c l b p _)
theorem tail_values (l : Fin 4) (b : Fin 2) (p : Fin 256) (h : Fin 4) (e : Fin 128) :
    (Pipeline.afterTail₀ cfgs (dats m) 0 (V0 m) [hostOps1] c main_v8 : FVec Ideal S4x2x256x4x128 .f32) (ix5 l b p h e)
      = project (fun d => (m ((c : Thread nD τ).loc main_arg0) : FVec Ideal S2x256x2048 .f32) (ix3 b p d)) (argG m c l)
          (fun d => argW m c l d ⟨512 + (h.val * 128 + e.val), by omega⟩) := by
  unfold Pipeline.afterTail₀
  refine (cut_values _ l b p h e).trans ?_
  exact ((congrFun (left_array c _ _) _).trans (congrFun (final m c) _)).trans (result_apply m c l b p _)

/-! ## The claim -/

open Cert.Reference3Ideal Cert.Reference3Ideal.Read in
/-- The reference's projection at an index. -/
theorem reference_apply (x0 : FVec Ideal S2x256x2048 .f32) (x1 : FVec Ideal S4x2048 .f32) (x2 : FVec Ideal S4x2048x1024 .f32)
    (l : Fin 4) (b : Fin 2) (p : Fin 256) (j : Fin 1024) :
    val_main_v15 (F := Ideal) x0 x1 x2 (ix4 l b p j)
      = project (fun d => x0 (ix3 b p d)) (fun d => x1 (ix2 l d)) (fun d => x2 (ix3 l d j)) := by
  unfold project rms
  pointwise [val_main_v15, val_main_v14, val_main_v13, val_main_v12, val_main_v11, val_main_v10, val_main_v9, val_main_v8, val_main_v7, val_main_v6, val_main_v5,
    val_main_v4, val_main_v3, val_main_v2, val_main_v1, val_main_v0, val_main_cst, val_main_cst_0, val_main_cst_1]

/-- The two programs, over the extended reals, from memories with equal arguments, end with equal results. -/
theorem equal_results [Cert.Kernel3Ideal.Facts] [Cert.Reference3Ideal.Facts] :
    Cert.algebraic_Kernel3Ideal_Reference3Ideal := by
  intro m g m' g' _ hargs
  refine ⟨fun c => Pipeline.afterTail₀ cfgs (dats m) 0 (V0 m) [hostOps1] c main_v6,
    fun c => Pipeline.afterTail₀ cfgs (dats m) 0 (V0 m) [hostOps1] c main_v8, ?_, ?_⟩
  · refine (θ_run _ _ _).mono (fun r h c => ?_) (θ_run_and (run_main m g) (unchanged m g))
    exact ⟨(h.1 c).2 main_v6 (Pipeline.mem_restRefs_of main_v6 (by decide) (by decide)),
      (h.1 c).2 main_v8 (Pipeline.mem_restRefs_of main_v8 (by decide) (by decide)), h.2 c⟩
  · refine (θ_run _ _ _).mono (fun r h c => ?_) (Cert.Reference3Ideal.Value.run m' g')
    obtain ⟨h0, h1, h2⟩ := h c
    obtain ⟨a0, a1, a2⟩ := hargs c
    have index : ∀ i : S4x2x256x4x128.Idx, ∃ (l : Fin 4) (b : Fin 2) (p : Fin 256) (h : Fin 4) (e : Fin 128), i = ix5 l b p h e :=
      fun i => ⟨i 0, i 1, i 2, i 3, i 4, funext fun a => by fin_cases a <;> rfl⟩
    refine ⟨h0.trans ?_, h1.trans ?_, h2⟩
    · rw [Cert.Reference3Ideal.Read.val_main_v17_eq, a0, a1, a2]
      funext i
      obtain ⟨l, b, p, h, e, rfl⟩ := index i
      refine Eq.trans ?_ (tail_keys m c l b p h e).symm
      refine Eq.trans ?_ (reference_apply _ _ _ l b p ⟨h.val * 128 + e.val, by omega⟩)
      pointwise [Cert.Reference3Ideal.Read.val_main_v17, Cert.Reference3Ideal.Read.val_main_v16]
    · rw [Cert.Reference3Ideal.Read.val_main_v19_eq, a0, a1, a2]
      funext i
      obtain ⟨l, b, p, h, e, rfl⟩ := index i
      refine Eq.trans ?_ (tail_values m c l b p h e).symm
      refine Eq.trans ?_ (reference_apply _ _ _ l b p ⟨512 + (h.val * 128 + e.val), by omega⟩)
      pointwise [Cert.Reference3Ideal.Read.val_main_v19, Cert.Reference3Ideal.Read.val_main_v18]

end Cert.Kernel3Ideal.Kv
-- ==== Proof.WideValue.lean ====
/-
  The recurrent layers' wide input projection: the kernel's points, the windows, the array the run leaves, the columns the host
  cuts out of it, and the reference, all read down to normalized rows against columns.
-/
module

public import proofs.«01_k».proof.Proof.Rows
public import proofs.«01_k».proof.Proof.Gen.Kernel4Ideal.Frame
public import Idealize.ShloMosaic.Lib.Pipeline.Value
public import Idealize.ShloMosaic.Lib.Pipeline.FrameSuffix
public import proofs.«01_k».proof.Proof.Gen.Reference4Ideal.Read
public import proofs.«01_k».proof.Proof.Gen.Reference4Ideal.Run
public import proofs.«01_k».proof.Defs
public import Idealize.ShloMosaic.Lib.Pipeline.ValueKit
public import Idealize.ShloMosaic.Lib.Claim
public import Idealize.ShloMosaic.Lib.StableHlo.ReadAt

@[expose] public section

set_option maxRecDepth 16384

noncomputable section

namespace Cert.Kernel4Ideal.Wide

open Cert.Rows Cert.Kernel4Ideal Cert.Kernel4Ideal.Gen Idealize.ShloMosaic Idealize.ShloMosaic.TcCoe Idealize.SL.Sem

theorem zero2 : (![0, 0] : Fin 2 → Nat) = fun _ => 0 := funext fun a => by fin_cases a <;> rfl
theorem zero3 : (![0, 0, 0] : Fin 3 → Nat) = fun _ => 0 := funext fun a => by fin_cases a <;> rfl

section run

variable {F : FTy → Type} [FloatOps F]
variable (c : Dev nD) (i : grid0.Coords) (arg2 : Memref sig .tc .vmem S1024x2048 .f32) (harg2 : arg2.IsWhole)
  (arg3 : Memref sig .tc .vmem S1x1x2048 .f32) (harg3 : arg3.IsWhole) (arg4 : Memref sig .tc .vmem S1x2048x1408 .bf16) (harg4 : arg4.IsWhole)
  (arg5 : Memref sig .tc .vmem S1024x1408 .f32) (harg5 : arg5.IsWhole) (arg6 : Memref sig .tc .vmem S1024x2048 .bf16) (harg6 : arg6.IsWhole)
  (x0 : Vec F S1024x2048 .f32) (x1 : Vec F S1x1x2048 .f32) (x2 : Vec F S1x2048x1408 .bf16) (xs : Vec F S1024x2048 .bf16)

/-- A row block's first point leaves the normalized rows in the scratch. -/
theorem scratch_first (hc0 : cond0_0 i) :
    sout0_A_0 c i arg2 harg2 arg3 harg3 arg4 harg4 arg5 harg5 arg6 harg6 hc0 x0 x1 x2 = k0_pay1 x0 x1 := by
  unfold sout0_A_0
  rw [View.read_writes_eq_canon _ _ _ (scover0_A_0 c i arg2 harg2 arg3 harg3 arg4 harg4 arg5 harg5 arg6 harg6 hc0 x0 x1 x2)]
  unfold kernelRun0_A
  dsimp only
  sl_unfold_words
  rw [View.canon_unit_zero zero2]
  simp only [View.readAt_eq_ld, harg2.read_unread, harg3.read_unread, View.ld_unit_zero (S := S1024x2048) zero2,
    View.ld_unit_zero (S := S1x1x2048) zero3]

/-- A row block's first point leaves the product of the normalized rows. -/
theorem out_first (hc0 : cond0_0 i) :
    out0_A_3 c i arg2 harg2 arg3 harg3 arg4 harg4 arg5 harg5 arg6 harg6 hc0 x0 x1 x2 = k0_pay2 (k0_pay1 x0 x1) x2 := by
  unfold out0_A_3
  rw [View.read_writes_eq_canon _ _ _ (cover0_A_3 c i arg2 harg2 arg3 harg3 arg4 harg4 arg5 harg5 arg6 harg6 hc0 x0 x1 x2)]
  unfold kernelRun0_A
  dsimp only
  sl_unfold_words
  rw [View.canon_unit_zero (S := S1024x1408) zero2, View.readCov_unit_zero (S := S1024x2048) _ zero2]
  simp only [View.readAt_eq_ld, harg2.read_unread, harg3.read_unread, harg4.read_unread, View.ld_unit_zero (S := S1024x2048) zero2,
    View.ld_unit_zero (S := S1x1x2048) zero3, View.ld_unit_zero (S := S1x2048x1408) zero3]

/-- A later point leaves the product of the rows in the scratch. -/
theorem out_later (hc0 : ¬cond0_0 i) :
    out0_B_3 c i arg2 harg2 arg3 harg3 arg4 harg4 arg5 harg5 arg6 harg6 hc0 x0 x1 x2 xs = k0_pay2 xs x2 := by
  unfold out0_B_3
  rw [View.read_writes_eq_canon _ _ _ (cover0_B_3 c i arg2 harg2 arg3 harg3 arg4 harg4 arg5 harg5 arg6 harg6 hc0 x0 x1 x2 xs)]
  unfold kernelRun0_B
  dsimp only
  sl_unfold_words
  rw [View.canon_unit_zero (S := S1024x1408) zero2]
  simp only [View.readAt_eq_ld, harg4.read_unread, harg6.read_unread, View.ld_unit_zero (S := S1024x2048) zero2,
    View.ld_unit_zero (S := S1x2048x1408) zero3]

end run

theorem norm_apply (x : Vec Ideal S1024x2048 .f32) (g : Vec Ideal S1x1x2048 .f32) (r : Fin 1024) (d : Fin 2048) :
    k0_pay1 x g (ix2 r d) = rms (fun d => x (ix2 r d)) (fun d => g (ix3 0 0 d)) d := by
  unfold rms
  pointwise [k0_pay1]

theorem product_apply (h : Vec Ideal S1024x2048 .bf16) (w : Vec Ideal S1x2048x1408 .bf16) (r : Fin 1024) (j : Fin 1408) :
    k0_pay2 h w (ix2 r j) = ∑ d : Fin 2048, h (ix2 r d) * w (ix3 0 d j) := by
  pointwise [k0_pay2]

/-! ## The windows -/

variable (m : (ℓ : Loc nD τ sig) → Buf (Elt Ideal) ℓ) (c : Dev nD)

/-- Row `r` of the frames, both batch entries one after the other. -/
def argX (r : Fin 8192) (d : Fin 2048) : EReal :=
  (m ((c : Thread nD τ).loc main_arg0) : FVec Ideal S2x4096x2048 .f32) (ix3 ⟨r.val / 4096, by omega⟩ ⟨r.val % 4096, by omega⟩ d)
def argG (d : Fin 2048) : EReal := (m ((c : Thread nD τ).loc main_arg1) : FVec Ideal S2048 .f32) (ix1 d)
def argW (d : Fin 2048) (j : Fin 5472) : EReal := (m ((c : Thread nD τ).loc main_arg2) : FVec Ideal S2048x5472 .f32) (ix2 d j)
/-- The weights as the host spreads them: two runs of columns with zero columns between and after. -/
def spreadW (d : Fin 2048) (j : Fin 5632) : EReal := (V m c main_v8 : FVec Ideal S1x2048x5632 .bf16) (ix3 0 d j)

theorem entryX (r : Fin 8192) (d : Fin 2048) : (V m c main_v0 : FVec Ideal S8192x2048 .f32) (ix2 r d) = argX m c r d := by
  unfold V argX
  after_reads_at
theorem entryG (d : Fin 2048) : (V m c main_v1 : FVec Ideal S1x1x2048 .f32) (ix3 0 0 d) = argG m c d := by
  unfold V argG
  after_reads_at
/-- A run of columns written over an array at a column: inside it the new column, outside the old. -/
theorem update_columns {n k : ℕ} {x : (⟨2, ![2048, n]⟩ : Shape).Idx → EReal} {u : (⟨2, ![2048, k]⟩ : Shape).Idx → EReal} {start : Fin 2 → Int}
    (s : ℕ) (h : (⟨2, ![2048, n]⟩ : Shape).Slices (fun _ => 0) ⟨2, ![2048, k]⟩) (h0 : start 0 = 0) (h1 : start 1 = s) (hs : s + k ≤ n)
    (d : Fin 2048) (j : Fin n) :
    Host.dynamicUpdateSlice x u start h (ix2 d j)
      = if hj : s ≤ j.val ∧ j.val < s + k then u (ix2 d ⟨j.val - s, by omega⟩) else x (ix2 d j) := by
  have hslice : (⟨2, ![2048, n]⟩ : Shape).Slices ![0, s] ⟨2, ![2048, k]⟩ := ⟨rfl, fun a => by fin_cases a <;> simp <;> omega⟩
  rw [Host.dynamicUpdateSlice_eq_updateSlice x u start h ![0, s] (fun a => by fin_cases a <;> simp [h0, h1] <;> omega) hslice]
  unfold updateSlice
  by_cases hj : s ≤ j.val ∧ j.val < s + k
  · rw [dif_pos hj, dif_pos (fun a => by fin_cases a <;> simp <;> omega)]
    exact congrArg u (funext fun a => by fin_cases a <;> rfl)
  · rw [dif_neg hj, dif_neg (fun h => hj (by simpa using h 1))]

/-- An array under a unit axis. -/
theorem under_unit (x : FVec Ideal S2048x5632 .bf16) (d : Fin 2048) (j : Fin 5632) :
    broadcastInDim S1x2048x5632 ![1, 2] bcast_S2048x5632_S1x2048x5632_1_2 x (ix3 0 d j) = x (ix2 d j) := by
  pointwise

/-- The spread weights: two runs of columns over zeros. -/
theorem spread_eq (d : Fin 2048) (j : Fin 5632) : spreadW m c d j =
    if h : 5120 ≤ j.val ∧ j.val < 5120 + 512 then argW m c d ⟨4960 + (j.val - 5120), by omega⟩
    else if h : 0 ≤ j.val ∧ j.val < 0 + 4960 then argW m c d ⟨j.val - 0, by omega⟩ else Ideal.ofBits .bf16 0#16 := by
  unfold spreadW V
  after_reads_simp
  rw [under_unit]
  refine (update_columns 5120 _ ?_ ?_ (by omega) d j).trans ?_
  · rfl
  · rfl
  by_cases h1 : 5120 ≤ j.val ∧ j.val < 5120 + 512
  · rw [dif_pos h1, dif_pos h1]
    pointwise [argW]
  · rw [dif_neg h1, dif_neg h1]
    refine (update_columns 0 _ ?_ ?_ (by omega) d j).trans ?_
    · rfl
    · rfl
    by_cases h2 : 0 ≤ j.val ∧ j.val < 0 + 4960
    · rw [dif_pos h2, dif_pos h2]
      pointwise [argW]
    · rw [dif_neg h2, dif_neg h2]
      pointwise

/-- The index maps over the grid. -/
theorem index_maps : ∀ t : Fin grid0.N, win0_0.index t = ![t.val / 4, 0] ∧ win0_1.index t = ![0, 0, 0] ∧ win0_2.index t = ![0, 0, t.val % 4]
    ∧ win0_3.index t = ![t.val / 4, t.val % 4] := by
  decide +kernel

theorem row_lt (t : Fin cfg0.N) (r : Fin 1024) : 1024 * (t.val / 4) + r.val < 8192 := by
  have h : t.val < 32 := lt_of_lt_of_eq t.isLt N_0
  omega
theorem col_lt (n : ℕ) (j : Fin 1408) : 1408 * (n % 4) + j.val < 5632 := by omega

theorem winX (t : Fin cfg0.N) (r : Fin 1024) (d : Fin 2048) :
    (iblk m c 0 t : FVec Ideal S1024x2048 .f32) (ix2 r d) = argX m c ⟨1024 * (t.val / 4) + r.val, row_lt t r⟩ d := by
  rw [← entryX]
  blk_ext [iblk, (index_maps t).1]
theorem winG (t : Fin cfg0.N) (d : Fin 2048) : (iblk m c 1 t : FVec Ideal S1x1x2048 .f32) (ix3 0 0 d) = argG m c d := by
  rw [← entryG]
  blk_ext [iblk, (index_maps t).2.1]
theorem winW (t : Fin cfg0.N) (d : Fin 2048) (j : Fin 1408) :
    (iblk m c 2 t : FVec Ideal S1x2048x1408 .bf16) (ix3 0 d j) = spreadW m c d ⟨1408 * (t.val % 4) + j.val, col_lt _ j⟩ := by
  unfold spreadW
  blk_ext [iblk, (index_maps t).2.2.1]

/-- The normalized rows a block's first point puts in the scratch. -/
theorem norm_eq (t : Fin cfg0.N) (r : Fin 1024) (d : Fin 2048) :
    k0_pay1 (iblk m c 0 t : FVec Ideal S1024x2048 .f32) (iblk m c 1 t : FVec Ideal S1x1x2048 .f32) (ix2 r d)
      = rms (argX m c ⟨1024 * (t.val / 4) + r.val, row_lt t r⟩) (argG m c) d := by
  rw [norm_apply]
  exact congrFun (congrArg₂ rms (funext fun d => winX m c t r d) (funext fun d => winG m c t d)) d

/-- After every point the scratch holds the block's normalized rows. -/
theorem scratch_eq (n : ℕ) : ∀ (hn : n < cfg0.N) (r : Fin 1024) (d : Fin 2048),
    (outsAt0 m c n hn).2 (ix2 r d) = rms (argX m c ⟨1024 * (n / 4) + r.val, row_lt ⟨n, hn⟩ r⟩) (argG m c) d := by
  have first : ∀ (t : Fin cfg0.N), t.val % 4 = 0 → ∀ (r : Fin 1024) (d : Fin 2048),
      (outsAt0 m c t.val t.isLt).2 (ix2 r d) = rms (argX m c ⟨1024 * (t.val / 4) + r.val, row_lt t r⟩) (argG m c) d := by
    intro t h0 r d
    rw [outsAt0_A m c t h0]
    dsimp only
    rw [scratch_first, norm_eq]
  induction n with
  | zero => exact fun hn => first ⟨0, hn⟩ rfl
  | succ n ih =>
    intro hn r d
    by_cases h0 : (n + 1) % 4 = 0
    · exact first ⟨n + 1, hn⟩ h0 r d
    · have hd : (n + 1) / 4 = n / 4 := by omega
      rw [outsAt0_B m c ⟨n + 1, hn⟩ h0]
      dsimp only [sout0_B_0]
      simp only [Nat.add_sub_cancel, ih (Nat.lt_of_succ_lt hn), hd]

/-- What a point leaves in the output block. -/
theorem out_eq (t : Fin cfg0.N) (r : Fin 1024) (j : Fin 1408) :
    (outsAt0 m c t.val t.isLt).1 (ix2 r j)
      = project (argX m c ⟨1024 * (t.val / 4) + r.val, row_lt t r⟩) (argG m c) (fun d => spreadW m c d ⟨1408 * (t.val % 4) + j.val, col_lt _ j⟩) := by
  unfold project
  by_cases h0 : t.val % 4 = 0
  · rw [outsAt0_A m c t h0]
    dsimp only
    rw [out_first, product_apply]
    exact Finset.sum_congr rfl fun d _ => by rw [norm_eq, winW]
  · rw [outsAt0_B m c t h0]
    dsimp only
    rw [out_later, product_apply]
    have hd : (t.val - 1) / 4 = t.val / 4 := by omega
    refine Finset.sum_congr rfl fun d _ => ?_
    rw [winW, scratch_eq]
    simp only [hd]

/-- The array the run leaves. -/
def result : FVec Ideal S8192x5632 .f32 := fun i => project (argX m c (i 0)) (argG m c) (fun d => spreadW m c d (i 1))

theorem final : (dats m 0 c).arrAt 3 cfg0.N = result m c := by
  refine (dats m 0 c).arrAt_eq_of_covers 3 _ (by decide +kernel) fun t hf y => ?_
  blk_simp
  rw [after0_3]
  obtain ⟨r, j, rfl⟩ : ∃ (r : Fin 1024) (j : Fin 1408), y = ix2 r j := ⟨y 0, y 1, funext fun a => by fin_cases a <;> rfl⟩
  rw [out_eq m c t]
  unfold result
  refine congrArg₂ (fun r j => project (argX m c r) (argG m c) fun d => spreadW m c d j) (Fin.ext ?_) (Fin.ext ?_)
  · show 1024 * (t.val / 4) + r.val = _
    blk_simp [(index_maps t).2.2.2]
    omega
  · show 1408 * (t.val % 4) + j.val = _
    blk_simp [(index_maps t).2.2.2]
    omega

/-! ## The columns the host cuts out -/

theorem cut_first (W : Valuation τ sig (Elt Ideal)) (b : Fin 2) (p : Fin 4096) (j : Fin 4960) :
    (StableHlo.after hostOps1 W (Proc.devRef .tc main_v11) : FVec Ideal S2x4096x4960 .f32) (ix3 b p j)
      = (W (Proc.devRef .tc main_v9) : FVec Ideal S8192x5632 .f32) (ix2 ⟨b.val * 4096 + p.val, by omega⟩ ⟨j.val, by omega⟩) := by
  after_reads_at
theorem cut_second (W : Valuation τ sig (Elt Ideal)) (b : Fin 2) (p : Fin 4096) (j : Fin 512) :
    (StableHlo.after hostOps1 W (Proc.devRef .tc main_v12) : FVec Ideal S2x4096x512 .f32) (ix3 b p j)
      = (W (Proc.devRef .tc main_v9) : FVec Ideal S8192x5632 .f32) (ix2 ⟨b.val * 4096 + p.val, by omega⟩ ⟨5120 + j.val, by omega⟩) := by
  after_reads_at

/-! ## The claim -/

open Cert.Reference4Ideal Cert.Reference4Ideal.Read in
/-- The reference's projection at an index. -/
theorem reference_apply (x0 : FVec Ideal S2x4096x2048 .f32) (x1 : FVec Ideal S2048 .f32) (x2 : FVec Ideal S2048x5472 .f32)
    (b : Fin 2) (p : Fin 4096) (j : Fin 5472) :
    val_main_v13 (F := Ideal) x0 x1 x2 (ix3 b p j)
      = project (fun d => x0 (ix3 b p d)) (fun d => x1 (ix1 d)) (fun d => x2 (ix2 d j)) := by
  unfold project rms
  pointwise [val_main_v13, val_main_v12, val_main_v11, val_main_v10, val_main_v9, val_main_v8, val_main_v7, val_main_v6, val_main_v5,
    val_main_v4, val_main_v3, val_main_v2, val_main_v1, val_main_v0, val_main_cst, val_main_cst_0, val_main_cst_1]

/-- The array the run leaves at a row of one batch entry. -/
theorem result_apply (b : Fin 2) (p : Fin 4096) (j : Fin 5632) (k : Fin 5472) (hw : ∀ d, spreadW m c d j = argW m c d k) :
    result m c (ix2 ⟨b.val * 4096 + p.val, by omega⟩ j)
      = project (fun d => (m ((c : Thread nD τ).loc main_arg0) : FVec Ideal S2x4096x2048 .f32) (ix3 b p d)) (argG m c) (fun d => argW m c d k) := by
  refine congrArg₂ (fun x w => project x (argG m c) w) (funext fun d => ?_) (funext hw)
  unfold argX
  refine congrArg _ (funext fun a => Fin.ext ?_)
  match a with
  | ⟨0, _⟩ => show (b.val * 4096 + p.val) / 4096 = b.val; omega
  | ⟨1, _⟩ => show (b.val * 4096 + p.val) % 4096 = p.val; omega
  | ⟨2, _⟩ => rfl

theorem distinct_arrays : Function.Injective (Pipeline.arrRef spec0) := by decide

/-- What the host's lines leave in the two results. -/
theorem tail_first (b : Fin 2) (p : Fin 4096) (j : Fin 4960) :
    (Pipeline.afterTail₀ cfgs (dats m) 0 (V0 m) [hostOps1] c main_v11 : FVec Ideal S2x4096x4960 .f32) (ix3 b p j)
      = project (fun d => (m ((c : Thread nD τ).loc main_arg0) : FVec Ideal S2x4096x2048 .f32) (ix3 b p d)) (argG m c)
          (fun d => argW m c d ⟨j.val, by omega⟩) := by
  unfold Pipeline.afterTail₀
  refine (cut_first _ b p j).trans ?_
  rw [show ∀ V A, Pipeline.withArrays spec0 c V A (Proc.devRef .tc main_v9) = A 3 from fun V A => Pipeline.withArrays_arr spec0 distinct_arrays c V A 3]
  refine (congrFun (final m c) _).trans (result_apply m c b p _ _ fun d => ?_)
  rw [spread_eq, dif_neg (by dsimp only; omega), dif_pos (by dsimp only; omega)]
  rfl
theorem tail_second (b : Fin 2) (p : Fin 4096) (j : Fin 512) :
    (Pipeline.afterTail₀ cfgs (dats m) 0 (V0 m) [hostOps1] c main_v12 : FVec Ideal S2x4096x512 .f32) (ix3 b p j)
      = project (fun d => (m ((c : Thread nD τ).loc main_arg0) : FVec Ideal S2x4096x2048 .f32) (ix3 b p d)) (argG m c)
          (fun d => argW m c d ⟨4960 + j.val, by omega⟩) := by
  unfold Pipeline.afterTail₀
  refine (cut_second _ b p j).trans ?_
  rw [show ∀ V A, Pipeline.withArrays spec0 c V A (Proc.devRef .tc main_v9) = A 3 from fun V A => Pipeline.withArrays_arr spec0 distinct_arrays c V A 3]
  refine (congrFun (final m c) _).trans (result_apply m c b p _ _ fun d => ?_)
  rw [spread_eq, dif_pos (by dsimp only; omega)]
  exact congrArg (argW m c d) (Fin.ext (by dsimp only; omega))

/-- The two programs, over the extended reals, from memories with equal arguments, end with equal results. -/
theorem equal_results [Cert.Kernel4Ideal.Facts] [Cert.Reference4Ideal.Facts] :
    Cert.algebraic_Kernel4Ideal_Reference4Ideal := by
  intro m g m' g' _ hargs
  refine ⟨fun c => Pipeline.afterTail₀ cfgs (dats m) 0 (V0 m) [hostOps1] c main_v11,
    fun c => Pipeline.afterTail₀ cfgs (dats m) 0 (V0 m) [hostOps1] c main_v12, ?_, ?_⟩
  · refine (θ_run _ _ _).mono (fun r h c => ?_) (θ_run_and (run_main m g) (unchanged m g))
    exact ⟨(h.1 c).2 main_v11 (Pipeline.mem_restRefs_of main_v11 (by decide) (by decide)),
      (h.1 c).2 main_v12 (Pipeline.mem_restRefs_of main_v12 (by decide) (by decide)), h.2 c⟩
  · refine (θ_run _ _ _).mono (fun r h c => ?_) (Cert.Reference4Ideal.Value.run m' g')
    obtain ⟨h0, h1, h2⟩ := h c
    obtain ⟨a0, a1, a2⟩ := hargs c
    refine ⟨h0.trans ?_, h1.trans ?_, h2⟩
    · rw [Cert.Reference4Ideal.Read.val_main_v14_eq, a0, a1, a2]
      funext i
      obtain ⟨b, p, j, rfl⟩ : ∃ (b : Fin 2) (p : Fin 4096) (j : Fin 4960), i = ix3 b p j :=
        ⟨i 0, i 1, i 2, funext fun a => by fin_cases a <;> rfl⟩
      refine Eq.trans ?_ (tail_first m c b p j).symm
      refine Eq.trans ?_ (reference_apply _ _ _ b p ⟨j.val, by omega⟩)
      pointwise [Cert.Reference4Ideal.Read.val_main_v14]
    · rw [Cert.Reference4Ideal.Read.val_main_v15_eq, a0, a1, a2]
      funext i
      obtain ⟨b, p, j, rfl⟩ : ∃ (b : Fin 2) (p : Fin 4096) (j : Fin 512), i = ix3 b p j :=
        ⟨i 0, i 1, i 2, funext fun a => by fin_cases a <;> rfl⟩
      refine Eq.trans ?_ (tail_second m c b p j).symm
      refine Eq.trans ?_ (reference_apply _ _ _ b p ⟨4960 + j.val, by omega⟩)
      pointwise [Cert.Reference4Ideal.Read.val_main_v15]

end Cert.Kernel4Ideal.Wide
-- ==== Proof.MixValue.lean ====
/-
  The output mix: the kernel's points, the windows, the array the run leaves, and the reference, all read down to a row of the
  tokens' and the memory's results against the weights, normalized and added to the frames.
-/
module

public import proofs.«01_k».proof.Proof.Rows
public import proofs.«01_k».proof.Proof.Gen.Kernel5Ideal.Value
public import proofs.«01_k».proof.Proof.Gen.Reference5Ideal.Read
public import proofs.«01_k».proof.Proof.Gen.Reference5Ideal.Run
public import proofs.«01_k».proof.Defs
public import Idealize.ShloMosaic.Lib.Pipeline.ValueKit
public import Idealize.ShloMosaic.Lib.Claim
public import Idealize.ShloMosaic.Lib.StableHlo.ReadAt

@[expose] public section

set_option maxRecDepth 16384

noncomputable section

namespace Cert.Kernel5Ideal.Mix

open Cert.Rows Cert.Kernel5Ideal Cert.Kernel5Ideal.Gen Idealize.ShloMosaic Idealize.ShloMosaic.TcCoe Idealize.SL.Sem

theorem zero2 : (![0, 0] : Fin 2 → Nat) = fun _ => 0 := funext fun a => by fin_cases a <;> rfl
theorem zero3 : (![0, 0, 0] : Fin 3 → Nat) = fun _ => 0 := funext fun a => by fin_cases a <;> rfl

/-- A row of the tokens' results and the memory's against the two parts of the weights' rows. -/
def mixed (tok : Fin 1536 → EReal) (mem : Fin 512 → EReal) (w : Fin 2048 → Fin 2048 → EReal) (j : Fin 2048) : EReal :=
  (∑ d : Fin 1536, tok d * w ⟨d.val, by omega⟩ j) + ∑ d : Fin 512, mem d * w ⟨1536 + d.val, by omega⟩ j

section run

variable {F : FTy → Type} [FloatOps F]

/-- What a point leaves in the output block. -/
theorem out_point (c : Dev nD) (i : grid0.Coords) (arg1 : Memref sig .tc .vmem S512x1536 .bf16) (harg1 : arg1.IsWhole)
    (arg2 : Memref sig .tc .vmem S512x512 .bf16) (harg2 : arg2.IsWhole) (arg3 : Memref sig .tc .vmem S1x1536x2048 .bf16) (harg3 : arg3.IsWhole)
    (arg4 : Memref sig .tc .vmem S1x512x2048 .bf16) (harg4 : arg4.IsWhole) (arg5 : Memref sig .tc .vmem S1x1x2048 .f32) (harg5 : arg5.IsWhole)
    (arg6 : Memref sig .tc .vmem S512x2048 .f32) (harg6 : arg6.IsWhole) (arg7 : Memref sig .tc .vmem S512x2048 .f32) (harg7 : arg7.IsWhole)
    (x0 : Vec F S512x1536 .bf16) (x1 : Vec F S512x512 .bf16) (x2 : Vec F S1x1536x2048 .bf16) (x3 : Vec F S1x512x2048 .bf16)
    (x4 : Vec F S1x1x2048 .f32) (x5 : Vec F S512x2048 .f32) :
    out0_A_6 c i arg1 harg1 arg2 harg2 arg3 harg3 arg4 harg4 arg5 harg5 arg6 harg6 arg7 harg7 x0 x1 x2 x3 x4 x5 = k0_pay1 x0 x2 x1 x3 x5 x4 := by
  unfold out0_A_6
  rw [View.read_writes_eq_canon _ _ _ (cover0_A_6 c i arg1 harg1 arg2 harg2 arg3 harg3 arg4 harg4 arg5 harg5 arg6 harg6 arg7 harg7 x0 x1 x2 x3 x4 x5)]
  unfold kernelRun0_A
  dsimp only
  sl_unfold_words
  rw [View.canon_unit_zero zero2]
  simp only [View.readAt_eq_ld, harg1.read_unread, harg2.read_unread, harg3.read_unread, harg4.read_unread, harg5.read_unread,
    harg6.read_unread, View.ld_unit_zero (S := S512x1536) zero2, View.ld_unit_zero (S := S512x512) zero2,
    View.ld_unit_zero (S := S512x2048) zero2, View.ld_unit_zero (S := S1x1536x2048) zero3, View.ld_unit_zero (S := S1x512x2048) zero3,
    View.ld_unit_zero (S := S1x1x2048) zero3]

end run

theorem point_apply (tok : Vec Ideal S512x1536 .bf16) (wt : Vec Ideal S1x1536x2048 .bf16) (mem : Vec Ideal S512x512 .bf16)
    (wm : Vec Ideal S1x512x2048 .bf16) (x : Vec Ideal S512x2048 .f32) (g : Vec Ideal S1x1x2048 .f32) (r : Fin 512) (j : Fin 2048) :
    k0_pay1 tok wt mem wm x g (ix2 r j)
      = x (ix2 r j) + rms (fun j => (∑ d : Fin 1536, tok (ix2 r d) * wt (ix3 0 d j)) + ∑ d : Fin 512, mem (ix2 r d) * wm (ix3 0 d j))
          (fun j => g (ix3 0 0 j)) j := by
  unfold rms
  pointwise [k0_pay1]

/-! ## The windows -/

variable (m : (ℓ : Loc nD τ sig) → Buf (Elt Ideal) ℓ) (c : Dev nD)

def argTok (r : Fin 8192) (d : Fin 1536) : EReal := (m ((c : Thread nD τ).loc main_arg0) : FVec Ideal S8192x1536 .bf16) (ix2 r d)
def argMem (r : Fin 8192) (d : Fin 512) : EReal := (m ((c : Thread nD τ).loc main_arg1) : FVec Ideal S8192x512 .bf16) (ix2 r d)
def argW (d j : Fin 2048) : EReal := (m ((c : Thread nD τ).loc main_arg2) : FVec Ideal S2048x2048 .f32) (ix2 d j)
def argG (d : Fin 2048) : EReal := (m ((c : Thread nD τ).loc main_arg3) : FVec Ideal S2048 .f32) (ix1 d)
/-- Row `r` of the frames, both batch entries one after the other. -/
def argX (r : Fin 8192) (d : Fin 2048) : EReal :=
  (m ((c : Thread nD τ).loc main_arg4) : FVec Ideal S2x4096x2048 .f32) (ix3 ⟨r.val / 4096, by omega⟩ ⟨r.val % 4096, by omega⟩ d)

theorem entryTok (r : Fin 8192) (d : Fin 1536) : (V m c main_arg0 : FVec Ideal S8192x1536 .bf16) (ix2 r d) = argTok m c r d := by
  unfold V argTok
  after_reads_at
theorem entryMem (r : Fin 8192) (d : Fin 512) : (V m c main_arg1 : FVec Ideal S8192x512 .bf16) (ix2 r d) = argMem m c r d := by
  unfold V argMem
  after_reads_at
theorem entryW (d j : Fin 2048) : (V m c main_v1 : FVec Ideal S1x2048x2048 .bf16) (ix3 0 d j) = argW m c d j := by
  unfold V argW
  after_reads_at
theorem entryG (d : Fin 2048) : (V m c main_v2 : FVec Ideal S1x1x2048 .f32) (ix3 0 0 d) = argG m c d := by
  unfold V argG
  after_reads_at
theorem entryX (r : Fin 8192) (d : Fin 2048) : (V m c main_v3 : FVec Ideal S8192x2048 .f32) (ix2 r d) = argX m c r d := by
  unfold V argX
  after_reads_at

/-- The index maps over the grid. -/
theorem index_maps : ∀ t : Fin grid0.N, win0_0.index t = ![t.val, 0] ∧ win0_1.index t = ![t.val, 0] ∧ win0_2.index t = ![0, 0, 0]
    ∧ win0_3.index t = ![0, 3, 0] ∧ win0_4.index t = ![0, 0, 0] ∧ win0_5.index t = ![t.val, 0] ∧ win0_6.index t = ![t.val, 0] := by
  decide +kernel

theorem row_lt (t : Fin cfg0.N) (r : Fin 512) : 512 * t.val + r.val < 8192 := by
  have h : t.val < 16 := lt_of_lt_of_eq t.isLt N_0
  omega

theorem winTok (t : Fin cfg0.N) (r : Fin 512) (d : Fin 1536) :
    (iblk m c 0 t : FVec Ideal S512x1536 .bf16) (ix2 r d) = argTok m c ⟨512 * t.val + r.val, row_lt t r⟩ d := by
  rw [← entryTok]
  blk_ext [iblk, (index_maps t).1]
theorem winMem (t : Fin cfg0.N) (r d : Fin 512) :
    (iblk m c 1 t : FVec Ideal S512x512 .bf16) (ix2 r d) = argMem m c ⟨512 * t.val + r.val, row_lt t r⟩ d := by
  rw [← entryMem]
  blk_ext [iblk, (index_maps t).2.1]
theorem winWTok (t : Fin cfg0.N) (d : Fin 1536) (j : Fin 2048) :
    (X0_2 m c t : FVec Ideal S1x1536x2048 .bf16) (ix3 0 d j) = argW m c ⟨d.val, by omega⟩ j := by
  rw [← entryW]
  unfold X0_2 Pipeline.Window.fill
  rw [dif_pos (moved0_2 t _)]
  blk_ext [iblk, (index_maps t).2.2.1]
theorem winWMem (t : Fin cfg0.N) (d : Fin 512) (j : Fin 2048) :
    (iblk m c 3 t : FVec Ideal S1x512x2048 .bf16) (ix3 0 d j) = argW m c ⟨1536 + d.val, by omega⟩ j := by
  rw [← entryW]
  blk_ext [iblk, (index_maps t).2.2.2.1]
theorem winG (t : Fin cfg0.N) (d : Fin 2048) : (iblk m c 4 t : FVec Ideal S1x1x2048 .f32) (ix3 0 0 d) = argG m c d := by
  rw [← entryG]
  blk_ext [iblk, (index_maps t).2.2.2.2.1]
theorem winX (t : Fin cfg0.N) (r : Fin 512) (d : Fin 2048) :
    (iblk m c 5 t : FVec Ideal S512x2048 .f32) (ix2 r d) = argX m c ⟨512 * t.val + r.val, row_lt t r⟩ d := by
  rw [← entryX]
  blk_ext [iblk, (index_maps t).2.2.2.2.2.1]

/-- The array the run leaves. -/
def result : FVec Ideal S8192x2048 .f32 :=
  fun i => argX m c (i 0) (i 1) + rms (mixed (argTok m c (i 0)) (argMem m c (i 0)) (argW m c)) (argG m c) (i 1)

/-- What a point leaves in the output block. -/
theorem out_eq (t : Fin cfg0.N) (r : Fin 512) (j : Fin 2048) :
    outsAt0 m c t (ix2 r j) = result m c (ix2 ⟨512 * t.val + r.val, row_lt t r⟩ j) := by
  unfold outsAt0
  rw [out_point, point_apply]
  refine congrArg₂ (· + ·) (winX m c t r j) (congrFun (congrArg₂ rms (funext fun j => ?_) (funext fun d => winG m c t d)) j)
  exact congrArg₂ (· + ·) (Finset.sum_congr rfl fun d _ => congrArg₂ (· * ·) (winTok m c t r d) (winWTok m c t d j))
    (Finset.sum_congr rfl fun d _ => congrArg₂ (· * ·) (winMem m c t r d) (winWMem m c t d j))

theorem final : (dats m 0 c).arrAt 6 cfg0.N = result m c := by
  refine (dats m 0 c).arrAt_eq_of_covers 6 _ (by decide +kernel) fun t hf y => ?_
  blk_simp
  rw [after0_6]
  obtain ⟨r, j, rfl⟩ : ∃ (r : Fin 512) (j : Fin 2048), y = ix2 r j := ⟨y 0, y 1, funext fun a => by fin_cases a <;> rfl⟩
  rw [out_eq m c t]
  refine congrArg (result m c) (funext fun a => Fin.ext ?_)
  match a with
  | ⟨0, _⟩ =>
    show 512 * t.val + r.val = _
    blk_simp [(index_maps t).2.2.2.2.2.2]
    omega
  | ⟨1, _⟩ =>
    show j.val = _
    blk_simp [(index_maps t).2.2.2.2.2.2]

/-! ## The claim -/

open Cert.Reference5Ideal Cert.Reference5Ideal.Read in
/-- The reference's product of the joined row. -/
theorem joined_apply (x0 : FVec Ideal S8192x1536 .bf16) (x1 : FVec Ideal S8192x512 .bf16) (x2 : FVec Ideal S2048x2048 .f32)
    (r : Fin 8192) (j : Fin 2048) :
    val_main_v1 (F := Ideal) x0 x1 x2 (ix2 r j) = mixed (fun d => x0 (ix2 r d)) (fun d => x1 (ix2 r d)) (fun d j => x2 (ix2 d j)) j := by
  unfold mixed
  pointwise [val_main_v1, val_main_v0]

open Cert.Reference5Ideal Cert.Reference5Ideal.Read in
/-- The reference's last array at an index. -/
theorem reference_apply (x0 : FVec Ideal S8192x1536 .bf16) (x1 : FVec Ideal S8192x512 .bf16) (x2 : FVec Ideal S2048x2048 .f32)
    (x3 : FVec Ideal S2048 .f32) (x4 : FVec Ideal S2x4096x2048 .f32) (r : Fin 8192) (j : Fin 2048) :
    val_main_v16 (F := Ideal) x0 x1 x2 x3 x4 (ix2 r j)
      = x4 (ix3 ⟨r.val / 4096, by omega⟩ ⟨r.val % 4096, by omega⟩ j)
        + rms (mixed (fun d => x0 (ix2 r d)) (fun d => x1 (ix2 r d)) (fun d j => x2 (ix2 d j))) (fun d => x3 (ix1 d)) j := by
  unfold rms
  simp only [← joined_apply]
  pointwise [val_main_v16, val_main_v15, val_main_v14, val_main_v13, val_main_v12, val_main_v11, val_main_v10, val_main_v9, val_main_v8, val_main_v7, val_main_v6, val_main_v5,
    val_main_v4, val_main_v3, val_main_v2, val_main_cst, val_main_cst_0, val_main_cst_1]

/-- The two programs, over the extended reals, from memories with equal arguments, end with equal results. -/
theorem equal_results [Cert.Kernel5Ideal.Facts] [Cert.Reference5Ideal.Facts] :
    Cert.algebraic_Kernel5Ideal_Reference5Ideal := by
  intro m g m' g' _ hargs
  refine ⟨fun c => result m c, ?_, ?_⟩
  · refine (θ_run _ _ _).mono (fun r h c => ?_) (Cert.Kernel5Ideal.Value.run_blocks m g)
    obtain ⟨h0, h1⟩ := h c
    exact ⟨h0.trans (final m c), h1⟩
  · refine (θ_run _ _ _).mono (fun r h c => ?_) (Cert.Reference5Ideal.Value.run m' g')
    obtain ⟨h0, h1⟩ := h c
    obtain ⟨a0, a1, a2, a3, a4⟩ := hargs c
    refine ⟨h0.trans ?_, h1⟩
    rw [Cert.Reference5Ideal.Read.val_main_v16_eq, a0, a1, a2, a3, a4]
    funext i
    obtain ⟨r, j, rfl⟩ : ∃ (r : Fin 8192) (j : Fin 2048), i = ix2 r j := ⟨i 0, i 1, funext fun a => by fin_cases a <;> rfl⟩
    exact reference_apply _ _ _ _ _ r j

end Cert.Kernel5Ideal.Mix
-- ==== Proof.QueryValue.lean ====
/-
  The attention layers' input projection: the kernel's points, the windows, the array the run leaves, and the reference, all
  read down to normalized rows against columns.
-/
module

public import proofs.«01_k».proof.Proof.Rows
public import proofs.«01_k».proof.Proof.Gen.Kernel6Ideal.Value
public import proofs.«01_k».proof.Proof.Gen.Reference6Ideal.Read
public import proofs.«01_k».proof.Proof.Gen.Reference6Ideal.Run
public import proofs.«01_k».proof.Defs
public import Idealize.ShloMosaic.Lib.Pipeline.ValueKit
public import Idealize.ShloMosaic.Lib.Claim
public import Idealize.ShloMosaic.Lib.StableHlo.ReadAt

@[expose] public section

set_option maxRecDepth 16384

noncomputable section

namespace Cert.Kernel6Ideal.Query

open Cert.Rows Cert.Kernel6Ideal Cert.Kernel6Ideal.Gen Idealize.ShloMosaic Idealize.ShloMosaic.TcCoe Idealize.SL.Sem

theorem zero2 : (![0, 0] : Fin 2 → Nat) = fun _ => 0 := funext fun a => by fin_cases a <;> rfl
theorem zero3 : (![0, 0, 0] : Fin 3 → Nat) = fun _ => 0 := funext fun a => by fin_cases a <;> rfl

section run

variable {F : FTy → Type} [FloatOps F]
variable (c : Dev nD) (i : grid0.Coords) (arg2 : Memref sig .tc .vmem S1024x2048 .f32) (harg2 : arg2.IsWhole)
  (arg3 : Memref sig .tc .vmem S1x1x2048 .f32) (harg3 : arg3.IsWhole) (arg4 : Memref sig .tc .vmem S1x2048x1024 .bf16) (harg4 : arg4.IsWhole)
  (arg5 : Memref sig .tc .vmem S1024x1024 .f32) (harg5 : arg5.IsWhole) (arg6 : Memref sig .tc .vmem S1024x2048 .bf16) (harg6 : arg6.IsWhole)
  (x0 : Vec F S1024x2048 .f32) (x1 : Vec F S1x1x2048 .f32) (x2 : Vec F S1x2048x1024 .bf16) (xs : Vec F S1024x2048 .bf16)

/-- A row block's first point leaves the normalized rows in the scratch. -/
theorem scratch_first (hc0 : cond0_0 i) :
    sout0_A_0 c i arg2 harg2 arg3 harg3 arg4 harg4 arg5 harg5 arg6 harg6 hc0 x0 x1 x2 = k0_pay1 x0 x1 := by
  unfold sout0_A_0
  rw [View.read_writes_eq_canon _ _ _ (scover0_A_0 c i arg2 harg2 arg3 harg3 arg4 harg4 arg5 harg5 arg6 harg6 hc0 x0 x1 x2)]
  unfold kernelRun0_A
  dsimp only
  sl_unfold_words
  rw [View.canon_unit_zero zero2]
  simp only [View.readAt_eq_ld, harg2.read_unread, harg3.read_unread, View.ld_unit_zero (S := S1024x2048) zero2,
    View.ld_unit_zero (S := S1x1x2048) zero3]

/-- A row block's first point leaves the product of the normalized rows. -/
theorem out_first (hc0 : cond0_0 i) :
    out0_A_3 c i arg2 harg2 arg3 harg3 arg4 harg4 arg5 harg5 arg6 harg6 hc0 x0 x1 x2 = k0_pay2 (k0_pay1 x0 x1) x2 := by
  unfold out0_A_3
  rw [View.read_writes_eq_canon _ _ _ (cover0_A_3 c i arg2 harg2 arg3 harg3 arg4 harg4 arg5 harg5 arg6 harg6 hc0 x0 x1 x2)]
  unfold kernelRun0_A
  dsimp only
  sl_unfold_words
  rw [View.canon_unit_zero (S := S1024x1024) zero2, View.readCov_unit_zero (S := S1024x2048) _ zero2]
  simp only [View.readAt_eq_ld, harg2.read_unread, harg3.read_unread, harg4.read_unread, View.ld_unit_zero (S := S1024x2048) zero2,
    View.ld_unit_zero (S := S1x1x2048) zero3, View.ld_unit_zero (S := S1x2048x1024) zero3]

/-- A later point leaves the product of the rows in the scratch. -/
theorem out_later (hc0 : ¬cond0_0 i) :
    out0_B_3 c i arg2 harg2 arg3 harg3 arg4 harg4 arg5 harg5 arg6 harg6 hc0 x0 x1 x2 xs = k0_pay2 xs x2 := by
  unfold out0_B_3
  rw [View.read_writes_eq_canon _ _ _ (cover0_B_3 c i arg2 harg2 arg3 harg3 arg4 harg4 arg5 harg5 arg6 harg6 hc0 x0 x1 x2 xs)]
  unfold kernelRun0_B
  dsimp only
  sl_unfold_words
  rw [View.canon_unit_zero (S := S1024x1024) zero2]
  simp only [View.readAt_eq_ld, harg4.read_unread, harg6.read_unread, View.ld_unit_zero (S := S1024x2048) zero2,
    View.ld_unit_zero (S := S1x2048x1024) zero3]

end run

theorem norm_apply (x : Vec Ideal S1024x2048 .f32) (g : Vec Ideal S1x1x2048 .f32) (r : Fin 1024) (d : Fin 2048) :
    k0_pay1 x g (ix2 r d) = rms (fun d => x (ix2 r d)) (fun d => g (ix3 0 0 d)) d := by
  unfold rms
  pointwise [k0_pay1]

theorem product_apply (h : Vec Ideal S1024x2048 .bf16) (w : Vec Ideal S1x2048x1024 .bf16) (r : Fin 1024) (j : Fin 1024) :
    k0_pay2 h w (ix2 r j) = ∑ d : Fin 2048, h (ix2 r d) * w (ix3 0 d j) := by
  pointwise [k0_pay2]

/-! ## The windows -/

variable (m : (ℓ : Loc nD τ sig) → Buf (Elt Ideal) ℓ) (c : Dev nD)

/-- Row `r` of the frames, both batch entries one after the other. -/
def argX (r : Fin 8192) (d : Fin 2048) : EReal :=
  (m ((c : Thread nD τ).loc main_arg0) : FVec Ideal S2x4096x2048 .f32) (ix3 ⟨r.val / 4096, by omega⟩ ⟨r.val % 4096, by omega⟩ d)
def argG (d : Fin 2048) : EReal := (m ((c : Thread nD τ).loc main_arg1) : FVec Ideal S2048 .f32) (ix1 d)
def argW (d j : Fin 2048) : EReal := (m ((c : Thread nD τ).loc main_arg2) : FVec Ideal S2048x2048 .f32) (ix2 d j)

theorem entryX (r : Fin 8192) (d : Fin 2048) : (V m c main_v0 : FVec Ideal S8192x2048 .f32) (ix2 r d) = argX m c r d := by
  unfold V argX
  after_reads_at
theorem entryG (d : Fin 2048) : (V m c main_v1 : FVec Ideal S1x1x2048 .f32) (ix3 0 0 d) = argG m c d := by
  unfold V argG
  after_reads_at
theorem entryW (d j : Fin 2048) : (V m c main_v3 : FVec Ideal S1x2048x2048 .bf16) (ix3 0 d j) = argW m c d j := by
  unfold V argW
  after_reads_at

/-- The index maps over the grid. -/
theorem index_maps : ∀ t : Fin grid0.N, win0_0.index t = ![t.val / 2, 0] ∧ win0_1.index t = ![0, 0, 0] ∧ win0_2.index t = ![0, 0, t.val % 2]
    ∧ win0_3.index t = ![t.val / 2, t.val % 2] := by
  decide +kernel

theorem row_lt (t : Fin cfg0.N) (r : Fin 1024) : 1024 * (t.val / 2) + r.val < 8192 := by
  have h : t.val < 16 := lt_of_lt_of_eq t.isLt N_0
  omega
theorem col_lt (n : ℕ) (j : Fin 1024) : 1024 * (n % 2) + j.val < 2048 := by omega

theorem winX (t : Fin cfg0.N) (r : Fin 1024) (d : Fin 2048) :
    (iblk m c 0 t : FVec Ideal S1024x2048 .f32) (ix2 r d) = argX m c ⟨1024 * (t.val / 2) + r.val, row_lt t r⟩ d := by
  rw [← entryX]
  blk_ext [iblk, (index_maps t).1]
theorem winG (t : Fin cfg0.N) (d : Fin 2048) : (iblk m c 1 t : FVec Ideal S1x1x2048 .f32) (ix3 0 0 d) = argG m c d := by
  rw [← entryG]
  blk_ext [iblk, (index_maps t).2.1]
theorem winW (t : Fin cfg0.N) (d : Fin 2048) (j : Fin 1024) :
    (iblk m c 2 t : FVec Ideal S1x2048x1024 .bf16) (ix3 0 d j) = argW m c d ⟨1024 * (t.val % 2) + j.val, col_lt _ j⟩ := by
  rw [← entryW]
  blk_ext [iblk, (index_maps t).2.2.1]

/-- The normalized rows a block's first point puts in the scratch. -/
theorem norm_eq (t : Fin cfg0.N) (r : Fin 1024) (d : Fin 2048) :
    k0_pay1 (iblk m c 0 t : FVec Ideal S1024x2048 .f32) (iblk m c 1 t : FVec Ideal S1x1x2048 .f32) (ix2 r d)
      = rms (argX m c ⟨1024 * (t.val / 2) + r.val, row_lt t r⟩) (argG m c) d := by
  rw [norm_apply]
  exact congrFun (congrArg₂ rms (funext fun d => winX m c t r d) (funext fun d => winG m c t d)) d

/-- After every point the scratch holds the block's normalized rows. -/
theorem scratch_eq (n : ℕ) : ∀ (hn : n < cfg0.N) (r : Fin 1024) (d : Fin 2048),
    (outsAt0 m c n hn).2 (ix2 r d) = rms (argX m c ⟨1024 * (n / 2) + r.val, row_lt ⟨n, hn⟩ r⟩) (argG m c) d := by
  have first : ∀ (t : Fin cfg0.N), t.val % 2 = 0 → ∀ (r : Fin 1024) (d : Fin 2048),
      (outsAt0 m c t.val t.isLt).2 (ix2 r d) = rms (argX m c ⟨1024 * (t.val / 2) + r.val, row_lt t r⟩) (argG m c) d := by
    intro t h0 r d
    rw [outsAt0_A m c t h0]
    dsimp only
    rw [scratch_first, norm_eq]
  induction n with
  | zero => exact fun hn => first ⟨0, hn⟩ rfl
  | succ n ih =>
    intro hn r d
    by_cases h0 : (n + 1) % 2 = 0
    · exact first ⟨n + 1, hn⟩ h0 r d
    · have hd : (n + 1) / 2 = n / 2 := by omega
      rw [outsAt0_B m c ⟨n + 1, hn⟩ h0]
      dsimp only [sout0_B_0]
      simp only [Nat.add_sub_cancel, ih (Nat.lt_of_succ_lt hn), hd]

/-- What a point leaves in the output block. -/
theorem out_eq (t : Fin cfg0.N) (r j : Fin 1024) :
    (outsAt0 m c t.val t.isLt).1 (ix2 r j)
      = project (argX m c ⟨1024 * (t.val / 2) + r.val, row_lt t r⟩) (argG m c) (fun d => argW m c d ⟨1024 * (t.val % 2) + j.val, col_lt _ j⟩) := by
  unfold project
  by_cases h0 : t.val % 2 = 0
  · rw [outsAt0_A m c t h0]
    dsimp only
    rw [out_first, product_apply]
    exact Finset.sum_congr rfl fun d _ => by rw [norm_eq, winW]
  · rw [outsAt0_B m c t h0]
    dsimp only
    rw [out_later, product_apply]
    have hd : (t.val - 1) / 2 = t.val / 2 := by omega
    refine Finset.sum_congr rfl fun d _ => ?_
    rw [winW, scratch_eq]
    simp only [hd]

/-- The array the run leaves. -/
def result : FVec Ideal S8192x2048 .f32 := fun i => project (argX m c (i 0)) (argG m c) (fun d => argW m c d (i 1))

theorem final : (dats m 0 c).arrAt 3 cfg0.N = result m c := by
  refine (dats m 0 c).arrAt_eq_of_covers 3 _ (by decide +kernel) fun t hf y => ?_
  blk_simp
  rw [after0_3]
  obtain ⟨r, j, rfl⟩ : ∃ (r : Fin 1024) (j : Fin 1024), y = ix2 r j := ⟨y 0, y 1, funext fun a => by fin_cases a <;> rfl⟩
  rw [out_eq m c t]
  unfold result
  refine congrArg₂ (fun r j => project (argX m c r) (argG m c) fun d => argW m c d j) (Fin.ext ?_) (Fin.ext ?_)
  · show 1024 * (t.val / 2) + r.val = _
    blk_simp [(index_maps t).2.2.2]
    omega
  · show 1024 * (t.val % 2) + j.val = _
    blk_simp [(index_maps t).2.2.2]
    omega

/-! ## The claim -/

open Cert.Reference6Ideal Cert.Reference6Ideal.Read in
/-- The reference's last array at an index. -/
theorem reference_apply (x0 : FVec Ideal S2x4096x2048 .f32) (x1 : FVec Ideal S2048 .f32) (x2 : FVec Ideal S2048x2048 .f32)
    (r : Fin 8192) (j : Fin 2048) :
    val_main_v14 (F := Ideal) x0 x1 x2 (ix2 r j)
      = project (fun d => x0 (ix3 ⟨r.val / 4096, by omega⟩ ⟨r.val % 4096, by omega⟩ d)) (fun d => x1 (ix1 d)) (fun d => x2 (ix2 d j)) := by
  unfold project rms
  pointwise [val_main_v14, val_main_v13, val_main_v12, val_main_v11, val_main_v10, val_main_v9, val_main_v8, val_main_v7, val_main_v6, val_main_v5,
    val_main_v4, val_main_v3, val_main_v2, val_main_v1, val_main_v0, val_main_cst, val_main_cst_0, val_main_cst_1]

/-- The two programs, over the extended reals, from memories with equal arguments, end with equal results. -/
theorem equal_results [Cert.Kernel6Ideal.Facts] [Cert.Reference6Ideal.Facts] :
    Cert.algebraic_Kernel6Ideal_Reference6Ideal := by
  intro m g m' g' _ hargs
  refine ⟨fun c => result m c, ?_, ?_⟩
  · refine (θ_run _ _ _).mono (fun r h c => ?_) (Cert.Kernel6Ideal.Value.run_blocks m g)
    obtain ⟨h0, h1⟩ := h c
    exact ⟨h0.trans (final m c), h1⟩
  · refine (θ_run _ _ _).mono (fun r h c => ?_) (Cert.Reference6Ideal.Value.run m' g')
    obtain ⟨h0, h1⟩ := h c
    obtain ⟨a0, a1, a2⟩ := hargs c
    refine ⟨h0.trans ?_, h1⟩
    rw [Cert.Reference6Ideal.Read.val_main_v14_eq, a0, a1, a2]
    funext i
    obtain ⟨r, j, rfl⟩ : ∃ (r : Fin 8192) (j : Fin 2048), i = ix2 r j := ⟨i 0, i 1, funext fun a => by fin_cases a <;> rfl⟩
    exact reference_apply _ _ _ r j

end Cert.Kernel6Ideal.Query
-- ==== Proof.MemSoftmax.lean ====
/-
  The softmax over finitely many real scores: normalizing the weighted sum is weighting with the normalized weights.
-/
module

public import proofs.«01_k».proof.Proof.SwaSoftmax

@[expose] public section

noncomputable section

namespace Cert.Mem

open Idealize.ShloMosaic

/-- The largest of the scores. -/
def largest {n : ℕ} (s : Fin n → EReal) : EReal := Finset.univ.fold max ⊥ s

/-- The sum of the shifted scores' exponentials. -/
def mass {n : ℕ} (s : Fin n → EReal) : EReal := ∑ i, Ideal.exp (s i - largest s)

/-- The weighted sum of the values, divided at the end. -/
def dividedAfter {n : ℕ} (s v : Fin n → EReal) : EReal :=
  (∑ i, Ideal.exp (s i - largest s) * v i) * Ideal.div 1 (mass s)

/-- The sum of the values weighted by the divided exponentials. -/
def dividedBefore {n : ℕ} (s v : Fin n → EReal) : EReal :=
  ∑ i, v i * Ideal.div (Ideal.exp (s i - largest s)) (mass s)

/-- The largest of finitely many reals, at least one, is a real. -/
theorem largest_real {n : ℕ} (s : Fin (n + 1) → EReal) (hs : ∀ i, ∃ r : ℝ, s i = r) : ∃ m : ℝ, largest s = m := by
  have h : largest s < ⊤ := by
    unfold largest
    rw [Finset.fold_max_lt]
    refine ⟨bot_lt_top, fun i _ => ?_⟩
    obtain ⟨r, hr⟩ := hs i
    rw [hr]
    exact EReal.coe_lt_top r
  have h0 : s 0 ≤ largest s := by
    unfold largest
    rw [Finset.le_fold_max]
    exact .inr ⟨0, Finset.mem_univ _, le_refl _⟩
  obtain ⟨r, hr⟩ := hs 0
  rw [hr] at h0
  generalize largest s = l at h h0
  induction l with
  | bot => exact absurd h0 (not_le.mpr (EReal.bot_lt_coe r))
  | top => exact absurd h (lt_irrefl _)
  | coe a => exact ⟨a, rfl⟩

/-- The exponential of a difference of reals is a positive real. -/
theorem exp_pos_real (a m : ℝ) : Ideal.exp ((a : EReal) - (m : EReal)) = ((Real.exp (a - m) : ℝ) : EReal) := by
  rw [← EReal.coe_sub]; rfl

/-- The mass of real scores is a positive real. -/
theorem mass_real {n : ℕ} (s : Fin (n + 1) → EReal) (hs : ∀ i, ∃ r : ℝ, s i = r) : ∃ d : ℝ, 0 < d ∧ mass s = d := by
  obtain ⟨m, hm⟩ := largest_real s hs
  unfold mass
  rw [hm]
  have he : ∀ i, ∃ r : ℝ, 0 ≤ r ∧ Ideal.exp (s i - (m : EReal)) = r := fun i => by
    obtain ⟨a, ha⟩ := hs i
    exact ⟨_, (Real.exp_pos _).le, by rw [ha, exp_pos_real]⟩
  obtain ⟨d, _, hd⟩ := Cert.Swa.sum_nonneg_real Finset.univ (fun i => Ideal.exp (s i - (m : EReal))) he
  refine ⟨d, ?_, hd⟩
  have h0 : Ideal.exp (s 0 - (m : EReal)) ≤ ∑ i, Ideal.exp (s i - (m : EReal)) :=
    Finset.single_le_sum (f := fun i => Ideal.exp (s i - (m : EReal))) (fun i _ => by
      obtain ⟨r, hr0, hr⟩ := he i
      show 0 ≤ Ideal.exp (s i - (m : EReal))
      rw [hr]
      exact EReal.coe_nonneg.mpr hr0) (Finset.mem_univ 0)
  obtain ⟨a, ha⟩ := hs 0
  rw [hd, ha, exp_pos_real, EReal.coe_le_coe_iff] at h0
  exact lt_of_lt_of_le (Real.exp_pos _) h0

/-- The two agree where every score is a real. -/
theorem divided_eq {n : ℕ} (s v : Fin (n + 1) → EReal) (hs : ∀ i, ∃ r : ℝ, s i = r) : dividedAfter s v = dividedBefore s v := by
  obtain ⟨d, hp, hd⟩ := mass_real s hs
  unfold dividedAfter dividedBefore
  rw [hd, Ideal.div_coe hp.ne', one_mul, Cert.Swa.sum_mul_real _ _ _ (by exact_mod_cast (one_div_pos.mpr hp).le) (EReal.coe_ne_top _)]
  refine Finset.sum_congr rfl fun i _ => ?_
  rw [Ideal.div_coe hp.ne', mul_comm (Ideal.exp _) (v i), mul_assoc]

end Cert.Mem
-- ==== Proof.MemValue.lean ====
/-
  The memory attention's block: the four stores of the kernel's body are one function of the head. Each stored tile at an index is
  the softmax over the memory's positions; the whole output array is `attention` of the arguments, where queries and keys are reals.
-/
module

public import proofs.«01_k».proof.Proof.MemSoftmax
public import proofs.«01_k».proof.Proof.SwaValue
public import proofs.«01_k».proof.Proof.Gen.Kernel7Ideal.Value
public import Idealize.ShloMosaic.Lib.Pipeline.ValueKit
public import Idealize.ShloMosaic.Lib.Pointwise
public import Idealize.ShloMosaic.Lib.StableHlo.ReadAt

@[expose] public section

set_option maxRecDepth 16384

noncomputable section

namespace Cert.Kernel7Ideal.Mem

open Cert.Kernel7Ideal Cert.Kernel7Ideal.Gen Idealize.ShloMosaic Idealize.ShloMosaic.TcCoe Idealize.SL.Sem

section tiles

variable {F : FTy → Type} [FloatOps F]

theorem inb_q (h : Fin 4) : ∀ a, (![0, 128 * h.val] : Fin 2 → Nat) a + (![512, 128] : Fin 2 → Nat) a ≤ S512x512.size a := by
  revert h; decide
theorem inb_k (h : Fin 4) : ∀ a, (![0, 0, 0, 128 * h.val] : Fin 4 → Nat) a + (![1, 1, 256, 128] : Fin 4 → Nat) a ≤ S1x1x256x512.size a := by
  revert h; decide

/-- Head `h` of a query or output block. -/
def qRect (h : Fin 4) : Rect S512x512 := Rect.unit ![0, 128 * h.val] ![512, 128] (inb_q h)
/-- Head `h` of a key or value block. -/
def kRect (h : Fin 4) : Rect S1x1x256x512 := Rect.unit ![0, 0, 0, 128 * h.val] ![1, 1, 256, 128] (inb_k h)

def qTile (x : Vec F S512x512 .f32) (h : Fin 4) : Vec F S512x128 .f32 := View.ld x (qRect h)
def kTile (x : Vec F S1x1x256x512 .f32) (h : Fin 4) : Vec F S1x1x256x128 .f32 := View.ld x (kRect h)

/-- What the kernel stores for head `h`. -/
def tile (x0 : Vec F S512x512 .f32) (x1 x2 : Vec F S1x1x256x512 .f32) (h : Fin 4) : FVec F S512x128 .bf16 :=
  k0_pay13 (k0_pay9 (k0_pay2 (qTile x0 h) (kTile x1 h)) (kTile x2 h))

/-- Store number `k`, counted from the last. -/
def piece (x0 : Vec F S512x512 .f32) (x1 x2 : Vec F S1x1x256x512 .f32) (k : Fin 4) : View.Piece (Elt F) S512x512 .bf16 :=
  ⟨qRect ⟨3 - k.val, by omega⟩, tile x0 x1 x2 ⟨3 - k.val, by omega⟩⟩

/-- A grid point leaves in its output block the four tiles. -/
theorem out_eq (x0 : Vec F S512x512 .f32) (x1 x2 : Vec F S1x1x256x512 .f32) :
    out0_3 x0 x1 x2 = View.canon (List.ofFn (piece x0 x1 x2)) := by
  unfold out0_3
  exact congrArg View.canon rfl

end tiles

theorem qTile_apply (x : Vec Ideal S512x512 .f32) (h : Fin 4) (r : Fin 512) (l : Fin 128) :
    qTile x h (ix2 r l) = x (ix2 r ⟨128 * h.val + l.val, by omega⟩) := by
  pointwise [qTile, qRect]
theorem kTile_apply (x : Vec Ideal S1x1x256x512 .f32) (h : Fin 4) (a b : Fin 1) (s : Fin 256) (l : Fin 128) :
    kTile x h (ix4 a b s l) = x (ix4 0 0 s ⟨128 * h.val + l.val, by omega⟩) := by
  pointwise [kTile, kRect]

/-- The kernel's scores at an index. -/
theorem scores_apply (q : Vec Ideal S512x128 .f32) (k : Vec Ideal S1x1x256x128 .f32) (r : Fin 512) (s : Fin 256) :
    k0_pay2 q k (ix2 r s) = (∑ d : Fin 128, q (ix2 r d) * k (ix4 0 0 s d)) * Ideal.ofBits .f32 0x3DB504F3#32 := by
  pointwise [k0_pay2]

/-- The attended values at an index. -/
theorem attend_apply (s : FVec Ideal S512x256 .f32) (v : Vec Ideal S1x1x256x128 .f32) (r : Fin 512) (l : Fin 128) :
    k0_pay13 (k0_pay9 s v) (ix2 r l) = Cert.Mem.dividedAfter (fun k => s (ix2 r k)) (fun k => v (ix4 0 0 k l)) := by
  unfold Cert.Mem.dividedAfter Cert.Mem.mass Cert.Mem.largest
  rw [← Cert.KernelIdeal.Swa.neg_inf]
  pointwise [k0_pay13, k0_pay9]

/-- The score of query `t` of head `h` at memory position `s`. -/
def score (a : FVec Ideal S2x4096x2048 .f32) (kv : FVec Ideal S2x256x1024 .f32) (b : Fin 2) (t : Fin 4096) (h : Fin 4) (s : Fin 256) : EReal :=
  (∑ d : Fin 128, a (ix3 b t ⟨1536 + (h.val * 128 + d.val), by omega⟩) * kv (ix3 b s ⟨h.val * 128 + d.val, by omega⟩))
    * Ideal.ofBits .f32 0x3DB504F3#32

/-- Query `t` of head `h`, lane `e`: the memory's values weighted by the softmax of the scores. -/
def attention (a : FVec Ideal S2x4096x2048 .f32) (kv : FVec Ideal S2x256x1024 .f32) (b : Fin 2) (t : Fin 4096) (h : Fin 4) (e : Fin 128) :
    EReal :=
  Cert.Mem.dividedBefore (score a kv b t h) fun s => kv (ix3 b s ⟨512 + (h.val * 128 + e.val), by omega⟩)

/-- Every memory query and every key is a real number. -/
structure Finite (a : FVec Ideal S2x4096x2048 .f32) (kv : FVec Ideal S2x256x1024 .f32) : Prop where
  query : ∀ (b : Fin 2) (t : Fin 4096) (n : Fin 512), ∃ r : ℝ, a (ix3 b t ⟨1536 + n.val, by omega⟩) = r
  key : ∀ (b : Fin 2) (s : Fin 256) (n : Fin 512), ∃ r : ℝ, kv (ix3 b s ⟨n.val, by omega⟩) = r

/-- The scale's constant is a real. -/
theorem scale_real : ∃ r : ℝ, Ideal.ofBits .f32 0x3DB504F3#32 = r := by
  refine ⟨11863283 / 134217728, ?_⟩
  simp [Ideal.ofBits, Ideal.ieee, -EReal.coe_mul]; norm_num

/-- Every score is a real. -/
theorem score_real {a : FVec Ideal S2x4096x2048 .f32} {kv : FVec Ideal S2x256x1024 .f32} (hf : Finite a kv) (b : Fin 2) (t : Fin 4096)
    (h : Fin 4) (s : Fin 256) : ∃ r : ℝ, score a kv b t h s = r := by
  unfold score
  obtain ⟨r, hr⟩ := Cert.Swa.sum_real Finset.univ
    (fun d : Fin 128 => a (ix3 b t ⟨1536 + (h.val * 128 + d.val), by omega⟩) * kv (ix3 b s ⟨h.val * 128 + d.val, by omega⟩)) fun d _ => by
      obtain ⟨x, hx⟩ := hf.query b t ⟨h.val * 128 + d.val, by omega⟩
      obtain ⟨y, hy⟩ := hf.key b s ⟨h.val * 128 + d.val, by omega⟩
      exact ⟨x * y, by rw [hx, hy, EReal.coe_mul]⟩
  obtain ⟨z, hz⟩ := scale_real
  exact ⟨r * z, by rw [hr, hz, EReal.coe_mul]⟩

/-- A stored tile at an index. -/
theorem tile_apply {a : FVec Ideal S2x4096x2048 .f32} {kv : FVec Ideal S2x256x1024 .f32} (hf : Finite a kv) (x0 : Vec Ideal S512x512 .f32)
    (x1 x2 : Vec Ideal S1x1x256x512 .f32) (b : Fin 2) (r : Fin 512) (t : Fin 4096)
    (h0 : ∀ n : Fin 512, x0 (ix2 r n) = a (ix3 b t ⟨1536 + n.val, by omega⟩))
    (h1 : ∀ (s : Fin 256) (n : Fin 512), x1 (ix4 0 0 s n) = kv (ix3 b s ⟨n.val, by omega⟩))
    (h2 : ∀ (s : Fin 256) (n : Fin 512), x2 (ix4 0 0 s n) = kv (ix3 b s ⟨512 + n.val, by omega⟩)) (h : Fin 4) (l : Fin 128) :
    tile x0 x1 x2 h (ix2 r l) = attention a kv b t h l := by
  unfold tile attention
  rw [attend_apply, ← Cert.Mem.divided_eq _ _ (score_real hf b t h)]
  refine congrArg₂ Cert.Mem.dividedAfter (funext fun s => ?_) (funext fun s => ?_)
  · rw [scores_apply]
    unfold score
    simp only [qTile_apply, kTile_apply, h0, h1, mul_comm 128 h.val]
  · rw [kTile_apply, h2]
    simp only [mul_comm 128 h.val]

/-! ## The windows -/

variable (m : (ℓ : Loc nD τ sig) → Buf (Elt Ideal) ℓ) (c : Dev nD)

/-- The projected rows and the memory's keys and values. -/
def argA : FVec Ideal S2x4096x2048 .f32 := m ((c : Thread nD τ).loc main_arg0)
def argKV : FVec Ideal S2x256x1024 .f32 := m ((c : Thread nD τ).loc main_arg1)

theorem entryA (r : Fin 8192) (n : Fin 2048) : (V m c main_v0 : FVec Ideal S8192x2048 .f32) (ix2 r n)
    = argA m c (ix3 ⟨r.val / 4096, by omega⟩ ⟨r.val % 4096, by omega⟩ n) := by
  unfold V argA
  after_reads_at
theorem entryK (l : Fin 1) (b : Fin 2) (s : Fin 256) (n : Fin 1024) :
    (V m c main_v1 : FVec Ideal S1x2x256x1024 .f32) (ix4 l b s n) = argKV m c (ix3 b s n) := by
  unfold V argKV
  after_reads_at
theorem entryV (l : Fin 1) (b : Fin 2) (s : Fin 256) (n : Fin 1024) :
    (V m c main_v2 : FVec Ideal S1x2x256x1024 .f32) (ix4 l b s n) = argKV m c (ix3 b s n) := by
  unfold V argKV
  after_reads_at

/-- The index maps over the grid. -/
theorem index_maps : ∀ t : Fin grid0.N, win0_0.index t = ![t.val, 3] ∧ win0_1.index t = ![0, t.val / 8, 0, 0]
    ∧ win0_2.index t = ![0, t.val / 8, 0, 1] ∧ win0_3.index t = ![t.val, 0] := by
  decide +kernel

theorem point_lt (t : Fin cfg0.N) : t.val < 16 := lt_of_lt_of_eq t.isLt N_0

/-- The batch entry a point works on. -/
def entry (t : Fin cfg0.N) : Fin 2 := ⟨t.val / 8, by have := point_lt t; omega⟩

theorem row_lt (t : Fin cfg0.N) (r : Fin 512) : 512 * t.val + r.val < 8192 := by have := point_lt t; omega

theorem winQ (t : Fin cfg0.N) (r : Fin 512) (n : Fin 512) :
    (iblk m c 0 t : FVec Ideal S512x512 .f32) (ix2 r n)
      = argA m c (ix3 (entry t) ⟨(512 * t.val + r.val) % 4096, by omega⟩ ⟨1536 + n.val, by omega⟩) := by
  refine Eq.trans ?_ ((entryA m c ⟨512 * t.val + r.val, row_lt t r⟩ ⟨1536 + n.val, by omega⟩).trans ?_)
  · blk_ext [iblk, (index_maps t).1]
  · exact congrArg (fun b => argA m c (ix3 b _ _)) (Fin.ext (by dsimp only [entry]; omega))
theorem winK (t : Fin cfg0.N) (s : Fin 256) (n : Fin 512) :
    (iblk m c 1 t : FVec Ideal S1x1x256x512 .f32) (ix4 0 0 s n) = argKV m c (ix3 (entry t) s ⟨n.val, by omega⟩) := by
  rw [← entryK m c 0]
  unfold entry
  blk_ext [iblk, (index_maps t).2.1]
theorem winV (t : Fin cfg0.N) (s : Fin 256) (n : Fin 512) :
    (iblk m c 2 t : FVec Ideal S1x1x256x512 .f32) (ix4 0 0 s n) = argKV m c (ix3 (entry t) s ⟨512 + n.val, by omega⟩) := by
  rw [← entryV m c 0]
  unfold entry
  blk_ext [iblk, (index_maps t).2.2.1]

/-- The array the run leaves. -/
def result : FVec Ideal S8192x512 .bf16 := fun i =>
  attention (argA m c) (argKV m c) ⟨(i 0).val / 4096, by have h : (i 0).val < 8192 := (i 0).isLt; omega⟩ ⟨(i 0).val % 4096, by omega⟩
    ⟨(i 1).val / 128, by have h : (i 1).val < 512 := (i 1).isLt; omega⟩ ⟨(i 1).val % 128, by omega⟩

/-- An index of the block has the value that the tile holding it has there. -/
theorem tiles_value (x0 : Vec Ideal S512x512 .f32) (x1 x2 : Vec Ideal S1x1x256x512 .f32) (r n : Fin 512) (v : EReal)
    (h : ∀ (h : Fin 4) (l : Fin 128), n.val = 128 * h.val + l.val → tile x0 x1 x2 h (ix2 r l) = v) :
    View.canon (List.ofFn (piece x0 x1 x2)) (ix2 r n) = v := by
  refine View.canon_eq_of_allAt (Val := Elt Ideal) (e := .bf16) _ (ix2 r n) v ?_ ?_
  · refine ⟨_, (List.mem_ofFn).mpr ⟨⟨3 - n.val / 128, by omega⟩, rfl⟩, ?_⟩
    show (ix2 r n : S512x512.Idx) ∈ (qRect ⟨3 - (3 - n.val / 128), by omega⟩).set
    unfold qRect
    refine Rect.mem_set_unit.mpr fun a => ?_
    fin_cases a
    · show 0 ≤ r.val ∧ r.val < 0 + 512
      omega
    · show 128 * (3 - (3 - n.val / 128)) ≤ n.val ∧ n.val < 128 * (3 - (3 - n.val / 128)) + 128
      omega
  · intro p hp
    obtain ⟨k, rfl⟩ := (List.mem_ofFn).mp hp
    intro x hx
    obtain ⟨q, l, rfl⟩ : ∃ (q : Fin 512) (l : Fin 128), x = ix2 q l := ⟨x 0, x 1, funext fun a => by fin_cases a <;> rfl⟩
    have e0 : 0 + 1 * q.val = r.val := congrArg (fun i => (i 0).val) hx
    have e1 : 128 * (3 - k.val) + 1 * l.val = n.val := congrArg (fun i => (i 1).val) hx
    obtain rfl : q = r := Fin.ext (by omega)
    exact h ⟨3 - k.val, by omega⟩ l (by dsimp only; omega)

variable (hf : Finite (argA m c) (argKV m c))

include hf in
/-- What a grid point leaves in its output block. -/
theorem block_value (t : Fin cfg0.N) (r n : Fin 512) :
    out0_3 (iblk m c 0 t) (iblk m c 1 t) (iblk m c 2 t) (ix2 r n)
      = attention (argA m c) (argKV m c) (entry t) ⟨(512 * t.val + r.val) % 4096, by omega⟩ ⟨n.val / 128, by omega⟩ ⟨n.val % 128, by omega⟩ := by
  rw [out_eq]
  refine tiles_value _ _ _ r n _ fun h l hn => ?_
  refine (tile_apply hf _ _ _ (entry t) r ⟨(512 * t.val + r.val) % 4096, by omega⟩ (winQ m c t r) (winK m c t) (winV m c t) h l).trans ?_
  exact congrArg₂ (attention _ _ _ _) (Fin.ext (by dsimp only; omega)) (Fin.ext (by dsimp only; omega))

include hf in
theorem final : (dats m 0 c).arrAt 3 cfg0.N = result m c := by
  refine (dats m 0 c).arrAt_eq_of_covers 3 _ (by decide +kernel) fun t ht y => ?_
  blk_simp
  rw [after0_3]
  obtain ⟨r, n, rfl⟩ : ∃ (r n : Fin 512), y = ix2 r n := ⟨y 0, y 1, funext fun a => by fin_cases a <;> rfl⟩
  rw [block_value m c hf t r n]
  have hp := point_lt t
  unfold result
  congr 1 <;> refine Fin.ext ?_ <;> dsimp only [entry] <;> blk_simp [(index_maps t).2.2.2] <;> omega

end Cert.Kernel7Ideal.Mem
-- ==== Proof.MemClaim.lean ====
/-
  The memory attention's reference at an index is `attention` of its arguments, and the claim: from finite memory queries and keys the
  kernel's result and the reference's are equal.
-/
module

public import proofs.«01_k».proof.Proof.MemValue
public import proofs.«01_k».proof.Proof.SwaClaim
public import proofs.«01_k».proof.Proof.Gen.Reference7Ideal.Read
public import proofs.«01_k».proof.Proof.Gen.Reference7Ideal.Run
public import proofs.«01_k».proof.Proof.Gen.Pre_finite_scores
public import proofs.«01_k».proof.Defs

@[expose] public section

set_option maxRecDepth 16384

noncomputable section

namespace Cert.Kernel7Ideal.MemClaim

open Idealize.ShloMosaic Idealize.ShloMosaic.TcCoe Idealize.SL.Sem
open Cert.Reference7Ideal Cert.Reference7Ideal.Read Cert.Kernel7Ideal.Mem

variable (x0 : FVec Ideal S2x4096x2048 .f32) (x1 : FVec Ideal S2x256x1024 .f32)

/-- The reference's score is `score`. -/
theorem score_apply (b : Fin 2) (h : Fin 4) (t : Fin 4096) (s : Fin 256) :
    val_main_v8 (F := Ideal) x0 x1 (ix4 b h t s) = score x0 x1 b t h s := by
  unfold score
  pointwise [val_main_v8, val_main_v7, val_main_v6, val_main_v5, val_main_v4, val_main_v1, val_main_v0, val_main_cst]

/-- A maximum over the last of the four axes is the fold over its positions. -/
theorem max_fold (y : FVec Ideal S2x4x4096x256 .f32) (z : FVec Ideal S_ .f32) (b : Fin 2) (h : Fin 4) (t : Fin 4096) :
    Host.reduce FloatOps.maximumf y z Gen.reducesTo_S2x4x4096x256_S2x4x4096_d3 Gen.h_S_ (ix3 b h t)
      = Finset.univ.fold max (z ix0) (fun s : Fin 256 => y (ix4 b h t s)) := by
  rw [Host.reduce_eq_fold_single _ _ _ _ (by decide)]
  have hz : Shape.Idx.first Gen.h_S_ = ix0 := funext fun a => a.elim0
  rw [hz]
  refine congrArg (Finset.fold max (z ix0) · Finset.univ) (funext fun s => congrArg y ?_)
  exact funext fun a => Fin.ext (match a with | ⟨0, _⟩ => rfl | ⟨1, _⟩ => rfl | ⟨2, _⟩ => rfl | ⟨3, _⟩ => rfl)

/-- The row's maximum, taken once more against minus infinity. -/
theorem largest_apply (b : Fin 2) (h : Fin 4) (t : Fin 4096) :
    val_main_v11 (F := Ideal) x0 x1 (ix3 b h t) = Cert.Mem.largest (score x0 x1 b t h) := by
  have h9 : val_main_v9 (F := Ideal) x0 x1 (ix3 b h t) = Cert.Mem.largest (score x0 x1 b t h) := by
    refine (max_fold _ _ b h t).trans ?_
    have h0 : val_main_cst_0 (F := Ideal) ix0 = ⊥ := Cert.KernelIdeal.Swa.neg_inf
    rw [h0]
    exact congrArg (Finset.fold max ⊥ · Finset.univ) (funext fun s => score_apply x0 x1 b h t s)
  have h10 : val_main_v10 (F := Ideal) (ix3 b h t) = ⊥ := by
    rw [val_main_v10_apply]
    exact Cert.KernelIdeal.Swa.neg_inf
  rw [val_main_v11_apply, h9, h10]
  exact max_eq_right bot_le

/-- A row's exponentials. -/
theorem exp_apply (b : Fin 2) (h : Fin 4) (t : Fin 4096) (s : Fin 256) :
    val_main_v15 (F := Ideal) x0 x1 (ix4 b h t s)
      = Ideal.exp (score x0 x1 b t h s - Cert.Mem.largest (score x0 x1 b t h)) := by
  pointwise [val_main_v15, val_main_v14, val_main_v13, val_main_v12]
  rw [largest_apply, score_apply]

/-- A row's mass. -/
theorem mass_apply (b : Fin 2) (h : Fin 4) (t : Fin 4096) :
    val_main_v16 (F := Ideal) x0 x1 (ix3 b h t) = Cert.Mem.mass (score x0 x1 b t h) := by
  rw [val_main_v16_apply]
  have h0 : val_main_cst_2 (F := Ideal) (Shape.Idx.first Gen.h_S_) = 0 := by
    show Ideal.ofBits .f32 0x00000000#32 = 0
    simp [Ideal.ofBits, Ideal.ieee]
  rw [h0, zero_add]
  unfold Cert.Mem.mass
  refine Finset.sum_congr rfl fun s _ => ?_
  refine Eq.trans (congrArg (val_main_v15 (F := Ideal) x0 x1) ?_) (exp_apply x0 x1 b h t s)
  exact funext fun a => Fin.ext (match a with | ⟨0, _⟩ => rfl | ⟨1, _⟩ => rfl | ⟨2, _⟩ => rfl | ⟨3, _⟩ => rfl)

/-- A row's probabilities. -/
theorem prob_apply (b : Fin 2) (h : Fin 4) (t : Fin 4096) (s : Fin 256) :
    val_main_v19 (F := Ideal) x0 x1 (ix4 b h t s)
      = Ideal.div (Ideal.exp (score x0 x1 b t h s - Cert.Mem.largest (score x0 x1 b t h))) (Cert.Mem.mass (score x0 x1 b t h)) := by
  pointwise [val_main_v19, val_main_v18, val_main_v17]
  rw [mass_apply, exp_apply]

/-- The reference's output is `attention`. -/
theorem reference_apply (r : Fin 8192) (n : Fin 512) :
    val_main_v24 (F := Ideal) x0 x1 (ix2 r n)
      = attention x0 x1 ⟨r.val / 4096, by omega⟩ ⟨r.val % 4096, by omega⟩ ⟨n.val / 128, by omega⟩ ⟨n.val % 128, by omega⟩ := by
  have h : val_main_v24 (F := Ideal) x0 x1 (ix2 r n)
      = ∑ s : Fin 256, val_main_v3 (F := Ideal) x1 (ix4 ⟨r.val / 4096, by omega⟩ s ⟨n.val / 128, by omega⟩ ⟨n.val % 128, by omega⟩)
          * val_main_v19 (F := Ideal) x0 x1 (ix4 ⟨r.val / 4096, by omega⟩ ⟨n.val / 128, by omega⟩ ⟨r.val % 4096, by omega⟩ s) := by
    pointwise [val_main_v24, val_main_v23, val_main_v22, val_main_v21, val_main_v20]
  rw [h]
  unfold attention Cert.Mem.dividedBefore
  refine Finset.sum_congr rfl fun s _ => congrArg₂ (· * ·) ?_ (prob_apply x0 x1 _ _ _ s)
  pointwise [val_main_v3, val_main_v2]
  exact congrArg (fun e => x1 (ix3 _ s e)) (Fin.ext (by dsimp only; omega))

/-- The precondition says that the memory queries and the keys are real numbers. -/
theorem finite_of_pre (h : (Cert.Pre_finite_scores.fn (F := Ideal) x0 x1).1 = (fun _ => 1#1)
      ∧ (Cert.Pre_finite_scores.fn (F := Ideal) x0 x1).2 = (fun _ => 1#1)) : Finite x0 x1 := by
  obtain ⟨h0, h1⟩ := h
  refine ⟨fun b t n => ?_, fun b s n => ?_⟩
  · have hb := congrFun h0 (ix3 b t n)
    pointwise [Cert.Pre_finite_scores.fn] at hb
    exact Cert.KernelIdeal.SwaRef.real_of_word _ hb
  · have hb := congrFun h1 (ix3 b s n)
    pointwise [Cert.Pre_finite_scores.fn] at hb
    exact Cert.KernelIdeal.SwaRef.real_of_word _ hb

/-- The two programs, over the extended reals, from memories with equal arguments, their memory queries and keys finite, end with
equal results. -/
theorem equal_results [Cert.Kernel7Ideal.Facts] [Cert.Reference7Ideal.Facts] [Cert.Pre_finite_scores.Facts] :
    Cert.algebraic_Kernel7Ideal_Reference7Ideal_pre_finite_scores := by
  intro m g m' g' hpre hargs
  have hf : ∀ c, Finite (argA m c) (argKV m c) := fun c => finite_of_pre _ _ (hpre c)
  refine ⟨fun c => result m c, ?_, ?_⟩
  · refine (θ_run _ _ _).mono (fun r h c => ?_) (Cert.Kernel7Ideal.Value.run_blocks m g)
    obtain ⟨h0, h1⟩ := h c
    exact ⟨h0.trans (final m c (hf c)), h1⟩
  · refine (θ_run _ _ _).mono (fun r h c => ?_) (Cert.Reference7Ideal.Value.run m' g')
    obtain ⟨h0, h1⟩ := h c
    obtain ⟨a0, a1⟩ := hargs c
    refine ⟨h0.trans ?_, h1⟩
    rw [val_main_v24_eq, a0, a1]
    funext i
    obtain ⟨r, n, rfl⟩ : ∃ (r : Fin 8192) (n : Fin 512), i = ix2 r n := ⟨i 0, i 1, funext fun a => by fin_cases a <;> rfl⟩
    exact reference_apply _ _ r n

end Cert.Kernel7Ideal.MemClaim
-- ==== Proof.KeysValue.lean ====
/-
  The attention layers' shared keys and values: the kernel's points, the windows, the array the run leaves, the heads the host
  reads back out of it, and the reference, all read down to normalized rows against columns.
-/
module

public import proofs.«01_k».proof.Proof.Rows
public import proofs.«01_k».proof.Proof.Gen.Kernel8Ideal.Frame
public import Idealize.ShloMosaic.Lib.Pipeline.Value
public import Idealize.ShloMosaic.Lib.Pipeline.FrameSuffix
public import proofs.«01_k».proof.Proof.Gen.Reference8Ideal.Read
public import proofs.«01_k».proof.Proof.Gen.Reference8Ideal.Run
public import proofs.«01_k».proof.Defs
public import Idealize.ShloMosaic.Lib.Pipeline.ValueKit
public import Idealize.ShloMosaic.Lib.Claim
public import Idealize.ShloMosaic.Lib.StableHlo.ReadAt

@[expose] public section

set_option maxRecDepth 16384

noncomputable section

namespace Cert.Kernel8Ideal.Keys

open Cert.Rows Cert.Kernel8Ideal Cert.Kernel8Ideal.Gen Idealize.ShloMosaic Idealize.ShloMosaic.TcCoe Idealize.SL.Sem

theorem zero2 : (![0, 0] : Fin 2 → Nat) = fun _ => 0 := funext fun a => by fin_cases a <;> rfl
theorem zero3 : (![0, 0, 0] : Fin 3 → Nat) = fun _ => 0 := funext fun a => by fin_cases a <;> rfl

section run

variable {F : FTy → Type} [FloatOps F]

/-- What a point leaves in the output block. -/
theorem out_point (c : Dev nD) (i : grid0.Coords) (arg2 : Memref sig .tc .vmem S1024x2048 .f32) (harg2 : arg2.IsWhole)
    (arg3 : Memref sig .tc .vmem S1x1x2048 .f32) (harg3 : arg3.IsWhole) (arg4 : Memref sig .tc .vmem S1x2048x1024 .bf16) (harg4 : arg4.IsWhole)
    (arg5 : Memref sig .tc .vmem S1024x1024 .f32) (harg5 : arg5.IsWhole) (arg6 : Memref sig .tc .vmem S1024x2048 .bf16) (harg6 : arg6.IsWhole)
    (hc0 : cond0_0 i) (x0 : Vec F S1024x2048 .f32) (x1 : Vec F S1x1x2048 .f32) (x2 : Vec F S1x2048x1024 .bf16) :
    out0_A_3 c i arg2 harg2 arg3 harg3 arg4 harg4 arg5 harg5 arg6 harg6 hc0 x0 x1 x2 = k0_pay2 (k0_pay1 x0 x1) x2 := by
  unfold out0_A_3
  rw [View.read_writes_eq_canon _ _ _ (cover0_A_3 c i arg2 harg2 arg3 harg3 arg4 harg4 arg5 harg5 arg6 harg6 hc0 x0 x1 x2)]
  unfold kernelRun0_A
  dsimp only
  sl_unfold_words
  rw [View.canon_unit_zero (S := S1024x1024) zero2, View.readCov_unit_zero (S := S1024x2048) _ zero2]
  simp only [View.readAt_eq_ld, harg2.read_unread, harg3.read_unread, harg4.read_unread, View.ld_unit_zero (S := S1024x2048) zero2,
    View.ld_unit_zero (S := S1x1x2048) zero3, View.ld_unit_zero (S := S1x2048x1024) zero3]

end run

theorem norm_apply (x : Vec Ideal S1024x2048 .f32) (g : Vec Ideal S1x1x2048 .f32) (r : Fin 1024) (d : Fin 2048) :
    k0_pay1 x g (ix2 r d) = rms (fun d => x (ix2 r d)) (fun d => g (ix3 0 0 d)) d := by
  unfold rms
  pointwise [k0_pay1]

theorem product_apply (h : Vec Ideal S1024x2048 .bf16) (w : Vec Ideal S1x2048x1024 .bf16) (r : Fin 1024) (j : Fin 1024) :
    k0_pay2 h w (ix2 r j) = ∑ d : Fin 2048, h (ix2 r d) * w (ix3 0 d j) := by
  pointwise [k0_pay2]

/-! ## The windows -/

variable (m : (ℓ : Loc nD τ sig) → Buf (Elt Ideal) ℓ) (c : Dev nD)

/-- Row `r` of the frames, both batch entries one after the other. -/
def argX (r : Fin 8192) (d : Fin 2048) : EReal :=
  (m ((c : Thread nD τ).loc main_arg0) : FVec Ideal S2x4096x2048 .f32) (ix3 ⟨r.val / 4096, by omega⟩ ⟨r.val % 4096, by omega⟩ d)
def argG (d : Fin 2048) : EReal := (m ((c : Thread nD τ).loc main_arg1) : FVec Ideal S2048 .f32) (ix1 d)
def argW (d : Fin 2048) (j : Fin 512) : EReal := (m ((c : Thread nD τ).loc main_arg2) : FVec Ideal S2048x512 .f32) (ix2 d j)
/-- The weights with every head's columns twice. -/
def twiceW (d : Fin 2048) (j : Fin 1024) : EReal := (V m c main_v10 : FVec Ideal S1x2048x1024 .bf16) (ix3 0 d j)

theorem entryX (r : Fin 8192) (d : Fin 2048) : (V m c main_v11 : FVec Ideal S8192x2048 .f32) (ix2 r d) = argX m c r d := by
  unfold V argX
  after_reads_at
theorem entryG (d : Fin 2048) : (V m c main_v12 : FVec Ideal S1x1x2048 .f32) (ix3 0 0 d) = argG m c d := by
  unfold V argG
  after_reads_at
/-- A column of the doubled weights: keys in the first half, values in the second. -/
theorem twice_eq (d : Fin 2048) (j : Fin 1024) : twiceW m c d j =
    if h : j.val < 512 then argW m c d ⟨j.val / 128 * 64 + j.val % 64, by omega⟩
    else argW m c d ⟨256 + ((j.val - 512) / 128 * 64 + j.val % 64), by omega⟩ := by
  unfold twiceW V argW
  after_reads_at
  by_cases h : j.val < 512
  · rw [dif_pos h, dif_pos h]
    after_reads_at
  · rw [dif_neg h, dif_neg h]
    after_reads_at
    exact congrArg (fun k => (m ((c : Thread nD τ).loc main_arg2) : FVec Ideal S2048x512 .f32) (ix2 d k)) (Fin.ext (by dsimp only; omega))

/-- The index maps over the grid. -/
theorem index_maps : ∀ t : Fin grid0.N, win0_0.index t = ![t.val, 0] ∧ win0_1.index t = ![0, 0, 0] ∧ win0_2.index t = ![0, 0, 0]
    ∧ win0_3.index t = ![t.val, 0] := by
  decide +kernel

theorem row_lt (t : Fin cfg0.N) (r : Fin 1024) : 1024 * t.val + r.val < 8192 := by
  have h : t.val < 8 := lt_of_lt_of_eq t.isLt N_0
  omega

theorem winX (t : Fin cfg0.N) (r : Fin 1024) (d : Fin 2048) :
    (iblk m c 0 t : FVec Ideal S1024x2048 .f32) (ix2 r d) = argX m c ⟨1024 * t.val + r.val, row_lt t r⟩ d := by
  rw [← entryX]
  blk_ext [iblk, (index_maps t).1]
theorem winG (t : Fin cfg0.N) (d : Fin 2048) : (iblk m c 1 t : FVec Ideal S1x1x2048 .f32) (ix3 0 0 d) = argG m c d := by
  rw [← entryG]
  blk_ext [iblk, (index_maps t).2.1]
theorem winW (t : Fin cfg0.N) (d : Fin 2048) (j : Fin 1024) :
    (iblk m c 2 t : FVec Ideal S1x2048x1024 .bf16) (ix3 0 d j) = twiceW m c d j := by
  unfold twiceW
  blk_ext [iblk, (index_maps t).2.2.1]

/-- The array the run leaves. -/
def result : FVec Ideal S8192x1024 .f32 := fun i => project (argX m c (i 0)) (argG m c) (fun d => twiceW m c d (i 1))

/-- What a point leaves in the output block. -/
theorem out_eq (t : Fin cfg0.N) (r : Fin 1024) (j : Fin 1024) :
    outsAt0 m c t (ix2 r j) = project (argX m c ⟨1024 * t.val + r.val, row_lt t r⟩) (argG m c) (fun d => twiceW m c d j) := by
  unfold outsAt0
  rw [out_point, product_apply]
  refine Finset.sum_congr rfl fun d _ => congrArg₂ (· * ·) ?_ (winW m c t d j)
  rw [norm_apply]
  exact congrFun (congrArg₂ rms (funext fun d => winX m c t r d) (funext fun d => winG m c t d)) d

theorem final : (dats m 0 c).arrAt 3 cfg0.N = result m c := by
  refine (dats m 0 c).arrAt_eq_of_covers 3 _ (by decide +kernel) fun t hf y => ?_
  blk_simp
  rw [after0_3]
  obtain ⟨r, j, rfl⟩ : ∃ (r : Fin 1024) (j : Fin 1024), y = ix2 r j := ⟨y 0, y 1, funext fun a => by fin_cases a <;> rfl⟩
  rw [out_eq m c t]
  unfold result
  refine congrArg₂ (fun r j => project (argX m c r) (argG m c) fun d => twiceW m c d j) (Fin.ext ?_) (Fin.ext ?_)
  · show 1024 * t.val + r.val = _
    blk_simp [(index_maps t).2.2.2]
    omega
  · show j.val = _
    blk_simp [(index_maps t).2.2.2]

/-! ## The heads the host reads back -/

/-- The first of a head's two copies. -/
theorem first_copy (z : FVec Ideal S2x4096x4x2x64 .f32) (b : Fin 2) (p : Fin 4096) (h : Fin 4) (e : Fin 64) :
    shapeCast S2x4096x4x64 (extractStridedSlice S2x4096x4x1x64 ![0, 0, 0, 0, 0] z slices_S2x4096x4x2x64_S2x4096x4x1x64_0_0_0_0_0)
      shapeCasts_S2x4096x4x1x64_S2x4096x4x64 (ix4 b p h e) = z (ix5 b p h 0 e) := by
  pointwise
/-- A head's two copies as columns. -/
theorem copy_column (z : FVec Ideal S2x4096x512 .f32) (b : Fin 2) (p : Fin 4096) (h : Fin 4) (e : Fin 64) :
    shapeCast S2x4096x4x2x64 z shapeCasts_S2x4096x512_S2x4096x4x2x64 (ix5 b p h 0 e) = z (ix3 b p ⟨h.val * 128 + e.val, by omega⟩) := by
  pointwise
/-- The first half of the columns: the keys. -/
theorem first_half (y : FVec Ideal S8192x1024 .f32) (b : Fin 2) (p : Fin 4096) (n : Fin 512) :
    extractStridedSlice S2x4096x512 ![0, 0, 0] (shapeCast S2x4096x1024 y shapeCasts_S8192x1024_S2x4096x1024)
      slices_S2x4096x1024_S2x4096x512_0_0_0 (ix3 b p n) = y (ix2 ⟨b.val * 4096 + p.val, by omega⟩ ⟨n.val, by omega⟩) := by
  pointwise
/-- The second half of the columns: the values. -/
theorem second_half (y : FVec Ideal S8192x1024 .f32) (b : Fin 2) (p : Fin 4096) (n : Fin 512) :
    extractStridedSlice S2x4096x512 ![0, 0, 512] (shapeCast S2x4096x1024 y shapeCasts_S8192x1024_S2x4096x1024)
      slices_S2x4096x1024_S2x4096x512_0_0_512 (ix3 b p n) = y (ix2 ⟨b.val * 4096 + p.val, by omega⟩ ⟨512 + n.val, by omega⟩) := by
  pointwise

theorem cut_keys (W : Valuation τ sig (Elt Ideal)) (b : Fin 2) (p : Fin 4096) (h : Fin 4) (e : Fin 64) :
    (StableHlo.after hostOps1 W (Proc.devRef .tc main_v18) : FVec Ideal S2x4096x4x64 .f32) (ix4 b p h e)
      = (W (Proc.devRef .tc main_v13) : FVec Ideal S8192x1024 .f32) (ix2 ⟨b.val * 4096 + p.val, by omega⟩ ⟨h.val * 128 + e.val, by omega⟩) := by
  after_reads_simp
  exact (first_copy _ b p h e).trans ((copy_column _ b p h e).trans (first_half _ b p _))
theorem cut_values (W : Valuation τ sig (Elt Ideal)) (b : Fin 2) (p : Fin 4096) (h : Fin 4) (e : Fin 64) :
    (StableHlo.after hostOps1 W (Proc.devRef .tc main_v22) : FVec Ideal S2x4096x4x64 .f32) (ix4 b p h e)
      = (W (Proc.devRef .tc main_v13) : FVec Ideal S8192x1024 .f32)
          (ix2 ⟨b.val * 4096 + p.val, by omega⟩ ⟨512 + (h.val * 128 + e.val), by omega⟩) := by
  after_reads_simp
  exact (first_copy _ b p h e).trans ((copy_column _ b p h e).trans (second_half _ b p _))

/-- The array the run leaves at a row of one batch entry. -/
theorem result_apply (b : Fin 2) (p : Fin 4096) (j : Fin 1024) (k : Fin 512) (hw : ∀ d, twiceW m c d j = argW m c d k) :
    result m c (ix2 ⟨b.val * 4096 + p.val, by omega⟩ j)
      = project (fun d => (m ((c : Thread nD τ).loc main_arg0) : FVec Ideal S2x4096x2048 .f32) (ix3 b p d)) (argG m c) (fun d => argW m c d k) := by
  refine congrArg₂ (fun x w => project x (argG m c) w) (funext fun d => ?_) (funext hw)
  unfold argX
  refine congrArg _ (funext fun a => Fin.ext ?_)
  match a with
  | ⟨0, _⟩ => show (b.val * 4096 + p.val) / 4096 = b.val; omega
  | ⟨1, _⟩ => show (b.val * 4096 + p.val) % 4096 = p.val; omega
  | ⟨2, _⟩ => rfl

theorem distinct_arrays : Function.Injective (Pipeline.arrRef spec0) := by decide

/-- The region's array as the host's lines find it. -/
theorem left_array (A : (w : Fin cfg0.W) → Buf (Elt Ideal) ((cfg0.win w).arr.view.loc (c.tc : Thread nD τ))) (W : Valuation τ sig (Elt Ideal)) :
    Pipeline.withArrays spec0 c W A (Proc.devRef .tc main_v13) = A 3 :=
  Pipeline.withArrays_arr spec0 distinct_arrays c W A 3

/-- What the host's lines leave in the two results. -/
theorem tail_keys (b : Fin 2) (p : Fin 4096) (h : Fin 4) (e : Fin 64) :
    (Pipeline.afterTail₀ cfgs (dats m) 0 (V0 m) [hostOps1] c main_v18 : FVec Ideal S2x4096x4x64 .f32) (ix4 b p h e)
      = project (fun d => (m ((c : Thread nD τ).loc main_arg0) : FVec Ideal S2x4096x2048 .f32) (ix3 b p d)) (argG m c)
          (fun d => argW m c d ⟨h.val * 64 + e.val, by omega⟩) := by
  unfold Pipeline.afterTail₀
  refine (cut_keys _ b p h e).trans ?_
  refine ((congrFun (left_array c _ _) _).trans (congrFun (final m c) _)).trans (result_apply m c b p _ _ fun d => ?_)
  rw [twice_eq, dif_pos (by dsimp only; omega)]
  exact congrArg (argW m c d) (Fin.ext (by dsimp only; omega))
theorem tail_values (b : Fin 2) (p : Fin 4096) (h : Fin 4) (e : Fin 64) :
    (Pipeline.afterTail₀ cfgs (dats m) 0 (V0 m) [hostOps1] c main_v22 : FVec Ideal S2x4096x4x64 .f32) (ix4 b p h e)
      = project (fun d => (m ((c : Thread nD τ).loc main_arg0) : FVec Ideal S2x4096x2048 .f32) (ix3 b p d)) (argG m c)
          (fun d => argW m c d ⟨256 + (h.val * 64 + e.val), by omega⟩) := by
  unfold Pipeline.afterTail₀
  refine (cut_values _ b p h e).trans ?_
  refine ((congrFun (left_array c _ _) _).trans (congrFun (final m c) _)).trans (result_apply m c b p _ _ fun d => ?_)
  rw [twice_eq, dif_neg (by dsimp only; omega)]
  exact congrArg (argW m c d) (Fin.ext (by dsimp only; omega))

/-! ## The claim -/

open Cert.Reference8Ideal Cert.Reference8Ideal.Read in
/-- The reference's projection at an index. -/
theorem reference_apply (x0 : FVec Ideal S2x4096x2048 .f32) (x1 : FVec Ideal S2048 .f32) (x2 : FVec Ideal S2048x512 .f32)
    (b : Fin 2) (p : Fin 4096) (j : Fin 512) :
    val_main_v13 (F := Ideal) x0 x1 x2 (ix3 b p j)
      = project (fun d => x0 (ix3 b p d)) (fun d => x1 (ix1 d)) (fun d => x2 (ix2 d j)) := by
  unfold project rms
  pointwise [val_main_v13, val_main_v12, val_main_v11, val_main_v10, val_main_v9, val_main_v8, val_main_v7, val_main_v6, val_main_v5,
    val_main_v4, val_main_v3, val_main_v2, val_main_v1, val_main_v0, val_main_cst, val_main_cst_0, val_main_cst_1]

/-- The two programs, over the extended reals, from memories with equal arguments, end with equal results. -/
theorem equal_results [Cert.Kernel8Ideal.Facts] [Cert.Reference8Ideal.Facts] :
    Cert.algebraic_Kernel8Ideal_Reference8Ideal := by
  intro m g m' g' _ hargs
  refine ⟨fun c => Pipeline.afterTail₀ cfgs (dats m) 0 (V0 m) [hostOps1] c main_v18,
    fun c => Pipeline.afterTail₀ cfgs (dats m) 0 (V0 m) [hostOps1] c main_v22, ?_, ?_⟩
  · refine (θ_run _ _ _).mono (fun r h c => ?_) (θ_run_and (run_main m g) (unchanged m g))
    exact ⟨(h.1 c).2 main_v18 (Pipeline.mem_restRefs_of main_v18 (by decide) (by decide)),
      (h.1 c).2 main_v22 (Pipeline.mem_restRefs_of main_v22 (by decide) (by decide)), h.2 c⟩
  · refine (θ_run _ _ _).mono (fun r h c => ?_) (Cert.Reference8Ideal.Value.run m' g')
    obtain ⟨h0, h1, h2⟩ := h c
    obtain ⟨a0, a1, a2⟩ := hargs c
    have index : ∀ i : S2x4096x4x64.Idx, ∃ (b : Fin 2) (p : Fin 4096) (h : Fin 4) (e : Fin 64), i = ix4 b p h e :=
      fun i => ⟨i 0, i 1, i 2, i 3, funext fun a => by fin_cases a <;> rfl⟩
    refine ⟨h0.trans ?_, h1.trans ?_, h2⟩
    · rw [Cert.Reference8Ideal.Read.val_main_v15_eq, a0, a1, a2]
      funext i
      obtain ⟨b, p, h, e, rfl⟩ := index i
      refine Eq.trans ?_ (tail_keys m c b p h e).symm
      refine Eq.trans ?_ (reference_apply _ _ _ b p ⟨h.val * 64 + e.val, by omega⟩)
      pointwise [Cert.Reference8Ideal.Read.val_main_v15, Cert.Reference8Ideal.Read.val_main_v14]
    · rw [Cert.Reference8Ideal.Read.val_main_v17_eq, a0, a1, a2]
      funext i
      obtain ⟨b, p, h, e, rfl⟩ := index i
      refine Eq.trans ?_ (tail_values m c b p h e).symm
      refine Eq.trans ?_ (reference_apply _ _ _ b p ⟨256 + (h.val * 64 + e.val), by omega⟩)
      pointwise [Cert.Reference8Ideal.Read.val_main_v17, Cert.Reference8Ideal.Read.val_main_v16]

end Cert.Kernel8Ideal.Keys
-- ==== Proof.WinTile.lean ====
/-
  The sample's windowed attention: its block as one uniform term per head tile. Each of the 48 stores of the kernel's body is one
  and the same function of its coordinates: the batch entry `b` of the block, the key/value head `j` and the pair `i` of query
  heads. Here that function is written once, and what a grid point leaves in its output block is shown to be it.
-/
module

public import proofs.«01_k».proof.Proof.Gen.Kernel9Ideal.Value
public import Idealize.ShloMosaic.Lib.Pipeline.ValueKit

@[expose] public section

set_option maxRecDepth 16384

noncomputable section

namespace Cert.Kernel9Ideal.Win

open Cert.Kernel9Ideal Cert.Kernel9Ideal.Gen Idealize.ShloMosaic Idealize.ShloMosaic.TcCoe Idealize.SL.Sem

variable {F : FTy → Type} [FloatOps F]

/-- The lanes below 64: the first head of a pair. -/
def low : IVec S32x128 1 :=
  cmpi .slt (iota .tc S32x128 32 [1] iota_S32x128_d1_w32) (broadcast S32x128 64#32)

/-- A pair of query heads, scaled by one eighth. -/
def scaled (q : Vec F S1x32x128 .f32) : FVec F S32x128 .f32 :=
  mulf (shapeCast S32x128 q shapeCasts_S1x32x128_S32x128) (broadcast S32x128 (Scalar.ofBits .f32 0x3E000000#32))

/-- The pair with its second head replaced by zeros. -/
def first (q : Vec F S1x32x128 .f32) : FVec F S32x128 .bf16 :=
  truncf .bf16 (select low (scaled q) (broadcast S32x128 (Scalar.ofBits .f32 0x00000000#32))) bitsLt_bf16_f32

/-- The pair with its first head replaced by zeros. -/
def second (q : Vec F S1x32x128 .f32) : FVec F S32x128 .bf16 :=
  truncf .bf16 (select low (broadcast S32x128 (Scalar.ofBits .f32 0x00000000#32)) (scaled q)) bitsLt_bf16_f32

/-- The six query heads of a group, stacked. -/
def heads (q0 q1 q2 : Vec F S1x32x128 .f32) : FVec F S192x128 .bf16 :=
  concatenate S192x128 0 [⟨S32x128, first q0⟩, ⟨S32x128, second q0⟩, ⟨S32x128, first q1⟩, ⟨S32x128, second q1⟩,
    ⟨S32x128, first q2⟩, ⟨S32x128, second q2⟩]
    concatenates_S32x128_S32x128_S32x128_S32x128_S32x128_S32x128_S192x128_d0

/-- The window's keys or values, as the matrix unit takes them. -/
def window (k : Vec F S1x160x128 .f32) : FVec F S160x128 .bf16 :=
  truncf .bf16 (shapeCast S160x128 k shapeCasts_S1x160x128_S160x128) bitsLt_bf16_f32

/-- The scores. -/
def scores (x : FVec F S192x128 .bf16) (k : FVec F S160x128 .bf16) : FVec F S192x160 .f32 :=
  matmul dot_S192x128_S160x128_S192x160_1_1_0_0_n_n none x k (constant S192x160 .f32 0x00000000#32)

/-- The row's sink logit, from its block. -/
def sinkOf (z : Vec F S1x192x1 .f32) : FVec F S192x1 .f32 := shapeCast S192x1 z shapeCasts_S1x192x1_S192x1

/-- The largest of a row's scores and its sink. -/
def rowMax (s : FVec F S192x160 .f32) (z : FVec F S192x1 .f32) : FVec F S192x1 .f32 :=
  maximumf (shapeCast S192x1 (multiReduction .maximumf [1] S192 s 0xFF800000#32 reduces_S192x160_S192 (.inl rfl) rfl)
    shapeCasts_S192_S192x1) z

/-- The exponentials of the shifted scores. -/
def weights (s : FVec F S192x160 .f32) (z : FVec F S192x1 .f32) : FVec F S192x160 .f32 :=
  exp (subf s (broadcastTo S192x160 (rowMax s z) broadcasts_S192x1_S192x160))

/-- One over the row's sum of weights with the sink's. -/
def inverse (s : FVec F S192x160 .f32) (z : FVec F S192x1 .f32) : FVec F S192x1 .f32 :=
  divf (broadcast S192x1 (Scalar.ofBits .f32 0x3F800000#32))
    (addf (shapeCast S192x1 (multiReduction .add [1] S192 (weights s z) 0x00000000#32 reduces_S192x160_S192 (.inl rfl) rfl)
      shapeCasts_S192_S192x1) (exp (subf z (rowMax s z))))

/-- The weighted values, normalized. -/
def attend (s : FVec F S192x160 .f32) (z : FVec F S192x1 .f32) (v : FVec F S160x128 .bf16) : FVec F S192x128 .f32 :=
  mulf (matmul dot_S192x160_S160x128_S192x128_1_0_0_1_n_n none (truncf .bf16 (weights s z) bitsLt_bf16_f32) v
    (constant S192x128 .f32 0x00000000#32)) (broadcastTo S192x128 (inverse s z) broadcasts_S192x1_S192x128)

theorem slices_first (i : Fin 3) : S192x128.Slices ![64 * i.val, 0] S32x128 := by
  revert i; decide
theorem slices_second (i : Fin 3) : S192x128.Slices ![64 * i.val + 32, 0] S32x128 := by
  revert i; decide

/-- Pair `i` of the group's six heads, put side by side again. -/
def pair (i : Fin 3) (o : FVec F S192x128 .f32) : FVec F S1x32x128 .bf16 :=
  shapeCast S1x32x128 (truncf .bf16 (select low (extractStridedSlice S32x128 ![64 * i.val, 0] o (slices_first i))
    (extractStridedSlice S32x128 ![64 * i.val + 32, 0] o (slices_second i))) bitsLt_bf16_f32) shapeCasts_S32x128_S1x32x128

theorem inb_q (b : Fin 4) (n : Fin 12) :
    ∀ a, (![b.val, 0, 128 * n.val] : Fin 3 → Nat) a + (![1, 32, 128] : Fin 3 → Nat) a ≤ S4x32x1536.size a := by
  revert b n; decide
theorem inb_k (b : Fin 4) (j : Fin 4) :
    ∀ a, (![b.val, 0, 128 * j.val] : Fin 3 → Nat) a + (![1, 160, 128] : Fin 3 → Nat) a ≤ S4x160x512.size a := by
  revert b j; decide
theorem inb_z (j : Fin 4) :
    ∀ a, (![j.val, 0, 0] : Fin 3 → Nat) a + (![1, 192, 1] : Fin 3 → Nat) a ≤ S4x192x1.size a := by
  revert j; decide

/-- The tile `(b, n)` of a query or output block. -/
def qRect (b : Fin 4) (n : Fin 12) : Rect S4x32x1536 := Rect.unit ![b.val, 0, 128 * n.val] ![1, 32, 128] (inb_q b n)

/-- The query pair `n` of entry `b`. -/
def qTile (x : Vec F S4x32x1536 .f32) (b : Fin 4) (n : Fin 12) : Vec F S1x32x128 .f32 := View.ld x (qRect b n)
/-- The keys (or values) of head `j` of entry `b`. -/
def kTile (x : Vec F S4x160x512 .f32) (b : Fin 4) (j : Fin 4) : Vec F S1x160x128 .f32 :=
  View.ld x (Rect.unit ![b.val, 0, 128 * j.val] ![1, 160, 128] (inb_k b j))
/-- The sinks of head `j`'s group. -/
def zTile (x : Vec F S4x192x1 .f32) (j : Fin 4) : Vec F S1x192x1 .f32 :=
  View.ld x (Rect.unit ![j.val, 0, 0] ![1, 192, 1] (inb_z j))

/-- The number of pair `i` of group `j` among the twelve. -/
def pairNo (j : Fin 4) (i : Fin 3) : Fin 12 := ⟨3 * j.val + i.val, by omega⟩

/-- What the kernel stores at tile `(b, j, i)`. -/
def tile (x0 : Vec F S4x32x1536 .f32) (x1 x2 : Vec F S4x160x512 .f32) (x3 : Vec F S4x192x1 .f32)
    (b : Fin 4) (j : Fin 4) (i : Fin 3) : FVec F S1x32x128 .bf16 :=
  pair i (attend (scores (heads (qTile x0 b (pairNo j 0)) (qTile x0 b (pairNo j 1)) (qTile x0 b (pairNo j 2)))
    (window (kTile x1 b j))) (sinkOf (zTile x3 j)) (window (kTile x2 b j)))

/-- Store number `k`, counted from the last: its entry, head and pair. -/
def piece (x0 : Vec F S4x32x1536 .f32) (x1 x2 : Vec F S4x160x512 .f32) (x3 : Vec F S4x192x1 .f32)
    (k : Fin 48) : View.Piece (Elt F) S4x32x1536 .bf16 :=
  ⟨qRect ⟨(47 - k.val) / 12, by omega⟩ ⟨(47 - k.val) % 12, by omega⟩,
    tile x0 x1 x2 x3 ⟨(47 - k.val) / 12, by omega⟩ ⟨(47 - k.val) % 12 / 3, by omega⟩ ⟨(47 - k.val) % 3, by omega⟩⟩

/-- A grid point leaves in its output block the 48 tiles, one store each. -/
theorem out_eq (c : Dev nD) (i : grid0.Coords) (arg1 : Memref sig .tc .vmem S4x32x1536 .f32) (harg1 : arg1.IsWhole)
    (arg2 : Memref sig .tc .vmem S4x160x512 .f32) (harg2 : arg2.IsWhole) (arg3 : Memref sig .tc .vmem S4x160x512 .f32) (harg3 : arg3.IsWhole)
    (arg4 : Memref sig .tc .vmem S4x192x1 .f32) (harg4 : arg4.IsWhole) (arg5 : Memref sig .tc .vmem S4x32x1536 .bf16) (harg5 : arg5.IsWhole)
    (x0 : Vec Ideal S4x32x1536 .f32) (x1 x2 : Vec Ideal S4x160x512 .f32) (x3 : Vec Ideal S4x192x1 .f32) :
    out0_A_4 c i arg1 harg1 arg2 harg2 arg3 harg3 arg4 harg4 arg5 harg5 x0 x1 x2 x3
      = View.canon (List.ofFn (piece x0 x1 x2 x3)) := by
  have e : (kernelRun0_A c i arg1 harg1 arg2 harg2 arg3 harg3 arg4 harg4 arg5 harg5 x0 x1 x2 x3).1
      = List.ofFn (piece (arg1.view.read (Elt Ideal) (harg1.unread x0)) (arg2.view.read (Elt Ideal) (harg2.unread x1))
        (arg3.view.read (Elt Ideal) (harg3.unread x2)) (arg4.view.read (Elt Ideal) (harg4.unread x3))) := by
    sl_kernel_rfl
  rw [harg1.read_unread, harg2.read_unread, harg3.read_unread, harg4.read_unread] at e
  exact (View.read_writes_eq_canon _ _ _ (cover0_A_4 c i arg1 harg1 arg2 harg2 arg3 harg3 arg4 harg4 arg5 harg5 x0 x1 x2 x3)).trans
    (congrArg View.canon e)

end Cert.Kernel9Ideal.Win
-- ==== Proof.WinValue.lean ====
/-
  The sample's attention block at an index: each stored tile is the softmax with a sink over the window. Then the whole output
  array: what the run leaves is `attention` of the arguments, where queries, keys and sinks are real numbers.
-/
module

public import proofs.«01_k».proof.Proof.WinTile
public import proofs.«01_k».proof.Proof.SwaValue

@[expose] public section

set_option maxRecDepth 16384

noncomputable section

namespace Cert.Kernel9Ideal.Win

open Cert.Kernel9Ideal Cert.Kernel9Ideal.Gen Idealize.ShloMosaic Idealize.ShloMosaic.TcCoe Idealize.SL.Sem
open Cert.KernelIdeal.Swa (low_lane sum_half eighth eighth_nonneg eighth_ne_top neg_inf)

/-- A query tile at an index. -/
theorem qTile_apply (x : Vec Ideal S4x32x1536 .f32) (b : Fin 4) (n : Fin 12) (a : Fin 1) (p : Fin 32) (l : Fin 128) :
    qTile x b n (ix3 a p l) = x (ix3 b p ⟨128 * n.val + l.val, by omega⟩) := by
  pointwise [qTile, qRect]

/-- The window of a head at an index. -/
theorem window_apply (x : Vec Ideal S4x160x512 .f32) (b : Fin 4) (j : Fin 4) (s : Fin 160) (l : Fin 128) :
    window (kTile x b j) (ix2 s l) = x (ix3 b s ⟨128 * j.val + l.val, by omega⟩) := by
  pointwise [window, kTile]

/-- A group's sink column at an index. -/
theorem sink_apply (x : Vec Ideal S4x192x1 .f32) (j : Fin 4) (r : Fin 192) (a : Fin 1) :
    sinkOf (zTile x j) (ix2 r a) = x (ix3 j r 0) := by
  pointwise [sinkOf, zTile]

/-- The first head of a pair at an index. -/
theorem first_apply (q : Vec Ideal S1x32x128 .f32) (p : Fin 32) (l : Fin 128) :
    first q (ix2 p l) = if l.val < 64 then q (ix3 0 p l) * Ideal.ofBits FTy.f32 0x3E000000#32 else 0 := by
  pointwise [first, scaled, low]
  rw [low_lane]
  split <;> rfl

/-- The second head of a pair at an index. -/
theorem second_apply (q : Vec Ideal S1x32x128 .f32) (p : Fin 32) (l : Fin 128) :
    second q (ix2 p l) = if l.val < 64 then 0 else q (ix3 0 p l) * Ideal.ofBits FTy.f32 0x3E000000#32 := by
  pointwise [second, scaled, low]
  rw [low_lane]
  split <;> rfl

/-- The stacked heads at an index: head `g` is half of pair `g / 2`. -/
theorem heads_apply (x : Vec Ideal S4x32x1536 .f32) (b : Fin 4) (j : Fin 4) (g : Fin 6) (p : Fin 32) (l : Fin 128) :
    heads (qTile x b (pairNo j 0)) (qTile x b (pairNo j 1)) (qTile x b (pairNo j 2)) (ix2 ⟨32 * g.val + p.val, by omega⟩ l)
      = if l.val / 64 = g.val % 2 then
          x (ix3 b p ⟨128 * (3 * j.val + g.val / 2) + l.val, by omega⟩) * Ideal.ofBits FTy.f32 0x3E000000#32
        else 0 := by
  have hl : l.val / 64 = if l.val < 64 then 0 else 1 := by split <;> omega
  pointwise [heads]
  simp only [first_apply, second_apply, qTile_apply, pairNo, Fin.val_zero, Fin.val_one, Fin.val_two]
  split_ifs <;> first
    | (exfalso; omega)
    | rfl
    | exact (if_neg (by omega)).symm
    | (refine Eq.trans ?_ (if_pos (by omega)).symm
       exact congrArg (fun i => x i * Ideal.ofBits FTy.f32 0x3E000000#32)
         (congrArg₂ (fun a e => ix3 b a e) (Fin.ext (by dsimp only; omega)) (Fin.ext (by dsimp only; omega))))

/-- The window's keys: the cached ones and then the new ones. -/
def wkey (pk : FVec Ideal S32x128x4x64 .f32) (kv : FVec Ideal S32x32x512 .f32) (b : Fin 32) (s : Fin 160) (j : Fin 4) (d : Fin 64) : EReal :=
  if h : s.val < 128 then pk (ix4 b ⟨s.val, h⟩ j d) else kv (ix3 b ⟨s.val - 128, by omega⟩ ⟨j.val * 64 + d.val, by omega⟩)

/-- The window's values: the cached ones and then the new ones. -/
def wval (pv : FVec Ideal S32x128x4x64 .f32) (kv : FVec Ideal S32x32x512 .f32) (b : Fin 32) (s : Fin 160) (j : Fin 4) (d : Fin 64) : EReal :=
  if h : s.val < 128 then pv (ix4 b ⟨s.val, h⟩ j d) else kv (ix3 b ⟨s.val - 128, by omega⟩ ⟨256 + (j.val * 64 + d.val), by omega⟩)

/-- The score of query `q`, head `g` of group `j`, at window position `s`. -/
def score (a : FVec Ideal S32x32x2048 .f32) (pk : FVec Ideal S32x128x4x64 .f32) (kv : FVec Ideal S32x32x512 .f32) (b : Fin 32) (j : Fin 4)
    (g : Fin 6) (q : Fin 32) (s : Fin 160) : EReal :=
  (∑ d : Fin 64, wkey pk kv b s j d * a (ix3 b q ⟨j.val * 384 + g.val * 64 + d.val, by omega⟩)) * Ideal.ofBits FTy.f32 0x3E000000#32

/-- Entry `b` of block `w`. -/
def entryNo (w : Fin 8) (b : Fin 4) : Fin 32 := ⟨4 * w.val + b.val, by omega⟩

section tile

variable (a : FVec Ideal S32x32x2048 .f32) (pk pv : FVec Ideal S32x128x4x64 .f32) (kv : FVec Ideal S32x32x512 .f32) (sk : FVec Ideal S24 .f32)
  (w : Fin 8) (x0 : Vec Ideal S4x32x1536 .f32) (x1 x2 : Vec Ideal S4x160x512 .f32) (x3 : Vec Ideal S4x192x1 .f32)
  (h0 : ∀ (b : Fin 4) (r : Fin 32) (n : Fin 1536), x0 (ix3 b r n) = a (ix3 (entryNo w b) r ⟨n.val, by omega⟩))
  (h1 : ∀ (b : Fin 4) (s : Fin 160) (k : Fin 512), x1 (ix3 b s k) = wkey pk kv (entryNo w b) s ⟨k.val / 128, by omega⟩ ⟨k.val % 64, by omega⟩)
  (h2 : ∀ (b : Fin 4) (s : Fin 160) (k : Fin 512), x2 (ix3 b s k) = wval pv kv (entryNo w b) s ⟨k.val / 128, by omega⟩ ⟨k.val % 64, by omega⟩)
  (h3 : ∀ (j : Fin 4) (r : Fin 192), x3 (ix3 j r 0) = sk (ix1 ⟨j.val * 6 + r.val / 32, by omega⟩))

include h0 h1 in
/-- The kernel's score is `score`. -/
theorem scores_apply (b : Fin 4) (j : Fin 4) (g : Fin 6) (p : Fin 32) (s : Fin 160) :
    scores (heads (qTile x0 b (pairNo j 0)) (qTile x0 b (pairNo j 1)) (qTile x0 b (pairNo j 2))) (window (kTile x1 b j))
        (ix2 ⟨32 * g.val + p.val, by omega⟩ s)
      = score a pk kv (entryNo w b) j g p s := by
  pointwise [scores]
  unfold score
  simp only [heads_apply, ite_mul, zero_mul]
  refine Eq.trans (sum_half _ _ (Nat.mod_lt _ (by decide))) ?_
  refine Eq.trans (Finset.sum_congr rfl fun d _ => ?_) (Cert.Swa.sum_mul_real _ _ _ eighth_nonneg eighth_ne_top).symm
  rw [window_apply, h0, h1, mul_right_comm, mul_comm (a _) _]
  refine congrArg₂ (fun u v => u * a v * Ideal.ofBits .f32 0x3E000000#32)
    (congrArg₂ (fun u v => wkey pk kv (entryNo w b) s u v) (Fin.ext ?_) (Fin.ext ?_))
    (congrArg (fun v => ix3 (entryNo w b) p v) (Fin.ext ?_)) <;> dsimp only <;> omega

/-- The attended values at an index. -/
theorem attend_apply (s : FVec Ideal S192x160 .f32) (z : FVec Ideal S192x1 .f32) (v : FVec Ideal S160x128 .bf16) (r : Fin 192) (l : Fin 128) :
    attend s z v (ix2 r l) = Cert.Swa.dividedAfter (fun k => s (ix2 r k)) (fun k => v (ix2 k l)) (z (ix2 r 0)) := by
  unfold Cert.Swa.dividedAfter Cert.Swa.mass Cert.Swa.largest
  rw [← neg_inf]
  pointwise [attend, inverse, weights, rowMax]

/-- The head of lane `l` of pair `i`. -/
def headNo (i : Fin 3) (l : Fin 128) : Fin 6 := ⟨2 * i.val + l.val / 64, by omega⟩

/-- A pair of heads at an index. -/
theorem pair_apply (i : Fin 3) (o : FVec Ideal S192x128 .f32) (e : Fin 1) (p : Fin 32) (l : Fin 128) :
    pair i o (ix3 e p l) = o (ix2 ⟨32 * (headNo i l).val + p.val, by omega⟩ l) := by
  pointwise [pair, low]
  rw [low_lane]
  by_cases hl : l.val < 64
  · rw [if_pos hl]
    refine Eq.trans rfl (congrArg o (congrArg (fun a => ix2 a l) (Fin.ext ?_)))
    dsimp only [headNo]; omega
  · rw [if_neg hl]
    refine Eq.trans rfl (congrArg o (congrArg (fun a => ix2 a l) (Fin.ext ?_)))
    dsimp only [headNo]; omega

include h0 h1 h2 h3 in
/-- A stored tile at an index: the softmax with a sink over the window. -/
theorem tile_apply (b : Fin 4) (j : Fin 4) (i : Fin 3) (e : Fin 1) (p : Fin 32) (l : Fin 128) :
    tile x0 x1 x2 x3 b j i (ix3 e p l)
      = Cert.Swa.dividedAfter (score a pk kv (entryNo w b) j (headNo i l) p)
          (fun s => wval pv kv (entryNo w b) s j ⟨l.val % 64, by omega⟩) (sk (ix1 ⟨j.val * 6 + (headNo i l).val, by omega⟩)) := by
  unfold tile
  rw [pair_apply, attend_apply, sink_apply, h3]
  simp only [scores_apply a pk kv w x0 x1 h0 h1, window_apply, h2]
  refine congrArg₂ (Cert.Swa.dividedAfter _) (funext fun s => congrArg₂ (wval pv kv (entryNo w b) s) (Fin.ext ?_) (Fin.ext ?_))
    (congrArg (fun a => sk (ix1 a)) (Fin.ext ?_)) <;> dsimp only <;> omega

end tile

/-- Query `q`, head `g` of group `j`, lane `d`: the window's values weighted by the softmax with a sink. -/
def attention (a : FVec Ideal S32x32x2048 .f32) (pk pv : FVec Ideal S32x128x4x64 .f32) (kv : FVec Ideal S32x32x512 .f32) (sk : FVec Ideal S24 .f32)
    (b : Fin 32) (j : Fin 4) (g : Fin 6) (q : Fin 32) (d : Fin 64) : EReal :=
  Cert.Swa.dividedBefore (score a pk kv b j g q) (fun s => wval pv kv b s j d) (sk (ix1 ⟨j.val * 6 + g.val, by omega⟩))

/-- Every query, cached or new key and sink is a real number. -/
structure Finite (a : FVec Ideal S32x32x2048 .f32) (pk : FVec Ideal S32x128x4x64 .f32) (kv : FVec Ideal S32x32x512 .f32)
    (sk : FVec Ideal S24 .f32) : Prop where
  query : ∀ (b : Fin 32) (t : Fin 32) (n : Fin 2048), n.val < 1536 → ∃ r : ℝ, a (ix3 b t n) = r
  past : ∀ (b : Fin 32) (t : Fin 128) (j : Fin 4) (d : Fin 64), ∃ r : ℝ, pk (ix4 b t j d) = r
  key : ∀ (b : Fin 32) (t : Fin 32) (n : Fin 512), n.val < 256 → ∃ r : ℝ, kv (ix3 b t n) = r
  sink : ∀ n : Fin 24, ∃ r : ℝ, sk (ix1 n) = r

/-- No score is plus infinity. -/
theorem score_ne_top {a : FVec Ideal S32x32x2048 .f32} {pk : FVec Ideal S32x128x4x64 .f32} {kv : FVec Ideal S32x32x512 .f32}
    {sk : FVec Ideal S24 .f32} (hf : Finite a pk kv sk) (b : Fin 32) (j : Fin 4) (g : Fin 6) (q : Fin 32) (s : Fin 160) :
    score a pk kv b j g q s ≠ ⊤ := by
  unfold score
  obtain ⟨r, hr⟩ := Cert.Swa.sum_real Finset.univ
    (fun d : Fin 64 => wkey pk kv b s j d * a (ix3 b q ⟨j.val * 384 + g.val * 64 + d.val, by omega⟩)) fun d _ => by
      obtain ⟨x, hx⟩ : ∃ r : ℝ, wkey pk kv b s j d = r := by
        unfold wkey
        split
        · exact hf.past _ _ _ _
        · exact hf.key _ _ _ (by dsimp only; omega)
      obtain ⟨y, hy⟩ := hf.query b q ⟨j.val * 384 + g.val * 64 + d.val, by omega⟩ (by dsimp only; omega)
      exact ⟨x * y, by rw [hx, hy, EReal.coe_mul]⟩
  rw [hr, eighth, ← EReal.coe_mul]
  exact EReal.coe_ne_top _

variable (m : (ℓ : Loc nD τ sig) → Buf (Elt Ideal) ℓ) (c : Dev nD)

/-- The projected rows, the cached keys and values, the new ones, the sinks. -/
def argA : FVec Ideal S32x32x2048 .f32 := m ((c : Thread nD τ).loc main_arg0)
def argPK : FVec Ideal S32x128x4x64 .f32 := m ((c : Thread nD τ).loc main_arg1)
def argPV : FVec Ideal S32x128x4x64 .f32 := m ((c : Thread nD τ).loc main_arg2)
def argKV : FVec Ideal S32x32x512 .f32 := m ((c : Thread nD τ).loc main_arg3)
def argS : FVec Ideal S24 .f32 := m ((c : Thread nD τ).loc main_arg4)

theorem entryA (b : Fin 32) (t : Fin 32) (n : Fin 2048) : (V m c main_arg0 : FVec Ideal S32x32x2048 .f32) (ix3 b t n) = argA m c (ix3 b t n) := by
  unfold V argA
  after_reads_at
theorem entryK (b : Fin 32) (s : Fin 160) (k : Fin 512) : (V m c main_v8 : FVec Ideal S32x160x512 .f32) (ix3 b s k)
    = wkey (argPK m c) (argKV m c) b s ⟨k.val / 128, by omega⟩ ⟨k.val % 64, by omega⟩ := by
  unfold V argPK argKV wkey
  after_reads_at
  refine dite_congr rfl (fun h => congrArg _ (congrArg₂ (ix4 b _) (Fin.ext ?_) (Fin.ext ?_))) fun _ => rfl
  all_goals (dsimp only; omega)
theorem entryV (b : Fin 32) (s : Fin 160) (k : Fin 512) : (V m c main_v17 : FVec Ideal S32x160x512 .f32) (ix3 b s k)
    = wval (argPV m c) (argKV m c) b s ⟨k.val / 128, by omega⟩ ⟨k.val % 64, by omega⟩ := by
  unfold V argPV argKV wval
  after_reads_at
  refine dite_congr rfl (fun h => congrArg _ (congrArg₂ (ix4 b _) (Fin.ext ?_) (Fin.ext ?_))) fun _ => rfl
  all_goals (dsimp only; omega)
theorem entryS (j : Fin 4) (r : Fin 192) : (V m c main_v21 : FVec Ideal S4x192x1 .f32) (ix3 j r 0) = argS m c (ix1 ⟨j.val * 6 + r.val / 32, by omega⟩) := by
  unfold V argS
  after_reads_at

theorem index_maps : ∀ t : Fin grid0.N, win0_0.index t = ![t.val, 0, 0] ∧ win0_1.index t = ![t.val, 0, 0]
    ∧ win0_2.index t = ![t.val, 0, 0] ∧ win0_3.index t = ![0, 0, 0] ∧ win0_4.index t = ![t.val, 0, 0] := by
  decide +kernel

theorem point_lt (t : Fin cfg0.N) : t.val < 8 := lt_of_lt_of_eq t.isLt N_0

/-- The grid point as a block number. -/
def blockNo (t : Fin cfg0.N) : Fin 8 := ⟨t.val, point_lt t⟩

theorem winA (t : Fin cfg0.N) (b : Fin 4) (r : Fin 32) (n : Fin 1536) :
    (X0_0 m c t : FVec Ideal S4x32x1536 .f32) (ix3 b r n) = argA m c (ix3 (entryNo (blockNo t) b) r ⟨n.val, by omega⟩) := by
  rw [← entryA]
  unfold X0_0 Pipeline.Window.fill
  rw [dif_pos (moved0_0 t _)]
  blk_ext [iblk, (index_maps t).1]
  show _ = 4 * t.val + b.val; omega
theorem winK (t : Fin cfg0.N) (b : Fin 4) (s : Fin 160) (k : Fin 512) :
    (iblk m c 1 t : FVec Ideal S4x160x512 .f32) (ix3 b s k)
      = wkey (argPK m c) (argKV m c) (entryNo (blockNo t) b) s ⟨k.val / 128, by omega⟩ ⟨k.val % 64, by omega⟩ := by
  rw [← entryK]
  blk_ext [iblk, (index_maps t).2.1]
  show _ = 4 * t.val + b.val; omega
theorem winV (t : Fin cfg0.N) (b : Fin 4) (s : Fin 160) (k : Fin 512) :
    (iblk m c 2 t : FVec Ideal S4x160x512 .f32) (ix3 b s k)
      = wval (argPV m c) (argKV m c) (entryNo (blockNo t) b) s ⟨k.val / 128, by omega⟩ ⟨k.val % 64, by omega⟩ := by
  rw [← entryV]
  blk_ext [iblk, (index_maps t).2.2.1]
  show _ = 4 * t.val + b.val; omega
theorem winS (t : Fin cfg0.N) (j : Fin 4) (r : Fin 192) :
    (iblk m c 3 t : FVec Ideal S4x192x1 .f32) (ix3 j r 0) = argS m c (ix1 ⟨j.val * 6 + r.val / 32, by omega⟩) := by
  rw [← entryS]
  blk_ext [iblk, (index_maps t).2.2.2.1]

/-- The array the run leaves. -/
def result : FVec Ideal S32x32x1536 .bf16 := fun i =>
  attention (argA m c) (argPK m c) (argPV m c) (argKV m c) (argS m c) (i 0)
    ⟨(i 2).val / 384, by have h : (i 2).val < 1536 := (i 2).isLt; omega⟩ ⟨(i 2).val / 64 % 6, by omega⟩ (i 1) ⟨(i 2).val % 64, by omega⟩

variable (hf : Finite (argA m c) (argPK m c) (argKV m c) (argS m c))

omit hf in
/-- The indices of a tile. -/
theorem mem_qRect (b' : Fin 4) (n' : Fin 12) (b : Fin 4) (r : Fin 32) (n : Fin 1536) (h0 : b.val = b'.val)
    (h2 : n.val / 128 = n'.val) : (ix3 b r n : S4x32x1536.Idx) ∈ (qRect b' n').set := by
  unfold qRect
  refine Rect.mem_set_unit.mpr fun a => ?_
  fin_cases a
  · show b'.val ≤ b.val ∧ b.val < b'.val + 1
    omega
  · show 0 ≤ r.val ∧ r.val < 0 + 32
    omega
  · show 128 * n'.val ≤ n.val ∧ n.val < 128 * n'.val + 128
    omega

omit hf in
/-- An index of the block has the value that the tile holding it has there. -/
theorem tiles_value (x0 : Vec Ideal S4x32x1536 .f32) (x1 x2 : Vec Ideal S4x160x512 .f32) (x3 : Vec Ideal S4x192x1 .f32)
    (b : Fin 4) (r : Fin 32) (n : Fin 1536) (v : EReal)
    (h : ∀ (b' : Fin 4) (j : Fin 4) (i : Fin 3) (e : Fin 1) (p : Fin 32) (l : Fin 128), b.val = b'.val → r.val = p.val →
      n.val = 128 * (3 * j.val + i.val) + l.val → tile x0 x1 x2 x3 b' j i (ix3 e p l) = v) :
    View.canon (List.ofFn (piece x0 x1 x2 x3)) (ix3 b r n) = v := by
  refine View.canon_eq_of_allAt (Val := Elt Ideal) (e := .bf16) _ (ix3 b r n) v ?_ ?_
  · refine ⟨_, (List.mem_ofFn).mpr ⟨⟨47 - (12 * b.val + n.val / 128), by omega⟩, rfl⟩, ?_⟩
    refine mem_qRect _ _ _ _ _ ?_ ?_ <;> dsimp only <;> omega
  · intro p hp
    obtain ⟨k, rfl⟩ := (List.mem_ofFn).mp hp
    intro x hx
    obtain ⟨e, q, l, rfl⟩ : ∃ (e : Fin 1) (q : Fin 32) (l : Fin 128), x = ix3 e q l := ⟨x 0, x 1, x 2, funext fun a => by fin_cases a <;> rfl⟩
    have e0 : (47 - k.val) / 12 + 1 * e.val = b.val := congrArg (fun i => (i 0).val) hx
    have e1 : 0 + 1 * q.val = r.val := congrArg (fun i => (i 1).val) hx
    have e2 : 128 * ((47 - k.val) % 12) + 1 * l.val = n.val := congrArg (fun i => (i 2).val) hx
    exact h ⟨(47 - k.val) / 12, by omega⟩ ⟨(47 - k.val) % 12 / 3, by omega⟩ ⟨(47 - k.val) % 3, by omega⟩ e q l
      (by dsimp only; omega) (by omega) (by dsimp only; omega)

include hf in
/-- What a grid point leaves in its output block. -/
theorem block_value (t : Fin cfg0.N) (b : Fin 4) (r : Fin 32) (n : Fin 1536) :
    (outsAt0 m c t : FVec Ideal S4x32x1536 .bf16) (ix3 b r n)
      = attention (argA m c) (argPK m c) (argPV m c) (argKV m c) (argS m c) (entryNo (blockNo t) b)
          ⟨n.val / 384, by omega⟩ ⟨n.val / 64 % 6, by omega⟩ r ⟨n.val % 64, by omega⟩ := by
  unfold outsAt0
  rw [out_eq]
  refine tiles_value _ _ _ _ b r n _ fun b' j i e p l hb hr hn => ?_
  refine (tile_apply (argA m c) (argPK m c) (argPV m c) (argKV m c) (argS m c) (blockNo t) _ _ _ _ (winA m c t) (winK m c t) (winV m c t)
    (winS m c t) b' j i e p l).trans ?_
  refine (Cert.Swa.divided_eq _ _ _ _ (hf.sink _) (score_ne_top hf _ _ _ _) fun s => .inr rfl).trans ?_
  obtain rfl : b = b' := Fin.ext hb
  obtain rfl : r = p := Fin.ext hr
  have key : ∀ (j' : Fin 4) (g' : Fin 6) (d d' : Fin 64), j = j' → headNo i l = g' → d = d' →
      attention (argA m c) (argPK m c) (argPV m c) (argKV m c) (argS m c) (entryNo (blockNo t) b) j (headNo i l) r d
        = attention (argA m c) (argPK m c) (argPV m c) (argKV m c) (argS m c) (entryNo (blockNo t) b) j' g' r d' := by
    rintro _ _ _ _ rfl rfl rfl
    rfl
  exact key _ _ _ _ (Fin.ext (by dsimp only; omega)) (Fin.ext (by dsimp only [headNo]; omega)) (Fin.ext (by dsimp only; omega))

include hf in
theorem final : (dats m 0 c).arrAt 4 cfg0.N = result m c := by
  refine (dats m 0 c).arrAt_eq_of_covers 4 _ (by decide +kernel) fun t hf' y => ?_
  blk_simp
  rw [after0_4]
  obtain ⟨b, r, n, rfl⟩ : ∃ (b : Fin 4) (r : Fin 32) (n : Fin 1536), y = ix3 b r n :=
    ⟨y 0, y 1, y 2, funext fun a => by fin_cases a <;> rfl⟩
  rw [block_value m c hf t]
  unfold result
  blk_simp [(index_maps t).2.2.2.2]
  congr 1 <;> refine Fin.ext ?_ <;> blk_simp [(index_maps t).2.2.2.2]
  all_goals (dsimp only [entryNo, blockNo]; omega)

end Cert.Kernel9Ideal.Win
-- ==== Proof.WinClaim.lean ====
/-
  The reference of the sample's attention at an index is `attention` of its arguments, and the claim: from finite queries, keys and
  sinks the kernel's result and the reference's are equal.
-/
module

public import proofs.«01_k».proof.Proof.WinValue
public import proofs.«01_k».proof.Proof.SwaClaim
public import proofs.«01_k».proof.Proof.Gen.Reference9Ideal.Read
public import proofs.«01_k».proof.Proof.Gen.Reference9Ideal.Run
public import proofs.«01_k».proof.Proof.Gen.Pre_finite_window
public import proofs.«01_k».proof.Defs

@[expose] public section

set_option maxRecDepth 16384

noncomputable section

namespace Cert.Kernel9Ideal.WinClaim

open Idealize.ShloMosaic Idealize.ShloMosaic.TcCoe Idealize.SL.Sem
open Cert.Reference9Ideal Cert.Reference9Ideal.Read Cert.Kernel9Ideal.Win

variable (x0 : FVec Ideal S32x32x2048 .f32) (x1 x2 : FVec Ideal S32x128x4x64 .f32) (x3 : FVec Ideal S32x32x512 .f32) (x4 : FVec Ideal S24 .f32)

/-- The reference's window of keys. -/
theorem key_apply (b : Fin 32) (s : Fin 160) (j : Fin 4) (d : Fin 64) : val_main_v4 (F := Ideal) x1 x3 (ix4 b s j d) = wkey x1 x3 b s j d := by
  unfold wkey
  pointwise [val_main_v4, val_main_v1, val_main_v0]

/-- The reference's window of values. -/
theorem val_apply (b : Fin 32) (s : Fin 160) (j : Fin 4) (d : Fin 64) : val_main_v5 (F := Ideal) x2 x3 (ix4 b s j d) = wval x2 x3 b s j d := by
  unfold wval
  pointwise [val_main_v5, val_main_v3, val_main_v2]

/-- The reference's score is `score`. -/
theorem score_apply (b : Fin 32) (j : Fin 4) (g : Fin 6) (q : Fin 32) (s : Fin 160) :
    val_main_v11 (F := Ideal) x0 x1 x3 (ix5 b j g q s) = score x0 x1 x3 b j g q s := by
  pointwise [val_main_v11, val_main_v10, val_main_cst, val_main_v9, val_main_v8, val_main_v7, val_main_v6]
  unfold score
  exact congrArg (· * _) (Finset.sum_congr rfl fun d _ => by rw [key_apply])

/-- A maximum over the last of the five axes is the fold over its positions. -/
theorem max_fold (y : FVec Ideal S32x4x6x32x160 .f32) (z : FVec Ideal S_ .f32) (b : Fin 32) (j : Fin 4) (g : Fin 6) (q : Fin 32) :
    Host.reduce FloatOps.maximumf y z Gen.reducesTo_S32x4x6x32x160_S32x4x6x32_d4 Gen.h_S_ (ix4 b j g q)
      = Finset.univ.fold max (z ix0) (fun s : Fin 160 => y (ix5 b j g q s)) := by
  rw [Host.reduce_eq_fold_single _ _ _ _ (by decide)]
  have hz : Shape.Idx.first Gen.h_S_ = ix0 := funext fun a => a.elim0
  rw [hz]
  refine congrArg (Finset.fold max (z ix0) · Finset.univ) (funext fun s => congrArg y ?_)
  exact funext fun a => Fin.ext (match a with | ⟨0, _⟩ => rfl | ⟨1, _⟩ => rfl | ⟨2, _⟩ => rfl | ⟨3, _⟩ => rfl | ⟨4, _⟩ => rfl)

/-- The row's maximum over the window. -/
theorem max_apply (b : Fin 32) (j : Fin 4) (g : Fin 6) (q : Fin 32) :
    val_main_v14 (F := Ideal) x0 x1 x3 (ix4 b j g q) = Finset.univ.fold max ⊥ (score x0 x1 x3 b j g q) := by
  refine (max_fold _ _ b j g q).trans ?_
  have h0 : val_main_cst_0 (F := Ideal) ix0 = ⊥ := by
    pointwise [val_main_cst_0]
    exact Cert.KernelIdeal.Swa.neg_inf
  rw [h0]
  exact congrArg (Finset.fold max ⊥ · Finset.univ) (funext fun s => score_apply x0 x1 x3 b j g q s)

/-- A row's sink. -/
theorem sinks_apply (b : Fin 32) (j : Fin 4) (g : Fin 6) (q : Fin 32) (u : Fin 1) :
    val_main_v16 (F := Ideal) x4 (ix5 b j g q u) = x4 (ix1 ⟨j.val * 6 + g.val, by omega⟩) := by
  pointwise [val_main_v16, val_main_v13, val_main_v12]

/-- A row's maximum, with its unit axis. -/
theorem maxes_apply (b : Fin 32) (j : Fin 4) (g : Fin 6) (q : Fin 32) (u : Fin 1) :
    val_main_v15 (F := Ideal) x0 x1 x3 (ix5 b j g q u) = val_main_v14 (F := Ideal) x0 x1 x3 (ix4 b j g q) := by
  unfold val_main_v15
  generalize val_main_v14 (F := Ideal) x0 x1 x3 = y
  pointwise []

/-- The largest of a row's scores and its sink. -/
theorem largest_apply (b : Fin 32) (j : Fin 4) (g : Fin 6) (q : Fin 32) (u : Fin 1) :
    val_main_v17 (F := Ideal) x0 x1 x3 x4 (ix5 b j g q u)
      = Cert.Swa.largest (score x0 x1 x3 b j g q) (x4 (ix1 ⟨j.val * 6 + g.val, by omega⟩)) := by
  unfold Cert.Swa.largest
  rw [val_main_v17_apply, maxes_apply, sinks_apply, max_apply]
  rfl

/-- A row's exponentials. -/
theorem exp_apply (b : Fin 32) (j : Fin 4) (g : Fin 6) (q : Fin 32) (s : Fin 160) :
    val_main_v20 (F := Ideal) x0 x1 x3 x4 (ix5 b j g q s)
      = Ideal.exp (score x0 x1 x3 b j g q s - Cert.Swa.largest (score x0 x1 x3 b j g q) (x4 (ix1 ⟨j.val * 6 + g.val, by omega⟩))) := by
  pointwise [val_main_v20, val_main_v19, val_main_v18]
  rw [largest_apply, score_apply]

/-- A row's mass. -/
theorem mass_apply (b : Fin 32) (j : Fin 4) (g : Fin 6) (q : Fin 32) (u : Fin 1) :
    val_main_v26 (F := Ideal) x0 x1 x3 x4 (ix5 b j g q u)
      = Cert.Swa.mass (score x0 x1 x3 b j g q) (x4 (ix1 ⟨j.val * 6 + g.val, by omega⟩)) := by
  pointwise [val_main_v26, val_main_v25, val_main_v24, val_main_v23, val_main_v22, val_main_v13, val_main_v12]
  rw [largest_apply, val_main_v21_apply]
  have h0 : val_main_cst_1 (F := Ideal) (Shape.Idx.first Gen.h_S_) = 0 := by
    show Ideal.ofBits .f32 0x00000000#32 = 0
    simp [Ideal.ofBits, Ideal.ieee]
  rw [h0, zero_add]
  unfold Cert.Swa.mass
  refine congrArg (· + _) (Finset.sum_congr rfl fun s _ => ?_)
  refine Eq.trans (congrArg (val_main_v20 (F := Ideal) x0 x1 x3 x4) ?_) (exp_apply x0 x1 x3 x4 b j g q s)
  exact funext fun a => Fin.ext (match a with | ⟨0, _⟩ => rfl | ⟨1, _⟩ => rfl | ⟨2, _⟩ => rfl | ⟨3, _⟩ => rfl | ⟨4, _⟩ => rfl)

/-- A row's probabilities. -/
theorem prob_apply (b : Fin 32) (j : Fin 4) (g : Fin 6) (q : Fin 32) (s : Fin 160) :
    val_main_v28 (F := Ideal) x0 x1 x3 x4 (ix5 b j g q s)
      = Ideal.div (Ideal.exp (score x0 x1 x3 b j g q s - Cert.Swa.largest (score x0 x1 x3 b j g q) (x4 (ix1 ⟨j.val * 6 + g.val, by omega⟩))))
          (Cert.Swa.mass (score x0 x1 x3 b j g q) (x4 (ix1 ⟨j.val * 6 + g.val, by omega⟩))) := by
  pointwise [val_main_v28, val_main_v27]
  rw [mass_apply, exp_apply]

/-- The reference's output is the weighted sum, its weights divided beforehand. -/
theorem out_apply (b : Fin 32) (t : Fin 32) (n : Fin 1536) :
    val_main_v32 (F := Ideal) x0 x1 x2 x3 x4 (ix3 b t n)
      = ∑ s : Fin 160, val_main_v5 (F := Ideal) x2 x3 (ix4 b s ⟨n.val / 384, by omega⟩ ⟨n.val % 64, by omega⟩)
          * val_main_v28 (F := Ideal) x0 x1 x3 x4 (ix5 b ⟨n.val / 384, by omega⟩ ⟨n.val / 64 % 6, by omega⟩ t s) := by
  pointwise [val_main_v32, val_main_v31, val_main_v30, val_main_v29]

/-- The reference's output is `attention`. -/
theorem reference_apply (b : Fin 32) (t : Fin 32) (n : Fin 1536) :
    val_main_v32 (F := Ideal) x0 x1 x2 x3 x4 (ix3 b t n)
      = attention x0 x1 x2 x3 x4 b ⟨n.val / 384, by omega⟩ ⟨n.val / 64 % 6, by omega⟩ t ⟨n.val % 64, by omega⟩ := by
  rw [out_apply]
  unfold attention Cert.Swa.dividedBefore
  exact Finset.sum_congr rfl fun s _ => by rw [prob_apply, val_apply]

/-- The precondition says that the queries, the cached and new keys and the sinks are real numbers. -/
theorem finite_of_pre (h : (Cert.Pre_finite_window.fn (F := Ideal) x0 x1 x2 x3 x4).1 = (fun _ => 1#1)
      ∧ (Cert.Pre_finite_window.fn (F := Ideal) x0 x1 x2 x3 x4).2.1 = (fun _ => 1#1)
      ∧ (Cert.Pre_finite_window.fn (F := Ideal) x0 x1 x2 x3 x4).2.2.1 = (fun _ => 1#1)
      ∧ (Cert.Pre_finite_window.fn (F := Ideal) x0 x1 x2 x3 x4).2.2.2 = (fun _ => 1#1)) : Finite x0 x1 x3 x4 := by
  obtain ⟨h0, h1, h2, h3⟩ := h
  refine ⟨fun b t n hn => ?_, fun b t j d => ?_, fun b t n hn => ?_, fun n => ?_⟩
  · have hb := congrFun h0 (ix3 b t ⟨n.val, hn⟩)
    pointwise [Cert.Pre_finite_window.fn] at hb
    exact Cert.KernelIdeal.SwaRef.real_of_word _ hb
  · have hb := congrFun h1 (ix4 b t j d)
    pointwise [Cert.Pre_finite_window.fn] at hb
    exact Cert.KernelIdeal.SwaRef.real_of_word _ hb
  · have hb := congrFun h2 (ix3 b t ⟨n.val, hn⟩)
    pointwise [Cert.Pre_finite_window.fn] at hb
    exact Cert.KernelIdeal.SwaRef.real_of_word _ hb
  · have hb := congrFun h3 (ix1 n)
    pointwise [Cert.Pre_finite_window.fn] at hb
    exact Cert.KernelIdeal.SwaRef.real_of_word _ hb

/-- The two programs, over the extended reals, from memories with equal arguments, their queries, keys and sinks finite, end with
equal results. -/
theorem equal_results [Cert.Kernel9Ideal.Facts] [Cert.Reference9Ideal.Facts] [Cert.Pre_finite_window.Facts] :
    Cert.algebraic_Kernel9Ideal_Reference9Ideal_pre_finite_window := by
  intro m g m' g' hpre hargs
  have hf : ∀ c, Finite (argA m c) (argPK m c) (argKV m c) (argS m c) := fun c => finite_of_pre _ _ (argPV m c) _ _ (hpre c)
  refine ⟨fun c => result m c, ?_, ?_⟩
  · refine (θ_run _ _ _).mono (fun r h c => ?_) (Cert.Kernel9Ideal.Value.run_blocks m g)
    obtain ⟨h0, h1⟩ := h c
    exact ⟨h0.trans (final m c (hf c)), h1⟩
  · refine (θ_run _ _ _).mono (fun r h c => ?_) (Cert.Reference9Ideal.Value.run m' g')
    obtain ⟨h0, h1⟩ := h c
    obtain ⟨a0, a1, a2, a3, a4⟩ := hargs c
    refine ⟨h0.trans ?_, h1⟩
    rw [val_main_v32_eq, a0, a1, a2, a3, a4]
    funext i
    obtain ⟨b, t, n, rfl⟩ : ∃ (b : Fin 32) (t : Fin 32) (n : Fin 1536), i = ix3 b t n :=
      ⟨i 0, i 1, i 2, funext fun a => by fin_cases a <;> rfl⟩
    exact reference_apply _ _ _ _ _ b t n

end Cert.Kernel9Ideal.WinClaim
-- ==== Proof.WkvTile.lean ====
/-
  The recurrence's block as uniform terms. The kernel keeps five scratch arrays (log decays, keys, values, normalized keys and
  their gated products), tiles of 128 lanes that hold two heads each, and a state per pair of heads. Here the stores into them are
  written once, as functions of the pair's number, and what a grid point leaves in its state and value blocks is shown to be these.
-/
module

public import proofs.«01_k».proof.Proof.Gen.Kernel10Ideal.Value
public import Idealize.ShloMosaic.Lib.Pipeline.ValueKit

@[expose] public section

set_option maxRecDepth 65536

noncomputable section

namespace Cert.Kernel10Ideal.Wkv

open Cert.Kernel10Ideal Cert.Kernel10Ideal.Gen Idealize.ShloMosaic Idealize.ShloMosaic.TcCoe Idealize.SL.Sem

variable {F : FTy → Type} [FloatOps F]

/-! ## Masks -/

/-- The f32 zero. -/
def zero : F .f32 := Scalar.ofBits .f32 0x00000000#32
/-- The f32 one. -/
def one : F .f32 := Scalar.ofBits .f32 0x3F800000#32

/-- The first frame's row. -/
def row0 : IVec S32x128 1 := cmpi .eq (iota .tc S32x128 32 [0] iota_S32x128_d0_w32) (broadcast S32x128 0#32)
/-- The lanes of a pair's first head. -/
def low : IVec S32x128 1 := cmpi .slt (iota .tc S32x128 32 [1] iota_S32x128_d1_w32) (broadcast S32x128 64#32)
/-- Lanes of one and the same head. -/
def same : IVec S128x128 1 :=
  xori (xori (cmpi .slt (iota .tc S128x128 32 [0] iota_S128x128_d0_w32) (broadcast S128x128 64#32))
    (cmpi .slt (iota .tc S128x128 32 [1] iota_S128x128_d1_w32) (broadcast S128x128 64#32))) (constantI S128x128 1 1#1)
/-- The frame of a row. -/
def tI : IVec S32x64 32 := iota .tc S32x64 32 [0] iota_S32x64_d0_w32
/-- The column, two heads' frames beside each other. -/
def lI : IVec S32x64 32 := iota .tc S32x64 32 [1] iota_S32x64_d1_w32
/-- The frame of a column. -/
def jI : IVec S32x64 32 := select (cmpi .sge lI (broadcast S32x64 32#32)) (subi lI (broadcast S32x64 32#32)) lI
/-- Strictly earlier frames. -/
def strict : IVec S32x64 1 := cmpi .sgt tI jI
/-- Earlier or equal frames. -/
def incl : IVec S32x64 1 := cmpi .sge tI jI
/-- The columns of a pair's first head. -/
def firstT : IVec S32x64 1 := cmpi .slt lI (broadcast S32x64 32#32)
/-- From an even block of `2 ^ b` frames to the odd one after it. -/
def levelMask (b b1 : BitVec 32) : IVec S32x64 1 :=
  andi (andi (cmpi .eq (shrsi tI (broadcast S32x64 b1)) (shrsi jI (broadcast S32x64 b1)))
      (cmpi .eq (andi (shrsi tI (broadcast S32x64 b)) (broadcast S32x64 1#32)) (broadcast S32x64 1#32)))
    (cmpi .eq (andi (shrsi jI (broadcast S32x64 b)) (broadcast S32x64 1#32)) (broadcast S32x64 0#32))
/-- Two unit matrices beside each other. -/
def eye2 : FVec F S32x64 .f32 :=
  select (cmpi .eq tI jI) (broadcast S32x64 one) (broadcast S32x64 zero)
/-- Ones on and below the diagonal. -/
def tri : FVec F S32x32 .bf16 :=
  truncf .bf16 (select (cmpi .sge (iota .tc S32x32 32 [0] iota_S32x32_d0_w32) (iota .tc S32x32 32 [1] iota_S32x32_d1_w32))
    (broadcast S32x32 one) (broadcast S32x32 zero)) bitsLt_bf16_f32
/-- Ones where the lanes belong to one head. -/
def onesBd : FVec F S128x128 .bf16 :=
  truncf .bf16 (select same (broadcast S128x128 one) (broadcast S128x128 zero)) bitsLt_bf16_f32

/-! ## The values a frame brings -/

/-- A frame mixed with the one before it, in a tile of 128 columns. -/
def mixTile (p : Vec F S32x128 .f32) (s mu : Vec F S1x128 .f32) : FVec F S32x128 .f32 :=
  let x := shapeCast S32x128 p shapeCasts_S32x128_S32x128
  addf x (mulf (subf (select row0 (broadcastTo S32x128 (shapeCast S1x128 s shapeCasts_S1x128_S1x128) broadcasts_S1x128_S32x128)
    (dynamicRotate 0 1#32 none x rotates_S32x128_d0)) x)
    (broadcastTo S32x128 (shapeCast S1x128 mu shapeCasts_S1x128_S1x128) broadcasts_S1x128_S32x128))

/-- A low-rank map of a tile, with its bias. -/
def lora (x : FVec F S32x128 .f32) (w0 : Vec F S1x1536 .f32) (w2 : Vec F S128x1536 .bf16) : FVec F S32x1536 .f32 :=
  addf (broadcastTo S32x1536 (shapeCast S1x1536 w0 shapeCasts_S1x1536_S1x1536) broadcasts_S1x1536_S32x1536)
    (matmul dot_S32x128_S128x1536_S32x1536_1_0_0_1_n_n none (truncf .bf16 x bitsLt_bf16_f32)
      (shapeCast S128x1536 w2 shapeCasts_S128x1536_S128x1536) (constant S32x1536 .f32 0x00000000#32))

/-- The log decays from the low-rank map. -/
def logDecay (w : FVec F S32x1536 .f32) : FVec F S32x1536 .f32 :=
  let z : FVec F S32x1536 .f32 := broadcast S32x1536 zero
  let n := subf z w
  let d := subf n z
  let soft := select (cmpf .one d d) (addf n z) (addf (maximumf n z) (log1p (exp (subf z (absf d)))))
  shapeCast S32x1536 (subf z (exp (subf (subf z soft) (broadcast S32x1536 (Scalar.ofBits .f32 0x3F000000#32)))))
    shapeCasts_S32x1536_S32x1536

/-- The key times its weight, before the norm. -/
def rawKey (k : FVec F S32x128 .f32) (w : Vec F S1x128 .f32) : FVec F S32x128 .f32 :=
  mulf k (broadcastTo S32x128 (shapeCast S1x128 w shapeCasts_S1x128_S1x128) broadcasts_S1x128_S32x128)

/-- A tile's keys, each head divided by its norm. -/
def normKey (k : FVec F S32x128 .f32) (w : Vec F S1x128 .f32) : FVec F S32x128 .f32 :=
  divf (rawKey k w) (maximumf (sqrt (matmul dot_S32x128_S128x128_S32x128_1_0_0_1_n_n none
    (truncf .bf16 (mulf (rawKey k w) (rawKey k w)) bitsLt_bf16_f32) onesBd (constant S32x128 .f32 0x00000000#32)))
    (broadcast S32x128 (Scalar.ofBits .f32 0x2B8CBCCC#32)))

/-- A tile's keys, gated. -/
def gatedKey (k a : FVec F S32x128 .f32) (w : Vec F S1x128 .f32) : FVec F S32x128 .f32 :=
  mulf k (addf (broadcast S32x128 one) (mulf (subf a (broadcast S32x128 one))
    (broadcastTo S32x128 (shapeCast S1x128 w shapeCasts_S1x128_S1x128) broadcasts_S1x128_S32x128)))

/-! ## The chunk -/

/-- The running sums of the log decays over the frames. -/
def cumsum (x : FVec F S32x1536 .f32) : FVec F S32x1536 .f32 :=
  let hi : FVec F S32x1536 .bf16 := truncf .bf16 x bitsLt_bf16_f32
  let r1 := subf x (extf .f32 hi bitsLt_bf16_f32)
  let mid : FVec F S32x1536 .bf16 := truncf .bf16 r1 bitsLt_bf16_f32
  let lo : FVec F S32x1536 .bf16 := truncf .bf16 (subf r1 (extf .f32 mid bitsLt_bf16_f32)) bitsLt_bf16_f32
  addf (addf (matmul dot_S32x32_S32x1536_S32x1536_1_0_0_1_n_n none tri hi (constant S32x1536 .f32 0x00000000#32))
    (matmul dot_S32x32_S32x1536_S32x1536_1_0_0_1_n_n none tri mid (constant S32x1536 .f32 0x00000000#32)))
    (matmul dot_S32x32_S32x1536_S32x1536_1_0_0_1_n_n none tri lo (constant S32x1536 .f32 0x00000000#32))

/-- The two heads of a tile of lanes, one below the other. -/
def stackD (x : FVec F S32x128 .f32) : FVec F S64x128 .bf16 :=
  truncf .bf16 (concatenate S64x128 0 [⟨S32x128, select low x (broadcast S32x128 zero)⟩,
    ⟨S32x128, select low (broadcast S32x128 zero) x⟩] concatenates_S32x128_S32x128_S64x128_d0) bitsLt_bf16_f32

/-- The two heads of a tile of frames, one below the other. -/
def stackT (x : FVec F S32x64 .f32) : FVec F S64x64 .bf16 :=
  truncf .bf16 (concatenate S64x64 0 [⟨S32x64, select firstT x (broadcast S32x64 zero)⟩,
    ⟨S32x64, select firstT (broadcast S32x64 zero) x⟩] concatenates_S32x64_S32x64_S64x64_d0) bitsLt_bf16_f32

/-- The product of two heads' matrices. -/
def tdot (m : FVec F S32x64 .f32) (s : FVec F S64x64 .bf16) : FVec F S32x64 .f32 :=
  matmul dot_S32x64_S64x64_S32x64_1_0_0_1_n_n none (truncf .bf16 m bitsLt_bf16_f32) s (constant S32x64 .f32 0x00000000#32)

/-- The last frame's running sum. -/
def lastRow (cum : FVec F S32x128 .f32) : FVec F S1x128 .f32 :=
  extractStridedSlice S1x128 ![31, 0] cum slices_S32x128_o31_0_S1x128
/-- The decay from a frame to the chunk's end. -/
def toEnd (cum : FVec F S32x128 .f32) : FVec F S32x128 .f32 :=
  exp (subf (broadcastTo S32x128 (lastRow cum) broadcasts_S1x128_S32x128) cum)
/-- The decay of a frame undone. -/
def undone (cum : FVec F S32x128 .f32) : FVec F S32x128 .f32 := exp (subf (broadcast S32x128 zero) cum)
/-- The removal keys, decayed up to their frame. -/
def early (kn lw cum : FVec F S32x128 .f32) : FVec F S32x128 .f32 :=
  mulf (subf (broadcast S32x128 zero) kn) (exp (subf cum lw))
/-- The removal keys above the queries. -/
def rows2 (r kn lw cum : FVec F S32x128 .f32) : FVec F S64x128 .bf16 :=
  truncf .bf16 (concatenate S64x128 0 [⟨S32x128, early kn lw cum⟩, ⟨S32x128, mulf r (exp cum)⟩]
    concatenates_S32x128_S32x128_S64x128_d0) bitsLt_bf16_f32
/-- The products of the rows with a tile's decayed vectors. -/
def crossTile (x : FVec F S64x128 .bf16) (b cum : FVec F S32x128 .f32) : FVec F S64x64 .f32 :=
  matmul dot_S64x128_S64x128_S64x64_1_1_0_0_n_n none x (stackD (mulf b (undone cum))) (constant S64x64 .f32 0x00000000#32)
/-- The upper half below the diagonal. -/
def below (c : FVec F S64x64 .f32) : FVec F S32x64 .f32 :=
  select strict (extractStridedSlice S32x64 ![0, 0] c slices_S64x64_o0_0_S32x64) (broadcast S32x64 zero)
/-- Both halves, masked. -/
def masked (c : FVec F S64x64 .f32) : FVec F S64x64 .bf16 :=
  truncf .bf16 (concatenate S64x64 0 [⟨S32x64, below c⟩,
    ⟨S32x64, select incl (extractStridedSlice S32x64 ![32, 0] c slices_S64x64_o32_0_S32x64) (broadcast S32x64 zero)⟩]
    concatenates_S32x64_S32x64_S64x64_d0) bitsLt_bf16_f32
/-- The products with the values. -/
def withValues (c : FVec F S64x64 .f32) (v : FVec F S32x128 .f32) : FVec F S64x128 .f32 :=
  matmul dot_S64x64_S64x128_S64x128_1_0_0_1_n_n none (masked c) (stackD v) (constant S64x128 .f32 0x00000000#32)
/-- One doubling of the inverse's blocks. -/
def double (m : IVec S32x64 1) (a t : FVec F S32x64 .f32) : FVec F S32x64 .f32 :=
  addf t (tdot (tdot t (stackT (select m a (broadcast S32x64 zero)))) (stackT t))
/-- The inverse of the two heads' matrices. -/
def invTile (a : FVec F S32x64 .f32) : FVec F S32x64 .f32 :=
  double (levelMask 4#32 5#32) a (double (levelMask 3#32 4#32) a (double (levelMask 2#32 3#32) a (double (levelMask 1#32 2#32) a
    (addf eye2 (select (levelMask 0#32 1#32) a (broadcast S32x64 zero))))))
/-- The corrected removal keys and, beside them, the corrected values. -/
def solved (t : FVec F S32x64 .f32) (e : FVec F S32x128 .f32) (kv : FVec F S64x128 .f32) : FVec F S32x256 .f32 :=
  matmul dot_S32x64_S64x256_S32x256_1_0_0_1_n_n none (truncf .bf16 t bitsLt_bf16_f32)
    (concatenate S64x256 1 [⟨S64x128, stackD e⟩, ⟨S64x128, stackD (extractStridedSlice S32x128 ![0, 0] kv slices_S64x128_o0_0_S32x128)⟩]
      concatenates_S64x128_S64x128_S64x256_d1) (constant S32x256 .f32 0x00000000#32)
/-- Products summed over the frames, of the corrected rows. -/
def mm (w : FVec F S32x256 .f32) (b : FVec F S32x128 .f32) : FVec F S256x128 .f32 :=
  matmul dot_S32x256_S32x128_S256x128_0_0_1_1_n_n none (truncf .bf16 w bitsLt_bf16_f32) (truncf .bf16 b bitsLt_bf16_f32)
    (constant S256x128 .f32 0x00000000#32)
/-- Products summed over the frames, of the values. -/
def mk (v k : FVec F S32x128 .f32) : FVec F S128x128 .f32 :=
  matmul dot_S32x128_S32x128_S128x128_0_0_1_1_n_n none (truncf .bf16 v bitsLt_bf16_f32) (truncf .bf16 k bitsLt_bf16_f32)
    (constant S128x128 .f32 0x00000000#32)
/-- The new state of a pair from the old one and the chunk's products. -/
def newState (s : Vec F S1x128x128 .f32) (last : FVec F S1x128 .f32) (m : FVec F S256x128 .f32) (n : FVec F S128x128 .f32) : FVec F S1x128x128 .f32 :=
  let x := shapeCast S128x128 s shapeCasts_S1x128x128_S128x128
  shapeCast S1x128x128 (addf (addf (mulf x (broadcastTo S128x128 (exp last) broadcasts_S1x128_S128x128))
    (matmul dot_S128x128_S128x128_S128x128_1_0_0_1_n_n none (truncf .bf16 x bitsLt_bf16_f32)
      (truncf .bf16 (select same (extractStridedSlice S128x128 ![0, 0] m slices_S256x128_o0_0_S128x128) (broadcast S128x128 zero)) bitsLt_bf16_f32)
      (constant S128x128 .f32 0x00000000#32)))
    (select same (addf (extractStridedSlice S128x128 ![128, 0] m slices_S256x128_o128_0_S128x128) n) (broadcast S128x128 zero)))
    shapeCasts_S128x128_S1x128x128
/-- A pair's state after the chunk. -/
def updTile (r lw k v kn b cum : FVec F S32x128 .f32) (s : Vec F S1x128x128 .f32) : FVec F S1x128x128 .f32 :=
  newState s (lastRow cum)
    (mm (solved (invTile (below (crossTile (rows2 r kn lw cum) b cum))) (early kn lw cum)
      (withValues (crossTile (rows2 r kn lw cum) k cum) v)) (mulf b (toEnd cum)))
    (mk v (mulf k (toEnd cum)))
/-- A pair's state at the start: two heads on the diagonal. -/
def initTile (a b : Vec F S1x1x1x64x64 .f32) : FVec F S1x128x128 .f32 :=
  let z : FVec F S64x64 .f32 := broadcast S64x64 zero
  shapeCast S1x128x128 (concatenate S128x128 0 [
    ⟨S64x128, concatenate S64x128 1 [⟨S64x64, shapeCast S64x64 a shapeCasts_S1x1x1x64x64_S64x64⟩, ⟨S64x64, z⟩] concatenates_S64x64_S64x64_S64x128_d1⟩,
    ⟨S64x128, concatenate S64x128 1 [⟨S64x64, z⟩, ⟨S64x64, shapeCast S64x64 b shapeCasts_S1x1x1x64x64_S64x64⟩] concatenates_S64x64_S64x64_S64x128_d1⟩]
    concatenates_S64x128_S64x128_S128x128_d0) shapeCasts_S128x128_S1x128x128

/-! ## Tiles -/

/-- The number of a pair. -/
def pairNo (n : ℕ) : Fin 12 := ⟨n % 12, Nat.mod_lt _ (by decide)⟩
theorem inb_lane (n : Fin 12) : ∀ a, (![0, 128 * n.val] : Fin 2 → Nat) a + (![32, 128] : Fin 2 → Nat) a ≤ S32x1536.size a := by
  revert n; decide
theorem inb_row (n : Fin 12) : ∀ a, (![0, 128 * n.val] : Fin 2 → Nat) a + (![1, 128] : Fin 2 → Nat) a ≤ S1x1536.size a := by
  revert n; decide
theorem inb_wide (n : Fin 39) : ∀ a, (![0, 128 * n.val] : Fin 2 → Nat) a + (![32, 128] : Fin 2 → Nat) a ≤ S32x4992.size a := by
  revert n; decide
theorem inb_wideRow (n : Fin 39) : ∀ a, (![0, 128 * n.val] : Fin 2 → Nat) a + (![1, 128] : Fin 2 → Nat) a ≤ S1x4992.size a := by
  revert n; decide
theorem inb_state (n : Fin 12) : ∀ a, (![n.val, 0, 0] : Fin 3 → Nat) a + (![1, 128, 128] : Fin 3 → Nat) a ≤ S12x128x128.size a := by
  revert n; decide
theorem inb_head (n : Fin 24) : ∀ a, (![0, 0, n.val, 0, 0] : Fin 5 → Nat) a + (![1, 1, 1, 64, 64] : Fin 5 → Nat) a ≤ S1x1x24x64x64.size a := by
  revert n; decide
theorem inb_out (n : Fin 24) : ∀ a, (![0, n.val, 0, 0] : Fin 4 → Nat) a + (![1, 1, 64, 64] : Fin 4 → Nat) a ≤ S1x24x64x64.size a := by
  revert n; decide
theorem slices_pair (n : Fin 12) : S32x1536.Slices ![0, 128 * n.val] S32x128 := by
  revert n; decide

/-- Pair `n`'s lanes. -/
def lanes (n : Fin 12) : Rect S32x1536 := Rect.unit ![0, 128 * n.val] ![32, 128] (inb_lane n)
/-- Pair `n`'s state. -/
def sRect (n : Fin 12) : Rect S12x128x128 := Rect.unit ![n.val, 0, 0] ![1, 128, 128] (inb_state n)
/-- Head `n` of the state block. -/
def outRect (n : Fin 24) : Rect S1x24x64x64 := Rect.unit ![0, n.val, 0, 0] ![1, 1, 64, 64] (inb_out n)

section body

variable (arg20 : Memref sig .tc .vmem S1x4992 .f32) (arg19 : Memref sig .tc .vmem S12x128x128 .f32)
  (arg21 arg22 arg23 arg24 arg25 arg26 : Memref sig .tc .vmem S32x1536 .f32)
  (x0 : Vec F S32x4992 .f32) (x1 : Vec F S1x1x4992 .f32) (x2 : Vec F S1x4992 .f32) (x3 : Vec F S1x1536 .f32) (x4 : Vec F S128x1536 .bf16)
  (x5 : Vec F S1x1536 .f32) (x6 : Vec F S128x1536 .bf16) (x8 x9 : Vec F S1x1536 .f32) (x11 : Vec F S1x1x24x64x64 .f32)

/-- The frame before the first, as the scratch row takes it. -/
def shiftRow (x1 : Vec F S1x1x4992 .f32) : FVec F S1x4992 .f32 :=
  shapeCast S1x4992 (shapeCast S1x4992 (View.ld x1 (Rect.unit ![0, 0, 0] S1x1x4992.size inb_S1x1x4992_S1x1x4992_0_0_0))
    shapeCasts_S1x1x4992_S1x4992) shapeCasts_S1x4992_S1x4992

/-- The scratch row of the frame before the first. -/
def prevPieces : List (View.Piece (Elt F) S1x4992 .f32) :=
  [⟨Rect.unit ![0, 0] S1x4992.size inb_S1x4992_S1x4992_0_0, shiftRow x1⟩]

/-- The mixed frames in tile `n` of the columns. -/
def mixed (n : Fin 39) : FVec F S32x128 .f32 :=
  mixTile (View.ld x0 (Rect.unit ![0, 128 * n.val] ![32, 128] (inb_wide n)))
    (arg20.view.readCov (prevPieces x1) (Rect.unit (s := S1x4992) ![0, 128 * n.val] ![1, 128] (inb_wideRow n)).toLoadRect)
    (View.ld x2 (Rect.unit ![0, 128 * n.val] ![1, 128] (inb_wideRow n)))

/-- The key tile of pair `n`. -/
def keyTile (n : Fin 12) : FVec F S32x128 .f32 := mixed arg20 x0 x1 x2 ⟨12 + n.val, by omega⟩
/-- The value tile of pair `n`. -/
def valTile (n : Fin 12) : FVec F S32x128 .f32 := mixed arg20 x0 x1 x2 ⟨24 + n.val, by omega⟩
/-- The low-rank tile. -/
def loraTile : FVec F S32x128 .f32 := mixed arg20 x0 x1 x2 ⟨36, by omega⟩

/-- The log decays. -/
def lwAll : FVec F S32x1536 .f32 :=
  logDecay (lora (tanh (loraTile arg20 x0 x1 x2)) (View.ld x3 (Rect.unit ![0, 0] S1x1536.size inb_S1x1536_S1x1536_0_0))
    (View.ld x4 (Rect.unit ![0, 0] S128x1536.size inb_S128x1536_S128x1536_0_0)))
/-- The gates. -/
def gateAll : FVec F S32x1536 .f32 :=
  logistic (lora (loraTile arg20 x0 x1 x2) (View.ld x5 (Rect.unit ![0, 0] S1x1536.size inb_S1x1536_S1x1536_0_0))
    (View.ld x6 (Rect.unit ![0, 0] S128x1536.size inb_S128x1536_S128x1536_0_0)))
/-- The gates of pair `n`. -/
def gateTile (n : Fin 12) : FVec F S32x128 .f32 :=
  extractStridedSlice S32x128 ![0, 128 * n.val] (gateAll arg20 x0 x1 x2 x5 x6) (slices_pair n)
/-- Pair `n` of a weight row. -/
def rowTile (x : Vec F S1x1536 .f32) (n : Fin 12) : Vec F S1x128 .f32 := View.ld x (Rect.unit ![0, 128 * n.val] ![1, 128] (inb_row n))

/-- The normalized keys of pair `n`. -/
def knTile (n : Fin 12) : FVec F S32x128 .f32 := normKey (keyTile arg20 x0 x1 x2 n) (rowTile x8 n)
/-- The gated keys of pair `n`. -/
def kTile (n : Fin 12) : FVec F S32x128 .f32 :=
  gatedKey (keyTile arg20 x0 x1 x2 n) (gateTile arg20 x0 x1 x2 x5 x6 n) (rowTile x9 n)
/-- The normalized keys of pair `n` times their gates. -/
def bTile (n : Fin 12) : FVec F S32x128 .f32 := mulf (knTile arg20 x0 x1 x2 x8 n) (gateTile arg20 x0 x1 x2 x5 x6 n)

/-- The twelve stores of a scratch array, the last one first. -/
def pieces (w : Fin 12 → FVec F S32x128 .f32) : List (View.Piece (Elt F) S32x1536 .f32) :=
  List.ofFn fun k : Fin 12 => ⟨lanes ⟨11 - k.val, by omega⟩, shapeCast S32x128 (w ⟨11 - k.val, by omega⟩) shapeCasts_S32x128_S32x128⟩
/-- Tile `n` of a scratch array, read back. -/
def back (a : Memref sig .tc .vmem S32x1536 .f32) (w : Fin 12 → FVec F S32x128 .f32) (n : Fin 12) : FVec F S32x128 .f32 :=
  a.view.readCov (pieces w) (lanes n).toLoadRect

/-- The log decays' one store. -/
def lwPieces : List (View.Piece (Elt F) S32x1536 .f32) :=
  [⟨Rect.unit ![0, 0] S32x1536.size inb_S32x1536_S32x1536_0_0, lwAll arg20 x0 x1 x2 x3 x4⟩]

/-- The log decays' running sums. -/
def cumAll : FVec F S32x1536 .f32 :=
  cumsum (arg22.view.readCov (lwPieces arg20 x0 x1 x2 x3 x4)
    (Rect.unit (s := S32x1536) ![0, 0] S32x1536.size inb_S32x1536_S32x1536_0_0).toLoadRect)
/-- The log decays' running sums of pair `n`. -/
def cumTile (n : Fin 12) : FVec F S32x128 .f32 :=
  extractStridedSlice S32x128 ![0, 128 * n.val] (cumAll arg20 arg22 x0 x1 x2 x3 x4) (slices_pair n)

/-- Pair `n`'s new state. -/
def upd (n : Fin 12) (s : Vec F S1x128x128 .f32) : FVec F S1x128x128 .f32 :=
  updTile (back arg21 (fun n => mixed arg20 x0 x1 x2 ⟨n.val, by omega⟩) n)
    (arg22.view.readCov (lwPieces arg20 x0 x1 x2 x3 x4) (lanes n).toLoadRect)
    (back arg23 (kTile arg20 x0 x1 x2 x5 x6 x9) n) (back arg24 (valTile arg20 x0 x1 x2) n)
    (back arg25 (knTile arg20 x0 x1 x2 x8) n) (back arg26 (bTile arg20 x0 x1 x2 x5 x6 x8) n)
    (cumTile arg20 arg22 x0 x1 x2 x3 x4 n) s

/-- A head of the state block. -/
def headIn (n : Fin 24) : Vec F S1x1x1x64x64 .f32 := View.ld x11 (Rect.unit ![0, 0, n.val, 0, 0] ![1, 1, 1, 64, 64] (inb_head n))

/-- The states' first stores, the last one first. -/
def initPieces : List (View.Piece (Elt F) S12x128x128 .f32) :=
  List.ofFn fun k : Fin 12 => ⟨sRect ⟨11 - k.val, by omega⟩,
    initTile (headIn x11 ⟨2 * (11 - k.val), by omega⟩) (headIn x11 ⟨2 * (11 - k.val) + 1, by omega⟩)⟩
/-- The states' stores once `n` pairs are done. -/
def statePieces : ℕ → List (View.Piece (Elt F) S12x128x128 .f32)
  | 0 => initPieces x11
  | n + 1 => ⟨sRect (pairNo n), upd arg20 arg21 arg22 arg23 arg24 arg25 arg26 x0 x1 x2 x3 x4 x5 x6 x8 x9 (pairNo n)
      (arg19.view.readCov (statePieces n) (sRect (pairNo n)).toLoadRect)⟩ :: statePieces n

theorem slices_head (e : Fin 2) : S128x128.Slices ![64 * e.val, 64 * e.val] S64x64 := by
  revert e; decide

/-- Head `e` of a pair's state. -/
def headOut (s : Vec F S1x128x128 .f32) (e : Fin 2) : FVec F S1x1x64x64 .f32 :=
  shapeCast S1x1x64x64 (extractStridedSlice S64x64 ![64 * e.val, 64 * e.val] (shapeCast S128x128 s shapeCasts_S1x128x128_S128x128)
    (slices_head e)) shapeCasts_S64x64_S1x1x64x64

/-- What the pairs' states are in the end. -/
def final (n : Fin 12) : Vec F S1x128x128 .f32 :=
  arg19.view.readCov (statePieces arg20 arg19 arg21 arg22 arg23 arg24 arg25 arg26 x0 x1 x2 x3 x4 x5 x6 x8 x9 x11 12) (sRect n).toLoadRect

/-- The stores of the state block, the last one first. -/
def outPiece (k : Fin 24) : View.Piece (Elt F) S1x24x64x64 .f32 :=
  ⟨outRect ⟨23 - k.val, by omega⟩,
    headOut (final arg20 arg19 arg21 arg22 arg23 arg24 arg25 arg26 x0 x1 x2 x3 x4 x5 x6 x8 x9 x11 ⟨(23 - k.val) / 2, by omega⟩)
      ⟨(23 - k.val) % 2, by omega⟩⟩

/-- The store of the value block. -/
def valPiece : View.Piece (Elt F) S32x1536 .f32 :=
  ⟨Rect.unit ![0, 0] S32x1536.size inb_S32x1536_S32x1536_0_0, arg24.view.readCov (pieces (valTile arg20 x0 x1 x2))
    (Rect.unit (s := S32x1536) ![0, 0] S32x1536.size inb_S32x1536_S32x1536_0_0).toLoadRect⟩

end body

set_option maxHeartbeats 4000000 in
/-- A grid point leaves in its state block the 24 heads, one store each. -/
theorem state_eq
    (c : Dev nD) (i : grid0.Coords) (arg2 : Memref sig .tc .vmem S32x4992 .f32) (harg2 : arg2.IsWhole)
    (arg3 : Memref sig .tc .vmem S1x1x4992 .f32) (harg3 : arg3.IsWhole) (arg4 : Memref sig .tc .vmem S1x4992 .f32) (harg4 : arg4.IsWhole)
    (arg5 : Memref sig .tc .vmem S1x1536 .f32) (harg5 : arg5.IsWhole) (arg6 : Memref sig .tc .vmem S128x1536 .bf16) (harg6 : arg6.IsWhole)
    (arg7 : Memref sig .tc .vmem S1x1536 .f32) (harg7 : arg7.IsWhole) (arg8 : Memref sig .tc .vmem S128x1536 .bf16) (harg8 : arg8.IsWhole)
    (arg9 : Memref sig .tc .vmem S256x1536 .bf16) (harg9 : arg9.IsWhole) (arg10 : Memref sig .tc .vmem S1x1536 .f32)
    (harg10 : arg10.IsWhole) (arg11 : Memref sig .tc .vmem S1x1536 .f32) (harg11 : arg11.IsWhole)
    (arg12 : Memref sig .tc .vmem S1x1536 .f32) (harg12 : arg12.IsWhole) (arg13 : Memref sig .tc .vmem S1x1x24x64x64 .f32)
    (harg13 : arg13.IsWhole) (arg14 : Memref sig .tc .vmem S1x1536 .f32) (harg14 : arg14.IsWhole)
    (arg15 : Memref sig .tc .vmem S1x1536 .f32) (harg15 : arg15.IsWhole) (arg16 : Memref sig .tc .vmem S32x1536 .bf16)
    (harg16 : arg16.IsWhole) (arg17 : Memref sig .tc .vmem S32x1536 .f32) (harg17 : arg17.IsWhole)
    (arg18 : Memref sig .tc .vmem S1x24x64x64 .f32) (harg18 : arg18.IsWhole) (arg19 : Memref sig .tc .vmem S12x128x128 .f32)
    (harg19 : arg19.IsWhole) (arg20 : Memref sig .tc .vmem S1x4992 .f32) (harg20 : arg20.IsWhole)
    (arg21 : Memref sig .tc .vmem S32x1536 .f32) (harg21 : arg21.IsWhole) (arg22 : Memref sig .tc .vmem S32x1536 .f32)
    (harg22 : arg22.IsWhole) (arg23 : Memref sig .tc .vmem S32x1536 .f32) (harg23 : arg23.IsWhole)
    (arg24 : Memref sig .tc .vmem S32x1536 .f32) (harg24 : arg24.IsWhole) (arg25 : Memref sig .tc .vmem S32x1536 .f32)
    (harg25 : arg25.IsWhole) (arg26 : Memref sig .tc .vmem S32x1536 .f32) (harg26 : arg26.IsWhole)
    (arg27 : Memref sig .tc .vmem S32x1536 .f32) (harg27 : arg27.IsWhole) (arg28 : Memref sig .tc .vmem S32x1536 .f32)
    (harg28 : arg28.IsWhole) (hc0 : cond0_0 i) (hc1 : cond0_1 i) (x0 : Vec Ideal S32x4992 .f32) (x1 : Vec Ideal S1x1x4992 .f32)
    (x2 : Vec Ideal S1x4992 .f32) (x3 : Vec Ideal S1x1536 .f32) (x4 : Vec Ideal S128x1536 .bf16) (x5 : Vec Ideal S1x1536 .f32)
    (x6 : Vec Ideal S128x1536 .bf16) (x7 : Vec Ideal S256x1536 .bf16) (x8 : Vec Ideal S1x1536 .f32) (x9 : Vec Ideal S1x1536 .f32)
    (x10 : Vec Ideal S1x1536 .f32) (x11 : Vec Ideal S1x1x24x64x64 .f32) (x12 : Vec Ideal S1x1536 .f32) (x13 : Vec Ideal S1x1536 .f32) :
    out0_A_16 (F := Ideal)
        c i arg2 harg2 arg3 harg3 arg4 harg4 arg5 harg5 arg6 harg6 arg7 harg7 arg8 harg8 arg9 harg9 arg10 harg10 arg11 harg11 arg12
        harg12 arg13 harg13 arg14 harg14 arg15 harg15 arg16 harg16 arg17 harg17 arg18 harg18 arg19 harg19 arg20 harg20 arg21 harg21
        arg22 harg22 arg23 harg23 arg24 harg24 arg25 harg25 arg26 harg26 arg27 harg27 arg28 harg28 hc0 hc1 x0 x1 x2 x3 x4 x5 x6 x7 x8 x9
        x10 x11 x12 x13
      = View.canon (List.ofFn (outPiece (F := Ideal) arg20 arg19 arg21 arg22 arg23 arg24 arg25 arg26 x0 x1 x2 x3 x4 x5 x6 x8 x9 x11)) := by
  have e : (kernelRun0_A (F := Ideal)
        c i arg2 harg2 arg3 harg3 arg4 harg4 arg5 harg5 arg6 harg6 arg7 harg7 arg8 harg8 arg9 harg9 arg10 harg10 arg11 harg11 arg12
        harg12 arg13 harg13 arg14 harg14 arg15 harg15 arg16 harg16 arg17 harg17 arg18 harg18 arg19 harg19 arg20 harg20 arg21 harg21
        arg22 harg22 arg23 harg23 arg24 harg24 arg25 harg25 arg26 harg26 arg27 harg27 arg28 harg28 hc0 hc1 x0 x1 x2 x3 x4 x5 x6 x7 x8 x9
        x10 x11 x12 x13).2.2.1
      = List.ofFn (outPiece (F := Ideal) arg20 arg19 arg21 arg22 arg23 arg24 arg25 arg26
        (arg2.view.read (Elt Ideal) (harg2.unread x0)) (arg3.view.read (Elt Ideal) (harg3.unread x1)) (arg4.view.read (Elt Ideal)
        (harg4.unread x2)) (arg5.view.read (Elt Ideal) (harg5.unread x3)) (arg6.view.read (Elt Ideal) (harg6.unread x4)) (arg7.view.read
        (Elt Ideal) (harg7.unread x5)) (arg8.view.read (Elt Ideal) (harg8.unread x6)) (arg10.view.read (Elt Ideal) (harg10.unread x8))
        (arg11.view.read (Elt Ideal) (harg11.unread x9)) (arg13.view.read (Elt Ideal) (harg13.unread x11))) := by
    sl_kernel_rfl
  rw [harg2.read_unread, harg3.read_unread, harg4.read_unread, harg5.read_unread, harg6.read_unread, harg7.read_unread, harg8.read_unread, harg10.read_unread, harg11.read_unread, harg13.read_unread] at e
  exact (View.read_writes_eq_canon _ _ _ (cover0_A_16
        c i arg2 harg2 arg3 harg3 arg4 harg4 arg5 harg5 arg6 harg6 arg7 harg7 arg8 harg8 arg9 harg9 arg10 harg10 arg11 harg11 arg12
        harg12 arg13 harg13 arg14 harg14 arg15 harg15 arg16 harg16 arg17 harg17 arg18 harg18 arg19 harg19 arg20 harg20 arg21 harg21
        arg22 harg22 arg23 harg23 arg24 harg24 arg25 harg25 arg26 harg26 arg27 harg27 arg28 harg28 hc0 hc1 x0 x1 x2 x3 x4 x5 x6 x7 x8 x9
        x10 x11 x12 x13)).trans
    (congrArg View.canon e)

set_option maxHeartbeats 4000000 in
/-- A grid point leaves in its value block the values, one store. -/
theorem value_eq
    (c : Dev nD) (i : grid0.Coords) (arg2 : Memref sig .tc .vmem S32x4992 .f32) (harg2 : arg2.IsWhole)
    (arg3 : Memref sig .tc .vmem S1x1x4992 .f32) (harg3 : arg3.IsWhole) (arg4 : Memref sig .tc .vmem S1x4992 .f32) (harg4 : arg4.IsWhole)
    (arg5 : Memref sig .tc .vmem S1x1536 .f32) (harg5 : arg5.IsWhole) (arg6 : Memref sig .tc .vmem S128x1536 .bf16) (harg6 : arg6.IsWhole)
    (arg7 : Memref sig .tc .vmem S1x1536 .f32) (harg7 : arg7.IsWhole) (arg8 : Memref sig .tc .vmem S128x1536 .bf16) (harg8 : arg8.IsWhole)
    (arg9 : Memref sig .tc .vmem S256x1536 .bf16) (harg9 : arg9.IsWhole) (arg10 : Memref sig .tc .vmem S1x1536 .f32)
    (harg10 : arg10.IsWhole) (arg11 : Memref sig .tc .vmem S1x1536 .f32) (harg11 : arg11.IsWhole)
    (arg12 : Memref sig .tc .vmem S1x1536 .f32) (harg12 : arg12.IsWhole) (arg13 : Memref sig .tc .vmem S1x1x24x64x64 .f32)
    (harg13 : arg13.IsWhole) (arg14 : Memref sig .tc .vmem S1x1536 .f32) (harg14 : arg14.IsWhole)
    (arg15 : Memref sig .tc .vmem S1x1536 .f32) (harg15 : arg15.IsWhole) (arg16 : Memref sig .tc .vmem S32x1536 .bf16)
    (harg16 : arg16.IsWhole) (arg17 : Memref sig .tc .vmem S32x1536 .f32) (harg17 : arg17.IsWhole)
    (arg18 : Memref sig .tc .vmem S1x24x64x64 .f32) (harg18 : arg18.IsWhole) (arg19 : Memref sig .tc .vmem S12x128x128 .f32)
    (harg19 : arg19.IsWhole) (arg20 : Memref sig .tc .vmem S1x4992 .f32) (harg20 : arg20.IsWhole)
    (arg21 : Memref sig .tc .vmem S32x1536 .f32) (harg21 : arg21.IsWhole) (arg22 : Memref sig .tc .vmem S32x1536 .f32)
    (harg22 : arg22.IsWhole) (arg23 : Memref sig .tc .vmem S32x1536 .f32) (harg23 : arg23.IsWhole)
    (arg24 : Memref sig .tc .vmem S32x1536 .f32) (harg24 : arg24.IsWhole) (arg25 : Memref sig .tc .vmem S32x1536 .f32)
    (harg25 : arg25.IsWhole) (arg26 : Memref sig .tc .vmem S32x1536 .f32) (harg26 : arg26.IsWhole)
    (arg27 : Memref sig .tc .vmem S32x1536 .f32) (harg27 : arg27.IsWhole) (arg28 : Memref sig .tc .vmem S32x1536 .f32)
    (harg28 : arg28.IsWhole) (hc0 : cond0_0 i) (hc1 : cond0_1 i) (x0 : Vec Ideal S32x4992 .f32) (x1 : Vec Ideal S1x1x4992 .f32)
    (x2 : Vec Ideal S1x4992 .f32) (x3 : Vec Ideal S1x1536 .f32) (x4 : Vec Ideal S128x1536 .bf16) (x5 : Vec Ideal S1x1536 .f32)
    (x6 : Vec Ideal S128x1536 .bf16) (x7 : Vec Ideal S256x1536 .bf16) (x8 : Vec Ideal S1x1536 .f32) (x9 : Vec Ideal S1x1536 .f32)
    (x10 : Vec Ideal S1x1536 .f32) (x11 : Vec Ideal S1x1x24x64x64 .f32) (x12 : Vec Ideal S1x1536 .f32) (x13 : Vec Ideal S1x1536 .f32) :
    out0_A_15 (F := Ideal)
        c i arg2 harg2 arg3 harg3 arg4 harg4 arg5 harg5 arg6 harg6 arg7 harg7 arg8 harg8 arg9 harg9 arg10 harg10 arg11 harg11 arg12
        harg12 arg13 harg13 arg14 harg14 arg15 harg15 arg16 harg16 arg17 harg17 arg18 harg18 arg19 harg19 arg20 harg20 arg21 harg21
        arg22 harg22 arg23 harg23 arg24 harg24 arg25 harg25 arg26 harg26 arg27 harg27 arg28 harg28 hc0 hc1 x0 x1 x2 x3 x4 x5 x6 x7 x8 x9
        x10 x11 x12 x13
      = View.canon [valPiece (F := Ideal) arg20 arg24 x0 x1 x2] := by
  have e : (kernelRun0_A (F := Ideal)
        c i arg2 harg2 arg3 harg3 arg4 harg4 arg5 harg5 arg6 harg6 arg7 harg7 arg8 harg8 arg9 harg9 arg10 harg10 arg11 harg11 arg12
        harg12 arg13 harg13 arg14 harg14 arg15 harg15 arg16 harg16 arg17 harg17 arg18 harg18 arg19 harg19 arg20 harg20 arg21 harg21
        arg22 harg22 arg23 harg23 arg24 harg24 arg25 harg25 arg26 harg26 arg27 harg27 arg28 harg28 hc0 hc1 x0 x1 x2 x3 x4 x5 x6 x7 x8 x9
        x10 x11 x12 x13).2.1
      = [valPiece (F := Ideal) arg20 arg24
        (arg2.view.read (Elt Ideal) (harg2.unread x0)) (arg3.view.read (Elt Ideal) (harg3.unread x1)) (arg4.view.read (Elt Ideal)
        (harg4.unread x2))] := by
    sl_kernel_rfl
  rw [harg2.read_unread, harg3.read_unread, harg4.read_unread] at e
  exact (View.read_writes_eq_canon _ _ _ (cover0_A_15
        c i arg2 harg2 arg3 harg3 arg4 harg4 arg5 harg5 arg6 harg6 arg7 harg7 arg8 harg8 arg9 harg9 arg10 harg10 arg11 harg11 arg12
        harg12 arg13 harg13 arg14 harg14 arg15 harg15 arg16 harg16 arg17 harg17 arg18 harg18 arg19 harg19 arg20 harg20 arg21 harg21
        arg22 harg22 arg23 harg23 arg24 harg24 arg25 harg25 arg26 harg26 arg27 harg27 arg28 harg28 hc0 hc1 x0 x1 x2 x3 x4 x5 x6 x7 x8 x9
        x10 x11 x12 x13)).trans
    (congrArg View.canon e)

end Cert.Kernel10Ideal.Wkv
-- ==== Proof.WkvMath.lean ====
/-
  The gated delta rule over the reals: 32 steps of the recurrence taken at once. A step is
  `S' = S diag(exp w) + (S a) bᵀ + v kᵀ`; the chunked form inverts a unit lower triangular matrix by doubling blocks.
-/
module

public import Idealize.ShloMosaic.Lib.Pointwise
public import Mathlib.Data.Matrix.Mul
public import Mathlib.Analysis.SpecialFunctions.Exp

@[expose] public section

noncomputable section

namespace Cert.Wkv

/-! ## The inverse by doubling blocks -/

/-- A matrix over the chunk's frames. -/
abbrev Mat : Type := Matrix (Fin 32) (Fin 32) ℝ

/-- The entries that lead from an even block of size `s` to the odd one after it. -/
def level (s : ℕ) (A : Mat) : Mat := fun i j =>
  if i.val / s / 2 = j.val / s / 2 ∧ i.val / s % 2 = 1 ∧ j.val / s % 2 = 0 then A i j else 0

/-- The entries below the diagonal inside a block of size `s`. -/
def within (s : ℕ) (A : Mat) : Mat := fun i j => if i.val / s = j.val / s ∧ j.val < i.val then A i j else 0

/-- Entries outside the diagonal blocks of size `s` are zero. -/
def Blocked (s : ℕ) (T : Mat) : Prop := ∀ i j : Fin 32, i.val / s ≠ j.val / s → T i j = 0

/-- Two blocks make one of twice the size. -/
theorem within_double (s : ℕ) (A : Mat) : within (s * 2) A = within s A + level s A := by
  funext i j
  rw [Matrix.add_apply]
  unfold within level
  rw [← Nat.div_div_eq_div_mul, ← Nat.div_div_eq_div_mul]
  have h1 : j.val < i.val → j.val / s ≤ i.val / s := fun h => Nat.div_le_div_right h.le
  have h2 : j.val / s < i.val / s → j.val < i.val := fun h => by
    by_contra hc
    exact absurd (Nat.div_le_div_right (c := s) (not_lt.mp hc)) (not_le.mpr h)
  generalize i.val / s = a at *
  generalize j.val / s = b at *
  by_cases hlt : j.val < i.val
  · have := h1 hlt
    by_cases hab : a = b
    · subst hab; rw [if_pos ⟨rfl, hlt⟩, if_pos ⟨rfl, hlt⟩, if_neg (by omega), add_zero]
    · by_cases hh : a / 2 = b / 2
      · rw [if_pos ⟨hh, hlt⟩, if_neg (by omega), if_pos (by omega), zero_add]
      · rw [if_neg (by omega), if_neg (by omega), if_neg (by omega), add_zero]
  · have : ¬ b < a := fun h => hlt (h2 h)
    rw [if_neg (by omega), if_neg (by omega), if_neg (by omega), add_zero]

/-- A level between two blocked factors, twice, is zero. -/
theorem level_twice (s : ℕ) (A T : Mat) (hT : Blocked s T) : level s A * T * level s A = 0 := by
  funext i j
  rw [Matrix.mul_apply]
  refine Finset.sum_eq_zero fun l _ => ?_
  rw [Matrix.mul_apply, Finset.sum_mul]
  refine Finset.sum_eq_zero fun k _ => ?_
  unfold level
  by_cases h : k.val / s = l.val / s
  · by_cases hk : k.val / s % 2 = 0
    · rw [if_neg (c := l.val / s / 2 = _ ∧ _) (by omega), mul_zero]
    · rw [if_neg (c := i.val / s / 2 = _ ∧ _) (by omega), zero_mul, zero_mul]
  · rw [hT k l h, mul_zero, zero_mul]

/-- A product of blocked matrices is blocked. -/
theorem Blocked.mul {s : ℕ} {T U : Mat} (hT : Blocked s T) (hU : Blocked s U) : Blocked s (T * U) := fun i j h => by
  rw [Matrix.mul_apply]
  refine Finset.sum_eq_zero fun k _ => ?_
  by_cases hk : i.val / s = k.val / s
  · rw [hU k j (hk ▸ h), mul_zero]
  · rw [hT i k hk, zero_mul]

/-- The inverse after `n` doublings. -/
def inverse (A : Mat) : ℕ → Mat
  | 0 => 1
  | n + 1 => inverse A n + inverse A n * level (2 ^ n) A * inverse A n

/-- After `n` doublings it inverts what lies inside blocks of size `2 ^ n`, and is blocked itself. -/
theorem inverse_spec (A : Mat) : ∀ n : ℕ, inverse A n * (1 - within (2 ^ n) A) = 1 ∧ Blocked (2 ^ n) (inverse A n)
  | 0 => by
    have h : within (2 ^ 0) A = 0 := by
      funext i j
      unfold within
      rw [if_neg (by rw [pow_zero, Nat.div_one, Nat.div_one]; omega)]
      rfl
    refine ⟨by rw [h, sub_zero]; exact one_mul 1, fun i j hij => Matrix.one_apply_ne fun e => hij (by rw [e])⟩
  | n + 1 => by
    obtain ⟨h, hb⟩ := inverse_spec A n
    have hz := level_twice (2 ^ n) A (inverse A n) hb
    have hw : within (2 ^ (n + 1)) A = within (2 ^ n) A + level (2 ^ n) A := by rw [pow_succ]; exact within_double _ A
    have up : ∀ T : Mat, Blocked (2 ^ n) T → Blocked (2 ^ (n + 1)) T := fun T hT i j hij => hT i j fun e => hij (by
      rw [pow_succ, ← Nat.div_div_eq_div_mul, ← Nat.div_div_eq_div_mul, e])
    have hl : Blocked (2 ^ (n + 1)) (level (2 ^ n) A) := fun i j hij => by
      unfold level
      rw [if_neg]
      rintro ⟨e, -, -⟩
      exact hij (by rw [pow_succ, ← Nat.div_div_eq_div_mul, ← Nat.div_div_eq_div_mul, e])
    constructor
    · rw [hw]
      show (inverse A n + inverse A n * level (2 ^ n) A * inverse A n) * _ = 1
      generalize inverse A n = T at *
      generalize level (2 ^ n) A = E at *
      generalize within (2 ^ n) A = W at *
      have e1 : (1 : Mat) - (W + E) = (1 - W) - E := by abel
      rw [e1, mul_sub, add_mul, add_mul, h, mul_assoc (T * E) T (1 - W), h, mul_one, mul_assoc T E T, mul_assoc T (E * T) E, hz, mul_zero]
      abel
    · intro i j hij
      show (inverse A n + inverse A n * level (2 ^ n) A * inverse A n) i j = 0
      rw [Matrix.add_apply, up _ hb i j hij, (((up _ hb).mul hl).mul (up _ hb)) i j hij, add_zero]

/-- Five doublings invert a matrix below the diagonal of all 32 frames. -/
theorem inverse_five (A : Mat) (hA : ∀ i j : Fin 32, i.val ≤ j.val → A i j = 0) : inverse A 5 * (1 - A) = 1 := by
  have h : within (2 ^ 5) A = A := by
    funext i j
    unfold within
    by_cases hij : j.val < i.val
    · rw [if_pos ⟨by omega, hij⟩]
    · rw [if_neg (by omega), hA i j (by omega)]
  have := (inverse_spec A 5).1
  rwa [h] at this

/-! ## The recurrence -/

section recurrence

variable (w k v a b : Fin 32 → Fin 64 → ℝ) (S : Fin 64 → Fin 64 → ℝ)

/-- The state after `t` steps. -/
def state : ℕ → Fin 64 → Fin 64 → ℝ
  | 0 => S
  | t + 1 => if h : t < 32 then fun x y =>
      state t x y * Real.exp (w ⟨t, h⟩ y) + (∑ z, state t x z * a ⟨t, h⟩ z) * b ⟨t, h⟩ y + v ⟨t, h⟩ x * k ⟨t, h⟩ y
    else state t

/-- The sum of the log decays before step `t`. -/
def decay (t : ℕ) (y : Fin 64) : ℝ := ∑ i : Fin 32, if i.val < t then w i y else 0

/-- What step `t` reads of the state. -/
def readS (t : Fin 32) (x : Fin 64) : ℝ := ∑ z, state w k v a b S t.val x z * a t z

/-- A sum over the steps before `t + 1` is the one before `t` and the term of step `t`. -/
theorem sum_before (f : Fin 32 → ℝ) (t : ℕ) (h : t < 32) :
    (∑ i : Fin 32, if i.val < t + 1 then f i else 0) = (∑ i : Fin 32, if i.val < t then f i else 0) + f ⟨t, h⟩ := by
  have e : ∀ i : Fin 32, (if i.val < t + 1 then f i else 0) = (if i.val < t then f i else 0) + if i = ⟨t, h⟩ then f i else 0 := by
    intro i
    by_cases h1 : i.val < t
    · rw [if_pos (by omega), if_pos h1, if_neg (by rintro rfl; exact absurd h1 (lt_irrefl _)), add_zero]
    · by_cases h2 : i.val = t
      · rw [if_pos (by omega), if_neg h1, if_pos (Fin.ext h2), zero_add]
      · rw [if_neg (by omega), if_neg h1, if_neg (fun e => h2 (by rw [e])), add_zero]
  rw [Finset.sum_congr rfl fun i _ => e i, Finset.sum_add_distrib, Finset.sum_ite_eq' Finset.univ (⟨t, h⟩ : Fin 32) f,
    if_pos (Finset.mem_univ _)]

/-- The log decays before step `t + 1`. -/
theorem decay_succ (t : ℕ) (h : t < 32) (y : Fin 64) : decay w (t + 1) y = decay w t y + w ⟨t, h⟩ y :=
  sum_before (fun i => w i y) t h

/-- The state after `t` steps, all updates taken out of the decays. -/
theorem state_eq : ∀ t : ℕ, t ≤ 32 → ∀ x y : Fin 64, state w k v a b S t x y = Real.exp (decay w t y) *
      (S x y + ∑ i : Fin 32, if i.val < t then
        (readS w k v a b S i x * b i y + v i x * k i y) * Real.exp (-decay w (i.val + 1) y) else 0)
  | 0, _, x, y => by simp [state, decay]
  | t + 1, ht, x, y => by
    have h : t < 32 := ht
    have ih := state_eq t h.le x y
    rw [sum_before (fun i => (readS w k v a b S i x * b i y + v i x * k i y) * Real.exp (-decay w (i.val + 1) y)) t h,
      ← add_assoc, mul_add (Real.exp _), decay_succ w t h y]
    have e : state w k v a b S (t + 1) x y
        = state w k v a b S t x y * Real.exp (w ⟨t, h⟩ y) + (readS w k v a b S ⟨t, h⟩ x * b ⟨t, h⟩ y + v ⟨t, h⟩ x * k ⟨t, h⟩ y) := by
      rw [state, dif_pos h, add_assoc]; rfl
    have c : Real.exp (decay w t y + w ⟨t, h⟩ y) * Real.exp (-(decay w t y + w ⟨t, h⟩ y)) = 1 := by
      rw [← Real.exp_add, add_neg_cancel, Real.exp_zero]
    rw [e, ih]
    generalize readS w k v a b S ⟨t, h⟩ x * b ⟨t, h⟩ y + v ⟨t, h⟩ x * k ⟨t, h⟩ y = q
    rw [show Real.exp (decay w t y + w ⟨t, h⟩ y) * (q * Real.exp (-(decay w t y + w ⟨t, h⟩ y))) = q by
      rw [mul_left_comm, c, mul_one], Real.exp_add]
    ring

/-- The read vectors, decayed to the chunk's start. -/
def early (t : Fin 32) (y : Fin 64) : ℝ := a t y * Real.exp (decay w t.val y)

/-- How step `t` reads what an earlier step wrote along `c`. -/
def cross (c : Fin 32 → Fin 64 → ℝ) : Mat := fun t i =>
  if i.val < t.val then ∑ z, early w a t z * (c i z * Real.exp (-decay w (i.val + 1) z)) else 0

/-- The write vectors, decayed to the chunk's end. -/
def late (c : Fin 32 → Fin 64 → ℝ) (i : Fin 32) (y : Fin 64) : ℝ := c i y * Real.exp (decay w 32 y - decay w (i.val + 1) y)

/-- What step `t` reads, through the earlier steps. -/
theorem readS_eq (t : Fin 32) (x : Fin 64) : readS w k v a b S t x
    = (∑ z, early w a t z * S x z) + (∑ i, cross w a b t i * readS w k v a b S i x) + ∑ i, cross w a k t i * v i x := by
  have hs : ∀ c : Fin 32 → Fin 64 → ℝ, ∀ u : Fin 32 → ℝ, (∑ i, cross w a c t i * u i)
      = ∑ z, early w a t z * ∑ i : Fin 32, if i.val < t.val then c i z * u i * Real.exp (-decay w (i.val + 1) z) else 0 := by
    intro c u
    simp only [Finset.mul_sum]
    rw [Finset.sum_comm]
    refine Finset.sum_congr rfl fun i _ => ?_
    unfold cross
    by_cases h : i.val < t.val
    · simp only [if_pos h]
      rw [Finset.sum_mul]
      exact Finset.sum_congr rfl fun z _ => by ring
    · simp only [if_neg h, mul_zero, zero_mul, Finset.sum_const_zero]
  rw [hs, hs, ← Finset.sum_add_distrib, ← Finset.sum_add_distrib]
  show (∑ z, state w k v a b S t.val x z * a t z) = _
  refine Finset.sum_congr rfl fun z _ => ?_
  rw [state_eq w k v a b S t.val t.isLt.le x z, ← mul_add, ← mul_add, add_assoc, ← Finset.sum_add_distrib]
  unfold early
  rw [mul_comm _ (a t z), ← mul_assoc]
  refine congrArg (fun q => a t z * Real.exp (decay w t.val z) * (S x z + q)) (Finset.sum_congr rfl fun i _ => ?_)
  by_cases h : i.val < t.val
  · simp only [if_pos h]; ring
  · simp only [if_neg h, add_zero]

/-- The inverse, of the steps' reads of each other. -/
def inv : Mat := inverse (cross w a b) 5

/-- The reads' part of the state. -/
def fromState (t : Fin 32) (y : Fin 64) : ℝ := ∑ j, inv w a b t j * early w a j y

/-- The reads' part of the values. -/
def fromValues (t : Fin 32) (x : Fin 64) : ℝ := ∑ j, inv w a b t j * ∑ i, cross w a k j i * v i x

/-- What step `t` reads, in closed form. -/
theorem readS_closed (t : Fin 32) (x : Fin 64) :
    readS w k v a b S t x = (∑ z, S x z * fromState w a b t z) + fromValues w k v a b t x := by
  have hi : inv w a b * (1 - cross w a b) = 1 := inverse_five _ fun i j h => by
    unfold cross; rw [if_neg (by omega)]
  have hm : ∀ j : Fin 32, (∑ i, (1 - cross w a b) j i * readS w k v a b S i x)
      = (∑ z, early w a j z * S x z) + ∑ i, cross w a k j i * v i x := by
    intro j
    have h1 : (∑ i, (1 - cross w a b) j i * readS w k v a b S i x)
        = readS w k v a b S j x - ∑ i, cross w a b j i * readS w k v a b S i x := by
      simp only [Matrix.sub_apply, sub_mul, Finset.sum_sub_distrib, Matrix.one_apply, ite_mul, one_mul, zero_mul, Finset.sum_ite_eq,
        Finset.mem_univ, if_true]
    rw [h1, readS_eq w k v a b S j x]
    ring
  have h2 : readS w k v a b S t x = ∑ j, inv w a b t j * ∑ i, (1 - cross w a b) j i * readS w k v a b S i x := by
    simp only [Finset.mul_sum, ← mul_assoc]
    rw [Finset.sum_comm]
    simp only [← Finset.sum_mul, ← Matrix.mul_apply, hi, Matrix.one_apply, ite_mul, one_mul, zero_mul, Finset.sum_ite_eq, Finset.mem_univ,
      if_true]
  rw [h2]
  simp only [hm, mul_add, Finset.sum_add_distrib]
  unfold fromValues fromState
  congr 1
  simp only [Finset.mul_sum]
  rw [Finset.sum_comm]
  exact Finset.sum_congr rfl fun z _ => Finset.sum_congr rfl fun j _ => by ring

/-- The state after the chunk, as the chunked form computes it. -/
theorem state_closed (x y : Fin 64) : state w k v a b S 32 x y
    = S x y * Real.exp (decay w 32 y) + (∑ z, S x z * ∑ t, fromState w a b t z * late w b t y)
      + ((∑ t, fromValues w k v a b t x * late w b t y) + ∑ t, v t x * late w k t y) := by
  have h1 : (∑ z, S x z * ∑ t, fromState w a b t z * late w b t y)
      = ∑ t, (∑ z, S x z * fromState w a b t z) * late w b t y := by
    simp only [Finset.mul_sum, Finset.sum_mul]
    rw [Finset.sum_comm]
    exact Finset.sum_congr rfl fun t _ => Finset.sum_congr rfl fun z _ => by ring
  rw [h1, state_eq w k v a b S 32 le_rfl x y, add_assoc, ← add_assoc (∑ t, _ * _) (∑ t, _ * _) _, ← Finset.sum_add_distrib,
    ← Finset.sum_add_distrib, mul_add, mul_comm (Real.exp _) (S x y), Finset.mul_sum]
  refine congrArg _ (Finset.sum_congr rfl fun t _ => ?_)
  rw [if_pos t.isLt, readS_closed]
  unfold late
  rw [sub_eq_add_neg, Real.exp_add]
  ring

/-- The queries, decayed to the chunk's start. -/
def query (r : Fin 32 → Fin 64 → ℝ) (t : Fin 32) (y : Fin 64) : ℝ := r t y * Real.exp (decay w (t.val + 1) y)

/-- How the query of step `t` reads what a step up to `t` wrote along `c`. -/
def answer (r c : Fin 32 → Fin 64 → ℝ) : Mat := fun t i =>
  if i.val < t.val + 1 then ∑ z, query w r t z * (c i z * Real.exp (-decay w (i.val + 1) z)) else 0

/-- What the query of step `t` reads of the state after the step. -/
def output (r : Fin 32 → Fin 64 → ℝ) (t : Fin 32) (x : Fin 64) : ℝ := ∑ z, state w k v a b S (t.val + 1) x z * r t z

/-- What a query reads, through the steps up to its own. -/
theorem output_eq (r : Fin 32 → Fin 64 → ℝ) (t : Fin 32) (x : Fin 64) : output w k v a b S r t x
    = (∑ z, query w r t z * S x z) + (∑ i, answer w r b t i * readS w k v a b S i x) + ∑ i, answer w r k t i * v i x := by
  have hs : ∀ c : Fin 32 → Fin 64 → ℝ, ∀ u : Fin 32 → ℝ, (∑ i, answer w r c t i * u i)
      = ∑ z, query w r t z * ∑ i : Fin 32, if i.val < t.val + 1 then c i z * u i * Real.exp (-decay w (i.val + 1) z) else 0 := by
    intro c u
    simp only [Finset.mul_sum]
    rw [Finset.sum_comm]
    refine Finset.sum_congr rfl fun i _ => ?_
    unfold answer
    by_cases h : i.val < t.val + 1
    · simp only [if_pos h]
      rw [Finset.sum_mul]
      exact Finset.sum_congr rfl fun z _ => by ring
    · simp only [if_neg h, mul_zero, zero_mul, Finset.sum_const_zero]
  rw [hs, hs, ← Finset.sum_add_distrib, ← Finset.sum_add_distrib]
  show (∑ z, state w k v a b S (t.val + 1) x z * r t z) = _
  refine Finset.sum_congr rfl fun z _ => ?_
  rw [state_eq w k v a b S (t.val + 1) t.isLt x z, ← mul_add, ← mul_add, add_assoc, ← Finset.sum_add_distrib]
  unfold query
  rw [mul_comm _ (r t z), ← mul_assoc]
  refine congrArg (fun q => r t z * Real.exp (decay w (t.val + 1) z) * (S x z + q)) (Finset.sum_congr rfl fun i _ => ?_)
  by_cases h : i.val < t.val + 1
  · simp only [if_pos h]; ring
  · simp only [if_neg h, add_zero]

/-- What a query reads, as the chunked form computes it. -/
theorem output_closed (r : Fin 32 → Fin 64 → ℝ) (t : Fin 32) (x : Fin 64) : output w k v a b S r t x
    = (∑ z, (query w r t z + ∑ i, answer w r b t i * fromState w a b i z) * S x z)
      + ((∑ i, answer w r b t i * fromValues w k v a b i x) + ∑ i, answer w r k t i * v i x) := by
  have h : (∑ i, answer w r b t i * readS w k v a b S i x)
      = (∑ z, (∑ i, answer w r b t i * fromState w a b i z) * S x z) + ∑ i, answer w r b t i * fromValues w k v a b i x := by
    simp only [readS_closed, mul_add, Finset.sum_add_distrib]
    congr 1
    simp only [Finset.mul_sum, Finset.sum_mul]
    rw [Finset.sum_comm]
    exact Finset.sum_congr rfl fun z _ => Finset.sum_congr rfl fun i _ => by ring
  rw [output_eq, h]
  simp only [add_mul, Finset.sum_add_distrib]
  ring

end recurrence

end Cert.Wkv
-- ==== Proof.WkvMask.lean ====
/-
  The masks of the recurrence's block at an index, and sums over the two heads that a tile holds.
-/
module

public import proofs.«01_k».proof.Proof.WkvTile
public import proofs.«01_k».proof.Proof.WkvMath

@[expose] public section

set_option maxRecDepth 16384

noncomputable section

namespace Cert.Kernel10Ideal.Wkv

open Cert.Kernel10Ideal Cert.Kernel10Ideal.Gen Idealize.ShloMosaic Idealize.ShloMosaic.TcCoe Idealize.SL.Sem

/-! ## Two heads side by side -/

/-- Lane `d` of head `e` of a pair. -/
def lane (e : Fin 2) (d : Fin 64) : Fin 128 := ⟨64 * e.val + d.val, by omega⟩
/-- Frame `j`'s column for head `e` of a pair. -/
def col (e : Fin 2) (j : Fin 32) : Fin 64 := ⟨32 * e.val + j.val, by omega⟩

/-- A real sum. -/
theorem coe_sum {n : ℕ} (f : Fin n → ℝ) : ((∑ i, f i : ℝ) : EReal) = ∑ i, (f i : EReal) := by
  induction n with
  | zero => simp
  | succ n ih => rw [Fin.sum_univ_succ, Fin.sum_univ_succ, EReal.coe_add, ih]

/-- A sum over a pair's lanes, its terms zero at the other head. -/
theorem sum_lane (f : Fin 128 → EReal) (e : Fin 2) (h : ∀ e' d, e' ≠ e → f (lane e' d) = 0) : ∑ l, f l = ∑ d, f (lane e d) := by
  have s : ∑ l, f l = (∑ d, f (lane 0 d)) + ∑ d, f (lane 1 d) := by
    refine (Fin.sum_univ_add (a := 64) (b := 64) f).trans (congrArg₂ _ (Finset.sum_congr rfl fun d _ => congrArg f (Fin.ext ?_))
      (Finset.sum_congr rfl fun d _ => congrArg f (Fin.ext ?_)))
    · show d.val = 64 * 0 + d.val; omega
    · show 64 + d.val = 64 * 1 + d.val; omega
  rw [s]
  fin_cases e
  · refine (congrArg _ (Finset.sum_eq_zero fun d _ => h 1 d (by decide))).trans (add_zero _)
  · refine (congrArg (· + _) (Finset.sum_eq_zero fun d _ => h 0 d (by decide))).trans (zero_add _)

/-- A sum over a pair's columns, its terms zero at the other head. -/
theorem sum_col (f : Fin 64 → EReal) (e : Fin 2) (h : ∀ e' d, e' ≠ e → f (col e' d) = 0) : ∑ l, f l = ∑ d, f (col e d) := by
  have s : ∑ l, f l = (∑ d, f (col 0 d)) + ∑ d, f (col 1 d) := by
    refine (Fin.sum_univ_add (a := 32) (b := 32) f).trans (congrArg₂ _ (Finset.sum_congr rfl fun d _ => congrArg f (Fin.ext ?_))
      (Finset.sum_congr rfl fun d _ => congrArg f (Fin.ext ?_)))
    · show d.val = 32 * 0 + d.val; omega
    · show 32 + d.val = 32 * 1 + d.val; omega
  rw [s]
  fin_cases e
  · refine (congrArg _ (Finset.sum_eq_zero fun d _ => h 1 d (by decide))).trans (add_zero _)
  · refine (congrArg (· + _) (Finset.sum_eq_zero fun d _ => h 0 d (by decide))).trans (zero_add _)

/-! ## The masks -/

theorem low_apply : ∀ (t : Fin 32) (e : Fin 2) (d : Fin 64), low (ix2 t (lane e d)) = if e.val = 0 then 1#1 else 0#1 := by
  decide +kernel
theorem firstT_apply : ∀ (t : Fin 32) (e : Fin 2) (j : Fin 32), firstT (ix2 t (col e j)) = if e.val = 0 then 1#1 else 0#1 := by
  decide +kernel
theorem same_apply : ∀ (e e' : Fin 2) (d d' : Fin 64), same (ix2 (lane e d) (lane e' d')) = if e = e' then 1#1 else 0#1 := by
  decide +kernel
theorem strict_apply : ∀ (t : Fin 32) (e : Fin 2) (j : Fin 32), strict (ix2 t (col e j)) = if j.val < t.val then 1#1 else 0#1 := by
  decide +kernel
theorem eye_apply : ∀ (t : Fin 32) (e : Fin 2) (j : Fin 32), cmpi .eq tI jI (ix2 t (col e j)) = if t = j then 1#1 else 0#1 := by
  decide +kernel
theorem tri_apply : ∀ (t i : Fin 32), cmpi .sge (iota .tc S32x32 32 [0] iota_S32x32_d0_w32) (iota .tc S32x32 32 [1] iota_S32x32_d1_w32) (ix2 t i)
    = if i.val ≤ t.val then 1#1 else 0#1 := by
  decide +kernel
/-- The level masks are the levels of the doubling. -/
theorem level_apply : ∀ (n : Fin 5) (t : Fin 32) (e : Fin 2) (j : Fin 32),
    levelMask (BitVec.ofNat 32 n.val) (BitVec.ofNat 32 (n.val + 1)) (ix2 t (col e j))
      = if t.val / 2 ^ n.val / 2 = j.val / 2 ^ n.val / 2 ∧ t.val / 2 ^ n.val % 2 = 1 ∧ j.val / 2 ^ n.val % 2 = 0 then 1#1 else 0#1 := by
  decide +kernel

end Cert.Kernel10Ideal.Wkv
-- ==== Proof.WkvChunk.lean ====
/-
  The recurrence's chunk at an index. A tile holds two heads; where its values are real numbers, the state that it leaves of each
  head is the state after 32 steps of the recurrence.
-/
module

public import proofs.«01_k».proof.Proof.WkvMask

@[expose] public section

set_option maxRecDepth 16384

noncomputable section

namespace Cert.Kernel10Ideal.Wkv

open Cert.Kernel10Ideal Cert.Kernel10Ideal.Gen Idealize.ShloMosaic Idealize.ShloMosaic.TcCoe Idealize.SL.Sem

theorem zero_eq : (zero : Ideal .f32) = (0 : EReal) := by
  show Ideal.ofBits .f32 0x00000000#32 = 0
  simp [Ideal.ofBits, Ideal.ieee]
theorem one_eq : (one : Ideal .f32) = (1 : EReal) := by
  show Ideal.ofBits .f32 0x3F800000#32 = 1
  simp [Ideal.ofBits, Ideal.ieee]
  rw [← EReal.coe_mul]
  norm_num

/-- A word that is one or zero selects as its condition decides. -/
theorem select_word {c : Prop} [Decidable c] {α : Type} (w : BitVec 1) (x y : α) (h : w = if c then 1#1 else 0#1) :
    Scalar.select w x y = if c then x else y := by
  subst h; by_cases hc : c <;> simp [hc, Scalar.select]

/-- The stacked heads at an index. -/
theorem stackD_apply (x : FVec Ideal S32x128 .f32) (e e' : Fin 2) (i : Fin 32) (d : Fin 64) :
    stackD x (ix2 (col e i) (lane e' d)) = if e = e' then x (ix2 i (lane e' d)) else 0 := by
  have h := low_apply i e' d
  generalize lane e' d = l at *
  fin_cases e <;> fin_cases e' <;> pointwise [stackD, col] <;> rw [select_word _ _ _ h] <;> first | rfl | exact zero_eq

theorem stackT_apply (x : FVec Ideal S32x64 .f32) (e e' : Fin 2) (i j : Fin 32) :
    stackT x (ix2 (col e i) (col e' j)) = if e = e' then x (ix2 i (col e' j)) else 0 := by
  have h := firstT_apply i e' j
  generalize col e' j = l at *
  fin_cases e <;> fin_cases e' <;> pointwise [stackT, col] <;> rw [select_word _ _ _ h] <;> first | rfl | exact zero_eq

theorem tdot_apply (m : FVec Ideal S32x64 .f32) (s : FVec Ideal S64x64 .bf16) (t : Fin 32) (c : Fin 64) :
    tdot m s (ix2 t c) = ∑ i : Fin 64, m (ix2 t i) * s (ix2 i c) := by
  pointwise [tdot]

theorem crossTile_apply (x : FVec Ideal S64x128 .bf16) (b cum : FVec Ideal S32x128 .f32) (r c : Fin 64) :
    crossTile x b cum (ix2 r c) = ∑ l : Fin 128, x (ix2 r l) * stackD (mulf b (undone cum)) (ix2 c l) := by
  pointwise [crossTile]

theorem undone_apply (b cum : FVec Ideal S32x128 .f32) (t : Fin 32) (l : Fin 128) :
    mulf b (undone cum) (ix2 t l) = b (ix2 t l) * Ideal.exp (0 - cum (ix2 t l)) := by
  pointwise [undone]
  rw [zero_eq]

theorem early_apply (kn lw cum : FVec Ideal S32x128 .f32) (t : Fin 32) (l : Fin 128) :
    early kn lw cum (ix2 t l) = (0 - kn (ix2 t l)) * Ideal.exp (cum (ix2 t l) - lw (ix2 t l)) := by
  pointwise [early]
  rw [zero_eq]

theorem rows2_apply (r kn lw cum : FVec Ideal S32x128 .f32) (t : Fin 32) (l : Fin 128) :
    rows2 r kn lw cum (ix2 (col 0 t) l) = early kn lw cum (ix2 t l) := by
  pointwise [rows2, col]

theorem below_apply (c : FVec Ideal S64x64 .f32) (t : Fin 32) (e : Fin 2) (j : Fin 32) :
    below c (ix2 t (col e j)) = if j.val < t.val then c (ix2 (col 0 t) (col e j)) else 0 := by
  have h := strict_apply t e j
  generalize col e j = l at *
  pointwise [below, col]
  rw [select_word _ _ _ h, zero_eq]

theorem withValues_apply (c : FVec Ideal S64x64 .f32) (v : FVec Ideal S32x128 .f32) (t : Fin 32) (l : Fin 128) :
    withValues c v (ix2 (col 0 t) l) = ∑ i : Fin 64, below c (ix2 t i) * stackD v (ix2 i l) := by
  pointwise [withValues, masked, col]

theorem solved_first (t : FVec Ideal S32x64 .f32) (e : FVec Ideal S32x128 .f32) (kv : FVec Ideal S64x128 .f32) (i : Fin 32) (l : Fin 128) :
    solved t e kv (ix2 i (⟨l.val, by omega⟩ : Fin 256)) = ∑ j : Fin 64, t (ix2 i j) * stackD e (ix2 j l) := by
  pointwise [solved]

/-- The upper half's rows. -/
def upper (kv : FVec Ideal S64x128 .f32) : FVec Ideal S32x128 .f32 := extractStridedSlice S32x128 ![0, 0] kv slices_S64x128_o0_0_S32x128

theorem upper_apply (kv : FVec Ideal S64x128 .f32) (t : Fin 32) (l : Fin 128) : upper kv (ix2 t l) = kv (ix2 (col 0 t) l) := by
  pointwise [upper, col]

theorem solved_second (t : FVec Ideal S32x64 .f32) (e : FVec Ideal S32x128 .f32) (kv : FVec Ideal S64x128 .f32) (i : Fin 32) (l : Fin 128) :
    solved t e kv (ix2 i (⟨128 + l.val, by omega⟩ : Fin 256)) = ∑ j : Fin 64, t (ix2 i j) * stackD (upper kv) (ix2 j l) := by
  pointwise [solved]
  rfl

theorem mm_apply (w : FVec Ideal S32x256 .f32) (b : FVec Ideal S32x128 .f32) (q : Fin 256) (l : Fin 128) :
    mm w b (ix2 q l) = ∑ t : Fin 32, w (ix2 t q) * b (ix2 t l) := by
  pointwise [mm]
theorem mk_apply (v k : FVec Ideal S32x128 .f32) (x l : Fin 128) :
    mk v k (ix2 x l) = ∑ t : Fin 32, v (ix2 t x) * k (ix2 t l) := by
  pointwise [mk]

theorem toEnd_apply (b cum : FVec Ideal S32x128 .f32) (t : Fin 32) (l : Fin 128) :
    mulf b (toEnd cum) (ix2 t l) = b (ix2 t l) * Ideal.exp (cum (ix2 (31 : Fin 32) l) - cum (ix2 t l)) := by
  pointwise [toEnd, lastRow]

theorem newState_apply (s : Vec Ideal S1x128x128 .f32) (cum : FVec Ideal S32x128 .f32) (m : FVec Ideal S256x128 .f32) (n : FVec Ideal S128x128 .f32)
    (x y : Fin 128) :
    newState s (lastRow cum) m n (ix3 (0 : Fin 1) x y) = s (ix3 0 x y) * Ideal.exp (cum (ix2 (31 : Fin 32) y))
      + (∑ z : Fin 128, s (ix3 0 x z) * (if same (ix2 z y) = 1#1 then m (ix2 (⟨z.val, by omega⟩ : Fin 256) y) else 0))
      + (if same (ix2 x y) = 1#1 then m (ix2 (⟨128 + x.val, by omega⟩ : Fin 256) y) + n (ix2 x y) else 0) := by
  pointwise [newState, lastRow]
  rw [zero_eq]
  rfl

/-! ## Real tiles -/

/-- A tile of two matrices of real numbers. -/
def TileIs (X : FVec Ideal S32x64 .f32) (M : Fin 2 → Cert.Wkv.Mat) : Prop := ∀ e i j, X (ix2 i (col e j)) = ((M e i j : ℝ) : EReal)

/-- The product of two tiles is the heads' products. -/
theorem tdot_real {X Y : FVec Ideal S32x64 .f32} {M N : Fin 2 → Cert.Wkv.Mat} (hX : TileIs X M) (hY : TileIs Y N) :
    TileIs (tdot X (stackT Y)) fun e => M e * N e := by
  intro e i j
  rw [tdot_apply, sum_col _ e fun e' d h => by rw [stackT_apply, if_neg h, mul_zero]]
  show _ = ((∑ d, M e i d * N e d j : ℝ) : EReal)
  rw [coe_sum]
  exact Finset.sum_congr rfl fun d _ => by rw [stackT_apply, if_pos rfl, hX, hY, EReal.coe_mul]

/-- A masked tile is the heads' levels. -/
theorem level_real {A : FVec Ideal S32x64 .f32} {M : Fin 2 → Cert.Wkv.Mat} (hA : TileIs A M) (n : Fin 5) :
    TileIs (select (levelMask (BitVec.ofNat 32 n.val) (BitVec.ofNat 32 (n.val + 1))) A (broadcast S32x64 zero))
      fun e => Cert.Wkv.level (2 ^ n.val) (M e) := by
  intro e i j
  refine (select_word _ _ _ (level_apply n i e j)).trans ?_
  show _ = ((if i.val / 2 ^ n.val / 2 = j.val / 2 ^ n.val / 2 ∧ i.val / 2 ^ n.val % 2 = 1 ∧ j.val / 2 ^ n.val % 2 = 0
    then M e i j else 0 : ℝ) : EReal)
  split_ifs
  · exact hA e i j
  · exact zero_eq

/-- A doubling of a tile's blocks doubles the heads' blocks. -/
theorem double_real {A T : FVec Ideal S32x64 .f32} {M N : Fin 2 → Cert.Wkv.Mat} (hA : TileIs A M) (hT : TileIs T N) (n : Fin 5) :
    TileIs (double (levelMask (BitVec.ofNat 32 n.val) (BitVec.ofNat 32 (n.val + 1))) A T)
      fun e => N e + N e * Cert.Wkv.level (2 ^ n.val) (M e) * N e := by
  intro e i j
  refine (congrArg₂ (· + ·) (hT e i j) (tdot_real (tdot_real hT (level_real hA n)) hT e i j)).trans ?_
  exact (EReal.coe_add _ _).symm

/-- The inverse of a tile is the heads' inverses. -/
theorem invTile_real {A : FVec Ideal S32x64 .f32} {M : Fin 2 → Cert.Wkv.Mat} (hA : TileIs A M) :
    TileIs (invTile A) fun e => Cert.Wkv.inverse (M e) 5 := by
  have h1 : TileIs (addf eye2 (select (levelMask 0#32 1#32) A (broadcast S32x64 zero))) fun e => Cert.Wkv.inverse (M e) 1 := by
    intro e i j
    refine (congrArg₂ (· + ·) ?_ (level_real hA 0 e i j)).trans (b := (((1 : Cert.Wkv.Mat) i j : ℝ) : EReal) + _) ?_
    · refine (select_word _ _ _ (eye_apply i e j)).trans ?_
      rw [Matrix.one_apply]
      split
      · exact one_eq
      · exact zero_eq
    · refine (EReal.coe_add _ _).symm.trans ?_
      show (((1 : Cert.Wkv.Mat) i j + Cert.Wkv.level (2 ^ 0) (M e) i j : ℝ) : EReal) = ((((1 : Cert.Wkv.Mat) + 1 * Cert.Wkv.level (2 ^ 0) (M e) * 1) i j : ℝ) : EReal)
      rw [one_mul, mul_one]
      rfl
  exact double_real hA (double_real hA (double_real hA (double_real hA h1 1) 2) 3) 4

section chunk

variable (w k v b c S : Fin 2 → Fin 32 → Fin 64 → ℝ) (T : Fin 2 → Fin 64 → Fin 64 → ℝ)
  (r lw kx vx kn bx cum : FVec Ideal S32x128 .f32) (s : Vec Ideal S1x128x128 .f32)

/-- A tile of two heads' real numbers. -/
def LanesAre (x : FVec Ideal S32x128 .f32) (f : Fin 2 → Fin 32 → Fin 64 → ℝ) : Prop := ∀ e t d, x (ix2 t (lane e d)) = ((f e t d : ℝ) : EReal)

/-- The removal vectors of a head. -/
def removal (e : Fin 2) (t : Fin 32) (d : Fin 64) : ℝ := -c e t d

variable (hw : LanesAre lw w) (hk : LanesAre kx k) (hv : LanesAre vx v) (hc : LanesAre kn c) (hb : LanesAre bx b)
  (hcum : LanesAre cum fun e t d => Cert.Wkv.decay (w e) (t.val + 1) d)
  (hs : ∀ e x y, s (ix3 0 (lane e x) (lane e y)) = ((T e x y : ℝ) : EReal))

include hw hc hcum in
/-- The removal keys, decayed up to their frame. -/
theorem early_real : LanesAre (early kn lw cum) fun e => Cert.Wkv.early (w e) (removal c e) := by
  intro e t d
  rw [early_apply, hw, hc, hcum, zero_sub, ← EReal.coe_sub, ← EReal.coe_neg, Ideal.exp_coe, ← EReal.coe_mul]
  show ((-c e t d * Real.exp (Cert.Wkv.decay (w e) (t.val + 1) d - w e t d) : ℝ) : EReal)
    = ((-c e t d * Real.exp (Cert.Wkv.decay (w e) t.val d) : ℝ) : EReal)
  rw [Cert.Wkv.decay_succ (w e) t.val t.isLt d, add_sub_cancel_right]

include hw hc hcum in
/-- The products below the diagonal. -/
theorem below_real (x : FVec Ideal S32x128 .f32) (f : Fin 2 → Fin 32 → Fin 64 → ℝ) (hx : LanesAre x f) :
    TileIs (below (crossTile (rows2 r kn lw cum) x cum)) fun e => Cert.Wkv.cross (w e) (removal c e) (f e) := by
  intro e t i
  rw [below_apply]
  show _ = ((if i.val < t.val then ∑ z, Cert.Wkv.early (w e) (removal c e) t z * (f e i z * Real.exp (-Cert.Wkv.decay (w e) (i.val + 1) z)) else 0 : ℝ) : EReal)
  split_ifs
  · rw [crossTile_apply, sum_lane _ e fun e' d h => by rw [stackD_apply, if_neg (Ne.symm h), mul_zero], coe_sum]
    refine Finset.sum_congr rfl fun d _ => ?_
    rw [stackD_apply, if_pos rfl, rows2_apply, early_real w c lw kn cum hw hc hcum, undone_apply, hx, hcum, zero_sub, ← EReal.coe_neg,
      Ideal.exp_coe, ← EReal.coe_mul, ← EReal.coe_mul]
  · rfl

include hw hv hc hcum in
/-- The products with the values. -/
theorem withValues_real (x : FVec Ideal S32x128 .f32) (f : Fin 2 → Fin 32 → Fin 64 → ℝ) (hx : LanesAre x f) (t : Fin 32) (e : Fin 2) (d : Fin 64) :
    withValues (crossTile (rows2 r kn lw cum) x cum) vx (ix2 (col 0 t) (lane e d))
      = ((∑ i, Cert.Wkv.cross (w e) (removal c e) (f e) t i * v e i d : ℝ) : EReal) := by
  rw [withValues_apply, sum_col _ e fun e' d h => by rw [stackD_apply, if_neg h, mul_zero], coe_sum]
  refine Finset.sum_congr rfl fun i _ => ?_
  rw [stackD_apply, if_pos rfl, below_real w c r lw kn cum hw hc hcum x f hx, hv, EReal.coe_mul]

include hw hc hb hcum in
/-- The inverse. -/
theorem inv_real : TileIs (invTile (below (crossTile (rows2 r kn lw cum) bx cum))) fun e => Cert.Wkv.inv (w e) (removal c e) (b e) :=
  invTile_real (below_real w c r lw kn cum hw hc hcum bx b hb)

include hw hc hb hcum in
/-- What the steps read of the state. -/
theorem solved_real_state (kv : FVec Ideal S64x128 .f32) (t : Fin 32) (e : Fin 2) (y : Fin 64) :
    solved (invTile (below (crossTile (rows2 r kn lw cum) bx cum))) (early kn lw cum) kv (ix2 t (⟨(lane e y).val, by omega⟩ : Fin 256))
      = ((Cert.Wkv.fromState (w e) (removal c e) (b e) t y : ℝ) : EReal) := by
  rw [solved_first, sum_col _ e fun e' d h => by rw [stackD_apply, if_neg h, mul_zero]]
  unfold Cert.Wkv.fromState
  rw [coe_sum]
  refine Finset.sum_congr rfl fun i _ => ?_
  rw [stackD_apply, if_pos rfl, inv_real w b c r lw kn bx cum hw hc hb hcum, early_real w c lw kn cum hw hc hcum, EReal.coe_mul]

include hw hk hv hc hb hcum in
/-- What the steps read of the values. -/
theorem solved_real_values (t : Fin 32) (e : Fin 2) (x : Fin 64) :
    solved (invTile (below (crossTile (rows2 r kn lw cum) bx cum))) (early kn lw cum) (withValues (crossTile (rows2 r kn lw cum) kx cum) vx)
        (ix2 t (⟨128 + (lane e x).val, by omega⟩ : Fin 256))
      = ((Cert.Wkv.fromValues (w e) (k e) (v e) (removal c e) (b e) t x : ℝ) : EReal) := by
  rw [solved_second, sum_col _ e fun e' d h => by rw [stackD_apply, if_neg h, mul_zero]]
  unfold Cert.Wkv.fromValues
  rw [coe_sum]
  refine Finset.sum_congr rfl fun i _ => ?_
  rw [stackD_apply, if_pos rfl, inv_real w b c r lw kn bx cum hw hc hb hcum, upper_apply,
    withValues_real w v c r lw vx kn cum hw hv hc hcum kx k hk, EReal.coe_mul]

include hcum in
/-- What a frame writes, decayed to the chunk's end. -/
theorem late_real (x : FVec Ideal S32x128 .f32) (f : Fin 2 → Fin 32 → Fin 64 → ℝ) (hx : LanesAre x f) :
    LanesAre (mulf x (toEnd cum)) fun e => Cert.Wkv.late (w e) (f e) := by
  intro e t d
  rw [toEnd_apply, hx, hcum, hcum, ← EReal.coe_sub, Ideal.exp_coe, ← EReal.coe_mul]
  rfl

include hw hk hv hc hb hcum hs in
/-- A pair's new state holds each head's state after the 32 steps. -/
theorem updTile_real (e : Fin 2) (x y : Fin 64) : updTile r lw kx vx kn bx cum s (ix3 0 (lane e x) (lane e y))
    = ((Cert.Wkv.state (w e) (k e) (v e) (removal c e) (b e) (T e) 32 x y : ℝ) : EReal) := by
  unfold updTile
  rw [newState_apply, sum_lane _ e fun e' d h => by rw [if_neg (by rw [same_apply, if_neg h]; decide), mul_zero], Cert.Wkv.state_closed, EReal.coe_add,
    EReal.coe_add, EReal.coe_add, EReal.coe_mul, coe_sum, coe_sum, coe_sum, if_pos (by rw [same_apply, if_pos rfl]), mm_apply, mk_apply]
  refine congrArg₂ (· + ·) (congrArg₂ (· + ·) ?_ (Finset.sum_congr rfl fun z _ => ?_)) (congrArg₂ (· + ·) (Finset.sum_congr rfl fun t _ => ?_)
    (Finset.sum_congr rfl fun t _ => ?_))
  · rw [hs, hcum, Ideal.exp_coe]; rfl
  · rw [hs, if_pos (by rw [same_apply, if_pos rfl]), mm_apply, EReal.coe_mul, coe_sum]
    refine congrArg _ (Finset.sum_congr rfl fun t _ => ?_)
    rw [solved_real_state w b c r lw kn bx cum hw hc hb hcum, late_real w cum hcum bx b hb, EReal.coe_mul]
  · rw [solved_real_values w k v b c r lw kx vx kn bx cum hw hk hv hc hb hcum, late_real w cum hcum bx b hb, EReal.coe_mul]
  · rw [hv, late_real w cum hcum kx k hk, EReal.coe_mul]

end chunk

end Cert.Kernel10Ideal.Wkv
-- ==== Proof.WkvReads.lean ====
/-
  What the recurrence's body reads back from its scratch arrays: each load is the tile that was stored there, so the end state of a
  pair is one chunk's step from the state the point was given.
-/
module

public import proofs.«01_k».proof.Proof.WkvChunk

@[expose] public section

set_option maxRecDepth 65536

noncomputable section

namespace Cert.Kernel10Ideal.Wkv

open Cert.Kernel10Ideal Cert.Kernel10Ideal.Gen Idealize.ShloMosaic Idealize.ShloMosaic.TcCoe Idealize.SL.Sem

variable (arg20 : Memref sig .tc .vmem S1x4992 .f32) (arg19 : Memref sig .tc .vmem S12x128x128 .f32)
  (arg21 arg22 arg23 arg24 arg25 arg26 : Memref sig .tc .vmem S32x1536 .f32)
  (x0 : Vec Ideal S32x4992 .f32) (x1 : Vec Ideal S1x1x4992 .f32) (x2 : Vec Ideal S1x4992 .f32) (x3 : Vec Ideal S1x1536 .f32)
  (x4 : Vec Ideal S128x1536 .bf16) (x5 : Vec Ideal S1x1536 .f32) (x6 : Vec Ideal S128x1536 .bf16) (x8 x9 : Vec Ideal S1x1536 .f32)
  (x11 : Vec Ideal S1x1x24x64x64 .f32)

theorem zero2 : (![0, 0] : Fin 2 → Nat) = fun _ => 0 := by
  funext a; fin_cases a <;> rfl

/-- Column `128 q + l`. -/
def at128 (q : Fin 12) (l : Fin 128) : Fin 1536 := ⟨128 * q.val + l.val, by omega⟩

theorem lanes_emb (q : Fin 12) (t : Fin 32) (l : Fin 128) : (lanes q).emb (ix2 t l) = ix2 t (at128 q l) := by
  refine funext fun a => Fin.ext ?_
  fin_cases a
  · show 0 + 1 * t.val = t.val; omega
  · show 128 * q.val + 1 * l.val = 128 * q.val + l.val; omega

theorem lanes_disjoint (k k' : Fin 12) (h : k ≠ k') : Disjoint (lanes k).set (lanes k').set := by
  refine Rect.unit_disjoint (inb := inb_lane k) (inb' := inb_lane k') 1 ?_
  have : k.val ≠ k'.val := fun e => h (Fin.ext e)
  show 128 * k.val + 128 ≤ 128 * k'.val ∨ 128 * k'.val + 128 ≤ 128 * k.val
  omega

theorem sRect_disjoint (k k' : Fin 12) (h : k ≠ k') : Disjoint (sRect k).set (sRect k').set := by
  refine Rect.unit_disjoint (inb := inb_state k) (inb' := inb_state k') 0 ?_
  have : k.val ≠ k'.val := fun e => h (Fin.ext e)
  show k.val + 1 ≤ k'.val ∨ k'.val + 1 ≤ k.val
  omega

/-- The scratch array that the twelve stores leave, at an index. -/
theorem pieces_canon (w : Fin 12 → FVec Ideal S32x128 .f32) (q : Fin 12) (x : (lanes q).shape.Idx) :
    View.canon (Val := Elt Ideal) (pieces w) ((lanes q).emb x) = w q x := by
  obtain ⟨k, rfl⟩ : ∃ k : Fin 12, q = ⟨11 - k.val, by omega⟩ := ⟨⟨11 - q.val, by omega⟩, Fin.ext (by dsimp only; omega)⟩
  unfold pieces
  refine (View.canon_ofFn_emb_of_disjoint (Val := Elt Ideal) (fun k : Fin 12 => lanes ⟨11 - k.val, by omega⟩) _ (fun i j h => ?_) k x).trans ?_
  · refine lanes_disjoint _ _ fun e => h (Fin.ext ?_)
    have := congrArg Fin.val e
    dsimp only at this
    omega
  · obtain ⟨t, l, rfl⟩ : ∃ (t : Fin 32) (l : Fin 128), x = ix2 t l := ⟨x 0, x 1, funext fun a => by fin_cases a <;> rfl⟩
    pointwise []

/-- A tile read back is the tile stored. -/
theorem back_eq (a : Memref sig .tc .vmem S32x1536 .f32) (w : Fin 12 → FVec Ideal S32x128 .f32) (n : Fin 12) : back a w n = w n := by
  unfold back
  rw [View.readCov_eq_canon']
  funext x
  exact pieces_canon w n x

/-- The twelve tiles read back as one array. -/
theorem whole_back (a : Memref sig .tc .vmem S32x1536 .f32) (w : Fin 12 → FVec Ideal S32x128 .f32) (t : Fin 32) (q : Fin 12) (l : Fin 128) :
    a.view.readCov (pieces w) (Rect.unit (s := S32x1536) ![0, 0] S32x1536.size inb_S32x1536_S32x1536_0_0).toLoadRect (ix2 t (at128 q l))
      = w q (ix2 t l) := by
  rw [View.readCov_eq_canon', ← pieces_canon w q (ix2 t l), lanes_emb]
  refine congrArg (View.canon (Val := Elt Ideal) (pieces w)) (funext fun a => Fin.ext ?_)
  fin_cases a
  · show 0 + 1 * t.val = t.val; omega
  · show 0 + 1 * (at128 q l).val = (at128 q l).val; omega

/-- The log decays of a pair, read back. -/
theorem lw_read (n : Fin 12) (t : Fin 32) (l : Fin 128) :
    arg22.view.readCov (lwPieces arg20 x0 x1 x2 x3 x4) (lanes n).toLoadRect (ix2 t l) = lwAll arg20 x0 x1 x2 x3 x4 (ix2 t (at128 n l)) := by
  rw [View.readCov_eq_canon', ← lanes_emb]
  unfold lwPieces
  rw [View.canon_cons_unit_zero (S := S32x1536) zero2]
  rfl

/-- The log decays, read back as one array. -/
theorem lw_whole : arg22.view.readCov (lwPieces arg20 x0 x1 x2 x3 x4)
    (Rect.unit (s := S32x1536) ![0, 0] S32x1536.size inb_S32x1536_S32x1536_0_0).toLoadRect = lwAll arg20 x0 x1 x2 x3 x4 := by
  unfold lwPieces
  rw [View.readCov_unit_zero (S := S32x1536) _ zero2]

/-- The frame before the first, read back. -/
theorem prev_read (n : Fin 39) (l : Fin 128) :
    arg20.view.readCov (prevPieces (F := Ideal) x1) (Rect.unit (s := S1x4992) ![0, 128 * n.val] ![1, 128] (inb_wideRow n)).toLoadRect (ix2 0 l)
      = x1 (ix3 0 0 ⟨128 * n.val + l.val, by omega⟩) := by
  rw [View.readCov_eq_canon']
  unfold prevPieces
  rw [View.canon_cons_unit_zero (S := S1x4992) zero2]
  have h : (Rect.unit (s := S1x4992) ![0, 128 * n.val] ![1, 128] (inb_wideRow n)).toLoadRect.idx (ix2 0 l)
      = (ix2 0 ⟨128 * n.val + l.val, by omega⟩ : S1x4992.Idx) := by
    refine funext fun a => Fin.ext ?_
    fin_cases a
    · rfl
    · show 128 * n.val + 1 * l.val = 128 * n.val + l.val; omega
  show shiftRow x1 _ = _
  rw [h]
  pointwise [shiftRow]

/-- A pair's state at the start. -/
def initAt (x11 : Vec Ideal S1x1x24x64x64 .f32) (n : Fin 12) : FVec Ideal S1x128x128 .f32 :=
  initTile (headIn x11 ⟨2 * n.val, by omega⟩) (headIn x11 ⟨2 * n.val + 1, by omega⟩)

/-- The first states read back. -/
theorem init_read (n : Fin 12) : arg19.view.readCov (initPieces (F := Ideal) x11) (sRect n).toLoadRect = initAt x11 n := by
  rw [View.readCov_eq_canon']
  obtain ⟨k, rfl⟩ : ∃ k : Fin 12, n = ⟨11 - k.val, by omega⟩ := ⟨⟨11 - n.val, by omega⟩, Fin.ext (by dsimp only; omega)⟩
  funext x
  unfold initPieces
  refine (View.canon_ofFn_emb_of_disjoint (Val := Elt Ideal) (fun k : Fin 12 => sRect ⟨11 - k.val, by omega⟩) _ (fun i j h => ?_) k x).trans rfl
  refine sRect_disjoint _ _ fun e => h (Fin.ext ?_)
  have := congrArg Fin.val e
  dsimp only at this
  omega

/-- Stores made pair by pair, each a function of the tile read back: after `k` of them the first `k` tiles have changed. -/
theorem steps_read (f : Fin 12 → FVec Ideal S1x128x128 .f32 → FVec Ideal S1x128x128 .f32) (s : Fin 12 → FVec Ideal S1x128x128 .f32)
    (L : ℕ → List (View.Piece (Elt Ideal) S12x128x128 .f32)) (h0 : ∀ n, arg19.view.readCov (L 0) (sRect n).toLoadRect = s n)
    (h1 : ∀ k, L (k + 1) = ⟨sRect (pairNo k), f (pairNo k) (arg19.view.readCov (L k) (sRect (pairNo k)).toLoadRect)⟩ :: L k)
    (k : ℕ) (hk : k ≤ 12) (n : Fin 12) :
    arg19.view.readCov (L k) (sRect n).toLoadRect = if n.val < k then f n (s n) else s n := by
  induction k with
  | zero => rw [if_neg (Nat.not_lt_zero _)]; exact h0 n
  | succ k ih =>
    have ih' := ih (by omega)
    rw [h1]
    by_cases h : n = pairNo k
    · subst h
      have hp : (pairNo k).val = k := Nat.mod_eq_of_lt (by omega)
      rw [if_neg (by omega)] at ih'
      refine (View.readCov_cons_toLoadRect _ _ _ _).trans ?_
      rw [if_pos (by omega)]
      exact congrArg (f (pairNo k)) ih'
    · have hp : n.val ≠ k := fun e => h (Fin.ext (e.trans (Nat.mod_eq_of_lt (by omega)).symm))
      have hd : Disjoint (sRect (pairNo k)).set (sRect n).toLoadRect.set := sRect_disjoint (pairNo k) n (Ne.symm h)
      generalize f (pairNo k) (arg19.view.readCov (L k) (sRect (pairNo k)).toLoadRect) = w
      refine (View.readCov_cons_of_disjoint arg19.view (⟨sRect (pairNo k), w⟩ : View.Piece (Elt Ideal) S12x128x128 .f32) (L k)
        (sRect n).toLoadRect hd).trans (ih'.trans ?_)
      by_cases h' : n.val < k
      · rw [if_pos h', if_pos (by omega)]
      · rw [if_neg h', if_neg (by omega)]

/-- A pair's end state is one step from its start. -/
theorem final_eq (n : Fin 12) : final arg20 arg19 arg21 arg22 arg23 arg24 arg25 arg26 x0 x1 x2 x3 x4 x5 x6 x8 x9 x11 n
    = upd arg20 arg21 arg22 arg23 arg24 arg25 arg26 x0 x1 x2 x3 x4 x5 x6 x8 x9 n (initAt x11 n) := by
  have h0 : ∀ n, arg19.view.readCov (statePieces arg20 arg19 arg21 arg22 arg23 arg24 arg25 arg26 x0 x1 x2 x3 x4 x5 x6 x8 x9 x11 0)
      (sRect n).toLoadRect = initAt x11 n := init_read arg19 x11
  have h1 : ∀ k, statePieces arg20 arg19 arg21 arg22 arg23 arg24 arg25 arg26 x0 x1 x2 x3 x4 x5 x6 x8 x9 x11 (k + 1)
      = ⟨sRect (pairNo k), upd arg20 arg21 arg22 arg23 arg24 arg25 arg26 x0 x1 x2 x3 x4 x5 x6 x8 x9 (pairNo k)
          (arg19.view.readCov (statePieces arg20 arg19 arg21 arg22 arg23 arg24 arg25 arg26 x0 x1 x2 x3 x4 x5 x6 x8 x9 x11 k)
            (sRect (pairNo k)).toLoadRect)⟩
        :: statePieces arg20 arg19 arg21 arg22 arg23 arg24 arg25 arg26 x0 x1 x2 x3 x4 x5 x6 x8 x9 x11 k := fun _ => rfl
  unfold final
  generalize upd arg20 arg21 arg22 arg23 arg24 arg25 arg26 x0 x1 x2 x3 x4 x5 x6 x8 x9 = f at *
  generalize statePieces arg20 arg19 arg21 arg22 arg23 arg24 arg25 arg26 x0 x1 x2 x3 x4 x5 x6 x8 x9 x11 = L at *
  refine (steps_read arg19 f (initAt x11) L h0 h1 12 le_rfl n).trans ?_
  rw [if_pos n.isLt]

end Cert.Kernel10Ideal.Wkv
-- ==== Proof.WkvFrame.lean ====
/-
  The values a frame brings to the recurrence, as functions of the arguments at an index: mixed columns, log decays, gates,
  normalized and gated keys. From finite arguments each is a real number, and the state after the frames is the real recurrence of
  these.
-/
module

public import proofs.«01_k».proof.Proof.WkvChunk
public import proofs.«01_k».proof.Proof.SwaSoftmax

@[expose] public section

set_option maxRecDepth 65536

noncomputable section

namespace Cert.Kernel10Ideal.Wkv

open Cert.Kernel10Ideal Cert.Kernel10Ideal.Gen Idealize.ShloMosaic Idealize.ShloMosaic.TcCoe Idealize.SL.Sem

/-! ## Real numbers among the extended ones -/

/-- The value is a real number. -/
def IsReal (x : EReal) : Prop := ∃ r : ℝ, x = r

theorem IsReal.coe {x : EReal} (h : IsReal x) : ((x.toReal : ℝ) : EReal) = x := by
  obtain ⟨r, rfl⟩ := h; rw [EReal.toReal_coe]
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.neg {x : EReal} (hx : IsReal x) : IsReal (-x) := by
  obtain ⟨a, rfl⟩ := hx; exact ⟨-a, (EReal.coe_neg a).symm⟩
theorem IsReal.max {x y : EReal} (hx : IsReal x) (hy : IsReal y) : IsReal (max x y) := by
  rcases le_total x y with h | h
  · rw [max_eq_right h]; exact hy
  · rw [max_eq_left h]; exact hx
theorem IsReal.sum {ι : Type} (s : Finset ι) (f : ι → EReal) (h : ∀ i, IsReal (f i)) : IsReal (∑ i ∈ s, f i) :=
  Cert.Swa.sum_real s f fun i _ => h i
theorem IsReal.exp {x : EReal} (hx : IsReal x) : IsReal (Ideal.exp x) := by
  obtain ⟨a, rfl⟩ := hx; exact ⟨Real.exp a, rfl⟩
theorem IsReal.tanh {x : EReal} (hx : IsReal x) : IsReal (Ideal.tanh x) := by
  obtain ⟨a, rfl⟩ := hx; exact ⟨Real.tanh a, rfl⟩
theorem IsReal.logistic {x : EReal} (hx : IsReal x) : IsReal (Ideal.logistic x) := by
  obtain ⟨a, rfl⟩ := hx; exact ⟨_, Ideal.logistic_coe a⟩
theorem IsReal.zero : IsReal 0 := ⟨0, rfl⟩
theorem IsReal.one : IsReal 1 := ⟨1, rfl⟩

/-- The logarithm of one plus an exponential is a real number. -/
theorem IsReal.log1p_exp {x : EReal} (hx : IsReal x) : IsReal (Ideal.log1p (Ideal.exp x)) := by
  obtain ⟨a, rfl⟩ := hx
  have h : (1 : EReal) + ((Real.exp a : ℝ) : EReal) = ((1 + Real.exp a : ℝ) : EReal) := by rw [EReal.coe_add]; rfl
  refine ⟨Real.log (1 + Real.exp a), ?_⟩
  rw [Ideal.exp_coe, Ideal.log1p, h, Ideal.log_coe, if_neg (by have := Real.exp_pos a; linarith)]

/-- A quotient by a real number other than zero is real. -/
theorem IsReal.div {x : EReal} (hx : IsReal x) {d : ℝ} (hd : d ≠ 0) : IsReal (Ideal.div x d) := by
  obtain ⟨a, rfl⟩ := hx
  exact ⟨a * (1 / d), by rw [Ideal.div_coe hd, EReal.coe_mul]⟩

/-- The root of a real number that is not negative, kept above a positive one, is real and positive. -/
theorem root_real {x t : EReal} (hx : ∃ r : ℝ, 0 ≤ r ∧ x = r) (ht : ∃ r : ℝ, 0 < r ∧ t = r) :
    ∃ r : ℝ, 0 < r ∧ max (Ideal.sqrt x) t = r := by
  obtain ⟨a, ha, rfl⟩ := hx
  obtain ⟨b, hb, rfl⟩ := ht
  rw [Ideal.sqrt_coe, if_neg (not_lt.mpr ha)]
  rcases le_total (Real.sqrt a) b with h | h
  · exact ⟨b, hb, max_eq_right (EReal.coe_le_coe_iff.mpr h)⟩
  · exact ⟨Real.sqrt a, hb.trans_le h, max_eq_left (EReal.coe_le_coe_iff.mpr h)⟩

/-- One half. -/
def half : EReal := Ideal.ofBits .f32 0x3F000000#32
/-- The least norm. -/
def tiny : EReal := Ideal.ofBits .f32 0x2B8CBCCC#32

theorem half_real : IsReal half := by
  refine ⟨1 / 2, ?_⟩
  unfold half
  simp [Ideal.ofBits, Ideal.ieee, -EReal.coe_mul]; norm_num
theorem tiny_real : ∃ r : ℝ, 0 < r ∧ tiny = r := by
  unfold tiny
  simp only [Ideal.ofBits, Ideal.ieee]
  refine ⟨_, ?_, rfl⟩
  rw [if_neg (by decide)]
  positivity

/-- The softplus. -/
def soft (n : EReal) : EReal := max n 0 + Ideal.log1p (Ideal.exp (-(max n (-n))))
/-- The log decay from the low-rank map's value. -/
def decayOf (w : EReal) : EReal := -(Ideal.exp (-(soft (-w)) - half))

theorem decayOf_real {w : EReal} (h : IsReal w) : IsReal (decayOf w) :=
  ((((h.neg.max .zero).add ((h.neg.max h.neg.neg).neg.log1p_exp)).neg.sub half_real).exp).neg

/-! ## The frames -/

section frames

variable (x0 : FVec Ideal S32x32x4960 .f32) (x1 : FVec Ideal S32x1x4960 .f32) (x3 : FVec Ideal S4960 .f32) (x4 : FVec Ideal S1536 .f32)
  (x5 : FVec Ideal S64x1536 .f32) (x6 : FVec Ideal S1536 .f32) (x7 : FVec Ideal S64x1536 .f32) (x9 x10 : FVec Ideal S1536 .f32)
  (x2 : FVec Ideal S32x24x64x64 .f32)

/-- The frame before frame `t`. -/
def prev (b t : Fin 32) (c : Fin 4960) : EReal :=
  if t.val = 0 then x1 (ix3 b 0 c) else x0 (ix3 b ⟨t.val - 1, by omega⟩ c)
/-- A frame mixed with the one before it. -/
def mix (b t : Fin 32) (c : Fin 4960) : EReal := x0 (ix3 b t c) + (prev x0 x1 b t c - x0 (ix3 b t c)) * x3 (ix1 c)
/-- Channel `d` of head `h`. -/
def chan (h : Fin 24) (d : Fin 64) : Fin 1536 := ⟨64 * h.val + d.val, by omega⟩
/-- The log decay. -/
def lwE (b t : Fin 32) (n : Fin 1536) : EReal :=
  decayOf (x4 (ix1 n) + ∑ d : Fin 64, Ideal.tanh (mix x0 x1 x3 b t ⟨4608 + d.val, by omega⟩) * x5 (ix2 d n))
/-- The gate. -/
def gateE (b t : Fin 32) (n : Fin 1536) : EReal :=
  Ideal.logistic (x6 (ix1 n) + ∑ d : Fin 64, mix x0 x1 x3 b t ⟨4672 + d.val, by omega⟩ * x7 (ix2 d n))
/-- The key times its weight. -/
def rawE (b t : Fin 32) (n : Fin 1536) : EReal := mix x0 x1 x3 b t ⟨1536 + n.val, by omega⟩ * x9 (ix1 n)
/-- A head's norm, kept above the least one. -/
def normE (b t : Fin 32) (h : Fin 24) : EReal :=
  max (Ideal.sqrt (∑ d : Fin 64, rawE x0 x1 x3 x9 b t (chan h d) * rawE x0 x1 x3 x9 b t (chan h d))) tiny
/-- The normalized key. -/
def unitE (b t : Fin 32) (h : Fin 24) (d : Fin 64) : EReal := Ideal.div (rawE x0 x1 x3 x9 b t (chan h d)) (normE x0 x1 x3 x9 b t h)
/-- The gated key. -/
def keyE (b t : Fin 32) (n : Fin 1536) : EReal :=
  mix x0 x1 x3 b t ⟨1536 + n.val, by omega⟩ * (1 + (gateE x0 x1 x3 x6 x7 b t n - 1) * x10 (ix1 n))
/-- The normalized key times its gate. -/
def addE (b t : Fin 32) (h : Fin 24) (d : Fin 64) : EReal := unitE x0 x1 x3 x9 b t h d * gateE x0 x1 x3 x6 x7 b t (chan h d)
/-- The value. -/
def valE (b t : Fin 32) (n : Fin 1536) : EReal := mix x0 x1 x3 b t ⟨3072 + n.val, by omega⟩

/-- The arguments that the recurrence reads are real numbers. -/
structure Finite : Prop where
  frame : ∀ b t c, IsReal (x0 (ix3 b t c))
  before : ∀ b c, IsReal (x1 (ix3 b 0 c))
  start : ∀ b h x y, IsReal (x2 (ix4 b h x y))
  mu : ∀ c, IsReal (x3 (ix1 c))
  w0 : ∀ n, IsReal (x4 (ix1 n))
  w2 : ∀ d n, IsReal (x5 (ix2 d n))
  a0 : ∀ n, IsReal (x6 (ix1 n))
  a2 : ∀ d n, IsReal (x7 (ix2 d n))
  kk : ∀ n, IsReal (x9 (ix1 n))
  ka : ∀ n, IsReal (x10 (ix1 n))

variable {x0 x1 x3 x4 x5 x6 x7 x9 x10 x2} in
theorem Finite.mix (hf : Finite x0 x1 x3 x4 x5 x6 x7 x9 x10 x2) (b t : Fin 32) (c : Fin 4960) : IsReal (mix x0 x1 x3 b t c) := by
  refine (hf.frame _ _ _).add ((IsReal.sub ?_ (hf.frame _ _ _)).mul (hf.mu _))
  unfold prev
  split
  · exact hf.before _ _
  · exact hf.frame _ _ _
variable {x0 x1 x3 x4 x5 x6 x7 x9 x10 x2} in
theorem Finite.lw (hf : Finite x0 x1 x3 x4 x5 x6 x7 x9 x10 x2) (b t : Fin 32) (n : Fin 1536) : IsReal (lwE x0 x1 x3 x4 x5 b t n) :=
  decayOf_real ((hf.w0 _).add (IsReal.sum _ _ fun _ => (hf.mix _ _ _).tanh.mul (hf.w2 _ _)))
variable {x0 x1 x3 x4 x5 x6 x7 x9 x10 x2} in
theorem Finite.gate (hf : Finite x0 x1 x3 x4 x5 x6 x7 x9 x10 x2) (b t : Fin 32) (n : Fin 1536) : IsReal (gateE x0 x1 x3 x6 x7 b t n) :=
  ((hf.a0 _).add (IsReal.sum _ _ fun _ => (hf.mix _ _ _).mul (hf.a2 _ _))).logistic
variable {x0 x1 x3 x4 x5 x6 x7 x9 x10 x2} in
theorem Finite.raw (hf : Finite x0 x1 x3 x4 x5 x6 x7 x9 x10 x2) (b t : Fin 32) (n : Fin 1536) : IsReal (rawE x0 x1 x3 x9 b t n) :=
  (hf.mix _ _ _).mul (hf.kk _)
variable {x0 x1 x3 x4 x5 x6 x7 x9 x10 x2} in
theorem Finite.unit (hf : Finite x0 x1 x3 x4 x5 x6 x7 x9 x10 x2) (b t : Fin 32) (h : Fin 24) (d : Fin 64) :
    IsReal (unitE x0 x1 x3 x9 b t h d) := by
  obtain ⟨r, hr, e⟩ : ∃ r : ℝ, 0 < r ∧ normE x0 x1 x3 x9 b t h = r := by
    refine root_real (Cert.Swa.sum_nonneg_real _ _ fun d => ?_) tiny_real
    obtain ⟨a, ha⟩ := hf.raw b t (chan h d)
    exact ⟨a * a, mul_self_nonneg a, by rw [ha, EReal.coe_mul]⟩
  unfold unitE
  rw [e]
  exact (hf.raw _ _ _).div hr.ne'
variable {x0 x1 x3 x4 x5 x6 x7 x9 x10 x2} in
theorem Finite.key (hf : Finite x0 x1 x3 x4 x5 x6 x7 x9 x10 x2) (b t : Fin 32) (n : Fin 1536) : IsReal (keyE x0 x1 x3 x6 x7 x10 b t n) :=
  (hf.mix _ _ _).mul (IsReal.one.add (((hf.gate _ _ _).sub .one).mul (hf.ka _)))
variable {x0 x1 x3 x4 x5 x6 x7 x9 x10 x2} in
theorem Finite.add (hf : Finite x0 x1 x3 x4 x5 x6 x7 x9 x10 x2) (b t : Fin 32) (h : Fin 24) (d : Fin 64) :
    IsReal (addE x0 x1 x3 x6 x7 x9 b t h d) :=
  (hf.unit _ _ _ _).mul (hf.gate _ _ _)

/-- The real numbers behind them, for entry `b` and head `h`. -/
def lwR (b : Fin 32) (h : Fin 24) (t : Fin 32) (d : Fin 64) : ℝ := (lwE x0 x1 x3 x4 x5 b t (chan h d)).toReal
def unitR (b : Fin 32) (h : Fin 24) (t : Fin 32) (d : Fin 64) : ℝ := (unitE x0 x1 x3 x9 b t h d).toReal
def keyR (b : Fin 32) (h : Fin 24) (t : Fin 32) (d : Fin 64) : ℝ := (keyE x0 x1 x3 x6 x7 x10 b t (chan h d)).toReal
def addR (b : Fin 32) (h : Fin 24) (t : Fin 32) (d : Fin 64) : ℝ := (addE x0 x1 x3 x6 x7 x9 b t h d).toReal
def valR (b : Fin 32) (h : Fin 24) (t : Fin 32) (d : Fin 64) : ℝ := (valE x0 x1 x3 b t (chan h d)).toReal
def startR (b : Fin 32) (h : Fin 24) (x y : Fin 64) : ℝ := (x2 (ix4 b h x y)).toReal

/-- The state after `n` frames. -/
def stateR (n : ℕ) (b : Fin 32) (h : Fin 24) (x y : Fin 64) : ℝ :=
  Cert.Wkv.state (lwR x0 x1 x3 x4 x5 b h) (keyR x0 x1 x3 x6 x7 x10 b h) (valR x0 x1 x3 b h) (fun t d => -unitR x0 x1 x3 x9 b h t d)
    (addR x0 x1 x3 x6 x7 x9 b h) (startR x2 b h) n x y

end frames

end Cert.Kernel10Ideal.Wkv
-- ==== Proof.WkvBlock.lean ====
/-
  The recurrence's block at an index: the tiles that the body stores are the frame's values, and so a grid point leaves in its state
  block the real recurrence's state after its frames, and in its value block the values.
-/
module

public import proofs.«01_k».proof.Proof.WkvReads
public import proofs.«01_k».proof.Proof.WkvFrame

@[expose] public section

set_option backward.proofsInPublic true
set_option maxRecDepth 65536

noncomputable section

namespace Cert.Kernel10Ideal.Wkv

open Cert.Kernel10Ideal Cert.Kernel10Ideal.Gen Idealize.ShloMosaic Idealize.ShloMosaic.TcCoe Idealize.SL.Sem

theorem row0_apply : ∀ (t : Fin 32) (l : Fin 128), row0 (ix2 t l) = if t.val = 0 then 1#1 else 0#1 := by
  decide +kernel

/-- A mixed tile at an index. -/
theorem mixTile_apply (p : Vec Ideal S32x128 .f32) (s mu : Vec Ideal S1x128 .f32) (t : Fin 32) (l : Fin 128) :
    mixTile p s mu (ix2 t l)
      = p (ix2 t l) + ((if t.val = 0 then s (ix2 0 l) else p (ix2 ⟨t.val - 1, by omega⟩ l)) - p (ix2 t l)) * mu (ix2 0 l) := by
  have h := row0_apply t l
  pointwise [mixTile]
  rw [select_word _ _ _ h]
  by_cases ht : t.val = 0
  · rw [if_pos ht, if_pos ht]
  · rw [if_neg ht, if_neg ht]
    refine congrArg (fun z => p (ix2 t l) + (z - p (ix2 t l)) * mu (ix2 0 l)) (congrArg (fun a => p (ix2 a l)) (Fin.ext ?_))
    dsimp only
    omega

theorem lora_apply (x : FVec Ideal S32x128 .f32) (w0 : Vec Ideal S1x1536 .f32) (w2 : Vec Ideal S128x1536 .bf16) (t : Fin 32) (n : Fin 1536) :
    lora x w0 w2 (ix2 t n) = w0 (ix2 0 n) + ∑ l : Fin 128, x (ix2 t l) * w2 (ix2 l n) := by
  pointwise [lora]

theorem logDecay_apply (w : FVec Ideal S32x1536 .f32) (t : Fin 32) (n : Fin 1536) : logDecay w (ix2 t n) = decayOf (w (ix2 t n)) := by
  pointwise [logDecay]
  have h : (zero : Ideal .f32) = (0 : EReal) := zero_eq
  rw [h]
  unfold decayOf soft half
  generalize w (ix2 t n) = z
  simp only [zero_sub, sub_zero]
  rw [if_neg (not_not.mpr rfl)]
  rfl

theorem rawKey_apply (k : FVec Ideal S32x128 .f32) (w : Vec Ideal S1x128 .f32) (t : Fin 32) (l : Fin 128) :
    rawKey k w (ix2 t l) = k (ix2 t l) * w (ix2 0 l) := by
  pointwise [rawKey]

theorem onesBd_apply (e e' : Fin 2) (d d' : Fin 64) :
    (onesBd : FVec Ideal S128x128 .bf16) (ix2 (lane e d) (lane e' d')) = if e = e' then 1 else 0 := by
  have h := same_apply e e' d d'
  generalize lane e d = i at *
  generalize lane e' d' = j at *
  pointwise [onesBd]
  rw [select_word _ _ _ h, zero_eq, one_eq]

theorem normKey_sum (k : FVec Ideal S32x128 .f32) (w : Vec Ideal S1x128 .f32) (t : Fin 32) (l : Fin 128) :
    normKey k w (ix2 t l) = Ideal.div (rawKey k w (ix2 t l)) (max (Ideal.sqrt (∑ i : Fin 128, rawKey k w (ix2 t i) * rawKey k w (ix2 t i)
      * (onesBd : FVec Ideal S128x128 .bf16) (ix2 i l))) tiny) := by
  unfold tiny
  pointwise [normKey]

/-- A normalized key at an index: each head is divided by its own norm. -/
theorem normKey_apply (k : FVec Ideal S32x128 .f32) (w : Vec Ideal S1x128 .f32) (t : Fin 32) (e : Fin 2) (d : Fin 64) :
    normKey k w (ix2 t (lane e d)) = Ideal.div (k (ix2 t (lane e d)) * w (ix2 0 (lane e d)))
      (max (Ideal.sqrt (∑ i : Fin 64, (k (ix2 t (lane e i)) * w (ix2 0 (lane e i))) * (k (ix2 t (lane e i)) * w (ix2 0 (lane e i))))) tiny) := by
  rw [normKey_sum, sum_lane _ e fun e' i h => by rw [onesBd_apply, if_neg h, mul_zero]]
  simp only [rawKey_apply, onesBd_apply, if_true, mul_one]

theorem gatedKey_apply (k a : FVec Ideal S32x128 .f32) (w : Vec Ideal S1x128 .f32) (t : Fin 32) (l : Fin 128) :
    gatedKey k a w (ix2 t l) = k (ix2 t l) * (1 + (a (ix2 t l) - 1) * w (ix2 0 l)) := by
  pointwise [gatedKey]
  rw [one_eq]

theorem frame_le : ∀ t i : Fin 32, IntOp.cmpi .sge (BitVec.ofNat 32 t.val) (BitVec.ofNat 32 i.val) = if i.val ≤ t.val then 1#1 else 0#1 := by
  decide +kernel

theorem tri_value (t i : Fin 32) : (tri : FVec Ideal S32x32 .bf16) (ix2 t i) = if i.val ≤ t.val then 1 else 0 := by
  pointwise [tri]
  rw [select_word _ _ _ (frame_le t i), zero_eq, one_eq]

theorem cumsum_sum (x : FVec Ideal S32x1536 .f32) (t : Fin 32) (n : Fin 1536) :
    cumsum x (ix2 t n) = (∑ i : Fin 32, (tri : FVec Ideal S32x32 .bf16) (ix2 t i) * x (ix2 i n))
      + (∑ i : Fin 32, (tri : FVec Ideal S32x32 .bf16) (ix2 t i) * (x (ix2 i n) - x (ix2 i n)))
      + ∑ i : Fin 32, (tri : FVec Ideal S32x32 .bf16) (ix2 t i) * ((x (ix2 i n) - x (ix2 i n)) - (x (ix2 i n) - x (ix2 i n))) := by
  pointwise [cumsum]

/-- The running sums of real numbers. -/
theorem cumsum_real (x : FVec Ideal S32x1536 .f32) (f : Fin 32 → ℝ) (n : Fin 1536) (h : ∀ t, x (ix2 t n) = (f t : EReal)) (t : Fin 32) :
    cumsum x (ix2 t n) = ((∑ i : Fin 32, if i.val < t.val + 1 then f i else 0 : ℝ) : EReal) := by
  have hz : ∀ i, x (ix2 i n) - x (ix2 i n) = 0 := fun i => by rw [h, ← EReal.coe_sub, sub_self]; rfl
  rw [cumsum_sum]
  simp only [hz, sub_zero, mul_zero, Finset.sum_const_zero, add_zero]
  simp only [tri_value, h]
  rw [coe_sum]
  refine Finset.sum_congr rfl fun i _ => ?_
  by_cases hi : i.val ≤ t.val
  · rw [if_pos hi, if_pos (by omega), one_mul]
  · rw [if_neg hi, if_neg (by omega), zero_mul]; rfl

section block

variable (arg20 : Memref sig .tc .vmem S1x4992 .f32) (arg19 : Memref sig .tc .vmem S12x128x128 .f32)
  (arg21 arg22 arg23 arg24 arg25 arg26 : Memref sig .tc .vmem S32x1536 .f32)
  (x0 : Vec Ideal S32x4992 .f32) (x1 : Vec Ideal S1x1x4992 .f32) (x2 : Vec Ideal S1x4992 .f32) (x3 : Vec Ideal S1x1536 .f32)
  (x4 : Vec Ideal S128x1536 .bf16) (x5 : Vec Ideal S1x1536 .f32) (x6 : Vec Ideal S128x1536 .bf16) (x8 x9 : Vec Ideal S1x1536 .f32)
  (x11 : Vec Ideal S1x1x24x64x64 .f32)
  (P : FVec Ideal S32x32x4960 .f32) (Q : FVec Ideal S32x1x4960 .f32) (S : FVec Ideal S32x24x64x64 .f32) (MU : FVec Ideal S4960 .f32)
  (W0 : FVec Ideal S1536 .f32) (W2 : FVec Ideal S64x1536 .f32) (A0 : FVec Ideal S1536 .f32) (A2 : FVec Ideal S64x1536 .f32)
  (KK KA : FVec Ideal S1536 .f32) (b : Fin 32)
  (h0 : ∀ (t : Fin 32) (c : Fin 4960), x0 (ix2 t ⟨c.val, by omega⟩) = P (ix3 b t c))
  (h1 : ∀ c : Fin 4960, x1 (ix3 0 0 ⟨c.val, by omega⟩) = Q (ix3 b 0 c))
  (h2 : ∀ c : Fin 4960, x2 (ix2 0 ⟨c.val, by omega⟩) = MU (ix1 c))
  (h3 : ∀ n, x3 (ix2 0 n) = W0 (ix1 n)) (h4 : ∀ d n, x4 (ix2 (lane 0 d) n) = W2 (ix2 d n)) (h4' : ∀ d n, x4 (ix2 (lane 1 d) n) = 0)
  (h5 : ∀ n, x5 (ix2 0 n) = A0 (ix1 n)) (h6 : ∀ d n, x6 (ix2 (lane 1 d) n) = A2 (ix2 d n)) (h6' : ∀ d n, x6 (ix2 (lane 0 d) n) = 0)
  (h8 : ∀ n, x8 (ix2 0 n) = KK (ix1 n)) (h9 : ∀ n, x9 (ix2 0 n) = KA (ix1 n))
  (h11 : ∀ h x y, x11 (ix5 0 0 h x y) = S (ix4 b h x y))

include h0 h1 h2 in
/-- A mixed tile holds the mixed columns. -/
theorem mixed_apply (n : Fin 39) (t : Fin 32) (l : Fin 128) (hc : 128 * n.val + l.val < 4960) :
    mixed arg20 x0 x1 x2 n (ix2 t l) = mix P Q MU b t ⟨128 * n.val + l.val, hc⟩ := by
  unfold mixed
  rw [mixTile_apply, prev_read]
  have e0 : ∀ t : Fin 32, View.ld x0 (Rect.unit ![0, 128 * n.val] ![32, 128] (inb_wide n)) (ix2 t l) = P (ix3 b t ⟨128 * n.val + l.val, hc⟩) := by
    intro t
    rw [← h0]
    pointwise []
  have e2 : View.ld x2 (Rect.unit ![0, 128 * n.val] ![1, 128] (inb_wideRow n)) (ix2 0 l) = MU (ix1 ⟨128 * n.val + l.val, hc⟩) := by
    rw [← h2]
    pointwise []
  rw [e0, e0, e2, h1 ⟨128 * n.val + l.val, hc⟩]
  rfl

theorem ld_row (x : Vec Ideal S1x1536 .f32) (n : Fin 1536) :
    View.ld x (Rect.unit ![0, 0] S1x1536.size inb_S1x1536_S1x1536_0_0) (ix2 0 n) = x (ix2 0 n) := by
  pointwise []
theorem ld_weights (x : Vec Ideal S128x1536 .bf16) (l : Fin 128) (n : Fin 1536) :
    View.ld x (Rect.unit ![0, 0] S128x1536.size inb_S128x1536_S128x1536_0_0) (ix2 l n) = x (ix2 l n) := by
  pointwise []
theorem rowTile_apply (x : Vec Ideal S1x1536 .f32) (q : Fin 12) (l : Fin 128) : rowTile x q (ix2 0 l) = x (ix2 0 (at128 q l)) := by
  pointwise [rowTile, at128]

include h0 h1 h2 h3 h4 h4' in
theorem lwAll_apply (t : Fin 32) (n : Fin 1536) : lwAll arg20 x0 x1 x2 x3 x4 (ix2 t n) = lwE P Q MU W0 W2 b t n := by
  unfold lwAll lwE
  rw [logDecay_apply, lora_apply, ld_row, h3, sum_lane _ 0 fun e' d h => ?_]
  · refine congrArg (fun z => decayOf (W0 (ix1 n) + z)) (Finset.sum_congr rfl fun d _ => ?_)
    rw [ld_weights, h4]
    refine congrArg (fun z => Ideal.tanh z * W2 (ix2 d n)) ?_
    refine (mixed_apply arg20 x0 x1 x2 P Q MU b h0 h1 h2 ⟨36, by omega⟩ t (lane 0 d) (by show 128 * 36 + (64 * 0 + d.val) < 4960; omega)).trans ?_
    exact congrArg (mix P Q MU b t) (Fin.ext (by show 128 * 36 + (64 * 0 + d.val) = 4608 + d.val; omega))
  · obtain rfl : e' = 1 := by omega
    rw [ld_weights, h4', mul_zero]

include h0 h1 h2 h5 h6 h6' in
theorem gateAll_apply (t : Fin 32) (n : Fin 1536) : gateAll arg20 x0 x1 x2 x5 x6 (ix2 t n) = gateE P Q MU A0 A2 b t n := by
  have h : gateAll arg20 x0 x1 x2 x5 x6 (ix2 t n) = Ideal.logistic (lora (loraTile arg20 x0 x1 x2)
      (View.ld x5 (Rect.unit ![0, 0] S1x1536.size inb_S1x1536_S1x1536_0_0))
      (View.ld x6 (Rect.unit ![0, 0] S128x1536.size inb_S128x1536_S128x1536_0_0)) (ix2 t n)) := rfl
  rw [h]
  unfold gateE
  rw [lora_apply, ld_row, h5, sum_lane _ 1 fun e' d h => ?_]
  · refine congrArg (fun z => Ideal.logistic (A0 (ix1 n) + z)) (Finset.sum_congr rfl fun d _ => ?_)
    rw [ld_weights, h6]
    refine congrArg (· * A2 (ix2 d n)) ?_
    refine (mixed_apply arg20 x0 x1 x2 P Q MU b h0 h1 h2 ⟨36, by omega⟩ t (lane 1 d) (by show 128 * 36 + (64 * 1 + d.val) < 4960; omega)).trans ?_
    exact congrArg (mix P Q MU b t) (Fin.ext (by show 128 * 36 + (64 * 1 + d.val) = 4672 + d.val; omega))
  · obtain rfl : e' = 0 := by omega
    rw [ld_weights, h6', mul_zero]

include h0 h1 h2 in
theorem keyTile_apply (q : Fin 12) (t : Fin 32) (l : Fin 128) :
    keyTile arg20 x0 x1 x2 q (ix2 t l) = mix P Q MU b t ⟨1536 + (at128 q l).val, by omega⟩ := by
  refine (mixed_apply arg20 x0 x1 x2 P Q MU b h0 h1 h2 ⟨12 + q.val, by omega⟩ t l (by dsimp only; omega)).trans ?_
  exact congrArg (mix P Q MU b t) (Fin.ext (by dsimp only [at128]; omega))

include h0 h1 h2 in
theorem valTile_apply (q : Fin 12) (t : Fin 32) (l : Fin 128) :
    valTile arg20 x0 x1 x2 q (ix2 t l) = valE P Q MU b t (at128 q l) := by
  refine (mixed_apply arg20 x0 x1 x2 P Q MU b h0 h1 h2 ⟨24 + q.val, by omega⟩ t l (by dsimp only; omega)).trans ?_
  exact congrArg (mix P Q MU b t) (Fin.ext (by dsimp only [at128]; omega))

/-- Head `e` of pair `q`. -/
def headNo (q : Fin 12) (e : Fin 2) : Fin 24 := ⟨2 * q.val + e.val, by omega⟩
theorem at128_lane (q : Fin 12) (e : Fin 2) (d : Fin 64) : at128 q (lane e d) = chan (headNo q e) d :=
  Fin.ext (by dsimp only [at128, lane, chan, headNo]; omega)

include h0 h1 h2 h5 h6 h6' in
theorem gateTile_apply (q : Fin 12) (t : Fin 32) (l : Fin 128) :
    gateTile arg20 x0 x1 x2 x5 x6 q (ix2 t l) = gateE P Q MU A0 A2 b t (at128 q l) := by
  rw [← gateAll_apply arg20 x0 x1 x2 x5 x6 P Q MU A0 A2 b h0 h1 h2 h5 h6 h6']
  unfold gateTile
  generalize gateAll arg20 x0 x1 x2 x5 x6 = g
  pointwise [at128]

include h0 h1 h2 h8 in
theorem knTile_apply (q : Fin 12) (t : Fin 32) (e : Fin 2) (d : Fin 64) :
    knTile arg20 x0 x1 x2 x8 q (ix2 t (lane e d)) = unitE P Q MU KK b t (headNo q e) d := by
  unfold knTile
  rw [normKey_apply]
  simp only [keyTile_apply arg20 x0 x1 x2 P Q MU b h0 h1 h2, rowTile_apply, h8, at128_lane]
  rfl

include h0 h1 h2 h5 h6 h6' h9 in
theorem kTile_apply (q : Fin 12) (t : Fin 32) (l : Fin 128) :
    kTile arg20 x0 x1 x2 x5 x6 x9 q (ix2 t l) = keyE P Q MU A0 A2 KA b t (at128 q l) := by
  unfold kTile
  rw [gatedKey_apply, keyTile_apply arg20 x0 x1 x2 P Q MU b h0 h1 h2, rowTile_apply, h9,
    gateTile_apply arg20 x0 x1 x2 x5 x6 P Q MU A0 A2 b h0 h1 h2 h5 h6 h6']
  rfl

include h0 h1 h2 h5 h6 h6' h8 in
theorem bTile_apply (q : Fin 12) (t : Fin 32) (e : Fin 2) (d : Fin 64) :
    bTile arg20 x0 x1 x2 x5 x6 x8 q (ix2 t (lane e d)) = addE P Q MU A0 A2 KK b t (headNo q e) d := by
  have h : bTile arg20 x0 x1 x2 x5 x6 x8 q (ix2 t (lane e d))
    = knTile arg20 x0 x1 x2 x8 q (ix2 t (lane e d)) * gateTile arg20 x0 x1 x2 x5 x6 q (ix2 t (lane e d)) := rfl
  rw [h, knTile_apply arg20 x0 x1 x2 x8 P Q MU KK b h0 h1 h2 h8, gateTile_apply arg20 x0 x1 x2 x5 x6 P Q MU A0 A2 b h0 h1 h2 h5 h6 h6',
    at128_lane]
  rfl

/-- A pair's first state at an index of one of its heads. -/
theorem initTile_apply (a c : Vec Ideal S1x1x1x64x64 .f32) (e : Fin 2) (x y : Fin 64) :
    initTile a c (ix3 0 (lane e x) (lane e y)) = (if e.val = 0 then a else c) (ix5 0 0 0 x y) := by
  fin_cases e <;> pointwise [initTile, lane] <;> rfl

include h11 in
theorem initAt_apply (q : Fin 12) (e : Fin 2) (x y : Fin 64) :
    initAt x11 q (ix3 0 (lane e x) (lane e y)) = S (ix4 b (headNo q e) x y) := by
  have hh : ∀ h : Fin 24, headIn x11 h (ix5 0 0 0 x y) = S (ix4 b h x y) := by
    intro h
    rw [← h11]
    pointwise [headIn]
  unfold initAt
  rw [initTile_apply]
  fin_cases e
  · exact (hh _).trans rfl
  · exact (hh _).trans rfl

variable (hf : Finite P Q MU W0 W2 A0 A2 KK KA S)

include h0 h1 h2 h3 h4 h4' h5 h6 h6' h8 h9 h11 hf in
/-- A pair's end state holds each head's state after the frames. -/
theorem final_apply (q : Fin 12) (e : Fin 2) (x y : Fin 64) :
    final arg20 arg19 arg21 arg22 arg23 arg24 arg25 arg26 x0 x1 x2 x3 x4 x5 x6 x8 x9 x11 q (ix3 0 (lane e x) (lane e y))
      = ((stateR P Q MU W0 W2 A0 A2 KK KA S 32 b (headNo q e) x y : ℝ) : EReal) := by
  have hlw : ∀ (e : Fin 2) (t : Fin 32) (d : Fin 64), lwAll arg20 x0 x1 x2 x3 x4 (ix2 t (at128 q (lane e d)))
      = ((lwR P Q MU W0 W2 b (headNo q e) t d : ℝ) : EReal) := by
    intro e t d
    rw [lwAll_apply arg20 x0 x1 x2 x3 x4 P Q MU W0 W2 b h0 h1 h2 h3 h4 h4', at128_lane]
    exact (hf.lw _ _ _).coe.symm
  rw [final_eq]
  unfold upd
  rw [back_eq, back_eq, back_eq, back_eq, back_eq]
  refine (updTile_real (fun e => lwR P Q MU W0 W2 b (headNo q e)) (fun e => keyR P Q MU A0 A2 KA b (headNo q e))
    (fun e => valR P Q MU b (headNo q e)) (fun e => addR P Q MU A0 A2 KK b (headNo q e)) (fun e => unitR P Q MU KK b (headNo q e))
    (fun e => startR S b (headNo q e)) _ _ _ _ _ _ _ _ ?_ ?_ ?_ ?_ ?_ ?_ ?_ e x y).trans rfl
  · intro e t d
    rw [lw_read]
    exact hlw e t d
  · intro e t d
    rw [kTile_apply arg20 x0 x1 x2 x5 x6 x9 P Q MU A0 A2 KA b h0 h1 h2 h5 h6 h6' h9, at128_lane]
    exact (hf.key _ _ _).coe.symm
  · intro e t d
    rw [valTile_apply arg20 x0 x1 x2 P Q MU b h0 h1 h2, at128_lane]
    exact (hf.mix _ _ _).coe.symm
  · intro e t d
    rw [knTile_apply arg20 x0 x1 x2 x8 P Q MU KK b h0 h1 h2 h8]
    exact (hf.unit _ _ _ _).coe.symm
  · intro e t d
    rw [bTile_apply arg20 x0 x1 x2 x5 x6 x8 P Q MU A0 A2 KK b h0 h1 h2 h5 h6 h6' h8]
    exact (hf.add _ _ _ _).coe.symm
  · intro e t d
    have hc := cumsum_real (lwAll arg20 x0 x1 x2 x3 x4) (fun t => lwR P Q MU W0 W2 b (headNo q e) t d) (at128 q (lane e d)) (fun t => hlw e t d) t
    refine Eq.trans ?_ hc
    unfold cumTile cumAll
    rw [lw_whole]
    generalize cumsum (lwAll arg20 x0 x1 x2 x3 x4) = z
    generalize lane e d = l
    pointwise [at128]
  · intro e x y
    rw [initAt_apply x11 S b h11]
    exact (hf.start _ _ _ _).coe.symm

theorem headOut_apply (s : Vec Ideal S1x128x128 .f32) (e : Fin 2) (x y : Fin 64) :
    headOut s e (ix4 0 0 x y) = s (ix3 0 (lane e x) (lane e y)) := by
  pointwise [headOut, lane]

/-- The indices of a head. -/
theorem mem_outRect (k h : Fin 24) (x y : Fin 64) (e : k.val = h.val) : (ix4 0 h x y : S1x24x64x64.Idx) ∈ (outRect k).set := by
  unfold outRect
  refine Rect.mem_set_unit.mpr fun a => ?_
  fin_cases a
  · show 0 ≤ 0 ∧ 0 < 0 + 1
    omega
  · show k.val ≤ h.val ∧ h.val < k.val + 1
    omega
  · show 0 ≤ x.val ∧ x.val < 0 + 64
    omega
  · show 0 ≤ y.val ∧ y.val < 0 + 64
    omega

include h0 h1 h2 h3 h4 h4' h5 h6 h6' h8 h9 h11 hf in
/-- The state block at an index: the head's state after the frames. -/
theorem states_value (h : Fin 24) (x y : Fin 64) :
    View.canon (List.ofFn (outPiece (F := Ideal) arg20 arg19 arg21 arg22 arg23 arg24 arg25 arg26 x0 x1 x2 x3 x4 x5 x6 x8 x9 x11)) (ix4 0 h x y)
      = ((stateR P Q MU W0 W2 A0 A2 KK KA S 32 b h x y : ℝ) : EReal) := by
  refine View.canon_eq_of_allAt (Val := Elt Ideal) (e := .f32) _ (ix4 0 h x y) _ ?_ ?_
  · refine ⟨_, (List.mem_ofFn).mpr ⟨⟨23 - h.val, by omega⟩, rfl⟩, ?_⟩
    exact mem_outRect _ _ _ _ (by dsimp only; omega)
  · intro p hp
    obtain ⟨k, rfl⟩ := (List.mem_ofFn).mp hp
    intro z hz
    obtain ⟨u, v, x', y', rfl⟩ : ∃ (u v : Fin 1) (x' y' : Fin 64), z = ix4 u v x' y' :=
      ⟨z 0, z 1, z 2, z 3, funext fun a => by fin_cases a <;> rfl⟩
    have e1 : 23 - k.val + 1 * v.val = h.val := congrArg (fun i => (i 1).val) hz
    have e2 : 0 + 1 * x'.val = x.val := congrArg (fun i => (i 2).val) hz
    have e3 : 0 + 1 * y'.val = y.val := congrArg (fun i => (i 3).val) hz
    obtain rfl : x' = x := Fin.ext (by omega)
    obtain rfl : y' = y := Fin.ext (by omega)
    obtain rfl : u = 0 := Subsingleton.elim _ _
    obtain rfl : v = 0 := Subsingleton.elim _ _
    refine (headOut_apply (final arg20 arg19 arg21 arg22 arg23 arg24 arg25 arg26 x0 x1 x2 x3 x4 x5 x6 x8 x9 x11 ⟨(23 - k.val) / 2, by omega⟩)
      ⟨(23 - k.val) % 2, by omega⟩ x' y').trans ?_
    refine (final_apply arg20 arg19 arg21 arg22 arg23 arg24 arg25 arg26 x0 x1 x2 x3 x4 x5 x6 x8 x9 x11 P Q S MU W0 W2 A0 A2 KK KA b h0 h1 h2 h3
      h4 h4' h5 h6 h6' h8 h9 h11 hf _ _ _ _).trans ?_
    refine congrArg (fun h => ((stateR P Q MU W0 W2 A0 A2 KK KA S 32 b h x' y' : ℝ) : EReal)) (Fin.ext ?_)
    dsimp only [headNo]
    omega

include h0 h1 h2 in
/-- The value block at an index. -/
theorem values_value (t : Fin 32) (n : Fin 1536) :
    View.canon [valPiece (F := Ideal) arg20 arg24 x0 x1 x2] (ix2 t n) = valE P Q MU b t n := by
  unfold valPiece
  rw [View.canon_cons_unit_zero (S := S32x1536) zero2]
  obtain ⟨q, l, rfl⟩ : ∃ (q : Fin 12) (l : Fin 128), n = at128 q l :=
    ⟨⟨n.val / 128, by omega⟩, ⟨n.val % 128, by omega⟩, Fin.ext (by dsimp only [at128]; omega)⟩
  rw [whole_back, valTile_apply arg20 x0 x1 x2 P Q MU b h0 h1 h2]

end block

end Cert.Kernel10Ideal.Wkv
-- ==== Proof.WkvValue.lean ====
/-
  The recurrence's whole arrays: what the run leaves are the values and, head by head, the state after the frames, where the arguments
  that the recurrence reads are real numbers.
-/
module

public import proofs.«01_k».proof.Proof.WkvBlock
public import Idealize.ShloMosaic.Lib.StableHlo.ReadAt

@[expose] public section

set_option maxRecDepth 65536

noncomputable section

namespace Cert.Kernel10Ideal.Wkv

open Cert.Kernel10Ideal Cert.Kernel10Ideal.Gen Idealize.ShloMosaic Idealize.ShloMosaic.TcCoe Idealize.SL.Sem

variable (m : (ℓ : Loc nD τ sig) → Buf (Elt Ideal) ℓ) (c : Dev nD)

/-- The projected frames, the frame before them, the states, and the weights. -/
def argP : FVec Ideal S32x32x4960 .f32 := m ((c : Thread nD τ).loc main_arg0)
def argQ : FVec Ideal S32x1x4960 .f32 := m ((c : Thread nD τ).loc main_arg1)
def argS : FVec Ideal S32x24x64x64 .f32 := m ((c : Thread nD τ).loc main_arg2)
def argMu : FVec Ideal S4960 .f32 := m ((c : Thread nD τ).loc main_arg3)
def argW0 : FVec Ideal S1536 .f32 := m ((c : Thread nD τ).loc main_arg4)
def argW2 : FVec Ideal S64x1536 .f32 := m ((c : Thread nD τ).loc main_arg5)
def argA0 : FVec Ideal S1536 .f32 := m ((c : Thread nD τ).loc main_arg6)
def argA2 : FVec Ideal S64x1536 .f32 := m ((c : Thread nD τ).loc main_arg7)
def argKK : FVec Ideal S1536 .f32 := m ((c : Thread nD τ).loc main_arg9)
def argKA : FVec Ideal S1536 .f32 := m ((c : Thread nD τ).loc main_arg10)

theorem entry0 (b t : Fin 32) (n : Fin 4960) : (V m c main_v19 : FVec Ideal S1024x5632 .f32) (ix2 ⟨32 * b.val + t.val, by omega⟩ ⟨n.val, by omega⟩)
    = argP m c (ix3 b t n) := by
  unfold V argP
  after_reads_at
  exact (dif_pos (by omega)).trans (congrArg (m ((c : Thread nD τ).loc main_arg0))
    (congrArg₂ (fun u v => ix3 u v n) (Fin.ext (by dsimp only; omega)) (Fin.ext (by dsimp only; omega))))
theorem entry1 (b : Fin 32) (n : Fin 4960) : (V m c main_v20 : FVec Ideal S32x1x4992 .f32) (ix3 b 0 ⟨n.val, by omega⟩) = argQ m c (ix3 b 0 n) := by
  unfold V argQ
  after_reads_at
theorem entry2 (n : Fin 4960) : (V m c main_v1 : FVec Ideal S1x4992 .f32) (ix2 0 ⟨n.val, by omega⟩) = argMu m c (ix1 n) := by
  unfold V argMu
  after_reads_at
theorem entry3 (n : Fin 1536) : (V m c main_v2 : FVec Ideal S1x1536 .f32) (ix2 0 n) = argW0 m c (ix1 n) := by
  unfold V argW0
  after_reads_at
theorem entry4 (d : Fin 64) (n : Fin 1536) : (V m c main_v6 : FVec Ideal S128x1536 .bf16) (ix2 (lane 0 d) n) = argW2 m c (ix2 d n) := by
  unfold V argW2 lane
  after_reads_at
  after_reads_at
theorem entry4' (d : Fin 64) (n : Fin 1536) : (V m c main_v6 : FVec Ideal S128x1536 .bf16) (ix2 (lane 1 d) n) = (0 : EReal) := by
  unfold V lane
  after_reads_at
  after_reads_at
theorem entry5 (n : Fin 1536) : (V m c main_v3 : FVec Ideal S1x1536 .f32) (ix2 0 n) = argA0 m c (ix1 n) := by
  unfold V argA0
  after_reads_at
theorem entry6 (d : Fin 64) (n : Fin 1536) : (V m c main_v9 : FVec Ideal S128x1536 .bf16) (ix2 (lane 1 d) n) = argA2 m c (ix2 d n) := by
  unfold V argA2 lane
  after_reads_at
  after_reads_at
theorem entry6' (d : Fin 64) (n : Fin 1536) : (V m c main_v9 : FVec Ideal S128x1536 .bf16) (ix2 (lane 0 d) n) = (0 : EReal) := by
  unfold V lane
  after_reads_at
  after_reads_at
theorem entry8 (n : Fin 1536) : (V m c main_v13 : FVec Ideal S1x1536 .f32) (ix2 0 n) = argKK m c (ix1 n) := by
  unfold V argKK
  after_reads_at
theorem entry9 (n : Fin 1536) : (V m c main_v14 : FVec Ideal S1x1536 .f32) (ix2 0 n) = argKA m c (ix1 n) := by
  unfold V argKA
  after_reads_at
theorem entry11 (b : Fin 32) (h : Fin 24) (x y : Fin 64) :
    (V m c main_v21 : FVec Ideal S1x32x24x64x64 .f32) (ix5 0 b h x y) = argS m c (ix4 b h x y) := by
  unfold V argS
  after_reads_at

theorem index_maps : ∀ t : Fin grid0.N, win0_0.index t = ![t.val, 0] ∧ win0_1.index t = ![t.val, 0, 0] ∧ win0_2.index t = ![0, 0]
    ∧ win0_3.index t = ![0, 0] ∧ win0_4.index t = ![0, 0] ∧ win0_5.index t = ![0, 0] ∧ win0_6.index t = ![0, 0]
    ∧ win0_8.index t = ![0, 0] ∧ win0_9.index t = ![0, 0] ∧ win0_11.index t = ![0, t.val, 0, 0, 0] ∧ win0_15.index t = ![t.val, 0]
    ∧ win0_16.index t = ![t.val, 0, 0, 0] := by
  decide +kernel

theorem point_lt (t : Fin cfg0.N) : t.val < 32 := lt_of_lt_of_eq t.isLt N_0

/-- The grid point as an entry of the batch. -/
def entryNo (t : Fin cfg0.N) : Fin 32 := ⟨t.val, point_lt t⟩

theorem win0 (t : Fin cfg0.N) (r : Fin 32) (n : Fin 4960) :
    (X0_0 m c t : FVec Ideal S32x4992 .f32) (ix2 r ⟨n.val, by omega⟩) = argP m c (ix3 (entryNo t) r n) := by
  rw [← entry0]
  unfold X0_0 Pipeline.Window.fill
  rw [dif_pos (moved0_0 t _)]
  blk_ext [iblk, (index_maps t).1]
  show _ = 32 * t.val + _
  omega
theorem win1 (t : Fin cfg0.N) (n : Fin 4960) : (iblk m c 1 t : FVec Ideal S1x1x4992 .f32) (ix3 0 0 ⟨n.val, by omega⟩) = argQ m c (ix3 (entryNo t) 0 n) := by
  rw [← entry1]
  blk_ext [iblk, (index_maps t).2.1]
  rfl
theorem win2 (t : Fin cfg0.N) (n : Fin 4960) : (iblk m c 2 t : FVec Ideal S1x4992 .f32) (ix2 0 ⟨n.val, by omega⟩) = argMu m c (ix1 n) := by
  rw [← entry2]
  blk_ext [iblk, (index_maps t).2.2.1]
theorem win3 (t : Fin cfg0.N) (n : Fin 1536) : (iblk m c 3 t : FVec Ideal S1x1536 .f32) (ix2 0 n) = argW0 m c (ix1 n) := by
  rw [← entry3]
  blk_ext [iblk, (index_maps t).2.2.2.1]
theorem win4 (t : Fin cfg0.N) (d : Fin 64) (n : Fin 1536) : (iblk m c 4 t : FVec Ideal S128x1536 .bf16) (ix2 (lane 0 d) n) = argW2 m c (ix2 d n) := by
  rw [← entry4]
  blk_ext [iblk, (index_maps t).2.2.2.2.1]
theorem win4' (t : Fin cfg0.N) (d : Fin 64) (n : Fin 1536) : (iblk m c 4 t : FVec Ideal S128x1536 .bf16) (ix2 (lane 1 d) n) = (0 : EReal) := by
  rw [← entry4' m c d n]
  blk_ext [iblk, (index_maps t).2.2.2.2.1]
theorem win5 (t : Fin cfg0.N) (n : Fin 1536) : (iblk m c 5 t : FVec Ideal S1x1536 .f32) (ix2 0 n) = argA0 m c (ix1 n) := by
  rw [← entry5]
  blk_ext [iblk, (index_maps t).2.2.2.2.2.1]
theorem win6 (t : Fin cfg0.N) (d : Fin 64) (n : Fin 1536) : (iblk m c 6 t : FVec Ideal S128x1536 .bf16) (ix2 (lane 1 d) n) = argA2 m c (ix2 d n) := by
  rw [← entry6]
  blk_ext [iblk, (index_maps t).2.2.2.2.2.2.1]
theorem win6' (t : Fin cfg0.N) (d : Fin 64) (n : Fin 1536) : (iblk m c 6 t : FVec Ideal S128x1536 .bf16) (ix2 (lane 0 d) n) = (0 : EReal) := by
  rw [← entry6' m c d n]
  blk_ext [iblk, (index_maps t).2.2.2.2.2.2.1]
theorem win8 (t : Fin cfg0.N) (n : Fin 1536) : (iblk m c 8 t : FVec Ideal S1x1536 .f32) (ix2 0 n) = argKK m c (ix1 n) := by
  rw [← entry8]
  blk_ext [iblk, (index_maps t).2.2.2.2.2.2.2.1]
theorem win9 (t : Fin cfg0.N) (n : Fin 1536) : (iblk m c 9 t : FVec Ideal S1x1536 .f32) (ix2 0 n) = argKA m c (ix1 n) := by
  rw [← entry9]
  blk_ext [iblk, (index_maps t).2.2.2.2.2.2.2.2.1]
theorem win11 (t : Fin cfg0.N) (h : Fin 24) (x y : Fin 64) :
    (iblk m c 11 t : FVec Ideal S1x1x24x64x64 .f32) (ix5 0 0 h x y) = argS m c (ix4 (entryNo t) h x y) := by
  rw [← entry11]
  blk_ext [iblk, (index_maps t).2.2.2.2.2.2.2.2.2.1]
  rfl

/-- The values that the run leaves: row `32 b + t` is frame `t` of entry `b`. -/
def result15 : FVec Ideal S1024x1536 .f32 := fun i =>
  valE (argP m c) (argQ m c) (argMu m c) ⟨(i 0).val / 32, by have h : (i 0).val < 1024 := (i 0).isLt; omega⟩ ⟨(i 0).val % 32, by omega⟩ (i 1)

/-- The states that the run leaves: after all frames. -/
def result16 : FVec Ideal S32x24x64x64 .f32 := fun i =>
  ((stateR (argP m c) (argQ m c) (argMu m c) (argW0 m c) (argW2 m c) (argA0 m c) (argA2 m c) (argKK m c) (argKA m c) (argS m c)
    32 (i 0) (i 1) (i 2) (i 3) : ℝ) : EReal)

/-- What a grid point leaves in its block of values. -/
theorem block_values (t : Fin cfg0.N) (r : Fin 32) (n : Fin 1536) :
    ((outsAt0 m c t).2.1 : FVec Ideal S32x1536 .f32) (ix2 r n) = valE (argP m c) (argQ m c) (argMu m c) (entryNo t) r n := by
  unfold outsAt0
  dsimp only
  rw [value_eq]
  exact values_value _ _ _ _ _ (argP m c) (argQ m c) (argMu m c) (entryNo t) (win0 m c t) (win1 m c t) (win2 m c t) r n

theorem final15 : (dats m 0 c).arrAt 15 cfg0.N = result15 m c := by
  refine (dats m 0 c).arrAt_eq_of_covers 15 _ (by decide +kernel) fun t hf' y => ?_
  blk_simp
  rw [after0_15]
  obtain ⟨r, n, rfl⟩ : ∃ (r : Fin 32) (n : Fin 1536), y = ix2 r n := ⟨y 0, y 1, funext fun a => by fin_cases a <;> rfl⟩
  rw [block_values m c t]
  unfold result15
  congr 1 <;> refine Fin.ext ?_ <;> blk_simp [(index_maps t).2.2.2.2.2.2.2.2.2.2.1]
  all_goals (try dsimp only [entryNo])
  all_goals omega

variable (hf : Finite (argP m c) (argQ m c) (argMu m c) (argW0 m c) (argW2 m c) (argA0 m c) (argA2 m c) (argKK m c) (argKA m c) (argS m c))

include hf in
/-- What a grid point leaves in its block of states. -/
theorem block_states (t : Fin cfg0.N) (h : Fin 24) (x y : Fin 64) :
    ((outsAt0 m c t).2.2 : FVec Ideal S1x24x64x64 .f32) (ix4 0 h x y)
      = ((stateR (argP m c) (argQ m c) (argMu m c) (argW0 m c) (argW2 m c) (argA0 m c) (argA2 m c) (argKK m c) (argKA m c) (argS m c)
          32 (entryNo t) h x y : ℝ) : EReal) := by
  unfold outsAt0
  dsimp only
  rw [state_eq]
  exact states_value _ _ _ _ _ _ _ _ _ _ _ _ _ _ _ _ _ _ (argP m c) (argQ m c) (argS m c) (argMu m c) (argW0 m c) (argW2 m c) (argA0 m c)
    (argA2 m c) (argKK m c) (argKA m c) (entryNo t) (win0 m c t) (win1 m c t) (win2 m c t) (win3 m c t) (win4 m c t) (win4' m c t)
    (win5 m c t) (win6 m c t) (win6' m c t) (win8 m c t) (win9 m c t) (win11 m c t) hf h x y

include hf in
theorem final16 : (dats m 0 c).arrAt 16 cfg0.N = result16 m c := by
  refine (dats m 0 c).arrAt_eq_of_covers 16 _ (by decide +kernel) fun t hf' y => ?_
  blk_simp
  rw [after0_16]
  obtain ⟨b, h, x, z, rfl⟩ : ∃ (b : Fin 1) (h : Fin 24) (x z : Fin 64), y = ix4 b h x z :=
    ⟨y 0, y 1, y 2, y 3, funext fun a => by fin_cases a <;> rfl⟩
  obtain rfl : b = 0 := Subsingleton.elim _ _
  rw [block_states m c hf t]
  unfold result16
  refine congrArg (fun r : ℝ => (r : EReal)) ?_
  congr 1 <;> refine Fin.ext ?_ <;> blk_simp [(index_maps t).2.2.2.2.2.2.2.2.2.2.2]
  all_goals (try dsimp only [entryNo])
  all_goals omega

end Cert.Kernel10Ideal.Wkv
-- ==== Proof.WkvOut.lean ====
/-
  The token output's block as uniform terms: what the queries read of the states, each head normalized, with the bonus and the gate.
-/
module

public import proofs.«01_k».proof.Proof.WkvTile

@[expose] public section

set_option maxRecDepth 65536

noncomputable section

namespace Cert.Kernel10Ideal.Wkv

open Cert.Kernel10Ideal Cert.Kernel10Ideal.Gen Idealize.ShloMosaic Idealize.ShloMosaic.TcCoe Idealize.SL.Sem

variable {F : FTy → Type} [FloatOps F]

/-- The lower half, up to the diagonal. -/
def upTo (c : FVec F S64x64 .f32) : FVec F S32x64 .f32 :=
  select incl (extractStridedSlice S32x64 ![32, 0] c slices_S64x64_o32_0_S32x64) (broadcast S32x64 zero)
/-- What the queries read of what the steps read. -/
def answers (a : FVec F S32x64 .f32) (w : FVec F S32x256 .f32) : FVec F S32x256 .f32 :=
  matmul dot_S32x64_S64x256_S32x256_1_0_0_1_n_n none (truncf .bf16 a bitsLt_bf16_f32)
    (concatenate S64x256 1 [⟨S64x128, stackD (extractStridedSlice S32x128 ![0, 0] w slices_S32x256_o0_0_S32x128)⟩,
      ⟨S64x128, stackD (extractStridedSlice S32x128 ![0, 128] w slices_S32x256_o0_128_S32x128)⟩]
      concatenates_S64x128_S64x128_S64x256_d1) (constant S32x256 .f32 0x00000000#32)
/-- What the queries read of the first state. -/
def queries (q : FVec F S32x128 .f32) (s : Vec F S1x128x128 .f32) : FVec F S32x128 .f32 :=
  matmul dot_S32x128_S128x128_S32x128_1_1_0_0_n_n none (truncf .bf16 q bitsLt_bf16_f32)
    (truncf .bf16 (shapeCast S128x128 s shapeCasts_S1x128x128_S128x128) bitsLt_bf16_f32) (constant S32x128 .f32 0x00000000#32)
/-- The queries' reads, from their two halves and the values' part. -/
def readTile (r cum : FVec F S32x128 .f32) (qq : FVec F S32x256 .f32) (kv : FVec F S64x128 .f32) (s : Vec F S1x128x128 .f32) : FVec F S32x128 .f32 :=
  addf (queries (addf (mulf r (exp cum)) (extractStridedSlice S32x128 ![0, 0] qq slices_S32x256_o0_0_S32x128)) s)
    (addf (extractStridedSlice S32x128 ![0, 128] qq slices_S32x256_o0_128_S32x128)
      (extractStridedSlice S32x128 ![32, 0] kv slices_S64x128_o32_0_S32x128))
/-- What the queries of a pair read. -/
def outTile (r lw k v kn b cum : FVec F S32x128 .f32) (s : Vec F S1x128x128 .f32) : FVec F S32x128 .f32 :=
  readTile r cum (answers (upTo (crossTile (rows2 r kn lw cum) b cum))
    (solved (invTile (below (crossTile (rows2 r kn lw cum) b cum))) (early kn lw cum) (withValues (crossTile (rows2 r kn lw cum) k cum) v)))
    (withValues (crossTile (rows2 r kn lw cum) k cum) v) s
/-- Each head's mean. -/
def headMean (x : FVec F S32x128 .f32) : FVec F S32x128 .f32 :=
  mulf (matmul dot_S32x128_S128x128_S32x128_1_0_0_1_n_n none (truncf .bf16 x bitsLt_bf16_f32) onesBd (constant S32x128 .f32 0x00000000#32))
    (broadcast S32x128 (Scalar.ofBits .f32 0x3C800000#32))
/-- A weight row under every frame. -/
def spread (w : Vec F S1x128 .f32) : FVec F S32x128 .f32 :=
  broadcastTo S32x128 (shapeCast S1x128 w shapeCasts_S1x128_S1x128) broadcasts_S1x128_S32x128
/-- A deviation over its head's spread. -/
def scaled (d : FVec F S32x128 .f32) : FVec F S32x128 .f32 :=
  mulf d (rsqrt (addf (headMean (mulf d d)) (broadcast S32x128 (Scalar.ofBits .f32 0x3A27C5AC#32))))
/-- The token output of a pair. -/
def tokenTile (y : FVec F S32x128 .f32) (lg lb : Vec F S1x128 .f32) (bonus gate : FVec F S32x128 .f32) : FVec F S32x128 .bf16 :=
  truncf .bf16 (mulf (addf (addf (mulf (scaled (subf y (headMean y))) (spread lg)) (spread lb)) bonus) gate) bitsLt_bf16_f32

section body

variable (arg20 : Memref sig .tc .vmem S1x4992 .f32) (arg19 : Memref sig .tc .vmem S12x128x128 .f32)
  (arg21 arg22 arg23 arg24 arg25 arg26 arg27 arg28 : Memref sig .tc .vmem S32x1536 .f32)
  (x0 : Vec F S32x4992 .f32) (x1 : Vec F S1x1x4992 .f32) (x2 : Vec F S1x4992 .f32) (x3 : Vec F S1x1536 .f32) (x4 : Vec F S128x1536 .bf16)
  (x5 : Vec F S1x1536 .f32) (x6 : Vec F S128x1536 .bf16) (x8 x9 : Vec F S1x1536 .f32) (x11 : Vec F S1x1x24x64x64 .f32)
  (x7 : Vec F S256x1536 .bf16) (x10 x12 x13 : Vec F S1x1536 .f32)

/-- The query tile of pair `n`. -/
def queryTile (n : Fin 12) : FVec F S32x128 .f32 := mixed arg20 x0 x1 x2 ⟨n.val, by omega⟩
/-- The output gates. -/
def outGate : FVec F S32x1536 .f32 :=
  shapeCast S32x1536 (matmul dot_S32x256_S256x1536_S32x1536_1_0_0_1_n_n none
    (truncf .bf16 (logistic (concatenate S32x256 1 [⟨S32x128, mixed arg20 x0 x1 x2 ⟨37, by omega⟩⟩, ⟨S32x128, mixed arg20 x0 x1 x2 ⟨38, by omega⟩⟩]
      concatenates_S32x128_S32x128_S32x256_d1)) bitsLt_bf16_f32)
    (shapeCast S256x1536 (View.ld x7 (Rect.unit ![0, 0] S256x1536.size inb_S256x1536_S256x1536_0_0)) shapeCasts_S256x1536_S256x1536)
    (constant S32x1536 .f32 0x00000000#32)) shapeCasts_S32x1536_S32x1536
/-- The output gates' one store. -/
def outGatePieces : List (View.Piece (Elt F) S32x1536 .f32) :=
  [⟨Rect.unit ![0, 0] S32x1536.size inb_S32x1536_S32x1536_0_0, outGate arg20 x0 x1 x2 x7⟩]
/-- The bonus of pair `n`. -/
def bonusTile (n : Fin 12) : FVec F S32x128 .f32 :=
  mulf (matmul dot_S32x128_S128x128_S32x128_1_0_0_1_n_n none
    (truncf .bf16 (mulf (mulf (queryTile arg20 x0 x1 x2 n) (kTile arg20 x0 x1 x2 x5 x6 x9 n)) (spread (rowTile x10 n))) bitsLt_bf16_f32)
    onesBd (constant S32x128 .f32 0x00000000#32)) (valTile arg20 x0 x1 x2 n)

/-- What the queries of pair `n` read, the states given. -/
def outAt (n : Fin 12) (s : Vec F S1x128x128 .f32) : FVec F S32x128 .f32 :=
  outTile (back arg21 (queryTile arg20 x0 x1 x2) n)
    (arg22.view.readCov (lwPieces arg20 x0 x1 x2 x3 x4) (lanes n).toLoadRect)
    (back arg23 (kTile arg20 x0 x1 x2 x5 x6 x9) n) (back arg24 (valTile arg20 x0 x1 x2) n)
    (back arg25 (knTile arg20 x0 x1 x2 x8) n) (back arg26 (bTile arg20 x0 x1 x2 x5 x6 x8) n)
    (cumTile arg20 arg22 x0 x1 x2 x3 x4 n) s

/-- The state that pair `n`'s queries read. -/
def stateIn (n : Fin 12) : Vec F S1x128x128 .f32 :=
  arg19.view.readCov (statePieces arg20 arg19 arg21 arg22 arg23 arg24 arg25 arg26 x0 x1 x2 x3 x4 x5 x6 x8 x9 x11 n.val) (sRect n).toLoadRect

/-- The token output of pair `n`. -/
def tokenAt (n : Fin 12) : FVec F S32x128 .bf16 :=
  tokenTile (outAt arg20 arg21 arg22 arg23 arg24 arg25 arg26 x0 x1 x2 x3 x4 x5 x6 x8 x9 n
      (stateIn arg20 arg19 arg21 arg22 arg23 arg24 arg25 arg26 x0 x1 x2 x3 x4 x5 x6 x8 x9 x11 n))
    (rowTile x12 n) (rowTile x13 n) (back arg28 (bonusTile arg20 x0 x1 x2 x5 x6 x9 x10) n)
    (arg27.view.readCov (outGatePieces arg20 x0 x1 x2 x7) (lanes n).toLoadRect)

/-- The stores of the output block, the last one first. -/
def tokenPiece (k : Fin 12) : View.Piece (Elt F) S32x1536 .bf16 :=
  ⟨lanes ⟨11 - k.val, by omega⟩, tokenAt arg20 arg19 arg21 arg22 arg23 arg24 arg25 arg26 arg27 arg28 x0 x1 x2 x3 x4 x5 x6 x8 x9 x11 x7 x10 x12 x13
    ⟨11 - k.val, by omega⟩⟩

end body

end Cert.Kernel10Ideal.Wkv
-- ==== Proof.WkvToken.lean ====
/-
  The token output as a function of the arguments, and a chunk's reads by its queries: where a pair's tiles hold real numbers, the
  queries read of each head what the recurrence's states hold.
-/
module

public import proofs.«01_k».proof.Proof.WkvOut
public import proofs.«01_k».proof.Proof.WkvFrame

@[expose] public section

set_option maxRecDepth 65536

noncomputable section

namespace Cert.Kernel10Ideal.Wkv

open Cert.Kernel10Ideal Cert.Kernel10Ideal.Gen Idealize.ShloMosaic Idealize.ShloMosaic.TcCoe Idealize.SL.Sem

/-! ## The token output of a frame -/

/-- What is added to a variance. -/
def eps : EReal := Ideal.ofBits .f32 0x3A27C5AC#32
/-- The mean over a head. -/
def mean64 (f : Fin 64 → ℝ) : ℝ := (∑ i, f i) * (1 / 64)
/-- A head's values, normalized. -/
def normed (f : Fin 64 → ℝ) (d : Fin 64) : EReal :=
  ((f d - mean64 f : ℝ) : EReal) * Ideal.rsqrt (((mean64 fun i => (f i - mean64 f) * (f i - mean64 f) : ℝ) : EReal) + eps)

section frames

variable (x0 : FVec Ideal S32x32x4960 .f32) (x1 : FVec Ideal S32x1x4960 .f32) (x3 : FVec Ideal S4960 .f32) (x4 : FVec Ideal S1536 .f32)
  (x5 : FVec Ideal S64x1536 .f32) (x6 : FVec Ideal S1536 .f32) (x7 : FVec Ideal S64x1536 .f32) (x9 x10 : FVec Ideal S1536 .f32)
  (x2 : FVec Ideal S32x24x64x64 .f32) (x8 : FVec Ideal S224x1536 .f32) (x11 : FVec Ideal S24x64 .f32) (x12 x13 : FVec Ideal S1536 .f32)

/-- The query. -/
def queryE (b t : Fin 32) (n : Fin 1536) : EReal := mix x0 x1 x3 b t ⟨n.val, by omega⟩
/-- The query as a real number. -/
def queryR (b : Fin 32) (h : Fin 24) (t : Fin 32) (d : Fin 64) : ℝ := (queryE x0 x1 x3 b t (chan h d)).toReal
/-- What the query reads of the state after its frame. -/
def outR (b : Fin 32) (h : Fin 24) (t : Fin 32) (x : Fin 64) : ℝ :=
  ∑ z, stateR x0 x1 x3 x4 x5 x6 x7 x9 x10 x2 (t.val + 1) b h x z * queryR x0 x1 x3 b h t z
/-- The bonus. -/
def bonusE (b t : Fin 32) (h : Fin 24) (d : Fin 64) : EReal :=
  (∑ i, queryE x0 x1 x3 b t (chan h i) * keyE x0 x1 x3 x6 x7 x10 b t (chan h i) * x11 (ix2 h i)) * valE x0 x1 x3 b t (chan h d)
/-- The output gate. -/
def outGateE (b t : Fin 32) (n : Fin 1536) : EReal :=
  ∑ e : Fin 224, Ideal.logistic (mix x0 x1 x3 b t ⟨4736 + e.val, by omega⟩) * x8 (ix2 e n)
/-- The token output. -/
def tokenE (b t : Fin 32) (h : Fin 24) (d : Fin 64) : EReal :=
  (normed (outR x0 x1 x3 x4 x5 x6 x7 x9 x10 x2 b h t) d * x12 (ix1 (chan h d)) + x13 (ix1 (chan h d))
    + bonusE x0 x1 x3 x6 x7 x10 x11 b t h d) * outGateE x0 x1 x3 x8 b t (chan h d)

end frames

/-! ## The chunk's reads -/

theorem incl_apply : ∀ (t : Fin 32) (e : Fin 2) (j : Fin 32), incl (ix2 t (col e j)) = if j.val < t.val + 1 then 1#1 else 0#1 := by
  decide +kernel

theorem rows2_low (r kn lw cum : FVec Ideal S32x128 .f32) (t : Fin 32) (l : Fin 128) :
    rows2 r kn lw cum (ix2 (col 1 t) l) = r (ix2 t l) * Ideal.exp (cum (ix2 t l)) := by
  pointwise [rows2, col]

theorem upTo_apply (c : FVec Ideal S64x64 .f32) (t : Fin 32) (e : Fin 2) (j : Fin 32) :
    upTo c (ix2 t (col e j)) = if j.val < t.val + 1 then c (ix2 (col 1 t) (col e j)) else 0 := by
  have h := incl_apply t e j
  generalize col e j = l at *
  pointwise [upTo, col]
  rw [select_word _ _ _ h, zero_eq]

theorem withValues_low (c : FVec Ideal S64x64 .f32) (v : FVec Ideal S32x128 .f32) (t : Fin 32) (l : Fin 128) :
    withValues c v (ix2 (col 1 t) l) = ∑ i : Fin 64, upTo c (ix2 t i) * stackD v (ix2 i l) := by
  pointwise [withValues, masked, upTo, col]

/-- The first 128 columns. -/
def left (w : FVec Ideal S32x256 .f32) : FVec Ideal S32x128 .f32 := extractStridedSlice S32x128 ![0, 0] w slices_S32x256_o0_0_S32x128
/-- The last 128 columns. -/
def right (w : FVec Ideal S32x256 .f32) : FVec Ideal S32x128 .f32 := extractStridedSlice S32x128 ![0, 128] w slices_S32x256_o0_128_S32x128

theorem left_apply (w : FVec Ideal S32x256 .f32) (t : Fin 32) (l : Fin 128) : left w (ix2 t l) = w (ix2 t (⟨l.val, by omega⟩ : Fin 256)) := by
  pointwise [left]
theorem right_apply (w : FVec Ideal S32x256 .f32) (t : Fin 32) (l : Fin 128) : right w (ix2 t l) = w (ix2 t (⟨128 + l.val, by omega⟩ : Fin 256)) := by
  pointwise [right]

theorem answers_first (a : FVec Ideal S32x64 .f32) (w : FVec Ideal S32x256 .f32) (t : Fin 32) (l : Fin 128) :
    answers a w (ix2 t (⟨l.val, by omega⟩ : Fin 256)) = ∑ j : Fin 64, a (ix2 t j) * stackD (left w) (ix2 j l) := by
  pointwise [answers]
  rfl
theorem answers_second (a : FVec Ideal S32x64 .f32) (w : FVec Ideal S32x256 .f32) (t : Fin 32) (l : Fin 128) :
    answers a w (ix2 t (⟨128 + l.val, by omega⟩ : Fin 256)) = ∑ j : Fin 64, a (ix2 t j) * stackD (right w) (ix2 j l) := by
  pointwise [answers]
  rfl

theorem queries_apply (q : FVec Ideal S32x128 .f32) (s : Vec Ideal S1x128x128 .f32) (t : Fin 32) (l : Fin 128) :
    queries q s (ix2 t l) = ∑ z : Fin 128, q (ix2 t z) * s (ix3 0 l z) := by
  pointwise [queries]

theorem readTile_apply (r cum : FVec Ideal S32x128 .f32) (qq : FVec Ideal S32x256 .f32) (kv : FVec Ideal S64x128 .f32)
    (s : Vec Ideal S1x128x128 .f32) (t : Fin 32) (l : Fin 128) : readTile r cum qq kv s (ix2 t l)
      = (∑ z : Fin 128, (r (ix2 t z) * Ideal.exp (cum (ix2 t z)) + qq (ix2 t (⟨z.val, by omega⟩ : Fin 256))) * s (ix3 0 l z))
        + (qq (ix2 t (⟨128 + l.val, by omega⟩ : Fin 256)) + kv (ix2 (col 1 t) l)) := by
  refine congrArg₂ (· + ·) ((queries_apply _ _ _ _).trans (Finset.sum_congr rfl fun z _ => congrArg (· * s (ix3 0 l z)) ?_))
    (congrArg₂ (· + ·) ?_ ?_)
  · exact congrArg (r (ix2 t z) * Ideal.exp (cum (ix2 t z)) + ·) (left_apply qq t z)
  · exact right_apply qq t l
  · pointwise [col]

section chunk

variable (w k v b c q : Fin 2 → Fin 32 → Fin 64 → ℝ) (T : Fin 2 → Fin 64 → Fin 64 → ℝ)
  (r lw kx vx kn bx cum : FVec Ideal S32x128 .f32) (s : Vec Ideal S1x128x128 .f32)

variable (hw : LanesAre lw w) (hk : LanesAre kx k) (hv : LanesAre vx v) (hc : LanesAre kn c) (hb : LanesAre bx b) (hr : LanesAre r q)
  (hcum : LanesAre cum fun e t d => Cert.Wkv.decay (w e) (t.val + 1) d)
  (hs : ∀ e x y, s (ix3 0 (lane e x) (lane e y)) = ((T e x y : ℝ) : EReal))
  (hs' : ∀ e e' x y, e' ≠ e → s (ix3 0 (lane e x) (lane e' y)) = 0)

include hr hcum in
theorem query_real (e : Fin 2) (t : Fin 32) (d : Fin 64) :
    r (ix2 t (lane e d)) * Ideal.exp (cum (ix2 t (lane e d))) = ((Cert.Wkv.query (w e) (q e) t d : ℝ) : EReal) := by
  rw [hr, hcum, Ideal.exp_coe, ← EReal.coe_mul]
  rfl

include hr hcum in
/-- The products up to the diagonal. -/
theorem upTo_real (x : FVec Ideal S32x128 .f32) (f : Fin 2 → Fin 32 → Fin 64 → ℝ) (hx : LanesAre x f) :
    TileIs (upTo (crossTile (rows2 r kn lw cum) x cum)) fun e => Cert.Wkv.answer (w e) (q e) (f e) := by
  intro e t i
  rw [upTo_apply]
  show _ = ((if i.val < t.val + 1 then ∑ z, Cert.Wkv.query (w e) (q e) t z * (f e i z * Real.exp (-Cert.Wkv.decay (w e) (i.val + 1) z)) else 0 : ℝ) : EReal)
  split_ifs
  · rw [crossTile_apply, sum_lane _ e fun e' d h => by rw [stackD_apply, if_neg (Ne.symm h), mul_zero], coe_sum]
    refine Finset.sum_congr rfl fun d _ => ?_
    rw [stackD_apply, if_pos rfl, rows2_low, query_real w q r cum hr hcum, undone_apply, hx, hcum, zero_sub, ← EReal.coe_neg,
      Ideal.exp_coe, ← EReal.coe_mul, ← EReal.coe_mul]
  · rfl

include hw hk hv hc hb hr hcum hs hs' in
/-- The queries of a pair read of each head what the recurrence holds. -/
theorem outTile_real (t : Fin 32) (e : Fin 2) (x : Fin 64) : outTile r lw kx vx kn bx cum s (ix2 t (lane e x))
    = ((Cert.Wkv.output (w e) (k e) (v e) (removal c e) (b e) (T e) (q e) t x : ℝ) : EReal) := by
  unfold outTile
  rw [readTile_apply, sum_lane _ e fun e' d h => by rw [hs' e e' x d h, mul_zero], Cert.Wkv.output_closed, EReal.coe_add, EReal.coe_add,
    coe_sum, coe_sum, coe_sum]
  refine congrArg₂ (· + ·) (Finset.sum_congr rfl fun z _ => ?_) (congrArg₂ (· + ·) ?_ ?_)
  · rw [hs, query_real w q r cum hr hcum, EReal.coe_mul, EReal.coe_add, coe_sum]
    refine congrArg (fun u => (_ + u) * _) ?_
    rw [answers_first, sum_col _ e fun e' d h => by rw [stackD_apply, if_neg h, mul_zero]]
    refine Finset.sum_congr rfl fun i _ => ?_
    rw [stackD_apply, if_pos rfl, upTo_real w q r lw kn cum hr hcum bx b hb, left_apply,
      solved_real_state w b c r lw kn bx cum hw hc hb hcum, EReal.coe_mul]
  · rw [answers_second, sum_col _ e fun e' d h => by rw [stackD_apply, if_neg h, mul_zero]]
    refine Finset.sum_congr rfl fun i _ => ?_
    rw [stackD_apply, if_pos rfl, upTo_real w q r lw kn cum hr hcum bx b hb, right_apply,
      solved_real_values w k v b c r lw kx vx kn bx cum hw hk hv hc hb hcum, EReal.coe_mul]
  · rw [withValues_low, sum_col _ e fun e' d h => by rw [stackD_apply, if_neg h, mul_zero]]
    refine Finset.sum_congr rfl fun i _ => ?_
    rw [stackD_apply, if_pos rfl, upTo_real w q r lw kn cum hr hcum kx k hk, hv, EReal.coe_mul]

end chunk

end Cert.Kernel10Ideal.Wkv
-- ==== Proof.WkvTokenBlock.lean ====
/-
  The token output's block at an index: a grid point leaves in it, head by head, the normalized reads of its frames with the bonus
  and the gate.
-/
module

public import proofs.«01_k».proof.Proof.WkvToken
public import proofs.«01_k».proof.Proof.WkvBlock

@[expose] public section

set_option backward.proofsInPublic true
set_option maxRecDepth 65536

noncomputable section

namespace Cert.Kernel10Ideal.Wkv

open Cert.Kernel10Ideal Cert.Kernel10Ideal.Gen Idealize.ShloMosaic Idealize.ShloMosaic.TcCoe Idealize.SL.Sem

/-- One sixty-fourth. -/
def part64 : EReal := Ideal.ofBits .f32 0x3C800000#32
theorem part64_eq : part64 = ((1 / 64 : ℝ) : EReal) := by
  unfold part64
  simp [Ideal.ofBits, Ideal.ieee, -EReal.coe_mul]; norm_num

theorem headMean_sum (x : FVec Ideal S32x128 .f32) (t : Fin 32) (l : Fin 128) :
    headMean x (ix2 t l) = (∑ i : Fin 128, x (ix2 t i) * (onesBd : FVec Ideal S128x128 .bf16) (ix2 i l)) * part64 := by
  unfold part64
  pointwise [headMean]

/-- A head's mean, of real numbers. -/
theorem headMean_real (x : FVec Ideal S32x128 .f32) (t : Fin 32) (e : Fin 2) (f : Fin 64 → ℝ) (h : ∀ i, x (ix2 t (lane e i)) = ((f i : ℝ) : EReal))
    (d : Fin 64) : headMean x (ix2 t (lane e d)) = ((mean64 f : ℝ) : EReal) := by
  rw [headMean_sum, sum_lane _ e fun e' i h' => by rw [onesBd_apply, if_neg h', mul_zero], part64_eq]
  unfold mean64
  rw [EReal.coe_mul, coe_sum]
  refine congrArg (· * _) (Finset.sum_congr rfl fun i _ => ?_)
  rw [h, onesBd_apply, if_pos rfl, mul_one]

theorem scaled_apply (d : FVec Ideal S32x128 .f32) (t : Fin 32) (l : Fin 128) :
    scaled d (ix2 t l) = d (ix2 t l) * Ideal.rsqrt (headMean (mulf d d) (ix2 t l) + eps) := rfl

theorem spread_apply (w : Vec Ideal S1x128 .f32) (t : Fin 32) (l : Fin 128) : spread w (ix2 t l) = w (ix2 0 l) := by
  pointwise [spread]

theorem tokenTile_apply (y : FVec Ideal S32x128 .f32) (lg lb : Vec Ideal S1x128 .f32) (bo ga : FVec Ideal S32x128 .f32) (t : Fin 32) (l : Fin 128) :
    tokenTile y lg lb bo ga (ix2 t l)
      = (scaled (subf y (headMean y)) (ix2 t l) * lg (ix2 0 l) + lb (ix2 0 l) + bo (ix2 t l)) * ga (ix2 t l) := by
  rw [← spread_apply lg t l, ← spread_apply lb t l]
  rfl

/-- The token output of real reads. -/
theorem tokenTile_real (y : FVec Ideal S32x128 .f32) (lg lb : Vec Ideal S1x128 .f32) (bo ga : FVec Ideal S32x128 .f32) (t : Fin 32) (e : Fin 2)
    (f : Fin 64 → ℝ) (hy : ∀ i, y (ix2 t (lane e i)) = ((f i : ℝ) : EReal)) (d : Fin 64) :
    tokenTile y lg lb bo ga (ix2 t (lane e d))
      = (normed f d * lg (ix2 0 (lane e d)) + lb (ix2 0 (lane e d)) + bo (ix2 t (lane e d))) * ga (ix2 t (lane e d)) := by
  have hm := headMean_real y t e f hy
  have hd : ∀ i, subf y (headMean y) (ix2 t (lane e i)) = ((f i - mean64 f : ℝ) : EReal) := fun i =>
    (congrArg₂ (fun u v : EReal => u - v) (hy i) (hm i)).trans (EReal.coe_sub _ _).symm
  have hv := headMean_real (mulf (subf y (headMean y)) (subf y (headMean y))) t e (fun i => (f i - mean64 f) * (f i - mean64 f))
    fun i => (congrArg₂ (fun u v : EReal => u * v) (hd i) (hd i)).trans (EReal.coe_mul _ _).symm
  rw [tokenTile_apply, scaled_apply, hd, hv]
  rfl

/-- Two tiles side by side. -/
def sides (A B : FVec Ideal S32x128 .f32) : FVec Ideal S32x256 .f32 :=
  concatenate S32x256 1 [⟨S32x128, A⟩, ⟨S32x128, B⟩] concatenates_S32x128_S32x128_S32x256_d1
theorem sides_left (A B : FVec Ideal S32x128 .f32) (t : Fin 32) (l : Fin 128) : sides A B (ix2 t (⟨l.val, by omega⟩ : Fin 256)) = A (ix2 t l) := by
  pointwise [sides]
theorem sides_right (A B : FVec Ideal S32x128 .f32) (t : Fin 32) (l : Fin 128) : sides A B (ix2 t (⟨128 + l.val, by omega⟩ : Fin 256)) = B (ix2 t l) := by
  pointwise [sides]

theorem gate_sum (X : FVec Ideal S32x256 .f32) (x7 : Vec Ideal S256x1536 .bf16) (t : Fin 32) (n : Fin 1536) :
    shapeCast S32x1536 (matmul (φ₂ := .bf16) dot_S32x256_S256x1536_S32x1536_1_0_0_1_n_n none (truncf .bf16 (logistic X) bitsLt_bf16_f32)
      (shapeCast S256x1536 (View.ld x7 (Rect.unit ![0, 0] S256x1536.size inb_S256x1536_S256x1536_0_0)) shapeCasts_S256x1536_S256x1536)
      (constant S32x1536 .f32 0x00000000#32)) shapeCasts_S32x1536_S32x1536 (ix2 t n)
    = ∑ l : Fin 256, Ideal.logistic (X (ix2 t l)) * x7 (ix2 l n) := by
  pointwise []

theorem bonus_sum (q k v : FVec Ideal S32x128 .f32) (w : Vec Ideal S1x128 .f32) (t : Fin 32) (l : Fin 128) :
    mulf (matmul dot_S32x128_S128x128_S32x128_1_0_0_1_n_n none (truncf .bf16 (mulf (mulf q k) (spread w)) bitsLt_bf16_f32) onesBd
      (constant S32x128 .f32 0x00000000#32)) v (ix2 t l)
    = (∑ i : Fin 128, q (ix2 t i) * k (ix2 t i) * w (ix2 0 i) * (onesBd : FVec Ideal S128x128 .bf16) (ix2 i l)) * v (ix2 t l) := by
  pointwise [spread]

/-- A pair's first state is zero between its heads. -/
theorem initTile_off (a c : Vec Ideal S1x1x1x64x64 .f32) (e e' : Fin 2) (x y : Fin 64) (h : e' ≠ e) :
    initTile a c (ix3 0 (lane e x) (lane e' y)) = (0 : EReal) := by
  fin_cases e <;> fin_cases e' <;> first | exact absurd rfl h | (pointwise [initTile, lane]; exact zero_eq)

section block

variable (arg20 : Memref sig .tc .vmem S1x4992 .f32) (arg19 : Memref sig .tc .vmem S12x128x128 .f32)
  (arg21 arg22 arg23 arg24 arg25 arg26 arg27 arg28 : Memref sig .tc .vmem S32x1536 .f32)
  (x0 : Vec Ideal S32x4992 .f32) (x1 : Vec Ideal S1x1x4992 .f32) (x2 : Vec Ideal S1x4992 .f32) (x3 : Vec Ideal S1x1536 .f32)
  (x4 : Vec Ideal S128x1536 .bf16) (x5 : Vec Ideal S1x1536 .f32) (x6 : Vec Ideal S128x1536 .bf16) (x8 x9 : Vec Ideal S1x1536 .f32)
  (x11 : Vec Ideal S1x1x24x64x64 .f32) (x7 : Vec Ideal S256x1536 .bf16) (x10 x12 x13 : Vec Ideal S1x1536 .f32)
  (P : FVec Ideal S32x32x4960 .f32) (Q : FVec Ideal S32x1x4960 .f32) (S : FVec Ideal S32x24x64x64 .f32) (MU : FVec Ideal S4960 .f32)
  (W0 : FVec Ideal S1536 .f32) (W2 : FVec Ideal S64x1536 .f32) (A0 : FVec Ideal S1536 .f32) (A2 : FVec Ideal S64x1536 .f32)
  (KK KA : FVec Ideal S1536 .f32) (G2 : FVec Ideal S224x1536 .f32) (RK : FVec Ideal S24x64 .f32) (LG LB : FVec Ideal S1536 .f32) (b : Fin 32)
  (h0 : ∀ (t : Fin 32) (c : Fin 4960), x0 (ix2 t ⟨c.val, by omega⟩) = P (ix3 b t c))
  (h1 : ∀ c : Fin 4960, x1 (ix3 0 0 ⟨c.val, by omega⟩) = Q (ix3 b 0 c))
  (h2 : ∀ c : Fin 4960, x2 (ix2 0 ⟨c.val, by omega⟩) = MU (ix1 c))
  (h3 : ∀ n, x3 (ix2 0 n) = W0 (ix1 n)) (h4 : ∀ d n, x4 (ix2 (lane 0 d) n) = W2 (ix2 d n)) (h4' : ∀ d n, x4 (ix2 (lane 1 d) n) = 0)
  (h5 : ∀ n, x5 (ix2 0 n) = A0 (ix1 n)) (h6 : ∀ d n, x6 (ix2 (lane 1 d) n) = A2 (ix2 d n)) (h6' : ∀ d n, x6 (ix2 (lane 0 d) n) = 0)
  (h8 : ∀ n, x8 (ix2 0 n) = KK (ix1 n)) (h9 : ∀ n, x9 (ix2 0 n) = KA (ix1 n))
  (h11 : ∀ h x y, x11 (ix5 0 0 h x y) = S (ix4 b h x y))
  (h7 : ∀ (e : Fin 224) n, x7 (ix2 ⟨e.val, by omega⟩ n) = G2 (ix2 e n)) (h7' : ∀ (e : Fin 32) n, x7 (ix2 ⟨224 + e.val, by omega⟩ n) = 0)
  (h10 : ∀ h d, x10 (ix2 0 (chan h d)) = RK (ix2 h d)) (h12 : ∀ n, x12 (ix2 0 n) = LG (ix1 n)) (h13 : ∀ n, x13 (ix2 0 n) = LB (ix1 n))

/-- The state that a pair's queries read is its first. -/
theorem stateIn_eq (n : Fin 12) : stateIn arg20 arg19 arg21 arg22 arg23 arg24 arg25 arg26 x0 x1 x2 x3 x4 x5 x6 x8 x9 x11 n = initAt x11 n := by
  have h0 : ∀ n, arg19.view.readCov (statePieces arg20 arg19 arg21 arg22 arg23 arg24 arg25 arg26 x0 x1 x2 x3 x4 x5 x6 x8 x9 x11 0)
      (sRect n).toLoadRect = initAt x11 n := init_read arg19 x11
  have h1 : ∀ k, statePieces arg20 arg19 arg21 arg22 arg23 arg24 arg25 arg26 x0 x1 x2 x3 x4 x5 x6 x8 x9 x11 (k + 1)
      = ⟨sRect (pairNo k), upd arg20 arg21 arg22 arg23 arg24 arg25 arg26 x0 x1 x2 x3 x4 x5 x6 x8 x9 (pairNo k)
          (arg19.view.readCov (statePieces arg20 arg19 arg21 arg22 arg23 arg24 arg25 arg26 x0 x1 x2 x3 x4 x5 x6 x8 x9 x11 k)
            (sRect (pairNo k)).toLoadRect)⟩
        :: statePieces arg20 arg19 arg21 arg22 arg23 arg24 arg25 arg26 x0 x1 x2 x3 x4 x5 x6 x8 x9 x11 k := fun _ => rfl
  unfold stateIn
  generalize upd arg20 arg21 arg22 arg23 arg24 arg25 arg26 x0 x1 x2 x3 x4 x5 x6 x8 x9 = f at *
  generalize statePieces arg20 arg19 arg21 arg22 arg23 arg24 arg25 arg26 x0 x1 x2 x3 x4 x5 x6 x8 x9 x11 = L at *
  refine (steps_read arg19 f (initAt x11) L h0 h1 n.val n.isLt.le n).trans ?_
  rw [if_neg (lt_irrefl _)]

/-- The output gates of a pair, read back. -/
theorem gate_read (n : Fin 12) (t : Fin 32) (l : Fin 128) :
    arg27.view.readCov (outGatePieces arg20 x0 x1 x2 x7) (lanes n).toLoadRect (ix2 t l) = outGate arg20 x0 x1 x2 x7 (ix2 t (at128 n l)) := by
  rw [View.readCov_eq_canon', ← lanes_emb]
  unfold outGatePieces
  rw [View.canon_cons_unit_zero (S := S32x1536) zero2]
  rfl

include h0 h1 h2 h7 h7' in
theorem outGate_apply (t : Fin 32) (n : Fin 1536) : outGate arg20 x0 x1 x2 x7 (ix2 t n) = outGateE P Q MU G2 b t n := by
  have h := gate_sum (sides (mixed arg20 x0 x1 x2 ⟨37, by omega⟩) (mixed arg20 x0 x1 x2 ⟨38, by omega⟩)) x7 t n
  refine Eq.trans h ?_
  unfold outGateE
  refine (Fin.sum_univ_add (a := 224) (b := 32) _).trans ((congrArg (_ + ·) (Finset.sum_eq_zero fun l _ => ?_)).trans
    ((add_zero _).trans (Finset.sum_congr rfl fun e _ => ?_)))
  · exact (congrArg (_ * ·) (h7' l n)).trans (mul_zero _)
  · refine congrArg₂ (fun u v : EReal => u * v) (congrArg Ideal.logistic ?_) (h7 e n)
    by_cases he : e.val < 128
    · refine (sides_left _ _ t ⟨e.val, he⟩).trans ?_
      refine (mixed_apply arg20 x0 x1 x2 P Q MU b h0 h1 h2 ⟨37, by omega⟩ t ⟨e.val, he⟩ (by dsimp only; omega)).trans ?_
      exact congrArg (mix P Q MU b t) (Fin.ext (by dsimp only <;> omega))
    · have hi : (Fin.castAdd 32 e : Fin 256) = ⟨128 + (e.val - 128), by omega⟩ := Fin.ext (by show e.val = 128 + (e.val - 128); omega)
      refine (congrArg (fun i : Fin 256 => sides (mixed arg20 x0 x1 x2 ⟨37, by omega⟩) (mixed arg20 x0 x1 x2 ⟨38, by omega⟩) (ix2 t i)) hi).trans ?_
      refine (sides_right _ _ t ⟨e.val - 128, by omega⟩).trans ?_
      refine (mixed_apply arg20 x0 x1 x2 P Q MU b h0 h1 h2 ⟨38, by omega⟩ t ⟨e.val - 128, by omega⟩ (by dsimp only; omega)).trans ?_
      exact congrArg (mix P Q MU b t) (Fin.ext (by dsimp only; omega))

include h0 h1 h2 in
theorem queryTile_apply (q : Fin 12) (t : Fin 32) (l : Fin 128) :
    queryTile arg20 x0 x1 x2 q (ix2 t l) = queryE P Q MU b t (at128 q l) := by
  refine (mixed_apply arg20 x0 x1 x2 P Q MU b h0 h1 h2 ⟨q.val, by omega⟩ t l (by dsimp only; omega)).trans ?_
  exact congrArg (mix P Q MU b t) (Fin.ext (by dsimp only [at128]))

include h0 h1 h2 h5 h6 h6' h9 h10 in
theorem bonusTile_apply (q : Fin 12) (t : Fin 32) (e : Fin 2) (d : Fin 64) :
    bonusTile arg20 x0 x1 x2 x5 x6 x9 x10 q (ix2 t (lane e d)) = bonusE P Q MU A0 A2 KA RK b t (headNo q e) d := by
  refine (bonus_sum _ _ _ _ t (lane e d)).trans ?_
  rw [sum_lane _ e fun e' i h => by rw [onesBd_apply, if_neg h, mul_zero], valTile_apply arg20 x0 x1 x2 P Q MU b h0 h1 h2, at128_lane]
  unfold bonusE
  refine congrArg (· * _) (Finset.sum_congr rfl fun i _ => ?_)
  rw [onesBd_apply, if_pos rfl, mul_one, queryTile_apply arg20 x0 x1 x2 P Q MU b h0 h1 h2,
    kTile_apply arg20 x0 x1 x2 x5 x6 x9 P Q MU A0 A2 KA b h0 h1 h2 h5 h6 h6' h9, rowTile_apply, at128_lane, h10]

variable (hf : Finite P Q MU W0 W2 A0 A2 KK KA S)

include h0 h1 h2 h3 h4 h4' h5 h6 h6' h8 h9 h11 hf in
/-- What a pair's queries read of each head. -/
theorem outAt_apply (q : Fin 12) (t : Fin 32) (e : Fin 2) (x : Fin 64) :
    outAt arg20 arg21 arg22 arg23 arg24 arg25 arg26 x0 x1 x2 x3 x4 x5 x6 x8 x9 q (initAt x11 q) (ix2 t (lane e x))
      = ((outR P Q MU W0 W2 A0 A2 KK KA S b (headNo q e) t x : ℝ) : EReal) := by
  have hlw : ∀ (e : Fin 2) (t : Fin 32) (d : Fin 64), lwAll arg20 x0 x1 x2 x3 x4 (ix2 t (at128 q (lane e d)))
      = ((lwR P Q MU W0 W2 b (headNo q e) t d : ℝ) : EReal) := by
    intro e t d
    rw [lwAll_apply arg20 x0 x1 x2 x3 x4 P Q MU W0 W2 b h0 h1 h2 h3 h4 h4', at128_lane]
    exact (hf.lw _ _ _).coe.symm
  unfold outAt
  rw [back_eq, back_eq, back_eq, back_eq, back_eq]
  refine (outTile_real (fun e => lwR P Q MU W0 W2 b (headNo q e)) (fun e => keyR P Q MU A0 A2 KA b (headNo q e))
    (fun e => valR P Q MU b (headNo q e)) (fun e => addR P Q MU A0 A2 KK b (headNo q e)) (fun e => unitR P Q MU KK b (headNo q e))
    (fun e => queryR P Q MU b (headNo q e)) (fun e => startR S b (headNo q e)) _ _ _ _ _ _ _ _ ?_ ?_ ?_ ?_ ?_ ?_ ?_ ?_ ?_ t e x).trans rfl
  · intro e t d
    rw [lw_read]
    exact hlw e t d
  · intro e t d
    rw [kTile_apply arg20 x0 x1 x2 x5 x6 x9 P Q MU A0 A2 KA b h0 h1 h2 h5 h6 h6' h9, at128_lane]
    exact (hf.key _ _ _).coe.symm
  · intro e t d
    rw [valTile_apply arg20 x0 x1 x2 P Q MU b h0 h1 h2, at128_lane]
    exact (hf.mix _ _ _).coe.symm
  · intro e t d
    rw [knTile_apply arg20 x0 x1 x2 x8 P Q MU KK b h0 h1 h2 h8]
    exact (hf.unit _ _ _ _).coe.symm
  · intro e t d
    rw [bTile_apply arg20 x0 x1 x2 x5 x6 x8 P Q MU A0 A2 KK b h0 h1 h2 h5 h6 h6' h8]
    exact (hf.add _ _ _ _).coe.symm
  · intro e t d
    rw [queryTile_apply arg20 x0 x1 x2 P Q MU b h0 h1 h2, at128_lane]
    exact (hf.mix _ _ _).coe.symm
  · intro e t d
    have hc := cumsum_real (lwAll arg20 x0 x1 x2 x3 x4) (fun t => lwR P Q MU W0 W2 b (headNo q e) t d) (at128 q (lane e d)) (fun t => hlw e t d) t
    refine Eq.trans ?_ hc
    unfold cumTile cumAll
    rw [lw_whole]
    generalize cumsum (lwAll arg20 x0 x1 x2 x3 x4) = z
    generalize lane e d = l
    pointwise [at128]
  · intro e x y
    rw [initAt_apply x11 S b h11]
    exact (hf.start _ _ _ _).coe.symm
  · intro e e' x y h
    exact initTile_off _ _ e e' x y h

include h0 h1 h2 h3 h4 h4' h5 h6 h6' h8 h9 h11 h7 h7' h10 h12 h13 hf in
/-- The token output of a pair. -/
theorem tokenAt_apply (q : Fin 12) (t : Fin 32) (e : Fin 2) (d : Fin 64) :
    tokenAt arg20 arg19 arg21 arg22 arg23 arg24 arg25 arg26 arg27 arg28 x0 x1 x2 x3 x4 x5 x6 x8 x9 x11 x7 x10 x12 x13 q (ix2 t (lane e d))
      = tokenE P Q MU W0 W2 A0 A2 KK KA S G2 RK LG LB b t (headNo q e) d := by
  unfold tokenAt
  rw [stateIn_eq, back_eq]
  refine (tokenTile_real _ _ _ _ _ t e (outR P Q MU W0 W2 A0 A2 KK KA S b (headNo q e) t) (fun i => outAt_apply arg20 arg21 arg22 arg23 arg24 arg25
    arg26 x0 x1 x2 x3 x4 x5 x6 x8 x9 x11 P Q S MU W0 W2 A0 A2 KK KA b h0 h1 h2 h3 h4 h4' h5 h6 h6' h8 h9 h11 hf q t e i) d).trans ?_
  rw [rowTile_apply, rowTile_apply, h12, h13, bonusTile_apply arg20 x0 x1 x2 x5 x6 x9 x10 P Q MU A0 A2 KA RK b h0 h1 h2 h5 h6 h6' h9 h10,
    gate_read, outGate_apply arg20 x0 x1 x2 x7 P Q MU G2 b h0 h1 h2 h7 h7', at128_lane]
  rfl

/-- Twelve stores of an output block, at an index. -/
theorem token_canon (w : Fin 12 → FVec Ideal S32x128 .bf16) (q : Fin 12) (x : (lanes q).shape.Idx) :
    View.canon (Val := Elt Ideal) (e := .bf16) (List.ofFn fun k : Fin 12 => (⟨lanes ⟨11 - k.val, by omega⟩, w ⟨11 - k.val, by omega⟩⟩ : View.Piece (Elt Ideal) S32x1536 .bf16))
      ((lanes q).emb x) = w q x := by
  obtain ⟨k, rfl⟩ : ∃ k : Fin 12, q = ⟨11 - k.val, by omega⟩ := ⟨⟨11 - q.val, by omega⟩, Fin.ext (by dsimp only; omega)⟩
  refine (View.canon_ofFn_emb_of_disjoint (Val := Elt Ideal) (fun k : Fin 12 => lanes ⟨11 - k.val, by omega⟩) _ (fun i j h => ?_) k x).trans rfl
  refine lanes_disjoint _ _ fun e => h (Fin.ext ?_)
  have := congrArg Fin.val e
  dsimp only at this
  omega

include h0 h1 h2 h3 h4 h4' h5 h6 h6' h8 h9 h11 h7 h7' h10 h12 h13 hf in
/-- The output block at an index. -/
theorem tokens_value (t : Fin 32) (h : Fin 24) (d : Fin 64) :
    View.canon (List.ofFn (tokenPiece (F := Ideal) arg20 arg19 arg21 arg22 arg23 arg24 arg25 arg26 arg27 arg28 x0 x1 x2 x3 x4 x5 x6 x8 x9 x11 x7 x10
      x12 x13)) (ix2 t (chan h d)) = tokenE P Q MU W0 W2 A0 A2 KK KA S G2 RK LG LB b t h d := by
  obtain ⟨q, e, rfl⟩ : ∃ (q : Fin 12) (e : Fin 2), h = headNo q e :=
    ⟨⟨h.val / 2, by omega⟩, ⟨h.val % 2, by omega⟩, Fin.ext (by dsimp only [headNo]; omega)⟩
  rw [← at128_lane, ← lanes_emb]
  refine (token_canon (tokenAt arg20 arg19 arg21 arg22 arg23 arg24 arg25 arg26 arg27 arg28 x0 x1 x2 x3 x4 x5 x6 x8 x9 x11 x7 x10 x12 x13) q
    (ix2 t (lane e d))).trans ?_
  exact tokenAt_apply arg20 arg19 arg21 arg22 arg23 arg24 arg25 arg26 arg27 arg28 x0 x1 x2 x3 x4 x5 x6 x8 x9 x11 x7 x10 x12 x13 P Q S MU W0 W2 A0 A2
    KK KA G2 RK LG LB b h0 h1 h2 h3 h4 h4' h5 h6 h6' h8 h9 h11 h7 h7' h10 h12 h13 hf q t e d

end block

end Cert.Kernel10Ideal.Wkv
-- ==== Proof.WkvOutEq.lean ====
/-
  What a grid point leaves in the token output's block is the twelve pairs' stores.
-/
module

public import proofs.«01_k».proof.Proof.WkvOut

@[expose] public section

set_option maxRecDepth 65536

noncomputable section

namespace Cert.Kernel10Ideal.Wkv

open Cert.Kernel10Ideal Cert.Kernel10Ideal.Gen Idealize.ShloMosaic Idealize.ShloMosaic.TcCoe Idealize.SL.Sem

set_option maxHeartbeats 4000000 in
/-- A grid point leaves in its output block the twelve pairs, one store each. -/
theorem out_eq
    (c : Dev nD) (i : grid0.Coords) (arg2 : Memref sig .tc .vmem S32x4992 .f32) (harg2 : arg2.IsWhole)
    (arg3 : Memref sig .tc .vmem S1x1x4992 .f32) (harg3 : arg3.IsWhole) (arg4 : Memref sig .tc .vmem S1x4992 .f32) (harg4 : arg4.IsWhole)
    (arg5 : Memref sig .tc .vmem S1x1536 .f32) (harg5 : arg5.IsWhole) (arg6 : Memref sig .tc .vmem S128x1536 .bf16) (harg6 : arg6.IsWhole)
    (arg7 : Memref sig .tc .vmem S1x1536 .f32) (harg7 : arg7.IsWhole) (arg8 : Memref sig .tc .vmem S128x1536 .bf16) (harg8 : arg8.IsWhole)
    (arg9 : Memref sig .tc .vmem S256x1536 .bf16) (harg9 : arg9.IsWhole) (arg10 : Memref sig .tc .vmem S1x1536 .f32)
    (harg10 : arg10.IsWhole) (arg11 : Memref sig .tc .vmem S1x1536 .f32) (harg11 : arg11.IsWhole)
    (arg12 : Memref sig .tc .vmem S1x1536 .f32) (harg12 : arg12.IsWhole) (arg13 : Memref sig .tc .vmem S1x1x24x64x64 .f32)
    (harg13 : arg13.IsWhole) (arg14 : Memref sig .tc .vmem S1x1536 .f32) (harg14 : arg14.IsWhole)
    (arg15 : Memref sig .tc .vmem S1x1536 .f32) (harg15 : arg15.IsWhole) (arg16 : Memref sig .tc .vmem S32x1536 .bf16)
    (harg16 : arg16.IsWhole) (arg17 : Memref sig .tc .vmem S32x1536 .f32) (harg17 : arg17.IsWhole)
    (arg18 : Memref sig .tc .vmem S1x24x64x64 .f32) (harg18 : arg18.IsWhole) (arg19 : Memref sig .tc .vmem S12x128x128 .f32)
    (harg19 : arg19.IsWhole) (arg20 : Memref sig .tc .vmem S1x4992 .f32) (harg20 : arg20.IsWhole)
    (arg21 : Memref sig .tc .vmem S32x1536 .f32) (harg21 : arg21.IsWhole) (arg22 : Memref sig .tc .vmem S32x1536 .f32)
    (harg22 : arg22.IsWhole) (arg23 : Memref sig .tc .vmem S32x1536 .f32) (harg23 : arg23.IsWhole)
    (arg24 : Memref sig .tc .vmem S32x1536 .f32) (harg24 : arg24.IsWhole) (arg25 : Memref sig .tc .vmem S32x1536 .f32)
    (harg25 : arg25.IsWhole) (arg26 : Memref sig .tc .vmem S32x1536 .f32) (harg26 : arg26.IsWhole)
    (arg27 : Memref sig .tc .vmem S32x1536 .f32) (harg27 : arg27.IsWhole) (arg28 : Memref sig .tc .vmem S32x1536 .f32)
    (harg28 : arg28.IsWhole) (hc0 : cond0_0 i) (hc1 : cond0_1 i) (x0 : Vec Ideal S32x4992 .f32) (x1 : Vec Ideal S1x1x4992 .f32)
    (x2 : Vec Ideal S1x4992 .f32) (x3 : Vec Ideal S1x1536 .f32) (x4 : Vec Ideal S128x1536 .bf16) (x5 : Vec Ideal S1x1536 .f32)
    (x6 : Vec Ideal S128x1536 .bf16) (x7 : Vec Ideal S256x1536 .bf16) (x8 : Vec Ideal S1x1536 .f32) (x9 : Vec Ideal S1x1536 .f32)
    (x10 : Vec Ideal S1x1536 .f32) (x11 : Vec Ideal S1x1x24x64x64 .f32) (x12 : Vec Ideal S1x1536 .f32) (x13 : Vec Ideal S1x1536 .f32) :
    out0_A_14 (F := Ideal)
        c i arg2 harg2 arg3 harg3 arg4 harg4 arg5 harg5 arg6 harg6 arg7 harg7 arg8 harg8 arg9 harg9 arg10 harg10 arg11 harg11 arg12
        harg12 arg13 harg13 arg14 harg14 arg15 harg15 arg16 harg16 arg17 harg17 arg18 harg18 arg19 harg19 arg20 harg20 arg21 harg21
        arg22 harg22 arg23 harg23 arg24 harg24 arg25 harg25 arg26 harg26 arg27 harg27 arg28 harg28 hc0 hc1 x0 x1 x2 x3 x4 x5 x6 x7 x8 x9
        x10 x11 x12 x13
      = View.canon (List.ofFn (tokenPiece (F := Ideal) arg20 arg19 arg21 arg22 arg23 arg24 arg25 arg26 arg27 arg28 x0 x1 x2 x3 x4 x5 x6 x8 x9 x11 x7 x10 x12
        x13)) := by
  have e : (kernelRun0_A (F := Ideal)
        c i arg2 harg2 arg3 harg3 arg4 harg4 arg5 harg5 arg6 harg6 arg7 harg7 arg8 harg8 arg9 harg9 arg10 harg10 arg11 harg11 arg12
        harg12 arg13 harg13 arg14 harg14 arg15 harg15 arg16 harg16 arg17 harg17 arg18 harg18 arg19 harg19 arg20 harg20 arg21 harg21
        arg22 harg22 arg23 harg23 arg24 harg24 arg25 harg25 arg26 harg26 arg27 harg27 arg28 harg28 hc0 hc1 x0 x1 x2 x3 x4 x5 x6 x7 x8 x9
        x10 x11 x12 x13).1
      = List.ofFn (tokenPiece (F := Ideal) arg20 arg19 arg21 arg22 arg23 arg24 arg25 arg26 arg27 arg28
        (arg2.view.read (Elt Ideal) (harg2.unread x0)) (arg3.view.read (Elt Ideal) (harg3.unread x1)) (arg4.view.read (Elt Ideal)
        (harg4.unread x2)) (arg5.view.read (Elt Ideal) (harg5.unread x3)) (arg6.view.read (Elt Ideal) (harg6.unread x4)) (arg7.view.read
        (Elt Ideal) (harg7.unread x5)) (arg8.view.read (Elt Ideal) (harg8.unread x6)) (arg10.view.read (Elt Ideal) (harg10.unread x8))
        (arg11.view.read (Elt Ideal) (harg11.unread x9)) (arg13.view.read (Elt Ideal) (harg13.unread x11))
        (arg9.view.read (Elt Ideal) (harg9.unread x7)) (arg12.view.read (Elt Ideal) (harg12.unread x10)) (arg14.view.read (Elt Ideal)
        (harg14.unread x12)) (arg15.view.read (Elt Ideal) (harg15.unread x13))) := by
    sl_kernel_rfl
  rw [harg2.read_unread, harg3.read_unread, harg4.read_unread, harg5.read_unread, harg6.read_unread, harg7.read_unread, harg8.read_unread, harg10.read_unread, harg11.read_unread, harg13.read_unread,
    harg9.read_unread, harg12.read_unread, harg14.read_unread, harg15.read_unread] at e
  exact (View.read_writes_eq_canon _ _ _ (cover0_A_14
        c i arg2 harg2 arg3 harg3 arg4 harg4 arg5 harg5 arg6 harg6 arg7 harg7 arg8 harg8 arg9 harg9 arg10 harg10 arg11 harg11 arg12
        harg12 arg13 harg13 arg14 harg14 arg15 harg15 arg16 harg16 arg17 harg17 arg18 harg18 arg19 harg19 arg20 harg20 arg21 harg21
        arg22 harg22 arg23 harg23 arg24 harg24 arg25 harg25 arg26 harg26 arg27 harg27 arg28 harg28 hc0 hc1 x0 x1 x2 x3 x4 x5 x6 x7 x8 x9
        x10 x11 x12 x13)).trans
    (congrArg View.canon e)

end Cert.Kernel10Ideal.Wkv
-- ==== Proof.WkvTokenValue.lean ====
/-
  The token output's whole array: what the run leaves is, head by head, the normalized reads of the frames with the bonus and the gate,
  where the arguments that the recurrence reads are real numbers.
-/
module

public import proofs.«01_k».proof.Proof.WkvValue
public import proofs.«01_k».proof.Proof.WkvTokenBlock
public import proofs.«01_k».proof.Proof.WkvOutEq

@[expose] public section

set_option maxRecDepth 65536

noncomputable section

namespace Cert.Kernel10Ideal.Wkv

open Cert.Kernel10Ideal Cert.Kernel10Ideal.Gen Idealize.ShloMosaic Idealize.ShloMosaic.TcCoe Idealize.SL.Sem

variable (m : (ℓ : Loc nD τ sig) → Buf (Elt Ideal) ℓ) (c : Dev nD)

/-- The weights of the token output. -/
def argG2 : FVec Ideal S224x1536 .f32 := m ((c : Thread nD τ).loc main_arg8)
def argRK : FVec Ideal S24x64 .f32 := m ((c : Thread nD τ).loc main_arg11)
def argLG : FVec Ideal S1536 .f32 := m ((c : Thread nD τ).loc main_arg12)
def argLB : FVec Ideal S1536 .f32 := m ((c : Thread nD τ).loc main_arg13)

theorem entry7 (e : Fin 224) (n : Fin 1536) :
    (V m c main_v12 : FVec Ideal S256x1536 .bf16) (ix2 ⟨e.val, by omega⟩ n) = argG2 m c (ix2 e n) := by
  unfold V argG2
  after_reads_at
  after_reads_at
theorem entry7' (e : Fin 32) (n : Fin 1536) : (V m c main_v12 : FVec Ideal S256x1536 .bf16) (ix2 ⟨224 + e.val, by omega⟩ n) = (0 : EReal) := by
  unfold V
  after_reads_at
  after_reads_at
theorem entry10 (h : Fin 24) (d : Fin 64) : (V m c main_v15 : FVec Ideal S1x1536 .f32) (ix2 0 (chan h d)) = argRK m c (ix2 h d) := by
  unfold V argRK
  after_reads_at
  exact congrArg (m ((c : Thread nD τ).loc main_arg11))
    (congrArg₂ (fun u v => ix2 u v) (Fin.ext (by dsimp only [chan]; omega)) (Fin.ext (by dsimp only [chan]; omega)))
theorem entry12 (n : Fin 1536) : (V m c main_v16 : FVec Ideal S1x1536 .f32) (ix2 0 n) = argLG m c (ix1 n) := by
  unfold V argLG
  after_reads_at
theorem entry13 (n : Fin 1536) : (V m c main_v17 : FVec Ideal S1x1536 .f32) (ix2 0 n) = argLB m c (ix1 n) := by
  unfold V argLB
  after_reads_at

theorem token_maps : ∀ t : Fin grid0.N, win0_7.index t = ![0, 0] ∧ win0_10.index t = ![0, 0] ∧ win0_12.index t = ![0, 0]
    ∧ win0_13.index t = ![0, 0] ∧ win0_14.index t = ![t.val, 0] := by
  decide +kernel

theorem win7 (t : Fin cfg0.N) (e : Fin 224) (n : Fin 1536) :
    (iblk m c 7 t : FVec Ideal S256x1536 .bf16) (ix2 ⟨e.val, by omega⟩ n) = argG2 m c (ix2 e n) := by
  rw [← entry7]
  blk_ext [iblk, (token_maps t).1]
theorem win7' (t : Fin cfg0.N) (e : Fin 32) (n : Fin 1536) :
    (iblk m c 7 t : FVec Ideal S256x1536 .bf16) (ix2 ⟨224 + e.val, by omega⟩ n) = (0 : EReal) := by
  rw [← entry7' m c e n]
  blk_ext [iblk, (token_maps t).1]
theorem win10 (t : Fin cfg0.N) (h : Fin 24) (d : Fin 64) :
    (iblk m c 10 t : FVec Ideal S1x1536 .f32) (ix2 0 (chan h d)) = argRK m c (ix2 h d) := by
  rw [← entry10]
  blk_ext [iblk, (token_maps t).2.1]
theorem win12 (t : Fin cfg0.N) (n : Fin 1536) : (iblk m c 12 t : FVec Ideal S1x1536 .f32) (ix2 0 n) = argLG m c (ix1 n) := by
  rw [← entry12]
  blk_ext [iblk, (token_maps t).2.2.1]
theorem win13 (t : Fin cfg0.N) (n : Fin 1536) : (iblk m c 13 t : FVec Ideal S1x1536 .f32) (ix2 0 n) = argLB m c (ix1 n) := by
  rw [← entry13]
  blk_ext [iblk, (token_maps t).2.2.2.1]

/-- The token output of an entry's frame. -/
def tokenOf (b t : Fin 32) (h : Fin 24) (d : Fin 64) : EReal :=
  tokenE (argP m c) (argQ m c) (argMu m c) (argW0 m c) (argW2 m c) (argA0 m c) (argA2 m c) (argKK m c) (argKA m c) (argS m c) (argG2 m c)
    (argRK m c) (argLG m c) (argLB m c) b t h d

/-- The token output that the run leaves: row `32 b + t` is frame `t` of entry `b`. -/
def result14 : FVec Ideal S1024x1536 .bf16 := fun i =>
  tokenOf m c ⟨(i 0).val / 32, by have h : (i 0).val < 1024 := (i 0).isLt; omega⟩ ⟨(i 0).val % 32, by omega⟩
    ⟨(i 1).val / 64, by have h : (i 1).val < 1536 := (i 1).isLt; omega⟩ ⟨(i 1).val % 64, by omega⟩

variable (hf : Finite (argP m c) (argQ m c) (argMu m c) (argW0 m c) (argW2 m c) (argA0 m c) (argA2 m c) (argKK m c) (argKA m c) (argS m c))

include hf in
/-- What a grid point leaves in its block of the token output. -/
theorem block_tokens (t : Fin cfg0.N) (r : Fin 32) (h : Fin 24) (d : Fin 64) :
    ((outsAt0 m c t).1 : FVec Ideal S32x1536 .bf16) (ix2 r (chan h d)) = tokenOf m c (entryNo t) r h d := by
  unfold outsAt0
  dsimp only
  rw [out_eq]
  exact tokens_value _ _ _ _ _ _ _ _ _ _ _ _ _ _ _ _ _ _ _ _ _ _ _ _ (argP m c) (argQ m c) (argS m c) (argMu m c) (argW0 m c) (argW2 m c)
    (argA0 m c) (argA2 m c) (argKK m c) (argKA m c) (argG2 m c) (argRK m c) (argLG m c) (argLB m c) (entryNo t) (win0 m c t) (win1 m c t)
    (win2 m c t) (win3 m c t) (win4 m c t) (win4' m c t) (win5 m c t) (win6 m c t) (win6' m c t) (win8 m c t) (win9 m c t) (win11 m c t)
    (win7 m c t) (win7' m c t) (win10 m c t) (win12 m c t) (win13 m c t) hf r h d

include hf in
theorem final14 : (dats m 0 c).arrAt 14 cfg0.N = result14 m c := by
  refine (dats m 0 c).arrAt_eq_of_covers 14 _ (by decide +kernel) fun t hf' y => ?_
  blk_simp
  rw [after0_14]
  obtain ⟨r, h, d, rfl⟩ : ∃ (r : Fin 32) (h : Fin 24) (d : Fin 64), y = ix2 r (chan h d) :=
    ⟨y 0, ⟨(y 1).val / 64, by have h : (y 1).val < 1536 := (y 1).isLt; omega⟩, ⟨(y 1).val % 64, by omega⟩, funext fun a => by
      fin_cases a
      · rfl
      · exact Fin.ext (by show (y 1).val = 64 * ((y 1).val / 64) + (y 1).val % 64; omega)⟩
  rw [block_tokens m c hf t]
  unfold result14
  congr 1 <;> refine Fin.ext ?_ <;> blk_simp [(token_maps t).2.2.2.2]
  all_goals (try dsimp only [entryNo, chan])
  all_goals omega

end Cert.Kernel10Ideal.Wkv
-- ==== Proof.WkvRef.lean ====
/-
  The reference of the recurrence at an index: the values a frame brings, and the state after every frame, a step at a time.
-/
module

public import proofs.«01_k».proof.Proof.WkvFrame
public import proofs.«01_k».proof.Proof.Gen.Reference10Ideal.Read
public import Idealize.ShloMosaic.Lib.Pointwise

@[expose] public section

set_option maxRecDepth 65536
set_option backward.proofsInPublic true

noncomputable section

namespace Cert.Kernel10Ideal.WkvRef

open Idealize.ShloMosaic Idealize.ShloMosaic.TcCoe Idealize.SL.Sem
open Cert.Reference10Ideal Cert.Reference10Ideal.Gen Cert.Reference10Ideal.Read Cert.Kernel10Ideal.Wkv

theorem slices_at : ∀ t : Fin 32, S32x32x24x64.Slices ![t.val, 0, 0, 0] S1x32x24x64 := by
  decide

/-- Frame `n` of an array that has the frames in front. -/
def part (n : ℕ) (X : FVec Ideal S32x32x24x64 .f32) : FVec Ideal S32x24x64 .f32 :=
  shapeCast S32x24x64 (extractStridedSlice S1x32x24x64 ![(Fin.ofNat 32 n).val, 0, 0, 0] X (slices_at _)) shapeCasts_S1x32x24x64_S32x24x64

theorem part_apply (n : ℕ) (X : FVec Ideal S32x32x24x64 .f32) (b : Fin 32) (h : Fin 24) (d : Fin 64) :
    part n X (ix3 b h d) = X (ix4 (Fin.ofNat 32 n) b h d) := by
  pointwise [part]

/-- The reference's step: the decayed state, what the state reads at the removal vectors added back, and the new pairs. -/
def stepOf (D K V A B : FVec Ideal S32x24x64 .f32) (S : FVec Ideal S32x24x64x64 .f32) : FVec Ideal S32x24x64x64 .f32 :=
  addf (addf
    (mulf S (broadcastInDim S32x24x64x64 ![0, 1, 2, 3] bcast_S32x24x1x64_S32x24x64x64_0_1_2_3
      (broadcastInDim S32x24x1x64 ![0, 1, 3] bcast_S32x24x64_S32x24x1x64_0_1_3 D)))
    (mulf
      (broadcastInDim S32x24x64x64 ![0, 1, 2, 3] bcast_S32x24x64x1_S32x24x64x64_0_1_2_3
        (broadcastInDim S32x24x64x1 ![0, 1, 2] bcast_S32x24x64_S32x24x64x1_0_1_2
          (Host.dotGeneral (F := Ideal) dot_S32x24x64x64_S32x24x64_S32x24x64_3_2_2_n_01_01 none S A)))
      (broadcastInDim S32x24x64x64 ![0, 1, 2, 3] bcast_S32x24x1x64_S32x24x64x64_0_1_2_3
        (broadcastInDim S32x24x1x64 ![0, 1, 3] bcast_S32x24x64_S32x24x1x64_0_1_3 B))))
    (mulf
      (broadcastInDim S32x24x64x64 ![0, 1, 2, 3] bcast_S32x24x64x1_S32x24x64x64_0_1_2_3
        (broadcastInDim S32x24x64x1 ![0, 1, 2] bcast_S32x24x64_S32x24x64x1_0_1_2 V))
      (broadcastInDim S32x24x64x64 ![0, 1, 2, 3] bcast_S32x24x1x64_S32x24x64x64_0_1_2_3
        (broadcastInDim S32x24x1x64 ![0, 1, 3] bcast_S32x24x64_S32x24x1x64_0_1_3 K)))

/-- The step at an index. -/
theorem stepOf_apply (D K V A B : FVec Ideal S32x24x64 .f32) (S : FVec Ideal S32x24x64x64 .f32) (b : Fin 32) (h : Fin 24) (x y : Fin 64) :
    stepOf D K V A B S (ix4 b h x y)
      = (S (ix4 b h x y) * D (ix3 b h y) + (∑ z : Fin 64, S (ix4 b h x z) * A (ix3 b h z)) * B (ix3 b h y)) + V (ix3 b h x) * K (ix3 b h y) := by
  pointwise [stepOf]

variable (x0 : FVec Ideal S32x32x4960 .f32) (x1 : FVec Ideal S32x1x4960 .f32) (x2 : FVec Ideal S32x24x64x64 .f32) (x3 : FVec Ideal S4960 .f32)
  (x4 : FVec Ideal S1536 .f32) (x5 : FVec Ideal S64x1536 .f32) (x6 : FVec Ideal S1536 .f32) (x7 : FVec Ideal S64x1536 .f32)
  (x9 x10 : FVec Ideal S1536 .f32)

theorem chan_eq (h : Fin 24) (d : Fin 64) (p : h.val * 64 + d.val < 1536) : (⟨h.val * 64 + d.val, p⟩ : Fin 1536) = chan h d :=
  Fin.ext (by dsimp only [chan]; omega)
theorem col_eq (k : ℕ) (h : Fin 24) (d : Fin 64) (p : k + (h.val * 64 + d.val) < 4960) :
    (⟨k + (h.val * 64 + d.val), p⟩ : Fin 4960) = ⟨k + (chan h d).val, by dsimp only [chan]; omega⟩ :=
  Fin.ext (by dsimp only [chan]; omega)

/-- A mixed frame. -/
theorem mix_apply (b t : Fin 32) (c : Fin 4960) : val_main_v6 (F := Ideal) x0 x1 x3 (ix3 b t c) = mix x0 x1 x3 b t c := by
  unfold mix prev
  pointwise [val_main_v6, val_main_v5, val_main_v4, val_main_v3, val_main_v2, val_main_v1, val_main_v0]
  refine congrArg (fun e => x0 (ix3 b t c) + (e - x0 (ix3 b t c)) * x3 (ix1 c)) ?_
  by_cases h : t.val = 0
  · rw [dif_pos (by omega), if_pos h]
    exact congrArg (fun u => x1 (ix3 b u c)) (Subsingleton.elim _ _)
  · rw [dif_neg (by omega), if_neg h]

/-- The value columns, as rows. -/
theorem rows_apply (b t : Fin 32) (n : Fin 1536) :
    val_main_v1072 (F := Ideal) x0 x1 x3 (ix2 ⟨32 * b.val + t.val, by omega⟩ n) = valE x0 x1 x3 b t n := by
  unfold valE
  rw [← mix_apply]
  generalize hm : val_main_v6 (F := Ideal) x0 x1 x3 = M
  pointwise [val_main_v1072, val_main_v9, hm]

/-- The values, head by head. -/
theorem val_apply (b t : Fin 32) (h : Fin 24) (d : Fin 64) :
    val_main_v73 (F := Ideal) x0 x1 x3 (ix4 t b h d) = valE x0 x1 x3 b t (chan h d) := by
  unfold valE
  rw [← mix_apply]
  generalize hm : val_main_v6 (F := Ideal) x0 x1 x3 = M
  pointwise [val_main_v73, val_main_v62, val_main_v9, hm]
  simp only [col_eq]

/-- The log decay. -/
theorem lw_apply (b t : Fin 32) (n : Fin 1536) : val_main_v66 (F := Ideal) x0 x1 x3 x4 x5 (ix4 b t ⟨n.val / 64, by omega⟩ ⟨n.val % 64, by omega⟩)
    = lwE x0 x1 x3 x4 x5 b t n := by
  unfold lwE decayOf soft half
  simp only [← mix_apply]
  generalize hm : val_main_v6 (F := Ideal) x0 x1 x3 = M
  pointwise [val_main_v66, val_main_v65, val_main_v64, val_main_v22, val_main_v21, val_main_cst, val_main_v20, val_main_v19, val_main_call0_v4,
    val_main_call0_v6, val_main_call0_v11, val_main_call0_v10, val_main_call0_v9, val_main_call0_v8, val_main_call0_v7, val_main_call0_v5,
    val_main_call0_v3, val_main_call0_v2, val_main_call0_v1, val_main_call0_v0, val_main_call0_cst, val_main_v18, val_main_v17, val_main_v16,
    val_main_v15, val_main_v14, val_main_v13, val_main_v10, hm]
  rw [if_neg (not_not.mpr rfl)]
  rfl

/-- The gate. -/
theorem gate_apply (b t : Fin 32) (n : Fin 1536) : val_main_v32 (F := Ideal) x0 x1 x3 x6 x7 (ix3 b t n) = gateE x0 x1 x3 x6 x7 b t n := by
  unfold gateE
  simp only [← mix_apply]
  generalize hm : val_main_v6 (F := Ideal) x0 x1 x3 = M
  pointwise [val_main_v32, val_main_v31, val_main_cst_1, val_main_v30, val_main_v29, val_main_cst_0, val_main_v28, val_main_v27, val_main_v26,
    val_main_v25, val_main_v24, val_main_v23, val_main_v11, hm]
  rfl

/-- The key times its weight. -/
theorem raw_apply (b t : Fin 32) (n : Fin 1536) : val_main_v42 (F := Ideal) x0 x1 x3 x9 (ix3 b t n) = rawE x0 x1 x3 x9 b t n := by
  unfold rawE
  rw [← mix_apply]
  generalize hm : val_main_v6 (F := Ideal) x0 x1 x3 = M
  pointwise [val_main_v42, val_main_v41, val_main_v40, val_main_v8, hm]

/-- The normalized key. -/
theorem unit_apply (b t : Fin 32) (h : Fin 24) (d : Fin 64) :
    val_main_v51 (F := Ideal) x0 x1 x3 x9 (ix4 b t h d) = unitE x0 x1 x3 x9 b t h d := by
  unfold unitE normE tiny
  simp only [← raw_apply]
  generalize hm : val_main_v42 (F := Ideal) x0 x1 x3 x9 = M
  pointwise [val_main_v51, val_main_v50, val_main_v49, val_main_v48, val_main_cst_5, val_main_v47, val_main_v46, val_main_v45, val_main_cst_4,
    val_main_v44, val_main_v43, hm]
  simp only [chan_eq]

/-- The gated key. -/
theorem key_apply (b t : Fin 32) (h : Fin 24) (d : Fin 64) :
    val_main_v72 (F := Ideal) x0 x1 x3 x6 x7 x10 (ix4 t b h d) = keyE x0 x1 x3 x6 x7 x10 b t (chan h d) := by
  unfold keyE
  rw [← mix_apply, ← gate_apply]
  generalize hm : val_main_v6 (F := Ideal) x0 x1 x3 = M
  generalize hg : val_main_v32 (F := Ideal) x0 x1 x3 x6 x7 = G
  pointwise [val_main_v72, val_main_v61, val_main_v59, val_main_v58, val_main_v57, val_main_cst_7, val_main_v56, val_main_v55, val_main_v54,
    val_main_v53, val_main_v52, val_main_cst_6, val_main_v8, hm, hg]
  simp only [chan_eq, col_eq]

/-- The normalized key times its gate. -/
theorem add_apply (b t : Fin 32) (h : Fin 24) (d : Fin 64) :
    val_main_v75 (F := Ideal) x0 x1 x3 x6 x7 x9 (ix4 t b h d) = addE x0 x1 x3 x6 x7 x9 b t h d := by
  unfold addE
  rw [← unit_apply, ← gate_apply]
  generalize hm : val_main_v51 (F := Ideal) x0 x1 x3 x9 = M
  generalize hg : val_main_v32 (F := Ideal) x0 x1 x3 x6 x7 = G
  pointwise [val_main_v75, val_main_v69, val_main_v63, hm, hg]
  simp only [chan_eq]

/-- The removal vectors. -/
theorem neg_apply (b t : Fin 32) (h : Fin 24) (d : Fin 64) :
    val_main_v74 (F := Ideal) x0 x1 x3 x9 (ix4 t b h d) = -unitE x0 x1 x3 x9 b t h d := by
  rw [← unit_apply]
  generalize hm : val_main_v51 (F := Ideal) x0 x1 x3 x9 = M
  pointwise [val_main_v74, val_main_v68, hm]

/-- The decay. -/
theorem decay_apply (b t : Fin 32) (h : Fin 24) (d : Fin 64) :
    val_main_v71 (F := Ideal) x0 x1 x3 x4 x5 (ix4 t b h d) = Ideal.exp (lwE x0 x1 x3 x4 x5 b t (chan h d)) := by
  rw [← lw_apply]
  generalize hm : val_main_v66 (F := Ideal) x0 x1 x3 x4 x5 = M
  pointwise [val_main_v71, val_main_v67, hm]
  exact congrArg (fun i => Ideal.exp (M i)) (congrArg₂ (fun u v => ix4 b t u v) (Fin.ext (by dsimp only [chan]; omega)) (Fin.ext (by dsimp only [chan]; omega)))

/-- The reference's state after `n` frames. -/
def stateAt : ℕ → FVec Ideal S32x24x64x64 .f32
  | 0 => x2
  | n + 1 => stepOf (part n (val_main_v71 (F := Ideal) x0 x1 x3 x4 x5)) (part n (val_main_v72 (F := Ideal) x0 x1 x3 x6 x7 x10))
      (part n (val_main_v73 (F := Ideal) x0 x1 x3)) (part n (val_main_v74 (F := Ideal) x0 x1 x3 x9))
      (part n (val_main_v75 (F := Ideal) x0 x1 x3 x6 x7 x9)) (stateAt n)

variable {x0 x1 x3 x4 x5 x6 x7 x9 x10 x2} in
/-- The reference's state after `n` frames is the real recurrence. -/
theorem stateAt_apply (hf : Finite x0 x1 x3 x4 x5 x6 x7 x9 x10 x2) : ∀ n : ℕ, n ≤ 32 → ∀ (b : Fin 32) (h : Fin 24) (x y : Fin 64),
    stateAt x0 x1 x2 x3 x4 x5 x6 x7 x9 x10 n (ix4 b h x y) = ((stateR x0 x1 x3 x4 x5 x6 x7 x9 x10 x2 n b h x y : ℝ) : EReal)
  | 0, _, b, h, x, y => by
    unfold stateAt stateR
    rw [Cert.Wkv.state]
    exact (hf.start b h x y).coe.symm
  | n + 1, hn, b, h, x, y => by
    have ht : n < 32 := hn
    have ih := stateAt_apply hf n ht.le b h
    have e : Fin.ofNat 32 n = ⟨n, ht⟩ := Fin.ext (Nat.mod_eq_of_lt ht)
    unfold stateAt
    rw [stepOf_apply]
    simp only [part_apply, e, decay_apply, key_apply, val_apply, neg_apply, add_apply, ih]
    unfold stateR
    rw [Cert.Wkv.state, dif_pos ht]
    rw [← (hf.lw b ⟨n, ht⟩ (chan h y)).coe, ← (hf.key b ⟨n, ht⟩ (chan h y)).coe, ← (hf.add b ⟨n, ht⟩ h y).coe,
      ← (show IsReal (valE x0 x1 x3 b ⟨n, ht⟩ (chan h x)) from hf.mix _ _ _).coe, Ideal.exp_coe]
    rw [EReal.coe_add, EReal.coe_add, EReal.coe_mul, EReal.coe_mul, EReal.coe_mul, Cert.Kernel10Ideal.Wkv.coe_sum]
    refine congrArg (fun s => _ + s * _ + _) (Finset.sum_congr rfl fun z _ => ?_)
    rw [← (hf.unit b ⟨n, ht⟩ h z).coe, EReal.coe_mul, EReal.coe_neg]
    rfl

/-- The reference's last state is the one after 32 frames. -/
theorem last_state : val_main_v1002 (F := Ideal) x0 x1 x2 x3 x4 x5 x6 x7 x9 x10 = stateAt x0 x1 x2 x3 x4 x5 x6 x7 x9 x10 32 := rfl

end Cert.Kernel10Ideal.WkvRef
-- ==== Proof.WkvTokenNorm.lean ====
/-
  The rest of the reference's token output: the normalization of each head, the bonus and the gate, at an index.
-/
module

public import proofs.«01_k».proof.Proof.WkvToken
public import proofs.«01_k».proof.Proof.WkvRef

@[expose] public section

set_option maxRecDepth 65536
set_option backward.proofsInPublic true

noncomputable section

namespace Cert.Kernel10Ideal.WkvRef

open Idealize.ShloMosaic Idealize.ShloMosaic.TcCoe Idealize.SL.Sem
open Cert.Reference10Ideal Cert.Reference10Ideal.Gen Cert.Reference10Ideal.Read Cert.Kernel10Ideal.Wkv

theorem sixtyFour : Ideal.ofBits .f32 0x42800000#32 = ((64 : ℝ) : EReal) := by
  simp [Ideal.ofBits, Ideal.ieee, -EReal.coe_mul]; norm_num

theorem count_apply (i : S_.Idx) : val_main_call1_v8 (F := Ideal) i = ((64 : ℝ) : EReal) := by
  pointwise [val_main_call1_v8, val_main_call1_v7, val_main_c, val_main_call1_cst_1]
  rw [sixtyFour]
  refine (congrArg (((64 : ℝ) : EReal) - ·) (show ((((0#32 : BitVec 32).toInt : ℤ) : ℝ) : EReal) = 0 by simp)).trans (sub_zero _)

variable (x0 : FVec Ideal S32x32x4960 .f32) (x1 : FVec Ideal S32x1x4960 .f32) (x2 : FVec Ideal S32x24x64x64 .f32) (x3 : FVec Ideal S4960 .f32)
  (x4 : FVec Ideal S1536 .f32) (x5 : FVec Ideal S64x1536 .f32) (x6 : FVec Ideal S1536 .f32) (x7 : FVec Ideal S64x1536 .f32)
  (x9 x10 : FVec Ideal S1536 .f32) (x8 : FVec Ideal S224x1536 .f32) (x11 : FVec Ideal S24x64 .f32) (x12 x13 : FVec Ideal S1536 .f32)

/-- The gate of the output. -/
theorem outGate_apply (b t : Fin 32) (n : Fin 1536) : val_main_v39 (F := Ideal) x0 x1 x3 x8 (ix3 b t n) = outGateE x0 x1 x3 x8 b t n := by
  unfold outGateE
  simp only [← mix_apply]
  generalize hm : val_main_v6 (F := Ideal) x0 x1 x3 = M
  pointwise [val_main_v39, val_main_v38, val_main_v37, val_main_cst_3, val_main_v36, val_main_v35, val_main_cst_2, val_main_v34, val_main_v33,
    val_main_v12, hm]
  rfl

/-- A head's mean and variance, and the normalized values, of real numbers. -/
theorem norm_apply (b t : Fin 32) (h : Fin 24) (f : Fin 64 → ℝ)
    (hf : ∀ d, val_main_v1039 (F := Ideal) x0 x1 x2 x3 x4 x5 x6 x7 x9 x10 (ix4 b t h d) = ((f d : ℝ) : EReal)) (d : Fin 64) :
    val_main_v1051 (F := Ideal) x0 x1 x2 x3 x4 x5 x6 x7 x9 x10 (ix4 b t h d) = normed f d := by
  generalize hm : val_main_v1039 (F := Ideal) x0 x1 x2 x3 x4 x5 x6 x7 x9 x10 = M at hf
  have hmean : Ideal.div (∑ i, M (ix4 b t h i)) (Ideal.ofBits .f32 0x42800000#32) = ((mean64 f : ℝ) : EReal) := by
    rw [sixtyFour, Ideal.div_coe (by norm_num)]
    unfold mean64
    rw [EReal.coe_mul, Cert.Kernel10Ideal.Wkv.coe_sum]
    simp only [hf]
  have hc := count_apply
  generalize hcount : val_main_call1_v8 (F := Ideal) = C at hc
  pointwise [val_main_v1051, val_main_v1050, val_main_v1049, val_main_v1048, val_main_v1047, val_main_cst_10, val_main_v1046, val_main_v1045,
    val_main_v1044, val_main_call1_call0_v1, val_main_call1_v13, val_main_call1_cst_3, val_main_call1_v12, val_main_call1_v11, val_main_call1_v10,
    val_main_call1_v9, val_main_call1_cst_2, val_main_call1_v6, val_main_call1_v5, val_main_call1_v4, val_main_call1_v3, val_main_call1_v2,
    val_main_call1_cst_0, val_main_call1_v1, val_main_call1_v0, val_main_call1_cst, val_main_v1043, val_main_v1042, val_main_cst_9, val_main_v1041,
    val_main_v1040, val_main_cst_8, hm, hcount]
  simp only [hmean, hc]
  rw [if_pos (EReal.coe_pos.mpr (by norm_num)), Ideal.div_coe (by norm_num)]
  unfold normed eps
  have hv : (∑ x, (M (ix4 b t h x) - ((mean64 f : ℝ) : EReal)) * (M (ix4 b t h x) - ((mean64 f : ℝ) : EReal))) * ((1 / 64 : ℝ) : EReal)
      = ((mean64 fun i => (f i - mean64 f) * (f i - mean64 f) : ℝ) : EReal) := by
    conv_rhs => unfold mean64
    rw [EReal.coe_mul, Cert.Kernel10Ideal.Wkv.coe_sum]
    refine congrArg (· * _) (Finset.sum_congr rfl fun i _ => ?_)
    rw [hf, EReal.coe_mul, EReal.coe_sub]
    rfl
  rw [hv, hf, EReal.coe_sub]

/-- The bonus. -/
theorem bonus_apply (Q K V : FVec Ideal S32x32x24x64 .f32) (hQ : val_main_v60 (F := Ideal) x0 x1 x3 = Q)
    (hK : val_main_v61 (F := Ideal) x0 x1 x3 x6 x7 x10 = K) (hV : val_main_v62 (F := Ideal) x0 x1 x3 = V) (b t : Fin 32) (h : Fin 24) (d : Fin 64) :
    val_main_v1066 (F := Ideal) x0 x1 x3 x6 x7 x10 x11 (ix4 b t h d)
      = (∑ i, Q (ix4 b t h i) * K (ix4 b t h i) * x11 (ix2 h i)) * V (ix4 b t h d) := by
  pointwise [val_main_v1066, val_main_v1065, val_main_v1064, val_main_v1063, val_main_cst_11, val_main_v1062, val_main_v1061, val_main_v1060,
    val_main_v1059, hQ, hK, hV]

/-- The token output from its parts. -/
theorem token_parts (N : FVec Ideal S32x32x24x64 .f32) (B : FVec Ideal S32x32x24x64 .f32) (G : FVec Ideal S32x32x1536 .f32)
    (hN : val_main_v1051 (F := Ideal) x0 x1 x2 x3 x4 x5 x6 x7 x9 x10 = N) (hB : val_main_v1066 (F := Ideal) x0 x1 x3 x6 x7 x10 x11 = B)
    (hG : val_main_v39 (F := Ideal) x0 x1 x3 x8 = G) (b t : Fin 32) (n : Fin 1536) :
    val_main_v1071 (F := Ideal) x0 x1 x2 x3 x4 x5 x6 x7 x8 x9 x10 x11 x12 x13 (ix2 ⟨32 * b.val + t.val, by omega⟩ n)
      = (N (ix4 b t ⟨n.val / 64, by omega⟩ ⟨n.val % 64, by omega⟩) * x12 (ix1 n) + x13 (ix1 n)
          + B (ix4 b t ⟨n.val / 64, by omega⟩ ⟨n.val % 64, by omega⟩)) * G (ix3 b t n) := by
  pointwise [val_main_v1071, val_main_v1070, val_main_v1069, val_main_v1068, val_main_v1067, val_main_v1058, val_main_v1057, val_main_v1056,
    val_main_v1055, val_main_v1054, val_main_v1053, val_main_v1052, hN, hB, hG]

end Cert.Kernel10Ideal.WkvRef
-- ==== Proof.WkvTokenRef.lean ====
/-
  The reference's token output at an index: what the queries read of the states, each head normalized, with the bonus and the gate.
-/
module

public import proofs.«01_k».proof.Proof.WkvTokenNorm

@[expose] public section

set_option maxRecDepth 65536
set_option backward.proofsInPublic true

noncomputable section

namespace Cert.Kernel10Ideal.WkvRef

open Idealize.ShloMosaic Idealize.ShloMosaic.TcCoe Idealize.SL.Sem
open Cert.Reference10Ideal Cert.Reference10Ideal.Gen Cert.Reference10Ideal.Read Cert.Kernel10Ideal.Wkv

/-- Sixteen frames one under the other, at an index. -/
theorem stacked_apply (f : Fin 16 → FVec Ideal S1x32x24x64 .f32) (xs : List ((s : Shape) × (s.Idx → Ideal .f32)))
    (hx : xs = List.ofFn fun n : Fin 16 => (⟨S1x32x24x64, f n⟩ : (s : Shape) × (s.Idx → Ideal .f32)))
    (h : Shape.Concatenates (xs.map (·.1)) S16x32x24x64 0) (n : Fin 16) (b : Fin 32) (k : Fin 24) (d : Fin 64) :
    concatenate S16x32x24x64 0 xs h (ix4 n b k d) = f n (ix4 0 b k d) := by
  subst hx
  refine concatenate_ofFn_unit_apply 0 f h rfl rfl (ix4 n b k d) n rfl (ix4 0 b k d) fun a ha => ?_
  fin_cases a
  · exact absurd rfl ha
  all_goals rfl

/-- The queries' read of a state. -/
def readOf (S : FVec Ideal S32x24x64x64 .f32) (R : FVec Ideal S32x24x64 .f32) : FVec Ideal S1x32x24x64 .f32 :=
  broadcastInDim S1x32x24x64 ![1, 2, 3] bcast_S32x24x64_S1x32x24x64_1_2_3
    (Host.dotGeneral (F := Ideal) dot_S32x24x64x64_S32x24x64_S32x24x64_3_2_2_n_01_01 none S R)

theorem readOf_apply (S : FVec Ideal S32x24x64x64 .f32) (R : FVec Ideal S32x24x64 .f32) (b : Fin 32) (h : Fin 24) (x : Fin 64) :
    readOf S R (ix4 0 b h x) = ∑ z : Fin 64, S (ix4 b h x z) * R (ix3 b h z) := by
  pointwise [readOf]

variable (x0 : FVec Ideal S32x32x4960 .f32) (x1 : FVec Ideal S32x1x4960 .f32) (x2 : FVec Ideal S32x24x64x64 .f32) (x3 : FVec Ideal S4960 .f32)
  (x4 : FVec Ideal S1536 .f32) (x5 : FVec Ideal S64x1536 .f32) (x6 : FVec Ideal S1536 .f32) (x7 : FVec Ideal S64x1536 .f32)
  (x9 x10 : FVec Ideal S1536 .f32) (x8 : FVec Ideal S224x1536 .f32) (x11 : FVec Ideal S24x64 .f32) (x12 x13 : FVec Ideal S1536 .f32)

/-- The queries, head by head. -/
theorem query_apply (b t : Fin 32) (h : Fin 24) (d : Fin 64) :
    val_main_v60 (F := Ideal) x0 x1 x3 (ix4 b t h d) = queryE x0 x1 x3 b t (chan h d) := by
  unfold queryE
  rw [← mix_apply]
  generalize hm : val_main_v6 (F := Ideal) x0 x1 x3 = M
  pointwise [val_main_v60, val_main_v7, hm]
  refine congrArg (fun c => M (ix3 b t c)) (Fin.ext ?_)
  dsimp only [chan]
  omega

/-- What the queries read after frame `n`. -/
def readAt (n : ℕ) : FVec Ideal S1x32x24x64 .f32 :=
  readOf (stateAt x0 x1 x2 x3 x4 x5 x6 x7 x9 x10 (n + 1)) (part n (val_main_v70 (F := Ideal) x0 x1 x3))

theorem first_half (n : Fin 16) (b : Fin 32) (h : Fin 24) (d : Fin 64) :
    val_main_v1036 (F := Ideal) x0 x1 x2 x3 x4 x5 x6 x7 x9 x10 (ix4 n b h d) = readAt x0 x1 x2 x3 x4 x5 x6 x7 x9 x10 n.val (ix4 0 b h d) := by
  unfold val_main_v1036
  refine stacked_apply (fun n => readAt x0 x1 x2 x3 x4 x5 x6 x7 x9 x10 n.val) _ ?_ _ n b h d
  rfl

theorem second_half (n : Fin 16) (b : Fin 32) (h : Fin 24) (d : Fin 64) :
    val_main_v1037 (F := Ideal) x0 x1 x2 x3 x4 x5 x6 x7 x9 x10 (ix4 n b h d) = readAt x0 x1 x2 x3 x4 x5 x6 x7 x9 x10 (16 + n.val) (ix4 0 b h d) := by
  unfold val_main_v1037
  refine stacked_apply (fun n => readAt x0 x1 x2 x3 x4 x5 x6 x7 x9 x10 (16 + n.val)) _ ?_ _ n b h d
  rfl

variable {x0 x1 x3 x4 x5 x6 x7 x9 x10 x2} in
theorem readAt_apply (hf : Finite x0 x1 x3 x4 x5 x6 x7 x9 x10 x2) (t b : Fin 32) (h : Fin 24) (x : Fin 64) :
    readAt x0 x1 x2 x3 x4 x5 x6 x7 x9 x10 t.val (ix4 0 b h x) = ((outR x0 x1 x3 x4 x5 x6 x7 x9 x10 x2 b h t x : ℝ) : EReal) := by
  have e : Fin.ofNat 32 t.val = t := Fin.ext (Nat.mod_eq_of_lt t.isLt)
  have hq : ∀ z, part t.val (val_main_v70 (F := Ideal) x0 x1 x3) (ix3 b h z) = ((queryR x0 x1 x3 b h t z : ℝ) : EReal) := by
    intro z
    rw [part_apply, e]
    refine Eq.trans ?_ ((query_apply x0 x1 x3 b t h z).trans (hf.mix _ _ _).coe.symm)
    generalize hm : val_main_v60 (F := Ideal) x0 x1 x3 = M
    pointwise [val_main_v70, hm]
  unfold readAt
  rw [readOf_apply]
  unfold outR
  rw [Cert.Kernel10Ideal.Wkv.coe_sum]
  refine Finset.sum_congr rfl fun z _ => ?_
  rw [hq, stateAt_apply hf _ (by omega), EReal.coe_mul]

variable {x0 x1 x3 x4 x5 x6 x7 x9 x10 x2} in
/-- What the queries read, entry by entry. -/
theorem reads_apply (hf : Finite x0 x1 x3 x4 x5 x6 x7 x9 x10 x2) (b t : Fin 32) (h : Fin 24) (x : Fin 64) :
    val_main_v1039 (F := Ideal) x0 x1 x2 x3 x4 x5 x6 x7 x9 x10 (ix4 b t h x) = ((outR x0 x1 x3 x4 x5 x6 x7 x9 x10 x2 b h t x : ℝ) : EReal) := by
  rw [← readAt_apply hf]
  have h1 := first_half x0 x1 x2 x3 x4 x5 x6 x7 x9 x10
  have h2 := second_half x0 x1 x2 x3 x4 x5 x6 x7 x9 x10
  generalize readAt x0 x1 x2 x3 x4 x5 x6 x7 x9 x10 = R at *
  generalize ha : val_main_v1036 (F := Ideal) x0 x1 x2 x3 x4 x5 x6 x7 x9 x10 = A at *
  generalize hb : val_main_v1037 (F := Ideal) x0 x1 x2 x3 x4 x5 x6 x7 x9 x10 = B at *
  pointwise [val_main_v1039, val_main_v1038, ha, hb]
  by_cases ht : t.val < 16
  · rw [dif_pos ht, h1]
  · rw [dif_neg ht, h2]
    exact congrArg (fun n => R n (ix4 0 b h x)) (by dsimp only; omega)

variable {x0 x1 x3 x4 x5 x6 x7 x9 x10 x2} in
/-- The reference's token output. -/
theorem token_apply (hf : Finite x0 x1 x3 x4 x5 x6 x7 x9 x10 x2) (b t : Fin 32) (n : Fin 1536) :
    val_main_v1071 (F := Ideal) x0 x1 x2 x3 x4 x5 x6 x7 x8 x9 x10 x11 x12 x13 (ix2 ⟨32 * b.val + t.val, by omega⟩ n)
      = tokenE x0 x1 x3 x4 x5 x6 x7 x9 x10 x2 x8 x11 x12 x13 b t ⟨n.val / 64, by omega⟩ ⟨n.val % 64, by omega⟩ := by
  have hn : chan ⟨n.val / 64, by omega⟩ ⟨n.val % 64, by omega⟩ = n := Fin.ext (by dsimp only [chan]; omega)
  rw [token_parts x0 x1 x2 x3 x4 x5 x6 x7 x9 x10 x8 x11 x12 x13 _ _ _ rfl rfl rfl, outGate_apply,
    norm_apply x0 x1 x2 x3 x4 x5 x6 x7 x9 x10 b t _ _ (fun d => reads_apply hf b t _ d),
    bonus_apply x0 x1 x3 x6 x7 x10 x11 _ _ _ rfl rfl rfl]
  unfold tokenE bonusE
  rw [hn]
  refine congrArg (fun u : EReal => ((_ : EReal) + u) * (_ : EReal)) (congrArg₂ (fun u v : EReal => u * v) (Finset.sum_congr rfl fun i _ => ?_) ?_)
  · rw [query_apply, ← key_apply]
    refine congrArg₂ (fun u v : EReal => u * v) (congrArg₂ (fun u v : EReal => u * v) rfl ?_) rfl
    generalize hm : val_main_v61 (F := Ideal) x0 x1 x3 x6 x7 x10 = M
    pointwise [val_main_v72, hm]
  · refine Eq.trans ?_ ((val_apply x0 x1 x3 b t _ _).trans (congrArg (valE x0 x1 x3 b t) hn))
    generalize hm : val_main_v62 (F := Ideal) x0 x1 x3 = M
    pointwise [val_main_v73, hm]

end Cert.Kernel10Ideal.WkvRef
-- ==== Proof.WkvClaim.lean ====
/-
  The claim about the recurrence: from finite frames, states and weights, the kernel's token output, values and
  states and the reference's are equal.
-/
module

public import proofs.«01_k».proof.Proof.WkvTokenValue
public import proofs.«01_k».proof.Proof.WkvTokenRef
public import proofs.«01_k».proof.Proof.SwaClaim
public import proofs.«01_k».proof.Proof.Gen.Reference10Ideal.Run
public import proofs.«01_k».proof.Proof.Gen.Pre_finite_frames
public import proofs.«01_k».proof.Defs

@[expose] public section

set_option maxRecDepth 65536

noncomputable section

namespace Cert.Kernel10Ideal.WkvClaim

open Idealize.ShloMosaic Idealize.ShloMosaic.TcCoe Idealize.SL.Sem
open Cert.Reference10Ideal Cert.Reference10Ideal.Read Cert.Kernel10Ideal.Wkv

/-- The precondition says that the frames, the states and the weights of the recurrence are real numbers. -/
theorem finite_of_pre (x0 : FVec Ideal S32x32x4960 .f32) (x1 : FVec Ideal S32x1x4960 .f32) (x2 : FVec Ideal S32x24x64x64 .f32)
    (x3 : FVec Ideal S4960 .f32) (x4 : FVec Ideal S1536 .f32) (x5 : FVec Ideal S64x1536 .f32) (x6 : FVec Ideal S1536 .f32)
    (x7 : FVec Ideal S64x1536 .f32) (x8 : FVec Ideal S224x1536 .f32) (x9 x10 : FVec Ideal S1536 .f32) (x11 : FVec Ideal S24x64 .f32)
    (x12 x13 : FVec Ideal S1536 .f32)
    (h : (Cert.Pre_finite_frames.fn (F := Ideal) x0 x1 x2 x3 x4 x5 x6 x7 x8 x9 x10 x11 x12 x13).1 = (fun _ => 1#1)
      ∧ (Cert.Pre_finite_frames.fn (F := Ideal) x0 x1 x2 x3 x4 x5 x6 x7 x8 x9 x10 x11 x12 x13).2.1 = (fun _ => 1#1)
      ∧ (Cert.Pre_finite_frames.fn (F := Ideal) x0 x1 x2 x3 x4 x5 x6 x7 x8 x9 x10 x11 x12 x13).2.2.1 = (fun _ => 1#1)
      ∧ (Cert.Pre_finite_frames.fn (F := Ideal) x0 x1 x2 x3 x4 x5 x6 x7 x8 x9 x10 x11 x12 x13).2.2.2.1 = (fun _ => 1#1)
      ∧ (Cert.Pre_finite_frames.fn (F := Ideal) x0 x1 x2 x3 x4 x5 x6 x7 x8 x9 x10 x11 x12 x13).2.2.2.2.1 = (fun _ => 1#1)
      ∧ (Cert.Pre_finite_frames.fn (F := Ideal) x0 x1 x2 x3 x4 x5 x6 x7 x8 x9 x10 x11 x12 x13).2.2.2.2.2.1 = (fun _ => 1#1)
      ∧ (Cert.Pre_finite_frames.fn (F := Ideal) x0 x1 x2 x3 x4 x5 x6 x7 x8 x9 x10 x11 x12 x13).2.2.2.2.2.2.1 = (fun _ => 1#1)
      ∧ (Cert.Pre_finite_frames.fn (F := Ideal) x0 x1 x2 x3 x4 x5 x6 x7 x8 x9 x10 x11 x12 x13).2.2.2.2.2.2.2.1 = (fun _ => 1#1)
      ∧ (Cert.Pre_finite_frames.fn (F := Ideal) x0 x1 x2 x3 x4 x5 x6 x7 x8 x9 x10 x11 x12 x13).2.2.2.2.2.2.2.2.1 = (fun _ => 1#1)
      ∧ (Cert.Pre_finite_frames.fn (F := Ideal) x0 x1 x2 x3 x4 x5 x6 x7 x8 x9 x10 x11 x12 x13).2.2.2.2.2.2.2.2.2 = (fun _ => 1#1)) :
    Finite x0 x1 x3 x4 x5 x6 x7 x9 x10 x2 := by
  obtain ⟨h0, h1, h2, h3, h4, h5, h6, h7, h8, h9⟩ := h
  constructor
  · intro b t c
    have hb := congrFun h0 (ix3 b t c)
    pointwise [Cert.Pre_finite_frames.fn] at hb
    exact Cert.KernelIdeal.SwaRef.real_of_word _ hb
  · intro b c
    have hb := congrFun h1 (ix3 b 0 c)
    pointwise [Cert.Pre_finite_frames.fn] at hb
    exact Cert.KernelIdeal.SwaRef.real_of_word _ hb
  · intro b h x y
    have hb := congrFun h2 (ix4 b h x y)
    pointwise [Cert.Pre_finite_frames.fn] at hb
    exact Cert.KernelIdeal.SwaRef.real_of_word _ hb
  · intro c
    have hb := congrFun h3 (ix1 c)
    pointwise [Cert.Pre_finite_frames.fn] at hb
    exact Cert.KernelIdeal.SwaRef.real_of_word _ hb
  · intro n
    have hb := congrFun h4 (ix1 n)
    pointwise [Cert.Pre_finite_frames.fn] at hb
    exact Cert.KernelIdeal.SwaRef.real_of_word _ hb
  · intro d n
    have hb := congrFun h5 (ix2 d n)
    pointwise [Cert.Pre_finite_frames.fn] at hb
    exact Cert.KernelIdeal.SwaRef.real_of_word _ hb
  · intro n
    have hb := congrFun h6 (ix1 n)
    pointwise [Cert.Pre_finite_frames.fn] at hb
    exact Cert.KernelIdeal.SwaRef.real_of_word _ hb
  · intro d n
    have hb := congrFun h7 (ix2 d n)
    pointwise [Cert.Pre_finite_frames.fn] at hb
    exact Cert.KernelIdeal.SwaRef.real_of_word _ hb
  · intro n
    have hb := congrFun h8 (ix1 n)
    pointwise [Cert.Pre_finite_frames.fn] at hb
    exact Cert.KernelIdeal.SwaRef.real_of_word _ hb
  · intro n
    have hb := congrFun h9 (ix1 n)
    pointwise [Cert.Pre_finite_frames.fn] at hb
    exact Cert.KernelIdeal.SwaRef.real_of_word _ hb

/-- The two programs, over the extended reals, from memories with equal arguments, the frames, states and weights of the recurrence
finite, end with equal token outputs, equal values and equal states. -/
theorem equal_results [Cert.Kernel10Ideal.Facts] [Cert.Reference10Ideal.Facts] [Cert.Pre_finite_frames.Facts] :
    Cert.algebraic_Kernel10Ideal_Reference10Ideal_pre_finite_frames := by
  intro m g m' g' hpre hargs
  have hf : ∀ c, Finite (argP m c) (argQ m c) (argMu m c) (argW0 m c) (argW2 m c) (argA0 m c) (argA2 m c) (argKK m c) (argKA m c)
      (argS m c) := fun c => finite_of_pre _ _ _ _ _ _ _ _ _ _ _ _ _ _ (hpre c)
  refine ⟨fun c => result14 m c, fun c => result15 m c, fun c => result16 m c, ?_, ?_⟩
  · refine (θ_run _ _ _).mono (fun r h c => ?_) (Cert.Kernel10Ideal.Value.run_blocks m g)
    obtain ⟨h0, h1, h2, h3⟩ := h c
    exact ⟨h0.trans (final14 m c (hf c)), h1.trans (final15 m c), h2.trans (final16 m c (hf c)), h3⟩
  · refine (θ_run _ _ _).mono (fun r h c => ?_) (Cert.Reference10Ideal.Value.run m' g')
    obtain ⟨h', h0, h1, h2⟩ := h c
    obtain ⟨a0, a1, a2, a3, a4, a5, a6, a7, a8, a9, a10, a11, a12, a13⟩ := hargs c
    have e0 : StableHlo.launchContents m' c (Proc.devRef .tc Cert.Reference10Ideal.main_arg0) = argP m c := a0
    have e1 : StableHlo.launchContents m' c (Proc.devRef .tc Cert.Reference10Ideal.main_arg1) = argQ m c := a1
    have e2 : StableHlo.launchContents m' c (Proc.devRef .tc Cert.Reference10Ideal.main_arg2) = argS m c := a2
    have e3 : StableHlo.launchContents m' c (Proc.devRef .tc Cert.Reference10Ideal.main_arg3) = argMu m c := a3
    have e4 : StableHlo.launchContents m' c (Proc.devRef .tc Cert.Reference10Ideal.main_arg4) = argW0 m c := a4
    have e5 : StableHlo.launchContents m' c (Proc.devRef .tc Cert.Reference10Ideal.main_arg5) = argW2 m c := a5
    have e6 : StableHlo.launchContents m' c (Proc.devRef .tc Cert.Reference10Ideal.main_arg6) = argA0 m c := a6
    have e7 : StableHlo.launchContents m' c (Proc.devRef .tc Cert.Reference10Ideal.main_arg7) = argA2 m c := a7
    have e8 : StableHlo.launchContents m' c (Proc.devRef .tc Cert.Reference10Ideal.main_arg8) = argG2 m c := a8
    have e9 : StableHlo.launchContents m' c (Proc.devRef .tc Cert.Reference10Ideal.main_arg9) = argKK m c := a9
    have e10 : StableHlo.launchContents m' c (Proc.devRef .tc Cert.Reference10Ideal.main_arg10) = argKA m c := a10
    have e11 : StableHlo.launchContents m' c (Proc.devRef .tc Cert.Reference10Ideal.main_arg11) = argRK m c := a11
    have e12 : StableHlo.launchContents m' c (Proc.devRef .tc Cert.Reference10Ideal.main_arg12) = argLG m c := a12
    have e13 : StableHlo.launchContents m' c (Proc.devRef .tc Cert.Reference10Ideal.main_arg13) = argLB m c := a13
    refine ⟨h'.trans ?_, h0.trans ?_, h1.trans ?_, h2⟩
    · rw [val_main_v1071_eq, e0, e1, e2, e3, e4, e5, e6, e7, e8, e9, e10, e11, e12, e13]
      funext i
      obtain ⟨r, n, rfl⟩ : ∃ (r : Fin 1024) (n : Fin 1536), i = ix2 r n := ⟨i 0, i 1, funext fun a => by fin_cases a <;> rfl⟩
      have e : r = ⟨32 * (r.val / 32) + r.val % 32, by omega⟩ := Fin.ext (by dsimp only; omega)
      have key := Cert.Kernel10Ideal.WkvRef.token_apply (argG2 m c) (argRK m c) (argLG m c) (argLB m c) (hf c) ⟨r.val / 32, by omega⟩
        ⟨r.val % 32, by omega⟩ n
      exact (congrArg (fun u => val_main_v1071 (F := Ideal) (argP m c) (argQ m c) (argS m c) (argMu m c) (argW0 m c) (argW2 m c) (argA0 m c)
        (argA2 m c) (argG2 m c) (argKK m c) (argKA m c) (argRK m c) (argLG m c) (argLB m c) (ix2 u n)) e).trans key
    · rw [val_main_v1072_eq, e0, e1, e3]
      funext i
      obtain ⟨r, n, rfl⟩ : ∃ (r : Fin 1024) (n : Fin 1536), i = ix2 r n := ⟨i 0, i 1, funext fun a => by fin_cases a <;> rfl⟩
      have e : r = ⟨32 * (r.val / 32) + r.val % 32, by omega⟩ := Fin.ext (by dsimp only; omega)
      have key := Cert.Kernel10Ideal.WkvRef.rows_apply (argP m c) (argQ m c) (argMu m c) ⟨r.val / 32, by omega⟩ ⟨r.val % 32, by omega⟩ n
      exact (congrArg (fun u => val_main_v1072 (F := Ideal) (argP m c) (argQ m c) (argMu m c) (ix2 u n)) e).trans key
    · rw [val_main_v1002_eq, e0, e1, e2, e3, e4, e5, e6, e7, e9, e10]
      funext i
      obtain ⟨b, h, x, y, rfl⟩ : ∃ (b : Fin 32) (h : Fin 24) (x y : Fin 64), i = ix4 b h x y :=
        ⟨i 0, i 1, i 2, i 3, funext fun a => by fin_cases a <;> rfl⟩
      refine (congrFun (Cert.Kernel10Ideal.WkvRef.last_state _ _ _ _ _ _ _ _ _ _) _).trans ?_
      exact Cert.Kernel10Ideal.WkvRef.stateAt_apply (hf c) 32 le_rfl b h x y

end Cert.Kernel10Ideal.WkvClaim
-- ==== Proof.lean ====
/-
  The proof of `Cert.Claim`: the frames of every program and of every idealization, and for each of the ten calls that the
  kernel's idealization agrees with the reference's over the extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_inputs
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.KernelIdeal.Value
public import proofs.«01_k».proof.Proof.Gen.Kernel2Ideal.Value
public import proofs.«01_k».proof.Proof.Gen.ReferenceIdeal.Run
public import proofs.«01_k».proof.Proof.Gen.ReferenceIdeal.Read
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Reference8Ideal.Read
public import proofs.«01_k».proof.Proof.Gen.Pre_finite_scores
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Pre_finite_window
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Pre_finite_frames
public import proofs.«01_k».proof.Proof.MlpClaim
public import proofs.«01_k».proof.Proof.SwaClaim
public import proofs.«01_k».proof.Proof.KvValue
public import proofs.«01_k».proof.Proof.WideValue
public import proofs.«01_k».proof.Proof.MixValue
public import proofs.«01_k».proof.Proof.QueryValue
public import proofs.«01_k».proof.Proof.MemClaim
public import proofs.«01_k».proof.Proof.KeysValue
public import proofs.«01_k».proof.Proof.WinClaim
public import proofs.«01_k».proof.Proof.WkvClaim
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The attention reference runs and leaves its arguments. -/
theorem frame_reference : Cert.quiescent_ReferenceIdeal := fun m ρ _ =>
  (θ_run _ _ _).mono (fun r h => ⟨fun c => (h c).2, sem_eq_zero_of_no_sems (by decide) _⟩) (Cert.ReferenceIdeal.Value.run m ρ)

/-- The attention reference, started where the precondition holds, runs and leaves its arguments. -/
theorem frame_reference_pre [Cert.Pre_finite_inputs.Facts] : Cert.quiescent_ReferenceIdeal_pre_finite_inputs := fun m ρ _ =>
  (θ_run _ _ _).mono (fun r h => ⟨fun c => (h c).2, sem_eq_zero_of_no_sems (by decide) _⟩) (Cert.ReferenceIdeal.Value.run m ρ)

/-- The squared-ReLU block's reference runs and leaves its arguments. -/
theorem frame_reference2 : Cert.quiescent_Reference2Ideal := fun m ρ _ =>
  (θ_run _ _ _).mono (fun r h => ⟨fun c => (h c).2, sem_eq_zero_of_no_sems (by decide) _⟩) (Cert.Reference2Ideal.Value.run m ρ)

/-- The memory's keys and values' reference runs and leaves its arguments. -/
theorem frame_reference3 : Cert.quiescent_Reference3Ideal := fun m ρ _ =>
  (θ_run _ _ _).mono (fun r h => ⟨fun c => (h c).2.2, sem_eq_zero_of_no_sems (by decide) _⟩) (Cert.Reference3Ideal.Value.run m ρ)

/-- The wide input projection's reference runs and leaves its arguments. -/
theorem frame_reference4 : Cert.quiescent_Reference4Ideal := fun m ρ _ =>
  (θ_run _ _ _).mono (fun r h => ⟨fun c => (h c).2.2, sem_eq_zero_of_no_sems (by decide) _⟩) (Cert.Reference4Ideal.Value.run m ρ)

/-- The output mix's reference runs and leaves its arguments. -/
theorem frame_reference5 : Cert.quiescent_Reference5Ideal := fun m ρ _ =>
  (θ_run _ _ _).mono (fun r h => ⟨fun c => (h c).2, sem_eq_zero_of_no_sems (by decide) _⟩) (Cert.Reference5Ideal.Value.run m ρ)

/-- The query projection's reference runs and leaves its arguments. -/
theorem frame_reference6 : Cert.quiescent_Reference6Ideal := fun m ρ _ =>
  (θ_run _ _ _).mono (fun r h => ⟨fun c => (h c).2, sem_eq_zero_of_no_sems (by decide) _⟩) (Cert.Reference6Ideal.Value.run m ρ)

/-- The memory attention's reference runs and leaves its arguments. -/
theorem frame_reference7 : Cert.quiescent_Reference7Ideal := fun m ρ _ =>
  (θ_run _ _ _).mono (fun r h => ⟨fun c => (h c).2, sem_eq_zero_of_no_sems (by decide) _⟩) (Cert.Reference7Ideal.Value.run m ρ)

/-- The memory attention's reference, started where the precondition holds, runs and leaves its arguments. -/
theorem frame_reference7_pre [Cert.Pre_finite_scores.Facts] : Cert.quiescent_Reference7Ideal_pre_finite_scores := fun m ρ _ =>
  (θ_run _ _ _).mono (fun r h => ⟨fun c => (h c).2, sem_eq_zero_of_no_sems (by decide) _⟩) (Cert.Reference7Ideal.Value.run m ρ)

/-- The shared keys and values' reference runs and leaves its arguments. -/
theorem frame_reference8 : Cert.quiescent_Reference8Ideal := fun m ρ _ =>
  (θ_run _ _ _).mono (fun r h => ⟨fun c => (h c).2.2, sem_eq_zero_of_no_sems (by decide) _⟩) (Cert.Reference8Ideal.Value.run m ρ)

/-- The sample attention's reference runs and leaves its arguments. -/
theorem frame_reference9 : Cert.quiescent_Reference9Ideal := fun m ρ _ =>
  (θ_run _ _ _).mono (fun r h => ⟨fun c => (h c).2, sem_eq_zero_of_no_sems (by decide) _⟩) (Cert.Reference9Ideal.Value.run m ρ)

/-- The sample attention's reference, started where the precondition holds, runs and leaves its arguments. -/
theorem frame_reference9_pre [Cert.Pre_finite_window.Facts] : Cert.quiescent_Reference9Ideal_pre_finite_window := fun m ρ _ =>
  (θ_run _ _ _).mono (fun r h => ⟨fun c => (h c).2, sem_eq_zero_of_no_sems (by decide) _⟩) (Cert.Reference9Ideal.Value.run m ρ)

/-- The recurrence's reference runs and leaves its arguments. -/
theorem frame_reference10 : Cert.quiescent_Reference10Ideal := fun m ρ _ =>
  (θ_run _ _ _).mono (fun r h => ⟨fun c => (h c).2.2.2, sem_eq_zero_of_no_sems (by decide) _⟩) (Cert.Reference10Ideal.Value.run m ρ)

/-- The recurrence's reference, started where the precondition holds, runs and leaves its arguments. -/
theorem frame_reference10_pre [Cert.Pre_finite_frames.Facts] : Cert.quiescent_Reference10Ideal_pre_finite_frames := fun m ρ _ =>
  (θ_run _ _ _).mono (fun r h => ⟨fun c => (h c).2.2.2, sem_eq_zero_of_no_sems (by decide) _⟩) (Cert.Reference10Ideal.Value.run m ρ)

/-- Every claim. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Pre_finite_inputs.Gen.facts, Cert.Pre_finite_scores.Gen.facts, Cert.Pre_finite_window.Gen.facts, Cert.Pre_finite_frames.Gen.facts,
  fun m ρ _ => Cert.Kernel.Gen.frame m ρ,
  fun m ρ _ => Cert.KernelIdeal.Gen.frame m ρ,
  fun m ρ _ => Cert.KernelIdeal.Gen.frame m ρ,
  frame_reference,
  frame_reference_pre,
  fun m ρ _ => Cert.Kernel2.Gen.frame m ρ,
  fun m ρ _ => Cert.Kernel2Ideal.Gen.frame m ρ,
  frame_reference2,
  fun m ρ _ => Cert.Kernel3.Gen.frame m ρ,
  fun m ρ _ => Cert.Kernel3Ideal.Gen.frame m ρ,
  frame_reference3,
  fun m ρ _ => Cert.Kernel4.Gen.frame m ρ,
  fun m ρ _ => Cert.Kernel4Ideal.Gen.frame m ρ,
  frame_reference4,
  fun m ρ _ => Cert.Kernel5.Gen.frame m ρ,
  fun m ρ _ => Cert.Kernel5Ideal.Gen.frame m ρ,
  frame_reference5,
  fun m ρ _ => Cert.Kernel6.Gen.frame m ρ,
  fun m ρ _ => Cert.Kernel6Ideal.Gen.frame m ρ,
  frame_reference6,
  fun m ρ _ => Cert.Kernel7.Gen.frame m ρ,
  fun m ρ _ => Cert.Kernel7Ideal.Gen.frame m ρ,
  fun m ρ _ => Cert.Kernel7Ideal.Gen.frame m ρ,
  frame_reference7,
  frame_reference7_pre,
  fun m ρ _ => Cert.Kernel8.Gen.frame m ρ,
  fun m ρ _ => Cert.Kernel8Ideal.Gen.frame m ρ,
  frame_reference8,
  fun m ρ _ => Cert.Kernel9.Gen.frame m ρ,
  fun m ρ _ => Cert.Kernel9Ideal.Gen.frame m ρ,
  fun m ρ _ => Cert.Kernel9Ideal.Gen.frame m ρ,
  frame_reference9,
  frame_reference9_pre,
  fun m ρ _ => Cert.Kernel10.Gen.frame m ρ,
  fun m ρ _ => Cert.Kernel10Ideal.Gen.frame m ρ,
  fun m ρ _ => Cert.Kernel10Ideal.Gen.frame m ρ,
  frame_reference10,
  frame_reference10_pre,
  IdealRules.named_const.statement Cert.KernelIdeal.κ "mask" .f32 0xF149F2CA#32 ⊥ rfl,
  Cert.KernelIdeal.SwaRef.equal_results,
  trivial,
  Cert.Kernel2Ideal.Mlp.equal_results,
  trivial,
  Cert.Kernel3Ideal.Kv.equal_results,
  trivial,
  Cert.Kernel4Ideal.Wide.equal_results,
  trivial,
  Cert.Kernel5Ideal.Mix.equal_results,
  trivial,
  Cert.Kernel6Ideal.Query.equal_results,
  trivial,
  Cert.Kernel7Ideal.MemClaim.equal_results,
  trivial,
  Cert.Kernel8Ideal.Keys.equal_results,
  trivial,
  Cert.Kernel9Ideal.WinClaim.equal_results,
  trivial,
  Cert.Kernel10Ideal.WkvClaim.equal_results⟩

end Cert.Proof

end
